-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_v33) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x19x64x64 : Shape := ⟨4, ![64, 19, 64, 64]⟩
abbrev S64x19x2x64x64 : Shape := ⟨5, ![64, 19, 2, 64, 64]⟩
abbrev S4x2x64x64 : Shape := ⟨4, ![4, 2, 64, 64]⟩
abbrev S3x2x64x64 : Shape := ⟨4, ![3, 2, 64, 64]⟩
abbrev S_ : Shape := ⟨0, ![]⟩
abbrev S16 : Shape := ⟨1, ![16]⟩
abbrev S1x2x64x64 : Shape := ⟨4, ![1, 2, 64, 64]⟩
abbrev S2x64x64 : Shape := ⟨3, ![2, 64, 64]⟩
abbrev S2x1x64x64 : Shape := ⟨4, ![2, 1, 64, 64]⟩
abbrev S2x1x1x64x64 : Shape := ⟨5, ![2, 1, 1, 64, 64]⟩
abbrev S1x1x1x16 : Shape := ⟨4, ![1, 1, 1, 16]⟩

abbrev nBuf : Table → Nat
  | .hbm => 6
  | .local .scVector .vmem => 2
  | _ => 0

abbrev bufTy : (tb : Table) → Fin (nBuf tb) → BufTy
  | .hbm, ⟨0, _⟩ => ⟨S64x19x64x64, .f32⟩
  | .hbm, ⟨1, _⟩ => ⟨S64x19x2x64x64, .f32⟩
  | .hbm, ⟨2, _⟩ => ⟨S64x19x2x64x64, .f32⟩
  | .hbm, ⟨3, _⟩ => ⟨S64x19x64x64, .f32⟩
  | .hbm, ⟨4, _⟩ => ⟨S64x19x2x64x64, .f32⟩
  | .hbm, ⟨5, _⟩ => ⟨S64x19x2x64x64, .f32⟩
  | .local .scVector .vmem, ⟨0, _⟩ => ⟨S4x2x64x64, .f32⟩
  | .local .scVector .vmem, ⟨1, _⟩ => ⟨S3x2x64x64, .f32⟩
  | _, _ => ⟨S64x19x64x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_v0_0_scv : Ref sig .scVector := ⟨.hbm, 3, rfl⟩
abbrev main_v0_1_scv : Ref sig .scVector := ⟨.hbm, 4, rfl⟩
abbrev main_v0_2_scv : Ref sig .scVector := ⟨.hbm, 5, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c2_i32_1 : BitVec 32 := 2#32
  let c0_i32_6 : BitVec 32 := 0#32
  let c0_i32_7 : BitVec 32 := 0#32
  ![v2.toNat, 2, 0, 0]
def k0_off2 (i : grid0.Coords) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c2_i32_13 : BitVec 32 := 2#32
  let c0_i32_14 : BitVec 32 := 0#32
  let c0_i32_19 : BitVec 32 := 0#32
  let c0_i32_20 : BitVec 32 := 0#32
  ![v2.toNat, 2, 0, 0, 0]
def k0_off3 (i : grid0.Coords) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c2_i32_39 : BitVec 32 := 2#32
  let c1_i32_40 : BitVec 32 := 1#32
  let c0_i32_44 : BitVec 32 := 0#32
  let c0_i32_45 : BitVec 32 := 0#32
  ![v2.toNat, 2, 1, 0, 0]
@[reducible] def k0_t1_loop : Scf.Loop 32 :=
  let c0_i32_64 : BitVec 32 := 0#32
  let c64_i32 : BitVec 32 := 64#32
  let v57 : BitVec 32 := Scalar.addi c0_i32_64 c64_i32
  let c1_i32_65 : BitVec 32 := 1#32
  ⟨c0_i32_64, v57, c1_i32_65⟩
def k0_off4 (k0_t1 : Fin k0_t1_loop.trips) : Fin 4 → Nat :=
  let c0_i32_5338 : BitVec 32 := 0#32
  let v3167 : Index := Scalar.indexCast c0_i32_5338
  let c0_i32_5339 : BitVec 32 := 0#32
  let v3168 : Index := Scalar.indexCast c0_i32_5339
  let c0_i32_5325 : BitVec 32 := 0#32
  let c0_i32_64 : BitVec 32 := 0#32
  let c1_i32_65 : BitVec 32 := 1#32
  let arg17 : BitVec 32 := Scf.iv c0_i32_64 c1_i32_65 k0_t1
  let c1_i32_5324 : BitVec 32 := 1#32
  let v3152 : BitVec 32 := Scalar.muli arg17 c1_i32_5324
  let v3153 : BitVec 32 := Scalar.addi c0_i32_5325 v3152
  let v3169 : Index := Scalar.indexCast v3153
  let c0 : Index := 0#32
  ![0, 0, v3169.toNat, 0]
def k0_off5 (k0_t1 : Fin k0_t1_loop.trips) : Fin 4 → Nat :=
  let c0_i32_5340 : BitVec 32 := 0#32
  let v3173 : Index := Scalar.indexCast c0_i32_5340
  let c0_i32_5341 : BitVec 32 := 0#32
  let v3174 : Index := Scalar.indexCast c0_i32_5341
  let c0_i32_5325 : BitVec 32 := 0#32
  let c0_i32_64 : BitVec 32 := 0#32
  let c1_i32_65 : BitVec 32 := 1#32
  let arg17 : BitVec 32 := Scf.iv c0_i32_64 c1_i32_65 k0_t1
  let c1_i32_5324 : BitVec 32 := 1#32
  let v3152 : BitVec 32 := Scalar.muli arg17 c1_i32_5324
  let v3153 : BitVec 32 := Scalar.addi c0_i32_5325 v3152
  let v3175 : Index := Scalar.indexCast v3153
  let c16 : Index := 16#32
  ![0, 0, v3175.toNat, 16]
def k0_off6 (k0_t1 : Fin k0_t1_loop.trips) : Fin 4 → Nat :=
  let c0_i32_5342 : BitVec 32 := 0#32
  let v3179 : Index := Scalar.indexCast c0_i32_5342
  let c0_i32_5343 : BitVec 32 := 0#32
  let v3180 : Index := Scalar.indexCast c0_i32_5343
  let c0_i32_5325 : BitVec 32 := 0#32
  let c0_i32_64 : BitVec 32 := 0#32
  let c1_i32_65 : BitVec 32 := 1#32
  let arg17 : BitVec 32 := Scf.iv c0_i32_64 c1_i32_65 k0_t1
  let c1_i32_5324 : BitVec 32 := 1#32
  let v3152 : BitVec 32 := Scalar.muli arg17 c1_i32_5324
  let v3153 : BitVec 32 := Scalar.addi c0_i32_5325 v3152
  let v3181 : Index := Scalar.indexCast v3153
  let c32 : Index := 32#32
  ![0, 0, v3181.toNat, 32]
def k0_off7 (k0_t1 : Fin k0_t1_loop.trips) : Fin 4 → Nat :=
  let c0_i32_5344 : BitVec 32 := 0#32
  let v3185 : Index := Scalar.indexCast c0_i32_5344
  let c0_i32_5345 : BitVec 32 := 0#32
  let v3186 : Index := Scalar.indexCast c0_i32_5345
  let c0_i32_5325 : BitVec 32 := 0#32
  let c0_i32_64 : BitVec 32 := 0#32
  let c1_i32_65 : BitVec 32 := 1#32
  let arg17 : BitVec 32 := Scf.iv c0_i32_64 c1_i32_65 k0_t1
  let c1_i32_5324 : BitVec 32 := 1#32
  let v3152 : BitVec 32 := Scalar.muli arg17 c1_i32_5324
  let v3153 : BitVec 32 := Scalar.addi c0_i32_5325 v3152
  let v3187 : Index := Scalar.indexCast v3153
  let c48 : Index := 48#32
  ![0, 0, v3187.toNat, 48]

def k0_chk1 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx1_inb : ∀ (v5 : IVec S16 32) (v8 : IVec S16 32) (v11 : IVec S16 32) (v14 : IVec S16 32) (v15 : IVec S16 32) (v16 : IVec S16 32) (v3154 : IVec S16 32) (k0_hw1 : k0_chk1 v5 v8 v11 v14 v15 v16 v3154), ∀ a x, ((![v15, v3154, v14] : Fin 3 → IVec S16 32) a x).toNat < S2x64x64.size a := fun v5 v8 v11 v14 v15 v16 v3154 k0_hw1 => k0_hw1.1
theorem k0_idx2_inb : ∀ (v5 : IVec S16 32) (v8 : IVec S16 32) (v11 : IVec S16 32) (v14 : IVec S16 32) (v15 : IVec S16 32) (v16 : IVec S16 32) (v3154 : IVec S16 32) (k0_hw1 : k0_chk1 v5 v8 v11 v14 v15 v16 v3154), ∀ a x, ((![v15, v3154, v11] : Fin 3 → IVec S16 32) a x).toNat < S2x64x64.size a := fun v5 v8 v11 v14 v15 v16 v3154 k0_hw1 => k0_hw1.2.1
theorem k0_idx3_inb : ∀ (v5 : IVec S16 32) (v8 : IVec S16 32) (v11 : IVec S16 32) (v14 : IVec S16 32) (v15 : IVec S16 32) (v16 : IVec S16 32) (v3154 : IVec S16 32) (k0_hw1 : k0_chk1 v5 v8 v11 v14 v15 v16 v3154), ∀ a x, ((![v15, v3154, v8] : Fin 3 → IVec S16 32) a x).toNat < S2x64x64.size a := fun v5 v8 v11 v14 v15 v16 v3154 k0_hw1 => k0_hw1.2.2.1
theorem k0_idx4_inb : ∀ (v5 : IVec S16 32) (v8 : IVec S16 32) (v11 : IVec S16 32) (v14 : IVec S16 32) (v15 : IVec S16 32) (v16 : IVec S16 32) (v3154 : IVec S16 32) (k0_hw1 : k0_chk1 v5 v8 v11 v14 v15 v16 v3154), ∀ a x, ((![v15, v3154, v5] : Fin 3 → IVec S16 32) a x).toNat < S2x64x64.size a := fun v5 v8 v11 v14 v15 v16 v3154 k0_hw1 => k0_hw1.2.2.2.1
theorem k0_idx5_inb : ∀ (v5 : IVec S16 32) (v8 : IVec S16 32) (v11 : IVec S16 32) (v14 : IVec S16 32) (v15 : IVec S16 32) (v16 : IVec S16 32) (v3154 : IVec S16 32) (k0_hw1 : k0_chk1 v5 v8 v11 v14 v15 v16 v3154), ∀ a x, ((![v16, v3154, v14] : Fin 3 → IVec S16 32) a x).toNat < S2x64x64.size a := fun v5 v8 v11 v14 v15 v16 v3154 k0_hw1 => k0_hw1.2.2.2.2.1
theorem k0_idx6_inb : ∀ (v5 : IVec S16 32) (v8 : IVec S16 32) (v11 : IVec S16 32) (v14 : IVec S16 32) (v15 : IVec S16 32) (v16 : IVec S16 32) (v3154 : IVec S16 32) (k0_hw1 : k0_chk1 v5 v8 v11 v14 v15 v16 v3154), ∀ a x, ((![v16, v3154, v11] : Fin 3 → IVec S16 32) a x).toNat < S2x64x64.size a := fun v5 v8 v11 v14 v15 v16 v3154 k0_hw1 => k0_hw1.2.2.2.2.2.1
theorem k0_idx7_inb : ∀ (v5 : IVec S16 32) (v8 : IVec S16 32) (v11 : IVec S16 32) (v14 : IVec S16 32) (v15 : IVec S16 32) (v16 : IVec S16 32) (v3154 : IVec S16 32) (k0_hw1 : k0_chk1 v5 v8 v11 v14 v15 v16 v3154), ∀ a x, ((![v16, v3154, v8] : Fin 3 → IVec S16 32) a x).toNat < S2x64x64.size a := fun v5 v8 v11 v14 v15 v16 v3154 k0_hw1 => k0_hw1.2.2.2.2.2.2.1
theorem k0_idx8_inb : ∀ (v5 : IVec S16 32) (v8 : IVec S16 32) (v11 : IVec S16 32) (v14 : IVec S16 32) (v15 : IVec S16 32) (v16 : IVec S16 32) (v3154 : IVec S16 32) (k0_hw1 : k0_chk1 v5 v8 v11 v14 v15 v16 v3154), ∀ a x, ((![v16, v3154, v5] : Fin 3 → IVec S16 32) a x).toNat < S2x64x64.size a := fun v5 v8 v11 v14 v15 v16 v3154 k0_hw1 => k0_hw1.2.2.2.2.2.2.2
def k0_off8 (k0_t1 : Fin k0_t1_loop.trips) : Fin 4 → Nat :=
  let c0_i32_5358 : BitVec 32 := 0#32
  let v3203 : Index := Scalar.indexCast c0_i32_5358
  let c1_i32_5359 : BitVec 32 := 1#32
  let v3204 : Index := Scalar.indexCast c1_i32_5359
  let c0_i32_5325 : BitVec 32 := 0#32
  let c0_i32_64 : BitVec 32 := 0#32
  let c1_i32_65 : BitVec 32 := 1#32
  let arg17 : BitVec 32 := Scf.iv c0_i32_64 c1_i32_65 k0_t1
  let c1_i32_5324 : BitVec 32 := 1#32
  let v3152 : BitVec 32 := Scalar.muli arg17 c1_i32_5324
  let v3153 : BitVec 32 := Scalar.addi c0_i32_5325 v3152
  let v3205 : Index := Scalar.indexCast v3153
  let c0_5360 : Index := 0#32
  ![0, 1, v3205.toNat, 0]
def k0_off9 (k0_t1 : Fin k0_t1_loop.trips) : Fin 4 → Nat :=
  let c0_i32_5361 : BitVec 32 := 0#32
  let v3209 : Index := Scalar.indexCast c0_i32_5361
  let c1_i32_5362 : BitVec 32 := 1#32
  let v3210 : Index := Scalar.indexCast c1_i32_5362
  let c0_i32_5325 : BitVec 32 := 0#32
  let c0_i32_64 : BitVec 32 := 0#32
  let c1_i32_65 : BitVec 32 := 1#32
  let arg17 : BitVec 32 := Scf.iv c0_i32_64 c1_i32_65 k0_t1
  let c1_i32_5324 : BitVec 32 := 1#32
  let v3152 : BitVec 32 := Scalar.muli arg17 c1_i32_5324
  let v3153 : BitVec 32 := Scalar.addi c0_i32_5325 v3152
  let v3211 : Index := Scalar.indexCast v3153
  let c16_5363 : Index := 16#32
  ![0, 1, v3211.toNat, 16]
def k0_off10 (k0_t1 : Fin k0_t1_loop.trips) : Fin 4 → Nat :=
  let c0_i32_5364 : BitVec 32 := 0#32
  let v3215 : Index := Scalar.indexCast c0_i32_5364
  let c1_i32_5365 : BitVec 32 := 1#32
  let v3216 : Index := Scalar.indexCast c1_i32_5365
  let c0_i32_5325 : BitVec 32 := 0#32
  let c0_i32_64 : BitVec 32 := 0#32
  let c1_i32_65 : BitVec 32 := 1#32
  let arg17 : BitVec 32 := Scf.iv c0_i32_64 c1_i32_65 k0_t1
  let c1_i32_5324 : BitVec 32 := 1#32
  let v3152 : BitVec 32 := Scalar.muli arg17 c1_i32_5324
  let v3153 : BitVec 32 := Scalar.addi c0_i32_5325 v3152
  let v3217 : Index := Scalar.indexCast v3153
  let c32_5366 : Index := 32#32
  ![0, 1, v3217.toNat, 32]
def k0_off11 (k0_t1 : Fin k0_t1_loop.trips) : Fin 4 → Nat :=
  let c0_i32_5367 : BitVec 32 := 0#32
  let v3221 : Index := Scalar.indexCast c0_i32_5367
  let c1_i32_5368 : BitVec 32 := 1#32
  let v3222 : Index := Scalar.indexCast c1_i32_5368
  let c0_i32_5325 : BitVec 32 := 0#32
  let c0_i32_64 : BitVec 32 := 0#32
  let c1_i32_65 : BitVec 32 := 1#32
  let arg17 : BitVec 32 := Scf.iv c0_i32_64 c1_i32_65 k0_t1
  let c1_i32_5324 : BitVec 32 := 1#32
  let v3152 : BitVec 32 := Scalar.muli arg17 c1_i32_5324
  let v3153 : BitVec 32 := Scalar.addi c0_i32_5325 v3152
  let v3223 : Index := Scalar.indexCast v3153
  let c48_5369 : Index := 48#32
  ![0, 1, v3223.toNat, 48]
def k0_off12 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_68 : BitVec 32 := 0#32
  let c0_i32_72 : BitVec 32 := 0#32
  let c0_i32_73 : BitVec 32 := 0#32
  ![v2.toNat, 0, 0, 0]
def k0_off13 (i : grid0.Coords) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c2_i32_79 : BitVec 32 := 2#32
  let c1_i32_80 : BitVec 32 := 1#32
  let c0_i32_85 : BitVec 32 := 0#32
  let c0_i32_86 : BitVec 32 := 0#32
  ![v2.toNat, 2, 1, 0, 0]
def k0_off14 (i : grid0.Coords) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c2_i32_92 : BitVec 32 := 2#32
  let c0_i32_93 : BitVec 32 := 0#32
  let c0_i32_98 : BitVec 32 := 0#32
  let c0_i32_99 : BitVec 32 := 0#32
  ![v2.toNat, 2, 0, 0, 0]
@[reducible] def k0_t2_loop : Scf.Loop 32 :=
  let c0_i32_106 : BitVec 32 := 0#32
  let c64_i32_107 : BitVec 32 := 64#32
  let v82 : BitVec 32 := Scalar.addi c0_i32_106 c64_i32_107
  let c1_i32_108 : BitVec 32 := 1#32
  ⟨c0_i32_106, v82, c1_i32_108⟩
def k0_off15 (k0_t2 : Fin k0_t2_loop.trips) : Fin 4 → Nat :=
  let c1_i32_5341 : BitVec 32 := 1#32
  let v3175 : Index := Scalar.indexCast c1_i32_5341
  let c0_i32_5342 : BitVec 32 := 0#32
  let v3176 : Index := Scalar.indexCast c0_i32_5342
  let c0_i32_5325 : BitVec 32 := 0#32
  let c0_i32_106 : BitVec 32 := 0#32
  let c1_i32_108 : BitVec 32 := 1#32
  let arg17 : BitVec 32 := Scf.iv c0_i32_106 c1_i32_108 k0_t2
  let c1_i32_5324 : BitVec 32 := 1#32
  let v3152 : BitVec 32 := Scalar.muli arg17 c1_i32_5324
  let v3153 : BitVec 32 := Scalar.addi c0_i32_5325 v3152
  let v3177 : Index := Scalar.indexCast v3153
  let c0 : Index := 0#32
  ![1, 0, v3177.toNat, 0]
def k0_off16 (k0_t2 : Fin k0_t2_loop.trips) : Fin 4 → Nat :=
  let c1_i32_5343 : BitVec 32 := 1#32
  let v3181 : Index := Scalar.indexCast c1_i32_5343
  let c0_i32_5344 : BitVec 32 := 0#32
  let v3182 : Index := Scalar.indexCast c0_i32_5344
  let c0_i32_5325 : BitVec 32 := 0#32
  let c0_i32_106 : BitVec 32 := 0#32
  let c1_i32_108 : BitVec 32 := 1#32
  let arg17 : BitVec 32 := Scf.iv c0_i32_106 c1_i32_108 k0_t2
  let c1_i32_5324 : BitVec 32 := 1#32
  let v3152 : BitVec 32 := Scalar.muli arg17 c1_i32_5324
  let v3153 : BitVec 32 := Scalar.addi c0_i32_5325 v3152
  let v3183 : Index := Scalar.indexCast v3153
  let c16 : Index := 16#32
  ![1, 0, v3183.toNat, 16]
def k0_off17 (k0_t2 : Fin k0_t2_loop.trips) : Fin 4 → Nat :=
  let c1_i32_5345 : BitVec 32 := 1#32
  let v3187 : Index := Scalar.indexCast c1_i32_5345
  let c0_i32_5346 : BitVec 32 := 0#32
  let v3188 : Index := Scalar.indexCast c0_i32_5346
  let c0_i32_5325 : BitVec 32 := 0#32
  let c0_i32_106 : BitVec 32 := 0#32
  let c1_i32_108 : BitVec 32 := 1#32
  let arg17 : BitVec 32 := Scf.iv c0_i32_106 c1_i32_108 k0_t2
  let c1_i32_5324 : BitVec 32 := 1#32
  let v3152 : BitVec 32 := Scalar.muli arg17 c1_i32_5324
  let v3153 : BitVec 32 := Scalar.addi c0_i32_5325 v3152
  let v3189 : Index := Scalar.indexCast v3153
  let c32 : Index := 32#32
  ![1, 0, v3189.toNat, 32]
def k0_off18 (k0_t2 : Fin k0_t2_loop.trips) : Fin 4 → Nat :=
  let c1_i32_5347 : BitVec 32 := 1#32
  let v3193 : Index := Scalar.indexCast c1_i32_5347
  let c0_i32_5348 : BitVec 32 := 0#32
  let v3194 : Index := Scalar.indexCast c0_i32_5348
  let c0_i32_5325 : BitVec 32 := 0#32
  let c0_i32_106 : BitVec 32 := 0#32
  let c1_i32_108 : BitVec 32 := 1#32
  let arg17 : BitVec 32 := Scf.iv c0_i32_106 c1_i32_108 k0_t2
  let c1_i32_5324 : BitVec 32 := 1#32
  let v3152 : BitVec 32 := Scalar.muli arg17 c1_i32_5324
  let v3153 : BitVec 32 := Scalar.addi c0_i32_5325 v3152
  let v3195 : Index := Scalar.indexCast v3153
  let c48 : Index := 48#32
  ![1, 0, v3195.toNat, 48]

def k0_chk2 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx9_inb : ∀ (v5 : IVec S16 32) (v8 : IVec S16 32) (v11 : IVec S16 32) (v14 : IVec S16 32) (v15 : IVec S16 32) (v16 : IVec S16 32) (v3154 : IVec S16 32) (k0_hw2 : k0_chk2 v5 v8 v11 v14 v15 v16 v3154), ∀ a x, ((![v15, v3154, v14] : Fin 3 → IVec S16 32) a x).toNat < S2x64x64.size a := fun v5 v8 v11 v14 v15 v16 v3154 k0_hw2 => k0_hw2.1
theorem k0_idx10_inb : ∀ (v5 : IVec S16 32) (v8 : IVec S16 32) (v11 : IVec S16 32) (v14 : IVec S16 32) (v15 : IVec S16 32) (v16 : IVec S16 32) (v3154 : IVec S16 32) (k0_hw2 : k0_chk2 v5 v8 v11 v14 v15 v16 v3154), ∀ a x, ((![v15, v3154, v11] : Fin 3 → IVec S16 32) a x).toNat < S2x64x64.size a := fun v5 v8 v11 v14 v15 v16 v3154 k0_hw2 => k0_hw2.2.1
theorem k0_idx11_inb : ∀ (v5 : IVec S16 32) (v8 : IVec S16 32) (v11 : IVec S16 32) (v14 : IVec S16 32) (v15 : IVec S16 32) (v16 : IVec S16 32) (v3154 : IVec S16 32) (k0_hw2 : k0_chk2 v5 v8 v11 v14 v15 v16 v3154), ∀ a x, ((![v15, v3154, v8] : Fin 3 → IVec S16 32) a x).toNat < S2x64x64.size a := fun v5 v8 v11 v14 v15 v16 v3154 k0_hw2 => k0_hw2.2.2.1
theorem k0_idx12_inb : ∀ (v5 : IVec S16 32) (v8 : IVec S16 32) (v11 : IVec S16 32) (v14 : IVec S16 32) (v15 : IVec S16 32) (v16 : IVec S16 32) (v3154 : IVec S16 32) (k0_hw2 : k0_chk2 v5 v8 v11 v14 v15 v16 v3154), ∀ a x, ((![v15, v3154, v5] : Fin 3 → IVec S16 32) a x).toNat < S2x64x64.size a := fun v5 v8 v11 v14 v15 v16 v3154 k0_hw2 => k0_hw2.2.2.2.1
theorem k0_idx13_inb : ∀ (v5 : IVec S16 32) (v8 : IVec S16 32) (v11 : IVec S16 32) (v14 : IVec S16 32) (v15 : IVec S16 32) (v16 : IVec S16 32) (v3154 : IVec S16 32) (k0_hw2 : k0_chk2 v5 v8 v11 v14 v15 v16 v3154), ∀ a x, ((![v16, v3154, v14] : Fin 3 → IVec S16 32) a x).toNat < S2x64x64.size a := fun v5 v8 v11 v14 v15 v16 v3154 k0_hw2 => k0_hw2.2.2.2.2.1
theorem k0_idx14_inb : ∀ (v5 : IVec S16 32) (v8 : IVec S16 32) (v11 : IVec S16 32) (v14 : IVec S16 32) (v15 : IVec S16 32) (v16 : IVec S16 32) (v3154 : IVec S16 32) (k0_hw2 : k0_chk2 v5 v8 v11 v14 v15 v16 v3154), ∀ a x, ((![v16, v3154, v11] : Fin 3 → IVec S16 32) a x).toNat < S2x64x64.size a := fun v5 v8 v11 v14 v15 v16 v3154 k0_hw2 => k0_hw2.2.2.2.2.2.1
theorem k0_idx15_inb : ∀ (v5 : IVec S16 32) (v8 : IVec S16 32) (v11 : IVec S16 32) (v14 : IVec S16 32) (v15 : IVec S16 32) (v16 : IVec S16 32) (v3154 : IVec S16 32) (k0_hw2 : k0_chk2 v5 v8 v11 v14 v15 v16 v3154), ∀ a x, ((![v16, v3154, v8] : Fin 3 → IVec S16 32) a x).toNat < S2x64x64.size a := fun v5 v8 v11 v14 v15 v16 v3154 k0_hw2 => k0_hw2.2.2.2.2.2.2.1
theorem k0_idx16_inb : ∀ (v5 : IVec S16 32) (v8 : IVec S16 32) (v11 : IVec S16 32) (v14 : IVec S16 32) (v15 : IVec S16 32) (v16 : IVec S16 32) (v3154 : IVec S16 32) (k0_hw2 : k0_chk2 v5 v8 v11 v14 v15 v16 v3154), ∀ a x, ((![v16, v3154, v5] : Fin 3 → IVec S16 32) a x).toNat < S2x64x64.size a := fun v5 v8 v11 v14 v15 v16 v3154 k0_hw2 => k0_hw2.2.2.2.2.2.2.2
def k0_off19 (k0_t2 : Fin k0_t2_loop.trips) : Fin 4 → Nat :=
  let c1_i32_5365 : BitVec 32 := 1#32
  let v3219 : Index := Scalar.indexCast c1_i32_5365
  let c1_i32_5366 : BitVec 32 := 1#32
  let v3220 : Index := Scalar.indexCast c1_i32_5366
  let c0_i32_5325 : BitVec 32 := 0#32
  let c0_i32_106 : BitVec 32 := 0#32
  let c1_i32_108 : BitVec 32 := 1#32
  let arg17 : BitVec 32 := Scf.iv c0_i32_106 c1_i32_108 k0_t2
  let c1_i32_5324 : BitVec 32 := 1#32
  let v3152 : BitVec 32 := Scalar.muli arg17 c1_i32_5324
  let v3153 : BitVec 32 := Scalar.addi c0_i32_5325 v3152
  let v3221 : Index := Scalar.indexCast v3153
  let c0_5367 : Index := 0#32
  ![1, 1, v3221.toNat, 0]
def k0_off20 (k0_t2 : Fin k0_t2_loop.trips) : Fin 4 → Nat :=
  let c1_i32_5368 : BitVec 32 := 1#32
  let v3225 : Index := Scalar.indexCast c1_i32_5368
  let c1_i32_5369 : BitVec 32 := 1#32
  let v3226 : Index := Scalar.indexCast c1_i32_5369
  let c0_i32_5325 : BitVec 32 := 0#32
  let c0_i32_106 : BitVec 32 := 0#32
  let c1_i32_108 : BitVec 32 := 1#32
  let arg17 : BitVec 32 := Scf.iv c0_i32_106 c1_i32_108 k0_t2
  let c1_i32_5324 : BitVec 32 := 1#32
  let v3152 : BitVec 32 := Scalar.muli arg17 c1_i32_5324
  let v3153 : BitVec 32 := Scalar.addi c0_i32_5325 v3152
  let v3227 : Index := Scalar.indexCast v3153
  let c16_5370 : Index := 16#32
  ![1, 1, v3227.toNat, 16]
def k0_off21 (k0_t2 : Fin k0_t2_loop.trips) : Fin 4 → Nat :=
  let c1_i32_5371 : BitVec 32 := 1#32
  let v3231 : Index := Scalar.indexCast c1_i32_5371
  let c1_i32_5372 : BitVec 32 := 1#32
  let v3232 : Index := Scalar.indexCast c1_i32_5372
  let c0_i32_5325 : BitVec 32 := 0#32
  let c0_i32_106 : BitVec 32 := 0#32
  let c1_i32_108 : BitVec 32 := 1#32
  let arg17 : BitVec 32 := Scf.iv c0_i32_106 c1_i32_108 k0_t2
  let c1_i32_5324 : BitVec 32 := 1#32
  let v3152 : BitVec 32 := Scalar.muli arg17 c1_i32_5324
  let v3153 : BitVec 32 := Scalar.addi c0_i32_5325 v3152
  let v3233 : Index := Scalar.indexCast v3153
  let c32_5373 : Index := 32#32
  ![1, 1, v3233.toNat, 32]
def k0_off22 (k0_t2 : Fin k0_t2_loop.trips) : Fin 4 → Nat :=
  let c1_i32_5374 : BitVec 32 := 1#32
  let v3237 : Index := Scalar.indexCast c1_i32_5374
  let c1_i32_5375 : BitVec 32 := 1#32
  let v3238 : Index := Scalar.indexCast c1_i32_5375
  let c0_i32_5325 : BitVec 32 := 0#32
  let c0_i32_106 : BitVec 32 := 0#32
  let c1_i32_108 : BitVec 32 := 1#32
  let arg17 : BitVec 32 := Scf.iv c0_i32_106 c1_i32_108 k0_t2
  let c1_i32_5324 : BitVec 32 := 1#32
  let v3152 : BitVec 32 := Scalar.muli arg17 c1_i32_5324
  let v3153 : BitVec 32 := Scalar.addi c0_i32_5325 v3152
  let v3239 : Index := Scalar.indexCast v3153
  let c48_5376 : Index := 48#32
  ![1, 1, v3239.toNat, 48]
def k0_off23 (i : grid0.Coords) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_111 : BitVec 32 := 0#32
  let c0_i32_112 : BitVec 32 := 0#32
  let c0_i32_116 : BitVec 32 := 0#32
  let c0_i32_117 : BitVec 32 := 0#32
  ![v2.toNat, 0, 0, 0, 0]
def k0_off24 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c3_i32_123 : BitVec 32 := 3#32
  let c0_i32_128 : BitVec 32 := 0#32
  let c0_i32_129 : BitVec 32 := 0#32
  ![v2.toNat, 3, 0, 0]
@[reducible] def k0_t3_loop : Scf.Loop 32 :=
  let c0_i32_149 : BitVec 32 := 0#32
  let c64_i32_150 : BitVec 32 := 64#32
  let v107 : BitVec 32 := Scalar.addi c0_i32_149 c64_i32_150
  let c1_i32_151 : BitVec 32 := 1#32
  ⟨c0_i32_149, v107, c1_i32_151⟩
def k0_off25 (k0_t3 : Fin k0_t3_loop.trips) : Fin 4 → Nat :=
  let c2_i32_5341 : BitVec 32 := 2#32
  let v3175 : Index := Scalar.indexCast c2_i32_5341
  let c0_i32_5342 : BitVec 32 := 0#32
  let v3176 : Index := Scalar.indexCast c0_i32_5342
  let c0_i32_5325 : BitVec 32 := 0#32
  let c0_i32_149 : BitVec 32 := 0#32
  let c1_i32_151 : BitVec 32 := 1#32
  let arg17 : BitVec 32 := Scf.iv c0_i32_149 c1_i32_151 k0_t3
  let c1_i32_5324 : BitVec 32 := 1#32
  let v3152 : BitVec 32 := Scalar.muli arg17 c1_i32_5324
  let v3153 : BitVec 32 := Scalar.addi c0_i32_5325 v3152
  let v3177 : Index := Scalar.indexCast v3153
  let c0 : Index := 0#32
  ![2, 0, v3177.toNat, 0]
def k0_off26 (k0_t3 : Fin k0_t3_loop.trips) : Fin 4 → Nat :=
  let c2_i32_5343 : BitVec 32 := 2#32
  let v3181 : Index := Scalar.indexCast c2_i32_5343
  let c0_i32_5344 : BitVec 32 := 0#32
  let v3182 : Index := Scalar.indexCast c0_i32_5344
  let c0_i32_5325 : BitVec 32 := 0#32
  let c0_i32_149 : BitVec 32 := 0#32
  let c1_i32_151 : BitVec 32 := 1#32
  let arg17 : BitVec 32 := Scf.iv c0_i32_149 c1_i32_151 k0_t3
  let c1_i32_5324 : BitVec 32 := 1#32
  let v3152 : BitVec 32 := Scalar.muli arg17 c1_i32_5324
  let v3153 : BitVec 32 := Scalar.addi c0_i32_5325 v3152
  let v3183 : Index := Scalar.indexCast v3153
  let c16 : Index := 16#32
  ![2, 0, v3183.toNat, 16]
def k0_off27 (k0_t3 : Fin k0_t3_loop.trips) : Fin 4 → Nat :=
  let c2_i32_5345 : BitVec 32 := 2#32
  let v3187 : Index := Scalar.indexCast c2_i32_5345
  let c0_i32_5346 : BitVec 32 := 0#32
  let v3188 : Index := Scalar.indexCast c0_i32_5346
  let c0_i32_5325 : BitVec 32 := 0#32
  let c0_i32_149 : BitVec 32 := 0#32
  let c1_i32_151 : BitVec 32 := 1#32
  let arg17 : BitVec 32 := Scf.iv c0_i32_149 c1_i32_151 k0_t3
  let c1_i32_5324 : BitVec 32 := 1#32
  let v3152 : BitVec 32 := Scalar.muli arg17 c1_i32_5324
  let v3153 : BitVec 32 := Scalar.addi c0_i32_5325 v3152
  let v3189 : Index := Scalar.indexCast v3153
  let c32 : Index := 32#32
  ![2, 0, v3189.toNat, 32]
def k0_off28 (k0_t3 : Fin k0_t3_loop.trips) : Fin 4 → Nat :=
  let c2_i32_5347 : BitVec 32 := 2#32
  let v3193 : Index := Scalar.indexCast c2_i32_5347
  let c0_i32_5348 : BitVec 32 := 0#32
  let v3194 : Index := Scalar.indexCast c0_i32_5348
  let c0_i32_5325 : BitVec 32 := 0#32
  let c0_i32_149 : BitVec 32 := 0#32
  let c1_i32_151 : BitVec 32 := 1#32
  let arg17 : BitVec 32 := Scf.iv c0_i32_149 c1_i32_151 k0_t3
  let c1_i32_5324 : BitVec 32 := 1#32
  let v3152 : BitVec 32 := Scalar.muli arg17 c1_i32_5324
  let v3153 : BitVec 32 := Scalar.addi c0_i32_5325 v3152
  let v3195 : Index := Scalar.indexCast v3153
  let c48 : Index := 48#32
  ![2, 0, v3195.toNat, 48]

def k0_chk3 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx17_inb : ∀ (v5 : IVec S16 32) (v8 : IVec S16 32) (v11 : IVec S16 32) (v14 : IVec S16 32) (v15 : IVec S16 32) (v16 : IVec S16 32) (v3154 : IVec S16 32) (k0_hw3 : k0_chk3 v5 v8 v11 v14 v15 v16 v3154), ∀ a x, ((![v15, v3154, v14] : Fin 3 → IVec S16 32) a x).toNat < S2x64x64.size a := fun v5 v8 v11 v14 v15 v16 v3154 k0_hw3 => k0_hw3.1
theorem k0_idx18_inb : ∀ (v5 : IVec S16 32) (v8 : IVec S16 32) (v11 : IVec S16 32) (v14 : IVec S16 32) (v15 : IVec S16 32) (v16 : IVec S16 32) (v3154 : IVec S16 32) (k0_hw3 : k0_chk3 v5 v8 v11 v14 v15 v16 v3154), ∀ a x, ((![v15, v3154, v11] : Fin 3 → IVec S16 32) a x).toNat < S2x64x64.size a := fun v5 v8 v11 v14 v15 v16 v3154 k0_hw3 => k0_hw3.2.1
theorem k0_idx19_inb : ∀ (v5 : IVec S16 32) (v8 : IVec S16 32) (v11 : IVec S16 32) (v14 : IVec S16 32) (v15 : IVec S16 32) (v16 : IVec S16 32) (v3154 : IVec S16 32) (k0_hw3 : k0_chk3 v5 v8 v11 v14 v15 v16 v3154), ∀ a x, ((![v15, v3154, v8] : Fin 3 → IVec S16 32) a x).toNat < S2x64x64.size a := fun v5 v8 v11 v14 v15 v16 v3154 k0_hw3 => k0_hw3.2.2.1
theorem k0_idx20_inb : ∀ (v5 : IVec S16 32) (v8 : IVec S16 32) (v11 : IVec S16 32) (v14 : IVec S16 32) (v15 : IVec S16 32) (v16 : IVec S16 32) (v3154 : IVec S16 32) (k0_hw3 : k0_chk3 v5 v8 v11 v14 v15 v16 v3154), ∀ a x, ((![v15, v3154, v5] : Fin 3 → IVec S16 32) a x).toNat < S2x64x64.size a := fun v5 v8 v11 v14 v15 v16 v3154 k0_hw3 => k0_hw3.2.2.2.1
theorem k0_idx21_inb : ∀ (v5 : IVec S16 32) (v8 : IVec S16 32) (v11 : IVec S16 32) (v14 : IVec S16 32) (v15 : IVec S16 32) (v16 : IVec S16 32) (v3154 : IVec S16 32) (k0_hw3 : k0_chk3 v5 v8 v11 v14 v15 v16 v3154), ∀ a x, ((![v16, v3154, v14] : Fin 3 → IVec S16 32) a x).toNat < S2x64x64.size a := fun v5 v8 v11 v14 v15 v16 v3154 k0_hw3 => k0_hw3.2.2.2.2.1
theorem k0_idx22_inb : ∀ (v5 : IVec S16 32) (v8 : IVec S16 32) (v11 : IVec S16 32) (v14 : IVec S16 32) (v15 : IVec S16 32) (v16 : IVec S16 32) (v3154 : IVec S16 32) (k0_hw3 : k0_chk3 v5 v8 v11 v14 v15 v16 v3154), ∀ a x, ((![v16, v3154, v11] : Fin 3 → IVec S16 32) a x).toNat < S2x64x64.size a := fun v5 v8 v11 v14 v15 v16 v3154 k0_hw3 => k0_hw3.2.2.2.2.2.1
theorem k0_idx23_inb : ∀ (v5 : IVec S16 32) (v8 : IVec S16 32) (v11 : IVec S16 32) (v14 : IVec S16 32) (v15 : IVec S16 32) (v16 : IVec S16 32) (v3154 : IVec S16 32) (k0_hw3 : k0_chk3 v5 v8 v11 v14 v15 v16 v3154), ∀ a x, ((![v16, v3154, v8] : Fin 3 → IVec S16 32) a x).toNat < S2x64x64.size a := fun v5 v8 v11 v14 v15 v16 v3154 k0_hw3 => k0_hw3.2.2.2.2.2.2.1
theorem k0_idx24_inb : ∀ (v5 : IVec S16 32) (v8 : IVec S16 32) (v11 : IVec S16 32) (v14 : IVec S16 32) (v15 : IVec S16 32) (v16 : IVec S16 32) (v3154 : IVec S16 32) (k0_hw3 : k0_chk3 v5 v8 v11 v14 v15 v16 v3154), ∀ a x, ((![v16, v3154, v5] : Fin 3 → IVec S16 32) a x).toNat < S2x64x64.size a := fun v5 v8 v11 v14 v15 v16 v3154 k0_hw3 => k0_hw3.2.2.2.2.2.2.2
def k0_off29 (k0_t3 : Fin k0_t3_loop.trips) : Fin 4 → Nat :=
  let c2_i32_5365 : BitVec 32 := 2#32
  let v3219 : Index := Scalar.indexCast c2_i32_5365
  let c1_i32_5366 : BitVec 32 := 1#32
  let v3220 : Index := Scalar.indexCast c1_i32_5366
  let c0_i32_5325 : BitVec 32 := 0#32
  let c0_i32_149 : BitVec 32 := 0#32
  let c1_i32_151 : BitVec 32 := 1#32
  let arg17 : BitVec 32 := Scf.iv c0_i32_149 c1_i32_151 k0_t3
  let c1_i32_5324 : BitVec 32 := 1#32
  let v3152 : BitVec 32 := Scalar.muli arg17 c1_i32_5324
  let v3153 : BitVec 32 := Scalar.addi c0_i32_5325 v3152
  let v3221 : Index := Scalar.indexCast v3153
  let c0_5367 : Index := 0#32
  ![2, 1, v3221.toNat, 0]
def k0_off30 (k0_t3 : Fin k0_t3_loop.trips) : Fin 4 → Nat :=
  let c2_i32_5368 : BitVec 32 := 2#32
  let v3225 : Index := Scalar.indexCast c2_i32_5368
  let c1_i32_5369 : BitVec 32 := 1#32
  let v3226 : Index := Scalar.indexCast c1_i32_5369
  let c0_i32_5325 : BitVec 32 := 0#32
  let c0_i32_149 : BitVec 32 := 0#32
  let c1_i32_151 : BitVec 32 := 1#32
  let arg17 : BitVec 32 := Scf.iv c0_i32_149 c1_i32_151 k0_t3
  let c1_i32_5324 : BitVec 32 := 1#32
  let v3152 : BitVec 32 := Scalar.muli arg17 c1_i32_5324
  let v3153 : BitVec 32 := Scalar.addi c0_i32_5325 v3152
  let v3227 : Index := Scalar.indexCast v3153
  let c16_5370 : Index := 16#32
  ![2, 1, v3227.toNat, 16]
def k0_off31 (k0_t3 : Fin k0_t3_loop.trips) : Fin 4 → Nat :=
  let c2_i32_5371 : BitVec 32 := 2#32
  let v3231 : Index := Scalar.indexCast c2_i32_5371
  let c1_i32_5372 : BitVec 32 := 1#32
  let v3232 : Index := Scalar.indexCast c1_i32_5372
  let c0_i32_5325 : BitVec 32 := 0#32
  let c0_i32_149 : BitVec 32 := 0#32
  let c1_i32_151 : BitVec 32 := 1#32
  let arg17 : BitVec 32 := Scf.iv c0_i32_149 c1_i32_151 k0_t3
  let c1_i32_5324 : BitVec 32 := 1#32
  let v3152 : BitVec 32 := Scalar.muli arg17 c1_i32_5324
  let v3153 : BitVec 32 := Scalar.addi c0_i32_5325 v3152
  let v3233 : Index := Scalar.indexCast v3153
  let c32_5373 : Index := 32#32
  ![2, 1, v3233.toNat, 32]
def k0_off32 (k0_t3 : Fin k0_t3_loop.trips) : Fin 4 → Nat :=
  let c2_i32_5374 : BitVec 32 := 2#32
  let v3237 : Index := Scalar.indexCast c2_i32_5374
  let c1_i32_5375 : BitVec 32 := 1#32
  let v3238 : Index := Scalar.indexCast c1_i32_5375
  let c0_i32_5325 : BitVec 32 := 0#32
  let c0_i32_149 : BitVec 32 := 0#32
  let c1_i32_151 : BitVec 32 := 1#32
  let arg17 : BitVec 32 := Scf.iv c0_i32_149 c1_i32_151 k0_t3
  let c1_i32_5324 : BitVec 32 := 1#32
  let v3152 : BitVec 32 := Scalar.muli arg17 c1_i32_5324
  let v3153 : BitVec 32 := Scalar.addi c0_i32_5325 v3152
  let v3239 : Index := Scalar.indexCast v3153
  let c48_5376 : Index := 48#32
  ![2, 1, v3239.toNat, 48]
def k0_off33 (i : grid0.Coords) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c3_i32_166 : BitVec 32 := 3#32
  let c0_i32_167 : BitVec 32 := 0#32
  let c0_i32_172 : BitVec 32 := 0#32
  let c0_i32_173 : BitVec 32 := 0#32
  ![v2.toNat, 3, 0, 0, 0]
@[reducible] def k0_t4_loop : Scf.Loop 32 :=
  let c0_i32_205 : BitVec 32 := 0#32
  let c64_i32_206 : BitVec 32 := 64#32
  let v140 : BitVec 32 := Scalar.addi c0_i32_205 c64_i32_206
  let c1_i32_207 : BitVec 32 := 1#32
  ⟨c0_i32_205, v140, c1_i32_207⟩
def k0_off34 (k0_t4 : Fin k0_t4_loop.trips) : Fin 4 → Nat :=
  let c0_i32_5338 : BitVec 32 := 0#32
  let v3167 : Index := Scalar.indexCast c0_i32_5338
  let c0_i32_5339 : BitVec 32 := 0#32
  let v3168 : Index := Scalar.indexCast c0_i32_5339
  let c0_i32_5325 : BitVec 32 := 0#32
  let c0_i32_205 : BitVec 32 := 0#32
  let c1_i32_207 : BitVec 32 := 1#32
  let arg17 : BitVec 32 := Scf.iv c0_i32_205 c1_i32_207 k0_t4
  let c1_i32_5324 : BitVec 32 := 1#32
  let v3152 : BitVec 32 := Scalar.muli arg17 c1_i32_5324
  let v3153 : BitVec 32 := Scalar.addi c0_i32_5325 v3152
  let v3169 : Index := Scalar.indexCast v3153
  let c0 : Index := 0#32
  ![0, 0, v3169.toNat, 0]
def k0_off35 (k0_t4 : Fin k0_t4_loop.trips) : Fin 4 → Nat :=
  let c0_i32_5340 : BitVec 32 := 0#32
  let v3173 : Index := Scalar.indexCast c0_i32_5340
  let c0_i32_5341 : BitVec 32 := 0#32
  let v3174 : Index := Scalar.indexCast c0_i32_5341
  let c0_i32_5325 : BitVec 32 := 0#32
  let c0_i32_205 : BitVec 32 := 0#32
  let c1_i32_207 : BitVec 32 := 1#32
  let arg17 : BitVec 32 := Scf.iv c0_i32_205 c1_i32_207 k0_t4
  let c1_i32_5324 : BitVec 32 := 1#32
  let v3152 : BitVec 32 := Scalar.muli arg17 c1_i32_5324
  let v3153 : BitVec 32 := Scalar.addi c0_i32_5325 v3152
  let v3175 : Index := Scalar.indexCast v3153
  let c16 : Index := 16#32
  ![0, 0, v3175.toNat, 16]
def k0_off36 (k0_t4 : Fin k0_t4_loop.trips) : Fin 4 → Nat :=
  let c0_i32_5342 : BitVec 32 := 0#32
  let v3179 : Index := Scalar.indexCast c0_i32_5342
  let c0_i32_5343 : BitVec 32 := 0#32
  let v3180 : Index := Scalar.indexCast c0_i32_5343
  let c0_i32_5325 : BitVec 32 := 0#32
  let c0_i32_205 : BitVec 32 := 0#32
  let c1_i32_207 : BitVec 32 := 1#32
  let arg17 : BitVec 32 := Scf.iv c0_i32_205 c1_i32_207 k0_t4
  let c1_i32_5324 : BitVec 32 := 1#32
  let v3152 : BitVec 32 := Scalar.muli arg17 c1_i32_5324
  let v3153 : BitVec 32 := Scalar.addi c0_i32_5325 v3152
  let v3181 : Index := Scalar.indexCast v3153
  let c32 : Index := 32#32
  ![0, 0, v3181.toNat, 32]
def k0_off37 (k0_t4 : Fin k0_t4_loop.trips) : Fin 4 → Nat :=
  let c0_i32_5344 : BitVec 32 := 0#32
  let v3185 : Index := Scalar.indexCast c0_i32_5344
  let c0_i32_5345 : BitVec 32 := 0#32
  let v3186 : Index := Scalar.indexCast c0_i32_5345
  let c0_i32_5325 : BitVec 32 := 0#32
  let c0_i32_205 : BitVec 32 := 0#32
  let c1_i32_207 : BitVec 32 := 1#32
  let arg17 : BitVec 32 := Scf.iv c0_i32_205 c1_i32_207 k0_t4
  let c1_i32_5324 : BitVec 32 := 1#32
  let v3152 : BitVec 32 := Scalar.muli arg17 c1_i32_5324
  let v3153 : BitVec 32 := Scalar.addi c0_i32_5325 v3152
  let v3187 : Index := Scalar.indexCast v3153
  let c48 : Index := 48#32
  ![0, 0, v3187.toNat, 48]

def k0_chk4 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx25_inb : ∀ (v5 : IVec S16 32) (v8 : IVec S16 32) (v11 : IVec S16 32) (v14 : IVec S16 32) (v15 : IVec S16 32) (v16 : IVec S16 32) (v3154 : IVec S16 32) (k0_hw4 : k0_chk4 v5 v8 v11 v14 v15 v16 v3154), ∀ a x, ((![v15, v3154, v14] : Fin 3 → IVec S16 32) a x).toNat < S2x64x64.size a := fun v5 v8 v11 v14 v15 v16 v3154 k0_hw4 => k0_hw4.1
theorem k0_idx26_inb : ∀ (v5 : IVec S16 32) (v8 : IVec S16 32) (v11 : IVec S16 32) (v14 : IVec S16 32) (v15 : IVec S16 32) (v16 : IVec S16 32) (v3154 : IVec S16 32) (k0_hw4 : k0_chk4 v5 v8 v11 v14 v15 v16 v3154), ∀ a x, ((![v15, v3154, v11] : Fin 3 → IVec S16 32) a x).toNat < S2x64x64.size a := fun v5 v8 v11 v14 v15 v16 v3154 k0_hw4 => k0_hw4.2.1
theorem k0_idx27_inb : ∀ (v5 : IVec S16 32) (v8 : IVec S16 32) (v11 : IVec S16 32) (v14 : IVec S16 32) (v15 : IVec S16 32) (v16 : IVec S16 32) (v3154 : IVec S16 32) (k0_hw4 : k0_chk4 v5 v8 v11 v14 v15 v16 v3154), ∀ a x, ((![v15, v3154, v8] : Fin 3 → IVec S16 32) a x).toNat < S2x64x64.size a := fun v5 v8 v11 v14 v15 v16 v3154 k0_hw4 => k0_hw4.2.2.1
theorem k0_idx28_inb : ∀ (v5 : IVec S16 32) (v8 : IVec S16 32) (v11 : IVec S16 32) (v14 : IVec S16 32) (v15 : IVec S16 32) (v16 : IVec S16 32) (v3154 : IVec S16 32) (k0_hw4 : k0_chk4 v5 v8 v11 v14 v15 v16 v3154), ∀ a x, ((![v15, v3154, v5] : Fin 3 → IVec S16 32) a x).toNat < S2x64x64.size a := fun v5 v8 v11 v14 v15 v16 v3154 k0_hw4 => k0_hw4.2.2.2.1
theorem k0_idx29_inb : ∀ (v5 : IVec S16 32) (v8 : IVec S16 32) (v11 : IVec S16 32) (v14 : IVec S16 32) (v15 : IVec S16 32) (v16 : IVec S16 32) (v3154 : IVec S16 32) (k0_hw4 : k0_chk4 v5 v8 v11 v14 v15 v16 v3154), ∀ a x, ((![v16, v3154, v14] : Fin 3 → IVec S16 32) a x).toNat < S2x64x64.size a := fun v5 v8 v11 v14 v15 v16 v3154 k0_hw4 => k0_hw4.2.2.2.2.1
theorem k0_idx30_inb : ∀ (v5 : IVec S16 32) (v8 : IVec S16 32) (v11 : IVec S16 32) (v14 : IVec S16 32) (v15 : IVec S16 32) (v16 : IVec S16 32) (v3154 : IVec S16 32) (k0_hw4 : k0_chk4 v5 v8 v11 v14 v15 v16 v3154), ∀ a x, ((![v16, v3154, v11] : Fin 3 → IVec S16 32) a x).toNat < S2x64x64.size a := fun v5 v8 v11 v14 v15 v16 v3154 k0_hw4 => k0_hw4.2.2.2.2.2.1
theorem k0_idx31_inb : ∀ (v5 : IVec S16 32) (v8 : IVec S16 32) (v11 : IVec S16 32) (v14 : IVec S16 32) (v15 : IVec S16 32) (v16 : IVec S16 32) (v3154 : IVec S16 32) (k0_hw4 : k0_chk4 v5 v8 v11 v14 v15 v16 v3154), ∀ a x, ((![v16, v3154, v8] : Fin 3 → IVec S16 32) a x).toNat < S2x64x64.size a := fun v5 v8 v11 v14 v15 v16 v3154 k0_hw4 => k0_hw4.2.2.2.2.2.2.1
theorem k0_idx32_inb : ∀ (v5 : IVec S16 32) (v8 : IVec S16 32) (v11 : IVec S16 32) (v14 : IVec S16 32) (v15 : IVec S16 32) (v16 : IVec S16 32) (v3154 : IVec S16 32) (k0_hw4 : k0_chk4 v5 v8 v11 v14 v15 v16 v3154), ∀ a x, ((![v16, v3154, v5] : Fin 3 → IVec S16 32) a x).toNat < S2x64x64.size a := fun v5 v8 v11 v14 v15 v16 v3154 k0_hw4 => k0_hw4.2.2.2.2.2.2.2
def k0_off38 (k0_t4 : Fin k0_t4_loop.trips) : Fin 4 → Nat :=
  let c0_i32_5358 : BitVec 32 := 0#32
  let v3203 : Index := Scalar.indexCast c0_i32_5358
  let c1_i32_5359 : BitVec 32 := 1#32
  let v3204 : Index := Scalar.indexCast c1_i32_5359
  let c0_i32_5325 : BitVec 32 := 0#32
  let c0_i32_205 : BitVec 32 := 0#32
  let c1_i32_207 : BitVec 32 := 1#32
  let arg17 : BitVec 32 := Scf.iv c0_i32_205 c1_i32_207 k0_t4
  let c1_i32_5324 : BitVec 32 := 1#32
  let v3152 : BitVec 32 := Scalar.muli arg17 c1_i32_5324
  let v3153 : BitVec 32 := Scalar.addi c0_i32_5325 v3152
  let v3205 : Index := Scalar.indexCast v3153
  let c0_5360 : Index := 0#32
  ![0, 1, v3205.toNat, 0]
def k0_off39 (k0_t4 : Fin k0_t4_loop.trips) : Fin 4 → Nat :=
  let c0_i32_5361 : BitVec 32 := 0#32
  let v3209 : Index := Scalar.indexCast c0_i32_5361
  let c1_i32_5362 : BitVec 32 := 1#32
  let v3210 : Index := Scalar.indexCast c1_i32_5362
  let c0_i32_5325 : BitVec 32 := 0#32
  let c0_i32_205 : BitVec 32 := 0#32
  let c1_i32_207 : BitVec 32 := 1#32
  let arg17 : BitVec 32 := Scf.iv c0_i32_205 c1_i32_207 k0_t4
  let c1_i32_5324 : BitVec 32 := 1#32
  let v3152 : BitVec 32 := Scalar.muli arg17 c1_i32_5324
  let v3153 : BitVec 32 := Scalar.addi c0_i32_5325 v3152
  let v3211 : Index := Scalar.indexCast v3153
  let c16_5363 : Index := 16#32
  ![0, 1, v3211.toNat, 16]
def k0_off40 (k0_t4 : Fin k0_t4_loop.trips) : Fin 4 → Nat :=
  let c0_i32_5364 : BitVec 32 := 0#32
  let v3215 : Index := Scalar.indexCast c0_i32_5364
  let c1_i32_5365 : BitVec 32 := 1#32
  let v3216 : Index := Scalar.indexCast c1_i32_5365
  let c0_i32_5325 : BitVec 32 := 0#32
  let c0_i32_205 : BitVec 32 := 0#32
  let c1_i32_207 : BitVec 32 := 1#32
  let arg17 : BitVec 32 := Scf.iv c0_i32_205 c1_i32_207 k0_t4
  let c1_i32_5324 : BitVec 32 := 1#32
  let v3152 : BitVec 32 := Scalar.muli arg17 c1_i32_5324
  let v3153 : BitVec 32 := Scalar.addi c0_i32_5325 v3152
  let v3217 : Index := Scalar.indexCast v3153
  let c32_5366 : Index := 32#32
  ![0, 1, v3217.toNat, 32]
def k0_off41 (k0_t4 : Fin k0_t4_loop.trips) : Fin 4 → Nat :=
  let c0_i32_5367 : BitVec 32 := 0#32
  let v3221 : Index := Scalar.indexCast c0_i32_5367
  let c1_i32_5368 : BitVec 32 := 1#32
  let v3222 : Index := Scalar.indexCast c1_i32_5368
  let c0_i32_5325 : BitVec 32 := 0#32
  let c0_i32_205 : BitVec 32 := 0#32
  let c1_i32_207 : BitVec 32 := 1#32
  let arg17 : BitVec 32 := Scf.iv c0_i32_205 c1_i32_207 k0_t4
  let c1_i32_5324 : BitVec 32 := 1#32
  let v3152 : BitVec 32 := Scalar.muli arg17 c1_i32_5324
  let v3153 : BitVec 32 := Scalar.addi c0_i32_5325 v3152
  let v3223 : Index := Scalar.indexCast v3153
  let c48_5369 : Index := 48#32
  ![0, 1, v3223.toNat, 48]
def k0_off42 (i : grid0.Coords) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_210 : BitVec 32 := 0#32
  let c1_i32_211 : BitVec 32 := 1#32
  let c0_i32_215 : BitVec 32 := 0#32
  let c0_i32_216 : BitVec 32 := 0#32
  ![v2.toNat, 0, 1, 0, 0]
@[reducible] def k0_t5_loop : Scf.Loop 32 :=
  let c0_i32_262 : BitVec 32 := 0#32
  let c64_i32_263 : BitVec 32 := 64#32
  let v173 : BitVec 32 := Scalar.addi c0_i32_262 c64_i32_263
  let c1_i32_264 : BitVec 32 := 1#32
  ⟨c0_i32_262, v173, c1_i32_264⟩
def k0_off43 (k0_t5 : Fin k0_t5_loop.trips) : Fin 4 → Nat :=
  let c1_i32_5338 : BitVec 32 := 1#32
  let v3167 : Index := Scalar.indexCast c1_i32_5338
  let c0_i32_5339 : BitVec 32 := 0#32
  let v3168 : Index := Scalar.indexCast c0_i32_5339
  let c0_i32_5325 : BitVec 32 := 0#32
  let c0_i32_262 : BitVec 32 := 0#32
  let c1_i32_264 : BitVec 32 := 1#32
  let arg17 : BitVec 32 := Scf.iv c0_i32_262 c1_i32_264 k0_t5
  let c1_i32_5324 : BitVec 32 := 1#32
  let v3152 : BitVec 32 := Scalar.muli arg17 c1_i32_5324
  let v3153 : BitVec 32 := Scalar.addi c0_i32_5325 v3152
  let v3169 : Index := Scalar.indexCast v3153
  let c0 : Index := 0#32
  ![1, 0, v3169.toNat, 0]
def k0_off44 (k0_t5 : Fin k0_t5_loop.trips) : Fin 4 → Nat :=
  let c1_i32_5340 : BitVec 32 := 1#32
  let v3173 : Index := Scalar.indexCast c1_i32_5340
  let c0_i32_5341 : BitVec 32 := 0#32
  let v3174 : Index := Scalar.indexCast c0_i32_5341
  let c0_i32_5325 : BitVec 32 := 0#32
  let c0_i32_262 : BitVec 32 := 0#32
  let c1_i32_264 : BitVec 32 := 1#32
  let arg17 : BitVec 32 := Scf.iv c0_i32_262 c1_i32_264 k0_t5
  let c1_i32_5324 : BitVec 32 := 1#32
  let v3152 : BitVec 32 := Scalar.muli arg17 c1_i32_5324
  let v3153 : BitVec 32 := Scalar.addi c0_i32_5325 v3152
  let v3175 : Index := Scalar.indexCast v3153
  let c16 : Index := 16#32
  ![1, 0, v3175.toNat, 16]
def k0_off45 (k0_t5 : Fin k0_t5_loop.trips) : Fin 4 → Nat :=
  let c1_i32_5342 : BitVec 32 := 1#32
  let v3179 : Index := Scalar.indexCast c1_i32_5342
  let c0_i32_5343 : BitVec 32 := 0#32
  let v3180 : Index := Scalar.indexCast c0_i32_5343
  let c0_i32_5325 : BitVec 32 := 0#32
  let c0_i32_262 : BitVec 32 := 0#32
  let c1_i32_264 : BitVec 32 := 1#32
  let arg17 : BitVec 32 := Scf.iv c0_i32_262 c1_i32_264 k0_t5
  let c1_i32_5324 : BitVec 32 := 1#32
  let v3152 : BitVec 32 := Scalar.muli arg17 c1_i32_5324
  let v3153 : BitVec 32 := Scalar.addi c0_i32_5325 v3152
  let v3181 : Index := Scalar.indexCast v3153
  let c32 : Index := 32#32
  ![1, 0, v3181.toNat, 32]
def k0_off46 (k0_t5 : Fin k0_t5_loop.trips) : Fin 4 → Nat :=
  let c1_i32_5344 : BitVec 32 := 1#32
  let v3185 : Index := Scalar.indexCast c1_i32_5344
  let c0_i32_5345 : BitVec 32 := 0#32
  let v3186 : Index := Scalar.indexCast c0_i32_5345
  let c0_i32_5325 : BitVec 32 := 0#32
  let c0_i32_262 : BitVec 32 := 0#32
  let c1_i32_264 : BitVec 32 := 1#32
  let arg17 : BitVec 32 := Scf.iv c0_i32_262 c1_i32_264 k0_t5
  let c1_i32_5324 : BitVec 32 := 1#32
  let v3152 : BitVec 32 := Scalar.muli arg17 c1_i32_5324
  let v3153 : BitVec 32 := Scalar.addi c0_i32_5325 v3152
  let v3187 : Index := Scalar.indexCast v3153
  let c48 : Index := 48#32
  ![1, 0, v3187.toNat, 48]

def k0_chk5 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx33_inb : ∀ (v5 : IVec S16 32) (v8 : IVec S16 32) (v11 : IVec S16 32) (v14 : IVec S16 32) (v15 : IVec S16 32) (v16 : IVec S16 32) (v3154 : IVec S16 32) (k0_hw5 : k0_chk5 v5 v8 v11 v14 v15 v16 v3154), ∀ a x, ((![v15, v3154, v14] : Fin 3 → IVec S16 32) a x).toNat < S2x64x64.size a := fun v5 v8 v11 v14 v15 v16 v3154 k0_hw5 => k0_hw5.1
theorem k0_idx34_inb : ∀ (v5 : IVec S16 32) (v8 : IVec S16 32) (v11 : IVec S16 32) (v14 : IVec S16 32) (v15 : IVec S16 32) (v16 : IVec S16 32) (v3154 : IVec S16 32) (k0_hw5 : k0_chk5 v5 v8 v11 v14 v15 v16 v3154), ∀ a x, ((![v15, v3154, v11] : Fin 3 → IVec S16 32) a x).toNat < S2x64x64.size a := fun v5 v8 v11 v14 v15 v16 v3154 k0_hw5 => k0_hw5.2.1
theorem k0_idx35_inb : ∀ (v5 : IVec S16 32) (v8 : IVec S16 32) (v11 : IVec S16 32) (v14 : IVec S16 32) (v15 : IVec S16 32) (v16 : IVec S16 32) (v3154 : IVec S16 32) (k0_hw5 : k0_chk5 v5 v8 v11 v14 v15 v16 v3154), ∀ a x, ((![v15, v3154, v8] : Fin 3 → IVec S16 32) a x).toNat < S2x64x64.size a := fun v5 v8 v11 v14 v15 v16 v3154 k0_hw5 => k0_hw5.2.2.1
theorem k0_idx36_inb : ∀ (v5 : IVec S16 32) (v8 : IVec S16 32) (v11 : IVec S16 32) (v14 : IVec S16 32) (v15 : IVec S16 32) (v16 : IVec S16 32) (v3154 : IVec S16 32) (k0_hw5 : k0_chk5 v5 v8 v11 v14 v15 v16 v3154), ∀ a x, ((![v15, v3154, v5] : Fin 3 → IVec S16 32) a x).toNat < S2x64x64.size a := fun v5 v8 v11 v14 v15 v16 v3154 k0_hw5 => k0_hw5.2.2.2.1
theorem k0_idx37_inb : ∀ (v5 : IVec S16 32) (v8 : IVec S16 32) (v11 : IVec S16 32) (v14 : IVec S16 32) (v15 : IVec S16 32) (v16 : IVec S16 32) (v3154 : IVec S16 32) (k0_hw5 : k0_chk5 v5 v8 v11 v14 v15 v16 v3154), ∀ a x, ((![v16, v3154, v14] : Fin 3 → IVec S16 32) a x).toNat < S2x64x64.size a := fun v5 v8 v11 v14 v15 v16 v3154 k0_hw5 => k0_hw5.2.2.2.2.1
theorem k0_idx38_inb : ∀ (v5 : IVec S16 32) (v8 : IVec S16 32) (v11 : IVec S16 32) (v14 : IVec S16 32) (v15 : IVec S16 32) (v16 : IVec S16 32) (v3154 : IVec S16 32) (k0_hw5 : k0_chk5 v5 v8 v11 v14 v15 v16 v3154), ∀ a x, ((![v16, v3154, v11] : Fin 3 → IVec S16 32) a x).toNat < S2x64x64.size a := fun v5 v8 v11 v14 v15 v16 v3154 k0_hw5 => k0_hw5.2.2.2.2.2.1
theorem k0_idx39_inb : ∀ (v5 : IVec S16 32) (v8 : IVec S16 32) (v11 : IVec S16 32) (v14 : IVec S16 32) (v15 : IVec S16 32) (v16 : IVec S16 32) (v3154 : IVec S16 32) (k0_hw5 : k0_chk5 v5 v8 v11 v14 v15 v16 v3154), ∀ a x, ((![v16, v3154, v8] : Fin 3 → IVec S16 32) a x).toNat < S2x64x64.size a := fun v5 v8 v11 v14 v15 v16 v3154 k0_hw5 => k0_hw5.2.2.2.2.2.2.1
theorem k0_idx40_inb : ∀ (v5 : IVec S16 32) (v8 : IVec S16 32) (v11 : IVec S16 32) (v14 : IVec S16 32) (v15 : IVec S16 32) (v16 : IVec S16 32) (v3154 : IVec S16 32) (k0_hw5 : k0_chk5 v5 v8 v11 v14 v15 v16 v3154), ∀ a x, ((![v16, v3154, v5] : Fin 3 → IVec S16 32) a x).toNat < S2x64x64.size a := fun v5 v8 v11 v14 v15 v16 v3154 k0_hw5 => k0_hw5.2.2.2.2.2.2.2
def k0_off47 (k0_t5 : Fin k0_t5_loop.trips) : Fin 4 → Nat :=
  let c1_i32_5358 : BitVec 32 := 1#32
  let v3203 : Index := Scalar.indexCast c1_i32_5358
  let c1_i32_5359 : BitVec 32 := 1#32
  let v3204 : Index := Scalar.indexCast c1_i32_5359
  let c0_i32_5325 : BitVec 32 := 0#32
  let c0_i32_262 : BitVec 32 := 0#32
  let c1_i32_264 : BitVec 32 := 1#32
  let arg17 : BitVec 32 := Scf.iv c0_i32_262 c1_i32_264 k0_t5
  let c1_i32_5324 : BitVec 32 := 1#32
  let v3152 : BitVec 32 := Scalar.muli arg17 c1_i32_5324
  let v3153 : BitVec 32 := Scalar.addi c0_i32_5325 v3152
  let v3205 : Index := Scalar.indexCast v3153
  let c0_5360 : Index := 0#32
  ![1, 1, v3205.toNat, 0]
def k0_off48 (k0_t5 : Fin k0_t5_loop.trips) : Fin 4 → Nat :=
  let c1_i32_5361 : BitVec 32 := 1#32
  let v3209 : Index := Scalar.indexCast c1_i32_5361
  let c1_i32_5362 : BitVec 32 := 1#32
  let v3210 : Index := Scalar.indexCast c1_i32_5362
  let c0_i32_5325 : BitVec 32 := 0#32
  let c0_i32_262 : BitVec 32 := 0#32
  let c1_i32_264 : BitVec 32 := 1#32
  let arg17 : BitVec 32 := Scf.iv c0_i32_262 c1_i32_264 k0_t5
  let c1_i32_5324 : BitVec 32 := 1#32
  let v3152 : BitVec 32 := Scalar.muli arg17 c1_i32_5324
  let v3153 : BitVec 32 := Scalar.addi c0_i32_5325 v3152
  let v3211 : Index := Scalar.indexCast v3153
  let c16_5363 : Index := 16#32
  ![1, 1, v3211.toNat, 16]
def k0_off49 (k0_t5 : Fin k0_t5_loop.trips) : Fin 4 → Nat :=
  let c1_i32_5364 : BitVec 32 := 1#32
  let v3215 : Index := Scalar.indexCast c1_i32_5364
  let c1_i32_5365 : BitVec 32 := 1#32
  let v3216 : Index := Scalar.indexCast c1_i32_5365
  let c0_i32_5325 : BitVec 32 := 0#32
  let c0_i32_262 : BitVec 32 := 0#32
  let c1_i32_264 : BitVec 32 := 1#32
  let arg17 : BitVec 32 := Scf.iv c0_i32_262 c1_i32_264 k0_t5
  let c1_i32_5324 : BitVec 32 := 1#32
  let v3152 : BitVec 32 := Scalar.muli arg17 c1_i32_5324
  let v3153 : BitVec 32 := Scalar.addi c0_i32_5325 v3152
  let v3217 : Index := Scalar.indexCast v3153
  let c32_5366 : Index := 32#32
  ![1, 1, v3217.toNat, 32]
def k0_off50 (k0_t5 : Fin k0_t5_loop.trips) : Fin 4 → Nat :=
  let c1_i32_5367 : BitVec 32 := 1#32
  let v3221 : Index := Scalar.indexCast c1_i32_5367
  let c1_i32_5368 : BitVec 32 := 1#32
  let v3222 : Index := Scalar.indexCast c1_i32_5368
  let c0_i32_5325 : BitVec 32 := 0#32
  let c0_i32_262 : BitVec 32 := 0#32
  let c1_i32_264 : BitVec 32 := 1#32
  let arg17 : BitVec 32 := Scf.iv c0_i32_262 c1_i32_264 k0_t5
  let c1_i32_5324 : BitVec 32 := 1#32
  let v3152 : BitVec 32 := Scalar.muli arg17 c1_i32_5324
  let v3153 : BitVec 32 := Scalar.addi c0_i32_5325 v3152
  let v3223 : Index := Scalar.indexCast v3153
  let c48_5369 : Index := 48#32
  ![1, 1, v3223.toNat, 48]
def k0_off51 (i : grid0.Coords) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c3_i32_279 : BitVec 32 := 3#32
  let c1_i32_280 : BitVec 32 := 1#32
  let c0_i32_285 : BitVec 32 := 0#32
  let c0_i32_286 : BitVec 32 := 0#32
  ![v2.toNat, 3, 1, 0, 0]
@[reducible] def k0_t6_loop : Scf.Loop 32 :=
  let c0_i32_318 : BitVec 32 := 0#32
  let c64_i32_319 : BitVec 32 := 64#32
  let v206 : BitVec 32 := Scalar.addi c0_i32_318 c64_i32_319
  let c1_i32_320 : BitVec 32 := 1#32
  ⟨c0_i32_318, v206, c1_i32_320⟩
def k0_off52 (k0_t6 : Fin k0_t6_loop.trips) : Fin 4 → Nat :=
  let c2_i32_5338 : BitVec 32 := 2#32
  let v3167 : Index := Scalar.indexCast c2_i32_5338
  let c0_i32_5339 : BitVec 32 := 0#32
  let v3168 : Index := Scalar.indexCast c0_i32_5339
  let c0_i32_5325 : BitVec 32 := 0#32
  let c0_i32_318 : BitVec 32 := 0#32
  let c1_i32_320 : BitVec 32 := 1#32
  let arg17 : BitVec 32 := Scf.iv c0_i32_318 c1_i32_320 k0_t6
  let c1_i32_5324 : BitVec 32 := 1#32
  let v3152 : BitVec 32 := Scalar.muli arg17 c1_i32_5324
  let v3153 : BitVec 32 := Scalar.addi c0_i32_5325 v3152
  let v3169 : Index := Scalar.indexCast v3153
  let c0 : Index := 0#32
  ![2, 0, v3169.toNat, 0]
def k0_off53 (k0_t6 : Fin k0_t6_loop.trips) : Fin 4 → Nat :=
  let c2_i32_5340 : BitVec 32 := 2#32
  let v3173 : Index := Scalar.indexCast c2_i32_5340
  let c0_i32_5341 : BitVec 32 := 0#32
  let v3174 : Index := Scalar.indexCast c0_i32_5341
  let c0_i32_5325 : BitVec 32 := 0#32
  let c0_i32_318 : BitVec 32 := 0#32
  let c1_i32_320 : BitVec 32 := 1#32
  let arg17 : BitVec 32 := Scf.iv c0_i32_318 c1_i32_320 k0_t6
  let c1_i32_5324 : BitVec 32 := 1#32
  let v3152 : BitVec 32 := Scalar.muli arg17 c1_i32_5324
  let v3153 : BitVec 32 := Scalar.addi c0_i32_5325 v3152
  let v3175 : Index := Scalar.indexCast v3153
  let c16 : Index := 16#32
  ![2, 0, v3175.toNat, 16]
def k0_off54 (k0_t6 : Fin k0_t6_loop.trips) : Fin 4 → Nat :=
  let c2_i32_5342 : BitVec 32 := 2#32
  let v3179 : Index := Scalar.indexCast c2_i32_5342
  let c0_i32_5343 : BitVec 32 := 0#32
  let v3180 : Index := Scalar.indexCast c0_i32_5343
  let c0_i32_5325 : BitVec 32 := 0#32
  let c0_i32_318 : BitVec 32 := 0#32
  let c1_i32_320 : BitVec 32 := 1#32
  let arg17 : BitVec 32 := Scf.iv c0_i32_318 c1_i32_320 k0_t6
  let c1_i32_5324 : BitVec 32 := 1#32
  let v3152 : BitVec 32 := Scalar.muli arg17 c1_i32_5324
  let v3153 : BitVec 32 := Scalar.addi c0_i32_5325 v3152
  let v3181 : Index := Scalar.indexCast v3153
  let c32 : Index := 32#32
  ![2, 0, v3181.toNat, 32]
def k0_off55 (k0_t6 : Fin k0_t6_loop.trips) : Fin 4 → Nat :=
  let c2_i32_5344 : BitVec 32 := 2#32
  let v3185 : Index := Scalar.indexCast c2_i32_5344
  let c0_i32_5345 : BitVec 32 := 0#32
  let v3186 : Index := Scalar.indexCast c0_i32_5345
  let c0_i32_5325 : BitVec 32 := 0#32
  let c0_i32_318 : BitVec 32 := 0#32
  let c1_i32_320 : BitVec 32 := 1#32
  let arg17 : BitVec 32 := Scf.iv c0_i32_318 c1_i32_320 k0_t6
  let c1_i32_5324 : BitVec 32 := 1#32
  let v3152 : BitVec 32 := Scalar.muli arg17 c1_i32_5324
  let v3153 : BitVec 32 := Scalar.addi c0_i32_5325 v3152
  let v3187 : Index := Scalar.indexCast v3153
  let c48 : Index := 48#32
  ![2, 0, v3187.toNat, 48]

def k0_chk6 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx41_inb : ∀ (v5 : IVec S16 32) (v8 : IVec S16 32) (v11 : IVec S16 32) (v14 : IVec S16 32) (v15 : IVec S16 32) (v16 : IVec S16 32) (v3154 : IVec S16 32) (k0_hw6 : k0_chk6 v5 v8 v11 v14 v15 v16 v3154), ∀ a x, ((![v15, v3154, v14] : Fin 3 → IVec S16 32) a x).toNat < S2x64x64.size a := fun v5 v8 v11 v14 v15 v16 v3154 k0_hw6 => k0_hw6.1
theorem k0_idx42_inb : ∀ (v5 : IVec S16 32) (v8 : IVec S16 32) (v11 : IVec S16 32) (v14 : IVec S16 32) (v15 : IVec S16 32) (v16 : IVec S16 32) (v3154 : IVec S16 32) (k0_hw6 : k0_chk6 v5 v8 v11 v14 v15 v16 v3154), ∀ a x, ((![v15, v3154, v11] : Fin 3 → IVec S16 32) a x).toNat < S2x64x64.size a := fun v5 v8 v11 v14 v15 v16 v3154 k0_hw6 => k0_hw6.2.1
theorem k0_idx43_inb : ∀ (v5 : IVec S16 32) (v8 : IVec S16 32) (v11 : IVec S16 32) (v14 : IVec S16 32) (v15 : IVec S16 32) (v16 : IVec S16 32) (v3154 : IVec S16 32) (k0_hw6 : k0_chk6 v5 v8 v11 v14 v15 v16 v3154), ∀ a x, ((![v15, v3154, v8] : Fin 3 → IVec S16 32) a x).toNat < S2x64x64.size a := fun v5 v8 v11 v14 v15 v16 v3154 k0_hw6 => k0_hw6.2.2.1
theorem k0_idx44_inb : ∀ (v5 : IVec S16 32) (v8 : IVec S16 32) (v11 : IVec S16 32) (v14 : IVec S16 32) (v15 : IVec S16 32) (v16 : IVec S16 32) (v3154 : IVec S16 32) (k0_hw6 : k0_chk6 v5 v8 v11 v14 v15 v16 v3154), ∀ a x, ((![v15, v3154, v5] : Fin 3 → IVec S16 32) a x).toNat < S2x64x64.size a := fun v5 v8 v11 v14 v15 v16 v3154 k0_hw6 => k0_hw6.2.2.2.1
theorem k0_idx45_inb : ∀ (v5 : IVec S16 32) (v8 : IVec S16 32) (v11 : IVec S16 32) (v14 : IVec S16 32) (v15 : IVec S16 32) (v16 : IVec S16 32) (v3154 : IVec S16 32) (k0_hw6 : k0_chk6 v5 v8 v11 v14 v15 v16 v3154), ∀ a x, ((![v16, v3154, v14] : Fin 3 → IVec S16 32) a x).toNat < S2x64x64.size a := fun v5 v8 v11 v14 v15 v16 v3154 k0_hw6 => k0_hw6.2.2.2.2.1
theorem k0_idx46_inb : ∀ (v5 : IVec S16 32) (v8 : IVec S16 32) (v11 : IVec S16 32) (v14 : IVec S16 32) (v15 : IVec S16 32) (v16 : IVec S16 32) (v3154 : IVec S16 32) (k0_hw6 : k0_chk6 v5 v8 v11 v14 v15 v16 v3154), ∀ a x, ((![v16, v3154, v11] : Fin 3 → IVec S16 32) a x).toNat < S2x64x64.size a := fun v5 v8 v11 v14 v15 v16 v3154 k0_hw6 => k0_hw6.2.2.2.2.2.1
theorem k0_idx47_inb : ∀ (v5 : IVec S16 32) (v8 : IVec S16 32) (v11 : IVec S16 32) (v14 : IVec S16 32) (v15 : IVec S16 32) (v16 : IVec S16 32) (v3154 : IVec S16 32) (k0_hw6 : k0_chk6 v5 v8 v11 v14 v15 v16 v3154), ∀ a x, ((![v16, v3154, v8] : Fin 3 → IVec S16 32) a x).toNat < S2x64x64.size a := fun v5 v8 v11 v14 v15 v16 v3154 k0_hw6 => k0_hw6.2.2.2.2.2.2.1
theorem k0_idx48_inb : ∀ (v5 : IVec S16 32) (v8 : IVec S16 32) (v11 : IVec S16 32) (v14 : IVec S16 32) (v15 : IVec S16 32) (v16 : IVec S16 32) (v3154 : IVec S16 32) (k0_hw6 : k0_chk6 v5 v8 v11 v14 v15 v16 v3154), ∀ a x, ((![v16, v3154, v5] : Fin 3 → IVec S16 32) a x).toNat < S2x64x64.size a := fun v5 v8 v11 v14 v15 v16 v3154 k0_hw6 => k0_hw6.2.2.2.2.2.2.2
def k0_off56 (k0_t6 : Fin k0_t6_loop.trips) : Fin 4 → Nat :=
  let c2_i32_5358 : BitVec 32 := 2#32
  let v3203 : Index := Scalar.indexCast c2_i32_5358
  let c1_i32_5359 : BitVec 32 := 1#32
  let v3204 : Index := Scalar.indexCast c1_i32_5359
  let c0_i32_5325 : BitVec 32 := 0#32
  let c0_i32_318 : BitVec 32 := 0#32
  let c1_i32_320 : BitVec 32 := 1#32
  let arg17 : BitVec 32 := Scf.iv c0_i32_318 c1_i32_320 k0_t6
  let c1_i32_5324 : BitVec 32 := 1#32
  let v3152 : BitVec 32 := Scalar.muli arg17 c1_i32_5324
  let v3153 : BitVec 32 := Scalar.addi c0_i32_5325 v3152
  let v3205 : Index := Scalar.indexCast v3153
  let c0_5360 : Index := 0#32
  ![2, 1, v3205.toNat, 0]
def k0_off57 (k0_t6 : Fin k0_t6_loop.trips) : Fin 4 → Nat :=
  let c2_i32_5361 : BitVec 32 := 2#32
  let v3209 : Index := Scalar.indexCast c2_i32_5361
  let c1_i32_5362 : BitVec 32 := 1#32
  let v3210 : Index := Scalar.indexCast c1_i32_5362
  let c0_i32_5325 : BitVec 32 := 0#32
  let c0_i32_318 : BitVec 32 := 0#32
  let c1_i32_320 : BitVec 32 := 1#32
  let arg17 : BitVec 32 := Scf.iv c0_i32_318 c1_i32_320 k0_t6
  let c1_i32_5324 : BitVec 32 := 1#32
  let v3152 : BitVec 32 := Scalar.muli arg17 c1_i32_5324
  let v3153 : BitVec 32 := Scalar.addi c0_i32_5325 v3152
  let v3211 : Index := Scalar.indexCast v3153
  let c16_5363 : Index := 16#32
  ![2, 1, v3211.toNat, 16]
def k0_off58 (k0_t6 : Fin k0_t6_loop.trips) : Fin 4 → Nat :=
  let c2_i32_5364 : BitVec 32 := 2#32
  let v3215 : Index := Scalar.indexCast c2_i32_5364
  let c1_i32_5365 : BitVec 32 := 1#32
  let v3216 : Index := Scalar.indexCast c1_i32_5365
  let c0_i32_5325 : BitVec 32 := 0#32
  let c0_i32_318 : BitVec 32 := 0#32
  let c1_i32_320 : BitVec 32 := 1#32
  let arg17 : BitVec 32 := Scf.iv c0_i32_318 c1_i32_320 k0_t6
  let c1_i32_5324 : BitVec 32 := 1#32
  let v3152 : BitVec 32 := Scalar.muli arg17 c1_i32_5324
  let v3153 : BitVec 32 := Scalar.addi c0_i32_5325 v3152
  let v3217 : Index := Scalar.indexCast v3153
  let c32_5366 : Index := 32#32
  ![2, 1, v3217.toNat, 32]
def k0_off59 (k0_t6 : Fin k0_t6_loop.trips) : Fin 4 → Nat :=
  let c2_i32_5367 : BitVec 32 := 2#32
  let v3221 : Index := Scalar.indexCast c2_i32_5367
  let c1_i32_5368 : BitVec 32 := 1#32
  let v3222 : Index := Scalar.indexCast c1_i32_5368
  let c0_i32_5325 : BitVec 32 := 0#32
  let c0_i32_318 : BitVec 32 := 0#32
  let c1_i32_320 : BitVec 32 := 1#32
  let arg17 : BitVec 32 := Scf.iv c0_i32_318 c1_i32_320 k0_t6
  let c1_i32_5324 : BitVec 32 := 1#32
  let v3152 : BitVec 32 := Scalar.muli arg17 c1_i32_5324
  let v3153 : BitVec 32 := Scalar.addi c0_i32_5325 v3152
  let v3223 : Index := Scalar.indexCast v3153
  let c48_5369 : Index := 48#32
  ![2, 1, v3223.toNat, 48]
def k0_off60 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_323 : BitVec 32 := 1#32
  let c0_i32_327 : BitVec 32 := 0#32
  let c0_i32_328 : BitVec 32 := 0#32
  ![v2.toNat, 1, 0, 0]
@[reducible] def k0_t7_loop : Scf.Loop 32 :=
  let c0_i32_374 : BitVec 32 := 0#32
  let c64_i32_375 : BitVec 32 := 64#32
  let v239 : BitVec 32 := Scalar.addi c0_i32_374 c64_i32_375
  let c1_i32_376 : BitVec 32 := 1#32
  ⟨c0_i32_374, v239, c1_i32_376⟩
def k0_off61 (k0_t7 : Fin k0_t7_loop.trips) : Fin 4 → Nat :=
  let c0_i32_5341 : BitVec 32 := 0#32
  let v3175 : Index := Scalar.indexCast c0_i32_5341
  let c0_i32_5342 : BitVec 32 := 0#32
  let v3176 : Index := Scalar.indexCast c0_i32_5342
  let c0_i32_5325 : BitVec 32 := 0#32
  let c0_i32_374 : BitVec 32 := 0#32
  let c1_i32_376 : BitVec 32 := 1#32
  let arg17 : BitVec 32 := Scf.iv c0_i32_374 c1_i32_376 k0_t7
  let c1_i32_5324 : BitVec 32 := 1#32
  let v3152 : BitVec 32 := Scalar.muli arg17 c1_i32_5324
  let v3153 : BitVec 32 := Scalar.addi c0_i32_5325 v3152
  let v3177 : Index := Scalar.indexCast v3153
  let c0 : Index := 0#32
  ![0, 0, v3177.toNat, 0]
def k0_off62 (k0_t7 : Fin k0_t7_loop.trips) : Fin 4 → Nat :=
  let c0_i32_5343 : BitVec 32 := 0#32
  let v3181 : Index := Scalar.indexCast c0_i32_5343
  let c0_i32_5344 : BitVec 32 := 0#32
  let v3182 : Index := Scalar.indexCast c0_i32_5344
  let c0_i32_5325 : BitVec 32 := 0#32
  let c0_i32_374 : BitVec 32 := 0#32
  let c1_i32_376 : BitVec 32 := 1#32
  let arg17 : BitVec 32 := Scf.iv c0_i32_374 c1_i32_376 k0_t7
  let c1_i32_5324 : BitVec 32 := 1#32
  let v3152 : BitVec 32 := Scalar.muli arg17 c1_i32_5324
  let v3153 : BitVec 32 := Scalar.addi c0_i32_5325 v3152
  let v3183 : Index := Scalar.indexCast v3153
  let c16 : Index := 16#32
  ![0, 0, v3183.toNat, 16]
def k0_off63 (k0_t7 : Fin k0_t7_loop.trips) : Fin 4 → Nat :=
  let c0_i32_5345 : BitVec 32 := 0#32
  let v3187 : Index := Scalar.indexCast c0_i32_5345
  let c0_i32_5346 : BitVec 32 := 0#32
  let v3188 : Index := Scalar.indexCast c0_i32_5346
  let c0_i32_5325 : BitVec 32 := 0#32
  let c0_i32_374 : BitVec 32 := 0#32
  let c1_i32_376 : BitVec 32 := 1#32
  let arg17 : BitVec 32 := Scf.iv c0_i32_374 c1_i32_376 k0_t7
  let c1_i32_5324 : BitVec 32 := 1#32
  let v3152 : BitVec 32 := Scalar.muli arg17 c1_i32_5324
  let v3153 : BitVec 32 := Scalar.addi c0_i32_5325 v3152
  let v3189 : Index := Scalar.indexCast v3153
  let c32 : Index := 32#32
  ![0, 0, v3189.toNat, 32]
def k0_off64 (k0_t7 : Fin k0_t7_loop.trips) : Fin 4 → Nat :=
  let c0_i32_5347 : BitVec 32 := 0#32
  let v3193 : Index := Scalar.indexCast c0_i32_5347
  let c0_i32_5348 : BitVec 32 := 0#32
  let v3194 : Index := Scalar.indexCast c0_i32_5348
  let c0_i32_5325 : BitVec 32 := 0#32
  let c0_i32_374 : BitVec 32 := 0#32
  let c1_i32_376 : BitVec 32 := 1#32
  let arg17 : BitVec 32 := Scf.iv c0_i32_374 c1_i32_376 k0_t7
  let c1_i32_5324 : BitVec 32 := 1#32
  let v3152 : BitVec 32 := Scalar.muli arg17 c1_i32_5324
  let v3153 : BitVec 32 := Scalar.addi c0_i32_5325 v3152
  let v3195 : Index := Scalar.indexCast v3153
  let c48 : Index := 48#32
  ![0, 0, v3195.toNat, 48]

def k0_chk7 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx49_inb : ∀ (v5 : IVec S16 32) (v8 : IVec S16 32) (v11 : IVec S16 32) (v14 : IVec S16 32) (v15 : IVec S16 32) (v16 : IVec S16 32) (v3154 : IVec S16 32) (k0_hw7 : k0_chk7 v5 v8 v11 v14 v15 v16 v3154), ∀ a x, ((![v15, v3154, v14] : Fin 3 → IVec S16 32) a x).toNat < S2x64x64.size a := fun v5 v8 v11 v14 v15 v16 v3154 k0_hw7 => k0_hw7.1
theorem k0_idx50_inb : ∀ (v5 : IVec S16 32) (v8 : IVec S16 32) (v11 : IVec S16 32) (v14 : IVec S16 32) (v15 : IVec S16 32) (v16 : IVec S16 32) (v3154 : IVec S16 32) (k0_hw7 : k0_chk7 v5 v8 v11 v14 v15 v16 v3154), ∀ a x, ((![v15, v3154, v11] : Fin 3 → IVec S16 32) a x).toNat < S2x64x64.size a := fun v5 v8 v11 v14 v15 v16 v3154 k0_hw7 => k0_hw7.2.1
theorem k0_idx51_inb : ∀ (v5 : IVec S16 32) (v8 : IVec S16 32) (v11 : IVec S16 32) (v14 : IVec S16 32) (v15 : IVec S16 32) (v16 : IVec S16 32) (v3154 : IVec S16 32) (k0_hw7 : k0_chk7 v5 v8 v11 v14 v15 v16 v3154), ∀ a x, ((![v15, v3154, v8] : Fin 3 → IVec S16 32) a x).toNat < S2x64x64.size a := fun v5 v8 v11 v14 v15 v16 v3154 k0_hw7 => k0_hw7.2.2.1
theorem k0_idx52_inb : ∀ (v5 : IVec S16 32) (v8 : IVec S16 32) (v11 : IVec S16 32) (v14 : IVec S16 32) (v15 : IVec S16 32) (v16 : IVec S16 32) (v3154 : IVec S16 32) (k0_hw7 : k0_chk7 v5 v8 v11 v14 v15 v16 v3154), ∀ a x, ((![v15, v3154, v5] : Fin 3 → IVec S16 32) a x).toNat < S2x64x64.size a := fun v5 v8 v11 v14 v15 v16 v3154 k0_hw7 => k0_hw7.2.2.2.1
theorem k0_idx53_inb : ∀ (v5 : IVec S16 32) (v8 : IVec S16 32) (v11 : IVec S16 32) (v14 : IVec S16 32) (v15 : IVec S16 32) (v16 : IVec S16 32) (v3154 : IVec S16 32) (k0_hw7 : k0_chk7 v5 v8 v11 v14 v15 v16 v3154), ∀ a x, ((![v16, v3154, v14] : Fin 3 → IVec S16 32) a x).toNat < S2x64x64.size a := fun v5 v8 v11 v14 v15 v16 v3154 k0_hw7 => k0_hw7.2.2.2.2.1
theorem k0_idx54_inb : ∀ (v5 : IVec S16 32) (v8 : IVec S16 32) (v11 : IVec S16 32) (v14 : IVec S16 32) (v15 : IVec S16 32) (v16 : IVec S16 32) (v3154 : IVec S16 32) (k0_hw7 : k0_chk7 v5 v8 v11 v14 v15 v16 v3154), ∀ a x, ((![v16, v3154, v11] : Fin 3 → IVec S16 32) a x).toNat < S2x64x64.size a := fun v5 v8 v11 v14 v15 v16 v3154 k0_hw7 => k0_hw7.2.2.2.2.2.1
theorem k0_idx55_inb : ∀ (v5 : IVec S16 32) (v8 : IVec S16 32) (v11 : IVec S16 32) (v14 : IVec S16 32) (v15 : IVec S16 32) (v16 : IVec S16 32) (v3154 : IVec S16 32) (k0_hw7 : k0_chk7 v5 v8 v11 v14 v15 v16 v3154), ∀ a x, ((![v16, v3154, v8] : Fin 3 → IVec S16 32) a x).toNat < S2x64x64.size a := fun v5 v8 v11 v14 v15 v16 v3154 k0_hw7 => k0_hw7.2.2.2.2.2.2.1
theorem k0_idx56_inb : ∀ (v5 : IVec S16 32) (v8 : IVec S16 32) (v11 : IVec S16 32) (v14 : IVec S16 32) (v15 : IVec S16 32) (v16 : IVec S16 32) (v3154 : IVec S16 32) (k0_hw7 : k0_chk7 v5 v8 v11 v14 v15 v16 v3154), ∀ a x, ((![v16, v3154, v5] : Fin 3 → IVec S16 32) a x).toNat < S2x64x64.size a := fun v5 v8 v11 v14 v15 v16 v3154 k0_hw7 => k0_hw7.2.2.2.2.2.2.2
def k0_off65 (k0_t7 : Fin k0_t7_loop.trips) : Fin 4 → Nat :=
  let c0_i32_5365 : BitVec 32 := 0#32
  let v3219 : Index := Scalar.indexCast c0_i32_5365
  let c1_i32_5366 : BitVec 32 := 1#32
  let v3220 : Index := Scalar.indexCast c1_i32_5366
  let c0_i32_5325 : BitVec 32 := 0#32
  let c0_i32_374 : BitVec 32 := 0#32
  let c1_i32_376 : BitVec 32 := 1#32
  let arg17 : BitVec 32 := Scf.iv c0_i32_374 c1_i32_376 k0_t7
  let c1_i32_5324 : BitVec 32 := 1#32
  let v3152 : BitVec 32 := Scalar.muli arg17 c1_i32_5324
  let v3153 : BitVec 32 := Scalar.addi c0_i32_5325 v3152
  let v3221 : Index := Scalar.indexCast v3153
  let c0_5367 : Index := 0#32
  ![0, 1, v3221.toNat, 0]
def k0_off66 (k0_t7 : Fin k0_t7_loop.trips) : Fin 4 → Nat :=
  let c0_i32_5368 : BitVec 32 := 0#32
  let v3225 : Index := Scalar.indexCast c0_i32_5368
  let c1_i32_5369 : BitVec 32 := 1#32
  let v3226 : Index := Scalar.indexCast c1_i32_5369
  let c0_i32_5325 : BitVec 32 := 0#32
  let c0_i32_374 : BitVec 32 := 0#32
  let c1_i32_376 : BitVec 32 := 1#32
  let arg17 : BitVec 32 := Scf.iv c0_i32_374 c1_i32_376 k0_t7
  let c1_i32_5324 : BitVec 32 := 1#32
  let v3152 : BitVec 32 := Scalar.muli arg17 c1_i32_5324
  let v3153 : BitVec 32 := Scalar.addi c0_i32_5325 v3152
  let v3227 : Index := Scalar.indexCast v3153
  let c16_5370 : Index := 16#32
  ![0, 1, v3227.toNat, 16]
def k0_off67 (k0_t7 : Fin k0_t7_loop.trips) : Fin 4 → Nat :=
  let c0_i32_5371 : BitVec 32 := 0#32
  let v3231 : Index := Scalar.indexCast c0_i32_5371
  let c1_i32_5372 : BitVec 32 := 1#32
  let v3232 : Index := Scalar.indexCast c1_i32_5372
  let c0_i32_5325 : BitVec 32 := 0#32
  let c0_i32_374 : BitVec 32 := 0#32
  let c1_i32_376 : BitVec 32 := 1#32
  let arg17 : BitVec 32 := Scf.iv c0_i32_374 c1_i32_376 k0_t7
  let c1_i32_5324 : BitVec 32 := 1#32
  let v3152 : BitVec 32 := Scalar.muli arg17 c1_i32_5324
  let v3153 : BitVec 32 := Scalar.addi c0_i32_5325 v3152
  let v3233 : Index := Scalar.indexCast v3153
  let c32_5373 : Index := 32#32
  ![0, 1, v3233.toNat, 32]
def k0_off68 (k0_t7 : Fin k0_t7_loop.trips) : Fin 4 → Nat :=
  let c0_i32_5374 : BitVec 32 := 0#32
  let v3237 : Index := Scalar.indexCast c0_i32_5374
  let c1_i32_5375 : BitVec 32 := 1#32
  let v3238 : Index := Scalar.indexCast c1_i32_5375
  let c0_i32_5325 : BitVec 32 := 0#32
  let c0_i32_374 : BitVec 32 := 0#32
  let c1_i32_376 : BitVec 32 := 1#32
  let arg17 : BitVec 32 := Scf.iv c0_i32_374 c1_i32_376 k0_t7
  let c1_i32_5324 : BitVec 32 := 1#32
  let v3152 : BitVec 32 := Scalar.muli arg17 c1_i32_5324
  let v3153 : BitVec 32 := Scalar.addi c0_i32_5325 v3152
  let v3239 : Index := Scalar.indexCast v3153
  let c48_5376 : Index := 48#32
  ![0, 1, v3239.toNat, 48]
def k0_off69 (i : grid0.Coords) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_379 : BitVec 32 := 1#32
  let c0_i32_380 : BitVec 32 := 0#32
  let c0_i32_384 : BitVec 32 := 0#32
  let c0_i32_385 : BitVec 32 := 0#32
  ![v2.toNat, 1, 0, 0, 0]
@[reducible] def k0_t8_loop : Scf.Loop 32 :=
  let c0_i32_430 : BitVec 32 := 0#32
  let c64_i32_431 : BitVec 32 := 64#32
  let v272 : BitVec 32 := Scalar.addi c0_i32_430 c64_i32_431
  let c1_i32_432 : BitVec 32 := 1#32
  ⟨c0_i32_430, v272, c1_i32_432⟩
def k0_off70 (k0_t8 : Fin k0_t8_loop.trips) : Fin 4 → Nat :=
  let c1_i32_5341 : BitVec 32 := 1#32
  let v3175 : Index := Scalar.indexCast c1_i32_5341
  let c0_i32_5342 : BitVec 32 := 0#32
  let v3176 : Index := Scalar.indexCast c0_i32_5342
  let c0_i32_5325 : BitVec 32 := 0#32
  let c0_i32_430 : BitVec 32 := 0#32
  let c1_i32_432 : BitVec 32 := 1#32
  let arg17 : BitVec 32 := Scf.iv c0_i32_430 c1_i32_432 k0_t8
  let c1_i32_5324 : BitVec 32 := 1#32
  let v3152 : BitVec 32 := Scalar.muli arg17 c1_i32_5324
  let v3153 : BitVec 32 := Scalar.addi c0_i32_5325 v3152
  let v3177 : Index := Scalar.indexCast v3153
  let c0 : Index := 0#32
  ![1, 0, v3177.toNat, 0]
def k0_off71 (k0_t8 : Fin k0_t8_loop.trips) : Fin 4 → Nat :=
  let c1_i32_5343 : BitVec 32 := 1#32
  let v3181 : Index := Scalar.indexCast c1_i32_5343
  let c0_i32_5344 : BitVec 32 := 0#32
  let v3182 : Index := Scalar.indexCast c0_i32_5344
  let c0_i32_5325 : BitVec 32 := 0#32
  let c0_i32_430 : BitVec 32 := 0#32
  let c1_i32_432 : BitVec 32 := 1#32
  let arg17 : BitVec 32 := Scf.iv c0_i32_430 c1_i32_432 k0_t8
  let c1_i32_5324 : BitVec 32 := 1#32
  let v3152 : BitVec 32 := Scalar.muli arg17 c1_i32_5324
  let v3153 : BitVec 32 := Scalar.addi c0_i32_5325 v3152
  let v3183 : Index := Scalar.indexCast v3153
  let c16 : Index := 16#32
  ![1, 0, v3183.toNat, 16]
def k0_off72 (k0_t8 : Fin k0_t8_loop.trips) : Fin 4 → Nat :=
  let c1_i32_5345 : BitVec 32 := 1#32
  let v3187 : Index := Scalar.indexCast c1_i32_5345
  let c0_i32_5346 : BitVec 32 := 0#32
  let v3188 : Index := Scalar.indexCast c0_i32_5346
  let c0_i32_5325 : BitVec 32 := 0#32
  let c0_i32_430 : BitVec 32 := 0#32
  let c1_i32_432 : BitVec 32 := 1#32
  let arg17 : BitVec 32 := Scf.iv c0_i32_430 c1_i32_432 k0_t8
  let c1_i32_5324 : BitVec 32 := 1#32
  let v3152 : BitVec 32 := Scalar.muli arg17 c1_i32_5324
  let v3153 : BitVec 32 := Scalar.addi c0_i32_5325 v3152
  let v3189 : Index := Scalar.indexCast v3153
  let c32 : Index := 32#32
  ![1, 0, v3189.toNat, 32]
def k0_off73 (k0_t8 : Fin k0_t8_loop.trips) : Fin 4 → Nat :=
  let c1_i32_5347 : BitVec 32 := 1#32
  let v3193 : Index := Scalar.indexCast c1_i32_5347
  let c0_i32_5348 : BitVec 32 := 0#32
  let v3194 : Index := Scalar.indexCast c0_i32_5348
  let c0_i32_5325 : BitVec 32 := 0#32
  let c0_i32_430 : BitVec 32 := 0#32
  let c1_i32_432 : BitVec 32 := 1#32
  let arg17 : BitVec 32 := Scf.iv c0_i32_430 c1_i32_432 k0_t8
  let c1_i32_5324 : BitVec 32 := 1#32
  let v3152 : BitVec 32 := Scalar.muli arg17 c1_i32_5324
  let v3153 : BitVec 32 := Scalar.addi c0_i32_5325 v3152
  let v3195 : Index := Scalar.indexCast v3153
  let c48 : Index := 48#32
  ![1, 0, v3195.toNat, 48]

def k0_chk8 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx57_inb : ∀ (v5 : IVec S16 32) (v8 : IVec S16 32) (v11 : IVec S16 32) (v14 : IVec S16 32) (v15 : IVec S16 32) (v16 : IVec S16 32) (v3154 : IVec S16 32) (k0_hw8 : k0_chk8 v5 v8 v11 v14 v15 v16 v3154), ∀ a x, ((![v15, v3154, v14] : Fin 3 → IVec S16 32) a x).toNat < S2x64x64.size a := fun v5 v8 v11 v14 v15 v16 v3154 k0_hw8 => k0_hw8.1
theorem k0_idx58_inb : ∀ (v5 : IVec S16 32) (v8 : IVec S16 32) (v11 : IVec S16 32) (v14 : IVec S16 32) (v15 : IVec S16 32) (v16 : IVec S16 32) (v3154 : IVec S16 32) (k0_hw8 : k0_chk8 v5 v8 v11 v14 v15 v16 v3154), ∀ a x, ((![v15, v3154, v11] : Fin 3 → IVec S16 32) a x).toNat < S2x64x64.size a := fun v5 v8 v11 v14 v15 v16 v3154 k0_hw8 => k0_hw8.2.1
theorem k0_idx59_inb : ∀ (v5 : IVec S16 32) (v8 : IVec S16 32) (v11 : IVec S16 32) (v14 : IVec S16 32) (v15 : IVec S16 32) (v16 : IVec S16 32) (v3154 : IVec S16 32) (k0_hw8 : k0_chk8 v5 v8 v11 v14 v15 v16 v3154), ∀ a x, ((![v15, v3154, v8] : Fin 3 → IVec S16 32) a x).toNat < S2x64x64.size a := fun v5 v8 v11 v14 v15 v16 v3154 k0_hw8 => k0_hw8.2.2.1
theorem k0_idx60_inb : ∀ (v5 : IVec S16 32) (v8 : IVec S16 32) (v11 : IVec S16 32) (v14 : IVec S16 32) (v15 : IVec S16 32) (v16 : IVec S16 32) (v3154 : IVec S16 32) (k0_hw8 : k0_chk8 v5 v8 v11 v14 v15 v16 v3154), ∀ a x, ((![v15, v3154, v5] : Fin 3 → IVec S16 32) a x).toNat < S2x64x64.size a := fun v5 v8 v11 v14 v15 v16 v3154 k0_hw8 => k0_hw8.2.2.2.1
theorem k0_idx61_inb : ∀ (v5 : IVec S16 32) (v8 : IVec S16 32) (v11 : IVec S16 32) (v14 : IVec S16 32) (v15 : IVec S16 32) (v16 : IVec S16 32) (v3154 : IVec S16 32) (k0_hw8 : k0_chk8 v5 v8 v11 v14 v15 v16 v3154), ∀ a x, ((![v16, v3154, v14] : Fin 3 → IVec S16 32) a x).toNat < S2x64x64.size a := fun v5 v8 v11 v14 v15 v16 v3154 k0_hw8 => k0_hw8.2.2.2.2.1
theorem k0_idx62_inb : ∀ (v5 : IVec S16 32) (v8 : IVec S16 32) (v11 : IVec S16 32) (v14 : IVec S16 32) (v15 : IVec S16 32) (v16 : IVec S16 32) (v3154 : IVec S16 32) (k0_hw8 : k0_chk8 v5 v8 v11 v14 v15 v16 v3154), ∀ a x, ((![v16, v3154, v11] : Fin 3 → IVec S16 32) a x).toNat < S2x64x64.size a := fun v5 v8 v11 v14 v15 v16 v3154 k0_hw8 => k0_hw8.2.2.2.2.2.1
theorem k0_idx63_inb : ∀ (v5 : IVec S16 32) (v8 : IVec S16 32) (v11 : IVec S16 32) (v14 : IVec S16 32) (v15 : IVec S16 32) (v16 : IVec S16 32) (v3154 : IVec S16 32) (k0_hw8 : k0_chk8 v5 v8 v11 v14 v15 v16 v3154), ∀ a x, ((![v16, v3154, v8] : Fin 3 → IVec S16 32) a x).toNat < S2x64x64.size a := fun v5 v8 v11 v14 v15 v16 v3154 k0_hw8 => k0_hw8.2.2.2.2.2.2.1
theorem k0_idx64_inb : ∀ (v5 : IVec S16 32) (v8 : IVec S16 32) (v11 : IVec S16 32) (v14 : IVec S16 32) (v15 : IVec S16 32) (v16 : IVec S16 32) (v3154 : IVec S16 32) (k0_hw8 : k0_chk8 v5 v8 v11 v14 v15 v16 v3154), ∀ a x, ((![v16, v3154, v5] : Fin 3 → IVec S16 32) a x).toNat < S2x64x64.size a := fun v5 v8 v11 v14 v15 v16 v3154 k0_hw8 => k0_hw8.2.2.2.2.2.2.2
def k0_off74 (k0_t8 : Fin k0_t8_loop.trips) : Fin 4 → Nat :=
  let c1_i32_5365 : BitVec 32 := 1#32
  let v3219 : Index := Scalar.indexCast c1_i32_5365
  let c1_i32_5366 : BitVec 32 := 1#32
  let v3220 : Index := Scalar.indexCast c1_i32_5366
  let c0_i32_5325 : BitVec 32 := 0#32
  let c0_i32_430 : BitVec 32 := 0#32
  let c1_i32_432 : BitVec 32 := 1#32
  let arg17 : BitVec 32 := Scf.iv c0_i32_430 c1_i32_432 k0_t8
  let c1_i32_5324 : BitVec 32 := 1#32
  let v3152 : BitVec 32 := Scalar.muli arg17 c1_i32_5324
  let v3153 : BitVec 32 := Scalar.addi c0_i32_5325 v3152
  let v3221 : Index := Scalar.indexCast v3153
  let c0_5367 : Index := 0#32
  ![1, 1, v3221.toNat, 0]
def k0_off75 (k0_t8 : Fin k0_t8_loop.trips) : Fin 4 → Nat :=
  let c1_i32_5368 : BitVec 32 := 1#32
  let v3225 : Index := Scalar.indexCast c1_i32_5368
  let c1_i32_5369 : BitVec 32 := 1#32
  let v3226 : Index := Scalar.indexCast c1_i32_5369
  let c0_i32_5325 : BitVec 32 := 0#32
  let c0_i32_430 : BitVec 32 := 0#32
  let c1_i32_432 : BitVec 32 := 1#32
  let arg17 : BitVec 32 := Scf.iv c0_i32_430 c1_i32_432 k0_t8
  let c1_i32_5324 : BitVec 32 := 1#32
  let v3152 : BitVec 32 := Scalar.muli arg17 c1_i32_5324
  let v3153 : BitVec 32 := Scalar.addi c0_i32_5325 v3152
  let v3227 : Index := Scalar.indexCast v3153
  let c16_5370 : Index := 16#32
  ![1, 1, v3227.toNat, 16]
def k0_off76 (k0_t8 : Fin k0_t8_loop.trips) : Fin 4 → Nat :=
  let c1_i32_5371 : BitVec 32 := 1#32
  let v3231 : Index := Scalar.indexCast c1_i32_5371
  let c1_i32_5372 : BitVec 32 := 1#32
  let v3232 : Index := Scalar.indexCast c1_i32_5372
  let c0_i32_5325 : BitVec 32 := 0#32
  let c0_i32_430 : BitVec 32 := 0#32
  let c1_i32_432 : BitVec 32 := 1#32
  let arg17 : BitVec 32 := Scf.iv c0_i32_430 c1_i32_432 k0_t8
  let c1_i32_5324 : BitVec 32 := 1#32
  let v3152 : BitVec 32 := Scalar.muli arg17 c1_i32_5324
  let v3153 : BitVec 32 := Scalar.addi c0_i32_5325 v3152
  let v3233 : Index := Scalar.indexCast v3153
  let c32_5373 : Index := 32#32
  ![1, 1, v3233.toNat, 32]
def k0_off77 (k0_t8 : Fin k0_t8_loop.trips) : Fin 4 → Nat :=
  let c1_i32_5374 : BitVec 32 := 1#32
  let v3237 : Index := Scalar.indexCast c1_i32_5374
  let c1_i32_5375 : BitVec 32 := 1#32
  let v3238 : Index := Scalar.indexCast c1_i32_5375
  let c0_i32_5325 : BitVec 32 := 0#32
  let c0_i32_430 : BitVec 32 := 0#32
  let c1_i32_432 : BitVec 32 := 1#32
  let arg17 : BitVec 32 := Scf.iv c0_i32_430 c1_i32_432 k0_t8
  let c1_i32_5324 : BitVec 32 := 1#32
  let v3152 : BitVec 32 := Scalar.muli arg17 c1_i32_5324
  let v3153 : BitVec 32 := Scalar.addi c0_i32_5325 v3152
  let v3239 : Index := Scalar.indexCast v3153
  let c48_5376 : Index := 48#32
  ![1, 1, v3239.toNat, 48]
@[reducible] def k0_t9_loop : Scf.Loop 32 :=
  let c0_i32_486 : BitVec 32 := 0#32
  let c64_i32_487 : BitVec 32 := 64#32
  let v305 : BitVec 32 := Scalar.addi c0_i32_486 c64_i32_487
  let c1_i32_488 : BitVec 32 := 1#32
  ⟨c0_i32_486, v305, c1_i32_488⟩
def k0_off78 (k0_t9 : Fin k0_t9_loop.trips) : Fin 4 → Nat :=
  let c2_i32_5338 : BitVec 32 := 2#32
  let v3167 : Index := Scalar.indexCast c2_i32_5338
  let c0_i32_5339 : BitVec 32 := 0#32
  let v3168 : Index := Scalar.indexCast c0_i32_5339
  let c0_i32_5325 : BitVec 32 := 0#32
  let c0_i32_486 : BitVec 32 := 0#32
  let c1_i32_488 : BitVec 32 := 1#32
  let arg17 : BitVec 32 := Scf.iv c0_i32_486 c1_i32_488 k0_t9
  let c1_i32_5324 : BitVec 32 := 1#32
  let v3152 : BitVec 32 := Scalar.muli arg17 c1_i32_5324
  let v3153 : BitVec 32 := Scalar.addi c0_i32_5325 v3152
  let v3169 : Index := Scalar.indexCast v3153
  let c0 : Index := 0#32
  ![2, 0, v3169.toNat, 0]
def k0_off79 (k0_t9 : Fin k0_t9_loop.trips) : Fin 4 → Nat :=
  let c2_i32_5340 : BitVec 32 := 2#32
  let v3173 : Index := Scalar.indexCast c2_i32_5340
  let c0_i32_5341 : BitVec 32 := 0#32
  let v3174 : Index := Scalar.indexCast c0_i32_5341
  let c0_i32_5325 : BitVec 32 := 0#32
  let c0_i32_486 : BitVec 32 := 0#32
  let c1_i32_488 : BitVec 32 := 1#32
  let arg17 : BitVec 32 := Scf.iv c0_i32_486 c1_i32_488 k0_t9
  let c1_i32_5324 : BitVec 32 := 1#32
  let v3152 : BitVec 32 := Scalar.muli arg17 c1_i32_5324
  let v3153 : BitVec 32 := Scalar.addi c0_i32_5325 v3152
  let v3175 : Index := Scalar.indexCast v3153
  let c16 : Index := 16#32
  ![2, 0, v3175.toNat, 16]
def k0_off80 (k0_t9 : Fin k0_t9_loop.trips) : Fin 4 → Nat :=
  let c2_i32_5342 : BitVec 32 := 2#32
  let v3179 : Index := Scalar.indexCast c2_i32_5342
  let c0_i32_5343 : BitVec 32 := 0#32
  let v3180 : Index := Scalar.indexCast c0_i32_5343
  let c0_i32_5325 : BitVec 32 := 0#32
  let c0_i32_486 : BitVec 32 := 0#32
  let c1_i32_488 : BitVec 32 := 1#32
  let arg17 : BitVec 32 := Scf.iv c0_i32_486 c1_i32_488 k0_t9
  let c1_i32_5324 : BitVec 32 := 1#32
  let v3152 : BitVec 32 := Scalar.muli arg17 c1_i32_5324
  let v3153 : BitVec 32 := Scalar.addi c0_i32_5325 v3152
  let v3181 : Index := Scalar.indexCast v3153
  let c32 : Index := 32#32
  ![2, 0, v3181.toNat, 32]
def k0_off81 (k0_t9 : Fin k0_t9_loop.trips) : Fin 4 → Nat :=
  let c2_i32_5344 : BitVec 32 := 2#32
  let v3185 : Index := Scalar.indexCast c2_i32_5344
  let c0_i32_5345 : BitVec 32 := 0#32
  let v3186 : Index := Scalar.indexCast c0_i32_5345
  let c0_i32_5325 : BitVec 32 := 0#32
  let c0_i32_486 : BitVec 32 := 0#32
  let c1_i32_488 : BitVec 32 := 1#32
  let arg17 : BitVec 32 := Scf.iv c0_i32_486 c1_i32_488 k0_t9
  let c1_i32_5324 : BitVec 32 := 1#32
  let v3152 : BitVec 32 := Scalar.muli arg17 c1_i32_5324
  let v3153 : BitVec 32 := Scalar.addi c0_i32_5325 v3152
  let v3187 : Index := Scalar.indexCast v3153
  let c48 : Index := 48#32
  ![2, 0, v3187.toNat, 48]

def k0_chk9 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx65_inb : ∀ (v5 : IVec S16 32) (v8 : IVec S16 32) (v11 : IVec S16 32) (v14 : IVec S16 32) (v15 : IVec S16 32) (v16 : IVec S16 32) (v3154 : IVec S16 32) (k0_hw9 : k0_chk9 v5 v8 v11 v14 v15 v16 v3154), ∀ a x, ((![v15, v3154, v14] : Fin 3 → IVec S16 32) a x).toNat < S2x64x64.size a := fun v5 v8 v11 v14 v15 v16 v3154 k0_hw9 => k0_hw9.1
theorem k0_idx66_inb : ∀ (v5 : IVec S16 32) (v8 : IVec S16 32) (v11 : IVec S16 32) (v14 : IVec S16 32) (v15 : IVec S16 32) (v16 : IVec S16 32) (v3154 : IVec S16 32) (k0_hw9 : k0_chk9 v5 v8 v11 v14 v15 v16 v3154), ∀ a x, ((![v15, v3154, v11] : Fin 3 → IVec S16 32) a x).toNat < S2x64x64.size a := fun v5 v8 v11 v14 v15 v16 v3154 k0_hw9 => k0_hw9.2.1
theorem k0_idx67_inb : ∀ (v5 : IVec S16 32) (v8 : IVec S16 32) (v11 : IVec S16 32) (v14 : IVec S16 32) (v15 : IVec S16 32) (v16 : IVec S16 32) (v3154 : IVec S16 32) (k0_hw9 : k0_chk9 v5 v8 v11 v14 v15 v16 v3154), ∀ a x, ((![v15, v3154, v8] : Fin 3 → IVec S16 32) a x).toNat < S2x64x64.size a := fun v5 v8 v11 v14 v15 v16 v3154 k0_hw9 => k0_hw9.2.2.1
theorem k0_idx68_inb : ∀ (v5 : IVec S16 32) (v8 : IVec S16 32) (v11 : IVec S16 32) (v14 : IVec S16 32) (v15 : IVec S16 32) (v16 : IVec S16 32) (v3154 : IVec S16 32) (k0_hw9 : k0_chk9 v5 v8 v11 v14 v15 v16 v3154), ∀ a x, ((![v15, v3154, v5] : Fin 3 → IVec S16 32) a x).toNat < S2x64x64.size a := fun v5 v8 v11 v14 v15 v16 v3154 k0_hw9 => k0_hw9.2.2.2.1
theorem k0_idx69_inb : ∀ (v5 : IVec S16 32) (v8 : IVec S16 32) (v11 : IVec S16 32) (v14 : IVec S16 32) (v15 : IVec S16 32) (v16 : IVec S16 32) (v3154 : IVec S16 32) (k0_hw9 : k0_chk9 v5 v8 v11 v14 v15 v16 v3154), ∀ a x, ((![v16, v3154, v14] : Fin 3 → IVec S16 32) a x).toNat < S2x64x64.size a := fun v5 v8 v11 v14 v15 v16 v3154 k0_hw9 => k0_hw9.2.2.2.2.1
theorem k0_idx70_inb : ∀ (v5 : IVec S16 32) (v8 : IVec S16 32) (v11 : IVec S16 32) (v14 : IVec S16 32) (v15 : IVec S16 32) (v16 : IVec S16 32) (v3154 : IVec S16 32) (k0_hw9 : k0_chk9 v5 v8 v11 v14 v15 v16 v3154), ∀ a x, ((![v16, v3154, v11] : Fin 3 → IVec S16 32) a x).toNat < S2x64x64.size a := fun v5 v8 v11 v14 v15 v16 v3154 k0_hw9 => k0_hw9.2.2.2.2.2.1
theorem k0_idx71_inb : ∀ (v5 : IVec S16 32) (v8 : IVec S16 32) (v11 : IVec S16 32) (v14 : IVec S16 32) (v15 : IVec S16 32) (v16 : IVec S16 32) (v3154 : IVec S16 32) (k0_hw9 : k0_chk9 v5 v8 v11 v14 v15 v16 v3154), ∀ a x, ((![v16, v3154, v8] : Fin 3 → IVec S16 32) a x).toNat < S2x64x64.size a := fun v5 v8 v11 v14 v15 v16 v3154 k0_hw9 => k0_hw9.2.2.2.2.2.2.1
theorem k0_idx72_inb : ∀ (v5 : IVec S16 32) (v8 : IVec S16 32) (v11 : IVec S16 32) (v14 : IVec S16 32) (v15 : IVec S16 32) (v16 : IVec S16 32) (v3154 : IVec S16 32) (k0_hw9 : k0_chk9 v5 v8 v11 v14 v15 v16 v3154), ∀ a x, ((![v16, v3154, v5] : Fin 3 → IVec S16 32) a x).toNat < S2x64x64.size a := fun v5 v8 v11 v14 v15 v16 v3154 k0_hw9 => k0_hw9.2.2.2.2.2.2.2
def k0_off82 (k0_t9 : Fin k0_t9_loop.trips) : Fin 4 → Nat :=
  let c2_i32_5358 : BitVec 32 := 2#32
  let v3203 : Index := Scalar.indexCast c2_i32_5358
  let c1_i32_5359 : BitVec 32 := 1#32
  let v3204 : Index := Scalar.indexCast c1_i32_5359
  let c0_i32_5325 : BitVec 32 := 0#32
  let c0_i32_486 : BitVec 32 := 0#32
  let c1_i32_488 : BitVec 32 := 1#32
  let arg17 : BitVec 32 := Scf.iv c0_i32_486 c1_i32_488 k0_t9
  let c1_i32_5324 : BitVec 32 := 1#32
  let v3152 : BitVec 32 := Scalar.muli arg17 c1_i32_5324
  let v3153 : BitVec 32 := Scalar.addi c0_i32_5325 v3152
  let v3205 : Index := Scalar.indexCast v3153
  let c0_5360 : Index := 0#32
  ![2, 1, v3205.toNat, 0]
def k0_off83 (k0_t9 : Fin k0_t9_loop.trips) : Fin 4 → Nat :=
  let c2_i32_5361 : BitVec 32 := 2#32
  let v3209 : Index := Scalar.indexCast c2_i32_5361
  let c1_i32_5362 : BitVec 32 := 1#32
  let v3210 : Index := Scalar.indexCast c1_i32_5362
  let c0_i32_5325 : BitVec 32 := 0#32
  let c0_i32_486 : BitVec 32 := 0#32
  let c1_i32_488 : BitVec 32 := 1#32
  let arg17 : BitVec 32 := Scf.iv c0_i32_486 c1_i32_488 k0_t9
  let c1_i32_5324 : BitVec 32 := 1#32
  let v3152 : BitVec 32 := Scalar.muli arg17 c1_i32_5324
  let v3153 : BitVec 32 := Scalar.addi c0_i32_5325 v3152
  let v3211 : Index := Scalar.indexCast v3153
  let c16_5363 : Index := 16#32
  ![2, 1, v3211.toNat, 16]
def k0_off84 (k0_t9 : Fin k0_t9_loop.trips) : Fin 4 → Nat :=
  let c2_i32_5364 : BitVec 32 := 2#32
  let v3215 : Index := Scalar.indexCast c2_i32_5364
  let c1_i32_5365 : BitVec 32 := 1#32
  let v3216 : Index := Scalar.indexCast c1_i32_5365
  let c0_i32_5325 : BitVec 32 := 0#32
  let c0_i32_486 : BitVec 32 := 0#32
  let c1_i32_488 : BitVec 32 := 1#32
  let arg17 : BitVec 32 := Scf.iv c0_i32_486 c1_i32_488 k0_t9
  let c1_i32_5324 : BitVec 32 := 1#32
  let v3152 : BitVec 32 := Scalar.muli arg17 c1_i32_5324
  let v3153 : BitVec 32 := Scalar.addi c0_i32_5325 v3152
  let v3217 : Index := Scalar.indexCast v3153
  let c32_5366 : Index := 32#32
  ![2, 1, v3217.toNat, 32]
def k0_off85 (k0_t9 : Fin k0_t9_loop.trips) : Fin 4 → Nat :=
  let c2_i32_5367 : BitVec 32 := 2#32
  let v3221 : Index := Scalar.indexCast c2_i32_5367
  let c1_i32_5368 : BitVec 32 := 1#32
  let v3222 : Index := Scalar.indexCast c1_i32_5368
  let c0_i32_5325 : BitVec 32 := 0#32
  let c0_i32_486 : BitVec 32 := 0#32
  let c1_i32_488 : BitVec 32 := 1#32
  let arg17 : BitVec 32 := Scf.iv c0_i32_486 c1_i32_488 k0_t9
  let c1_i32_5324 : BitVec 32 := 1#32
  let v3152 : BitVec 32 := Scalar.muli arg17 c1_i32_5324
  let v3153 : BitVec 32 := Scalar.addi c0_i32_5325 v3152
  let v3223 : Index := Scalar.indexCast v3153
  let c48_5369 : Index := 48#32
  ![2, 1, v3223.toNat, 48]
def k0_off86 (i : grid0.Coords) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_491 : BitVec 32 := 1#32
  let c1_i32_492 : BitVec 32 := 1#32
  let c0_i32_496 : BitVec 32 := 0#32
  let c0_i32_497 : BitVec 32 := 0#32
  ![v2.toNat, 1, 1, 0, 0]
@[reducible] def k0_t10_loop : Scf.Loop 32 :=
  let c0_i32_543 : BitVec 32 := 0#32
  let c64_i32_544 : BitVec 32 := 64#32
  let v338 : BitVec 32 := Scalar.addi c0_i32_543 c64_i32_544
  let c1_i32_545 : BitVec 32 := 1#32
  ⟨c0_i32_543, v338, c1_i32_545⟩
def k0_off87 (k0_t10 : Fin k0_t10_loop.trips) : Fin 4 → Nat :=
  let c0_i32_5338 : BitVec 32 := 0#32
  let v3167 : Index := Scalar.indexCast c0_i32_5338
  let c0_i32_5339 : BitVec 32 := 0#32
  let v3168 : Index := Scalar.indexCast c0_i32_5339
  let c0_i32_5325 : BitVec 32 := 0#32
  let c0_i32_543 : BitVec 32 := 0#32
  let c1_i32_545 : BitVec 32 := 1#32
  let arg17 : BitVec 32 := Scf.iv c0_i32_543 c1_i32_545 k0_t10
  let c1_i32_5324 : BitVec 32 := 1#32
  let v3152 : BitVec 32 := Scalar.muli arg17 c1_i32_5324
  let v3153 : BitVec 32 := Scalar.addi c0_i32_5325 v3152
  let v3169 : Index := Scalar.indexCast v3153
  let c0 : Index := 0#32
  ![0, 0, v3169.toNat, 0]
def k0_off88 (k0_t10 : Fin k0_t10_loop.trips) : Fin 4 → Nat :=
  let c0_i32_5340 : BitVec 32 := 0#32
  let v3173 : Index := Scalar.indexCast c0_i32_5340
  let c0_i32_5341 : BitVec 32 := 0#32
  let v3174 : Index := Scalar.indexCast c0_i32_5341
  let c0_i32_5325 : BitVec 32 := 0#32
  let c0_i32_543 : BitVec 32 := 0#32
  let c1_i32_545 : BitVec 32 := 1#32
  let arg17 : BitVec 32 := Scf.iv c0_i32_543 c1_i32_545 k0_t10
  let c1_i32_5324 : BitVec 32 := 1#32
  let v3152 : BitVec 32 := Scalar.muli arg17 c1_i32_5324
  let v3153 : BitVec 32 := Scalar.addi c0_i32_5325 v3152
  let v3175 : Index := Scalar.indexCast v3153
  let c16 : Index := 16#32
  ![0, 0, v3175.toNat, 16]
def k0_off89 (k0_t10 : Fin k0_t10_loop.trips) : Fin 4 → Nat :=
  let c0_i32_5342 : BitVec 32 := 0#32
  let v3179 : Index := Scalar.indexCast c0_i32_5342
  let c0_i32_5343 : BitVec 32 := 0#32
  let v3180 : Index := Scalar.indexCast c0_i32_5343
  let c0_i32_5325 : BitVec 32 := 0#32
  let c0_i32_543 : BitVec 32 := 0#32
  let c1_i32_545 : BitVec 32 := 1#32
  let arg17 : BitVec 32 := Scf.iv c0_i32_543 c1_i32_545 k0_t10
  let c1_i32_5324 : BitVec 32 := 1#32
  let v3152 : BitVec 32 := Scalar.muli arg17 c1_i32_5324
  let v3153 : BitVec 32 := Scalar.addi c0_i32_5325 v3152
  let v3181 : Index := Scalar.indexCast v3153
  let c32 : Index := 32#32
  ![0, 0, v3181.toNat, 32]
def k0_off90 (k0_t10 : Fin k0_t10_loop.trips) : Fin 4 → Nat :=
  let c0_i32_5344 : BitVec 32 := 0#32
  let v3185 : Index := Scalar.indexCast c0_i32_5344
  let c0_i32_5345 : BitVec 32 := 0#32
  let v3186 : Index := Scalar.indexCast c0_i32_5345
  let c0_i32_5325 : BitVec 32 := 0#32
  let c0_i32_543 : BitVec 32 := 0#32
  let c1_i32_545 : BitVec 32 := 1#32
  let arg17 : BitVec 32 := Scf.iv c0_i32_543 c1_i32_545 k0_t10
  let c1_i32_5324 : BitVec 32 := 1#32
  let v3152 : BitVec 32 := Scalar.muli arg17 c1_i32_5324
  let v3153 : BitVec 32 := Scalar.addi c0_i32_5325 v3152
  let v3187 : Index := Scalar.indexCast v3153
  let c48 : Index := 48#32
  ![0, 0, v3187.toNat, 48]

def k0_chk10 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx73_inb : ∀ (v5 : IVec S16 32) (v8 : IVec S16 32) (v11 : IVec S16 32) (v14 : IVec S16 32) (v15 : IVec S16 32) (v16 : IVec S16 32) (v3154 : IVec S16 32) (k0_hw10 : k0_chk10 v5 v8 v11 v14 v15 v16 v3154), ∀ a x, ((![v15, v3154, v14] : Fin 3 → IVec S16 32) a x).toNat < S2x64x64.size a := fun v5 v8 v11 v14 v15 v16 v3154 k0_hw10 => k0_hw10.1
theorem k0_idx74_inb : ∀ (v5 : IVec S16 32) (v8 : IVec S16 32) (v11 : IVec S16 32) (v14 : IVec S16 32) (v15 : IVec S16 32) (v16 : IVec S16 32) (v3154 : IVec S16 32) (k0_hw10 : k0_chk10 v5 v8 v11 v14 v15 v16 v3154), ∀ a x, ((![v15, v3154, v11] : Fin 3 → IVec S16 32) a x).toNat < S2x64x64.size a := fun v5 v8 v11 v14 v15 v16 v3154 k0_hw10 => k0_hw10.2.1
theorem k0_idx75_inb : ∀ (v5 : IVec S16 32) (v8 : IVec S16 32) (v11 : IVec S16 32) (v14 : IVec S16 32) (v15 : IVec S16 32) (v16 : IVec S16 32) (v3154 : IVec S16 32) (k0_hw10 : k0_chk10 v5 v8 v11 v14 v15 v16 v3154), ∀ a x, ((![v15, v3154, v8] : Fin 3 → IVec S16 32) a x).toNat < S2x64x64.size a := fun v5 v8 v11 v14 v15 v16 v3154 k0_hw10 => k0_hw10.2.2.1
theorem k0_idx76_inb : ∀ (v5 : IVec S16 32) (v8 : IVec S16 32) (v11 : IVec S16 32) (v14 : IVec S16 32) (v15 : IVec S16 32) (v16 : IVec S16 32) (v3154 : IVec S16 32) (k0_hw10 : k0_chk10 v5 v8 v11 v14 v15 v16 v3154), ∀ a x, ((![v15, v3154, v5] : Fin 3 → IVec S16 32) a x).toNat < S2x64x64.size a := fun v5 v8 v11 v14 v15 v16 v3154 k0_hw10 => k0_hw10.2.2.2.1
theorem k0_idx77_inb : ∀ (v5 : IVec S16 32) (v8 : IVec S16 32) (v11 : IVec S16 32) (v14 : IVec S16 32) (v15 : IVec S16 32) (v16 : IVec S16 32) (v3154 : IVec S16 32) (k0_hw10 : k0_chk10 v5 v8 v11 v14 v15 v16 v3154), ∀ a x, ((![v16, v3154, v14] : Fin 3 → IVec S16 32) a x).toNat < S2x64x64.size a := fun v5 v8 v11 v14 v15 v16 v3154 k0_hw10 => k0_hw10.2.2.2.2.1
theorem k0_idx78_inb : ∀ (v5 : IVec S16 32) (v8 : IVec S16 32) (v11 : IVec S16 32) (v14 : IVec S16 32) (v15 : IVec S16 32) (v16 : IVec S16 32) (v3154 : IVec S16 32) (k0_hw10 : k0_chk10 v5 v8 v11 v14 v15 v16 v3154), ∀ a x, ((![v16, v3154, v11] : Fin 3 → IVec S16 32) a x).toNat < S2x64x64.size a := fun v5 v8 v11 v14 v15 v16 v3154 k0_hw10 => k0_hw10.2.2.2.2.2.1
theorem k0_idx79_inb : ∀ (v5 : IVec S16 32) (v8 : IVec S16 32) (v11 : IVec S16 32) (v14 : IVec S16 32) (v15 : IVec S16 32) (v16 : IVec S16 32) (v3154 : IVec S16 32) (k0_hw10 : k0_chk10 v5 v8 v11 v14 v15 v16 v3154), ∀ a x, ((![v16, v3154, v8] : Fin 3 → IVec S16 32) a x).toNat < S2x64x64.size a := fun v5 v8 v11 v14 v15 v16 v3154 k0_hw10 => k0_hw10.2.2.2.2.2.2.1
theorem k0_idx80_inb : ∀ (v5 : IVec S16 32) (v8 : IVec S16 32) (v11 : IVec S16 32) (v14 : IVec S16 32) (v15 : IVec S16 32) (v16 : IVec S16 32) (v3154 : IVec S16 32) (k0_hw10 : k0_chk10 v5 v8 v11 v14 v15 v16 v3154), ∀ a x, ((![v16, v3154, v5] : Fin 3 → IVec S16 32) a x).toNat < S2x64x64.size a := fun v5 v8 v11 v14 v15 v16 v3154 k0_hw10 => k0_hw10.2.2.2.2.2.2.2
def k0_off91 (k0_t10 : Fin k0_t10_loop.trips) : Fin 4 → Nat :=
  let c0_i32_5358 : BitVec 32 := 0#32
  let v3203 : Index := Scalar.indexCast c0_i32_5358
  let c1_i32_5359 : BitVec 32 := 1#32
  let v3204 : Index := Scalar.indexCast c1_i32_5359
  let c0_i32_5325 : BitVec 32 := 0#32
  let c0_i32_543 : BitVec 32 := 0#32
  let c1_i32_545 : BitVec 32 := 1#32
  let arg17 : BitVec 32 := Scf.iv c0_i32_543 c1_i32_545 k0_t10
  let c1_i32_5324 : BitVec 32 := 1#32
  let v3152 : BitVec 32 := Scalar.muli arg17 c1_i32_5324
  let v3153 : BitVec 32 := Scalar.addi c0_i32_5325 v3152
  let v3205 : Index := Scalar.indexCast v3153
  let c0_5360 : Index := 0#32
  ![0, 1, v3205.toNat, 0]
def k0_off92 (k0_t10 : Fin k0_t10_loop.trips) : Fin 4 → Nat :=
  let c0_i32_5361 : BitVec 32 := 0#32
  let v3209 : Index := Scalar.indexCast c0_i32_5361
  let c1_i32_5362 : BitVec 32 := 1#32
  let v3210 : Index := Scalar.indexCast c1_i32_5362
  let c0_i32_5325 : BitVec 32 := 0#32
  let c0_i32_543 : BitVec 32 := 0#32
  let c1_i32_545 : BitVec 32 := 1#32
  let arg17 : BitVec 32 := Scf.iv c0_i32_543 c1_i32_545 k0_t10
  let c1_i32_5324 : BitVec 32 := 1#32
  let v3152 : BitVec 32 := Scalar.muli arg17 c1_i32_5324
  let v3153 : BitVec 32 := Scalar.addi c0_i32_5325 v3152
  let v3211 : Index := Scalar.indexCast v3153
  let c16_5363 : Index := 16#32
  ![0, 1, v3211.toNat, 16]
def k0_off93 (k0_t10 : Fin k0_t10_loop.trips) : Fin 4 → Nat :=
  let c0_i32_5364 : BitVec 32 := 0#32
  let v3215 : Index := Scalar.indexCast c0_i32_5364
  let c1_i32_5365 : BitVec 32 := 1#32
  let v3216 : Index := Scalar.indexCast c1_i32_5365
  let c0_i32_5325 : BitVec 32 := 0#32
  let c0_i32_543 : BitVec 32 := 0#32
  let c1_i32_545 : BitVec 32 := 1#32
  let arg17 : BitVec 32 := Scf.iv c0_i32_543 c1_i32_545 k0_t10
  let c1_i32_5324 : BitVec 32 := 1#32
  let v3152 : BitVec 32 := Scalar.muli arg17 c1_i32_5324
  let v3153 : BitVec 32 := Scalar.addi c0_i32_5325 v3152
  let v3217 : Index := Scalar.indexCast v3153
  let c32_5366 : Index := 32#32
  ![0, 1, v3217.toNat, 32]
def k0_off94 (k0_t10 : Fin k0_t10_loop.trips) : Fin 4 → Nat :=
  let c0_i32_5367 : BitVec 32 := 0#32
  let v3221 : Index := Scalar.indexCast c0_i32_5367
  let c1_i32_5368 : BitVec 32 := 1#32
  let v3222 : Index := Scalar.indexCast c1_i32_5368
  let c0_i32_5325 : BitVec 32 := 0#32
  let c0_i32_543 : BitVec 32 := 0#32
  let c1_i32_545 : BitVec 32 := 1#32
  let arg17 : BitVec 32 := Scf.iv c0_i32_543 c1_i32_545 k0_t10
  let c1_i32_5324 : BitVec 32 := 1#32
  let v3152 : BitVec 32 := Scalar.muli arg17 c1_i32_5324
  let v3153 : BitVec 32 := Scalar.addi c0_i32_5325 v3152
  let v3223 : Index := Scalar.indexCast v3153
  let c48_5369 : Index := 48#32
  ![0, 1, v3223.toNat, 48]
@[reducible] def k0_t11_loop : Scf.Loop 32 :=
  let c0_i32_599 : BitVec 32 := 0#32
  let c64_i32_600 : BitVec 32 := 64#32
  let v371 : BitVec 32 := Scalar.addi c0_i32_599 c64_i32_600
  let c1_i32_601 : BitVec 32 := 1#32
  ⟨c0_i32_599, v371, c1_i32_601⟩
def k0_off95 (k0_t11 : Fin k0_t11_loop.trips) : Fin 4 → Nat :=
  let c1_i32_5338 : BitVec 32 := 1#32
  let v3167 : Index := Scalar.indexCast c1_i32_5338
  let c0_i32_5339 : BitVec 32 := 0#32
  let v3168 : Index := Scalar.indexCast c0_i32_5339
  let c0_i32_5325 : BitVec 32 := 0#32
  let c0_i32_599 : BitVec 32 := 0#32
  let c1_i32_601 : BitVec 32 := 1#32
  let arg17 : BitVec 32 := Scf.iv c0_i32_599 c1_i32_601 k0_t11
  let c1_i32_5324 : BitVec 32 := 1#32
  let v3152 : BitVec 32 := Scalar.muli arg17 c1_i32_5324
  let v3153 : BitVec 32 := Scalar.addi c0_i32_5325 v3152
  let v3169 : Index := Scalar.indexCast v3153
  let c0 : Index := 0#32
  ![1, 0, v3169.toNat, 0]
def k0_off96 (k0_t11 : Fin k0_t11_loop.trips) : Fin 4 → Nat :=
  let c1_i32_5340 : BitVec 32 := 1#32
  let v3173 : Index := Scalar.indexCast c1_i32_5340
  let c0_i32_5341 : BitVec 32 := 0#32
  let v3174 : Index := Scalar.indexCast c0_i32_5341
  let c0_i32_5325 : BitVec 32 := 0#32
  let c0_i32_599 : BitVec 32 := 0#32
  let c1_i32_601 : BitVec 32 := 1#32
  let arg17 : BitVec 32 := Scf.iv c0_i32_599 c1_i32_601 k0_t11
  let c1_i32_5324 : BitVec 32 := 1#32
  let v3152 : BitVec 32 := Scalar.muli arg17 c1_i32_5324
  let v3153 : BitVec 32 := Scalar.addi c0_i32_5325 v3152
  let v3175 : Index := Scalar.indexCast v3153
  let c16 : Index := 16#32
  ![1, 0, v3175.toNat, 16]
def k0_off97 (k0_t11 : Fin k0_t11_loop.trips) : Fin 4 → Nat :=
  let c1_i32_5342 : BitVec 32 := 1#32
  let v3179 : Index := Scalar.indexCast c1_i32_5342
  let c0_i32_5343 : BitVec 32 := 0#32
  let v3180 : Index := Scalar.indexCast c0_i32_5343
  let c0_i32_5325 : BitVec 32 := 0#32
  let c0_i32_599 : BitVec 32 := 0#32
  let c1_i32_601 : BitVec 32 := 1#32
  let arg17 : BitVec 32 := Scf.iv c0_i32_599 c1_i32_601 k0_t11
  let c1_i32_5324 : BitVec 32 := 1#32
  let v3152 : BitVec 32 := Scalar.muli arg17 c1_i32_5324
  let v3153 : BitVec 32 := Scalar.addi c0_i32_5325 v3152
  let v3181 : Index := Scalar.indexCast v3153
  let c32 : Index := 32#32
  ![1, 0, v3181.toNat, 32]
def k0_off98 (k0_t11 : Fin k0_t11_loop.trips) : Fin 4 → Nat :=
  let c1_i32_5344 : BitVec 32 := 1#32
  let v3185 : Index := Scalar.indexCast c1_i32_5344
  let c0_i32_5345 : BitVec 32 := 0#32
  let v3186 : Index := Scalar.indexCast c0_i32_5345
  let c0_i32_5325 : BitVec 32 := 0#32
  let c0_i32_599 : BitVec 32 := 0#32
  let c1_i32_601 : BitVec 32 := 1#32
  let arg17 : BitVec 32 := Scf.iv c0_i32_599 c1_i32_601 k0_t11
  let c1_i32_5324 : BitVec 32 := 1#32
  let v3152 : BitVec 32 := Scalar.muli arg17 c1_i32_5324
  let v3153 : BitVec 32 := Scalar.addi c0_i32_5325 v3152
  let v3187 : Index := Scalar.indexCast v3153
  let c48 : Index := 48#32
  ![1, 0, v3187.toNat, 48]

def k0_chk11 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx81_inb : ∀ (v5 : IVec S16 32) (v8 : IVec S16 32) (v11 : IVec S16 32) (v14 : IVec S16 32) (v15 : IVec S16 32) (v16 : IVec S16 32) (v3154 : IVec S16 32) (k0_hw11 : k0_chk11 v5 v8 v11 v14 v15 v16 v3154), ∀ a x, ((![v15, v3154, v14] : Fin 3 → IVec S16 32) a x).toNat < S2x64x64.size a := fun v5 v8 v11 v14 v15 v16 v3154 k0_hw11 => k0_hw11.1
theorem k0_idx82_inb : ∀ (v5 : IVec S16 32) (v8 : IVec S16 32) (v11 : IVec S16 32) (v14 : IVec S16 32) (v15 : IVec S16 32) (v16 : IVec S16 32) (v3154 : IVec S16 32) (k0_hw11 : k0_chk11 v5 v8 v11 v14 v15 v16 v3154), ∀ a x, ((![v15, v3154, v11] : Fin 3 → IVec S16 32) a x).toNat < S2x64x64.size a := fun v5 v8 v11 v14 v15 v16 v3154 k0_hw11 => k0_hw11.2.1
theorem k0_idx83_inb : ∀ (v5 : IVec S16 32) (v8 : IVec S16 32) (v11 : IVec S16 32) (v14 : IVec S16 32) (v15 : IVec S16 32) (v16 : IVec S16 32) (v3154 : IVec S16 32) (k0_hw11 : k0_chk11 v5 v8 v11 v14 v15 v16 v3154), ∀ a x, ((![v15, v3154, v8] : Fin 3 → IVec S16 32) a x).toNat < S2x64x64.size a := fun v5 v8 v11 v14 v15 v16 v3154 k0_hw11 => k0_hw11.2.2.1
theorem k0_idx84_inb : ∀ (v5 : IVec S16 32) (v8 : IVec S16 32) (v11 : IVec S16 32) (v14 : IVec S16 32) (v15 : IVec S16 32) (v16 : IVec S16 32) (v3154 : IVec S16 32) (k0_hw11 : k0_chk11 v5 v8 v11 v14 v15 v16 v3154), ∀ a x, ((![v15, v3154, v5] : Fin 3 → IVec S16 32) a x).toNat < S2x64x64.size a := fun v5 v8 v11 v14 v15 v16 v3154 k0_hw11 => k0_hw11.2.2.2.1
theorem k0_idx85_inb : ∀ (v5 : IVec S16 32) (v8 : IVec S16 32) (v11 : IVec S16 32) (v14 : IVec S16 32) (v15 : IVec S16 32) (v16 : IVec S16 32) (v3154 : IVec S16 32) (k0_hw11 : k0_chk11 v5 v8 v11 v14 v15 v16 v3154), ∀ a x, ((![v16, v3154, v14] : Fin 3 → IVec S16 32) a x).toNat < S2x64x64.size a := fun v5 v8 v11 v14 v15 v16 v3154 k0_hw11 => k0_hw11.2.2.2.2.1
theorem k0_idx86_inb : ∀ (v5 : IVec S16 32) (v8 : IVec S16 32) (v11 : IVec S16 32) (v14 : IVec S16 32) (v15 : IVec S16 32) (v16 : IVec S16 32) (v3154 : IVec S16 32) (k0_hw11 : k0_chk11 v5 v8 v11 v14 v15 v16 v3154), ∀ a x, ((![v16, v3154, v11] : Fin 3 → IVec S16 32) a x).toNat < S2x64x64.size a := fun v5 v8 v11 v14 v15 v16 v3154 k0_hw11 => k0_hw11.2.2.2.2.2.1
theorem k0_idx87_inb : ∀ (v5 : IVec S16 32) (v8 : IVec S16 32) (v11 : IVec S16 32) (v14 : IVec S16 32) (v15 : IVec S16 32) (v16 : IVec S16 32) (v3154 : IVec S16 32) (k0_hw11 : k0_chk11 v5 v8 v11 v14 v15 v16 v3154), ∀ a x, ((![v16, v3154, v8] : Fin 3 → IVec S16 32) a x).toNat < S2x64x64.size a := fun v5 v8 v11 v14 v15 v16 v3154 k0_hw11 => k0_hw11.2.2.2.2.2.2.1
theorem k0_idx88_inb : ∀ (v5 : IVec S16 32) (v8 : IVec S16 32) (v11 : IVec S16 32) (v14 : IVec S16 32) (v15 : IVec S16 32) (v16 : IVec S16 32) (v3154 : IVec S16 32) (k0_hw11 : k0_chk11 v5 v8 v11 v14 v15 v16 v3154), ∀ a x, ((![v16, v3154, v5] : Fin 3 → IVec S16 32) a x).toNat < S2x64x64.size a := fun v5 v8 v11 v14 v15 v16 v3154 k0_hw11 => k0_hw11.2.2.2.2.2.2.2
def k0_off99 (k0_t11 : Fin k0_t11_loop.trips) : Fin 4 → Nat :=
  let c1_i32_5358 : BitVec 32 := 1#32
  let v3203 : Index := Scalar.indexCast c1_i32_5358
  let c1_i32_5359 : BitVec 32 := 1#32
  let v3204 : Index := Scalar.indexCast c1_i32_5359
  let c0_i32_5325 : BitVec 32 := 0#32
  let c0_i32_599 : BitVec 32 := 0#32
  let c1_i32_601 : BitVec 32 := 1#32
  let arg17 : BitVec 32 := Scf.iv c0_i32_599 c1_i32_601 k0_t11
  let c1_i32_5324 : BitVec 32 := 1#32
  let v3152 : BitVec 32 := Scalar.muli arg17 c1_i32_5324
  let v3153 : BitVec 32 := Scalar.addi c0_i32_5325 v3152
  let v3205 : Index := Scalar.indexCast v3153
  let c0_5360 : Index := 0#32
  ![1, 1, v3205.toNat, 0]
def k0_off100 (k0_t11 : Fin k0_t11_loop.trips) : Fin 4 → Nat :=
  let c1_i32_5361 : BitVec 32 := 1#32
  let v3209 : Index := Scalar.indexCast c1_i32_5361
  let c1_i32_5362 : BitVec 32 := 1#32
  let v3210 : Index := Scalar.indexCast c1_i32_5362
  let c0_i32_5325 : BitVec 32 := 0#32
  let c0_i32_599 : BitVec 32 := 0#32
  let c1_i32_601 : BitVec 32 := 1#32
  let arg17 : BitVec 32 := Scf.iv c0_i32_599 c1_i32_601 k0_t11
  let c1_i32_5324 : BitVec 32 := 1#32
  let v3152 : BitVec 32 := Scalar.muli arg17 c1_i32_5324
  let v3153 : BitVec 32 := Scalar.addi c0_i32_5325 v3152
  let v3211 : Index := Scalar.indexCast v3153
  let c16_5363 : Index := 16#32
  ![1, 1, v3211.toNat, 16]
def k0_off101 (k0_t11 : Fin k0_t11_loop.trips) : Fin 4 → Nat :=
  let c1_i32_5364 : BitVec 32 := 1#32
  let v3215 : Index := Scalar.indexCast c1_i32_5364
  let c1_i32_5365 : BitVec 32 := 1#32
  let v3216 : Index := Scalar.indexCast c1_i32_5365
  let c0_i32_5325 : BitVec 32 := 0#32
  let c0_i32_599 : BitVec 32 := 0#32
  let c1_i32_601 : BitVec 32 := 1#32
  let arg17 : BitVec 32 := Scf.iv c0_i32_599 c1_i32_601 k0_t11
  let c1_i32_5324 : BitVec 32 := 1#32
  let v3152 : BitVec 32 := Scalar.muli arg17 c1_i32_5324
  let v3153 : BitVec 32 := Scalar.addi c0_i32_5325 v3152
  let v3217 : Index := Scalar.indexCast v3153
  let c32_5366 : Index := 32#32
  ![1, 1, v3217.toNat, 32]
def k0_off102 (k0_t11 : Fin k0_t11_loop.trips) : Fin 4 → Nat :=
  let c1_i32_5367 : BitVec 32 := 1#32
  let v3221 : Index := Scalar.indexCast c1_i32_5367
  let c1_i32_5368 : BitVec 32 := 1#32
  let v3222 : Index := Scalar.indexCast c1_i32_5368
  let c0_i32_5325 : BitVec 32 := 0#32
  let c0_i32_599 : BitVec 32 := 0#32
  let c1_i32_601 : BitVec 32 := 1#32
  let arg17 : BitVec 32 := Scf.iv c0_i32_599 c1_i32_601 k0_t11
  let c1_i32_5324 : BitVec 32 := 1#32
  let v3152 : BitVec 32 := Scalar.muli arg17 c1_i32_5324
  let v3153 : BitVec 32 := Scalar.addi c0_i32_5325 v3152
  let v3223 : Index := Scalar.indexCast v3153
  let c48_5369 : Index := 48#32
  ![1, 1, v3223.toNat, 48]
def k0_off103 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c2_i32_604 : BitVec 32 := 2#32
  let c0_i32_608 : BitVec 32 := 0#32
  let c0_i32_609 : BitVec 32 := 0#32
  ![v2.toNat, 2, 0, 0]
@[reducible] def k0_t12_loop : Scf.Loop 32 :=
  let c0_i32_655 : BitVec 32 := 0#32
  let c64_i32_656 : BitVec 32 := 64#32
  let v404 : BitVec 32 := Scalar.addi c0_i32_655 c64_i32_656
  let c1_i32_657 : BitVec 32 := 1#32
  ⟨c0_i32_655, v404, c1_i32_657⟩
def k0_off104 (k0_t12 : Fin k0_t12_loop.trips) : Fin 4 → Nat :=
  let c2_i32_5341 : BitVec 32 := 2#32
  let v3175 : Index := Scalar.indexCast c2_i32_5341
  let c0_i32_5342 : BitVec 32 := 0#32
  let v3176 : Index := Scalar.indexCast c0_i32_5342
  let c0_i32_5325 : BitVec 32 := 0#32
  let c0_i32_655 : BitVec 32 := 0#32
  let c1_i32_657 : BitVec 32 := 1#32
  let arg17 : BitVec 32 := Scf.iv c0_i32_655 c1_i32_657 k0_t12
  let c1_i32_5324 : BitVec 32 := 1#32
  let v3152 : BitVec 32 := Scalar.muli arg17 c1_i32_5324
  let v3153 : BitVec 32 := Scalar.addi c0_i32_5325 v3152
  let v3177 : Index := Scalar.indexCast v3153
  let c0 : Index := 0#32
  ![2, 0, v3177.toNat, 0]
def k0_off105 (k0_t12 : Fin k0_t12_loop.trips) : Fin 4 → Nat :=
  let c2_i32_5343 : BitVec 32 := 2#32
  let v3181 : Index := Scalar.indexCast c2_i32_5343
  let c0_i32_5344 : BitVec 32 := 0#32
  let v3182 : Index := Scalar.indexCast c0_i32_5344
  let c0_i32_5325 : BitVec 32 := 0#32
  let c0_i32_655 : BitVec 32 := 0#32
  let c1_i32_657 : BitVec 32 := 1#32
  let arg17 : BitVec 32 := Scf.iv c0_i32_655 c1_i32_657 k0_t12
  let c1_i32_5324 : BitVec 32 := 1#32
  let v3152 : BitVec 32 := Scalar.muli arg17 c1_i32_5324
  let v3153 : BitVec 32 := Scalar.addi c0_i32_5325 v3152
  let v3183 : Index := Scalar.indexCast v3153
  let c16 : Index := 16#32
  ![2, 0, v3183.toNat, 16]
def k0_off106 (k0_t12 : Fin k0_t12_loop.trips) : Fin 4 → Nat :=
  let c2_i32_5345 : BitVec 32 := 2#32
  let v3187 : Index := Scalar.indexCast c2_i32_5345
  let c0_i32_5346 : BitVec 32 := 0#32
  let v3188 : Index := Scalar.indexCast c0_i32_5346
  let c0_i32_5325 : BitVec 32 := 0#32
  let c0_i32_655 : BitVec 32 := 0#32
  let c1_i32_657 : BitVec 32 := 1#32
  let arg17 : BitVec 32 := Scf.iv c0_i32_655 c1_i32_657 k0_t12
  let c1_i32_5324 : BitVec 32 := 1#32
  let v3152 : BitVec 32 := Scalar.muli arg17 c1_i32_5324
  let v3153 : BitVec 32 := Scalar.addi c0_i32_5325 v3152
  let v3189 : Index := Scalar.indexCast v3153
  let c32 : Index := 32#32
  ![2, 0, v3189.toNat, 32]
def k0_off107 (k0_t12 : Fin k0_t12_loop.trips) : Fin 4 → Nat :=
  let c2_i32_5347 : BitVec 32 := 2#32
  let v3193 : Index := Scalar.indexCast c2_i32_5347
  let c0_i32_5348 : BitVec 32 := 0#32
  let v3194 : Index := Scalar.indexCast c0_i32_5348
  let c0_i32_5325 : BitVec 32 := 0#32
  let c0_i32_655 : BitVec 32 := 0#32
  let c1_i32_657 : BitVec 32 := 1#32
  let arg17 : BitVec 32 := Scf.iv c0_i32_655 c1_i32_657 k0_t12
  let c1_i32_5324 : BitVec 32 := 1#32
  let v3152 : BitVec 32 := Scalar.muli arg17 c1_i32_5324
  let v3153 : BitVec 32 := Scalar.addi c0_i32_5325 v3152
  let v3195 : Index := Scalar.indexCast v3153
  let c48 : Index := 48#32
  ![2, 0, v3195.toNat, 48]

def k0_chk12 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx89_inb : ∀ (v5 : IVec S16 32) (v8 : IVec S16 32) (v11 : IVec S16 32) (v14 : IVec S16 32) (v15 : IVec S16 32) (v16 : IVec S16 32) (v3154 : IVec S16 32) (k0_hw12 : k0_chk12 v5 v8 v11 v14 v15 v16 v3154), ∀ a x, ((![v15, v3154, v14] : Fin 3 → IVec S16 32) a x).toNat < S2x64x64.size a := fun v5 v8 v11 v14 v15 v16 v3154 k0_hw12 => k0_hw12.1
theorem k0_idx90_inb : ∀ (v5 : IVec S16 32) (v8 : IVec S16 32) (v11 : IVec S16 32) (v14 : IVec S16 32) (v15 : IVec S16 32) (v16 : IVec S16 32) (v3154 : IVec S16 32) (k0_hw12 : k0_chk12 v5 v8 v11 v14 v15 v16 v3154), ∀ a x, ((![v15, v3154, v11] : Fin 3 → IVec S16 32) a x).toNat < S2x64x64.size a := fun v5 v8 v11 v14 v15 v16 v3154 k0_hw12 => k0_hw12.2.1
theorem k0_idx91_inb : ∀ (v5 : IVec S16 32) (v8 : IVec S16 32) (v11 : IVec S16 32) (v14 : IVec S16 32) (v15 : IVec S16 32) (v16 : IVec S16 32) (v3154 : IVec S16 32) (k0_hw12 : k0_chk12 v5 v8 v11 v14 v15 v16 v3154), ∀ a x, ((![v15, v3154, v8] : Fin 3 → IVec S16 32) a x).toNat < S2x64x64.size a := fun v5 v8 v11 v14 v15 v16 v3154 k0_hw12 => k0_hw12.2.2.1
theorem k0_idx92_inb : ∀ (v5 : IVec S16 32) (v8 : IVec S16 32) (v11 : IVec S16 32) (v14 : IVec S16 32) (v15 : IVec S16 32) (v16 : IVec S16 32) (v3154 : IVec S16 32) (k0_hw12 : k0_chk12 v5 v8 v11 v14 v15 v16 v3154), ∀ a x, ((![v15, v3154, v5] : Fin 3 → IVec S16 32) a x).toNat < S2x64x64.size a := fun v5 v8 v11 v14 v15 v16 v3154 k0_hw12 => k0_hw12.2.2.2.1
theorem k0_idx93_inb : ∀ (v5 : IVec S16 32) (v8 : IVec S16 32) (v11 : IVec S16 32) (v14 : IVec S16 32) (v15 : IVec S16 32) (v16 : IVec S16 32) (v3154 : IVec S16 32) (k0_hw12 : k0_chk12 v5 v8 v11 v14 v15 v16 v3154), ∀ a x, ((![v16, v3154, v14] : Fin 3 → IVec S16 32) a x).toNat < S2x64x64.size a := fun v5 v8 v11 v14 v15 v16 v3154 k0_hw12 => k0_hw12.2.2.2.2.1
theorem k0_idx94_inb : ∀ (v5 : IVec S16 32) (v8 : IVec S16 32) (v11 : IVec S16 32) (v14 : IVec S16 32) (v15 : IVec S16 32) (v16 : IVec S16 32) (v3154 : IVec S16 32) (k0_hw12 : k0_chk12 v5 v8 v11 v14 v15 v16 v3154), ∀ a x, ((![v16, v3154, v11] : Fin 3 → IVec S16 32) a x).toNat < S2x64x64.size a := fun v5 v8 v11 v14 v15 v16 v3154 k0_hw12 => k0_hw12.2.2.2.2.2.1
theorem k0_idx95_inb : ∀ (v5 : IVec S16 32) (v8 : IVec S16 32) (v11 : IVec S16 32) (v14 : IVec S16 32) (v15 : IVec S16 32) (v16 : IVec S16 32) (v3154 : IVec S16 32) (k0_hw12 : k0_chk12 v5 v8 v11 v14 v15 v16 v3154), ∀ a x, ((![v16, v3154, v8] : Fin 3 → IVec S16 32) a x).toNat < S2x64x64.size a := fun v5 v8 v11 v14 v15 v16 v3154 k0_hw12 => k0_hw12.2.2.2.2.2.2.1
theorem k0_idx96_inb : ∀ (v5 : IVec S16 32) (v8 : IVec S16 32) (v11 : IVec S16 32) (v14 : IVec S16 32) (v15 : IVec S16 32) (v16 : IVec S16 32) (v3154 : IVec S16 32) (k0_hw12 : k0_chk12 v5 v8 v11 v14 v15 v16 v3154), ∀ a x, ((![v16, v3154, v5] : Fin 3 → IVec S16 32) a x).toNat < S2x64x64.size a := fun v5 v8 v11 v14 v15 v16 v3154 k0_hw12 => k0_hw12.2.2.2.2.2.2.2
def k0_off108 (k0_t12 : Fin k0_t12_loop.trips) : Fin 4 → Nat :=
  let c2_i32_5365 : BitVec 32 := 2#32
  let v3219 : Index := Scalar.indexCast c2_i32_5365
  let c1_i32_5366 : BitVec 32 := 1#32
  let v3220 : Index := Scalar.indexCast c1_i32_5366
  let c0_i32_5325 : BitVec 32 := 0#32
  let c0_i32_655 : BitVec 32 := 0#32
  let c1_i32_657 : BitVec 32 := 1#32
  let arg17 : BitVec 32 := Scf.iv c0_i32_655 c1_i32_657 k0_t12
  let c1_i32_5324 : BitVec 32 := 1#32
  let v3152 : BitVec 32 := Scalar.muli arg17 c1_i32_5324
  let v3153 : BitVec 32 := Scalar.addi c0_i32_5325 v3152
  let v3221 : Index := Scalar.indexCast v3153
  let c0_5367 : Index := 0#32
  ![2, 1, v3221.toNat, 0]
def k0_off109 (k0_t12 : Fin k0_t12_loop.trips) : Fin 4 → Nat :=
  let c2_i32_5368 : BitVec 32 := 2#32
  let v3225 : Index := Scalar.indexCast c2_i32_5368
  let c1_i32_5369 : BitVec 32 := 1#32
  let v3226 : Index := Scalar.indexCast c1_i32_5369
  let c0_i32_5325 : BitVec 32 := 0#32
  let c0_i32_655 : BitVec 32 := 0#32
  let c1_i32_657 : BitVec 32 := 1#32
  let arg17 : BitVec 32 := Scf.iv c0_i32_655 c1_i32_657 k0_t12
  let c1_i32_5324 : BitVec 32 := 1#32
  let v3152 : BitVec 32 := Scalar.muli arg17 c1_i32_5324
  let v3153 : BitVec 32 := Scalar.addi c0_i32_5325 v3152
  let v3227 : Index := Scalar.indexCast v3153
  let c16_5370 : Index := 16#32
  ![2, 1, v3227.toNat, 16]
def k0_off110 (k0_t12 : Fin k0_t12_loop.trips) : Fin 4 → Nat :=
  let c2_i32_5371 : BitVec 32 := 2#32
  let v3231 : Index := Scalar.indexCast c2_i32_5371
  let c1_i32_5372 : BitVec 32 := 1#32
  let v3232 : Index := Scalar.indexCast c1_i32_5372
  let c0_i32_5325 : BitVec 32 := 0#32
  let c0_i32_655 : BitVec 32 := 0#32
  let c1_i32_657 : BitVec 32 := 1#32
  let arg17 : BitVec 32 := Scf.iv c0_i32_655 c1_i32_657 k0_t12
  let c1_i32_5324 : BitVec 32 := 1#32
  let v3152 : BitVec 32 := Scalar.muli arg17 c1_i32_5324
  let v3153 : BitVec 32 := Scalar.addi c0_i32_5325 v3152
  let v3233 : Index := Scalar.indexCast v3153
  let c32_5373 : Index := 32#32
  ![2, 1, v3233.toNat, 32]
def k0_off111 (k0_t12 : Fin k0_t12_loop.trips) : Fin 4 → Nat :=
  let c2_i32_5374 : BitVec 32 := 2#32
  let v3237 : Index := Scalar.indexCast c2_i32_5374
  let c1_i32_5375 : BitVec 32 := 1#32
  let v3238 : Index := Scalar.indexCast c1_i32_5375
  let c0_i32_5325 : BitVec 32 := 0#32
  let c0_i32_655 : BitVec 32 := 0#32
  let c1_i32_657 : BitVec 32 := 1#32
  let arg17 : BitVec 32 := Scf.iv c0_i32_655 c1_i32_657 k0_t12
  let c1_i32_5324 : BitVec 32 := 1#32
  let v3152 : BitVec 32 := Scalar.muli arg17 c1_i32_5324
  let v3153 : BitVec 32 := Scalar.addi c0_i32_5325 v3152
  let v3239 : Index := Scalar.indexCast v3153
  let c48_5376 : Index := 48#32
  ![2, 1, v3239.toNat, 48]
@[reducible] def k0_t13_loop : Scf.Loop 32 :=
  let c0_i32_711 : BitVec 32 := 0#32
  let c64_i32_712 : BitVec 32 := 64#32
  let v437 : BitVec 32 := Scalar.addi c0_i32_711 c64_i32_712
  let c1_i32_713 : BitVec 32 := 1#32
  ⟨c0_i32_711, v437, c1_i32_713⟩
def k0_off112 (k0_t13 : Fin k0_t13_loop.trips) : Fin 4 → Nat :=
  let c0_i32_5341 : BitVec 32 := 0#32
  let v3175 : Index := Scalar.indexCast c0_i32_5341
  let c0_i32_5342 : BitVec 32 := 0#32
  let v3176 : Index := Scalar.indexCast c0_i32_5342
  let c0_i32_5325 : BitVec 32 := 0#32
  let c0_i32_711 : BitVec 32 := 0#32
  let c1_i32_713 : BitVec 32 := 1#32
  let arg17 : BitVec 32 := Scf.iv c0_i32_711 c1_i32_713 k0_t13
  let c1_i32_5324 : BitVec 32 := 1#32
  let v3152 : BitVec 32 := Scalar.muli arg17 c1_i32_5324
  let v3153 : BitVec 32 := Scalar.addi c0_i32_5325 v3152
  let v3177 : Index := Scalar.indexCast v3153
  let c0 : Index := 0#32
  ![0, 0, v3177.toNat, 0]
def k0_off113 (k0_t13 : Fin k0_t13_loop.trips) : Fin 4 → Nat :=
  let c0_i32_5343 : BitVec 32 := 0#32
  let v3181 : Index := Scalar.indexCast c0_i32_5343
  let c0_i32_5344 : BitVec 32 := 0#32
  let v3182 : Index := Scalar.indexCast c0_i32_5344
  let c0_i32_5325 : BitVec 32 := 0#32
  let c0_i32_711 : BitVec 32 := 0#32
  let c1_i32_713 : BitVec 32 := 1#32
  let arg17 : BitVec 32 := Scf.iv c0_i32_711 c1_i32_713 k0_t13
  let c1_i32_5324 : BitVec 32 := 1#32
  let v3152 : BitVec 32 := Scalar.muli arg17 c1_i32_5324
  let v3153 : BitVec 32 := Scalar.addi c0_i32_5325 v3152
  let v3183 : Index := Scalar.indexCast v3153
  let c16 : Index := 16#32
  ![0, 0, v3183.toNat, 16]
def k0_off114 (k0_t13 : Fin k0_t13_loop.trips) : Fin 4 → Nat :=
  let c0_i32_5345 : BitVec 32 := 0#32
  let v3187 : Index := Scalar.indexCast c0_i32_5345
  let c0_i32_5346 : BitVec 32 := 0#32
  let v3188 : Index := Scalar.indexCast c0_i32_5346
  let c0_i32_5325 : BitVec 32 := 0#32
  let c0_i32_711 : BitVec 32 := 0#32
  let c1_i32_713 : BitVec 32 := 1#32
  let arg17 : BitVec 32 := Scf.iv c0_i32_711 c1_i32_713 k0_t13
  let c1_i32_5324 : BitVec 32 := 1#32
  let v3152 : BitVec 32 := Scalar.muli arg17 c1_i32_5324
  let v3153 : BitVec 32 := Scalar.addi c0_i32_5325 v3152
  let v3189 : Index := Scalar.indexCast v3153
  let c32 : Index := 32#32
  ![0, 0, v3189.toNat, 32]
def k0_off115 (k0_t13 : Fin k0_t13_loop.trips) : Fin 4 → Nat :=
  let c0_i32_5347 : BitVec 32 := 0#32
  let v3193 : Index := Scalar.indexCast c0_i32_5347
  let c0_i32_5348 : BitVec 32 := 0#32
  let v3194 : Index := Scalar.indexCast c0_i32_5348
  let c0_i32_5325 : BitVec 32 := 0#32
  let c0_i32_711 : BitVec 32 := 0#32
  let c1_i32_713 : BitVec 32 := 1#32
  let arg17 : BitVec 32 := Scf.iv c0_i32_711 c1_i32_713 k0_t13
  let c1_i32_5324 : BitVec 32 := 1#32
  let v3152 : BitVec 32 := Scalar.muli arg17 c1_i32_5324
  let v3153 : BitVec 32 := Scalar.addi c0_i32_5325 v3152
  let v3195 : Index := Scalar.indexCast v3153
  let c48 : Index := 48#32
  ![0, 0, v3195.toNat, 48]

def k0_chk13 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx97_inb : ∀ (v5 : IVec S16 32) (v8 : IVec S16 32) (v11 : IVec S16 32) (v14 : IVec S16 32) (v15 : IVec S16 32) (v16 : IVec S16 32) (v3154 : IVec S16 32) (k0_hw13 : k0_chk13 v5 v8 v11 v14 v15 v16 v3154), ∀ a x, ((![v15, v3154, v14] : Fin 3 → IVec S16 32) a x).toNat < S2x64x64.size a := fun v5 v8 v11 v14 v15 v16 v3154 k0_hw13 => k0_hw13.1
theorem k0_idx98_inb : ∀ (v5 : IVec S16 32) (v8 : IVec S16 32) (v11 : IVec S16 32) (v14 : IVec S16 32) (v15 : IVec S16 32) (v16 : IVec S16 32) (v3154 : IVec S16 32) (k0_hw13 : k0_chk13 v5 v8 v11 v14 v15 v16 v3154), ∀ a x, ((![v15, v3154, v11] : Fin 3 → IVec S16 32) a x).toNat < S2x64x64.size a := fun v5 v8 v11 v14 v15 v16 v3154 k0_hw13 => k0_hw13.2.1
theorem k0_idx99_inb : ∀ (v5 : IVec S16 32) (v8 : IVec S16 32) (v11 : IVec S16 32) (v14 : IVec S16 32) (v15 : IVec S16 32) (v16 : IVec S16 32) (v3154 : IVec S16 32) (k0_hw13 : k0_chk13 v5 v8 v11 v14 v15 v16 v3154), ∀ a x, ((![v15, v3154, v8] : Fin 3 → IVec S16 32) a x).toNat < S2x64x64.size a := fun v5 v8 v11 v14 v15 v16 v3154 k0_hw13 => k0_hw13.2.2.1
theorem k0_idx100_inb : ∀ (v5 : IVec S16 32) (v8 : IVec S16 32) (v11 : IVec S16 32) (v14 : IVec S16 32) (v15 : IVec S16 32) (v16 : IVec S16 32) (v3154 : IVec S16 32) (k0_hw13 : k0_chk13 v5 v8 v11 v14 v15 v16 v3154), ∀ a x, ((![v15, v3154, v5] : Fin 3 → IVec S16 32) a x).toNat < S2x64x64.size a := fun v5 v8 v11 v14 v15 v16 v3154 k0_hw13 => k0_hw13.2.2.2.1
theorem k0_idx101_inb : ∀ (v5 : IVec S16 32) (v8 : IVec S16 32) (v11 : IVec S16 32) (v14 : IVec S16 32) (v15 : IVec S16 32) (v16 : IVec S16 32) (v3154 : IVec S16 32) (k0_hw13 : k0_chk13 v5 v8 v11 v14 v15 v16 v3154), ∀ a x, ((![v16, v3154, v14] : Fin 3 → IVec S16 32) a x).toNat < S2x64x64.size a := fun v5 v8 v11 v14 v15 v16 v3154 k0_hw13 => k0_hw13.2.2.2.2.1
theorem k0_idx102_inb : ∀ (v5 : IVec S16 32) (v8 : IVec S16 32) (v11 : IVec S16 32) (v14 : IVec S16 32) (v15 : IVec S16 32) (v16 : IVec S16 32) (v3154 : IVec S16 32) (k0_hw13 : k0_chk13 v5 v8 v11 v14 v15 v16 v3154), ∀ a x, ((![v16, v3154, v11] : Fin 3 → IVec S16 32) a x).toNat < S2x64x64.size a := fun v5 v8 v11 v14 v15 v16 v3154 k0_hw13 => k0_hw13.2.2.2.2.2.1
theorem k0_idx103_inb : ∀ (v5 : IVec S16 32) (v8 : IVec S16 32) (v11 : IVec S16 32) (v14 : IVec S16 32) (v15 : IVec S16 32) (v16 : IVec S16 32) (v3154 : IVec S16 32) (k0_hw13 : k0_chk13 v5 v8 v11 v14 v15 v16 v3154), ∀ a x, ((![v16, v3154, v8] : Fin 3 → IVec S16 32) a x).toNat < S2x64x64.size a := fun v5 v8 v11 v14 v15 v16 v3154 k0_hw13 => k0_hw13.2.2.2.2.2.2.1
theorem k0_idx104_inb : ∀ (v5 : IVec S16 32) (v8 : IVec S16 32) (v11 : IVec S16 32) (v14 : IVec S16 32) (v15 : IVec S16 32) (v16 : IVec S16 32) (v3154 : IVec S16 32) (k0_hw13 : k0_chk13 v5 v8 v11 v14 v15 v16 v3154), ∀ a x, ((![v16, v3154, v5] : Fin 3 → IVec S16 32) a x).toNat < S2x64x64.size a := fun v5 v8 v11 v14 v15 v16 v3154 k0_hw13 => k0_hw13.2.2.2.2.2.2.2
def k0_off116 (k0_t13 : Fin k0_t13_loop.trips) : Fin 4 → Nat :=
  let c0_i32_5365 : BitVec 32 := 0#32
  let v3219 : Index := Scalar.indexCast c0_i32_5365
  let c1_i32_5366 : BitVec 32 := 1#32
  let v3220 : Index := Scalar.indexCast c1_i32_5366
  let c0_i32_5325 : BitVec 32 := 0#32
  let c0_i32_711 : BitVec 32 := 0#32
  let c1_i32_713 : BitVec 32 := 1#32
  let arg17 : BitVec 32 := Scf.iv c0_i32_711 c1_i32_713 k0_t13
  let c1_i32_5324 : BitVec 32 := 1#32
  let v3152 : BitVec 32 := Scalar.muli arg17 c1_i32_5324
  let v3153 : BitVec 32 := Scalar.addi c0_i32_5325 v3152
  let v3221 : Index := Scalar.indexCast v3153
  let c0_5367 : Index := 0#32
  ![0, 1, v3221.toNat, 0]
def k0_off117 (k0_t13 : Fin k0_t13_loop.trips) : Fin 4 → Nat :=
  let c0_i32_5368 : BitVec 32 := 0#32
  let v3225 : Index := Scalar.indexCast c0_i32_5368
  let c1_i32_5369 : BitVec 32 := 1#32
  let v3226 : Index := Scalar.indexCast c1_i32_5369
  let c0_i32_5325 : BitVec 32 := 0#32
  let c0_i32_711 : BitVec 32 := 0#32
  let c1_i32_713 : BitVec 32 := 1#32
  let arg17 : BitVec 32 := Scf.iv c0_i32_711 c1_i32_713 k0_t13
  let c1_i32_5324 : BitVec 32 := 1#32
  let v3152 : BitVec 32 := Scalar.muli arg17 c1_i32_5324
  let v3153 : BitVec 32 := Scalar.addi c0_i32_5325 v3152
  let v3227 : Index := Scalar.indexCast v3153
  let c16_5370 : Index := 16#32
  ![0, 1, v3227.toNat, 16]
def k0_off118 (k0_t13 : Fin k0_t13_loop.trips) : Fin 4 → Nat :=
  let c0_i32_5371 : BitVec 32 := 0#32
  let v3231 : Index := Scalar.indexCast c0_i32_5371
  let c1_i32_5372 : BitVec 32 := 1#32
  let v3232 : Index := Scalar.indexCast c1_i32_5372
  let c0_i32_5325 : BitVec 32 := 0#32
  let c0_i32_711 : BitVec 32 := 0#32
  let c1_i32_713 : BitVec 32 := 1#32
  let arg17 : BitVec 32 := Scf.iv c0_i32_711 c1_i32_713 k0_t13
  let c1_i32_5324 : BitVec 32 := 1#32
  let v3152 : BitVec 32 := Scalar.muli arg17 c1_i32_5324
  let v3153 : BitVec 32 := Scalar.addi c0_i32_5325 v3152
  let v3233 : Index := Scalar.indexCast v3153
  let c32_5373 : Index := 32#32
  ![0, 1, v3233.toNat, 32]
def k0_off119 (k0_t13 : Fin k0_t13_loop.trips) : Fin 4 → Nat :=
  let c0_i32_5374 : BitVec 32 := 0#32
  let v3237 : Index := Scalar.indexCast c0_i32_5374
  let c1_i32_5375 : BitVec 32 := 1#32
  let v3238 : Index := Scalar.indexCast c1_i32_5375
  let c0_i32_5325 : BitVec 32 := 0#32
  let c0_i32_711 : BitVec 32 := 0#32
  let c1_i32_713 : BitVec 32 := 1#32
  let arg17 : BitVec 32 := Scf.iv c0_i32_711 c1_i32_713 k0_t13
  let c1_i32_5324 : BitVec 32 := 1#32
  let v3152 : BitVec 32 := Scalar.muli arg17 c1_i32_5324
  let v3153 : BitVec 32 := Scalar.addi c0_i32_5325 v3152
  let v3239 : Index := Scalar.indexCast v3153
  let c48_5376 : Index := 48#32
  ![0, 1, v3239.toNat, 48]
@[reducible] def k0_t14_loop : Scf.Loop 32 :=
  let c0_i32_767 : BitVec 32 := 0#32
  let c64_i32_768 : BitVec 32 := 64#32
  let v470 : BitVec 32 := Scalar.addi c0_i32_767 c64_i32_768
  let c1_i32_769 : BitVec 32 := 1#32
  ⟨c0_i32_767, v470, c1_i32_769⟩
def k0_off120 (k0_t14 : Fin k0_t14_loop.trips) : Fin 4 → Nat :=
  let c1_i32_5338 : BitVec 32 := 1#32
  let v3167 : Index := Scalar.indexCast c1_i32_5338
  let c0_i32_5339 : BitVec 32 := 0#32
  let v3168 : Index := Scalar.indexCast c0_i32_5339
  let c0_i32_5325 : BitVec 32 := 0#32
  let c0_i32_767 : BitVec 32 := 0#32
  let c1_i32_769 : BitVec 32 := 1#32
  let arg17 : BitVec 32 := Scf.iv c0_i32_767 c1_i32_769 k0_t14
  let c1_i32_5324 : BitVec 32 := 1#32
  let v3152 : BitVec 32 := Scalar.muli arg17 c1_i32_5324
  let v3153 : BitVec 32 := Scalar.addi c0_i32_5325 v3152
  let v3169 : Index := Scalar.indexCast v3153
  let c0 : Index := 0#32
  ![1, 0, v3169.toNat, 0]
def k0_off121 (k0_t14 : Fin k0_t14_loop.trips) : Fin 4 → Nat :=
  let c1_i32_5340 : BitVec 32 := 1#32
  let v3173 : Index := Scalar.indexCast c1_i32_5340
  let c0_i32_5341 : BitVec 32 := 0#32
  let v3174 : Index := Scalar.indexCast c0_i32_5341
  let c0_i32_5325 : BitVec 32 := 0#32
  let c0_i32_767 : BitVec 32 := 0#32
  let c1_i32_769 : BitVec 32 := 1#32
  let arg17 : BitVec 32 := Scf.iv c0_i32_767 c1_i32_769 k0_t14
  let c1_i32_5324 : BitVec 32 := 1#32
  let v3152 : BitVec 32 := Scalar.muli arg17 c1_i32_5324
  let v3153 : BitVec 32 := Scalar.addi c0_i32_5325 v3152
  let v3175 : Index := Scalar.indexCast v3153
  let c16 : Index := 16#32
  ![1, 0, v3175.toNat, 16]
def k0_off122 (k0_t14 : Fin k0_t14_loop.trips) : Fin 4 → Nat :=
  let c1_i32_5342 : BitVec 32 := 1#32
  let v3179 : Index := Scalar.indexCast c1_i32_5342
  let c0_i32_5343 : BitVec 32 := 0#32
  let v3180 : Index := Scalar.indexCast c0_i32_5343
  let c0_i32_5325 : BitVec 32 := 0#32
  let c0_i32_767 : BitVec 32 := 0#32
  let c1_i32_769 : BitVec 32 := 1#32
  let arg17 : BitVec 32 := Scf.iv c0_i32_767 c1_i32_769 k0_t14
  let c1_i32_5324 : BitVec 32 := 1#32
  let v3152 : BitVec 32 := Scalar.muli arg17 c1_i32_5324
  let v3153 : BitVec 32 := Scalar.addi c0_i32_5325 v3152
  let v3181 : Index := Scalar.indexCast v3153
  let c32 : Index := 32#32
  ![1, 0, v3181.toNat, 32]
def k0_off123 (k0_t14 : Fin k0_t14_loop.trips) : Fin 4 → Nat :=
  let c1_i32_5344 : BitVec 32 := 1#32
  let v3185 : Index := Scalar.indexCast c1_i32_5344
  let c0_i32_5345 : BitVec 32 := 0#32
  let v3186 : Index := Scalar.indexCast c0_i32_5345
  let c0_i32_5325 : BitVec 32 := 0#32
  let c0_i32_767 : BitVec 32 := 0#32
  let c1_i32_769 : BitVec 32 := 1#32
  let arg17 : BitVec 32 := Scf.iv c0_i32_767 c1_i32_769 k0_t14
  let c1_i32_5324 : BitVec 32 := 1#32
  let v3152 : BitVec 32 := Scalar.muli arg17 c1_i32_5324
  let v3153 : BitVec 32 := Scalar.addi c0_i32_5325 v3152
  let v3187 : Index := Scalar.indexCast v3153
  let c48 : Index := 48#32
  ![1, 0, v3187.toNat, 48]

def k0_chk14 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx105_inb : ∀ (v5 : IVec S16 32) (v8 : IVec S16 32) (v11 : IVec S16 32) (v14 : IVec S16 32) (v15 : IVec S16 32) (v16 : IVec S16 32) (v3154 : IVec S16 32) (k0_hw14 : k0_chk14 v5 v8 v11 v14 v15 v16 v3154), ∀ a x, ((![v15, v3154, v14] : Fin 3 → IVec S16 32) a x).toNat < S2x64x64.size a := fun v5 v8 v11 v14 v15 v16 v3154 k0_hw14 => k0_hw14.1
theorem k0_idx106_inb : ∀ (v5 : IVec S16 32) (v8 : IVec S16 32) (v11 : IVec S16 32) (v14 : IVec S16 32) (v15 : IVec S16 32) (v16 : IVec S16 32) (v3154 : IVec S16 32) (k0_hw14 : k0_chk14 v5 v8 v11 v14 v15 v16 v3154), ∀ a x, ((![v15, v3154, v11] : Fin 3 → IVec S16 32) a x).toNat < S2x64x64.size a := fun v5 v8 v11 v14 v15 v16 v3154 k0_hw14 => k0_hw14.2.1
theorem k0_idx107_inb : ∀ (v5 : IVec S16 32) (v8 : IVec S16 32) (v11 : IVec S16 32) (v14 : IVec S16 32) (v15 : IVec S16 32) (v16 : IVec S16 32) (v3154 : IVec S16 32) (k0_hw14 : k0_chk14 v5 v8 v11 v14 v15 v16 v3154), ∀ a x, ((![v15, v3154, v8] : Fin 3 → IVec S16 32) a x).toNat < S2x64x64.size a := fun v5 v8 v11 v14 v15 v16 v3154 k0_hw14 => k0_hw14.2.2.1
theorem k0_idx108_inb : ∀ (v5 : IVec S16 32) (v8 : IVec S16 32) (v11 : IVec S16 32) (v14 : IVec S16 32) (v15 : IVec S16 32) (v16 : IVec S16 32) (v3154 : IVec S16 32) (k0_hw14 : k0_chk14 v5 v8 v11 v14 v15 v16 v3154), ∀ a x, ((![v15, v3154, v5] : Fin 3 → IVec S16 32) a x).toNat < S2x64x64.size a := fun v5 v8 v11 v14 v15 v16 v3154 k0_hw14 => k0_hw14.2.2.2.1
theorem k0_idx109_inb : ∀ (v5 : IVec S16 32) (v8 : IVec S16 32) (v11 : IVec S16 32) (v14 : IVec S16 32) (v15 : IVec S16 32) (v16 : IVec S16 32) (v3154 : IVec S16 32) (k0_hw14 : k0_chk14 v5 v8 v11 v14 v15 v16 v3154), ∀ a x, ((![v16, v3154, v14] : Fin 3 → IVec S16 32) a x).toNat < S2x64x64.size a := fun v5 v8 v11 v14 v15 v16 v3154 k0_hw14 => k0_hw14.2.2.2.2.1
theorem k0_idx110_inb : ∀ (v5 : IVec S16 32) (v8 : IVec S16 32) (v11 : IVec S16 32) (v14 : IVec S16 32) (v15 : IVec S16 32) (v16 : IVec S16 32) (v3154 : IVec S16 32) (k0_hw14 : k0_chk14 v5 v8 v11 v14 v15 v16 v3154), ∀ a x, ((![v16, v3154, v11] : Fin 3 → IVec S16 32) a x).toNat < S2x64x64.size a := fun v5 v8 v11 v14 v15 v16 v3154 k0_hw14 => k0_hw14.2.2.2.2.2.1
theorem k0_idx111_inb : ∀ (v5 : IVec S16 32) (v8 : IVec S16 32) (v11 : IVec S16 32) (v14 : IVec S16 32) (v15 : IVec S16 32) (v16 : IVec S16 32) (v3154 : IVec S16 32) (k0_hw14 : k0_chk14 v5 v8 v11 v14 v15 v16 v3154), ∀ a x, ((![v16, v3154, v8] : Fin 3 → IVec S16 32) a x).toNat < S2x64x64.size a := fun v5 v8 v11 v14 v15 v16 v3154 k0_hw14 => k0_hw14.2.2.2.2.2.2.1
theorem k0_idx112_inb : ∀ (v5 : IVec S16 32) (v8 : IVec S16 32) (v11 : IVec S16 32) (v14 : IVec S16 32) (v15 : IVec S16 32) (v16 : IVec S16 32) (v3154 : IVec S16 32) (k0_hw14 : k0_chk14 v5 v8 v11 v14 v15 v16 v3154), ∀ a x, ((![v16, v3154, v5] : Fin 3 → IVec S16 32) a x).toNat < S2x64x64.size a := fun v5 v8 v11 v14 v15 v16 v3154 k0_hw14 => k0_hw14.2.2.2.2.2.2.2
def k0_off124 (k0_t14 : Fin k0_t14_loop.trips) : Fin 4 → Nat :=
  let c1_i32_5358 : BitVec 32 := 1#32
  let v3203 : Index := Scalar.indexCast c1_i32_5358
  let c1_i32_5359 : BitVec 32 := 1#32
  let v3204 : Index := Scalar.indexCast c1_i32_5359
  let c0_i32_5325 : BitVec 32 := 0#32
  let c0_i32_767 : BitVec 32 := 0#32
  let c1_i32_769 : BitVec 32 := 1#32
  let arg17 : BitVec 32 := Scf.iv c0_i32_767 c1_i32_769 k0_t14
  let c1_i32_5324 : BitVec 32 := 1#32
  let v3152 : BitVec 32 := Scalar.muli arg17 c1_i32_5324
  let v3153 : BitVec 32 := Scalar.addi c0_i32_5325 v3152
  let v3205 : Index := Scalar.indexCast v3153
  let c0_5360 : Index := 0#32
  ![1, 1, v3205.toNat, 0]
def k0_off125 (k0_t14 : Fin k0_t14_loop.trips) : Fin 4 → Nat :=
  let c1_i32_5361 : BitVec 32 := 1#32
  let v3209 : Index := Scalar.indexCast c1_i32_5361
  let c1_i32_5362 : BitVec 32 := 1#32
  let v3210 : Index := Scalar.indexCast c1_i32_5362
  let c0_i32_5325 : BitVec 32 := 0#32
  let c0_i32_767 : BitVec 32 := 0#32
  let c1_i32_769 : BitVec 32 := 1#32
  let arg17 : BitVec 32 := Scf.iv c0_i32_767 c1_i32_769 k0_t14
  let c1_i32_5324 : BitVec 32 := 1#32
  let v3152 : BitVec 32 := Scalar.muli arg17 c1_i32_5324
  let v3153 : BitVec 32 := Scalar.addi c0_i32_5325 v3152
  let v3211 : Index := Scalar.indexCast v3153
  let c16_5363 : Index := 16#32
  ![1, 1, v3211.toNat, 16]
def k0_off126 (k0_t14 : Fin k0_t14_loop.trips) : Fin 4 → Nat :=
  let c1_i32_5364 : BitVec 32 := 1#32
  let v3215 : Index := Scalar.indexCast c1_i32_5364
  let c1_i32_5365 : BitVec 32 := 1#32
  let v3216 : Index := Scalar.indexCast c1_i32_5365
  let c0_i32_5325 : BitVec 32 := 0#32
  let c0_i32_767 : BitVec 32 := 0#32
  let c1_i32_769 : BitVec 32 := 1#32
  let arg17 : BitVec 32 := Scf.iv c0_i32_767 c1_i32_769 k0_t14
  let c1_i32_5324 : BitVec 32 := 1#32
  let v3152 : BitVec 32 := Scalar.muli arg17 c1_i32_5324
  let v3153 : BitVec 32 := Scalar.addi c0_i32_5325 v3152
  let v3217 : Index := Scalar.indexCast v3153
  let c32_5366 : Index := 32#32
  ![1, 1, v3217.toNat, 32]
def k0_off127 (k0_t14 : Fin k0_t14_loop.trips) : Fin 4 → Nat :=
  let c1_i32_5367 : BitVec 32 := 1#32
  let v3221 : Index := Scalar.indexCast c1_i32_5367
  let c1_i32_5368 : BitVec 32 := 1#32
  let v3222 : Index := Scalar.indexCast c1_i32_5368
  let c0_i32_5325 : BitVec 32 := 0#32
  let c0_i32_767 : BitVec 32 := 0#32
  let c1_i32_769 : BitVec 32 := 1#32
  let arg17 : BitVec 32 := Scf.iv c0_i32_767 c1_i32_769 k0_t14
  let c1_i32_5324 : BitVec 32 := 1#32
  let v3152 : BitVec 32 := Scalar.muli arg17 c1_i32_5324
  let v3153 : BitVec 32 := Scalar.addi c0_i32_5325 v3152
  let v3223 : Index := Scalar.indexCast v3153
  let c48_5369 : Index := 48#32
  ![1, 1, v3223.toNat, 48]
@[reducible] def k0_t15_loop : Scf.Loop 32 :=
  let c0_i32_824 : BitVec 32 := 0#32
  let c64_i32_825 : BitVec 32 := 64#32
  let v503 : BitVec 32 := Scalar.addi c0_i32_824 c64_i32_825
  let c1_i32_826 : BitVec 32 := 1#32
  ⟨c0_i32_824, v503, c1_i32_826⟩
def k0_off128 (k0_t15 : Fin k0_t15_loop.trips) : Fin 4 → Nat :=
  let c2_i32_5338 : BitVec 32 := 2#32
  let v3167 : Index := Scalar.indexCast c2_i32_5338
  let c0_i32_5339 : BitVec 32 := 0#32
  let v3168 : Index := Scalar.indexCast c0_i32_5339
  let c0_i32_5325 : BitVec 32 := 0#32
  let c0_i32_824 : BitVec 32 := 0#32
  let c1_i32_826 : BitVec 32 := 1#32
  let arg17 : BitVec 32 := Scf.iv c0_i32_824 c1_i32_826 k0_t15
  let c1_i32_5324 : BitVec 32 := 1#32
  let v3152 : BitVec 32 := Scalar.muli arg17 c1_i32_5324
  let v3153 : BitVec 32 := Scalar.addi c0_i32_5325 v3152
  let v3169 : Index := Scalar.indexCast v3153
  let c0 : Index := 0#32
  ![2, 0, v3169.toNat, 0]
def k0_off129 (k0_t15 : Fin k0_t15_loop.trips) : Fin 4 → Nat :=
  let c2_i32_5340 : BitVec 32 := 2#32
  let v3173 : Index := Scalar.indexCast c2_i32_5340
  let c0_i32_5341 : BitVec 32 := 0#32
  let v3174 : Index := Scalar.indexCast c0_i32_5341
  let c0_i32_5325 : BitVec 32 := 0#32
  let c0_i32_824 : BitVec 32 := 0#32
  let c1_i32_826 : BitVec 32 := 1#32
  let arg17 : BitVec 32 := Scf.iv c0_i32_824 c1_i32_826 k0_t15
  let c1_i32_5324 : BitVec 32 := 1#32
  let v3152 : BitVec 32 := Scalar.muli arg17 c1_i32_5324
  let v3153 : BitVec 32 := Scalar.addi c0_i32_5325 v3152
  let v3175 : Index := Scalar.indexCast v3153
  let c16 : Index := 16#32
  ![2, 0, v3175.toNat, 16]
def k0_off130 (k0_t15 : Fin k0_t15_loop.trips) : Fin 4 → Nat :=
  let c2_i32_5342 : BitVec 32 := 2#32
  let v3179 : Index := Scalar.indexCast c2_i32_5342
  let c0_i32_5343 : BitVec 32 := 0#32
  let v3180 : Index := Scalar.indexCast c0_i32_5343
  let c0_i32_5325 : BitVec 32 := 0#32
  let c0_i32_824 : BitVec 32 := 0#32
  let c1_i32_826 : BitVec 32 := 1#32
  let arg17 : BitVec 32 := Scf.iv c0_i32_824 c1_i32_826 k0_t15
  let c1_i32_5324 : BitVec 32 := 1#32
  let v3152 : BitVec 32 := Scalar.muli arg17 c1_i32_5324
  let v3153 : BitVec 32 := Scalar.addi c0_i32_5325 v3152
  let v3181 : Index := Scalar.indexCast v3153
  let c32 : Index := 32#32
  ![2, 0, v3181.toNat, 32]
def k0_off131 (k0_t15 : Fin k0_t15_loop.trips) : Fin 4 → Nat :=
  let c2_i32_5344 : BitVec 32 := 2#32
  let v3185 : Index := Scalar.indexCast c2_i32_5344
  let c0_i32_5345 : BitVec 32 := 0#32
  let v3186 : Index := Scalar.indexCast c0_i32_5345
  let c0_i32_5325 : BitVec 32 := 0#32
  let c0_i32_824 : BitVec 32 := 0#32
  let c1_i32_826 : BitVec 32 := 1#32
  let arg17 : BitVec 32 := Scf.iv c0_i32_824 c1_i32_826 k0_t15
  let c1_i32_5324 : BitVec 32 := 1#32
  let v3152 : BitVec 32 := Scalar.muli arg17 c1_i32_5324
  let v3153 : BitVec 32 := Scalar.addi c0_i32_5325 v3152
  let v3187 : Index := Scalar.indexCast v3153
  let c48 : Index := 48#32
  ![2, 0, v3187.toNat, 48]

def k0_chk15 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx113_inb : ∀ (v5 : IVec S16 32) (v8 : IVec S16 32) (v11 : IVec S16 32) (v14 : IVec S16 32) (v15 : IVec S16 32) (v16 : IVec S16 32) (v3154 : IVec S16 32) (k0_hw15 : k0_chk15 v5 v8 v11 v14 v15 v16 v3154), ∀ a x, ((![v15, v3154, v14] : Fin 3 → IVec S16 32) a x).toNat < S2x64x64.size a := fun v5 v8 v11 v14 v15 v16 v3154 k0_hw15 => k0_hw15.1
theorem k0_idx114_inb : ∀ (v5 : IVec S16 32) (v8 : IVec S16 32) (v11 : IVec S16 32) (v14 : IVec S16 32) (v15 : IVec S16 32) (v16 : IVec S16 32) (v3154 : IVec S16 32) (k0_hw15 : k0_chk15 v5 v8 v11 v14 v15 v16 v3154), ∀ a x, ((![v15, v3154, v11] : Fin 3 → IVec S16 32) a x).toNat < S2x64x64.size a := fun v5 v8 v11 v14 v15 v16 v3154 k0_hw15 => k0_hw15.2.1
theorem k0_idx115_inb : ∀ (v5 : IVec S16 32) (v8 : IVec S16 32) (v11 : IVec S16 32) (v14 : IVec S16 32) (v15 : IVec S16 32) (v16 : IVec S16 32) (v3154 : IVec S16 32) (k0_hw15 : k0_chk15 v5 v8 v11 v14 v15 v16 v3154), ∀ a x, ((![v15, v3154, v8] : Fin 3 → IVec S16 32) a x).toNat < S2x64x64.size a := fun v5 v8 v11 v14 v15 v16 v3154 k0_hw15 => k0_hw15.2.2.1
theorem k0_idx116_inb : ∀ (v5 : IVec S16 32) (v8 : IVec S16 32) (v11 : IVec S16 32) (v14 : IVec S16 32) (v15 : IVec S16 32) (v16 : IVec S16 32) (v3154 : IVec S16 32) (k0_hw15 : k0_chk15 v5 v8 v11 v14 v15 v16 v3154), ∀ a x, ((![v15, v3154, v5] : Fin 3 → IVec S16 32) a x).toNat < S2x64x64.size a := fun v5 v8 v11 v14 v15 v16 v3154 k0_hw15 => k0_hw15.2.2.2.1
theorem k0_idx117_inb : ∀ (v5 : IVec S16 32) (v8 : IVec S16 32) (v11 : IVec S16 32) (v14 : IVec S16 32) (v15 : IVec S16 32) (v16 : IVec S16 32) (v3154 : IVec S16 32) (k0_hw15 : k0_chk15 v5 v8 v11 v14 v15 v16 v3154), ∀ a x, ((![v16, v3154, v14] : Fin 3 → IVec S16 32) a x).toNat < S2x64x64.size a := fun v5 v8 v11 v14 v15 v16 v3154 k0_hw15 => k0_hw15.2.2.2.2.1
theorem k0_idx118_inb : ∀ (v5 : IVec S16 32) (v8 : IVec S16 32) (v11 : IVec S16 32) (v14 : IVec S16 32) (v15 : IVec S16 32) (v16 : IVec S16 32) (v3154 : IVec S16 32) (k0_hw15 : k0_chk15 v5 v8 v11 v14 v15 v16 v3154), ∀ a x, ((![v16, v3154, v11] : Fin 3 → IVec S16 32) a x).toNat < S2x64x64.size a := fun v5 v8 v11 v14 v15 v16 v3154 k0_hw15 => k0_hw15.2.2.2.2.2.1
theorem k0_idx119_inb : ∀ (v5 : IVec S16 32) (v8 : IVec S16 32) (v11 : IVec S16 32) (v14 : IVec S16 32) (v15 : IVec S16 32) (v16 : IVec S16 32) (v3154 : IVec S16 32) (k0_hw15 : k0_chk15 v5 v8 v11 v14 v15 v16 v3154), ∀ a x, ((![v16, v3154, v8] : Fin 3 → IVec S16 32) a x).toNat < S2x64x64.size a := fun v5 v8 v11 v14 v15 v16 v3154 k0_hw15 => k0_hw15.2.2.2.2.2.2.1
theorem k0_idx120_inb : ∀ (v5 : IVec S16 32) (v8 : IVec S16 32) (v11 : IVec S16 32) (v14 : IVec S16 32) (v15 : IVec S16 32) (v16 : IVec S16 32) (v3154 : IVec S16 32) (k0_hw15 : k0_chk15 v5 v8 v11 v14 v15 v16 v3154), ∀ a x, ((![v16, v3154, v5] : Fin 3 → IVec S16 32) a x).toNat < S2x64x64.size a := fun v5 v8 v11 v14 v15 v16 v3154 k0_hw15 => k0_hw15.2.2.2.2.2.2.2
def k0_off132 (k0_t15 : Fin k0_t15_loop.trips) : Fin 4 → Nat :=
  let c2_i32_5358 : BitVec 32 := 2#32
  let v3203 : Index := Scalar.indexCast c2_i32_5358
  let c1_i32_5359 : BitVec 32 := 1#32
  let v3204 : Index := Scalar.indexCast c1_i32_5359
  let c0_i32_5325 : BitVec 32 := 0#32
  let c0_i32_824 : BitVec 32 := 0#32
  let c1_i32_826 : BitVec 32 := 1#32
  let arg17 : BitVec 32 := Scf.iv c0_i32_824 c1_i32_826 k0_t15
  let c1_i32_5324 : BitVec 32 := 1#32
  let v3152 : BitVec 32 := Scalar.muli arg17 c1_i32_5324
  let v3153 : BitVec 32 := Scalar.addi c0_i32_5325 v3152
  let v3205 : Index := Scalar.indexCast v3153
  let c0_5360 : Index := 0#32
  ![2, 1, v3205.toNat, 0]
def k0_off133 (k0_t15 : Fin k0_t15_loop.trips) : Fin 4 → Nat :=
  let c2_i32_5361 : BitVec 32 := 2#32
  let v3209 : Index := Scalar.indexCast c2_i32_5361
  let c1_i32_5362 : BitVec 32 := 1#32
  let v3210 : Index := Scalar.indexCast c1_i32_5362
  let c0_i32_5325 : BitVec 32 := 0#32
  let c0_i32_824 : BitVec 32 := 0#32
  let c1_i32_826 : BitVec 32 := 1#32
  let arg17 : BitVec 32 := Scf.iv c0_i32_824 c1_i32_826 k0_t15
  let c1_i32_5324 : BitVec 32 := 1#32
  let v3152 : BitVec 32 := Scalar.muli arg17 c1_i32_5324
  let v3153 : BitVec 32 := Scalar.addi c0_i32_5325 v3152
  let v3211 : Index := Scalar.indexCast v3153
  let c16_5363 : Index := 16#32
  ![2, 1, v3211.toNat, 16]
def k0_off134 (k0_t15 : Fin k0_t15_loop.trips) : Fin 4 → Nat :=
  let c2_i32_5364 : BitVec 32 := 2#32
  let v3215 : Index := Scalar.indexCast c2_i32_5364
  let c1_i32_5365 : BitVec 32 := 1#32
  let v3216 : Index := Scalar.indexCast c1_i32_5365
  let c0_i32_5325 : BitVec 32 := 0#32
  let c0_i32_824 : BitVec 32 := 0#32
  let c1_i32_826 : BitVec 32 := 1#32
  let arg17 : BitVec 32 := Scf.iv c0_i32_824 c1_i32_826 k0_t15
  let c1_i32_5324 : BitVec 32 := 1#32
  let v3152 : BitVec 32 := Scalar.muli arg17 c1_i32_5324
  let v3153 : BitVec 32 := Scalar.addi c0_i32_5325 v3152
  let v3217 : Index := Scalar.indexCast v3153
  let c32_5366 : Index := 32#32
  ![2, 1, v3217.toNat, 32]
def k0_off135 (k0_t15 : Fin k0_t15_loop.trips) : Fin 4 → Nat :=
  let c2_i32_5367 : BitVec 32 := 2#32
  let v3221 : Index := Scalar.indexCast c2_i32_5367
  let c1_i32_5368 : BitVec 32 := 1#32
  let v3222 : Index := Scalar.indexCast c1_i32_5368
  let c0_i32_5325 : BitVec 32 := 0#32
  let c0_i32_824 : BitVec 32 := 0#32
  let c1_i32_826 : BitVec 32 := 1#32
  let arg17 : BitVec 32 := Scf.iv c0_i32_824 c1_i32_826 k0_t15
  let c1_i32_5324 : BitVec 32 := 1#32
  let v3152 : BitVec 32 := Scalar.muli arg17 c1_i32_5324
  let v3153 : BitVec 32 := Scalar.addi c0_i32_5325 v3152
  let v3223 : Index := Scalar.indexCast v3153
  let c48_5369 : Index := 48#32
  ![2, 1, v3223.toNat, 48]
@[reducible] def k0_t16_loop : Scf.Loop 32 :=
  let c0_i32_880 : BitVec 32 := 0#32
  let c64_i32_881 : BitVec 32 := 64#32
  let v536 : BitVec 32 := Scalar.addi c0_i32_880 c64_i32_881
  let c1_i32_882 : BitVec 32 := 1#32
  ⟨c0_i32_880, v536, c1_i32_882⟩
def k0_off136 (k0_t16 : Fin k0_t16_loop.trips) : Fin 4 → Nat :=
  let c0_i32_5338 : BitVec 32 := 0#32
  let v3167 : Index := Scalar.indexCast c0_i32_5338
  let c0_i32_5339 : BitVec 32 := 0#32
  let v3168 : Index := Scalar.indexCast c0_i32_5339
  let c0_i32_5325 : BitVec 32 := 0#32
  let c0_i32_880 : BitVec 32 := 0#32
  let c1_i32_882 : BitVec 32 := 1#32
  let arg17 : BitVec 32 := Scf.iv c0_i32_880 c1_i32_882 k0_t16
  let c1_i32_5324 : BitVec 32 := 1#32
  let v3152 : BitVec 32 := Scalar.muli arg17 c1_i32_5324
  let v3153 : BitVec 32 := Scalar.addi c0_i32_5325 v3152
  let v3169 : Index := Scalar.indexCast v3153
  let c0 : Index := 0#32
  ![0, 0, v3169.toNat, 0]
def k0_off137 (k0_t16 : Fin k0_t16_loop.trips) : Fin 4 → Nat :=
  let c0_i32_5340 : BitVec 32 := 0#32
  let v3173 : Index := Scalar.indexCast c0_i32_5340
  let c0_i32_5341 : BitVec 32 := 0#32
  let v3174 : Index := Scalar.indexCast c0_i32_5341
  let c0_i32_5325 : BitVec 32 := 0#32
  let c0_i32_880 : BitVec 32 := 0#32
  let c1_i32_882 : BitVec 32 := 1#32
  let arg17 : BitVec 32 := Scf.iv c0_i32_880 c1_i32_882 k0_t16
  let c1_i32_5324 : BitVec 32 := 1#32
  let v3152 : BitVec 32 := Scalar.muli arg17 c1_i32_5324
  let v3153 : BitVec 32 := Scalar.addi c0_i32_5325 v3152
  let v3175 : Index := Scalar.indexCast v3153
  let c16 : Index := 16#32
  ![0, 0, v3175.toNat, 16]
def k0_off138 (k0_t16 : Fin k0_t16_loop.trips) : Fin 4 → Nat :=
  let c0_i32_5342 : BitVec 32 := 0#32
  let v3179 : Index := Scalar.indexCast c0_i32_5342
  let c0_i32_5343 : BitVec 32 := 0#32
  let v3180 : Index := Scalar.indexCast c0_i32_5343
  let c0_i32_5325 : BitVec 32 := 0#32
  let c0_i32_880 : BitVec 32 := 0#32
  let c1_i32_882 : BitVec 32 := 1#32
  let arg17 : BitVec 32 := Scf.iv c0_i32_880 c1_i32_882 k0_t16
  let c1_i32_5324 : BitVec 32 := 1#32
  let v3152 : BitVec 32 := Scalar.muli arg17 c1_i32_5324
  let v3153 : BitVec 32 := Scalar.addi c0_i32_5325 v3152
  let v3181 : Index := Scalar.indexCast v3153
  let c32 : Index := 32#32
  ![0, 0, v3181.toNat, 32]
def k0_off139 (k0_t16 : Fin k0_t16_loop.trips) : Fin 4 → Nat :=
  let c0_i32_5344 : BitVec 32 := 0#32
  let v3185 : Index := Scalar.indexCast c0_i32_5344
  let c0_i32_5345 : BitVec 32 := 0#32
  let v3186 : Index := Scalar.indexCast c0_i32_5345
  let c0_i32_5325 : BitVec 32 := 0#32
  let c0_i32_880 : BitVec 32 := 0#32
  let c1_i32_882 : BitVec 32 := 1#32
  let arg17 : BitVec 32 := Scf.iv c0_i32_880 c1_i32_882 k0_t16
  let c1_i32_5324 : BitVec 32 := 1#32
  let v3152 : BitVec 32 := Scalar.muli arg17 c1_i32_5324
  let v3153 : BitVec 32 := Scalar.addi c0_i32_5325 v3152
  let v3187 : Index := Scalar.indexCast v3153
  let c48 : Index := 48#32
  ![0, 0, v3187.toNat, 48]

def k0_chk16 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx121_inb : ∀ (v5 : IVec S16 32) (v8 : IVec S16 32) (v11 : IVec S16 32) (v14 : IVec S16 32) (v15 : IVec S16 32) (v16 : IVec S16 32) (v3154 : IVec S16 32) (k0_hw16 : k0_chk16 v5 v8 v11 v14 v15 v16 v3154), ∀ a x, ((![v15, v3154, v14] : Fin 3 → IVec S16 32) a x).toNat < S2x64x64.size a := fun v5 v8 v11 v14 v15 v16 v3154 k0_hw16 => k0_hw16.1
theorem k0_idx122_inb : ∀ (v5 : IVec S16 32) (v8 : IVec S16 32) (v11 : IVec S16 32) (v14 : IVec S16 32) (v15 : IVec S16 32) (v16 : IVec S16 32) (v3154 : IVec S16 32) (k0_hw16 : k0_chk16 v5 v8 v11 v14 v15 v16 v3154), ∀ a x, ((![v15, v3154, v11] : Fin 3 → IVec S16 32) a x).toNat < S2x64x64.size a := fun v5 v8 v11 v14 v15 v16 v3154 k0_hw16 => k0_hw16.2.1
theorem k0_idx123_inb : ∀ (v5 : IVec S16 32) (v8 : IVec S16 32) (v11 : IVec S16 32) (v14 : IVec S16 32) (v15 : IVec S16 32) (v16 : IVec S16 32) (v3154 : IVec S16 32) (k0_hw16 : k0_chk16 v5 v8 v11 v14 v15 v16 v3154), ∀ a x, ((![v15, v3154, v8] : Fin 3 → IVec S16 32) a x).toNat < S2x64x64.size a := fun v5 v8 v11 v14 v15 v16 v3154 k0_hw16 => k0_hw16.2.2.1
theorem k0_idx124_inb : ∀ (v5 : IVec S16 32) (v8 : IVec S16 32) (v11 : IVec S16 32) (v14 : IVec S16 32) (v15 : IVec S16 32) (v16 : IVec S16 32) (v3154 : IVec S16 32) (k0_hw16 : k0_chk16 v5 v8 v11 v14 v15 v16 v3154), ∀ a x, ((![v15, v3154, v5] : Fin 3 → IVec S16 32) a x).toNat < S2x64x64.size a := fun v5 v8 v11 v14 v15 v16 v3154 k0_hw16 => k0_hw16.2.2.2.1
theorem k0_idx125_inb : ∀ (v5 : IVec S16 32) (v8 : IVec S16 32) (v11 : IVec S16 32) (v14 : IVec S16 32) (v15 : IVec S16 32) (v16 : IVec S16 32) (v3154 : IVec S16 32) (k0_hw16 : k0_chk16 v5 v8 v11 v14 v15 v16 v3154), ∀ a x, ((![v16, v3154, v14] : Fin 3 → IVec S16 32) a x).toNat < S2x64x64.size a := fun v5 v8 v11 v14 v15 v16 v3154 k0_hw16 => k0_hw16.2.2.2.2.1
theorem k0_idx126_inb : ∀ (v5 : IVec S16 32) (v8 : IVec S16 32) (v11 : IVec S16 32) (v14 : IVec S16 32) (v15 : IVec S16 32) (v16 : IVec S16 32) (v3154 : IVec S16 32) (k0_hw16 : k0_chk16 v5 v8 v11 v14 v15 v16 v3154), ∀ a x, ((![v16, v3154, v11] : Fin 3 → IVec S16 32) a x).toNat < S2x64x64.size a := fun v5 v8 v11 v14 v15 v16 v3154 k0_hw16 => k0_hw16.2.2.2.2.2.1
theorem k0_idx127_inb : ∀ (v5 : IVec S16 32) (v8 : IVec S16 32) (v11 : IVec S16 32) (v14 : IVec S16 32) (v15 : IVec S16 32) (v16 : IVec S16 32) (v3154 : IVec S16 32) (k0_hw16 : k0_chk16 v5 v8 v11 v14 v15 v16 v3154), ∀ a x, ((![v16, v3154, v8] : Fin 3 → IVec S16 32) a x).toNat < S2x64x64.size a := fun v5 v8 v11 v14 v15 v16 v3154 k0_hw16 => k0_hw16.2.2.2.2.2.2.1
theorem k0_idx128_inb : ∀ (v5 : IVec S16 32) (v8 : IVec S16 32) (v11 : IVec S16 32) (v14 : IVec S16 32) (v15 : IVec S16 32) (v16 : IVec S16 32) (v3154 : IVec S16 32) (k0_hw16 : k0_chk16 v5 v8 v11 v14 v15 v16 v3154), ∀ a x, ((![v16, v3154, v5] : Fin 3 → IVec S16 32) a x).toNat < S2x64x64.size a := fun v5 v8 v11 v14 v15 v16 v3154 k0_hw16 => k0_hw16.2.2.2.2.2.2.2
def k0_off140 (k0_t16 : Fin k0_t16_loop.trips) : Fin 4 → Nat :=
  let c0_i32_5358 : BitVec 32 := 0#32
  let v3203 : Index := Scalar.indexCast c0_i32_5358
  let c1_i32_5359 : BitVec 32 := 1#32
  let v3204 : Index := Scalar.indexCast c1_i32_5359
  let c0_i32_5325 : BitVec 32 := 0#32
  let c0_i32_880 : BitVec 32 := 0#32
  let c1_i32_882 : BitVec 32 := 1#32
  let arg17 : BitVec 32 := Scf.iv c0_i32_880 c1_i32_882 k0_t16
  let c1_i32_5324 : BitVec 32 := 1#32
  let v3152 : BitVec 32 := Scalar.muli arg17 c1_i32_5324
  let v3153 : BitVec 32 := Scalar.addi c0_i32_5325 v3152
  let v3205 : Index := Scalar.indexCast v3153
  let c0_5360 : Index := 0#32
  ![0, 1, v3205.toNat, 0]
def k0_off141 (k0_t16 : Fin k0_t16_loop.trips) : Fin 4 → Nat :=
  let c0_i32_5361 : BitVec 32 := 0#32
  let v3209 : Index := Scalar.indexCast c0_i32_5361
  let c1_i32_5362 : BitVec 32 := 1#32
  let v3210 : Index := Scalar.indexCast c1_i32_5362
  let c0_i32_5325 : BitVec 32 := 0#32
  let c0_i32_880 : BitVec 32 := 0#32
  let c1_i32_882 : BitVec 32 := 1#32
  let arg17 : BitVec 32 := Scf.iv c0_i32_880 c1_i32_882 k0_t16
  let c1_i32_5324 : BitVec 32 := 1#32
  let v3152 : BitVec 32 := Scalar.muli arg17 c1_i32_5324
  let v3153 : BitVec 32 := Scalar.addi c0_i32_5325 v3152
  let v3211 : Index := Scalar.indexCast v3153
  let c16_5363 : Index := 16#32
  ![0, 1, v3211.toNat, 16]
def k0_off142 (k0_t16 : Fin k0_t16_loop.trips) : Fin 4 → Nat :=
  let c0_i32_5364 : BitVec 32 := 0#32
  let v3215 : Index := Scalar.indexCast c0_i32_5364
  let c1_i32_5365 : BitVec 32 := 1#32
  let v3216 : Index := Scalar.indexCast c1_i32_5365
  let c0_i32_5325 : BitVec 32 := 0#32
  let c0_i32_880 : BitVec 32 := 0#32
  let c1_i32_882 : BitVec 32 := 1#32
  let arg17 : BitVec 32 := Scf.iv c0_i32_880 c1_i32_882 k0_t16
  let c1_i32_5324 : BitVec 32 := 1#32
  let v3152 : BitVec 32 := Scalar.muli arg17 c1_i32_5324
  let v3153 : BitVec 32 := Scalar.addi c0_i32_5325 v3152
  let v3217 : Index := Scalar.indexCast v3153
  let c32_5366 : Index := 32#32
  ![0, 1, v3217.toNat, 32]
def k0_off143 (k0_t16 : Fin k0_t16_loop.trips) : Fin 4 → Nat :=
  let c0_i32_5367 : BitVec 32 := 0#32
  let v3221 : Index := Scalar.indexCast c0_i32_5367
  let c1_i32_5368 : BitVec 32 := 1#32
  let v3222 : Index := Scalar.indexCast c1_i32_5368
  let c0_i32_5325 : BitVec 32 := 0#32
  let c0_i32_880 : BitVec 32 := 0#32
  let c1_i32_882 : BitVec 32 := 1#32
  let arg17 : BitVec 32 := Scf.iv c0_i32_880 c1_i32_882 k0_t16
  let c1_i32_5324 : BitVec 32 := 1#32
  let v3152 : BitVec 32 := Scalar.muli arg17 c1_i32_5324
  let v3153 : BitVec 32 := Scalar.addi c0_i32_5325 v3152
  let v3223 : Index := Scalar.indexCast v3153
  let c48_5369 : Index := 48#32
  ![0, 1, v3223.toNat, 48]
@[reducible] def k0_t17_loop : Scf.Loop 32 :=
  let c0_i32_936 : BitVec 32 := 0#32
  let c64_i32_937 : BitVec 32 := 64#32
  let v569 : BitVec 32 := Scalar.addi c0_i32_936 c64_i32_937
  let c1_i32_938 : BitVec 32 := 1#32
  ⟨c0_i32_936, v569, c1_i32_938⟩
def k0_off144 (k0_t17 : Fin k0_t17_loop.trips) : Fin 4 → Nat :=
  let c1_i32_5341 : BitVec 32 := 1#32
  let v3175 : Index := Scalar.indexCast c1_i32_5341
  let c0_i32_5342 : BitVec 32 := 0#32
  let v3176 : Index := Scalar.indexCast c0_i32_5342
  let c0_i32_5325 : BitVec 32 := 0#32
  let c0_i32_936 : BitVec 32 := 0#32
  let c1_i32_938 : BitVec 32 := 1#32
  let arg17 : BitVec 32 := Scf.iv c0_i32_936 c1_i32_938 k0_t17
  let c1_i32_5324 : BitVec 32 := 1#32
  let v3152 : BitVec 32 := Scalar.muli arg17 c1_i32_5324
  let v3153 : BitVec 32 := Scalar.addi c0_i32_5325 v3152
  let v3177 : Index := Scalar.indexCast v3153
  let c0 : Index := 0#32
  ![1, 0, v3177.toNat, 0]
def k0_off145 (k0_t17 : Fin k0_t17_loop.trips) : Fin 4 → Nat :=
  let c1_i32_5343 : BitVec 32 := 1#32
  let v3181 : Index := Scalar.indexCast c1_i32_5343
  let c0_i32_5344 : BitVec 32 := 0#32
  let v3182 : Index := Scalar.indexCast c0_i32_5344
  let c0_i32_5325 : BitVec 32 := 0#32
  let c0_i32_936 : BitVec 32 := 0#32
  let c1_i32_938 : BitVec 32 := 1#32
  let arg17 : BitVec 32 := Scf.iv c0_i32_936 c1_i32_938 k0_t17
  let c1_i32_5324 : BitVec 32 := 1#32
  let v3152 : BitVec 32 := Scalar.muli arg17 c1_i32_5324
  let v3153 : BitVec 32 := Scalar.addi c0_i32_5325 v3152
  let v3183 : Index := Scalar.indexCast v3153
  let c16 : Index := 16#32
  ![1, 0, v3183.toNat, 16]
def k0_off146 (k0_t17 : Fin k0_t17_loop.trips) : Fin 4 → Nat :=
  let c1_i32_5345 : BitVec 32 := 1#32
  let v3187 : Index := Scalar.indexCast c1_i32_5345
  let c0_i32_5346 : BitVec 32 := 0#32
  let v3188 : Index := Scalar.indexCast c0_i32_5346
  let c0_i32_5325 : BitVec 32 := 0#32
  let c0_i32_936 : BitVec 32 := 0#32
  let c1_i32_938 : BitVec 32 := 1#32
  let arg17 : BitVec 32 := Scf.iv c0_i32_936 c1_i32_938 k0_t17
  let c1_i32_5324 : BitVec 32 := 1#32
  let v3152 : BitVec 32 := Scalar.muli arg17 c1_i32_5324
  let v3153 : BitVec 32 := Scalar.addi c0_i32_5325 v3152
  let v3189 : Index := Scalar.indexCast v3153
  let c32 : Index := 32#32
  ![1, 0, v3189.toNat, 32]
def k0_off147 (k0_t17 : Fin k0_t17_loop.trips) : Fin 4 → Nat :=
  let c1_i32_5347 : BitVec 32 := 1#32
  let v3193 : Index := Scalar.indexCast c1_i32_5347
  let c0_i32_5348 : BitVec 32 := 0#32
  let v3194 : Index := Scalar.indexCast c0_i32_5348
  let c0_i32_5325 : BitVec 32 := 0#32
  let c0_i32_936 : BitVec 32 := 0#32
  let c1_i32_938 : BitVec 32 := 1#32
  let arg17 : BitVec 32 := Scf.iv c0_i32_936 c1_i32_938 k0_t17
  let c1_i32_5324 : BitVec 32 := 1#32
  let v3152 : BitVec 32 := Scalar.muli arg17 c1_i32_5324
  let v3153 : BitVec 32 := Scalar.addi c0_i32_5325 v3152
  let v3195 : Index := Scalar.indexCast v3153
  let c48 : Index := 48#32
  ![1, 0, v3195.toNat, 48]

def k0_chk17 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx129_inb : ∀ (v5 : IVec S16 32) (v8 : IVec S16 32) (v11 : IVec S16 32) (v14 : IVec S16 32) (v15 : IVec S16 32) (v16 : IVec S16 32) (v3154 : IVec S16 32) (k0_hw17 : k0_chk17 v5 v8 v11 v14 v15 v16 v3154), ∀ a x, ((![v15, v3154, v14] : Fin 3 → IVec S16 32) a x).toNat < S2x64x64.size a := fun v5 v8 v11 v14 v15 v16 v3154 k0_hw17 => k0_hw17.1
theorem k0_idx130_inb : ∀ (v5 : IVec S16 32) (v8 : IVec S16 32) (v11 : IVec S16 32) (v14 : IVec S16 32) (v15 : IVec S16 32) (v16 : IVec S16 32) (v3154 : IVec S16 32) (k0_hw17 : k0_chk17 v5 v8 v11 v14 v15 v16 v3154), ∀ a x, ((![v15, v3154, v11] : Fin 3 → IVec S16 32) a x).toNat < S2x64x64.size a := fun v5 v8 v11 v14 v15 v16 v3154 k0_hw17 => k0_hw17.2.1
theorem k0_idx131_inb : ∀ (v5 : IVec S16 32) (v8 : IVec S16 32) (v11 : IVec S16 32) (v14 : IVec S16 32) (v15 : IVec S16 32) (v16 : IVec S16 32) (v3154 : IVec S16 32) (k0_hw17 : k0_chk17 v5 v8 v11 v14 v15 v16 v3154), ∀ a x, ((![v15, v3154, v8] : Fin 3 → IVec S16 32) a x).toNat < S2x64x64.size a := fun v5 v8 v11 v14 v15 v16 v3154 k0_hw17 => k0_hw17.2.2.1
theorem k0_idx132_inb : ∀ (v5 : IVec S16 32) (v8 : IVec S16 32) (v11 : IVec S16 32) (v14 : IVec S16 32) (v15 : IVec S16 32) (v16 : IVec S16 32) (v3154 : IVec S16 32) (k0_hw17 : k0_chk17 v5 v8 v11 v14 v15 v16 v3154), ∀ a x, ((![v15, v3154, v5] : Fin 3 → IVec S16 32) a x).toNat < S2x64x64.size a := fun v5 v8 v11 v14 v15 v16 v3154 k0_hw17 => k0_hw17.2.2.2.1
theorem k0_idx133_inb : ∀ (v5 : IVec S16 32) (v8 : IVec S16 32) (v11 : IVec S16 32) (v14 : IVec S16 32) (v15 : IVec S16 32) (v16 : IVec S16 32) (v3154 : IVec S16 32) (k0_hw17 : k0_chk17 v5 v8 v11 v14 v15 v16 v3154), ∀ a x, ((![v16, v3154, v14] : Fin 3 → IVec S16 32) a x).toNat < S2x64x64.size a := fun v5 v8 v11 v14 v15 v16 v3154 k0_hw17 => k0_hw17.2.2.2.2.1
theorem k0_idx134_inb : ∀ (v5 : IVec S16 32) (v8 : IVec S16 32) (v11 : IVec S16 32) (v14 : IVec S16 32) (v15 : IVec S16 32) (v16 : IVec S16 32) (v3154 : IVec S16 32) (k0_hw17 : k0_chk17 v5 v8 v11 v14 v15 v16 v3154), ∀ a x, ((![v16, v3154, v11] : Fin 3 → IVec S16 32) a x).toNat < S2x64x64.size a := fun v5 v8 v11 v14 v15 v16 v3154 k0_hw17 => k0_hw17.2.2.2.2.2.1
theorem k0_idx135_inb : ∀ (v5 : IVec S16 32) (v8 : IVec S16 32) (v11 : IVec S16 32) (v14 : IVec S16 32) (v15 : IVec S16 32) (v16 : IVec S16 32) (v3154 : IVec S16 32) (k0_hw17 : k0_chk17 v5 v8 v11 v14 v15 v16 v3154), ∀ a x, ((![v16, v3154, v8] : Fin 3 → IVec S16 32) a x).toNat < S2x64x64.size a := fun v5 v8 v11 v14 v15 v16 v3154 k0_hw17 => k0_hw17.2.2.2.2.2.2.1
theorem k0_idx136_inb : ∀ (v5 : IVec S16 32) (v8 : IVec S16 32) (v11 : IVec S16 32) (v14 : IVec S16 32) (v15 : IVec S16 32) (v16 : IVec S16 32) (v3154 : IVec S16 32) (k0_hw17 : k0_chk17 v5 v8 v11 v14 v15 v16 v3154), ∀ a x, ((![v16, v3154, v5] : Fin 3 → IVec S16 32) a x).toNat < S2x64x64.size a := fun v5 v8 v11 v14 v15 v16 v3154 k0_hw17 => k0_hw17.2.2.2.2.2.2.2
def k0_off148 (k0_t17 : Fin k0_t17_loop.trips) : Fin 4 → Nat :=
  let c1_i32_5365 : BitVec 32 := 1#32
  let v3219 : Index := Scalar.indexCast c1_i32_5365
  let c1_i32_5366 : BitVec 32 := 1#32
  let v3220 : Index := Scalar.indexCast c1_i32_5366
  let c0_i32_5325 : BitVec 32 := 0#32
  let c0_i32_936 : BitVec 32 := 0#32
  let c1_i32_938 : BitVec 32 := 1#32
  let arg17 : BitVec 32 := Scf.iv c0_i32_936 c1_i32_938 k0_t17
  let c1_i32_5324 : BitVec 32 := 1#32
  let v3152 : BitVec 32 := Scalar.muli arg17 c1_i32_5324
  let v3153 : BitVec 32 := Scalar.addi c0_i32_5325 v3152
  let v3221 : Index := Scalar.indexCast v3153
  let c0_5367 : Index := 0#32
  ![1, 1, v3221.toNat, 0]
def k0_off149 (k0_t17 : Fin k0_t17_loop.trips) : Fin 4 → Nat :=
  let c1_i32_5368 : BitVec 32 := 1#32
  let v3225 : Index := Scalar.indexCast c1_i32_5368
  let c1_i32_5369 : BitVec 32 := 1#32
  let v3226 : Index := Scalar.indexCast c1_i32_5369
  let c0_i32_5325 : BitVec 32 := 0#32
  let c0_i32_936 : BitVec 32 := 0#32
  let c1_i32_938 : BitVec 32 := 1#32
  let arg17 : BitVec 32 := Scf.iv c0_i32_936 c1_i32_938 k0_t17
  let c1_i32_5324 : BitVec 32 := 1#32
  let v3152 : BitVec 32 := Scalar.muli arg17 c1_i32_5324
  let v3153 : BitVec 32 := Scalar.addi c0_i32_5325 v3152
  let v3227 : Index := Scalar.indexCast v3153
  let c16_5370 : Index := 16#32
  ![1, 1, v3227.toNat, 16]
def k0_off150 (k0_t17 : Fin k0_t17_loop.trips) : Fin 4 → Nat :=
  let c1_i32_5371 : BitVec 32 := 1#32
  let v3231 : Index := Scalar.indexCast c1_i32_5371
  let c1_i32_5372 : BitVec 32 := 1#32
  let v3232 : Index := Scalar.indexCast c1_i32_5372
  let c0_i32_5325 : BitVec 32 := 0#32
  let c0_i32_936 : BitVec 32 := 0#32
  let c1_i32_938 : BitVec 32 := 1#32
  let arg17 : BitVec 32 := Scf.iv c0_i32_936 c1_i32_938 k0_t17
  let c1_i32_5324 : BitVec 32 := 1#32
  let v3152 : BitVec 32 := Scalar.muli arg17 c1_i32_5324
  let v3153 : BitVec 32 := Scalar.addi c0_i32_5325 v3152
  let v3233 : Index := Scalar.indexCast v3153
  let c32_5373 : Index := 32#32
  ![1, 1, v3233.toNat, 32]
def k0_off151 (k0_t17 : Fin k0_t17_loop.trips) : Fin 4 → Nat :=
  let c1_i32_5374 : BitVec 32 := 1#32
  let v3237 : Index := Scalar.indexCast c1_i32_5374
  let c1_i32_5375 : BitVec 32 := 1#32
  let v3238 : Index := Scalar.indexCast c1_i32_5375
  let c0_i32_5325 : BitVec 32 := 0#32
  let c0_i32_936 : BitVec 32 := 0#32
  let c1_i32_938 : BitVec 32 := 1#32
  let arg17 : BitVec 32 := Scf.iv c0_i32_936 c1_i32_938 k0_t17
  let c1_i32_5324 : BitVec 32 := 1#32
  let v3152 : BitVec 32 := Scalar.muli arg17 c1_i32_5324
  let v3153 : BitVec 32 := Scalar.addi c0_i32_5325 v3152
  let v3239 : Index := Scalar.indexCast v3153
  let c48_5376 : Index := 48#32
  ![1, 1, v3239.toNat, 48]
def k0_off152 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c4_i32 : BitVec 32 := 4#32
  let c0_i32_957 : BitVec 32 := 0#32
  let c0_i32_958 : BitVec 32 := 0#32
  ![v2.toNat, 4, 0, 0]
@[reducible] def k0_t18_loop : Scf.Loop 32 :=
  let c0_i32_991 : BitVec 32 := 0#32
  let c64_i32_992 : BitVec 32 := 64#32
  let v602 : BitVec 32 := Scalar.addi c0_i32_991 c64_i32_992
  let c1_i32_993 : BitVec 32 := 1#32
  ⟨c0_i32_991, v602, c1_i32_993⟩
def k0_off153 (k0_t18 : Fin k0_t18_loop.trips) : Fin 4 → Nat :=
  let c2_i32_5341 : BitVec 32 := 2#32
  let v3175 : Index := Scalar.indexCast c2_i32_5341
  let c0_i32_5342 : BitVec 32 := 0#32
  let v3176 : Index := Scalar.indexCast c0_i32_5342
  let c0_i32_5325 : BitVec 32 := 0#32
  let c0_i32_991 : BitVec 32 := 0#32
  let c1_i32_993 : BitVec 32 := 1#32
  let arg17 : BitVec 32 := Scf.iv c0_i32_991 c1_i32_993 k0_t18
  let c1_i32_5324 : BitVec 32 := 1#32
  let v3152 : BitVec 32 := Scalar.muli arg17 c1_i32_5324
  let v3153 : BitVec 32 := Scalar.addi c0_i32_5325 v3152
  let v3177 : Index := Scalar.indexCast v3153
  let c0 : Index := 0#32
  ![2, 0, v3177.toNat, 0]
def k0_off154 (k0_t18 : Fin k0_t18_loop.trips) : Fin 4 → Nat :=
  let c2_i32_5343 : BitVec 32 := 2#32
  let v3181 : Index := Scalar.indexCast c2_i32_5343
  let c0_i32_5344 : BitVec 32 := 0#32
  let v3182 : Index := Scalar.indexCast c0_i32_5344
  let c0_i32_5325 : BitVec 32 := 0#32
  let c0_i32_991 : BitVec 32 := 0#32
  let c1_i32_993 : BitVec 32 := 1#32
  let arg17 : BitVec 32 := Scf.iv c0_i32_991 c1_i32_993 k0_t18
  let c1_i32_5324 : BitVec 32 := 1#32
  let v3152 : BitVec 32 := Scalar.muli arg17 c1_i32_5324
  let v3153 : BitVec 32 := Scalar.addi c0_i32_5325 v3152
  let v3183 : Index := Scalar.indexCast v3153
  let c16 : Index := 16#32
  ![2, 0, v3183.toNat, 16]
def k0_off155 (k0_t18 : Fin k0_t18_loop.trips) : Fin 4 → Nat :=
  let c2_i32_5345 : BitVec 32 := 2#32
  let v3187 : Index := Scalar.indexCast c2_i32_5345
  let c0_i32_5346 : BitVec 32 := 0#32
  let v3188 : Index := Scalar.indexCast c0_i32_5346
  let c0_i32_5325 : BitVec 32 := 0#32
  let c0_i32_991 : BitVec 32 := 0#32
  let c1_i32_993 : BitVec 32 := 1#32
  let arg17 : BitVec 32 := Scf.iv c0_i32_991 c1_i32_993 k0_t18
  let c1_i32_5324 : BitVec 32 := 1#32
  let v3152 : BitVec 32 := Scalar.muli arg17 c1_i32_5324
  let v3153 : BitVec 32 := Scalar.addi c0_i32_5325 v3152
  let v3189 : Index := Scalar.indexCast v3153
  let c32 : Index := 32#32
  ![2, 0, v3189.toNat, 32]
def k0_off156 (k0_t18 : Fin k0_t18_loop.trips) : Fin 4 → Nat :=
  let c2_i32_5347 : BitVec 32 := 2#32
  let v3193 : Index := Scalar.indexCast c2_i32_5347
  let c0_i32_5348 : BitVec 32 := 0#32
  let v3194 : Index := Scalar.indexCast c0_i32_5348
  let c0_i32_5325 : BitVec 32 := 0#32
  let c0_i32_991 : BitVec 32 := 0#32
  let c1_i32_993 : BitVec 32 := 1#32
  let arg17 : BitVec 32 := Scf.iv c0_i32_991 c1_i32_993 k0_t18
  let c1_i32_5324 : BitVec 32 := 1#32
  let v3152 : BitVec 32 := Scalar.muli arg17 c1_i32_5324
  let v3153 : BitVec 32 := Scalar.addi c0_i32_5325 v3152
  let v3195 : Index := Scalar.indexCast v3153
  let c48 : Index := 48#32
  ![2, 0, v3195.toNat, 48]

def k0_chk18 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx137_inb : ∀ (v5 : IVec S16 32) (v8 : IVec S16 32) (v11 : IVec S16 32) (v14 : IVec S16 32) (v15 : IVec S16 32) (v16 : IVec S16 32) (v3154 : IVec S16 32) (k0_hw18 : k0_chk18 v5 v8 v11 v14 v15 v16 v3154), ∀ a x, ((![v15, v3154, v14] : Fin 3 → IVec S16 32) a x).toNat < S2x64x64.size a := fun v5 v8 v11 v14 v15 v16 v3154 k0_hw18 => k0_hw18.1
theorem k0_idx138_inb : ∀ (v5 : IVec S16 32) (v8 : IVec S16 32) (v11 : IVec S16 32) (v14 : IVec S16 32) (v15 : IVec S16 32) (v16 : IVec S16 32) (v3154 : IVec S16 32) (k0_hw18 : k0_chk18 v5 v8 v11 v14 v15 v16 v3154), ∀ a x, ((![v15, v3154, v11] : Fin 3 → IVec S16 32) a x).toNat < S2x64x64.size a := fun v5 v8 v11 v14 v15 v16 v3154 k0_hw18 => k0_hw18.2.1
theorem k0_idx139_inb : ∀ (v5 : IVec S16 32) (v8 : IVec S16 32) (v11 : IVec S16 32) (v14 : IVec S16 32) (v15 : IVec S16 32) (v16 : IVec S16 32) (v3154 : IVec S16 32) (k0_hw18 : k0_chk18 v5 v8 v11 v14 v15 v16 v3154), ∀ a x, ((![v15, v3154, v8] : Fin 3 → IVec S16 32) a x).toNat < S2x64x64.size a := fun v5 v8 v11 v14 v15 v16 v3154 k0_hw18 => k0_hw18.2.2.1
theorem k0_idx140_inb : ∀ (v5 : IVec S16 32) (v8 : IVec S16 32) (v11 : IVec S16 32) (v14 : IVec S16 32) (v15 : IVec S16 32) (v16 : IVec S16 32) (v3154 : IVec S16 32) (k0_hw18 : k0_chk18 v5 v8 v11 v14 v15 v16 v3154), ∀ a x, ((![v15, v3154, v5] : Fin 3 → IVec S16 32) a x).toNat < S2x64x64.size a := fun v5 v8 v11 v14 v15 v16 v3154 k0_hw18 => k0_hw18.2.2.2.1
theorem k0_idx141_inb : ∀ (v5 : IVec S16 32) (v8 : IVec S16 32) (v11 : IVec S16 32) (v14 : IVec S16 32) (v15 : IVec S16 32) (v16 : IVec S16 32) (v3154 : IVec S16 32) (k0_hw18 : k0_chk18 v5 v8 v11 v14 v15 v16 v3154), ∀ a x, ((![v16, v3154, v14] : Fin 3 → IVec S16 32) a x).toNat < S2x64x64.size a := fun v5 v8 v11 v14 v15 v16 v3154 k0_hw18 => k0_hw18.2.2.2.2.1
theorem k0_idx142_inb : ∀ (v5 : IVec S16 32) (v8 : IVec S16 32) (v11 : IVec S16 32) (v14 : IVec S16 32) (v15 : IVec S16 32) (v16 : IVec S16 32) (v3154 : IVec S16 32) (k0_hw18 : k0_chk18 v5 v8 v11 v14 v15 v16 v3154), ∀ a x, ((![v16, v3154, v11] : Fin 3 → IVec S16 32) a x).toNat < S2x64x64.size a := fun v5 v8 v11 v14 v15 v16 v3154 k0_hw18 => k0_hw18.2.2.2.2.2.1
theorem k0_idx143_inb : ∀ (v5 : IVec S16 32) (v8 : IVec S16 32) (v11 : IVec S16 32) (v14 : IVec S16 32) (v15 : IVec S16 32) (v16 : IVec S16 32) (v3154 : IVec S16 32) (k0_hw18 : k0_chk18 v5 v8 v11 v14 v15 v16 v3154), ∀ a x, ((![v16, v3154, v8] : Fin 3 → IVec S16 32) a x).toNat < S2x64x64.size a := fun v5 v8 v11 v14 v15 v16 v3154 k0_hw18 => k0_hw18.2.2.2.2.2.2.1
theorem k0_idx144_inb : ∀ (v5 : IVec S16 32) (v8 : IVec S16 32) (v11 : IVec S16 32) (v14 : IVec S16 32) (v15 : IVec S16 32) (v16 : IVec S16 32) (v3154 : IVec S16 32) (k0_hw18 : k0_chk18 v5 v8 v11 v14 v15 v16 v3154), ∀ a x, ((![v16, v3154, v5] : Fin 3 → IVec S16 32) a x).toNat < S2x64x64.size a := fun v5 v8 v11 v14 v15 v16 v3154 k0_hw18 => k0_hw18.2.2.2.2.2.2.2
def k0_off157 (k0_t18 : Fin k0_t18_loop.trips) : Fin 4 → Nat :=
  let c2_i32_5365 : BitVec 32 := 2#32
  let v3219 : Index := Scalar.indexCast c2_i32_5365
  let c1_i32_5366 : BitVec 32 := 1#32
  let v3220 : Index := Scalar.indexCast c1_i32_5366
  let c0_i32_5325 : BitVec 32 := 0#32
  let c0_i32_991 : BitVec 32 := 0#32
  let c1_i32_993 : BitVec 32 := 1#32
  let arg17 : BitVec 32 := Scf.iv c0_i32_991 c1_i32_993 k0_t18
  let c1_i32_5324 : BitVec 32 := 1#32
  let v3152 : BitVec 32 := Scalar.muli arg17 c1_i32_5324
  let v3153 : BitVec 32 := Scalar.addi c0_i32_5325 v3152
  let v3221 : Index := Scalar.indexCast v3153
  let c0_5367 : Index := 0#32
  ![2, 1, v3221.toNat, 0]
def k0_off158 (k0_t18 : Fin k0_t18_loop.trips) : Fin 4 → Nat :=
  let c2_i32_5368 : BitVec 32 := 2#32
  let v3225 : Index := Scalar.indexCast c2_i32_5368
  let c1_i32_5369 : BitVec 32 := 1#32
  let v3226 : Index := Scalar.indexCast c1_i32_5369
  let c0_i32_5325 : BitVec 32 := 0#32
  let c0_i32_991 : BitVec 32 := 0#32
  let c1_i32_993 : BitVec 32 := 1#32
  let arg17 : BitVec 32 := Scf.iv c0_i32_991 c1_i32_993 k0_t18
  let c1_i32_5324 : BitVec 32 := 1#32
  let v3152 : BitVec 32 := Scalar.muli arg17 c1_i32_5324
  let v3153 : BitVec 32 := Scalar.addi c0_i32_5325 v3152
  let v3227 : Index := Scalar.indexCast v3153
  let c16_5370 : Index := 16#32
  ![2, 1, v3227.toNat, 16]
def k0_off159 (k0_t18 : Fin k0_t18_loop.trips) : Fin 4 → Nat :=
  let c2_i32_5371 : BitVec 32 := 2#32
  let v3231 : Index := Scalar.indexCast c2_i32_5371
  let c1_i32_5372 : BitVec 32 := 1#32
  let v3232 : Index := Scalar.indexCast c1_i32_5372
  let c0_i32_5325 : BitVec 32 := 0#32
  let c0_i32_991 : BitVec 32 := 0#32
  let c1_i32_993 : BitVec 32 := 1#32
  let arg17 : BitVec 32 := Scf.iv c0_i32_991 c1_i32_993 k0_t18
  let c1_i32_5324 : BitVec 32 := 1#32
  let v3152 : BitVec 32 := Scalar.muli arg17 c1_i32_5324
  let v3153 : BitVec 32 := Scalar.addi c0_i32_5325 v3152
  let v3233 : Index := Scalar.indexCast v3153
  let c32_5373 : Index := 32#32
  ![2, 1, v3233.toNat, 32]
def k0_off160 (k0_t18 : Fin k0_t18_loop.trips) : Fin 4 → Nat :=
  let c2_i32_5374 : BitVec 32 := 2#32
  let v3237 : Index := Scalar.indexCast c2_i32_5374
  let c1_i32_5375 : BitVec 32 := 1#32
  let v3238 : Index := Scalar.indexCast c1_i32_5375
  let c0_i32_5325 : BitVec 32 := 0#32
  let c0_i32_991 : BitVec 32 := 0#32
  let c1_i32_993 : BitVec 32 := 1#32
  let arg17 : BitVec 32 := Scf.iv c0_i32_991 c1_i32_993 k0_t18
  let c1_i32_5324 : BitVec 32 := 1#32
  let v3152 : BitVec 32 := Scalar.muli arg17 c1_i32_5324
  let v3153 : BitVec 32 := Scalar.addi c0_i32_5325 v3152
  let v3239 : Index := Scalar.indexCast v3153
  let c48_5376 : Index := 48#32
  ![2, 1, v3239.toNat, 48]
def k0_off161 (i : grid0.Coords) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c4_i32_1008 : BitVec 32 := 4#32
  let c0_i32_1009 : BitVec 32 := 0#32
  let c0_i32_1014 : BitVec 32 := 0#32
  let c0_i32_1015 : BitVec 32 := 0#32
  ![v2.toNat, 4, 0, 0, 0]
@[reducible] def k0_t19_loop : Scf.Loop 32 :=
  let c0_i32_1047 : BitVec 32 := 0#32
  let c64_i32_1048 : BitVec 32 := 64#32
  let v635 : BitVec 32 := Scalar.addi c0_i32_1047 c64_i32_1048
  let c1_i32_1049 : BitVec 32 := 1#32
  ⟨c0_i32_1047, v635, c1_i32_1049⟩
def k0_off162 (k0_t19 : Fin k0_t19_loop.trips) : Fin 4 → Nat :=
  let c0_i32_5338 : BitVec 32 := 0#32
  let v3167 : Index := Scalar.indexCast c0_i32_5338
  let c0_i32_5339 : BitVec 32 := 0#32
  let v3168 : Index := Scalar.indexCast c0_i32_5339
  let c0_i32_5325 : BitVec 32 := 0#32
  let c0_i32_1047 : BitVec 32 := 0#32
  let c1_i32_1049 : BitVec 32 := 1#32
  let arg17 : BitVec 32 := Scf.iv c0_i32_1047 c1_i32_1049 k0_t19
  let c1_i32_5324 : BitVec 32 := 1#32
  let v3152 : BitVec 32 := Scalar.muli arg17 c1_i32_5324
  let v3153 : BitVec 32 := Scalar.addi c0_i32_5325 v3152
  let v3169 : Index := Scalar.indexCast v3153
  let c0 : Index := 0#32
  ![0, 0, v3169.toNat, 0]
def k0_off163 (k0_t19 : Fin k0_t19_loop.trips) : Fin 4 → Nat :=
  let c0_i32_5340 : BitVec 32 := 0#32
  let v3173 : Index := Scalar.indexCast c0_i32_5340
  let c0_i32_5341 : BitVec 32 := 0#32
  let v3174 : Index := Scalar.indexCast c0_i32_5341
  let c0_i32_5325 : BitVec 32 := 0#32
  let c0_i32_1047 : BitVec 32 := 0#32
  let c1_i32_1049 : BitVec 32 := 1#32
  let arg17 : BitVec 32 := Scf.iv c0_i32_1047 c1_i32_1049 k0_t19
  let c1_i32_5324 : BitVec 32 := 1#32
  let v3152 : BitVec 32 := Scalar.muli arg17 c1_i32_5324
  let v3153 : BitVec 32 := Scalar.addi c0_i32_5325 v3152
  let v3175 : Index := Scalar.indexCast v3153
  let c16 : Index := 16#32
  ![0, 0, v3175.toNat, 16]
def k0_off164 (k0_t19 : Fin k0_t19_loop.trips) : Fin 4 → Nat :=
  let c0_i32_5342 : BitVec 32 := 0#32
  let v3179 : Index := Scalar.indexCast c0_i32_5342
  let c0_i32_5343 : BitVec 32 := 0#32
  let v3180 : Index := Scalar.indexCast c0_i32_5343
  let c0_i32_5325 : BitVec 32 := 0#32
  let c0_i32_1047 : BitVec 32 := 0#32
  let c1_i32_1049 : BitVec 32 := 1#32
  let arg17 : BitVec 32 := Scf.iv c0_i32_1047 c1_i32_1049 k0_t19
  let c1_i32_5324 : BitVec 32 := 1#32
  let v3152 : BitVec 32 := Scalar.muli arg17 c1_i32_5324
  let v3153 : BitVec 32 := Scalar.addi c0_i32_5325 v3152
  let v3181 : Index := Scalar.indexCast v3153
  let c32 : Index := 32#32
  ![0, 0, v3181.toNat, 32]
def k0_off165 (k0_t19 : Fin k0_t19_loop.trips) : Fin 4 → Nat :=
  let c0_i32_5344 : BitVec 32 := 0#32
  let v3185 : Index := Scalar.indexCast c0_i32_5344
  let c0_i32_5345 : BitVec 32 := 0#32
  let v3186 : Index := Scalar.indexCast c0_i32_5345
  let c0_i32_5325 : BitVec 32 := 0#32
  let c0_i32_1047 : BitVec 32 := 0#32
  let c1_i32_1049 : BitVec 32 := 1#32
  let arg17 : BitVec 32 := Scf.iv c0_i32_1047 c1_i32_1049 k0_t19
  let c1_i32_5324 : BitVec 32 := 1#32
  let v3152 : BitVec 32 := Scalar.muli arg17 c1_i32_5324
  let v3153 : BitVec 32 := Scalar.addi c0_i32_5325 v3152
  let v3187 : Index := Scalar.indexCast v3153
  let c48 : Index := 48#32
  ![0, 0, v3187.toNat, 48]

def k0_chk19 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx145_inb : ∀ (v5 : IVec S16 32) (v8 : IVec S16 32) (v11 : IVec S16 32) (v14 : IVec S16 32) (v15 : IVec S16 32) (v16 : IVec S16 32) (v3154 : IVec S16 32) (k0_hw19 : k0_chk19 v5 v8 v11 v14 v15 v16 v3154), ∀ a x, ((![v15, v3154, v14] : Fin 3 → IVec S16 32) a x).toNat < S2x64x64.size a := fun v5 v8 v11 v14 v15 v16 v3154 k0_hw19 => k0_hw19.1
theorem k0_idx146_inb : ∀ (v5 : IVec S16 32) (v8 : IVec S16 32) (v11 : IVec S16 32) (v14 : IVec S16 32) (v15 : IVec S16 32) (v16 : IVec S16 32) (v3154 : IVec S16 32) (k0_hw19 : k0_chk19 v5 v8 v11 v14 v15 v16 v3154), ∀ a x, ((![v15, v3154, v11] : Fin 3 → IVec S16 32) a x).toNat < S2x64x64.size a := fun v5 v8 v11 v14 v15 v16 v3154 k0_hw19 => k0_hw19.2.1
theorem k0_idx147_inb : ∀ (v5 : IVec S16 32) (v8 : IVec S16 32) (v11 : IVec S16 32) (v14 : IVec S16 32) (v15 : IVec S16 32) (v16 : IVec S16 32) (v3154 : IVec S16 32) (k0_hw19 : k0_chk19 v5 v8 v11 v14 v15 v16 v3154), ∀ a x, ((![v15, v3154, v8] : Fin 3 → IVec S16 32) a x).toNat < S2x64x64.size a := fun v5 v8 v11 v14 v15 v16 v3154 k0_hw19 => k0_hw19.2.2.1
theorem k0_idx148_inb : ∀ (v5 : IVec S16 32) (v8 : IVec S16 32) (v11 : IVec S16 32) (v14 : IVec S16 32) (v15 : IVec S16 32) (v16 : IVec S16 32) (v3154 : IVec S16 32) (k0_hw19 : k0_chk19 v5 v8 v11 v14 v15 v16 v3154), ∀ a x, ((![v15, v3154, v5] : Fin 3 → IVec S16 32) a x).toNat < S2x64x64.size a := fun v5 v8 v11 v14 v15 v16 v3154 k0_hw19 => k0_hw19.2.2.2.1
theorem k0_idx149_inb : ∀ (v5 : IVec S16 32) (v8 : IVec S16 32) (v11 : IVec S16 32) (v14 : IVec S16 32) (v15 : IVec S16 32) (v16 : IVec S16 32) (v3154 : IVec S16 32) (k0_hw19 : k0_chk19 v5 v8 v11 v14 v15 v16 v3154), ∀ a x, ((![v16, v3154, v14] : Fin 3 → IVec S16 32) a x).toNat < S2x64x64.size a := fun v5 v8 v11 v14 v15 v16 v3154 k0_hw19 => k0_hw19.2.2.2.2.1
theorem k0_idx150_inb : ∀ (v5 : IVec S16 32) (v8 : IVec S16 32) (v11 : IVec S16 32) (v14 : IVec S16 32) (v15 : IVec S16 32) (v16 : IVec S16 32) (v3154 : IVec S16 32) (k0_hw19 : k0_chk19 v5 v8 v11 v14 v15 v16 v3154), ∀ a x, ((![v16, v3154, v11] : Fin 3 → IVec S16 32) a x).toNat < S2x64x64.size a := fun v5 v8 v11 v14 v15 v16 v3154 k0_hw19 => k0_hw19.2.2.2.2.2.1
theorem k0_idx151_inb : ∀ (v5 : IVec S16 32) (v8 : IVec S16 32) (v11 : IVec S16 32) (v14 : IVec S16 32) (v15 : IVec S16 32) (v16 : IVec S16 32) (v3154 : IVec S16 32) (k0_hw19 : k0_chk19 v5 v8 v11 v14 v15 v16 v3154), ∀ a x, ((![v16, v3154, v8] : Fin 3 → IVec S16 32) a x).toNat < S2x64x64.size a := fun v5 v8 v11 v14 v15 v16 v3154 k0_hw19 => k0_hw19.2.2.2.2.2.2.1
theorem k0_idx152_inb : ∀ (v5 : IVec S16 32) (v8 : IVec S16 32) (v11 : IVec S16 32) (v14 : IVec S16 32) (v15 : IVec S16 32) (v16 : IVec S16 32) (v3154 : IVec S16 32) (k0_hw19 : k0_chk19 v5 v8 v11 v14 v15 v16 v3154), ∀ a x, ((![v16, v3154, v5] : Fin 3 → IVec S16 32) a x).toNat < S2x64x64.size a := fun v5 v8 v11 v14 v15 v16 v3154 k0_hw19 => k0_hw19.2.2.2.2.2.2.2
def k0_off166 (k0_t19 : Fin k0_t19_loop.trips) : Fin 4 → Nat :=
  let c0_i32_5358 : BitVec 32 := 0#32
  let v3203 : Index := Scalar.indexCast c0_i32_5358
  let c1_i32_5359 : BitVec 32 := 1#32
  let v3204 : Index := Scalar.indexCast c1_i32_5359
  let c0_i32_5325 : BitVec 32 := 0#32
  let c0_i32_1047 : BitVec 32 := 0#32
  let c1_i32_1049 : BitVec 32 := 1#32
  let arg17 : BitVec 32 := Scf.iv c0_i32_1047 c1_i32_1049 k0_t19
  let c1_i32_5324 : BitVec 32 := 1#32
  let v3152 : BitVec 32 := Scalar.muli arg17 c1_i32_5324
  let v3153 : BitVec 32 := Scalar.addi c0_i32_5325 v3152
  let v3205 : Index := Scalar.indexCast v3153
  let c0_5360 : Index := 0#32
  ![0, 1, v3205.toNat, 0]
def k0_off167 (k0_t19 : Fin k0_t19_loop.trips) : Fin 4 → Nat :=
  let c0_i32_5361 : BitVec 32 := 0#32
  let v3209 : Index := Scalar.indexCast c0_i32_5361
  let c1_i32_5362 : BitVec 32 := 1#32
  let v3210 : Index := Scalar.indexCast c1_i32_5362
  let c0_i32_5325 : BitVec 32 := 0#32
  let c0_i32_1047 : BitVec 32 := 0#32
  let c1_i32_1049 : BitVec 32 := 1#32
  let arg17 : BitVec 32 := Scf.iv c0_i32_1047 c1_i32_1049 k0_t19
  let c1_i32_5324 : BitVec 32 := 1#32
  let v3152 : BitVec 32 := Scalar.muli arg17 c1_i32_5324
  let v3153 : BitVec 32 := Scalar.addi c0_i32_5325 v3152
  let v3211 : Index := Scalar.indexCast v3153
  let c16_5363 : Index := 16#32
  ![0, 1, v3211.toNat, 16]
def k0_off168 (k0_t19 : Fin k0_t19_loop.trips) : Fin 4 → Nat :=
  let c0_i32_5364 : BitVec 32 := 0#32
  let v3215 : Index := Scalar.indexCast c0_i32_5364
  let c1_i32_5365 : BitVec 32 := 1#32
  let v3216 : Index := Scalar.indexCast c1_i32_5365
  let c0_i32_5325 : BitVec 32 := 0#32
  let c0_i32_1047 : BitVec 32 := 0#32
  let c1_i32_1049 : BitVec 32 := 1#32
  let arg17 : BitVec 32 := Scf.iv c0_i32_1047 c1_i32_1049 k0_t19
  let c1_i32_5324 : BitVec 32 := 1#32
  let v3152 : BitVec 32 := Scalar.muli arg17 c1_i32_5324
  let v3153 : BitVec 32 := Scalar.addi c0_i32_5325 v3152
  let v3217 : Index := Scalar.indexCast v3153
  let c32_5366 : Index := 32#32
  ![0, 1, v3217.toNat, 32]
def k0_off169 (k0_t19 : Fin k0_t19_loop.trips) : Fin 4 → Nat :=
  let c0_i32_5367 : BitVec 32 := 0#32
  let v3221 : Index := Scalar.indexCast c0_i32_5367
  let c1_i32_5368 : BitVec 32 := 1#32
  let v3222 : Index := Scalar.indexCast c1_i32_5368
  let c0_i32_5325 : BitVec 32 := 0#32
  let c0_i32_1047 : BitVec 32 := 0#32
  let c1_i32_1049 : BitVec 32 := 1#32
  let arg17 : BitVec 32 := Scf.iv c0_i32_1047 c1_i32_1049 k0_t19
  let c1_i32_5324 : BitVec 32 := 1#32
  let v3152 : BitVec 32 := Scalar.muli arg17 c1_i32_5324
  let v3153 : BitVec 32 := Scalar.addi c0_i32_5325 v3152
  let v3223 : Index := Scalar.indexCast v3153
  let c48_5369 : Index := 48#32
  ![0, 1, v3223.toNat, 48]
@[reducible] def k0_t20_loop : Scf.Loop 32 :=
  let c0_i32_1104 : BitVec 32 := 0#32
  let c64_i32_1105 : BitVec 32 := 64#32
  let v668 : BitVec 32 := Scalar.addi c0_i32_1104 c64_i32_1105
  let c1_i32_1106 : BitVec 32 := 1#32
  ⟨c0_i32_1104, v668, c1_i32_1106⟩
def k0_off170 (k0_t20 : Fin k0_t20_loop.trips) : Fin 4 → Nat :=
  let c1_i32_5338 : BitVec 32 := 1#32
  let v3167 : Index := Scalar.indexCast c1_i32_5338
  let c0_i32_5339 : BitVec 32 := 0#32
  let v3168 : Index := Scalar.indexCast c0_i32_5339
  let c0_i32_5325 : BitVec 32 := 0#32
  let c0_i32_1104 : BitVec 32 := 0#32
  let c1_i32_1106 : BitVec 32 := 1#32
  let arg17 : BitVec 32 := Scf.iv c0_i32_1104 c1_i32_1106 k0_t20
  let c1_i32_5324 : BitVec 32 := 1#32
  let v3152 : BitVec 32 := Scalar.muli arg17 c1_i32_5324
  let v3153 : BitVec 32 := Scalar.addi c0_i32_5325 v3152
  let v3169 : Index := Scalar.indexCast v3153
  let c0 : Index := 0#32
  ![1, 0, v3169.toNat, 0]
def k0_off171 (k0_t20 : Fin k0_t20_loop.trips) : Fin 4 → Nat :=
  let c1_i32_5340 : BitVec 32 := 1#32
  let v3173 : Index := Scalar.indexCast c1_i32_5340
  let c0_i32_5341 : BitVec 32 := 0#32
  let v3174 : Index := Scalar.indexCast c0_i32_5341
  let c0_i32_5325 : BitVec 32 := 0#32
  let c0_i32_1104 : BitVec 32 := 0#32
  let c1_i32_1106 : BitVec 32 := 1#32
  let arg17 : BitVec 32 := Scf.iv c0_i32_1104 c1_i32_1106 k0_t20
  let c1_i32_5324 : BitVec 32 := 1#32
  let v3152 : BitVec 32 := Scalar.muli arg17 c1_i32_5324
  let v3153 : BitVec 32 := Scalar.addi c0_i32_5325 v3152
  let v3175 : Index := Scalar.indexCast v3153
  let c16 : Index := 16#32
  ![1, 0, v3175.toNat, 16]
def k0_off172 (k0_t20 : Fin k0_t20_loop.trips) : Fin 4 → Nat :=
  let c1_i32_5342 : BitVec 32 := 1#32
  let v3179 : Index := Scalar.indexCast c1_i32_5342
  let c0_i32_5343 : BitVec 32 := 0#32
  let v3180 : Index := Scalar.indexCast c0_i32_5343
  let c0_i32_5325 : BitVec 32 := 0#32
  let c0_i32_1104 : BitVec 32 := 0#32
  let c1_i32_1106 : BitVec 32 := 1#32
  let arg17 : BitVec 32 := Scf.iv c0_i32_1104 c1_i32_1106 k0_t20
  let c1_i32_5324 : BitVec 32 := 1#32
  let v3152 : BitVec 32 := Scalar.muli arg17 c1_i32_5324
  let v3153 : BitVec 32 := Scalar.addi c0_i32_5325 v3152
  let v3181 : Index := Scalar.indexCast v3153
  let c32 : Index := 32#32
  ![1, 0, v3181.toNat, 32]
def k0_off173 (k0_t20 : Fin k0_t20_loop.trips) : Fin 4 → Nat :=
  let c1_i32_5344 : BitVec 32 := 1#32
  let v3185 : Index := Scalar.indexCast c1_i32_5344
  let c0_i32_5345 : BitVec 32 := 0#32
  let v3186 : Index := Scalar.indexCast c0_i32_5345
  let c0_i32_5325 : BitVec 32 := 0#32
  let c0_i32_1104 : BitVec 32 := 0#32
  let c1_i32_1106 : BitVec 32 := 1#32
  let arg17 : BitVec 32 := Scf.iv c0_i32_1104 c1_i32_1106 k0_t20
  let c1_i32_5324 : BitVec 32 := 1#32
  let v3152 : BitVec 32 := Scalar.muli arg17 c1_i32_5324
  let v3153 : BitVec 32 := Scalar.addi c0_i32_5325 v3152
  let v3187 : Index := Scalar.indexCast v3153
  let c48 : Index := 48#32
  ![1, 0, v3187.toNat, 48]

def k0_chk20 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx153_inb : ∀ (v5 : IVec S16 32) (v8 : IVec S16 32) (v11 : IVec S16 32) (v14 : IVec S16 32) (v15 : IVec S16 32) (v16 : IVec S16 32) (v3154 : IVec S16 32) (k0_hw20 : k0_chk20 v5 v8 v11 v14 v15 v16 v3154), ∀ a x, ((![v15, v3154, v14] : Fin 3 → IVec S16 32) a x).toNat < S2x64x64.size a := fun v5 v8 v11 v14 v15 v16 v3154 k0_hw20 => k0_hw20.1
theorem k0_idx154_inb : ∀ (v5 : IVec S16 32) (v8 : IVec S16 32) (v11 : IVec S16 32) (v14 : IVec S16 32) (v15 : IVec S16 32) (v16 : IVec S16 32) (v3154 : IVec S16 32) (k0_hw20 : k0_chk20 v5 v8 v11 v14 v15 v16 v3154), ∀ a x, ((![v15, v3154, v11] : Fin 3 → IVec S16 32) a x).toNat < S2x64x64.size a := fun v5 v8 v11 v14 v15 v16 v3154 k0_hw20 => k0_hw20.2.1
theorem k0_idx155_inb : ∀ (v5 : IVec S16 32) (v8 : IVec S16 32) (v11 : IVec S16 32) (v14 : IVec S16 32) (v15 : IVec S16 32) (v16 : IVec S16 32) (v3154 : IVec S16 32) (k0_hw20 : k0_chk20 v5 v8 v11 v14 v15 v16 v3154), ∀ a x, ((![v15, v3154, v8] : Fin 3 → IVec S16 32) a x).toNat < S2x64x64.size a := fun v5 v8 v11 v14 v15 v16 v3154 k0_hw20 => k0_hw20.2.2.1
theorem k0_idx156_inb : ∀ (v5 : IVec S16 32) (v8 : IVec S16 32) (v11 : IVec S16 32) (v14 : IVec S16 32) (v15 : IVec S16 32) (v16 : IVec S16 32) (v3154 : IVec S16 32) (k0_hw20 : k0_chk20 v5 v8 v11 v14 v15 v16 v3154), ∀ a x, ((![v15, v3154, v5] : Fin 3 → IVec S16 32) a x).toNat < S2x64x64.size a := fun v5 v8 v11 v14 v15 v16 v3154 k0_hw20 => k0_hw20.2.2.2.1
theorem k0_idx157_inb : ∀ (v5 : IVec S16 32) (v8 : IVec S16 32) (v11 : IVec S16 32) (v14 : IVec S16 32) (v15 : IVec S16 32) (v16 : IVec S16 32) (v3154 : IVec S16 32) (k0_hw20 : k0_chk20 v5 v8 v11 v14 v15 v16 v3154), ∀ a x, ((![v16, v3154, v14] : Fin 3 → IVec S16 32) a x).toNat < S2x64x64.size a := fun v5 v8 v11 v14 v15 v16 v3154 k0_hw20 => k0_hw20.2.2.2.2.1
theorem k0_idx158_inb : ∀ (v5 : IVec S16 32) (v8 : IVec S16 32) (v11 : IVec S16 32) (v14 : IVec S16 32) (v15 : IVec S16 32) (v16 : IVec S16 32) (v3154 : IVec S16 32) (k0_hw20 : k0_chk20 v5 v8 v11 v14 v15 v16 v3154), ∀ a x, ((![v16, v3154, v11] : Fin 3 → IVec S16 32) a x).toNat < S2x64x64.size a := fun v5 v8 v11 v14 v15 v16 v3154 k0_hw20 => k0_hw20.2.2.2.2.2.1
theorem k0_idx159_inb : ∀ (v5 : IVec S16 32) (v8 : IVec S16 32) (v11 : IVec S16 32) (v14 : IVec S16 32) (v15 : IVec S16 32) (v16 : IVec S16 32) (v3154 : IVec S16 32) (k0_hw20 : k0_chk20 v5 v8 v11 v14 v15 v16 v3154), ∀ a x, ((![v16, v3154, v8] : Fin 3 → IVec S16 32) a x).toNat < S2x64x64.size a := fun v5 v8 v11 v14 v15 v16 v3154 k0_hw20 => k0_hw20.2.2.2.2.2.2.1
theorem k0_idx160_inb : ∀ (v5 : IVec S16 32) (v8 : IVec S16 32) (v11 : IVec S16 32) (v14 : IVec S16 32) (v15 : IVec S16 32) (v16 : IVec S16 32) (v3154 : IVec S16 32) (k0_hw20 : k0_chk20 v5 v8 v11 v14 v15 v16 v3154), ∀ a x, ((![v16, v3154, v5] : Fin 3 → IVec S16 32) a x).toNat < S2x64x64.size a := fun v5 v8 v11 v14 v15 v16 v3154 k0_hw20 => k0_hw20.2.2.2.2.2.2.2
def k0_off174 (k0_t20 : Fin k0_t20_loop.trips) : Fin 4 → Nat :=
  let c1_i32_5358 : BitVec 32 := 1#32
  let v3203 : Index := Scalar.indexCast c1_i32_5358
  let c1_i32_5359 : BitVec 32 := 1#32
  let v3204 : Index := Scalar.indexCast c1_i32_5359
  let c0_i32_5325 : BitVec 32 := 0#32
  let c0_i32_1104 : BitVec 32 := 0#32
  let c1_i32_1106 : BitVec 32 := 1#32
  let arg17 : BitVec 32 := Scf.iv c0_i32_1104 c1_i32_1106 k0_t20
  let c1_i32_5324 : BitVec 32 := 1#32
  let v3152 : BitVec 32 := Scalar.muli arg17 c1_i32_5324
  let v3153 : BitVec 32 := Scalar.addi c0_i32_5325 v3152
  let v3205 : Index := Scalar.indexCast v3153
  let c0_5360 : Index := 0#32
  ![1, 1, v3205.toNat, 0]
def k0_off175 (k0_t20 : Fin k0_t20_loop.trips) : Fin 4 → Nat :=
  let c1_i32_5361 : BitVec 32 := 1#32
  let v3209 : Index := Scalar.indexCast c1_i32_5361
  let c1_i32_5362 : BitVec 32 := 1#32
  let v3210 : Index := Scalar.indexCast c1_i32_5362
  let c0_i32_5325 : BitVec 32 := 0#32
  let c0_i32_1104 : BitVec 32 := 0#32
  let c1_i32_1106 : BitVec 32 := 1#32
  let arg17 : BitVec 32 := Scf.iv c0_i32_1104 c1_i32_1106 k0_t20
  let c1_i32_5324 : BitVec 32 := 1#32
  let v3152 : BitVec 32 := Scalar.muli arg17 c1_i32_5324
  let v3153 : BitVec 32 := Scalar.addi c0_i32_5325 v3152
  let v3211 : Index := Scalar.indexCast v3153
  let c16_5363 : Index := 16#32
  ![1, 1, v3211.toNat, 16]
def k0_off176 (k0_t20 : Fin k0_t20_loop.trips) : Fin 4 → Nat :=
  let c1_i32_5364 : BitVec 32 := 1#32
  let v3215 : Index := Scalar.indexCast c1_i32_5364
  let c1_i32_5365 : BitVec 32 := 1#32
  let v3216 : Index := Scalar.indexCast c1_i32_5365
  let c0_i32_5325 : BitVec 32 := 0#32
  let c0_i32_1104 : BitVec 32 := 0#32
  let c1_i32_1106 : BitVec 32 := 1#32
  let arg17 : BitVec 32 := Scf.iv c0_i32_1104 c1_i32_1106 k0_t20
  let c1_i32_5324 : BitVec 32 := 1#32
  let v3152 : BitVec 32 := Scalar.muli arg17 c1_i32_5324
  let v3153 : BitVec 32 := Scalar.addi c0_i32_5325 v3152
  let v3217 : Index := Scalar.indexCast v3153
  let c32_5366 : Index := 32#32
  ![1, 1, v3217.toNat, 32]
def k0_off177 (k0_t20 : Fin k0_t20_loop.trips) : Fin 4 → Nat :=
  let c1_i32_5367 : BitVec 32 := 1#32
  let v3221 : Index := Scalar.indexCast c1_i32_5367
  let c1_i32_5368 : BitVec 32 := 1#32
  let v3222 : Index := Scalar.indexCast c1_i32_5368
  let c0_i32_5325 : BitVec 32 := 0#32
  let c0_i32_1104 : BitVec 32 := 0#32
  let c1_i32_1106 : BitVec 32 := 1#32
  let arg17 : BitVec 32 := Scf.iv c0_i32_1104 c1_i32_1106 k0_t20
  let c1_i32_5324 : BitVec 32 := 1#32
  let v3152 : BitVec 32 := Scalar.muli arg17 c1_i32_5324
  let v3153 : BitVec 32 := Scalar.addi c0_i32_5325 v3152
  let v3223 : Index := Scalar.indexCast v3153
  let c48_5369 : Index := 48#32
  ![1, 1, v3223.toNat, 48]
def k0_off178 (i : grid0.Coords) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c4_i32_1121 : BitVec 32 := 4#32
  let c1_i32_1122 : BitVec 32 := 1#32
  let c0_i32_1127 : BitVec 32 := 0#32
  let c0_i32_1128 : BitVec 32 := 0#32
  ![v2.toNat, 4, 1, 0, 0]
@[reducible] def k0_t21_loop : Scf.Loop 32 :=
  let c0_i32_1160 : BitVec 32 := 0#32
  let c64_i32_1161 : BitVec 32 := 64#32
  let v701 : BitVec 32 := Scalar.addi c0_i32_1160 c64_i32_1161
  let c1_i32_1162 : BitVec 32 := 1#32
  ⟨c0_i32_1160, v701, c1_i32_1162⟩
def k0_off179 (k0_t21 : Fin k0_t21_loop.trips) : Fin 4 → Nat :=
  let c2_i32_5338 : BitVec 32 := 2#32
  let v3167 : Index := Scalar.indexCast c2_i32_5338
  let c0_i32_5339 : BitVec 32 := 0#32
  let v3168 : Index := Scalar.indexCast c0_i32_5339
  let c0_i32_5325 : BitVec 32 := 0#32
  let c0_i32_1160 : BitVec 32 := 0#32
  let c1_i32_1162 : BitVec 32 := 1#32
  let arg17 : BitVec 32 := Scf.iv c0_i32_1160 c1_i32_1162 k0_t21
  let c1_i32_5324 : BitVec 32 := 1#32
  let v3152 : BitVec 32 := Scalar.muli arg17 c1_i32_5324
  let v3153 : BitVec 32 := Scalar.addi c0_i32_5325 v3152
  let v3169 : Index := Scalar.indexCast v3153
  let c0 : Index := 0#32
  ![2, 0, v3169.toNat, 0]
def k0_off180 (k0_t21 : Fin k0_t21_loop.trips) : Fin 4 → Nat :=
  let c2_i32_5340 : BitVec 32 := 2#32
  let v3173 : Index := Scalar.indexCast c2_i32_5340
  let c0_i32_5341 : BitVec 32 := 0#32
  let v3174 : Index := Scalar.indexCast c0_i32_5341
  let c0_i32_5325 : BitVec 32 := 0#32
  let c0_i32_1160 : BitVec 32 := 0#32
  let c1_i32_1162 : BitVec 32 := 1#32
  let arg17 : BitVec 32 := Scf.iv c0_i32_1160 c1_i32_1162 k0_t21
  let c1_i32_5324 : BitVec 32 := 1#32
  let v3152 : BitVec 32 := Scalar.muli arg17 c1_i32_5324
  let v3153 : BitVec 32 := Scalar.addi c0_i32_5325 v3152
  let v3175 : Index := Scalar.indexCast v3153
  let c16 : Index := 16#32
  ![2, 0, v3175.toNat, 16]
def k0_off181 (k0_t21 : Fin k0_t21_loop.trips) : Fin 4 → Nat :=
  let c2_i32_5342 : BitVec 32 := 2#32
  let v3179 : Index := Scalar.indexCast c2_i32_5342
  let c0_i32_5343 : BitVec 32 := 0#32
  let v3180 : Index := Scalar.indexCast c0_i32_5343
  let c0_i32_5325 : BitVec 32 := 0#32
  let c0_i32_1160 : BitVec 32 := 0#32
  let c1_i32_1162 : BitVec 32 := 1#32
  let arg17 : BitVec 32 := Scf.iv c0_i32_1160 c1_i32_1162 k0_t21
  let c1_i32_5324 : BitVec 32 := 1#32
  let v3152 : BitVec 32 := Scalar.muli arg17 c1_i32_5324
  let v3153 : BitVec 32 := Scalar.addi c0_i32_5325 v3152
  let v3181 : Index := Scalar.indexCast v3153
  let c32 : Index := 32#32
  ![2, 0, v3181.toNat, 32]
def k0_off182 (k0_t21 : Fin k0_t21_loop.trips) : Fin 4 → Nat :=
  let c2_i32_5344 : BitVec 32 := 2#32
  let v3185 : Index := Scalar.indexCast c2_i32_5344
  let c0_i32_5345 : BitVec 32 := 0#32
  let v3186 : Index := Scalar.indexCast c0_i32_5345
  let c0_i32_5325 : BitVec 32 := 0#32
  let c0_i32_1160 : BitVec 32 := 0#32
  let c1_i32_1162 : BitVec 32 := 1#32
  let arg17 : BitVec 32 := Scf.iv c0_i32_1160 c1_i32_1162 k0_t21
  let c1_i32_5324 : BitVec 32 := 1#32
  let v3152 : BitVec 32 := Scalar.muli arg17 c1_i32_5324
  let v3153 : BitVec 32 := Scalar.addi c0_i32_5325 v3152
  let v3187 : Index := Scalar.indexCast v3153
  let c48 : Index := 48#32
  ![2, 0, v3187.toNat, 48]

def k0_chk21 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx161_inb : ∀ (v5 : IVec S16 32) (v8 : IVec S16 32) (v11 : IVec S16 32) (v14 : IVec S16 32) (v15 : IVec S16 32) (v16 : IVec S16 32) (v3154 : IVec S16 32) (k0_hw21 : k0_chk21 v5 v8 v11 v14 v15 v16 v3154), ∀ a x, ((![v15, v3154, v14] : Fin 3 → IVec S16 32) a x).toNat < S2x64x64.size a := fun v5 v8 v11 v14 v15 v16 v3154 k0_hw21 => k0_hw21.1
theorem k0_idx162_inb : ∀ (v5 : IVec S16 32) (v8 : IVec S16 32) (v11 : IVec S16 32) (v14 : IVec S16 32) (v15 : IVec S16 32) (v16 : IVec S16 32) (v3154 : IVec S16 32) (k0_hw21 : k0_chk21 v5 v8 v11 v14 v15 v16 v3154), ∀ a x, ((![v15, v3154, v11] : Fin 3 → IVec S16 32) a x).toNat < S2x64x64.size a := fun v5 v8 v11 v14 v15 v16 v3154 k0_hw21 => k0_hw21.2.1
theorem k0_idx163_inb : ∀ (v5 : IVec S16 32) (v8 : IVec S16 32) (v11 : IVec S16 32) (v14 : IVec S16 32) (v15 : IVec S16 32) (v16 : IVec S16 32) (v3154 : IVec S16 32) (k0_hw21 : k0_chk21 v5 v8 v11 v14 v15 v16 v3154), ∀ a x, ((![v15, v3154, v8] : Fin 3 → IVec S16 32) a x).toNat < S2x64x64.size a := fun v5 v8 v11 v14 v15 v16 v3154 k0_hw21 => k0_hw21.2.2.1
theorem k0_idx164_inb : ∀ (v5 : IVec S16 32) (v8 : IVec S16 32) (v11 : IVec S16 32) (v14 : IVec S16 32) (v15 : IVec S16 32) (v16 : IVec S16 32) (v3154 : IVec S16 32) (k0_hw21 : k0_chk21 v5 v8 v11 v14 v15 v16 v3154), ∀ a x, ((![v15, v3154, v5] : Fin 3 → IVec S16 32) a x).toNat < S2x64x64.size a := fun v5 v8 v11 v14 v15 v16 v3154 k0_hw21 => k0_hw21.2.2.2.1
theorem k0_idx165_inb : ∀ (v5 : IVec S16 32) (v8 : IVec S16 32) (v11 : IVec S16 32) (v14 : IVec S16 32) (v15 : IVec S16 32) (v16 : IVec S16 32) (v3154 : IVec S16 32) (k0_hw21 : k0_chk21 v5 v8 v11 v14 v15 v16 v3154), ∀ a x, ((![v16, v3154, v14] : Fin 3 → IVec S16 32) a x).toNat < S2x64x64.size a := fun v5 v8 v11 v14 v15 v16 v3154 k0_hw21 => k0_hw21.2.2.2.2.1
theorem k0_idx166_inb : ∀ (v5 : IVec S16 32) (v8 : IVec S16 32) (v11 : IVec S16 32) (v14 : IVec S16 32) (v15 : IVec S16 32) (v16 : IVec S16 32) (v3154 : IVec S16 32) (k0_hw21 : k0_chk21 v5 v8 v11 v14 v15 v16 v3154), ∀ a x, ((![v16, v3154, v11] : Fin 3 → IVec S16 32) a x).toNat < S2x64x64.size a := fun v5 v8 v11 v14 v15 v16 v3154 k0_hw21 => k0_hw21.2.2.2.2.2.1
theorem k0_idx167_inb : ∀ (v5 : IVec S16 32) (v8 : IVec S16 32) (v11 : IVec S16 32) (v14 : IVec S16 32) (v15 : IVec S16 32) (v16 : IVec S16 32) (v3154 : IVec S16 32) (k0_hw21 : k0_chk21 v5 v8 v11 v14 v15 v16 v3154), ∀ a x, ((![v16, v3154, v8] : Fin 3 → IVec S16 32) a x).toNat < S2x64x64.size a := fun v5 v8 v11 v14 v15 v16 v3154 k0_hw21 => k0_hw21.2.2.2.2.2.2.1
theorem k0_idx168_inb : ∀ (v5 : IVec S16 32) (v8 : IVec S16 32) (v11 : IVec S16 32) (v14 : IVec S16 32) (v15 : IVec S16 32) (v16 : IVec S16 32) (v3154 : IVec S16 32) (k0_hw21 : k0_chk21 v5 v8 v11 v14 v15 v16 v3154), ∀ a x, ((![v16, v3154, v5] : Fin 3 → IVec S16 32) a x).toNat < S2x64x64.size a := fun v5 v8 v11 v14 v15 v16 v3154 k0_hw21 => k0_hw21.2.2.2.2.2.2.2
def k0_off183 (k0_t21 : Fin k0_t21_loop.trips) : Fin 4 → Nat :=
  let c2_i32_5358 : BitVec 32 := 2#32
  let v3203 : Index := Scalar.indexCast c2_i32_5358
  let c1_i32_5359 : BitVec 32 := 1#32
  let v3204 : Index := Scalar.indexCast c1_i32_5359
  let c0_i32_5325 : BitVec 32 := 0#32
  let c0_i32_1160 : BitVec 32 := 0#32
  let c1_i32_1162 : BitVec 32 := 1#32
  let arg17 : BitVec 32 := Scf.iv c0_i32_1160 c1_i32_1162 k0_t21
  let c1_i32_5324 : BitVec 32 := 1#32
  let v3152 : BitVec 32 := Scalar.muli arg17 c1_i32_5324
  let v3153 : BitVec 32 := Scalar.addi c0_i32_5325 v3152
  let v3205 : Index := Scalar.indexCast v3153
  let c0_5360 : Index := 0#32
  ![2, 1, v3205.toNat, 0]
def k0_off184 (k0_t21 : Fin k0_t21_loop.trips) : Fin 4 → Nat :=
  let c2_i32_5361 : BitVec 32 := 2#32
  let v3209 : Index := Scalar.indexCast c2_i32_5361
  let c1_i32_5362 : BitVec 32 := 1#32
  let v3210 : Index := Scalar.indexCast c1_i32_5362
  let c0_i32_5325 : BitVec 32 := 0#32
  let c0_i32_1160 : BitVec 32 := 0#32
  let c1_i32_1162 : BitVec 32 := 1#32
  let arg17 : BitVec 32 := Scf.iv c0_i32_1160 c1_i32_1162 k0_t21
  let c1_i32_5324 : BitVec 32 := 1#32
  let v3152 : BitVec 32 := Scalar.muli arg17 c1_i32_5324
  let v3153 : BitVec 32 := Scalar.addi c0_i32_5325 v3152
  let v3211 : Index := Scalar.indexCast v3153
  let c16_5363 : Index := 16#32
  ![2, 1, v3211.toNat, 16]
def k0_off185 (k0_t21 : Fin k0_t21_loop.trips) : Fin 4 → Nat :=
  let c2_i32_5364 : BitVec 32 := 2#32
  let v3215 : Index := Scalar.indexCast c2_i32_5364
  let c1_i32_5365 : BitVec 32 := 1#32
  let v3216 : Index := Scalar.indexCast c1_i32_5365
  let c0_i32_5325 : BitVec 32 := 0#32
  let c0_i32_1160 : BitVec 32 := 0#32
  let c1_i32_1162 : BitVec 32 := 1#32
  let arg17 : BitVec 32 := Scf.iv c0_i32_1160 c1_i32_1162 k0_t21
  let c1_i32_5324 : BitVec 32 := 1#32
  let v3152 : BitVec 32 := Scalar.muli arg17 c1_i32_5324
  let v3153 : BitVec 32 := Scalar.addi c0_i32_5325 v3152
  let v3217 : Index := Scalar.indexCast v3153
  let c32_5366 : Index := 32#32
  ![2, 1, v3217.toNat, 32]
def k0_off186 (k0_t21 : Fin k0_t21_loop.trips) : Fin 4 → Nat :=
  let c2_i32_5367 : BitVec 32 := 2#32
  let v3221 : Index := Scalar.indexCast c2_i32_5367
  let c1_i32_5368 : BitVec 32 := 1#32
  let v3222 : Index := Scalar.indexCast c1_i32_5368
  let c0_i32_5325 : BitVec 32 := 0#32
  let c0_i32_1160 : BitVec 32 := 0#32
  let c1_i32_1162 : BitVec 32 := 1#32
  let arg17 : BitVec 32 := Scf.iv c0_i32_1160 c1_i32_1162 k0_t21
  let c1_i32_5324 : BitVec 32 := 1#32
  let v3152 : BitVec 32 := Scalar.muli arg17 c1_i32_5324
  let v3153 : BitVec 32 := Scalar.addi c0_i32_5325 v3152
  let v3223 : Index := Scalar.indexCast v3153
  let c48_5369 : Index := 48#32
  ![2, 1, v3223.toNat, 48]
@[reducible] def k0_t22_loop : Scf.Loop 32 :=
  let c0_i32_1216 : BitVec 32 := 0#32
  let c64_i32_1217 : BitVec 32 := 64#32
  let v734 : BitVec 32 := Scalar.addi c0_i32_1216 c64_i32_1217
  let c1_i32_1218 : BitVec 32 := 1#32
  ⟨c0_i32_1216, v734, c1_i32_1218⟩
def k0_off187 (k0_t22 : Fin k0_t22_loop.trips) : Fin 4 → Nat :=
  let c0_i32_5341 : BitVec 32 := 0#32
  let v3175 : Index := Scalar.indexCast c0_i32_5341
  let c0_i32_5342 : BitVec 32 := 0#32
  let v3176 : Index := Scalar.indexCast c0_i32_5342
  let c0_i32_5325 : BitVec 32 := 0#32
  let c0_i32_1216 : BitVec 32 := 0#32
  let c1_i32_1218 : BitVec 32 := 1#32
  let arg17 : BitVec 32 := Scf.iv c0_i32_1216 c1_i32_1218 k0_t22
  let c1_i32_5324 : BitVec 32 := 1#32
  let v3152 : BitVec 32 := Scalar.muli arg17 c1_i32_5324
  let v3153 : BitVec 32 := Scalar.addi c0_i32_5325 v3152
  let v3177 : Index := Scalar.indexCast v3153
  let c0 : Index := 0#32
  ![0, 0, v3177.toNat, 0]
def k0_off188 (k0_t22 : Fin k0_t22_loop.trips) : Fin 4 → Nat :=
  let c0_i32_5343 : BitVec 32 := 0#32
  let v3181 : Index := Scalar.indexCast c0_i32_5343
  let c0_i32_5344 : BitVec 32 := 0#32
  let v3182 : Index := Scalar.indexCast c0_i32_5344
  let c0_i32_5325 : BitVec 32 := 0#32
  let c0_i32_1216 : BitVec 32 := 0#32
  let c1_i32_1218 : BitVec 32 := 1#32
  let arg17 : BitVec 32 := Scf.iv c0_i32_1216 c1_i32_1218 k0_t22
  let c1_i32_5324 : BitVec 32 := 1#32
  let v3152 : BitVec 32 := Scalar.muli arg17 c1_i32_5324
  let v3153 : BitVec 32 := Scalar.addi c0_i32_5325 v3152
  let v3183 : Index := Scalar.indexCast v3153
  let c16 : Index := 16#32
  ![0, 0, v3183.toNat, 16]
def k0_off189 (k0_t22 : Fin k0_t22_loop.trips) : Fin 4 → Nat :=
  let c0_i32_5345 : BitVec 32 := 0#32
  let v3187 : Index := Scalar.indexCast c0_i32_5345
  let c0_i32_5346 : BitVec 32 := 0#32
  let v3188 : Index := Scalar.indexCast c0_i32_5346
  let c0_i32_5325 : BitVec 32 := 0#32
  let c0_i32_1216 : BitVec 32 := 0#32
  let c1_i32_1218 : BitVec 32 := 1#32
  let arg17 : BitVec 32 := Scf.iv c0_i32_1216 c1_i32_1218 k0_t22
  let c1_i32_5324 : BitVec 32 := 1#32
  let v3152 : BitVec 32 := Scalar.muli arg17 c1_i32_5324
  let v3153 : BitVec 32 := Scalar.addi c0_i32_5325 v3152
  let v3189 : Index := Scalar.indexCast v3153
  let c32 : Index := 32#32
  ![0, 0, v3189.toNat, 32]
def k0_off190 (k0_t22 : Fin k0_t22_loop.trips) : Fin 4 → Nat :=
  let c0_i32_5347 : BitVec 32 := 0#32
  let v3193 : Index := Scalar.indexCast c0_i32_5347
  let c0_i32_5348 : BitVec 32 := 0#32
  let v3194 : Index := Scalar.indexCast c0_i32_5348
  let c0_i32_5325 : BitVec 32 := 0#32
  let c0_i32_1216 : BitVec 32 := 0#32
  let c1_i32_1218 : BitVec 32 := 1#32
  let arg17 : BitVec 32 := Scf.iv c0_i32_1216 c1_i32_1218 k0_t22
  let c1_i32_5324 : BitVec 32 := 1#32
  let v3152 : BitVec 32 := Scalar.muli arg17 c1_i32_5324
  let v3153 : BitVec 32 := Scalar.addi c0_i32_5325 v3152
  let v3195 : Index := Scalar.indexCast v3153
  let c48 : Index := 48#32
  ![0, 0, v3195.toNat, 48]

def k0_chk22 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx169_inb : ∀ (v5 : IVec S16 32) (v8 : IVec S16 32) (v11 : IVec S16 32) (v14 : IVec S16 32) (v15 : IVec S16 32) (v16 : IVec S16 32) (v3154 : IVec S16 32) (k0_hw22 : k0_chk22 v5 v8 v11 v14 v15 v16 v3154), ∀ a x, ((![v15, v3154, v14] : Fin 3 → IVec S16 32) a x).toNat < S2x64x64.size a := fun v5 v8 v11 v14 v15 v16 v3154 k0_hw22 => k0_hw22.1
theorem k0_idx170_inb : ∀ (v5 : IVec S16 32) (v8 : IVec S16 32) (v11 : IVec S16 32) (v14 : IVec S16 32) (v15 : IVec S16 32) (v16 : IVec S16 32) (v3154 : IVec S16 32) (k0_hw22 : k0_chk22 v5 v8 v11 v14 v15 v16 v3154), ∀ a x, ((![v15, v3154, v11] : Fin 3 → IVec S16 32) a x).toNat < S2x64x64.size a := fun v5 v8 v11 v14 v15 v16 v3154 k0_hw22 => k0_hw22.2.1
theorem k0_idx171_inb : ∀ (v5 : IVec S16 32) (v8 : IVec S16 32) (v11 : IVec S16 32) (v14 : IVec S16 32) (v15 : IVec S16 32) (v16 : IVec S16 32) (v3154 : IVec S16 32) (k0_hw22 : k0_chk22 v5 v8 v11 v14 v15 v16 v3154), ∀ a x, ((![v15, v3154, v8] : Fin 3 → IVec S16 32) a x).toNat < S2x64x64.size a := fun v5 v8 v11 v14 v15 v16 v3154 k0_hw22 => k0_hw22.2.2.1
theorem k0_idx172_inb : ∀ (v5 : IVec S16 32) (v8 : IVec S16 32) (v11 : IVec S16 32) (v14 : IVec S16 32) (v15 : IVec S16 32) (v16 : IVec S16 32) (v3154 : IVec S16 32) (k0_hw22 : k0_chk22 v5 v8 v11 v14 v15 v16 v3154), ∀ a x, ((![v15, v3154, v5] : Fin 3 → IVec S16 32) a x).toNat < S2x64x64.size a := fun v5 v8 v11 v14 v15 v16 v3154 k0_hw22 => k0_hw22.2.2.2.1
theorem k0_idx173_inb : ∀ (v5 : IVec S16 32) (v8 : IVec S16 32) (v11 : IVec S16 32) (v14 : IVec S16 32) (v15 : IVec S16 32) (v16 : IVec S16 32) (v3154 : IVec S16 32) (k0_hw22 : k0_chk22 v5 v8 v11 v14 v15 v16 v3154), ∀ a x, ((![v16, v3154, v14] : Fin 3 → IVec S16 32) a x).toNat < S2x64x64.size a := fun v5 v8 v11 v14 v15 v16 v3154 k0_hw22 => k0_hw22.2.2.2.2.1
theorem k0_idx174_inb : ∀ (v5 : IVec S16 32) (v8 : IVec S16 32) (v11 : IVec S16 32) (v14 : IVec S16 32) (v15 : IVec S16 32) (v16 : IVec S16 32) (v3154 : IVec S16 32) (k0_hw22 : k0_chk22 v5 v8 v11 v14 v15 v16 v3154), ∀ a x, ((![v16, v3154, v11] : Fin 3 → IVec S16 32) a x).toNat < S2x64x64.size a := fun v5 v8 v11 v14 v15 v16 v3154 k0_hw22 => k0_hw22.2.2.2.2.2.1
theorem k0_idx175_inb : ∀ (v5 : IVec S16 32) (v8 : IVec S16 32) (v11 : IVec S16 32) (v14 : IVec S16 32) (v15 : IVec S16 32) (v16 : IVec S16 32) (v3154 : IVec S16 32) (k0_hw22 : k0_chk22 v5 v8 v11 v14 v15 v16 v3154), ∀ a x, ((![v16, v3154, v8] : Fin 3 → IVec S16 32) a x).toNat < S2x64x64.size a := fun v5 v8 v11 v14 v15 v16 v3154 k0_hw22 => k0_hw22.2.2.2.2.2.2.1
theorem k0_idx176_inb : ∀ (v5 : IVec S16 32) (v8 : IVec S16 32) (v11 : IVec S16 32) (v14 : IVec S16 32) (v15 : IVec S16 32) (v16 : IVec S16 32) (v3154 : IVec S16 32) (k0_hw22 : k0_chk22 v5 v8 v11 v14 v15 v16 v3154), ∀ a x, ((![v16, v3154, v5] : Fin 3 → IVec S16 32) a x).toNat < S2x64x64.size a := fun v5 v8 v11 v14 v15 v16 v3154 k0_hw22 => k0_hw22.2.2.2.2.2.2.2
def k0_off191 (k0_t22 : Fin k0_t22_loop.trips) : Fin 4 → Nat :=
  let c0_i32_5365 : BitVec 32 := 0#32
  let v3219 : Index := Scalar.indexCast c0_i32_5365
  let c1_i32_5366 : BitVec 32 := 1#32
  let v3220 : Index := Scalar.indexCast c1_i32_5366
  let c0_i32_5325 : BitVec 32 := 0#32
  let c0_i32_1216 : BitVec 32 := 0#32
  let c1_i32_1218 : BitVec 32 := 1#32
  let arg17 : BitVec 32 := Scf.iv c0_i32_1216 c1_i32_1218 k0_t22
  let c1_i32_5324 : BitVec 32 := 1#32
  let v3152 : BitVec 32 := Scalar.muli arg17 c1_i32_5324
  let v3153 : BitVec 32 := Scalar.addi c0_i32_5325 v3152
  let v3221 : Index := Scalar.indexCast v3153
  let c0_5367 : Index := 0#32
  ![0, 1, v3221.toNat, 0]
def k0_off192 (k0_t22 : Fin k0_t22_loop.trips) : Fin 4 → Nat :=
  let c0_i32_5368 : BitVec 32 := 0#32
  let v3225 : Index := Scalar.indexCast c0_i32_5368
  let c1_i32_5369 : BitVec 32 := 1#32
  let v3226 : Index := Scalar.indexCast c1_i32_5369
  let c0_i32_5325 : BitVec 32 := 0#32
  let c0_i32_1216 : BitVec 32 := 0#32
  let c1_i32_1218 : BitVec 32 := 1#32
  let arg17 : BitVec 32 := Scf.iv c0_i32_1216 c1_i32_1218 k0_t22
  let c1_i32_5324 : BitVec 32 := 1#32
  let v3152 : BitVec 32 := Scalar.muli arg17 c1_i32_5324
  let v3153 : BitVec 32 := Scalar.addi c0_i32_5325 v3152
  let v3227 : Index := Scalar.indexCast v3153
  let c16_5370 : Index := 16#32
  ![0, 1, v3227.toNat, 16]
def k0_off193 (k0_t22 : Fin k0_t22_loop.trips) : Fin 4 → Nat :=
  let c0_i32_5371 : BitVec 32 := 0#32
  let v3231 : Index := Scalar.indexCast c0_i32_5371
  let c1_i32_5372 : BitVec 32 := 1#32
  let v3232 : Index := Scalar.indexCast c1_i32_5372
  let c0_i32_5325 : BitVec 32 := 0#32
  let c0_i32_1216 : BitVec 32 := 0#32
  let c1_i32_1218 : BitVec 32 := 1#32
  let arg17 : BitVec 32 := Scf.iv c0_i32_1216 c1_i32_1218 k0_t22
  let c1_i32_5324 : BitVec 32 := 1#32
  let v3152 : BitVec 32 := Scalar.muli arg17 c1_i32_5324
  let v3153 : BitVec 32 := Scalar.addi c0_i32_5325 v3152
  let v3233 : Index := Scalar.indexCast v3153
  let c32_5373 : Index := 32#32
  ![0, 1, v3233.toNat, 32]
def k0_off194 (k0_t22 : Fin k0_t22_loop.trips) : Fin 4 → Nat :=
  let c0_i32_5374 : BitVec 32 := 0#32
  let v3237 : Index := Scalar.indexCast c0_i32_5374
  let c1_i32_5375 : BitVec 32 := 1#32
  let v3238 : Index := Scalar.indexCast c1_i32_5375
  let c0_i32_5325 : BitVec 32 := 0#32
  let c0_i32_1216 : BitVec 32 := 0#32
  let c1_i32_1218 : BitVec 32 := 1#32
  let arg17 : BitVec 32 := Scf.iv c0_i32_1216 c1_i32_1218 k0_t22
  let c1_i32_5324 : BitVec 32 := 1#32
  let v3152 : BitVec 32 := Scalar.muli arg17 c1_i32_5324
  let v3153 : BitVec 32 := Scalar.addi c0_i32_5325 v3152
  let v3239 : Index := Scalar.indexCast v3153
  let c48_5376 : Index := 48#32
  ![0, 1, v3239.toNat, 48]
def k0_off195 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c6_i32 : BitVec 32 := 6#32
  let c0_i32_1237 : BitVec 32 := 0#32
  let c0_i32_1238 : BitVec 32 := 0#32
  ![v2.toNat, 6, 0, 0]
@[reducible] def k0_t23_loop : Scf.Loop 32 :=
  let c0_i32_1271 : BitVec 32 := 0#32
  let c64_i32_1272 : BitVec 32 := 64#32
  let v767 : BitVec 32 := Scalar.addi c0_i32_1271 c64_i32_1272
  let c1_i32_1273 : BitVec 32 := 1#32
  ⟨c0_i32_1271, v767, c1_i32_1273⟩
def k0_off196 (k0_t23 : Fin k0_t23_loop.trips) : Fin 4 → Nat :=
  let c1_i32_5341 : BitVec 32 := 1#32
  let v3175 : Index := Scalar.indexCast c1_i32_5341
  let c0_i32_5342 : BitVec 32 := 0#32
  let v3176 : Index := Scalar.indexCast c0_i32_5342
  let c0_i32_5325 : BitVec 32 := 0#32
  let c0_i32_1271 : BitVec 32 := 0#32
  let c1_i32_1273 : BitVec 32 := 1#32
  let arg17 : BitVec 32 := Scf.iv c0_i32_1271 c1_i32_1273 k0_t23
  let c1_i32_5324 : BitVec 32 := 1#32
  let v3152 : BitVec 32 := Scalar.muli arg17 c1_i32_5324
  let v3153 : BitVec 32 := Scalar.addi c0_i32_5325 v3152
  let v3177 : Index := Scalar.indexCast v3153
  let c0 : Index := 0#32
  ![1, 0, v3177.toNat, 0]
def k0_off197 (k0_t23 : Fin k0_t23_loop.trips) : Fin 4 → Nat :=
  let c1_i32_5343 : BitVec 32 := 1#32
  let v3181 : Index := Scalar.indexCast c1_i32_5343
  let c0_i32_5344 : BitVec 32 := 0#32
  let v3182 : Index := Scalar.indexCast c0_i32_5344
  let c0_i32_5325 : BitVec 32 := 0#32
  let c0_i32_1271 : BitVec 32 := 0#32
  let c1_i32_1273 : BitVec 32 := 1#32
  let arg17 : BitVec 32 := Scf.iv c0_i32_1271 c1_i32_1273 k0_t23
  let c1_i32_5324 : BitVec 32 := 1#32
  let v3152 : BitVec 32 := Scalar.muli arg17 c1_i32_5324
  let v3153 : BitVec 32 := Scalar.addi c0_i32_5325 v3152
  let v3183 : Index := Scalar.indexCast v3153
  let c16 : Index := 16#32
  ![1, 0, v3183.toNat, 16]
def k0_off198 (k0_t23 : Fin k0_t23_loop.trips) : Fin 4 → Nat :=
  let c1_i32_5345 : BitVec 32 := 1#32
  let v3187 : Index := Scalar.indexCast c1_i32_5345
  let c0_i32_5346 : BitVec 32 := 0#32
  let v3188 : Index := Scalar.indexCast c0_i32_5346
  let c0_i32_5325 : BitVec 32 := 0#32
  let c0_i32_1271 : BitVec 32 := 0#32
  let c1_i32_1273 : BitVec 32 := 1#32
  let arg17 : BitVec 32 := Scf.iv c0_i32_1271 c1_i32_1273 k0_t23
  let c1_i32_5324 : BitVec 32 := 1#32
  let v3152 : BitVec 32 := Scalar.muli arg17 c1_i32_5324
  let v3153 : BitVec 32 := Scalar.addi c0_i32_5325 v3152
  let v3189 : Index := Scalar.indexCast v3153
  let c32 : Index := 32#32
  ![1, 0, v3189.toNat, 32]
def k0_off199 (k0_t23 : Fin k0_t23_loop.trips) : Fin 4 → Nat :=
  let c1_i32_5347 : BitVec 32 := 1#32
  let v3193 : Index := Scalar.indexCast c1_i32_5347
  let c0_i32_5348 : BitVec 32 := 0#32
  let v3194 : Index := Scalar.indexCast c0_i32_5348
  let c0_i32_5325 : BitVec 32 := 0#32
  let c0_i32_1271 : BitVec 32 := 0#32
  let c1_i32_1273 : BitVec 32 := 1#32
  let arg17 : BitVec 32 := Scf.iv c0_i32_1271 c1_i32_1273 k0_t23
  let c1_i32_5324 : BitVec 32 := 1#32
  let v3152 : BitVec 32 := Scalar.muli arg17 c1_i32_5324
  let v3153 : BitVec 32 := Scalar.addi c0_i32_5325 v3152
  let v3195 : Index := Scalar.indexCast v3153
  let c48 : Index := 48#32
  ![1, 0, v3195.toNat, 48]

def k0_chk23 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx177_inb : ∀ (v5 : IVec S16 32) (v8 : IVec S16 32) (v11 : IVec S16 32) (v14 : IVec S16 32) (v15 : IVec S16 32) (v16 : IVec S16 32) (v3154 : IVec S16 32) (k0_hw23 : k0_chk23 v5 v8 v11 v14 v15 v16 v3154), ∀ a x, ((![v15, v3154, v14] : Fin 3 → IVec S16 32) a x).toNat < S2x64x64.size a := fun v5 v8 v11 v14 v15 v16 v3154 k0_hw23 => k0_hw23.1
theorem k0_idx178_inb : ∀ (v5 : IVec S16 32) (v8 : IVec S16 32) (v11 : IVec S16 32) (v14 : IVec S16 32) (v15 : IVec S16 32) (v16 : IVec S16 32) (v3154 : IVec S16 32) (k0_hw23 : k0_chk23 v5 v8 v11 v14 v15 v16 v3154), ∀ a x, ((![v15, v3154, v11] : Fin 3 → IVec S16 32) a x).toNat < S2x64x64.size a := fun v5 v8 v11 v14 v15 v16 v3154 k0_hw23 => k0_hw23.2.1
theorem k0_idx179_inb : ∀ (v5 : IVec S16 32) (v8 : IVec S16 32) (v11 : IVec S16 32) (v14 : IVec S16 32) (v15 : IVec S16 32) (v16 : IVec S16 32) (v3154 : IVec S16 32) (k0_hw23 : k0_chk23 v5 v8 v11 v14 v15 v16 v3154), ∀ a x, ((![v15, v3154, v8] : Fin 3 → IVec S16 32) a x).toNat < S2x64x64.size a := fun v5 v8 v11 v14 v15 v16 v3154 k0_hw23 => k0_hw23.2.2.1
theorem k0_idx180_inb : ∀ (v5 : IVec S16 32) (v8 : IVec S16 32) (v11 : IVec S16 32) (v14 : IVec S16 32) (v15 : IVec S16 32) (v16 : IVec S16 32) (v3154 : IVec S16 32) (k0_hw23 : k0_chk23 v5 v8 v11 v14 v15 v16 v3154), ∀ a x, ((![v15, v3154, v5] : Fin 3 → IVec S16 32) a x).toNat < S2x64x64.size a := fun v5 v8 v11 v14 v15 v16 v3154 k0_hw23 => k0_hw23.2.2.2.1
theorem k0_idx181_inb : ∀ (v5 : IVec S16 32) (v8 : IVec S16 32) (v11 : IVec S16 32) (v14 : IVec S16 32) (v15 : IVec S16 32) (v16 : IVec S16 32) (v3154 : IVec S16 32) (k0_hw23 : k0_chk23 v5 v8 v11 v14 v15 v16 v3154), ∀ a x, ((![v16, v3154, v14] : Fin 3 → IVec S16 32) a x).toNat < S2x64x64.size a := fun v5 v8 v11 v14 v15 v16 v3154 k0_hw23 => k0_hw23.2.2.2.2.1
theorem k0_idx182_inb : ∀ (v5 : IVec S16 32) (v8 : IVec S16 32) (v11 : IVec S16 32) (v14 : IVec S16 32) (v15 : IVec S16 32) (v16 : IVec S16 32) (v3154 : IVec S16 32) (k0_hw23 : k0_chk23 v5 v8 v11 v14 v15 v16 v3154), ∀ a x, ((![v16, v3154, v11] : Fin 3 → IVec S16 32) a x).toNat < S2x64x64.size a := fun v5 v8 v11 v14 v15 v16 v3154 k0_hw23 => k0_hw23.2.2.2.2.2.1
theorem k0_idx183_inb : ∀ (v5 : IVec S16 32) (v8 : IVec S16 32) (v11 : IVec S16 32) (v14 : IVec S16 32) (v15 : IVec S16 32) (v16 : IVec S16 32) (v3154 : IVec S16 32) (k0_hw23 : k0_chk23 v5 v8 v11 v14 v15 v16 v3154), ∀ a x, ((![v16, v3154, v8] : Fin 3 → IVec S16 32) a x).toNat < S2x64x64.size a := fun v5 v8 v11 v14 v15 v16 v3154 k0_hw23 => k0_hw23.2.2.2.2.2.2.1
theorem k0_idx184_inb : ∀ (v5 : IVec S16 32) (v8 : IVec S16 32) (v11 : IVec S16 32) (v14 : IVec S16 32) (v15 : IVec S16 32) (v16 : IVec S16 32) (v3154 : IVec S16 32) (k0_hw23 : k0_chk23 v5 v8 v11 v14 v15 v16 v3154), ∀ a x, ((![v16, v3154, v5] : Fin 3 → IVec S16 32) a x).toNat < S2x64x64.size a := fun v5 v8 v11 v14 v15 v16 v3154 k0_hw23 => k0_hw23.2.2.2.2.2.2.2
def k0_off200 (k0_t23 : Fin k0_t23_loop.trips) : Fin 4 → Nat :=
  let c1_i32_5365 : BitVec 32 := 1#32
  let v3219 : Index := Scalar.indexCast c1_i32_5365
  let c1_i32_5366 : BitVec 32 := 1#32
  let v3220 : Index := Scalar.indexCast c1_i32_5366
  let c0_i32_5325 : BitVec 32 := 0#32
  let c0_i32_1271 : BitVec 32 := 0#32
  let c1_i32_1273 : BitVec 32 := 1#32
  let arg17 : BitVec 32 := Scf.iv c0_i32_1271 c1_i32_1273 k0_t23
  let c1_i32_5324 : BitVec 32 := 1#32
  let v3152 : BitVec 32 := Scalar.muli arg17 c1_i32_5324
  let v3153 : BitVec 32 := Scalar.addi c0_i32_5325 v3152
  let v3221 : Index := Scalar.indexCast v3153
  let c0_5367 : Index := 0#32
  ![1, 1, v3221.toNat, 0]
def k0_off201 (k0_t23 : Fin k0_t23_loop.trips) : Fin 4 → Nat :=
  let c1_i32_5368 : BitVec 32 := 1#32
  let v3225 : Index := Scalar.indexCast c1_i32_5368
  let c1_i32_5369 : BitVec 32 := 1#32
  let v3226 : Index := Scalar.indexCast c1_i32_5369
  let c0_i32_5325 : BitVec 32 := 0#32
  let c0_i32_1271 : BitVec 32 := 0#32
  let c1_i32_1273 : BitVec 32 := 1#32
  let arg17 : BitVec 32 := Scf.iv c0_i32_1271 c1_i32_1273 k0_t23
  let c1_i32_5324 : BitVec 32 := 1#32
  let v3152 : BitVec 32 := Scalar.muli arg17 c1_i32_5324
  let v3153 : BitVec 32 := Scalar.addi c0_i32_5325 v3152
  let v3227 : Index := Scalar.indexCast v3153
  let c16_5370 : Index := 16#32
  ![1, 1, v3227.toNat, 16]
def k0_off202 (k0_t23 : Fin k0_t23_loop.trips) : Fin 4 → Nat :=
  let c1_i32_5371 : BitVec 32 := 1#32
  let v3231 : Index := Scalar.indexCast c1_i32_5371
  let c1_i32_5372 : BitVec 32 := 1#32
  let v3232 : Index := Scalar.indexCast c1_i32_5372
  let c0_i32_5325 : BitVec 32 := 0#32
  let c0_i32_1271 : BitVec 32 := 0#32
  let c1_i32_1273 : BitVec 32 := 1#32
  let arg17 : BitVec 32 := Scf.iv c0_i32_1271 c1_i32_1273 k0_t23
  let c1_i32_5324 : BitVec 32 := 1#32
  let v3152 : BitVec 32 := Scalar.muli arg17 c1_i32_5324
  let v3153 : BitVec 32 := Scalar.addi c0_i32_5325 v3152
  let v3233 : Index := Scalar.indexCast v3153
  let c32_5373 : Index := 32#32
  ![1, 1, v3233.toNat, 32]
def k0_off203 (k0_t23 : Fin k0_t23_loop.trips) : Fin 4 → Nat :=
  let c1_i32_5374 : BitVec 32 := 1#32
  let v3237 : Index := Scalar.indexCast c1_i32_5374
  let c1_i32_5375 : BitVec 32 := 1#32
  let v3238 : Index := Scalar.indexCast c1_i32_5375
  let c0_i32_5325 : BitVec 32 := 0#32
  let c0_i32_1271 : BitVec 32 := 0#32
  let c1_i32_1273 : BitVec 32 := 1#32
  let arg17 : BitVec 32 := Scf.iv c0_i32_1271 c1_i32_1273 k0_t23
  let c1_i32_5324 : BitVec 32 := 1#32
  let v3152 : BitVec 32 := Scalar.muli arg17 c1_i32_5324
  let v3153 : BitVec 32 := Scalar.addi c0_i32_5325 v3152
  let v3239 : Index := Scalar.indexCast v3153
  let c48_5376 : Index := 48#32
  ![1, 1, v3239.toNat, 48]
def k0_off204 (i : grid0.Coords) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c6_i32_1288 : BitVec 32 := 6#32
  let c0_i32_1289 : BitVec 32 := 0#32
  let c0_i32_1294 : BitVec 32 := 0#32
  let c0_i32_1295 : BitVec 32 := 0#32
  ![v2.toNat, 6, 0, 0, 0]
@[reducible] def k0_t24_loop : Scf.Loop 32 :=
  let c0_i32_1327 : BitVec 32 := 0#32
  let c64_i32_1328 : BitVec 32 := 64#32
  let v800 : BitVec 32 := Scalar.addi c0_i32_1327 c64_i32_1328
  let c1_i32_1329 : BitVec 32 := 1#32
  ⟨c0_i32_1327, v800, c1_i32_1329⟩
def k0_off205 (k0_t24 : Fin k0_t24_loop.trips) : Fin 4 → Nat :=
  let c2_i32_5338 : BitVec 32 := 2#32
  let v3167 : Index := Scalar.indexCast c2_i32_5338
  let c0_i32_5339 : BitVec 32 := 0#32
  let v3168 : Index := Scalar.indexCast c0_i32_5339
  let c0_i32_5325 : BitVec 32 := 0#32
  let c0_i32_1327 : BitVec 32 := 0#32
  let c1_i32_1329 : BitVec 32 := 1#32
  let arg17 : BitVec 32 := Scf.iv c0_i32_1327 c1_i32_1329 k0_t24
  let c1_i32_5324 : BitVec 32 := 1#32
  let v3152 : BitVec 32 := Scalar.muli arg17 c1_i32_5324
  let v3153 : BitVec 32 := Scalar.addi c0_i32_5325 v3152
  let v3169 : Index := Scalar.indexCast v3153
  let c0 : Index := 0#32
  ![2, 0, v3169.toNat, 0]
def k0_off206 (k0_t24 : Fin k0_t24_loop.trips) : Fin 4 → Nat :=
  let c2_i32_5340 : BitVec 32 := 2#32
  let v3173 : Index := Scalar.indexCast c2_i32_5340
  let c0_i32_5341 : BitVec 32 := 0#32
  let v3174 : Index := Scalar.indexCast c0_i32_5341
  let c0_i32_5325 : BitVec 32 := 0#32
  let c0_i32_1327 : BitVec 32 := 0#32
  let c1_i32_1329 : BitVec 32 := 1#32
  let arg17 : BitVec 32 := Scf.iv c0_i32_1327 c1_i32_1329 k0_t24
  let c1_i32_5324 : BitVec 32 := 1#32
  let v3152 : BitVec 32 := Scalar.muli arg17 c1_i32_5324
  let v3153 : BitVec 32 := Scalar.addi c0_i32_5325 v3152
  let v3175 : Index := Scalar.indexCast v3153
  let c16 : Index := 16#32
  ![2, 0, v3175.toNat, 16]
def k0_off207 (k0_t24 : Fin k0_t24_loop.trips) : Fin 4 → Nat :=
  let c2_i32_5342 : BitVec 32 := 2#32
  let v3179 : Index := Scalar.indexCast c2_i32_5342
  let c0_i32_5343 : BitVec 32 := 0#32
  let v3180 : Index := Scalar.indexCast c0_i32_5343
  let c0_i32_5325 : BitVec 32 := 0#32
  let c0_i32_1327 : BitVec 32 := 0#32
  let c1_i32_1329 : BitVec 32 := 1#32
  let arg17 : BitVec 32 := Scf.iv c0_i32_1327 c1_i32_1329 k0_t24
  let c1_i32_5324 : BitVec 32 := 1#32
  let v3152 : BitVec 32 := Scalar.muli arg17 c1_i32_5324
  let v3153 : BitVec 32 := Scalar.addi c0_i32_5325 v3152
  let v3181 : Index := Scalar.indexCast v3153
  let c32 : Index := 32#32
  ![2, 0, v3181.toNat, 32]
def k0_off208 (k0_t24 : Fin k0_t24_loop.trips) : Fin 4 → Nat :=
  let c2_i32_5344 : BitVec 32 := 2#32
  let v3185 : Index := Scalar.indexCast c2_i32_5344
  let c0_i32_5345 : BitVec 32 := 0#32
  let v3186 : Index := Scalar.indexCast c0_i32_5345
  let c0_i32_5325 : BitVec 32 := 0#32
  let c0_i32_1327 : BitVec 32 := 0#32
  let c1_i32_1329 : BitVec 32 := 1#32
  let arg17 : BitVec 32 := Scf.iv c0_i32_1327 c1_i32_1329 k0_t24
  let c1_i32_5324 : BitVec 32 := 1#32
  let v3152 : BitVec 32 := Scalar.muli arg17 c1_i32_5324
  let v3153 : BitVec 32 := Scalar.addi c0_i32_5325 v3152
  let v3187 : Index := Scalar.indexCast v3153
  let c48 : Index := 48#32
  ![2, 0, v3187.toNat, 48]

def k0_chk24 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx185_inb : ∀ (v5 : IVec S16 32) (v8 : IVec S16 32) (v11 : IVec S16 32) (v14 : IVec S16 32) (v15 : IVec S16 32) (v16 : IVec S16 32) (v3154 : IVec S16 32) (k0_hw24 : k0_chk24 v5 v8 v11 v14 v15 v16 v3154), ∀ a x, ((![v15, v3154, v14] : Fin 3 → IVec S16 32) a x).toNat < S2x64x64.size a := fun v5 v8 v11 v14 v15 v16 v3154 k0_hw24 => k0_hw24.1
theorem k0_idx186_inb : ∀ (v5 : IVec S16 32) (v8 : IVec S16 32) (v11 : IVec S16 32) (v14 : IVec S16 32) (v15 : IVec S16 32) (v16 : IVec S16 32) (v3154 : IVec S16 32) (k0_hw24 : k0_chk24 v5 v8 v11 v14 v15 v16 v3154), ∀ a x, ((![v15, v3154, v11] : Fin 3 → IVec S16 32) a x).toNat < S2x64x64.size a := fun v5 v8 v11 v14 v15 v16 v3154 k0_hw24 => k0_hw24.2.1
theorem k0_idx187_inb : ∀ (v5 : IVec S16 32) (v8 : IVec S16 32) (v11 : IVec S16 32) (v14 : IVec S16 32) (v15 : IVec S16 32) (v16 : IVec S16 32) (v3154 : IVec S16 32) (k0_hw24 : k0_chk24 v5 v8 v11 v14 v15 v16 v3154), ∀ a x, ((![v15, v3154, v8] : Fin 3 → IVec S16 32) a x).toNat < S2x64x64.size a := fun v5 v8 v11 v14 v15 v16 v3154 k0_hw24 => k0_hw24.2.2.1
theorem k0_idx188_inb : ∀ (v5 : IVec S16 32) (v8 : IVec S16 32) (v11 : IVec S16 32) (v14 : IVec S16 32) (v15 : IVec S16 32) (v16 : IVec S16 32) (v3154 : IVec S16 32) (k0_hw24 : k0_chk24 v5 v8 v11 v14 v15 v16 v3154), ∀ a x, ((![v15, v3154, v5] : Fin 3 → IVec S16 32) a x).toNat < S2x64x64.size a := fun v5 v8 v11 v14 v15 v16 v3154 k0_hw24 => k0_hw24.2.2.2.1
theorem k0_idx189_inb : ∀ (v5 : IVec S16 32) (v8 : IVec S16 32) (v11 : IVec S16 32) (v14 : IVec S16 32) (v15 : IVec S16 32) (v16 : IVec S16 32) (v3154 : IVec S16 32) (k0_hw24 : k0_chk24 v5 v8 v11 v14 v15 v16 v3154), ∀ a x, ((![v16, v3154, v14] : Fin 3 → IVec S16 32) a x).toNat < S2x64x64.size a := fun v5 v8 v11 v14 v15 v16 v3154 k0_hw24 => k0_hw24.2.2.2.2.1
theorem k0_idx190_inb : ∀ (v5 : IVec S16 32) (v8 : IVec S16 32) (v11 : IVec S16 32) (v14 : IVec S16 32) (v15 : IVec S16 32) (v16 : IVec S16 32) (v3154 : IVec S16 32) (k0_hw24 : k0_chk24 v5 v8 v11 v14 v15 v16 v3154), ∀ a x, ((![v16, v3154, v11] : Fin 3 → IVec S16 32) a x).toNat < S2x64x64.size a := fun v5 v8 v11 v14 v15 v16 v3154 k0_hw24 => k0_hw24.2.2.2.2.2.1
theorem k0_idx191_inb : ∀ (v5 : IVec S16 32) (v8 : IVec S16 32) (v11 : IVec S16 32) (v14 : IVec S16 32) (v15 : IVec S16 32) (v16 : IVec S16 32) (v3154 : IVec S16 32) (k0_hw24 : k0_chk24 v5 v8 v11 v14 v15 v16 v3154), ∀ a x, ((![v16, v3154, v8] : Fin 3 → IVec S16 32) a x).toNat < S2x64x64.size a := fun v5 v8 v11 v14 v15 v16 v3154 k0_hw24 => k0_hw24.2.2.2.2.2.2.1
theorem k0_idx192_inb : ∀ (v5 : IVec S16 32) (v8 : IVec S16 32) (v11 : IVec S16 32) (v14 : IVec S16 32) (v15 : IVec S16 32) (v16 : IVec S16 32) (v3154 : IVec S16 32) (k0_hw24 : k0_chk24 v5 v8 v11 v14 v15 v16 v3154), ∀ a x, ((![v16, v3154, v5] : Fin 3 → IVec S16 32) a x).toNat < S2x64x64.size a := fun v5 v8 v11 v14 v15 v16 v3154 k0_hw24 => k0_hw24.2.2.2.2.2.2.2
def k0_off209 (k0_t24 : Fin k0_t24_loop.trips) : Fin 4 → Nat :=
  let c2_i32_5358 : BitVec 32 := 2#32
  let v3203 : Index := Scalar.indexCast c2_i32_5358
  let c1_i32_5359 : BitVec 32 := 1#32
  let v3204 : Index := Scalar.indexCast c1_i32_5359
  let c0_i32_5325 : BitVec 32 := 0#32
  let c0_i32_1327 : BitVec 32 := 0#32
  let c1_i32_1329 : BitVec 32 := 1#32
  let arg17 : BitVec 32 := Scf.iv c0_i32_1327 c1_i32_1329 k0_t24
  let c1_i32_5324 : BitVec 32 := 1#32
  let v3152 : BitVec 32 := Scalar.muli arg17 c1_i32_5324
  let v3153 : BitVec 32 := Scalar.addi c0_i32_5325 v3152
  let v3205 : Index := Scalar.indexCast v3153
  let c0_5360 : Index := 0#32
  ![2, 1, v3205.toNat, 0]
def k0_off210 (k0_t24 : Fin k0_t24_loop.trips) : Fin 4 → Nat :=
  let c2_i32_5361 : BitVec 32 := 2#32
  let v3209 : Index := Scalar.indexCast c2_i32_5361
  let c1_i32_5362 : BitVec 32 := 1#32
  let v3210 : Index := Scalar.indexCast c1_i32_5362
  let c0_i32_5325 : BitVec 32 := 0#32
  let c0_i32_1327 : BitVec 32 := 0#32
  let c1_i32_1329 : BitVec 32 := 1#32
  let arg17 : BitVec 32 := Scf.iv c0_i32_1327 c1_i32_1329 k0_t24
  let c1_i32_5324 : BitVec 32 := 1#32
  let v3152 : BitVec 32 := Scalar.muli arg17 c1_i32_5324
  let v3153 : BitVec 32 := Scalar.addi c0_i32_5325 v3152
  let v3211 : Index := Scalar.indexCast v3153
  let c16_5363 : Index := 16#32
  ![2, 1, v3211.toNat, 16]
def k0_off211 (k0_t24 : Fin k0_t24_loop.trips) : Fin 4 → Nat :=
  let c2_i32_5364 : BitVec 32 := 2#32
  let v3215 : Index := Scalar.indexCast c2_i32_5364
  let c1_i32_5365 : BitVec 32 := 1#32
  let v3216 : Index := Scalar.indexCast c1_i32_5365
  let c0_i32_5325 : BitVec 32 := 0#32
  let c0_i32_1327 : BitVec 32 := 0#32
  let c1_i32_1329 : BitVec 32 := 1#32
  let arg17 : BitVec 32 := Scf.iv c0_i32_1327 c1_i32_1329 k0_t24
  let c1_i32_5324 : BitVec 32 := 1#32
  let v3152 : BitVec 32 := Scalar.muli arg17 c1_i32_5324
  let v3153 : BitVec 32 := Scalar.addi c0_i32_5325 v3152
  let v3217 : Index := Scalar.indexCast v3153
  let c32_5366 : Index := 32#32
  ![2, 1, v3217.toNat, 32]
def k0_off212 (k0_t24 : Fin k0_t24_loop.trips) : Fin 4 → Nat :=
  let c2_i32_5367 : BitVec 32 := 2#32
  let v3221 : Index := Scalar.indexCast c2_i32_5367
  let c1_i32_5368 : BitVec 32 := 1#32
  let v3222 : Index := Scalar.indexCast c1_i32_5368
  let c0_i32_5325 : BitVec 32 := 0#32
  let c0_i32_1327 : BitVec 32 := 0#32
  let c1_i32_1329 : BitVec 32 := 1#32
  let arg17 : BitVec 32 := Scf.iv c0_i32_1327 c1_i32_1329 k0_t24
  let c1_i32_5324 : BitVec 32 := 1#32
  let v3152 : BitVec 32 := Scalar.muli arg17 c1_i32_5324
  let v3153 : BitVec 32 := Scalar.addi c0_i32_5325 v3152
  let v3223 : Index := Scalar.indexCast v3153
  let c48_5369 : Index := 48#32
  ![2, 1, v3223.toNat, 48]
@[reducible] def k0_t25_loop : Scf.Loop 32 :=
  let c0_i32_1384 : BitVec 32 := 0#32
  let c64_i32_1385 : BitVec 32 := 64#32
  let v833 : BitVec 32 := Scalar.addi c0_i32_1384 c64_i32_1385
  let c1_i32_1386 : BitVec 32 := 1#32
  ⟨c0_i32_1384, v833, c1_i32_1386⟩
def k0_off213 (k0_t25 : Fin k0_t25_loop.trips) : Fin 4 → Nat :=
  let c0_i32_5338 : BitVec 32 := 0#32
  let v3167 : Index := Scalar.indexCast c0_i32_5338
  let c0_i32_5339 : BitVec 32 := 0#32
  let v3168 : Index := Scalar.indexCast c0_i32_5339
  let c0_i32_5325 : BitVec 32 := 0#32
  let c0_i32_1384 : BitVec 32 := 0#32
  let c1_i32_1386 : BitVec 32 := 1#32
  let arg17 : BitVec 32 := Scf.iv c0_i32_1384 c1_i32_1386 k0_t25
  let c1_i32_5324 : BitVec 32 := 1#32
  let v3152 : BitVec 32 := Scalar.muli arg17 c1_i32_5324
  let v3153 : BitVec 32 := Scalar.addi c0_i32_5325 v3152
  let v3169 : Index := Scalar.indexCast v3153
  let c0 : Index := 0#32
  ![0, 0, v3169.toNat, 0]
def k0_off214 (k0_t25 : Fin k0_t25_loop.trips) : Fin 4 → Nat :=
  let c0_i32_5340 : BitVec 32 := 0#32
  let v3173 : Index := Scalar.indexCast c0_i32_5340
  let c0_i32_5341 : BitVec 32 := 0#32
  let v3174 : Index := Scalar.indexCast c0_i32_5341
  let c0_i32_5325 : BitVec 32 := 0#32
  let c0_i32_1384 : BitVec 32 := 0#32
  let c1_i32_1386 : BitVec 32 := 1#32
  let arg17 : BitVec 32 := Scf.iv c0_i32_1384 c1_i32_1386 k0_t25
  let c1_i32_5324 : BitVec 32 := 1#32
  let v3152 : BitVec 32 := Scalar.muli arg17 c1_i32_5324
  let v3153 : BitVec 32 := Scalar.addi c0_i32_5325 v3152
  let v3175 : Index := Scalar.indexCast v3153
  let c16 : Index := 16#32
  ![0, 0, v3175.toNat, 16]
def k0_off215 (k0_t25 : Fin k0_t25_loop.trips) : Fin 4 → Nat :=
  let c0_i32_5342 : BitVec 32 := 0#32
  let v3179 : Index := Scalar.indexCast c0_i32_5342
  let c0_i32_5343 : BitVec 32 := 0#32
  let v3180 : Index := Scalar.indexCast c0_i32_5343
  let c0_i32_5325 : BitVec 32 := 0#32
  let c0_i32_1384 : BitVec 32 := 0#32
  let c1_i32_1386 : BitVec 32 := 1#32
  let arg17 : BitVec 32 := Scf.iv c0_i32_1384 c1_i32_1386 k0_t25
  let c1_i32_5324 : BitVec 32 := 1#32
  let v3152 : BitVec 32 := Scalar.muli arg17 c1_i32_5324
  let v3153 : BitVec 32 := Scalar.addi c0_i32_5325 v3152
  let v3181 : Index := Scalar.indexCast v3153
  let c32 : Index := 32#32
  ![0, 0, v3181.toNat, 32]
def k0_off216 (k0_t25 : Fin k0_t25_loop.trips) : Fin 4 → Nat :=
  let c0_i32_5344 : BitVec 32 := 0#32
  let v3185 : Index := Scalar.indexCast c0_i32_5344
  let c0_i32_5345 : BitVec 32 := 0#32
  let v3186 : Index := Scalar.indexCast c0_i32_5345
  let c0_i32_5325 : BitVec 32 := 0#32
  let c0_i32_1384 : BitVec 32 := 0#32
  let c1_i32_1386 : BitVec 32 := 1#32
  let arg17 : BitVec 32 := Scf.iv c0_i32_1384 c1_i32_1386 k0_t25
  let c1_i32_5324 : BitVec 32 := 1#32
  let v3152 : BitVec 32 := Scalar.muli arg17 c1_i32_5324
  let v3153 : BitVec 32 := Scalar.addi c0_i32_5325 v3152
  let v3187 : Index := Scalar.indexCast v3153
  let c48 : Index := 48#32
  ![0, 0, v3187.toNat, 48]

def k0_chk25 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx193_inb : ∀ (v5 : IVec S16 32) (v8 : IVec S16 32) (v11 : IVec S16 32) (v14 : IVec S16 32) (v15 : IVec S16 32) (v16 : IVec S16 32) (v3154 : IVec S16 32) (k0_hw25 : k0_chk25 v5 v8 v11 v14 v15 v16 v3154), ∀ a x, ((![v15, v3154, v14] : Fin 3 → IVec S16 32) a x).toNat < S2x64x64.size a := fun v5 v8 v11 v14 v15 v16 v3154 k0_hw25 => k0_hw25.1
theorem k0_idx194_inb : ∀ (v5 : IVec S16 32) (v8 : IVec S16 32) (v11 : IVec S16 32) (v14 : IVec S16 32) (v15 : IVec S16 32) (v16 : IVec S16 32) (v3154 : IVec S16 32) (k0_hw25 : k0_chk25 v5 v8 v11 v14 v15 v16 v3154), ∀ a x, ((![v15, v3154, v11] : Fin 3 → IVec S16 32) a x).toNat < S2x64x64.size a := fun v5 v8 v11 v14 v15 v16 v3154 k0_hw25 => k0_hw25.2.1
theorem k0_idx195_inb : ∀ (v5 : IVec S16 32) (v8 : IVec S16 32) (v11 : IVec S16 32) (v14 : IVec S16 32) (v15 : IVec S16 32) (v16 : IVec S16 32) (v3154 : IVec S16 32) (k0_hw25 : k0_chk25 v5 v8 v11 v14 v15 v16 v3154), ∀ a x, ((![v15, v3154, v8] : Fin 3 → IVec S16 32) a x).toNat < S2x64x64.size a := fun v5 v8 v11 v14 v15 v16 v3154 k0_hw25 => k0_hw25.2.2.1
theorem k0_idx196_inb : ∀ (v5 : IVec S16 32) (v8 : IVec S16 32) (v11 : IVec S16 32) (v14 : IVec S16 32) (v15 : IVec S16 32) (v16 : IVec S16 32) (v3154 : IVec S16 32) (k0_hw25 : k0_chk25 v5 v8 v11 v14 v15 v16 v3154), ∀ a x, ((![v15, v3154, v5] : Fin 3 → IVec S16 32) a x).toNat < S2x64x64.size a := fun v5 v8 v11 v14 v15 v16 v3154 k0_hw25 => k0_hw25.2.2.2.1
theorem k0_idx197_inb : ∀ (v5 : IVec S16 32) (v8 : IVec S16 32) (v11 : IVec S16 32) (v14 : IVec S16 32) (v15 : IVec S16 32) (v16 : IVec S16 32) (v3154 : IVec S16 32) (k0_hw25 : k0_chk25 v5 v8 v11 v14 v15 v16 v3154), ∀ a x, ((![v16, v3154, v14] : Fin 3 → IVec S16 32) a x).toNat < S2x64x64.size a := fun v5 v8 v11 v14 v15 v16 v3154 k0_hw25 => k0_hw25.2.2.2.2.1
theorem k0_idx198_inb : ∀ (v5 : IVec S16 32) (v8 : IVec S16 32) (v11 : IVec S16 32) (v14 : IVec S16 32) (v15 : IVec S16 32) (v16 : IVec S16 32) (v3154 : IVec S16 32) (k0_hw25 : k0_chk25 v5 v8 v11 v14 v15 v16 v3154), ∀ a x, ((![v16, v3154, v11] : Fin 3 → IVec S16 32) a x).toNat < S2x64x64.size a := fun v5 v8 v11 v14 v15 v16 v3154 k0_hw25 => k0_hw25.2.2.2.2.2.1
theorem k0_idx199_inb : ∀ (v5 : IVec S16 32) (v8 : IVec S16 32) (v11 : IVec S16 32) (v14 : IVec S16 32) (v15 : IVec S16 32) (v16 : IVec S16 32) (v3154 : IVec S16 32) (k0_hw25 : k0_chk25 v5 v8 v11 v14 v15 v16 v3154), ∀ a x, ((![v16, v3154, v8] : Fin 3 → IVec S16 32) a x).toNat < S2x64x64.size a := fun v5 v8 v11 v14 v15 v16 v3154 k0_hw25 => k0_hw25.2.2.2.2.2.2.1
theorem k0_idx200_inb : ∀ (v5 : IVec S16 32) (v8 : IVec S16 32) (v11 : IVec S16 32) (v14 : IVec S16 32) (v15 : IVec S16 32) (v16 : IVec S16 32) (v3154 : IVec S16 32) (k0_hw25 : k0_chk25 v5 v8 v11 v14 v15 v16 v3154), ∀ a x, ((![v16, v3154, v5] : Fin 3 → IVec S16 32) a x).toNat < S2x64x64.size a := fun v5 v8 v11 v14 v15 v16 v3154 k0_hw25 => k0_hw25.2.2.2.2.2.2.2
def k0_off217 (k0_t25 : Fin k0_t25_loop.trips) : Fin 4 → Nat :=
  let c0_i32_5358 : BitVec 32 := 0#32
  let v3203 : Index := Scalar.indexCast c0_i32_5358
  let c1_i32_5359 : BitVec 32 := 1#32
  let v3204 : Index := Scalar.indexCast c1_i32_5359
  let c0_i32_5325 : BitVec 32 := 0#32
  let c0_i32_1384 : BitVec 32 := 0#32
  let c1_i32_1386 : BitVec 32 := 1#32
  let arg17 : BitVec 32 := Scf.iv c0_i32_1384 c1_i32_1386 k0_t25
  let c1_i32_5324 : BitVec 32 := 1#32
  let v3152 : BitVec 32 := Scalar.muli arg17 c1_i32_5324
  let v3153 : BitVec 32 := Scalar.addi c0_i32_5325 v3152
  let v3205 : Index := Scalar.indexCast v3153
  let c0_5360 : Index := 0#32
  ![0, 1, v3205.toNat, 0]
def k0_off218 (k0_t25 : Fin k0_t25_loop.trips) : Fin 4 → Nat :=
  let c0_i32_5361 : BitVec 32 := 0#32
  let v3209 : Index := Scalar.indexCast c0_i32_5361
  let c1_i32_5362 : BitVec 32 := 1#32
  let v3210 : Index := Scalar.indexCast c1_i32_5362
  let c0_i32_5325 : BitVec 32 := 0#32
  let c0_i32_1384 : BitVec 32 := 0#32
  let c1_i32_1386 : BitVec 32 := 1#32
  let arg17 : BitVec 32 := Scf.iv c0_i32_1384 c1_i32_1386 k0_t25
  let c1_i32_5324 : BitVec 32 := 1#32
  let v3152 : BitVec 32 := Scalar.muli arg17 c1_i32_5324
  let v3153 : BitVec 32 := Scalar.addi c0_i32_5325 v3152
  let v3211 : Index := Scalar.indexCast v3153
  let c16_5363 : Index := 16#32
  ![0, 1, v3211.toNat, 16]
def k0_off219 (k0_t25 : Fin k0_t25_loop.trips) : Fin 4 → Nat :=
  let c0_i32_5364 : BitVec 32 := 0#32
  let v3215 : Index := Scalar.indexCast c0_i32_5364
  let c1_i32_5365 : BitVec 32 := 1#32
  let v3216 : Index := Scalar.indexCast c1_i32_5365
  let c0_i32_5325 : BitVec 32 := 0#32
  let c0_i32_1384 : BitVec 32 := 0#32
  let c1_i32_1386 : BitVec 32 := 1#32
  let arg17 : BitVec 32 := Scf.iv c0_i32_1384 c1_i32_1386 k0_t25
  let c1_i32_5324 : BitVec 32 := 1#32
  let v3152 : BitVec 32 := Scalar.muli arg17 c1_i32_5324
  let v3153 : BitVec 32 := Scalar.addi c0_i32_5325 v3152
  let v3217 : Index := Scalar.indexCast v3153
  let c32_5366 : Index := 32#32
  ![0, 1, v3217.toNat, 32]
def k0_off220 (k0_t25 : Fin k0_t25_loop.trips) : Fin 4 → Nat :=
  let c0_i32_5367 : BitVec 32 := 0#32
  let v3221 : Index := Scalar.indexCast c0_i32_5367
  let c1_i32_5368 : BitVec 32 := 1#32
  let v3222 : Index := Scalar.indexCast c1_i32_5368
  let c0_i32_5325 : BitVec 32 := 0#32
  let c0_i32_1384 : BitVec 32 := 0#32
  let c1_i32_1386 : BitVec 32 := 1#32
  let arg17 : BitVec 32 := Scf.iv c0_i32_1384 c1_i32_1386 k0_t25
  let c1_i32_5324 : BitVec 32 := 1#32
  let v3152 : BitVec 32 := Scalar.muli arg17 c1_i32_5324
  let v3153 : BitVec 32 := Scalar.addi c0_i32_5325 v3152
  let v3223 : Index := Scalar.indexCast v3153
  let c48_5369 : Index := 48#32
  ![0, 1, v3223.toNat, 48]
def k0_off221 (i : grid0.Coords) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c6_i32_1401 : BitVec 32 := 6#32
  let c1_i32_1402 : BitVec 32 := 1#32
  let c0_i32_1407 : BitVec 32 := 0#32
  let c0_i32_1408 : BitVec 32 := 0#32
  ![v2.toNat, 6, 1, 0, 0]
@[reducible] def k0_t26_loop : Scf.Loop 32 :=
  let c0_i32_1440 : BitVec 32 := 0#32
  let c64_i32_1441 : BitVec 32 := 64#32
  let v866 : BitVec 32 := Scalar.addi c0_i32_1440 c64_i32_1441
  let c1_i32_1442 : BitVec 32 := 1#32
  ⟨c0_i32_1440, v866, c1_i32_1442⟩
def k0_off222 (k0_t26 : Fin k0_t26_loop.trips) : Fin 4 → Nat :=
  let c1_i32_5338 : BitVec 32 := 1#32
  let v3167 : Index := Scalar.indexCast c1_i32_5338
  let c0_i32_5339 : BitVec 32 := 0#32
  let v3168 : Index := Scalar.indexCast c0_i32_5339
  let c0_i32_5325 : BitVec 32 := 0#32
  let c0_i32_1440 : BitVec 32 := 0#32
  let c1_i32_1442 : BitVec 32 := 1#32
  let arg17 : BitVec 32 := Scf.iv c0_i32_1440 c1_i32_1442 k0_t26
  let c1_i32_5324 : BitVec 32 := 1#32
  let v3152 : BitVec 32 := Scalar.muli arg17 c1_i32_5324
  let v3153 : BitVec 32 := Scalar.addi c0_i32_5325 v3152
  let v3169 : Index := Scalar.indexCast v3153
  let c0 : Index := 0#32
  ![1, 0, v3169.toNat, 0]
def k0_off223 (k0_t26 : Fin k0_t26_loop.trips) : Fin 4 → Nat :=
  let c1_i32_5340 : BitVec 32 := 1#32
  let v3173 : Index := Scalar.indexCast c1_i32_5340
  let c0_i32_5341 : BitVec 32 := 0#32
  let v3174 : Index := Scalar.indexCast c0_i32_5341
  let c0_i32_5325 : BitVec 32 := 0#32
  let c0_i32_1440 : BitVec 32 := 0#32
  let c1_i32_1442 : BitVec 32 := 1#32
  let arg17 : BitVec 32 := Scf.iv c0_i32_1440 c1_i32_1442 k0_t26
  let c1_i32_5324 : BitVec 32 := 1#32
  let v3152 : BitVec 32 := Scalar.muli arg17 c1_i32_5324
  let v3153 : BitVec 32 := Scalar.addi c0_i32_5325 v3152
  let v3175 : Index := Scalar.indexCast v3153
  let c16 : Index := 16#32
  ![1, 0, v3175.toNat, 16]
def k0_off224 (k0_t26 : Fin k0_t26_loop.trips) : Fin 4 → Nat :=
  let c1_i32_5342 : BitVec 32 := 1#32
  let v3179 : Index := Scalar.indexCast c1_i32_5342
  let c0_i32_5343 : BitVec 32 := 0#32
  let v3180 : Index := Scalar.indexCast c0_i32_5343
  let c0_i32_5325 : BitVec 32 := 0#32
  let c0_i32_1440 : BitVec 32 := 0#32
  let c1_i32_1442 : BitVec 32 := 1#32
  let arg17 : BitVec 32 := Scf.iv c0_i32_1440 c1_i32_1442 k0_t26
  let c1_i32_5324 : BitVec 32 := 1#32
  let v3152 : BitVec 32 := Scalar.muli arg17 c1_i32_5324
  let v3153 : BitVec 32 := Scalar.addi c0_i32_5325 v3152
  let v3181 : Index := Scalar.indexCast v3153
  let c32 : Index := 32#32
  ![1, 0, v3181.toNat, 32]
def k0_off225 (k0_t26 : Fin k0_t26_loop.trips) : Fin 4 → Nat :=
  let c1_i32_5344 : BitVec 32 := 1#32
  let v3185 : Index := Scalar.indexCast c1_i32_5344
  let c0_i32_5345 : BitVec 32 := 0#32
  let v3186 : Index := Scalar.indexCast c0_i32_5345
  let c0_i32_5325 : BitVec 32 := 0#32
  let c0_i32_1440 : BitVec 32 := 0#32
  let c1_i32_1442 : BitVec 32 := 1#32
  let arg17 : BitVec 32 := Scf.iv c0_i32_1440 c1_i32_1442 k0_t26
  let c1_i32_5324 : BitVec 32 := 1#32
  let v3152 : BitVec 32 := Scalar.muli arg17 c1_i32_5324
  let v3153 : BitVec 32 := Scalar.addi c0_i32_5325 v3152
  let v3187 : Index := Scalar.indexCast v3153
  let c48 : Index := 48#32
  ![1, 0, v3187.toNat, 48]

def k0_chk26 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx201_inb : ∀ (v5 : IVec S16 32) (v8 : IVec S16 32) (v11 : IVec S16 32) (v14 : IVec S16 32) (v15 : IVec S16 32) (v16 : IVec S16 32) (v3154 : IVec S16 32) (k0_hw26 : k0_chk26 v5 v8 v11 v14 v15 v16 v3154), ∀ a x, ((![v15, v3154, v14] : Fin 3 → IVec S16 32) a x).toNat < S2x64x64.size a := fun v5 v8 v11 v14 v15 v16 v3154 k0_hw26 => k0_hw26.1
theorem k0_idx202_inb : ∀ (v5 : IVec S16 32) (v8 : IVec S16 32) (v11 : IVec S16 32) (v14 : IVec S16 32) (v15 : IVec S16 32) (v16 : IVec S16 32) (v3154 : IVec S16 32) (k0_hw26 : k0_chk26 v5 v8 v11 v14 v15 v16 v3154), ∀ a x, ((![v15, v3154, v11] : Fin 3 → IVec S16 32) a x).toNat < S2x64x64.size a := fun v5 v8 v11 v14 v15 v16 v3154 k0_hw26 => k0_hw26.2.1
theorem k0_idx203_inb : ∀ (v5 : IVec S16 32) (v8 : IVec S16 32) (v11 : IVec S16 32) (v14 : IVec S16 32) (v15 : IVec S16 32) (v16 : IVec S16 32) (v3154 : IVec S16 32) (k0_hw26 : k0_chk26 v5 v8 v11 v14 v15 v16 v3154), ∀ a x, ((![v15, v3154, v8] : Fin 3 → IVec S16 32) a x).toNat < S2x64x64.size a := fun v5 v8 v11 v14 v15 v16 v3154 k0_hw26 => k0_hw26.2.2.1
theorem k0_idx204_inb : ∀ (v5 : IVec S16 32) (v8 : IVec S16 32) (v11 : IVec S16 32) (v14 : IVec S16 32) (v15 : IVec S16 32) (v16 : IVec S16 32) (v3154 : IVec S16 32) (k0_hw26 : k0_chk26 v5 v8 v11 v14 v15 v16 v3154), ∀ a x, ((![v15, v3154, v5] : Fin 3 → IVec S16 32) a x).toNat < S2x64x64.size a := fun v5 v8 v11 v14 v15 v16 v3154 k0_hw26 => k0_hw26.2.2.2.1
theorem k0_idx205_inb : ∀ (v5 : IVec S16 32) (v8 : IVec S16 32) (v11 : IVec S16 32) (v14 : IVec S16 32) (v15 : IVec S16 32) (v16 : IVec S16 32) (v3154 : IVec S16 32) (k0_hw26 : k0_chk26 v5 v8 v11 v14 v15 v16 v3154), ∀ a x, ((![v16, v3154, v14] : Fin 3 → IVec S16 32) a x).toNat < S2x64x64.size a := fun v5 v8 v11 v14 v15 v16 v3154 k0_hw26 => k0_hw26.2.2.2.2.1
theorem k0_idx206_inb : ∀ (v5 : IVec S16 32) (v8 : IVec S16 32) (v11 : IVec S16 32) (v14 : IVec S16 32) (v15 : IVec S16 32) (v16 : IVec S16 32) (v3154 : IVec S16 32) (k0_hw26 : k0_chk26 v5 v8 v11 v14 v15 v16 v3154), ∀ a x, ((![v16, v3154, v11] : Fin 3 → IVec S16 32) a x).toNat < S2x64x64.size a := fun v5 v8 v11 v14 v15 v16 v3154 k0_hw26 => k0_hw26.2.2.2.2.2.1
theorem k0_idx207_inb : ∀ (v5 : IVec S16 32) (v8 : IVec S16 32) (v11 : IVec S16 32) (v14 : IVec S16 32) (v15 : IVec S16 32) (v16 : IVec S16 32) (v3154 : IVec S16 32) (k0_hw26 : k0_chk26 v5 v8 v11 v14 v15 v16 v3154), ∀ a x, ((![v16, v3154, v8] : Fin 3 → IVec S16 32) a x).toNat < S2x64x64.size a := fun v5 v8 v11 v14 v15 v16 v3154 k0_hw26 => k0_hw26.2.2.2.2.2.2.1
theorem k0_idx208_inb : ∀ (v5 : IVec S16 32) (v8 : IVec S16 32) (v11 : IVec S16 32) (v14 : IVec S16 32) (v15 : IVec S16 32) (v16 : IVec S16 32) (v3154 : IVec S16 32) (k0_hw26 : k0_chk26 v5 v8 v11 v14 v15 v16 v3154), ∀ a x, ((![v16, v3154, v5] : Fin 3 → IVec S16 32) a x).toNat < S2x64x64.size a := fun v5 v8 v11 v14 v15 v16 v3154 k0_hw26 => k0_hw26.2.2.2.2.2.2.2
def k0_off226 (k0_t26 : Fin k0_t26_loop.trips) : Fin 4 → Nat :=
  let c1_i32_5358 : BitVec 32 := 1#32
  let v3203 : Index := Scalar.indexCast c1_i32_5358
  let c1_i32_5359 : BitVec 32 := 1#32
  let v3204 : Index := Scalar.indexCast c1_i32_5359
  let c0_i32_5325 : BitVec 32 := 0#32
  let c0_i32_1440 : BitVec 32 := 0#32
  let c1_i32_1442 : BitVec 32 := 1#32
  let arg17 : BitVec 32 := Scf.iv c0_i32_1440 c1_i32_1442 k0_t26
  let c1_i32_5324 : BitVec 32 := 1#32
  let v3152 : BitVec 32 := Scalar.muli arg17 c1_i32_5324
  let v3153 : BitVec 32 := Scalar.addi c0_i32_5325 v3152
  let v3205 : Index := Scalar.indexCast v3153
  let c0_5360 : Index := 0#32
  ![1, 1, v3205.toNat, 0]
def k0_off227 (k0_t26 : Fin k0_t26_loop.trips) : Fin 4 → Nat :=
  let c1_i32_5361 : BitVec 32 := 1#32
  let v3209 : Index := Scalar.indexCast c1_i32_5361
  let c1_i32_5362 : BitVec 32 := 1#32
  let v3210 : Index := Scalar.indexCast c1_i32_5362
  let c0_i32_5325 : BitVec 32 := 0#32
  let c0_i32_1440 : BitVec 32 := 0#32
  let c1_i32_1442 : BitVec 32 := 1#32
  let arg17 : BitVec 32 := Scf.iv c0_i32_1440 c1_i32_1442 k0_t26
  let c1_i32_5324 : BitVec 32 := 1#32
  let v3152 : BitVec 32 := Scalar.muli arg17 c1_i32_5324
  let v3153 : BitVec 32 := Scalar.addi c0_i32_5325 v3152
  let v3211 : Index := Scalar.indexCast v3153
  let c16_5363 : Index := 16#32
  ![1, 1, v3211.toNat, 16]
def k0_off228 (k0_t26 : Fin k0_t26_loop.trips) : Fin 4 → Nat :=
  let c1_i32_5364 : BitVec 32 := 1#32
  let v3215 : Index := Scalar.indexCast c1_i32_5364
  let c1_i32_5365 : BitVec 32 := 1#32
  let v3216 : Index := Scalar.indexCast c1_i32_5365
  let c0_i32_5325 : BitVec 32 := 0#32
  let c0_i32_1440 : BitVec 32 := 0#32
  let c1_i32_1442 : BitVec 32 := 1#32
  let arg17 : BitVec 32 := Scf.iv c0_i32_1440 c1_i32_1442 k0_t26
  let c1_i32_5324 : BitVec 32 := 1#32
  let v3152 : BitVec 32 := Scalar.muli arg17 c1_i32_5324
  let v3153 : BitVec 32 := Scalar.addi c0_i32_5325 v3152
  let v3217 : Index := Scalar.indexCast v3153
  let c32_5366 : Index := 32#32
  ![1, 1, v3217.toNat, 32]
def k0_off229 (k0_t26 : Fin k0_t26_loop.trips) : Fin 4 → Nat :=
  let c1_i32_5367 : BitVec 32 := 1#32
  let v3221 : Index := Scalar.indexCast c1_i32_5367
  let c1_i32_5368 : BitVec 32 := 1#32
  let v3222 : Index := Scalar.indexCast c1_i32_5368
  let c0_i32_5325 : BitVec 32 := 0#32
  let c0_i32_1440 : BitVec 32 := 0#32
  let c1_i32_1442 : BitVec 32 := 1#32
  let arg17 : BitVec 32 := Scf.iv c0_i32_1440 c1_i32_1442 k0_t26
  let c1_i32_5324 : BitVec 32 := 1#32
  let v3152 : BitVec 32 := Scalar.muli arg17 c1_i32_5324
  let v3153 : BitVec 32 := Scalar.addi c0_i32_5325 v3152
  let v3223 : Index := Scalar.indexCast v3153
  let c48_5369 : Index := 48#32
  ![1, 1, v3223.toNat, 48]
def k0_off230 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c5_i32 : BitVec 32 := 5#32
  let c0_i32_1448 : BitVec 32 := 0#32
  let c0_i32_1449 : BitVec 32 := 0#32
  ![v2.toNat, 5, 0, 0]
@[reducible] def k0_t27_loop : Scf.Loop 32 :=
  let c0_i32_1495 : BitVec 32 := 0#32
  let c64_i32_1496 : BitVec 32 := 64#32
  let v899 : BitVec 32 := Scalar.addi c0_i32_1495 c64_i32_1496
  let c1_i32_1497 : BitVec 32 := 1#32
  ⟨c0_i32_1495, v899, c1_i32_1497⟩
def k0_off231 (k0_t27 : Fin k0_t27_loop.trips) : Fin 4 → Nat :=
  let c2_i32_5341 : BitVec 32 := 2#32
  let v3175 : Index := Scalar.indexCast c2_i32_5341
  let c0_i32_5342 : BitVec 32 := 0#32
  let v3176 : Index := Scalar.indexCast c0_i32_5342
  let c0_i32_5325 : BitVec 32 := 0#32
  let c0_i32_1495 : BitVec 32 := 0#32
  let c1_i32_1497 : BitVec 32 := 1#32
  let arg17 : BitVec 32 := Scf.iv c0_i32_1495 c1_i32_1497 k0_t27
  let c1_i32_5324 : BitVec 32 := 1#32
  let v3152 : BitVec 32 := Scalar.muli arg17 c1_i32_5324
  let v3153 : BitVec 32 := Scalar.addi c0_i32_5325 v3152
  let v3177 : Index := Scalar.indexCast v3153
  let c0 : Index := 0#32
  ![2, 0, v3177.toNat, 0]
def k0_off232 (k0_t27 : Fin k0_t27_loop.trips) : Fin 4 → Nat :=
  let c2_i32_5343 : BitVec 32 := 2#32
  let v3181 : Index := Scalar.indexCast c2_i32_5343
  let c0_i32_5344 : BitVec 32 := 0#32
  let v3182 : Index := Scalar.indexCast c0_i32_5344
  let c0_i32_5325 : BitVec 32 := 0#32
  let c0_i32_1495 : BitVec 32 := 0#32
  let c1_i32_1497 : BitVec 32 := 1#32
  let arg17 : BitVec 32 := Scf.iv c0_i32_1495 c1_i32_1497 k0_t27
  let c1_i32_5324 : BitVec 32 := 1#32
  let v3152 : BitVec 32 := Scalar.muli arg17 c1_i32_5324
  let v3153 : BitVec 32 := Scalar.addi c0_i32_5325 v3152
  let v3183 : Index := Scalar.indexCast v3153
  let c16 : Index := 16#32
  ![2, 0, v3183.toNat, 16]
def k0_off233 (k0_t27 : Fin k0_t27_loop.trips) : Fin 4 → Nat :=
  let c2_i32_5345 : BitVec 32 := 2#32
  let v3187 : Index := Scalar.indexCast c2_i32_5345
  let c0_i32_5346 : BitVec 32 := 0#32
  let v3188 : Index := Scalar.indexCast c0_i32_5346
  let c0_i32_5325 : BitVec 32 := 0#32
  let c0_i32_1495 : BitVec 32 := 0#32
  let c1_i32_1497 : BitVec 32 := 1#32
  let arg17 : BitVec 32 := Scf.iv c0_i32_1495 c1_i32_1497 k0_t27
  let c1_i32_5324 : BitVec 32 := 1#32
  let v3152 : BitVec 32 := Scalar.muli arg17 c1_i32_5324
  let v3153 : BitVec 32 := Scalar.addi c0_i32_5325 v3152
  let v3189 : Index := Scalar.indexCast v3153
  let c32 : Index := 32#32
  ![2, 0, v3189.toNat, 32]
def k0_off234 (k0_t27 : Fin k0_t27_loop.trips) : Fin 4 → Nat :=
  let c2_i32_5347 : BitVec 32 := 2#32
  let v3193 : Index := Scalar.indexCast c2_i32_5347
  let c0_i32_5348 : BitVec 32 := 0#32
  let v3194 : Index := Scalar.indexCast c0_i32_5348
  let c0_i32_5325 : BitVec 32 := 0#32
  let c0_i32_1495 : BitVec 32 := 0#32
  let c1_i32_1497 : BitVec 32 := 1#32
  let arg17 : BitVec 32 := Scf.iv c0_i32_1495 c1_i32_1497 k0_t27
  let c1_i32_5324 : BitVec 32 := 1#32
  let v3152 : BitVec 32 := Scalar.muli arg17 c1_i32_5324
  let v3153 : BitVec 32 := Scalar.addi c0_i32_5325 v3152
  let v3195 : Index := Scalar.indexCast v3153
  let c48 : Index := 48#32
  ![2, 0, v3195.toNat, 48]

def k0_chk27 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx209_inb : ∀ (v5 : IVec S16 32) (v8 : IVec S16 32) (v11 : IVec S16 32) (v14 : IVec S16 32) (v15 : IVec S16 32) (v16 : IVec S16 32) (v3154 : IVec S16 32) (k0_hw27 : k0_chk27 v5 v8 v11 v14 v15 v16 v3154), ∀ a x, ((![v15, v3154, v14] : Fin 3 → IVec S16 32) a x).toNat < S2x64x64.size a := fun v5 v8 v11 v14 v15 v16 v3154 k0_hw27 => k0_hw27.1
theorem k0_idx210_inb : ∀ (v5 : IVec S16 32) (v8 : IVec S16 32) (v11 : IVec S16 32) (v14 : IVec S16 32) (v15 : IVec S16 32) (v16 : IVec S16 32) (v3154 : IVec S16 32) (k0_hw27 : k0_chk27 v5 v8 v11 v14 v15 v16 v3154), ∀ a x, ((![v15, v3154, v11] : Fin 3 → IVec S16 32) a x).toNat < S2x64x64.size a := fun v5 v8 v11 v14 v15 v16 v3154 k0_hw27 => k0_hw27.2.1
theorem k0_idx211_inb : ∀ (v5 : IVec S16 32) (v8 : IVec S16 32) (v11 : IVec S16 32) (v14 : IVec S16 32) (v15 : IVec S16 32) (v16 : IVec S16 32) (v3154 : IVec S16 32) (k0_hw27 : k0_chk27 v5 v8 v11 v14 v15 v16 v3154), ∀ a x, ((![v15, v3154, v8] : Fin 3 → IVec S16 32) a x).toNat < S2x64x64.size a := fun v5 v8 v11 v14 v15 v16 v3154 k0_hw27 => k0_hw27.2.2.1
theorem k0_idx212_inb : ∀ (v5 : IVec S16 32) (v8 : IVec S16 32) (v11 : IVec S16 32) (v14 : IVec S16 32) (v15 : IVec S16 32) (v16 : IVec S16 32) (v3154 : IVec S16 32) (k0_hw27 : k0_chk27 v5 v8 v11 v14 v15 v16 v3154), ∀ a x, ((![v15, v3154, v5] : Fin 3 → IVec S16 32) a x).toNat < S2x64x64.size a := fun v5 v8 v11 v14 v15 v16 v3154 k0_hw27 => k0_hw27.2.2.2.1
theorem k0_idx213_inb : ∀ (v5 : IVec S16 32) (v8 : IVec S16 32) (v11 : IVec S16 32) (v14 : IVec S16 32) (v15 : IVec S16 32) (v16 : IVec S16 32) (v3154 : IVec S16 32) (k0_hw27 : k0_chk27 v5 v8 v11 v14 v15 v16 v3154), ∀ a x, ((![v16, v3154, v14] : Fin 3 → IVec S16 32) a x).toNat < S2x64x64.size a := fun v5 v8 v11 v14 v15 v16 v3154 k0_hw27 => k0_hw27.2.2.2.2.1
theorem k0_idx214_inb : ∀ (v5 : IVec S16 32) (v8 : IVec S16 32) (v11 : IVec S16 32) (v14 : IVec S16 32) (v15 : IVec S16 32) (v16 : IVec S16 32) (v3154 : IVec S16 32) (k0_hw27 : k0_chk27 v5 v8 v11 v14 v15 v16 v3154), ∀ a x, ((![v16, v3154, v11] : Fin 3 → IVec S16 32) a x).toNat < S2x64x64.size a := fun v5 v8 v11 v14 v15 v16 v3154 k0_hw27 => k0_hw27.2.2.2.2.2.1
theorem k0_idx215_inb : ∀ (v5 : IVec S16 32) (v8 : IVec S16 32) (v11 : IVec S16 32) (v14 : IVec S16 32) (v15 : IVec S16 32) (v16 : IVec S16 32) (v3154 : IVec S16 32) (k0_hw27 : k0_chk27 v5 v8 v11 v14 v15 v16 v3154), ∀ a x, ((![v16, v3154, v8] : Fin 3 → IVec S16 32) a x).toNat < S2x64x64.size a := fun v5 v8 v11 v14 v15 v16 v3154 k0_hw27 => k0_hw27.2.2.2.2.2.2.1
theorem k0_idx216_inb : ∀ (v5 : IVec S16 32) (v8 : IVec S16 32) (v11 : IVec S16 32) (v14 : IVec S16 32) (v15 : IVec S16 32) (v16 : IVec S16 32) (v3154 : IVec S16 32) (k0_hw27 : k0_chk27 v5 v8 v11 v14 v15 v16 v3154), ∀ a x, ((![v16, v3154, v5] : Fin 3 → IVec S16 32) a x).toNat < S2x64x64.size a := fun v5 v8 v11 v14 v15 v16 v3154 k0_hw27 => k0_hw27.2.2.2.2.2.2.2
def k0_off235 (k0_t27 : Fin k0_t27_loop.trips) : Fin 4 → Nat :=
  let c2_i32_5365 : BitVec 32 := 2#32
  let v3219 : Index := Scalar.indexCast c2_i32_5365
  let c1_i32_5366 : BitVec 32 := 1#32
  let v3220 : Index := Scalar.indexCast c1_i32_5366
  let c0_i32_5325 : BitVec 32 := 0#32
  let c0_i32_1495 : BitVec 32 := 0#32
  let c1_i32_1497 : BitVec 32 := 1#32
  let arg17 : BitVec 32 := Scf.iv c0_i32_1495 c1_i32_1497 k0_t27
  let c1_i32_5324 : BitVec 32 := 1#32
  let v3152 : BitVec 32 := Scalar.muli arg17 c1_i32_5324
  let v3153 : BitVec 32 := Scalar.addi c0_i32_5325 v3152
  let v3221 : Index := Scalar.indexCast v3153
  let c0_5367 : Index := 0#32
  ![2, 1, v3221.toNat, 0]
def k0_off236 (k0_t27 : Fin k0_t27_loop.trips) : Fin 4 → Nat :=
  let c2_i32_5368 : BitVec 32 := 2#32
  let v3225 : Index := Scalar.indexCast c2_i32_5368
  let c1_i32_5369 : BitVec 32 := 1#32
  let v3226 : Index := Scalar.indexCast c1_i32_5369
  let c0_i32_5325 : BitVec 32 := 0#32
  let c0_i32_1495 : BitVec 32 := 0#32
  let c1_i32_1497 : BitVec 32 := 1#32
  let arg17 : BitVec 32 := Scf.iv c0_i32_1495 c1_i32_1497 k0_t27
  let c1_i32_5324 : BitVec 32 := 1#32
  let v3152 : BitVec 32 := Scalar.muli arg17 c1_i32_5324
  let v3153 : BitVec 32 := Scalar.addi c0_i32_5325 v3152
  let v3227 : Index := Scalar.indexCast v3153
  let c16_5370 : Index := 16#32
  ![2, 1, v3227.toNat, 16]
def k0_off237 (k0_t27 : Fin k0_t27_loop.trips) : Fin 4 → Nat :=
  let c2_i32_5371 : BitVec 32 := 2#32
  let v3231 : Index := Scalar.indexCast c2_i32_5371
  let c1_i32_5372 : BitVec 32 := 1#32
  let v3232 : Index := Scalar.indexCast c1_i32_5372
  let c0_i32_5325 : BitVec 32 := 0#32
  let c0_i32_1495 : BitVec 32 := 0#32
  let c1_i32_1497 : BitVec 32 := 1#32
  let arg17 : BitVec 32 := Scf.iv c0_i32_1495 c1_i32_1497 k0_t27
  let c1_i32_5324 : BitVec 32 := 1#32
  let v3152 : BitVec 32 := Scalar.muli arg17 c1_i32_5324
  let v3153 : BitVec 32 := Scalar.addi c0_i32_5325 v3152
  let v3233 : Index := Scalar.indexCast v3153
  let c32_5373 : Index := 32#32
  ![2, 1, v3233.toNat, 32]
def k0_off238 (k0_t27 : Fin k0_t27_loop.trips) : Fin 4 → Nat :=
  let c2_i32_5374 : BitVec 32 := 2#32
  let v3237 : Index := Scalar.indexCast c2_i32_5374
  let c1_i32_5375 : BitVec 32 := 1#32
  let v3238 : Index := Scalar.indexCast c1_i32_5375
  let c0_i32_5325 : BitVec 32 := 0#32
  let c0_i32_1495 : BitVec 32 := 0#32
  let c1_i32_1497 : BitVec 32 := 1#32
  let arg17 : BitVec 32 := Scf.iv c0_i32_1495 c1_i32_1497 k0_t27
  let c1_i32_5324 : BitVec 32 := 1#32
  let v3152 : BitVec 32 := Scalar.muli arg17 c1_i32_5324
  let v3153 : BitVec 32 := Scalar.addi c0_i32_5325 v3152
  let v3239 : Index := Scalar.indexCast v3153
  let c48_5376 : Index := 48#32
  ![2, 1, v3239.toNat, 48]
def k0_off239 (i : grid0.Coords) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c5_i32_1500 : BitVec 32 := 5#32
  let c0_i32_1501 : BitVec 32 := 0#32
  let c0_i32_1505 : BitVec 32 := 0#32
  let c0_i32_1506 : BitVec 32 := 0#32
  ![v2.toNat, 5, 0, 0, 0]
@[reducible] def k0_t28_loop : Scf.Loop 32 :=
  let c0_i32_1551 : BitVec 32 := 0#32
  let c64_i32_1552 : BitVec 32 := 64#32
  let v932 : BitVec 32 := Scalar.addi c0_i32_1551 c64_i32_1552
  let c1_i32_1553 : BitVec 32 := 1#32
  ⟨c0_i32_1551, v932, c1_i32_1553⟩
def k0_off240 (k0_t28 : Fin k0_t28_loop.trips) : Fin 4 → Nat :=
  let c0_i32_5341 : BitVec 32 := 0#32
  let v3175 : Index := Scalar.indexCast c0_i32_5341
  let c0_i32_5342 : BitVec 32 := 0#32
  let v3176 : Index := Scalar.indexCast c0_i32_5342
  let c0_i32_5325 : BitVec 32 := 0#32
  let c0_i32_1551 : BitVec 32 := 0#32
  let c1_i32_1553 : BitVec 32 := 1#32
  let arg17 : BitVec 32 := Scf.iv c0_i32_1551 c1_i32_1553 k0_t28
  let c1_i32_5324 : BitVec 32 := 1#32
  let v3152 : BitVec 32 := Scalar.muli arg17 c1_i32_5324
  let v3153 : BitVec 32 := Scalar.addi c0_i32_5325 v3152
  let v3177 : Index := Scalar.indexCast v3153
  let c0 : Index := 0#32
  ![0, 0, v3177.toNat, 0]
def k0_off241 (k0_t28 : Fin k0_t28_loop.trips) : Fin 4 → Nat :=
  let c0_i32_5343 : BitVec 32 := 0#32
  let v3181 : Index := Scalar.indexCast c0_i32_5343
  let c0_i32_5344 : BitVec 32 := 0#32
  let v3182 : Index := Scalar.indexCast c0_i32_5344
  let c0_i32_5325 : BitVec 32 := 0#32
  let c0_i32_1551 : BitVec 32 := 0#32
  let c1_i32_1553 : BitVec 32 := 1#32
  let arg17 : BitVec 32 := Scf.iv c0_i32_1551 c1_i32_1553 k0_t28
  let c1_i32_5324 : BitVec 32 := 1#32
  let v3152 : BitVec 32 := Scalar.muli arg17 c1_i32_5324
  let v3153 : BitVec 32 := Scalar.addi c0_i32_5325 v3152
  let v3183 : Index := Scalar.indexCast v3153
  let c16 : Index := 16#32
  ![0, 0, v3183.toNat, 16]
def k0_off242 (k0_t28 : Fin k0_t28_loop.trips) : Fin 4 → Nat :=
  let c0_i32_5345 : BitVec 32 := 0#32
  let v3187 : Index := Scalar.indexCast c0_i32_5345
  let c0_i32_5346 : BitVec 32 := 0#32
  let v3188 : Index := Scalar.indexCast c0_i32_5346
  let c0_i32_5325 : BitVec 32 := 0#32
  let c0_i32_1551 : BitVec 32 := 0#32
  let c1_i32_1553 : BitVec 32 := 1#32
  let arg17 : BitVec 32 := Scf.iv c0_i32_1551 c1_i32_1553 k0_t28
  let c1_i32_5324 : BitVec 32 := 1#32
  let v3152 : BitVec 32 := Scalar.muli arg17 c1_i32_5324
  let v3153 : BitVec 32 := Scalar.addi c0_i32_5325 v3152
  let v3189 : Index := Scalar.indexCast v3153
  let c32 : Index := 32#32
  ![0, 0, v3189.toNat, 32]
def k0_off243 (k0_t28 : Fin k0_t28_loop.trips) : Fin 4 → Nat :=
  let c0_i32_5347 : BitVec 32 := 0#32
  let v3193 : Index := Scalar.indexCast c0_i32_5347
  let c0_i32_5348 : BitVec 32 := 0#32
  let v3194 : Index := Scalar.indexCast c0_i32_5348
  let c0_i32_5325 : BitVec 32 := 0#32
  let c0_i32_1551 : BitVec 32 := 0#32
  let c1_i32_1553 : BitVec 32 := 1#32
  let arg17 : BitVec 32 := Scf.iv c0_i32_1551 c1_i32_1553 k0_t28
  let c1_i32_5324 : BitVec 32 := 1#32
  let v3152 : BitVec 32 := Scalar.muli arg17 c1_i32_5324
  let v3153 : BitVec 32 := Scalar.addi c0_i32_5325 v3152
  let v3195 : Index := Scalar.indexCast v3153
  let c48 : Index := 48#32
  ![0, 0, v3195.toNat, 48]

def k0_chk28 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx217_inb : ∀ (v5 : IVec S16 32) (v8 : IVec S16 32) (v11 : IVec S16 32) (v14 : IVec S16 32) (v15 : IVec S16 32) (v16 : IVec S16 32) (v3154 : IVec S16 32) (k0_hw28 : k0_chk28 v5 v8 v11 v14 v15 v16 v3154), ∀ a x, ((![v15, v3154, v14] : Fin 3 → IVec S16 32) a x).toNat < S2x64x64.size a := fun v5 v8 v11 v14 v15 v16 v3154 k0_hw28 => k0_hw28.1
theorem k0_idx218_inb : ∀ (v5 : IVec S16 32) (v8 : IVec S16 32) (v11 : IVec S16 32) (v14 : IVec S16 32) (v15 : IVec S16 32) (v16 : IVec S16 32) (v3154 : IVec S16 32) (k0_hw28 : k0_chk28 v5 v8 v11 v14 v15 v16 v3154), ∀ a x, ((![v15, v3154, v11] : Fin 3 → IVec S16 32) a x).toNat < S2x64x64.size a := fun v5 v8 v11 v14 v15 v16 v3154 k0_hw28 => k0_hw28.2.1
theorem k0_idx219_inb : ∀ (v5 : IVec S16 32) (v8 : IVec S16 32) (v11 : IVec S16 32) (v14 : IVec S16 32) (v15 : IVec S16 32) (v16 : IVec S16 32) (v3154 : IVec S16 32) (k0_hw28 : k0_chk28 v5 v8 v11 v14 v15 v16 v3154), ∀ a x, ((![v15, v3154, v8] : Fin 3 → IVec S16 32) a x).toNat < S2x64x64.size a := fun v5 v8 v11 v14 v15 v16 v3154 k0_hw28 => k0_hw28.2.2.1
theorem k0_idx220_inb : ∀ (v5 : IVec S16 32) (v8 : IVec S16 32) (v11 : IVec S16 32) (v14 : IVec S16 32) (v15 : IVec S16 32) (v16 : IVec S16 32) (v3154 : IVec S16 32) (k0_hw28 : k0_chk28 v5 v8 v11 v14 v15 v16 v3154), ∀ a x, ((![v15, v3154, v5] : Fin 3 → IVec S16 32) a x).toNat < S2x64x64.size a := fun v5 v8 v11 v14 v15 v16 v3154 k0_hw28 => k0_hw28.2.2.2.1
theorem k0_idx221_inb : ∀ (v5 : IVec S16 32) (v8 : IVec S16 32) (v11 : IVec S16 32) (v14 : IVec S16 32) (v15 : IVec S16 32) (v16 : IVec S16 32) (v3154 : IVec S16 32) (k0_hw28 : k0_chk28 v5 v8 v11 v14 v15 v16 v3154), ∀ a x, ((![v16, v3154, v14] : Fin 3 → IVec S16 32) a x).toNat < S2x64x64.size a := fun v5 v8 v11 v14 v15 v16 v3154 k0_hw28 => k0_hw28.2.2.2.2.1
theorem k0_idx222_inb : ∀ (v5 : IVec S16 32) (v8 : IVec S16 32) (v11 : IVec S16 32) (v14 : IVec S16 32) (v15 : IVec S16 32) (v16 : IVec S16 32) (v3154 : IVec S16 32) (k0_hw28 : k0_chk28 v5 v8 v11 v14 v15 v16 v3154), ∀ a x, ((![v16, v3154, v11] : Fin 3 → IVec S16 32) a x).toNat < S2x64x64.size a := fun v5 v8 v11 v14 v15 v16 v3154 k0_hw28 => k0_hw28.2.2.2.2.2.1
theorem k0_idx223_inb : ∀ (v5 : IVec S16 32) (v8 : IVec S16 32) (v11 : IVec S16 32) (v14 : IVec S16 32) (v15 : IVec S16 32) (v16 : IVec S16 32) (v3154 : IVec S16 32) (k0_hw28 : k0_chk28 v5 v8 v11 v14 v15 v16 v3154), ∀ a x, ((![v16, v3154, v8] : Fin 3 → IVec S16 32) a x).toNat < S2x64x64.size a := fun v5 v8 v11 v14 v15 v16 v3154 k0_hw28 => k0_hw28.2.2.2.2.2.2.1
theorem k0_idx224_inb : ∀ (v5 : IVec S16 32) (v8 : IVec S16 32) (v11 : IVec S16 32) (v14 : IVec S16 32) (v15 : IVec S16 32) (v16 : IVec S16 32) (v3154 : IVec S16 32) (k0_hw28 : k0_chk28 v5 v8 v11 v14 v15 v16 v3154), ∀ a x, ((![v16, v3154, v5] : Fin 3 → IVec S16 32) a x).toNat < S2x64x64.size a := fun v5 v8 v11 v14 v15 v16 v3154 k0_hw28 => k0_hw28.2.2.2.2.2.2.2
def k0_off244 (k0_t28 : Fin k0_t28_loop.trips) : Fin 4 → Nat :=
  let c0_i32_5365 : BitVec 32 := 0#32
  let v3219 : Index := Scalar.indexCast c0_i32_5365
  let c1_i32_5366 : BitVec 32 := 1#32
  let v3220 : Index := Scalar.indexCast c1_i32_5366
  let c0_i32_5325 : BitVec 32 := 0#32
  let c0_i32_1551 : BitVec 32 := 0#32
  let c1_i32_1553 : BitVec 32 := 1#32
  let arg17 : BitVec 32 := Scf.iv c0_i32_1551 c1_i32_1553 k0_t28
  let c1_i32_5324 : BitVec 32 := 1#32
  let v3152 : BitVec 32 := Scalar.muli arg17 c1_i32_5324
  let v3153 : BitVec 32 := Scalar.addi c0_i32_5325 v3152
  let v3221 : Index := Scalar.indexCast v3153
  let c0_5367 : Index := 0#32
  ![0, 1, v3221.toNat, 0]
def k0_off245 (k0_t28 : Fin k0_t28_loop.trips) : Fin 4 → Nat :=
  let c0_i32_5368 : BitVec 32 := 0#32
  let v3225 : Index := Scalar.indexCast c0_i32_5368
  let c1_i32_5369 : BitVec 32 := 1#32
  let v3226 : Index := Scalar.indexCast c1_i32_5369
  let c0_i32_5325 : BitVec 32 := 0#32
  let c0_i32_1551 : BitVec 32 := 0#32
  let c1_i32_1553 : BitVec 32 := 1#32
  let arg17 : BitVec 32 := Scf.iv c0_i32_1551 c1_i32_1553 k0_t28
  let c1_i32_5324 : BitVec 32 := 1#32
  let v3152 : BitVec 32 := Scalar.muli arg17 c1_i32_5324
  let v3153 : BitVec 32 := Scalar.addi c0_i32_5325 v3152
  let v3227 : Index := Scalar.indexCast v3153
  let c16_5370 : Index := 16#32
  ![0, 1, v3227.toNat, 16]
def k0_off246 (k0_t28 : Fin k0_t28_loop.trips) : Fin 4 → Nat :=
  let c0_i32_5371 : BitVec 32 := 0#32
  let v3231 : Index := Scalar.indexCast c0_i32_5371
  let c1_i32_5372 : BitVec 32 := 1#32
  let v3232 : Index := Scalar.indexCast c1_i32_5372
  let c0_i32_5325 : BitVec 32 := 0#32
  let c0_i32_1551 : BitVec 32 := 0#32
  let c1_i32_1553 : BitVec 32 := 1#32
  let arg17 : BitVec 32 := Scf.iv c0_i32_1551 c1_i32_1553 k0_t28
  let c1_i32_5324 : BitVec 32 := 1#32
  let v3152 : BitVec 32 := Scalar.muli arg17 c1_i32_5324
  let v3153 : BitVec 32 := Scalar.addi c0_i32_5325 v3152
  let v3233 : Index := Scalar.indexCast v3153
  let c32_5373 : Index := 32#32
  ![0, 1, v3233.toNat, 32]
def k0_off247 (k0_t28 : Fin k0_t28_loop.trips) : Fin 4 → Nat :=
  let c0_i32_5374 : BitVec 32 := 0#32
  let v3237 : Index := Scalar.indexCast c0_i32_5374
  let c1_i32_5375 : BitVec 32 := 1#32
  let v3238 : Index := Scalar.indexCast c1_i32_5375
  let c0_i32_5325 : BitVec 32 := 0#32
  let c0_i32_1551 : BitVec 32 := 0#32
  let c1_i32_1553 : BitVec 32 := 1#32
  let arg17 : BitVec 32 := Scf.iv c0_i32_1551 c1_i32_1553 k0_t28
  let c1_i32_5324 : BitVec 32 := 1#32
  let v3152 : BitVec 32 := Scalar.muli arg17 c1_i32_5324
  let v3153 : BitVec 32 := Scalar.addi c0_i32_5325 v3152
  let v3239 : Index := Scalar.indexCast v3153
  let c48_5376 : Index := 48#32
  ![0, 1, v3239.toNat, 48]
@[reducible] def k0_t29_loop : Scf.Loop 32 :=
  let c0_i32_1607 : BitVec 32 := 0#32
  let c64_i32_1608 : BitVec 32 := 64#32
  let v965 : BitVec 32 := Scalar.addi c0_i32_1607 c64_i32_1608
  let c1_i32_1609 : BitVec 32 := 1#32
  ⟨c0_i32_1607, v965, c1_i32_1609⟩
def k0_off248 (k0_t29 : Fin k0_t29_loop.trips) : Fin 4 → Nat :=
  let c1_i32_5338 : BitVec 32 := 1#32
  let v3167 : Index := Scalar.indexCast c1_i32_5338
  let c0_i32_5339 : BitVec 32 := 0#32
  let v3168 : Index := Scalar.indexCast c0_i32_5339
  let c0_i32_5325 : BitVec 32 := 0#32
  let c0_i32_1607 : BitVec 32 := 0#32
  let c1_i32_1609 : BitVec 32 := 1#32
  let arg17 : BitVec 32 := Scf.iv c0_i32_1607 c1_i32_1609 k0_t29
  let c1_i32_5324 : BitVec 32 := 1#32
  let v3152 : BitVec 32 := Scalar.muli arg17 c1_i32_5324
  let v3153 : BitVec 32 := Scalar.addi c0_i32_5325 v3152
  let v3169 : Index := Scalar.indexCast v3153
  let c0 : Index := 0#32
  ![1, 0, v3169.toNat, 0]
def k0_off249 (k0_t29 : Fin k0_t29_loop.trips) : Fin 4 → Nat :=
  let c1_i32_5340 : BitVec 32 := 1#32
  let v3173 : Index := Scalar.indexCast c1_i32_5340
  let c0_i32_5341 : BitVec 32 := 0#32
  let v3174 : Index := Scalar.indexCast c0_i32_5341
  let c0_i32_5325 : BitVec 32 := 0#32
  let c0_i32_1607 : BitVec 32 := 0#32
  let c1_i32_1609 : BitVec 32 := 1#32
  let arg17 : BitVec 32 := Scf.iv c0_i32_1607 c1_i32_1609 k0_t29
  let c1_i32_5324 : BitVec 32 := 1#32
  let v3152 : BitVec 32 := Scalar.muli arg17 c1_i32_5324
  let v3153 : BitVec 32 := Scalar.addi c0_i32_5325 v3152
  let v3175 : Index := Scalar.indexCast v3153
  let c16 : Index := 16#32
  ![1, 0, v3175.toNat, 16]
def k0_off250 (k0_t29 : Fin k0_t29_loop.trips) : Fin 4 → Nat :=
  let c1_i32_5342 : BitVec 32 := 1#32
  let v3179 : Index := Scalar.indexCast c1_i32_5342
  let c0_i32_5343 : BitVec 32 := 0#32
  let v3180 : Index := Scalar.indexCast c0_i32_5343
  let c0_i32_5325 : BitVec 32 := 0#32
  let c0_i32_1607 : BitVec 32 := 0#32
  let c1_i32_1609 : BitVec 32 := 1#32
  let arg17 : BitVec 32 := Scf.iv c0_i32_1607 c1_i32_1609 k0_t29
  let c1_i32_5324 : BitVec 32 := 1#32
  let v3152 : BitVec 32 := Scalar.muli arg17 c1_i32_5324
  let v3153 : BitVec 32 := Scalar.addi c0_i32_5325 v3152
  let v3181 : Index := Scalar.indexCast v3153
  let c32 : Index := 32#32
  ![1, 0, v3181.toNat, 32]
def k0_off251 (k0_t29 : Fin k0_t29_loop.trips) : Fin 4 → Nat :=
  let c1_i32_5344 : BitVec 32 := 1#32
  let v3185 : Index := Scalar.indexCast c1_i32_5344
  let c0_i32_5345 : BitVec 32 := 0#32
  let v3186 : Index := Scalar.indexCast c0_i32_5345
  let c0_i32_5325 : BitVec 32 := 0#32
  let c0_i32_1607 : BitVec 32 := 0#32
  let c1_i32_1609 : BitVec 32 := 1#32
  let arg17 : BitVec 32 := Scf.iv c0_i32_1607 c1_i32_1609 k0_t29
  let c1_i32_5324 : BitVec 32 := 1#32
  let v3152 : BitVec 32 := Scalar.muli arg17 c1_i32_5324
  let v3153 : BitVec 32 := Scalar.addi c0_i32_5325 v3152
  let v3187 : Index := Scalar.indexCast v3153
  let c48 : Index := 48#32
  ![1, 0, v3187.toNat, 48]

def k0_chk29 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx225_inb : ∀ (v5 : IVec S16 32) (v8 : IVec S16 32) (v11 : IVec S16 32) (v14 : IVec S16 32) (v15 : IVec S16 32) (v16 : IVec S16 32) (v3154 : IVec S16 32) (k0_hw29 : k0_chk29 v5 v8 v11 v14 v15 v16 v3154), ∀ a x, ((![v15, v3154, v14] : Fin 3 → IVec S16 32) a x).toNat < S2x64x64.size a := fun v5 v8 v11 v14 v15 v16 v3154 k0_hw29 => k0_hw29.1
theorem k0_idx226_inb : ∀ (v5 : IVec S16 32) (v8 : IVec S16 32) (v11 : IVec S16 32) (v14 : IVec S16 32) (v15 : IVec S16 32) (v16 : IVec S16 32) (v3154 : IVec S16 32) (k0_hw29 : k0_chk29 v5 v8 v11 v14 v15 v16 v3154), ∀ a x, ((![v15, v3154, v11] : Fin 3 → IVec S16 32) a x).toNat < S2x64x64.size a := fun v5 v8 v11 v14 v15 v16 v3154 k0_hw29 => k0_hw29.2.1
theorem k0_idx227_inb : ∀ (v5 : IVec S16 32) (v8 : IVec S16 32) (v11 : IVec S16 32) (v14 : IVec S16 32) (v15 : IVec S16 32) (v16 : IVec S16 32) (v3154 : IVec S16 32) (k0_hw29 : k0_chk29 v5 v8 v11 v14 v15 v16 v3154), ∀ a x, ((![v15, v3154, v8] : Fin 3 → IVec S16 32) a x).toNat < S2x64x64.size a := fun v5 v8 v11 v14 v15 v16 v3154 k0_hw29 => k0_hw29.2.2.1
theorem k0_idx228_inb : ∀ (v5 : IVec S16 32) (v8 : IVec S16 32) (v11 : IVec S16 32) (v14 : IVec S16 32) (v15 : IVec S16 32) (v16 : IVec S16 32) (v3154 : IVec S16 32) (k0_hw29 : k0_chk29 v5 v8 v11 v14 v15 v16 v3154), ∀ a x, ((![v15, v3154, v5] : Fin 3 → IVec S16 32) a x).toNat < S2x64x64.size a := fun v5 v8 v11 v14 v15 v16 v3154 k0_hw29 => k0_hw29.2.2.2.1
theorem k0_idx229_inb : ∀ (v5 : IVec S16 32) (v8 : IVec S16 32) (v11 : IVec S16 32) (v14 : IVec S16 32) (v15 : IVec S16 32) (v16 : IVec S16 32) (v3154 : IVec S16 32) (k0_hw29 : k0_chk29 v5 v8 v11 v14 v15 v16 v3154), ∀ a x, ((![v16, v3154, v14] : Fin 3 → IVec S16 32) a x).toNat < S2x64x64.size a := fun v5 v8 v11 v14 v15 v16 v3154 k0_hw29 => k0_hw29.2.2.2.2.1
theorem k0_idx230_inb : ∀ (v5 : IVec S16 32) (v8 : IVec S16 32) (v11 : IVec S16 32) (v14 : IVec S16 32) (v15 : IVec S16 32) (v16 : IVec S16 32) (v3154 : IVec S16 32) (k0_hw29 : k0_chk29 v5 v8 v11 v14 v15 v16 v3154), ∀ a x, ((![v16, v3154, v11] : Fin 3 → IVec S16 32) a x).toNat < S2x64x64.size a := fun v5 v8 v11 v14 v15 v16 v3154 k0_hw29 => k0_hw29.2.2.2.2.2.1
theorem k0_idx231_inb : ∀ (v5 : IVec S16 32) (v8 : IVec S16 32) (v11 : IVec S16 32) (v14 : IVec S16 32) (v15 : IVec S16 32) (v16 : IVec S16 32) (v3154 : IVec S16 32) (k0_hw29 : k0_chk29 v5 v8 v11 v14 v15 v16 v3154), ∀ a x, ((![v16, v3154, v8] : Fin 3 → IVec S16 32) a x).toNat < S2x64x64.size a := fun v5 v8 v11 v14 v15 v16 v3154 k0_hw29 => k0_hw29.2.2.2.2.2.2.1
theorem k0_idx232_inb : ∀ (v5 : IVec S16 32) (v8 : IVec S16 32) (v11 : IVec S16 32) (v14 : IVec S16 32) (v15 : IVec S16 32) (v16 : IVec S16 32) (v3154 : IVec S16 32) (k0_hw29 : k0_chk29 v5 v8 v11 v14 v15 v16 v3154), ∀ a x, ((![v16, v3154, v5] : Fin 3 → IVec S16 32) a x).toNat < S2x64x64.size a := fun v5 v8 v11 v14 v15 v16 v3154 k0_hw29 => k0_hw29.2.2.2.2.2.2.2
def k0_off252 (k0_t29 : Fin k0_t29_loop.trips) : Fin 4 → Nat :=
  let c1_i32_5358 : BitVec 32 := 1#32
  let v3203 : Index := Scalar.indexCast c1_i32_5358
  let c1_i32_5359 : BitVec 32 := 1#32
  let v3204 : Index := Scalar.indexCast c1_i32_5359
  let c0_i32_5325 : BitVec 32 := 0#32
  let c0_i32_1607 : BitVec 32 := 0#32
  let c1_i32_1609 : BitVec 32 := 1#32
  let arg17 : BitVec 32 := Scf.iv c0_i32_1607 c1_i32_1609 k0_t29
  let c1_i32_5324 : BitVec 32 := 1#32
  let v3152 : BitVec 32 := Scalar.muli arg17 c1_i32_5324
  let v3153 : BitVec 32 := Scalar.addi c0_i32_5325 v3152
  let v3205 : Index := Scalar.indexCast v3153
  let c0_5360 : Index := 0#32
  ![1, 1, v3205.toNat, 0]
def k0_off253 (k0_t29 : Fin k0_t29_loop.trips) : Fin 4 → Nat :=
  let c1_i32_5361 : BitVec 32 := 1#32
  let v3209 : Index := Scalar.indexCast c1_i32_5361
  let c1_i32_5362 : BitVec 32 := 1#32
  let v3210 : Index := Scalar.indexCast c1_i32_5362
  let c0_i32_5325 : BitVec 32 := 0#32
  let c0_i32_1607 : BitVec 32 := 0#32
  let c1_i32_1609 : BitVec 32 := 1#32
  let arg17 : BitVec 32 := Scf.iv c0_i32_1607 c1_i32_1609 k0_t29
  let c1_i32_5324 : BitVec 32 := 1#32
  let v3152 : BitVec 32 := Scalar.muli arg17 c1_i32_5324
  let v3153 : BitVec 32 := Scalar.addi c0_i32_5325 v3152
  let v3211 : Index := Scalar.indexCast v3153
  let c16_5363 : Index := 16#32
  ![1, 1, v3211.toNat, 16]
def k0_off254 (k0_t29 : Fin k0_t29_loop.trips) : Fin 4 → Nat :=
  let c1_i32_5364 : BitVec 32 := 1#32
  let v3215 : Index := Scalar.indexCast c1_i32_5364
  let c1_i32_5365 : BitVec 32 := 1#32
  let v3216 : Index := Scalar.indexCast c1_i32_5365
  let c0_i32_5325 : BitVec 32 := 0#32
  let c0_i32_1607 : BitVec 32 := 0#32
  let c1_i32_1609 : BitVec 32 := 1#32
  let arg17 : BitVec 32 := Scf.iv c0_i32_1607 c1_i32_1609 k0_t29
  let c1_i32_5324 : BitVec 32 := 1#32
  let v3152 : BitVec 32 := Scalar.muli arg17 c1_i32_5324
  let v3153 : BitVec 32 := Scalar.addi c0_i32_5325 v3152
  let v3217 : Index := Scalar.indexCast v3153
  let c32_5366 : Index := 32#32
  ![1, 1, v3217.toNat, 32]
def k0_off255 (k0_t29 : Fin k0_t29_loop.trips) : Fin 4 → Nat :=
  let c1_i32_5367 : BitVec 32 := 1#32
  let v3221 : Index := Scalar.indexCast c1_i32_5367
  let c1_i32_5368 : BitVec 32 := 1#32
  let v3222 : Index := Scalar.indexCast c1_i32_5368
  let c0_i32_5325 : BitVec 32 := 0#32
  let c0_i32_1607 : BitVec 32 := 0#32
  let c1_i32_1609 : BitVec 32 := 1#32
  let arg17 : BitVec 32 := Scf.iv c0_i32_1607 c1_i32_1609 k0_t29
  let c1_i32_5324 : BitVec 32 := 1#32
  let v3152 : BitVec 32 := Scalar.muli arg17 c1_i32_5324
  let v3153 : BitVec 32 := Scalar.addi c0_i32_5325 v3152
  let v3223 : Index := Scalar.indexCast v3153
  let c48_5369 : Index := 48#32
  ![1, 1, v3223.toNat, 48]
def k0_off256 (i : grid0.Coords) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c5_i32_1612 : BitVec 32 := 5#32
  let c1_i32_1613 : BitVec 32 := 1#32
  let c0_i32_1617 : BitVec 32 := 0#32
  let c0_i32_1618 : BitVec 32 := 0#32
  ![v2.toNat, 5, 1, 0, 0]
@[reducible] def k0_t30_loop : Scf.Loop 32 :=
  let c0_i32_1664 : BitVec 32 := 0#32
  let c64_i32_1665 : BitVec 32 := 64#32
  let v998 : BitVec 32 := Scalar.addi c0_i32_1664 c64_i32_1665
  let c1_i32_1666 : BitVec 32 := 1#32
  ⟨c0_i32_1664, v998, c1_i32_1666⟩
def k0_off257 (k0_t30 : Fin k0_t30_loop.trips) : Fin 4 → Nat :=
  let c2_i32_5338 : BitVec 32 := 2#32
  let v3167 : Index := Scalar.indexCast c2_i32_5338
  let c0_i32_5339 : BitVec 32 := 0#32
  let v3168 : Index := Scalar.indexCast c0_i32_5339
  let c0_i32_5325 : BitVec 32 := 0#32
  let c0_i32_1664 : BitVec 32 := 0#32
  let c1_i32_1666 : BitVec 32 := 1#32
  let arg17 : BitVec 32 := Scf.iv c0_i32_1664 c1_i32_1666 k0_t30
  let c1_i32_5324 : BitVec 32 := 1#32
  let v3152 : BitVec 32 := Scalar.muli arg17 c1_i32_5324
  let v3153 : BitVec 32 := Scalar.addi c0_i32_5325 v3152
  let v3169 : Index := Scalar.indexCast v3153
  let c0 : Index := 0#32
  ![2, 0, v3169.toNat, 0]
def k0_off258 (k0_t30 : Fin k0_t30_loop.trips) : Fin 4 → Nat :=
  let c2_i32_5340 : BitVec 32 := 2#32
  let v3173 : Index := Scalar.indexCast c2_i32_5340
  let c0_i32_5341 : BitVec 32 := 0#32
  let v3174 : Index := Scalar.indexCast c0_i32_5341
  let c0_i32_5325 : BitVec 32 := 0#32
  let c0_i32_1664 : BitVec 32 := 0#32
  let c1_i32_1666 : BitVec 32 := 1#32
  let arg17 : BitVec 32 := Scf.iv c0_i32_1664 c1_i32_1666 k0_t30
  let c1_i32_5324 : BitVec 32 := 1#32
  let v3152 : BitVec 32 := Scalar.muli arg17 c1_i32_5324
  let v3153 : BitVec 32 := Scalar.addi c0_i32_5325 v3152
  let v3175 : Index := Scalar.indexCast v3153
  let c16 : Index := 16#32
  ![2, 0, v3175.toNat, 16]
def k0_off259 (k0_t30 : Fin k0_t30_loop.trips) : Fin 4 → Nat :=
  let c2_i32_5342 : BitVec 32 := 2#32
  let v3179 : Index := Scalar.indexCast c2_i32_5342
  let c0_i32_5343 : BitVec 32 := 0#32
  let v3180 : Index := Scalar.indexCast c0_i32_5343
  let c0_i32_5325 : BitVec 32 := 0#32
  let c0_i32_1664 : BitVec 32 := 0#32
  let c1_i32_1666 : BitVec 32 := 1#32
  let arg17 : BitVec 32 := Scf.iv c0_i32_1664 c1_i32_1666 k0_t30
  let c1_i32_5324 : BitVec 32 := 1#32
  let v3152 : BitVec 32 := Scalar.muli arg17 c1_i32_5324
  let v3153 : BitVec 32 := Scalar.addi c0_i32_5325 v3152
  let v3181 : Index := Scalar.indexCast v3153
  let c32 : Index := 32#32
  ![2, 0, v3181.toNat, 32]
def k0_off260 (k0_t30 : Fin k0_t30_loop.trips) : Fin 4 → Nat :=
  let c2_i32_5344 : BitVec 32 := 2#32
  let v3185 : Index := Scalar.indexCast c2_i32_5344
  let c0_i32_5345 : BitVec 32 := 0#32
  let v3186 : Index := Scalar.indexCast c0_i32_5345
  let c0_i32_5325 : BitVec 32 := 0#32
  let c0_i32_1664 : BitVec 32 := 0#32
  let c1_i32_1666 : BitVec 32 := 1#32
  let arg17 : BitVec 32 := Scf.iv c0_i32_1664 c1_i32_1666 k0_t30
  let c1_i32_5324 : BitVec 32 := 1#32
  let v3152 : BitVec 32 := Scalar.muli arg17 c1_i32_5324
  let v3153 : BitVec 32 := Scalar.addi c0_i32_5325 v3152
  let v3187 : Index := Scalar.indexCast v3153
  let c48 : Index := 48#32
  ![2, 0, v3187.toNat, 48]

def k0_chk30 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx233_inb : ∀ (v5 : IVec S16 32) (v8 : IVec S16 32) (v11 : IVec S16 32) (v14 : IVec S16 32) (v15 : IVec S16 32) (v16 : IVec S16 32) (v3154 : IVec S16 32) (k0_hw30 : k0_chk30 v5 v8 v11 v14 v15 v16 v3154), ∀ a x, ((![v15, v3154, v14] : Fin 3 → IVec S16 32) a x).toNat < S2x64x64.size a := fun v5 v8 v11 v14 v15 v16 v3154 k0_hw30 => k0_hw30.1
theorem k0_idx234_inb : ∀ (v5 : IVec S16 32) (v8 : IVec S16 32) (v11 : IVec S16 32) (v14 : IVec S16 32) (v15 : IVec S16 32) (v16 : IVec S16 32) (v3154 : IVec S16 32) (k0_hw30 : k0_chk30 v5 v8 v11 v14 v15 v16 v3154), ∀ a x, ((![v15, v3154, v11] : Fin 3 → IVec S16 32) a x).toNat < S2x64x64.size a := fun v5 v8 v11 v14 v15 v16 v3154 k0_hw30 => k0_hw30.2.1
theorem k0_idx235_inb : ∀ (v5 : IVec S16 32) (v8 : IVec S16 32) (v11 : IVec S16 32) (v14 : IVec S16 32) (v15 : IVec S16 32) (v16 : IVec S16 32) (v3154 : IVec S16 32) (k0_hw30 : k0_chk30 v5 v8 v11 v14 v15 v16 v3154), ∀ a x, ((![v15, v3154, v8] : Fin 3 → IVec S16 32) a x).toNat < S2x64x64.size a := fun v5 v8 v11 v14 v15 v16 v3154 k0_hw30 => k0_hw30.2.2.1
theorem k0_idx236_inb : ∀ (v5 : IVec S16 32) (v8 : IVec S16 32) (v11 : IVec S16 32) (v14 : IVec S16 32) (v15 : IVec S16 32) (v16 : IVec S16 32) (v3154 : IVec S16 32) (k0_hw30 : k0_chk30 v5 v8 v11 v14 v15 v16 v3154), ∀ a x, ((![v15, v3154, v5] : Fin 3 → IVec S16 32) a x).toNat < S2x64x64.size a := fun v5 v8 v11 v14 v15 v16 v3154 k0_hw30 => k0_hw30.2.2.2.1
theorem k0_idx237_inb : ∀ (v5 : IVec S16 32) (v8 : IVec S16 32) (v11 : IVec S16 32) (v14 : IVec S16 32) (v15 : IVec S16 32) (v16 : IVec S16 32) (v3154 : IVec S16 32) (k0_hw30 : k0_chk30 v5 v8 v11 v14 v15 v16 v3154), ∀ a x, ((![v16, v3154, v14] : Fin 3 → IVec S16 32) a x).toNat < S2x64x64.size a := fun v5 v8 v11 v14 v15 v16 v3154 k0_hw30 => k0_hw30.2.2.2.2.1
theorem k0_idx238_inb : ∀ (v5 : IVec S16 32) (v8 : IVec S16 32) (v11 : IVec S16 32) (v14 : IVec S16 32) (v15 : IVec S16 32) (v16 : IVec S16 32) (v3154 : IVec S16 32) (k0_hw30 : k0_chk30 v5 v8 v11 v14 v15 v16 v3154), ∀ a x, ((![v16, v3154, v11] : Fin 3 → IVec S16 32) a x).toNat < S2x64x64.size a := fun v5 v8 v11 v14 v15 v16 v3154 k0_hw30 => k0_hw30.2.2.2.2.2.1
theorem k0_idx239_inb : ∀ (v5 : IVec S16 32) (v8 : IVec S16 32) (v11 : IVec S16 32) (v14 : IVec S16 32) (v15 : IVec S16 32) (v16 : IVec S16 32) (v3154 : IVec S16 32) (k0_hw30 : k0_chk30 v5 v8 v11 v14 v15 v16 v3154), ∀ a x, ((![v16, v3154, v8] : Fin 3 → IVec S16 32) a x).toNat < S2x64x64.size a := fun v5 v8 v11 v14 v15 v16 v3154 k0_hw30 => k0_hw30.2.2.2.2.2.2.1
theorem k0_idx240_inb : ∀ (v5 : IVec S16 32) (v8 : IVec S16 32) (v11 : IVec S16 32) (v14 : IVec S16 32) (v15 : IVec S16 32) (v16 : IVec S16 32) (v3154 : IVec S16 32) (k0_hw30 : k0_chk30 v5 v8 v11 v14 v15 v16 v3154), ∀ a x, ((![v16, v3154, v5] : Fin 3 → IVec S16 32) a x).toNat < S2x64x64.size a := fun v5 v8 v11 v14 v15 v16 v3154 k0_hw30 => k0_hw30.2.2.2.2.2.2.2
def k0_off261 (k0_t30 : Fin k0_t30_loop.trips) : Fin 4 → Nat :=
  let c2_i32_5358 : BitVec 32 := 2#32
  let v3203 : Index := Scalar.indexCast c2_i32_5358
  let c1_i32_5359 : BitVec 32 := 1#32
  let v3204 : Index := Scalar.indexCast c1_i32_5359
  let c0_i32_5325 : BitVec 32 := 0#32
  let c0_i32_1664 : BitVec 32 := 0#32
  let c1_i32_1666 : BitVec 32 := 1#32
  let arg17 : BitVec 32 := Scf.iv c0_i32_1664 c1_i32_1666 k0_t30
  let c1_i32_5324 : BitVec 32 := 1#32
  let v3152 : BitVec 32 := Scalar.muli arg17 c1_i32_5324
  let v3153 : BitVec 32 := Scalar.addi c0_i32_5325 v3152
  let v3205 : Index := Scalar.indexCast v3153
  let c0_5360 : Index := 0#32
  ![2, 1, v3205.toNat, 0]
def k0_off262 (k0_t30 : Fin k0_t30_loop.trips) : Fin 4 → Nat :=
  let c2_i32_5361 : BitVec 32 := 2#32
  let v3209 : Index := Scalar.indexCast c2_i32_5361
  let c1_i32_5362 : BitVec 32 := 1#32
  let v3210 : Index := Scalar.indexCast c1_i32_5362
  let c0_i32_5325 : BitVec 32 := 0#32
  let c0_i32_1664 : BitVec 32 := 0#32
  let c1_i32_1666 : BitVec 32 := 1#32
  let arg17 : BitVec 32 := Scf.iv c0_i32_1664 c1_i32_1666 k0_t30
  let c1_i32_5324 : BitVec 32 := 1#32
  let v3152 : BitVec 32 := Scalar.muli arg17 c1_i32_5324
  let v3153 : BitVec 32 := Scalar.addi c0_i32_5325 v3152
  let v3211 : Index := Scalar.indexCast v3153
  let c16_5363 : Index := 16#32
  ![2, 1, v3211.toNat, 16]
def k0_off263 (k0_t30 : Fin k0_t30_loop.trips) : Fin 4 → Nat :=
  let c2_i32_5364 : BitVec 32 := 2#32
  let v3215 : Index := Scalar.indexCast c2_i32_5364
  let c1_i32_5365 : BitVec 32 := 1#32
  let v3216 : Index := Scalar.indexCast c1_i32_5365
  let c0_i32_5325 : BitVec 32 := 0#32
  let c0_i32_1664 : BitVec 32 := 0#32
  let c1_i32_1666 : BitVec 32 := 1#32
  let arg17 : BitVec 32 := Scf.iv c0_i32_1664 c1_i32_1666 k0_t30
  let c1_i32_5324 : BitVec 32 := 1#32
  let v3152 : BitVec 32 := Scalar.muli arg17 c1_i32_5324
  let v3153 : BitVec 32 := Scalar.addi c0_i32_5325 v3152
  let v3217 : Index := Scalar.indexCast v3153
  let c32_5366 : Index := 32#32
  ![2, 1, v3217.toNat, 32]
def k0_off264 (k0_t30 : Fin k0_t30_loop.trips) : Fin 4 → Nat :=
  let c2_i32_5367 : BitVec 32 := 2#32
  let v3221 : Index := Scalar.indexCast c2_i32_5367
  let c1_i32_5368 : BitVec 32 := 1#32
  let v3222 : Index := Scalar.indexCast c1_i32_5368
  let c0_i32_5325 : BitVec 32 := 0#32
  let c0_i32_1664 : BitVec 32 := 0#32
  let c1_i32_1666 : BitVec 32 := 1#32
  let arg17 : BitVec 32 := Scf.iv c0_i32_1664 c1_i32_1666 k0_t30
  let c1_i32_5324 : BitVec 32 := 1#32
  let v3152 : BitVec 32 := Scalar.muli arg17 c1_i32_5324
  let v3153 : BitVec 32 := Scalar.addi c0_i32_5325 v3152
  let v3223 : Index := Scalar.indexCast v3153
  let c48_5369 : Index := 48#32
  ![2, 1, v3223.toNat, 48]
@[reducible] def k0_t31_loop : Scf.Loop 32 :=
  let c0_i32_1720 : BitVec 32 := 0#32
  let c64_i32_1721 : BitVec 32 := 64#32
  let v1031 : BitVec 32 := Scalar.addi c0_i32_1720 c64_i32_1721
  let c1_i32_1722 : BitVec 32 := 1#32
  ⟨c0_i32_1720, v1031, c1_i32_1722⟩
def k0_off265 (k0_t31 : Fin k0_t31_loop.trips) : Fin 4 → Nat :=
  let c0_i32_5338 : BitVec 32 := 0#32
  let v3167 : Index := Scalar.indexCast c0_i32_5338
  let c0_i32_5339 : BitVec 32 := 0#32
  let v3168 : Index := Scalar.indexCast c0_i32_5339
  let c0_i32_5325 : BitVec 32 := 0#32
  let c0_i32_1720 : BitVec 32 := 0#32
  let c1_i32_1722 : BitVec 32 := 1#32
  let arg17 : BitVec 32 := Scf.iv c0_i32_1720 c1_i32_1722 k0_t31
  let c1_i32_5324 : BitVec 32 := 1#32
  let v3152 : BitVec 32 := Scalar.muli arg17 c1_i32_5324
  let v3153 : BitVec 32 := Scalar.addi c0_i32_5325 v3152
  let v3169 : Index := Scalar.indexCast v3153
  let c0 : Index := 0#32
  ![0, 0, v3169.toNat, 0]
def k0_off266 (k0_t31 : Fin k0_t31_loop.trips) : Fin 4 → Nat :=
  let c0_i32_5340 : BitVec 32 := 0#32
  let v3173 : Index := Scalar.indexCast c0_i32_5340
  let c0_i32_5341 : BitVec 32 := 0#32
  let v3174 : Index := Scalar.indexCast c0_i32_5341
  let c0_i32_5325 : BitVec 32 := 0#32
  let c0_i32_1720 : BitVec 32 := 0#32
  let c1_i32_1722 : BitVec 32 := 1#32
  let arg17 : BitVec 32 := Scf.iv c0_i32_1720 c1_i32_1722 k0_t31
  let c1_i32_5324 : BitVec 32 := 1#32
  let v3152 : BitVec 32 := Scalar.muli arg17 c1_i32_5324
  let v3153 : BitVec 32 := Scalar.addi c0_i32_5325 v3152
  let v3175 : Index := Scalar.indexCast v3153
  let c16 : Index := 16#32
  ![0, 0, v3175.toNat, 16]
def k0_off267 (k0_t31 : Fin k0_t31_loop.trips) : Fin 4 → Nat :=
  let c0_i32_5342 : BitVec 32 := 0#32
  let v3179 : Index := Scalar.indexCast c0_i32_5342
  let c0_i32_5343 : BitVec 32 := 0#32
  let v3180 : Index := Scalar.indexCast c0_i32_5343
  let c0_i32_5325 : BitVec 32 := 0#32
  let c0_i32_1720 : BitVec 32 := 0#32
  let c1_i32_1722 : BitVec 32 := 1#32
  let arg17 : BitVec 32 := Scf.iv c0_i32_1720 c1_i32_1722 k0_t31
  let c1_i32_5324 : BitVec 32 := 1#32
  let v3152 : BitVec 32 := Scalar.muli arg17 c1_i32_5324
  let v3153 : BitVec 32 := Scalar.addi c0_i32_5325 v3152
  let v3181 : Index := Scalar.indexCast v3153
  let c32 : Index := 32#32
  ![0, 0, v3181.toNat, 32]
def k0_off268 (k0_t31 : Fin k0_t31_loop.trips) : Fin 4 → Nat :=
  let c0_i32_5344 : BitVec 32 := 0#32
  let v3185 : Index := Scalar.indexCast c0_i32_5344
  let c0_i32_5345 : BitVec 32 := 0#32
  let v3186 : Index := Scalar.indexCast c0_i32_5345
  let c0_i32_5325 : BitVec 32 := 0#32
  let c0_i32_1720 : BitVec 32 := 0#32
  let c1_i32_1722 : BitVec 32 := 1#32
  let arg17 : BitVec 32 := Scf.iv c0_i32_1720 c1_i32_1722 k0_t31
  let c1_i32_5324 : BitVec 32 := 1#32
  let v3152 : BitVec 32 := Scalar.muli arg17 c1_i32_5324
  let v3153 : BitVec 32 := Scalar.addi c0_i32_5325 v3152
  let v3187 : Index := Scalar.indexCast v3153
  let c48 : Index := 48#32
  ![0, 0, v3187.toNat, 48]

def k0_chk31 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx241_inb : ∀ (v5 : IVec S16 32) (v8 : IVec S16 32) (v11 : IVec S16 32) (v14 : IVec S16 32) (v15 : IVec S16 32) (v16 : IVec S16 32) (v3154 : IVec S16 32) (k0_hw31 : k0_chk31 v5 v8 v11 v14 v15 v16 v3154), ∀ a x, ((![v15, v3154, v14] : Fin 3 → IVec S16 32) a x).toNat < S2x64x64.size a := fun v5 v8 v11 v14 v15 v16 v3154 k0_hw31 => k0_hw31.1
theorem k0_idx242_inb : ∀ (v5 : IVec S16 32) (v8 : IVec S16 32) (v11 : IVec S16 32) (v14 : IVec S16 32) (v15 : IVec S16 32) (v16 : IVec S16 32) (v3154 : IVec S16 32) (k0_hw31 : k0_chk31 v5 v8 v11 v14 v15 v16 v3154), ∀ a x, ((![v15, v3154, v11] : Fin 3 → IVec S16 32) a x).toNat < S2x64x64.size a := fun v5 v8 v11 v14 v15 v16 v3154 k0_hw31 => k0_hw31.2.1
theorem k0_idx243_inb : ∀ (v5 : IVec S16 32) (v8 : IVec S16 32) (v11 : IVec S16 32) (v14 : IVec S16 32) (v15 : IVec S16 32) (v16 : IVec S16 32) (v3154 : IVec S16 32) (k0_hw31 : k0_chk31 v5 v8 v11 v14 v15 v16 v3154), ∀ a x, ((![v15, v3154, v8] : Fin 3 → IVec S16 32) a x).toNat < S2x64x64.size a := fun v5 v8 v11 v14 v15 v16 v3154 k0_hw31 => k0_hw31.2.2.1
theorem k0_idx244_inb : ∀ (v5 : IVec S16 32) (v8 : IVec S16 32) (v11 : IVec S16 32) (v14 : IVec S16 32) (v15 : IVec S16 32) (v16 : IVec S16 32) (v3154 : IVec S16 32) (k0_hw31 : k0_chk31 v5 v8 v11 v14 v15 v16 v3154), ∀ a x, ((![v15, v3154, v5] : Fin 3 → IVec S16 32) a x).toNat < S2x64x64.size a := fun v5 v8 v11 v14 v15 v16 v3154 k0_hw31 => k0_hw31.2.2.2.1
theorem k0_idx245_inb : ∀ (v5 : IVec S16 32) (v8 : IVec S16 32) (v11 : IVec S16 32) (v14 : IVec S16 32) (v15 : IVec S16 32) (v16 : IVec S16 32) (v3154 : IVec S16 32) (k0_hw31 : k0_chk31 v5 v8 v11 v14 v15 v16 v3154), ∀ a x, ((![v16, v3154, v14] : Fin 3 → IVec S16 32) a x).toNat < S2x64x64.size a := fun v5 v8 v11 v14 v15 v16 v3154 k0_hw31 => k0_hw31.2.2.2.2.1
theorem k0_idx246_inb : ∀ (v5 : IVec S16 32) (v8 : IVec S16 32) (v11 : IVec S16 32) (v14 : IVec S16 32) (v15 : IVec S16 32) (v16 : IVec S16 32) (v3154 : IVec S16 32) (k0_hw31 : k0_chk31 v5 v8 v11 v14 v15 v16 v3154), ∀ a x, ((![v16, v3154, v11] : Fin 3 → IVec S16 32) a x).toNat < S2x64x64.size a := fun v5 v8 v11 v14 v15 v16 v3154 k0_hw31 => k0_hw31.2.2.2.2.2.1
theorem k0_idx247_inb : ∀ (v5 : IVec S16 32) (v8 : IVec S16 32) (v11 : IVec S16 32) (v14 : IVec S16 32) (v15 : IVec S16 32) (v16 : IVec S16 32) (v3154 : IVec S16 32) (k0_hw31 : k0_chk31 v5 v8 v11 v14 v15 v16 v3154), ∀ a x, ((![v16, v3154, v8] : Fin 3 → IVec S16 32) a x).toNat < S2x64x64.size a := fun v5 v8 v11 v14 v15 v16 v3154 k0_hw31 => k0_hw31.2.2.2.2.2.2.1
theorem k0_idx248_inb : ∀ (v5 : IVec S16 32) (v8 : IVec S16 32) (v11 : IVec S16 32) (v14 : IVec S16 32) (v15 : IVec S16 32) (v16 : IVec S16 32) (v3154 : IVec S16 32) (k0_hw31 : k0_chk31 v5 v8 v11 v14 v15 v16 v3154), ∀ a x, ((![v16, v3154, v5] : Fin 3 → IVec S16 32) a x).toNat < S2x64x64.size a := fun v5 v8 v11 v14 v15 v16 v3154 k0_hw31 => k0_hw31.2.2.2.2.2.2.2
def k0_off269 (k0_t31 : Fin k0_t31_loop.trips) : Fin 4 → Nat :=
  let c0_i32_5358 : BitVec 32 := 0#32
  let v3203 : Index := Scalar.indexCast c0_i32_5358
  let c1_i32_5359 : BitVec 32 := 1#32
  let v3204 : Index := Scalar.indexCast c1_i32_5359
  let c0_i32_5325 : BitVec 32 := 0#32
  let c0_i32_1720 : BitVec 32 := 0#32
  let c1_i32_1722 : BitVec 32 := 1#32
  let arg17 : BitVec 32 := Scf.iv c0_i32_1720 c1_i32_1722 k0_t31
  let c1_i32_5324 : BitVec 32 := 1#32
  let v3152 : BitVec 32 := Scalar.muli arg17 c1_i32_5324
  let v3153 : BitVec 32 := Scalar.addi c0_i32_5325 v3152
  let v3205 : Index := Scalar.indexCast v3153
  let c0_5360 : Index := 0#32
  ![0, 1, v3205.toNat, 0]
def k0_off270 (k0_t31 : Fin k0_t31_loop.trips) : Fin 4 → Nat :=
  let c0_i32_5361 : BitVec 32 := 0#32
  let v3209 : Index := Scalar.indexCast c0_i32_5361
  let c1_i32_5362 : BitVec 32 := 1#32
  let v3210 : Index := Scalar.indexCast c1_i32_5362
  let c0_i32_5325 : BitVec 32 := 0#32
  let c0_i32_1720 : BitVec 32 := 0#32
  let c1_i32_1722 : BitVec 32 := 1#32
  let arg17 : BitVec 32 := Scf.iv c0_i32_1720 c1_i32_1722 k0_t31
  let c1_i32_5324 : BitVec 32 := 1#32
  let v3152 : BitVec 32 := Scalar.muli arg17 c1_i32_5324
  let v3153 : BitVec 32 := Scalar.addi c0_i32_5325 v3152
  let v3211 : Index := Scalar.indexCast v3153
  let c16_5363 : Index := 16#32
  ![0, 1, v3211.toNat, 16]
def k0_off271 (k0_t31 : Fin k0_t31_loop.trips) : Fin 4 → Nat :=
  let c0_i32_5364 : BitVec 32 := 0#32
  let v3215 : Index := Scalar.indexCast c0_i32_5364
  let c1_i32_5365 : BitVec 32 := 1#32
  let v3216 : Index := Scalar.indexCast c1_i32_5365
  let c0_i32_5325 : BitVec 32 := 0#32
  let c0_i32_1720 : BitVec 32 := 0#32
  let c1_i32_1722 : BitVec 32 := 1#32
  let arg17 : BitVec 32 := Scf.iv c0_i32_1720 c1_i32_1722 k0_t31
  let c1_i32_5324 : BitVec 32 := 1#32
  let v3152 : BitVec 32 := Scalar.muli arg17 c1_i32_5324
  let v3153 : BitVec 32 := Scalar.addi c0_i32_5325 v3152
  let v3217 : Index := Scalar.indexCast v3153
  let c32_5366 : Index := 32#32
  ![0, 1, v3217.toNat, 32]
def k0_off272 (k0_t31 : Fin k0_t31_loop.trips) : Fin 4 → Nat :=
  let c0_i32_5367 : BitVec 32 := 0#32
  let v3221 : Index := Scalar.indexCast c0_i32_5367
  let c1_i32_5368 : BitVec 32 := 1#32
  let v3222 : Index := Scalar.indexCast c1_i32_5368
  let c0_i32_5325 : BitVec 32 := 0#32
  let c0_i32_1720 : BitVec 32 := 0#32
  let c1_i32_1722 : BitVec 32 := 1#32
  let arg17 : BitVec 32 := Scf.iv c0_i32_1720 c1_i32_1722 k0_t31
  let c1_i32_5324 : BitVec 32 := 1#32
  let v3152 : BitVec 32 := Scalar.muli arg17 c1_i32_5324
  let v3153 : BitVec 32 := Scalar.addi c0_i32_5325 v3152
  let v3223 : Index := Scalar.indexCast v3153
  let c48_5369 : Index := 48#32
  ![0, 1, v3223.toNat, 48]
@[reducible] def k0_t32_loop : Scf.Loop 32 :=
  let c0_i32_1776 : BitVec 32 := 0#32
  let c64_i32_1777 : BitVec 32 := 64#32
  let v1064 : BitVec 32 := Scalar.addi c0_i32_1776 c64_i32_1777
  let c1_i32_1778 : BitVec 32 := 1#32
  ⟨c0_i32_1776, v1064, c1_i32_1778⟩
def k0_off273 (k0_t32 : Fin k0_t32_loop.trips) : Fin 4 → Nat :=
  let c1_i32_5341 : BitVec 32 := 1#32
  let v3175 : Index := Scalar.indexCast c1_i32_5341
  let c0_i32_5342 : BitVec 32 := 0#32
  let v3176 : Index := Scalar.indexCast c0_i32_5342
  let c0_i32_5325 : BitVec 32 := 0#32
  let c0_i32_1776 : BitVec 32 := 0#32
  let c1_i32_1778 : BitVec 32 := 1#32
  let arg17 : BitVec 32 := Scf.iv c0_i32_1776 c1_i32_1778 k0_t32
  let c1_i32_5324 : BitVec 32 := 1#32
  let v3152 : BitVec 32 := Scalar.muli arg17 c1_i32_5324
  let v3153 : BitVec 32 := Scalar.addi c0_i32_5325 v3152
  let v3177 : Index := Scalar.indexCast v3153
  let c0 : Index := 0#32
  ![1, 0, v3177.toNat, 0]
def k0_off274 (k0_t32 : Fin k0_t32_loop.trips) : Fin 4 → Nat :=
  let c1_i32_5343 : BitVec 32 := 1#32
  let v3181 : Index := Scalar.indexCast c1_i32_5343
  let c0_i32_5344 : BitVec 32 := 0#32
  let v3182 : Index := Scalar.indexCast c0_i32_5344
  let c0_i32_5325 : BitVec 32 := 0#32
  let c0_i32_1776 : BitVec 32 := 0#32
  let c1_i32_1778 : BitVec 32 := 1#32
  let arg17 : BitVec 32 := Scf.iv c0_i32_1776 c1_i32_1778 k0_t32
  let c1_i32_5324 : BitVec 32 := 1#32
  let v3152 : BitVec 32 := Scalar.muli arg17 c1_i32_5324
  let v3153 : BitVec 32 := Scalar.addi c0_i32_5325 v3152
  let v3183 : Index := Scalar.indexCast v3153
  let c16 : Index := 16#32
  ![1, 0, v3183.toNat, 16]
def k0_off275 (k0_t32 : Fin k0_t32_loop.trips) : Fin 4 → Nat :=
  let c1_i32_5345 : BitVec 32 := 1#32
  let v3187 : Index := Scalar.indexCast c1_i32_5345
  let c0_i32_5346 : BitVec 32 := 0#32
  let v3188 : Index := Scalar.indexCast c0_i32_5346
  let c0_i32_5325 : BitVec 32 := 0#32
  let c0_i32_1776 : BitVec 32 := 0#32
  let c1_i32_1778 : BitVec 32 := 1#32
  let arg17 : BitVec 32 := Scf.iv c0_i32_1776 c1_i32_1778 k0_t32
  let c1_i32_5324 : BitVec 32 := 1#32
  let v3152 : BitVec 32 := Scalar.muli arg17 c1_i32_5324
  let v3153 : BitVec 32 := Scalar.addi c0_i32_5325 v3152
  let v3189 : Index := Scalar.indexCast v3153
  let c32 : Index := 32#32
  ![1, 0, v3189.toNat, 32]
def k0_off276 (k0_t32 : Fin k0_t32_loop.trips) : Fin 4 → Nat :=
  let c1_i32_5347 : BitVec 32 := 1#32
  let v3193 : Index := Scalar.indexCast c1_i32_5347
  let c0_i32_5348 : BitVec 32 := 0#32
  let v3194 : Index := Scalar.indexCast c0_i32_5348
  let c0_i32_5325 : BitVec 32 := 0#32
  let c0_i32_1776 : BitVec 32 := 0#32
  let c1_i32_1778 : BitVec 32 := 1#32
  let arg17 : BitVec 32 := Scf.iv c0_i32_1776 c1_i32_1778 k0_t32
  let c1_i32_5324 : BitVec 32 := 1#32
  let v3152 : BitVec 32 := Scalar.muli arg17 c1_i32_5324
  let v3153 : BitVec 32 := Scalar.addi c0_i32_5325 v3152
  let v3195 : Index := Scalar.indexCast v3153
  let c48 : Index := 48#32
  ![1, 0, v3195.toNat, 48]

def k0_chk32 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx249_inb : ∀ (v5 : IVec S16 32) (v8 : IVec S16 32) (v11 : IVec S16 32) (v14 : IVec S16 32) (v15 : IVec S16 32) (v16 : IVec S16 32) (v3154 : IVec S16 32) (k0_hw32 : k0_chk32 v5 v8 v11 v14 v15 v16 v3154), ∀ a x, ((![v15, v3154, v14] : Fin 3 → IVec S16 32) a x).toNat < S2x64x64.size a := fun v5 v8 v11 v14 v15 v16 v3154 k0_hw32 => k0_hw32.1
theorem k0_idx250_inb : ∀ (v5 : IVec S16 32) (v8 : IVec S16 32) (v11 : IVec S16 32) (v14 : IVec S16 32) (v15 : IVec S16 32) (v16 : IVec S16 32) (v3154 : IVec S16 32) (k0_hw32 : k0_chk32 v5 v8 v11 v14 v15 v16 v3154), ∀ a x, ((![v15, v3154, v11] : Fin 3 → IVec S16 32) a x).toNat < S2x64x64.size a := fun v5 v8 v11 v14 v15 v16 v3154 k0_hw32 => k0_hw32.2.1
theorem k0_idx251_inb : ∀ (v5 : IVec S16 32) (v8 : IVec S16 32) (v11 : IVec S16 32) (v14 : IVec S16 32) (v15 : IVec S16 32) (v16 : IVec S16 32) (v3154 : IVec S16 32) (k0_hw32 : k0_chk32 v5 v8 v11 v14 v15 v16 v3154), ∀ a x, ((![v15, v3154, v8] : Fin 3 → IVec S16 32) a x).toNat < S2x64x64.size a := fun v5 v8 v11 v14 v15 v16 v3154 k0_hw32 => k0_hw32.2.2.1
theorem k0_idx252_inb : ∀ (v5 : IVec S16 32) (v8 : IVec S16 32) (v11 : IVec S16 32) (v14 : IVec S16 32) (v15 : IVec S16 32) (v16 : IVec S16 32) (v3154 : IVec S16 32) (k0_hw32 : k0_chk32 v5 v8 v11 v14 v15 v16 v3154), ∀ a x, ((![v15, v3154, v5] : Fin 3 → IVec S16 32) a x).toNat < S2x64x64.size a := fun v5 v8 v11 v14 v15 v16 v3154 k0_hw32 => k0_hw32.2.2.2.1
theorem k0_idx253_inb : ∀ (v5 : IVec S16 32) (v8 : IVec S16 32) (v11 : IVec S16 32) (v14 : IVec S16 32) (v15 : IVec S16 32) (v16 : IVec S16 32) (v3154 : IVec S16 32) (k0_hw32 : k0_chk32 v5 v8 v11 v14 v15 v16 v3154), ∀ a x, ((![v16, v3154, v14] : Fin 3 → IVec S16 32) a x).toNat < S2x64x64.size a := fun v5 v8 v11 v14 v15 v16 v3154 k0_hw32 => k0_hw32.2.2.2.2.1
theorem k0_idx254_inb : ∀ (v5 : IVec S16 32) (v8 : IVec S16 32) (v11 : IVec S16 32) (v14 : IVec S16 32) (v15 : IVec S16 32) (v16 : IVec S16 32) (v3154 : IVec S16 32) (k0_hw32 : k0_chk32 v5 v8 v11 v14 v15 v16 v3154), ∀ a x, ((![v16, v3154, v11] : Fin 3 → IVec S16 32) a x).toNat < S2x64x64.size a := fun v5 v8 v11 v14 v15 v16 v3154 k0_hw32 => k0_hw32.2.2.2.2.2.1
theorem k0_idx255_inb : ∀ (v5 : IVec S16 32) (v8 : IVec S16 32) (v11 : IVec S16 32) (v14 : IVec S16 32) (v15 : IVec S16 32) (v16 : IVec S16 32) (v3154 : IVec S16 32) (k0_hw32 : k0_chk32 v5 v8 v11 v14 v15 v16 v3154), ∀ a x, ((![v16, v3154, v8] : Fin 3 → IVec S16 32) a x).toNat < S2x64x64.size a := fun v5 v8 v11 v14 v15 v16 v3154 k0_hw32 => k0_hw32.2.2.2.2.2.2.1
theorem k0_idx256_inb : ∀ (v5 : IVec S16 32) (v8 : IVec S16 32) (v11 : IVec S16 32) (v14 : IVec S16 32) (v15 : IVec S16 32) (v16 : IVec S16 32) (v3154 : IVec S16 32) (k0_hw32 : k0_chk32 v5 v8 v11 v14 v15 v16 v3154), ∀ a x, ((![v16, v3154, v5] : Fin 3 → IVec S16 32) a x).toNat < S2x64x64.size a := fun v5 v8 v11 v14 v15 v16 v3154 k0_hw32 => k0_hw32.2.2.2.2.2.2.2
def k0_off277 (k0_t32 : Fin k0_t32_loop.trips) : Fin 4 → Nat :=
  let c1_i32_5365 : BitVec 32 := 1#32
  let v3219 : Index := Scalar.indexCast c1_i32_5365
  let c1_i32_5366 : BitVec 32 := 1#32
  let v3220 : Index := Scalar.indexCast c1_i32_5366
  let c0_i32_5325 : BitVec 32 := 0#32
  let c0_i32_1776 : BitVec 32 := 0#32
  let c1_i32_1778 : BitVec 32 := 1#32
  let arg17 : BitVec 32 := Scf.iv c0_i32_1776 c1_i32_1778 k0_t32
  let c1_i32_5324 : BitVec 32 := 1#32
  let v3152 : BitVec 32 := Scalar.muli arg17 c1_i32_5324
  let v3153 : BitVec 32 := Scalar.addi c0_i32_5325 v3152
  let v3221 : Index := Scalar.indexCast v3153
  let c0_5367 : Index := 0#32
  ![1, 1, v3221.toNat, 0]
def k0_off278 (k0_t32 : Fin k0_t32_loop.trips) : Fin 4 → Nat :=
  let c1_i32_5368 : BitVec 32 := 1#32
  let v3225 : Index := Scalar.indexCast c1_i32_5368
  let c1_i32_5369 : BitVec 32 := 1#32
  let v3226 : Index := Scalar.indexCast c1_i32_5369
  let c0_i32_5325 : BitVec 32 := 0#32
  let c0_i32_1776 : BitVec 32 := 0#32
  let c1_i32_1778 : BitVec 32 := 1#32
  let arg17 : BitVec 32 := Scf.iv c0_i32_1776 c1_i32_1778 k0_t32
  let c1_i32_5324 : BitVec 32 := 1#32
  let v3152 : BitVec 32 := Scalar.muli arg17 c1_i32_5324
  let v3153 : BitVec 32 := Scalar.addi c0_i32_5325 v3152
  let v3227 : Index := Scalar.indexCast v3153
  let c16_5370 : Index := 16#32
  ![1, 1, v3227.toNat, 16]
def k0_off279 (k0_t32 : Fin k0_t32_loop.trips) : Fin 4 → Nat :=
  let c1_i32_5371 : BitVec 32 := 1#32
  let v3231 : Index := Scalar.indexCast c1_i32_5371
  let c1_i32_5372 : BitVec 32 := 1#32
  let v3232 : Index := Scalar.indexCast c1_i32_5372
  let c0_i32_5325 : BitVec 32 := 0#32
  let c0_i32_1776 : BitVec 32 := 0#32
  let c1_i32_1778 : BitVec 32 := 1#32
  let arg17 : BitVec 32 := Scf.iv c0_i32_1776 c1_i32_1778 k0_t32
  let c1_i32_5324 : BitVec 32 := 1#32
  let v3152 : BitVec 32 := Scalar.muli arg17 c1_i32_5324
  let v3153 : BitVec 32 := Scalar.addi c0_i32_5325 v3152
  let v3233 : Index := Scalar.indexCast v3153
  let c32_5373 : Index := 32#32
  ![1, 1, v3233.toNat, 32]
def k0_off280 (k0_t32 : Fin k0_t32_loop.trips) : Fin 4 → Nat :=
  let c1_i32_5374 : BitVec 32 := 1#32
  let v3237 : Index := Scalar.indexCast c1_i32_5374
  let c1_i32_5375 : BitVec 32 := 1#32
  let v3238 : Index := Scalar.indexCast c1_i32_5375
  let c0_i32_5325 : BitVec 32 := 0#32
  let c0_i32_1776 : BitVec 32 := 0#32
  let c1_i32_1778 : BitVec 32 := 1#32
  let arg17 : BitVec 32 := Scf.iv c0_i32_1776 c1_i32_1778 k0_t32
  let c1_i32_5324 : BitVec 32 := 1#32
  let v3152 : BitVec 32 := Scalar.muli arg17 c1_i32_5324
  let v3153 : BitVec 32 := Scalar.addi c0_i32_5325 v3152
  let v3239 : Index := Scalar.indexCast v3153
  let c48_5376 : Index := 48#32
  ![1, 1, v3239.toNat, 48]
def k0_off281 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c7_i32 : BitVec 32 := 7#32
  let c0_i32_1797 : BitVec 32 := 0#32
  let c0_i32_1798 : BitVec 32 := 0#32
  ![v2.toNat, 7, 0, 0]
@[reducible] def k0_t33_loop : Scf.Loop 32 :=
  let c0_i32_1831 : BitVec 32 := 0#32
  let c64_i32_1832 : BitVec 32 := 64#32
  let v1097 : BitVec 32 := Scalar.addi c0_i32_1831 c64_i32_1832
  let c1_i32_1833 : BitVec 32 := 1#32
  ⟨c0_i32_1831, v1097, c1_i32_1833⟩
def k0_off282 (k0_t33 : Fin k0_t33_loop.trips) : Fin 4 → Nat :=
  let c2_i32_5341 : BitVec 32 := 2#32
  let v3175 : Index := Scalar.indexCast c2_i32_5341
  let c0_i32_5342 : BitVec 32 := 0#32
  let v3176 : Index := Scalar.indexCast c0_i32_5342
  let c0_i32_5325 : BitVec 32 := 0#32
  let c0_i32_1831 : BitVec 32 := 0#32
  let c1_i32_1833 : BitVec 32 := 1#32
  let arg17 : BitVec 32 := Scf.iv c0_i32_1831 c1_i32_1833 k0_t33
  let c1_i32_5324 : BitVec 32 := 1#32
  let v3152 : BitVec 32 := Scalar.muli arg17 c1_i32_5324
  let v3153 : BitVec 32 := Scalar.addi c0_i32_5325 v3152
  let v3177 : Index := Scalar.indexCast v3153
  let c0 : Index := 0#32
  ![2, 0, v3177.toNat, 0]
def k0_off283 (k0_t33 : Fin k0_t33_loop.trips) : Fin 4 → Nat :=
  let c2_i32_5343 : BitVec 32 := 2#32
  let v3181 : Index := Scalar.indexCast c2_i32_5343
  let c0_i32_5344 : BitVec 32 := 0#32
  let v3182 : Index := Scalar.indexCast c0_i32_5344
  let c0_i32_5325 : BitVec 32 := 0#32
  let c0_i32_1831 : BitVec 32 := 0#32
  let c1_i32_1833 : BitVec 32 := 1#32
  let arg17 : BitVec 32 := Scf.iv c0_i32_1831 c1_i32_1833 k0_t33
  let c1_i32_5324 : BitVec 32 := 1#32
  let v3152 : BitVec 32 := Scalar.muli arg17 c1_i32_5324
  let v3153 : BitVec 32 := Scalar.addi c0_i32_5325 v3152
  let v3183 : Index := Scalar.indexCast v3153
  let c16 : Index := 16#32
  ![2, 0, v3183.toNat, 16]
def k0_off284 (k0_t33 : Fin k0_t33_loop.trips) : Fin 4 → Nat :=
  let c2_i32_5345 : BitVec 32 := 2#32
  let v3187 : Index := Scalar.indexCast c2_i32_5345
  let c0_i32_5346 : BitVec 32 := 0#32
  let v3188 : Index := Scalar.indexCast c0_i32_5346
  let c0_i32_5325 : BitVec 32 := 0#32
  let c0_i32_1831 : BitVec 32 := 0#32
  let c1_i32_1833 : BitVec 32 := 1#32
  let arg17 : BitVec 32 := Scf.iv c0_i32_1831 c1_i32_1833 k0_t33
  let c1_i32_5324 : BitVec 32 := 1#32
  let v3152 : BitVec 32 := Scalar.muli arg17 c1_i32_5324
  let v3153 : BitVec 32 := Scalar.addi c0_i32_5325 v3152
  let v3189 : Index := Scalar.indexCast v3153
  let c32 : Index := 32#32
  ![2, 0, v3189.toNat, 32]
def k0_off285 (k0_t33 : Fin k0_t33_loop.trips) : Fin 4 → Nat :=
  let c2_i32_5347 : BitVec 32 := 2#32
  let v3193 : Index := Scalar.indexCast c2_i32_5347
  let c0_i32_5348 : BitVec 32 := 0#32
  let v3194 : Index := Scalar.indexCast c0_i32_5348
  let c0_i32_5325 : BitVec 32 := 0#32
  let c0_i32_1831 : BitVec 32 := 0#32
  let c1_i32_1833 : BitVec 32 := 1#32
  let arg17 : BitVec 32 := Scf.iv c0_i32_1831 c1_i32_1833 k0_t33
  let c1_i32_5324 : BitVec 32 := 1#32
  let v3152 : BitVec 32 := Scalar.muli arg17 c1_i32_5324
  let v3153 : BitVec 32 := Scalar.addi c0_i32_5325 v3152
  let v3195 : Index := Scalar.indexCast v3153
  let c48 : Index := 48#32
  ![2, 0, v3195.toNat, 48]

def k0_chk33 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx257_inb : ∀ (v5 : IVec S16 32) (v8 : IVec S16 32) (v11 : IVec S16 32) (v14 : IVec S16 32) (v15 : IVec S16 32) (v16 : IVec S16 32) (v3154 : IVec S16 32) (k0_hw33 : k0_chk33 v5 v8 v11 v14 v15 v16 v3154), ∀ a x, ((![v15, v3154, v14] : Fin 3 → IVec S16 32) a x).toNat < S2x64x64.size a := fun v5 v8 v11 v14 v15 v16 v3154 k0_hw33 => k0_hw33.1
theorem k0_idx258_inb : ∀ (v5 : IVec S16 32) (v8 : IVec S16 32) (v11 : IVec S16 32) (v14 : IVec S16 32) (v15 : IVec S16 32) (v16 : IVec S16 32) (v3154 : IVec S16 32) (k0_hw33 : k0_chk33 v5 v8 v11 v14 v15 v16 v3154), ∀ a x, ((![v15, v3154, v11] : Fin 3 → IVec S16 32) a x).toNat < S2x64x64.size a := fun v5 v8 v11 v14 v15 v16 v3154 k0_hw33 => k0_hw33.2.1
theorem k0_idx259_inb : ∀ (v5 : IVec S16 32) (v8 : IVec S16 32) (v11 : IVec S16 32) (v14 : IVec S16 32) (v15 : IVec S16 32) (v16 : IVec S16 32) (v3154 : IVec S16 32) (k0_hw33 : k0_chk33 v5 v8 v11 v14 v15 v16 v3154), ∀ a x, ((![v15, v3154, v8] : Fin 3 → IVec S16 32) a x).toNat < S2x64x64.size a := fun v5 v8 v11 v14 v15 v16 v3154 k0_hw33 => k0_hw33.2.2.1
theorem k0_idx260_inb : ∀ (v5 : IVec S16 32) (v8 : IVec S16 32) (v11 : IVec S16 32) (v14 : IVec S16 32) (v15 : IVec S16 32) (v16 : IVec S16 32) (v3154 : IVec S16 32) (k0_hw33 : k0_chk33 v5 v8 v11 v14 v15 v16 v3154), ∀ a x, ((![v15, v3154, v5] : Fin 3 → IVec S16 32) a x).toNat < S2x64x64.size a := fun v5 v8 v11 v14 v15 v16 v3154 k0_hw33 => k0_hw33.2.2.2.1
theorem k0_idx261_inb : ∀ (v5 : IVec S16 32) (v8 : IVec S16 32) (v11 : IVec S16 32) (v14 : IVec S16 32) (v15 : IVec S16 32) (v16 : IVec S16 32) (v3154 : IVec S16 32) (k0_hw33 : k0_chk33 v5 v8 v11 v14 v15 v16 v3154), ∀ a x, ((![v16, v3154, v14] : Fin 3 → IVec S16 32) a x).toNat < S2x64x64.size a := fun v5 v8 v11 v14 v15 v16 v3154 k0_hw33 => k0_hw33.2.2.2.2.1
theorem k0_idx262_inb : ∀ (v5 : IVec S16 32) (v8 : IVec S16 32) (v11 : IVec S16 32) (v14 : IVec S16 32) (v15 : IVec S16 32) (v16 : IVec S16 32) (v3154 : IVec S16 32) (k0_hw33 : k0_chk33 v5 v8 v11 v14 v15 v16 v3154), ∀ a x, ((![v16, v3154, v11] : Fin 3 → IVec S16 32) a x).toNat < S2x64x64.size a := fun v5 v8 v11 v14 v15 v16 v3154 k0_hw33 => k0_hw33.2.2.2.2.2.1
theorem k0_idx263_inb : ∀ (v5 : IVec S16 32) (v8 : IVec S16 32) (v11 : IVec S16 32) (v14 : IVec S16 32) (v15 : IVec S16 32) (v16 : IVec S16 32) (v3154 : IVec S16 32) (k0_hw33 : k0_chk33 v5 v8 v11 v14 v15 v16 v3154), ∀ a x, ((![v16, v3154, v8] : Fin 3 → IVec S16 32) a x).toNat < S2x64x64.size a := fun v5 v8 v11 v14 v15 v16 v3154 k0_hw33 => k0_hw33.2.2.2.2.2.2.1
theorem k0_idx264_inb : ∀ (v5 : IVec S16 32) (v8 : IVec S16 32) (v11 : IVec S16 32) (v14 : IVec S16 32) (v15 : IVec S16 32) (v16 : IVec S16 32) (v3154 : IVec S16 32) (k0_hw33 : k0_chk33 v5 v8 v11 v14 v15 v16 v3154), ∀ a x, ((![v16, v3154, v5] : Fin 3 → IVec S16 32) a x).toNat < S2x64x64.size a := fun v5 v8 v11 v14 v15 v16 v3154 k0_hw33 => k0_hw33.2.2.2.2.2.2.2
def k0_off286 (k0_t33 : Fin k0_t33_loop.trips) : Fin 4 → Nat :=
  let c2_i32_5365 : BitVec 32 := 2#32
  let v3219 : Index := Scalar.indexCast c2_i32_5365
  let c1_i32_5366 : BitVec 32 := 1#32
  let v3220 : Index := Scalar.indexCast c1_i32_5366
  let c0_i32_5325 : BitVec 32 := 0#32
  let c0_i32_1831 : BitVec 32 := 0#32
  let c1_i32_1833 : BitVec 32 := 1#32
  let arg17 : BitVec 32 := Scf.iv c0_i32_1831 c1_i32_1833 k0_t33
  let c1_i32_5324 : BitVec 32 := 1#32
  let v3152 : BitVec 32 := Scalar.muli arg17 c1_i32_5324
  let v3153 : BitVec 32 := Scalar.addi c0_i32_5325 v3152
  let v3221 : Index := Scalar.indexCast v3153
  let c0_5367 : Index := 0#32
  ![2, 1, v3221.toNat, 0]
def k0_off287 (k0_t33 : Fin k0_t33_loop.trips) : Fin 4 → Nat :=
  let c2_i32_5368 : BitVec 32 := 2#32
  let v3225 : Index := Scalar.indexCast c2_i32_5368
  let c1_i32_5369 : BitVec 32 := 1#32
  let v3226 : Index := Scalar.indexCast c1_i32_5369
  let c0_i32_5325 : BitVec 32 := 0#32
  let c0_i32_1831 : BitVec 32 := 0#32
  let c1_i32_1833 : BitVec 32 := 1#32
  let arg17 : BitVec 32 := Scf.iv c0_i32_1831 c1_i32_1833 k0_t33
  let c1_i32_5324 : BitVec 32 := 1#32
  let v3152 : BitVec 32 := Scalar.muli arg17 c1_i32_5324
  let v3153 : BitVec 32 := Scalar.addi c0_i32_5325 v3152
  let v3227 : Index := Scalar.indexCast v3153
  let c16_5370 : Index := 16#32
  ![2, 1, v3227.toNat, 16]
def k0_off288 (k0_t33 : Fin k0_t33_loop.trips) : Fin 4 → Nat :=
  let c2_i32_5371 : BitVec 32 := 2#32
  let v3231 : Index := Scalar.indexCast c2_i32_5371
  let c1_i32_5372 : BitVec 32 := 1#32
  let v3232 : Index := Scalar.indexCast c1_i32_5372
  let c0_i32_5325 : BitVec 32 := 0#32
  let c0_i32_1831 : BitVec 32 := 0#32
  let c1_i32_1833 : BitVec 32 := 1#32
  let arg17 : BitVec 32 := Scf.iv c0_i32_1831 c1_i32_1833 k0_t33
  let c1_i32_5324 : BitVec 32 := 1#32
  let v3152 : BitVec 32 := Scalar.muli arg17 c1_i32_5324
  let v3153 : BitVec 32 := Scalar.addi c0_i32_5325 v3152
  let v3233 : Index := Scalar.indexCast v3153
  let c32_5373 : Index := 32#32
  ![2, 1, v3233.toNat, 32]
def k0_off289 (k0_t33 : Fin k0_t33_loop.trips) : Fin 4 → Nat :=
  let c2_i32_5374 : BitVec 32 := 2#32
  let v3237 : Index := Scalar.indexCast c2_i32_5374
  let c1_i32_5375 : BitVec 32 := 1#32
  let v3238 : Index := Scalar.indexCast c1_i32_5375
  let c0_i32_5325 : BitVec 32 := 0#32
  let c0_i32_1831 : BitVec 32 := 0#32
  let c1_i32_1833 : BitVec 32 := 1#32
  let arg17 : BitVec 32 := Scf.iv c0_i32_1831 c1_i32_1833 k0_t33
  let c1_i32_5324 : BitVec 32 := 1#32
  let v3152 : BitVec 32 := Scalar.muli arg17 c1_i32_5324
  let v3153 : BitVec 32 := Scalar.addi c0_i32_5325 v3152
  let v3239 : Index := Scalar.indexCast v3153
  let c48_5376 : Index := 48#32
  ![2, 1, v3239.toNat, 48]
def k0_off290 (i : grid0.Coords) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c7_i32_1848 : BitVec 32 := 7#32
  let c0_i32_1849 : BitVec 32 := 0#32
  let c0_i32_1854 : BitVec 32 := 0#32
  let c0_i32_1855 : BitVec 32 := 0#32
  ![v2.toNat, 7, 0, 0, 0]
@[reducible] def k0_t34_loop : Scf.Loop 32 :=
  let c0_i32_1887 : BitVec 32 := 0#32
  let c64_i32_1888 : BitVec 32 := 64#32
  let v1130 : BitVec 32 := Scalar.addi c0_i32_1887 c64_i32_1888
  let c1_i32_1889 : BitVec 32 := 1#32
  ⟨c0_i32_1887, v1130, c1_i32_1889⟩
def k0_off291 (k0_t34 : Fin k0_t34_loop.trips) : Fin 4 → Nat :=
  let c0_i32_5338 : BitVec 32 := 0#32
  let v3167 : Index := Scalar.indexCast c0_i32_5338
  let c0_i32_5339 : BitVec 32 := 0#32
  let v3168 : Index := Scalar.indexCast c0_i32_5339
  let c0_i32_5325 : BitVec 32 := 0#32
  let c0_i32_1887 : BitVec 32 := 0#32
  let c1_i32_1889 : BitVec 32 := 1#32
  let arg17 : BitVec 32 := Scf.iv c0_i32_1887 c1_i32_1889 k0_t34
  let c1_i32_5324 : BitVec 32 := 1#32
  let v3152 : BitVec 32 := Scalar.muli arg17 c1_i32_5324
  let v3153 : BitVec 32 := Scalar.addi c0_i32_5325 v3152
  let v3169 : Index := Scalar.indexCast v3153
  let c0 : Index := 0#32
  ![0, 0, v3169.toNat, 0]
def k0_off292 (k0_t34 : Fin k0_t34_loop.trips) : Fin 4 → Nat :=
  let c0_i32_5340 : BitVec 32 := 0#32
  let v3173 : Index := Scalar.indexCast c0_i32_5340
  let c0_i32_5341 : BitVec 32 := 0#32
  let v3174 : Index := Scalar.indexCast c0_i32_5341
  let c0_i32_5325 : BitVec 32 := 0#32
  let c0_i32_1887 : BitVec 32 := 0#32
  let c1_i32_1889 : BitVec 32 := 1#32
  let arg17 : BitVec 32 := Scf.iv c0_i32_1887 c1_i32_1889 k0_t34
  let c1_i32_5324 : BitVec 32 := 1#32
  let v3152 : BitVec 32 := Scalar.muli arg17 c1_i32_5324
  let v3153 : BitVec 32 := Scalar.addi c0_i32_5325 v3152
  let v3175 : Index := Scalar.indexCast v3153
  let c16 : Index := 16#32
  ![0, 0, v3175.toNat, 16]
def k0_off293 (k0_t34 : Fin k0_t34_loop.trips) : Fin 4 → Nat :=
  let c0_i32_5342 : BitVec 32 := 0#32
  let v3179 : Index := Scalar.indexCast c0_i32_5342
  let c0_i32_5343 : BitVec 32 := 0#32
  let v3180 : Index := Scalar.indexCast c0_i32_5343
  let c0_i32_5325 : BitVec 32 := 0#32
  let c0_i32_1887 : BitVec 32 := 0#32
  let c1_i32_1889 : BitVec 32 := 1#32
  let arg17 : BitVec 32 := Scf.iv c0_i32_1887 c1_i32_1889 k0_t34
  let c1_i32_5324 : BitVec 32 := 1#32
  let v3152 : BitVec 32 := Scalar.muli arg17 c1_i32_5324
  let v3153 : BitVec 32 := Scalar.addi c0_i32_5325 v3152
  let v3181 : Index := Scalar.indexCast v3153
  let c32 : Index := 32#32
  ![0, 0, v3181.toNat, 32]
def k0_off294 (k0_t34 : Fin k0_t34_loop.trips) : Fin 4 → Nat :=
  let c0_i32_5344 : BitVec 32 := 0#32
  let v3185 : Index := Scalar.indexCast c0_i32_5344
  let c0_i32_5345 : BitVec 32 := 0#32
  let v3186 : Index := Scalar.indexCast c0_i32_5345
  let c0_i32_5325 : BitVec 32 := 0#32
  let c0_i32_1887 : BitVec 32 := 0#32
  let c1_i32_1889 : BitVec 32 := 1#32
  let arg17 : BitVec 32 := Scf.iv c0_i32_1887 c1_i32_1889 k0_t34
  let c1_i32_5324 : BitVec 32 := 1#32
  let v3152 : BitVec 32 := Scalar.muli arg17 c1_i32_5324
  let v3153 : BitVec 32 := Scalar.addi c0_i32_5325 v3152
  let v3187 : Index := Scalar.indexCast v3153
  let c48 : Index := 48#32
  ![0, 0, v3187.toNat, 48]

def k0_chk34 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx265_inb : ∀ (v5 : IVec S16 32) (v8 : IVec S16 32) (v11 : IVec S16 32) (v14 : IVec S16 32) (v15 : IVec S16 32) (v16 : IVec S16 32) (v3154 : IVec S16 32) (k0_hw34 : k0_chk34 v5 v8 v11 v14 v15 v16 v3154), ∀ a x, ((![v15, v3154, v14] : Fin 3 → IVec S16 32) a x).toNat < S2x64x64.size a := fun v5 v8 v11 v14 v15 v16 v3154 k0_hw34 => k0_hw34.1
theorem k0_idx266_inb : ∀ (v5 : IVec S16 32) (v8 : IVec S16 32) (v11 : IVec S16 32) (v14 : IVec S16 32) (v15 : IVec S16 32) (v16 : IVec S16 32) (v3154 : IVec S16 32) (k0_hw34 : k0_chk34 v5 v8 v11 v14 v15 v16 v3154), ∀ a x, ((![v15, v3154, v11] : Fin 3 → IVec S16 32) a x).toNat < S2x64x64.size a := fun v5 v8 v11 v14 v15 v16 v3154 k0_hw34 => k0_hw34.2.1
theorem k0_idx267_inb : ∀ (v5 : IVec S16 32) (v8 : IVec S16 32) (v11 : IVec S16 32) (v14 : IVec S16 32) (v15 : IVec S16 32) (v16 : IVec S16 32) (v3154 : IVec S16 32) (k0_hw34 : k0_chk34 v5 v8 v11 v14 v15 v16 v3154), ∀ a x, ((![v15, v3154, v8] : Fin 3 → IVec S16 32) a x).toNat < S2x64x64.size a := fun v5 v8 v11 v14 v15 v16 v3154 k0_hw34 => k0_hw34.2.2.1
theorem k0_idx268_inb : ∀ (v5 : IVec S16 32) (v8 : IVec S16 32) (v11 : IVec S16 32) (v14 : IVec S16 32) (v15 : IVec S16 32) (v16 : IVec S16 32) (v3154 : IVec S16 32) (k0_hw34 : k0_chk34 v5 v8 v11 v14 v15 v16 v3154), ∀ a x, ((![v15, v3154, v5] : Fin 3 → IVec S16 32) a x).toNat < S2x64x64.size a := fun v5 v8 v11 v14 v15 v16 v3154 k0_hw34 => k0_hw34.2.2.2.1
theorem k0_idx269_inb : ∀ (v5 : IVec S16 32) (v8 : IVec S16 32) (v11 : IVec S16 32) (v14 : IVec S16 32) (v15 : IVec S16 32) (v16 : IVec S16 32) (v3154 : IVec S16 32) (k0_hw34 : k0_chk34 v5 v8 v11 v14 v15 v16 v3154), ∀ a x, ((![v16, v3154, v14] : Fin 3 → IVec S16 32) a x).toNat < S2x64x64.size a := fun v5 v8 v11 v14 v15 v16 v3154 k0_hw34 => k0_hw34.2.2.2.2.1
theorem k0_idx270_inb : ∀ (v5 : IVec S16 32) (v8 : IVec S16 32) (v11 : IVec S16 32) (v14 : IVec S16 32) (v15 : IVec S16 32) (v16 : IVec S16 32) (v3154 : IVec S16 32) (k0_hw34 : k0_chk34 v5 v8 v11 v14 v15 v16 v3154), ∀ a x, ((![v16, v3154, v11] : Fin 3 → IVec S16 32) a x).toNat < S2x64x64.size a := fun v5 v8 v11 v14 v15 v16 v3154 k0_hw34 => k0_hw34.2.2.2.2.2.1
theorem k0_idx271_inb : ∀ (v5 : IVec S16 32) (v8 : IVec S16 32) (v11 : IVec S16 32) (v14 : IVec S16 32) (v15 : IVec S16 32) (v16 : IVec S16 32) (v3154 : IVec S16 32) (k0_hw34 : k0_chk34 v5 v8 v11 v14 v15 v16 v3154), ∀ a x, ((![v16, v3154, v8] : Fin 3 → IVec S16 32) a x).toNat < S2x64x64.size a := fun v5 v8 v11 v14 v15 v16 v3154 k0_hw34 => k0_hw34.2.2.2.2.2.2.1
theorem k0_idx272_inb : ∀ (v5 : IVec S16 32) (v8 : IVec S16 32) (v11 : IVec S16 32) (v14 : IVec S16 32) (v15 : IVec S16 32) (v16 : IVec S16 32) (v3154 : IVec S16 32) (k0_hw34 : k0_chk34 v5 v8 v11 v14 v15 v16 v3154), ∀ a x, ((![v16, v3154, v5] : Fin 3 → IVec S16 32) a x).toNat < S2x64x64.size a := fun v5 v8 v11 v14 v15 v16 v3154 k0_hw34 => k0_hw34.2.2.2.2.2.2.2
def k0_off295 (k0_t34 : Fin k0_t34_loop.trips) : Fin 4 → Nat :=
  let c0_i32_5358 : BitVec 32 := 0#32
  let v3203 : Index := Scalar.indexCast c0_i32_5358
  let c1_i32_5359 : BitVec 32 := 1#32
  let v3204 : Index := Scalar.indexCast c1_i32_5359
  let c0_i32_5325 : BitVec 32 := 0#32
  let c0_i32_1887 : BitVec 32 := 0#32
  let c1_i32_1889 : BitVec 32 := 1#32
  let arg17 : BitVec 32 := Scf.iv c0_i32_1887 c1_i32_1889 k0_t34
  let c1_i32_5324 : BitVec 32 := 1#32
  let v3152 : BitVec 32 := Scalar.muli arg17 c1_i32_5324
  let v3153 : BitVec 32 := Scalar.addi c0_i32_5325 v3152
  let v3205 : Index := Scalar.indexCast v3153
  let c0_5360 : Index := 0#32
  ![0, 1, v3205.toNat, 0]
def k0_off296 (k0_t34 : Fin k0_t34_loop.trips) : Fin 4 → Nat :=
  let c0_i32_5361 : BitVec 32 := 0#32
  let v3209 : Index := Scalar.indexCast c0_i32_5361
  let c1_i32_5362 : BitVec 32 := 1#32
  let v3210 : Index := Scalar.indexCast c1_i32_5362
  let c0_i32_5325 : BitVec 32 := 0#32
  let c0_i32_1887 : BitVec 32 := 0#32
  let c1_i32_1889 : BitVec 32 := 1#32
  let arg17 : BitVec 32 := Scf.iv c0_i32_1887 c1_i32_1889 k0_t34
  let c1_i32_5324 : BitVec 32 := 1#32
  let v3152 : BitVec 32 := Scalar.muli arg17 c1_i32_5324
  let v3153 : BitVec 32 := Scalar.addi c0_i32_5325 v3152
  let v3211 : Index := Scalar.indexCast v3153
  let c16_5363 : Index := 16#32
  ![0, 1, v3211.toNat, 16]
def k0_off297 (k0_t34 : Fin k0_t34_loop.trips) : Fin 4 → Nat :=
  let c0_i32_5364 : BitVec 32 := 0#32
  let v3215 : Index := Scalar.indexCast c0_i32_5364
  let c1_i32_5365 : BitVec 32 := 1#32
  let v3216 : Index := Scalar.indexCast c1_i32_5365
  let c0_i32_5325 : BitVec 32 := 0#32
  let c0_i32_1887 : BitVec 32 := 0#32
  let c1_i32_1889 : BitVec 32 := 1#32
  let arg17 : BitVec 32 := Scf.iv c0_i32_1887 c1_i32_1889 k0_t34
  let c1_i32_5324 : BitVec 32 := 1#32
  let v3152 : BitVec 32 := Scalar.muli arg17 c1_i32_5324
  let v3153 : BitVec 32 := Scalar.addi c0_i32_5325 v3152
  let v3217 : Index := Scalar.indexCast v3153
  let c32_5366 : Index := 32#32
  ![0, 1, v3217.toNat, 32]
def k0_off298 (k0_t34 : Fin k0_t34_loop.trips) : Fin 4 → Nat :=
  let c0_i32_5367 : BitVec 32 := 0#32
  let v3221 : Index := Scalar.indexCast c0_i32_5367
  let c1_i32_5368 : BitVec 32 := 1#32
  let v3222 : Index := Scalar.indexCast c1_i32_5368
  let c0_i32_5325 : BitVec 32 := 0#32
  let c0_i32_1887 : BitVec 32 := 0#32
  let c1_i32_1889 : BitVec 32 := 1#32
  let arg17 : BitVec 32 := Scf.iv c0_i32_1887 c1_i32_1889 k0_t34
  let c1_i32_5324 : BitVec 32 := 1#32
  let v3152 : BitVec 32 := Scalar.muli arg17 c1_i32_5324
  let v3153 : BitVec 32 := Scalar.addi c0_i32_5325 v3152
  let v3223 : Index := Scalar.indexCast v3153
  let c48_5369 : Index := 48#32
  ![0, 1, v3223.toNat, 48]
@[reducible] def k0_t35_loop : Scf.Loop 32 :=
  let c0_i32_1944 : BitVec 32 := 0#32
  let c64_i32_1945 : BitVec 32 := 64#32
  let v1163 : BitVec 32 := Scalar.addi c0_i32_1944 c64_i32_1945
  let c1_i32_1946 : BitVec 32 := 1#32
  ⟨c0_i32_1944, v1163, c1_i32_1946⟩
def k0_off299 (k0_t35 : Fin k0_t35_loop.trips) : Fin 4 → Nat :=
  let c1_i32_5338 : BitVec 32 := 1#32
  let v3167 : Index := Scalar.indexCast c1_i32_5338
  let c0_i32_5339 : BitVec 32 := 0#32
  let v3168 : Index := Scalar.indexCast c0_i32_5339
  let c0_i32_5325 : BitVec 32 := 0#32
  let c0_i32_1944 : BitVec 32 := 0#32
  let c1_i32_1946 : BitVec 32 := 1#32
  let arg17 : BitVec 32 := Scf.iv c0_i32_1944 c1_i32_1946 k0_t35
  let c1_i32_5324 : BitVec 32 := 1#32
  let v3152 : BitVec 32 := Scalar.muli arg17 c1_i32_5324
  let v3153 : BitVec 32 := Scalar.addi c0_i32_5325 v3152
  let v3169 : Index := Scalar.indexCast v3153
  let c0 : Index := 0#32
  ![1, 0, v3169.toNat, 0]
def k0_off300 (k0_t35 : Fin k0_t35_loop.trips) : Fin 4 → Nat :=
  let c1_i32_5340 : BitVec 32 := 1#32
  let v3173 : Index := Scalar.indexCast c1_i32_5340
  let c0_i32_5341 : BitVec 32 := 0#32
  let v3174 : Index := Scalar.indexCast c0_i32_5341
  let c0_i32_5325 : BitVec 32 := 0#32
  let c0_i32_1944 : BitVec 32 := 0#32
  let c1_i32_1946 : BitVec 32 := 1#32
  let arg17 : BitVec 32 := Scf.iv c0_i32_1944 c1_i32_1946 k0_t35
  let c1_i32_5324 : BitVec 32 := 1#32
  let v3152 : BitVec 32 := Scalar.muli arg17 c1_i32_5324
  let v3153 : BitVec 32 := Scalar.addi c0_i32_5325 v3152
  let v3175 : Index := Scalar.indexCast v3153
  let c16 : Index := 16#32
  ![1, 0, v3175.toNat, 16]
def k0_off301 (k0_t35 : Fin k0_t35_loop.trips) : Fin 4 → Nat :=
  let c1_i32_5342 : BitVec 32 := 1#32
  let v3179 : Index := Scalar.indexCast c1_i32_5342
  let c0_i32_5343 : BitVec 32 := 0#32
  let v3180 : Index := Scalar.indexCast c0_i32_5343
  let c0_i32_5325 : BitVec 32 := 0#32
  let c0_i32_1944 : BitVec 32 := 0#32
  let c1_i32_1946 : BitVec 32 := 1#32
  let arg17 : BitVec 32 := Scf.iv c0_i32_1944 c1_i32_1946 k0_t35
  let c1_i32_5324 : BitVec 32 := 1#32
  let v3152 : BitVec 32 := Scalar.muli arg17 c1_i32_5324
  let v3153 : BitVec 32 := Scalar.addi c0_i32_5325 v3152
  let v3181 : Index := Scalar.indexCast v3153
  let c32 : Index := 32#32
  ![1, 0, v3181.toNat, 32]
def k0_off302 (k0_t35 : Fin k0_t35_loop.trips) : Fin 4 → Nat :=
  let c1_i32_5344 : BitVec 32 := 1#32
  let v3185 : Index := Scalar.indexCast c1_i32_5344
  let c0_i32_5345 : BitVec 32 := 0#32
  let v3186 : Index := Scalar.indexCast c0_i32_5345
  let c0_i32_5325 : BitVec 32 := 0#32
  let c0_i32_1944 : BitVec 32 := 0#32
  let c1_i32_1946 : BitVec 32 := 1#32
  let arg17 : BitVec 32 := Scf.iv c0_i32_1944 c1_i32_1946 k0_t35
  let c1_i32_5324 : BitVec 32 := 1#32
  let v3152 : BitVec 32 := Scalar.muli arg17 c1_i32_5324
  let v3153 : BitVec 32 := Scalar.addi c0_i32_5325 v3152
  let v3187 : Index := Scalar.indexCast v3153
  let c48 : Index := 48#32
  ![1, 0, v3187.toNat, 48]

def k0_chk35 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx273_inb : ∀ (v5 : IVec S16 32) (v8 : IVec S16 32) (v11 : IVec S16 32) (v14 : IVec S16 32) (v15 : IVec S16 32) (v16 : IVec S16 32) (v3154 : IVec S16 32) (k0_hw35 : k0_chk35 v5 v8 v11 v14 v15 v16 v3154), ∀ a x, ((![v15, v3154, v14] : Fin 3 → IVec S16 32) a x).toNat < S2x64x64.size a := fun v5 v8 v11 v14 v15 v16 v3154 k0_hw35 => k0_hw35.1
theorem k0_idx274_inb : ∀ (v5 : IVec S16 32) (v8 : IVec S16 32) (v11 : IVec S16 32) (v14 : IVec S16 32) (v15 : IVec S16 32) (v16 : IVec S16 32) (v3154 : IVec S16 32) (k0_hw35 : k0_chk35 v5 v8 v11 v14 v15 v16 v3154), ∀ a x, ((![v15, v3154, v11] : Fin 3 → IVec S16 32) a x).toNat < S2x64x64.size a := fun v5 v8 v11 v14 v15 v16 v3154 k0_hw35 => k0_hw35.2.1
theorem k0_idx275_inb : ∀ (v5 : IVec S16 32) (v8 : IVec S16 32) (v11 : IVec S16 32) (v14 : IVec S16 32) (v15 : IVec S16 32) (v16 : IVec S16 32) (v3154 : IVec S16 32) (k0_hw35 : k0_chk35 v5 v8 v11 v14 v15 v16 v3154), ∀ a x, ((![v15, v3154, v8] : Fin 3 → IVec S16 32) a x).toNat < S2x64x64.size a := fun v5 v8 v11 v14 v15 v16 v3154 k0_hw35 => k0_hw35.2.2.1
theorem k0_idx276_inb : ∀ (v5 : IVec S16 32) (v8 : IVec S16 32) (v11 : IVec S16 32) (v14 : IVec S16 32) (v15 : IVec S16 32) (v16 : IVec S16 32) (v3154 : IVec S16 32) (k0_hw35 : k0_chk35 v5 v8 v11 v14 v15 v16 v3154), ∀ a x, ((![v15, v3154, v5] : Fin 3 → IVec S16 32) a x).toNat < S2x64x64.size a := fun v5 v8 v11 v14 v15 v16 v3154 k0_hw35 => k0_hw35.2.2.2.1
theorem k0_idx277_inb : ∀ (v5 : IVec S16 32) (v8 : IVec S16 32) (v11 : IVec S16 32) (v14 : IVec S16 32) (v15 : IVec S16 32) (v16 : IVec S16 32) (v3154 : IVec S16 32) (k0_hw35 : k0_chk35 v5 v8 v11 v14 v15 v16 v3154), ∀ a x, ((![v16, v3154, v14] : Fin 3 → IVec S16 32) a x).toNat < S2x64x64.size a := fun v5 v8 v11 v14 v15 v16 v3154 k0_hw35 => k0_hw35.2.2.2.2.1
theorem k0_idx278_inb : ∀ (v5 : IVec S16 32) (v8 : IVec S16 32) (v11 : IVec S16 32) (v14 : IVec S16 32) (v15 : IVec S16 32) (v16 : IVec S16 32) (v3154 : IVec S16 32) (k0_hw35 : k0_chk35 v5 v8 v11 v14 v15 v16 v3154), ∀ a x, ((![v16, v3154, v11] : Fin 3 → IVec S16 32) a x).toNat < S2x64x64.size a := fun v5 v8 v11 v14 v15 v16 v3154 k0_hw35 => k0_hw35.2.2.2.2.2.1
theorem k0_idx279_inb : ∀ (v5 : IVec S16 32) (v8 : IVec S16 32) (v11 : IVec S16 32) (v14 : IVec S16 32) (v15 : IVec S16 32) (v16 : IVec S16 32) (v3154 : IVec S16 32) (k0_hw35 : k0_chk35 v5 v8 v11 v14 v15 v16 v3154), ∀ a x, ((![v16, v3154, v8] : Fin 3 → IVec S16 32) a x).toNat < S2x64x64.size a := fun v5 v8 v11 v14 v15 v16 v3154 k0_hw35 => k0_hw35.2.2.2.2.2.2.1
theorem k0_idx280_inb : ∀ (v5 : IVec S16 32) (v8 : IVec S16 32) (v11 : IVec S16 32) (v14 : IVec S16 32) (v15 : IVec S16 32) (v16 : IVec S16 32) (v3154 : IVec S16 32) (k0_hw35 : k0_chk35 v5 v8 v11 v14 v15 v16 v3154), ∀ a x, ((![v16, v3154, v5] : Fin 3 → IVec S16 32) a x).toNat < S2x64x64.size a := fun v5 v8 v11 v14 v15 v16 v3154 k0_hw35 => k0_hw35.2.2.2.2.2.2.2
def k0_off303 (k0_t35 : Fin k0_t35_loop.trips) : Fin 4 → Nat :=
  let c1_i32_5358 : BitVec 32 := 1#32
  let v3203 : Index := Scalar.indexCast c1_i32_5358
  let c1_i32_5359 : BitVec 32 := 1#32
  let v3204 : Index := Scalar.indexCast c1_i32_5359
  let c0_i32_5325 : BitVec 32 := 0#32
  let c0_i32_1944 : BitVec 32 := 0#32
  let c1_i32_1946 : BitVec 32 := 1#32
  let arg17 : BitVec 32 := Scf.iv c0_i32_1944 c1_i32_1946 k0_t35
  let c1_i32_5324 : BitVec 32 := 1#32
  let v3152 : BitVec 32 := Scalar.muli arg17 c1_i32_5324
  let v3153 : BitVec 32 := Scalar.addi c0_i32_5325 v3152
  let v3205 : Index := Scalar.indexCast v3153
  let c0_5360 : Index := 0#32
  ![1, 1, v3205.toNat, 0]
def k0_off304 (k0_t35 : Fin k0_t35_loop.trips) : Fin 4 → Nat :=
  let c1_i32_5361 : BitVec 32 := 1#32
  let v3209 : Index := Scalar.indexCast c1_i32_5361
  let c1_i32_5362 : BitVec 32 := 1#32
  let v3210 : Index := Scalar.indexCast c1_i32_5362
  let c0_i32_5325 : BitVec 32 := 0#32
  let c0_i32_1944 : BitVec 32 := 0#32
  let c1_i32_1946 : BitVec 32 := 1#32
  let arg17 : BitVec 32 := Scf.iv c0_i32_1944 c1_i32_1946 k0_t35
  let c1_i32_5324 : BitVec 32 := 1#32
  let v3152 : BitVec 32 := Scalar.muli arg17 c1_i32_5324
  let v3153 : BitVec 32 := Scalar.addi c0_i32_5325 v3152
  let v3211 : Index := Scalar.indexCast v3153
  let c16_5363 : Index := 16#32
  ![1, 1, v3211.toNat, 16]
def k0_off305 (k0_t35 : Fin k0_t35_loop.trips) : Fin 4 → Nat :=
  let c1_i32_5364 : BitVec 32 := 1#32
  let v3215 : Index := Scalar.indexCast c1_i32_5364
  let c1_i32_5365 : BitVec 32 := 1#32
  let v3216 : Index := Scalar.indexCast c1_i32_5365
  let c0_i32_5325 : BitVec 32 := 0#32
  let c0_i32_1944 : BitVec 32 := 0#32
  let c1_i32_1946 : BitVec 32 := 1#32
  let arg17 : BitVec 32 := Scf.iv c0_i32_1944 c1_i32_1946 k0_t35
  let c1_i32_5324 : BitVec 32 := 1#32
  let v3152 : BitVec 32 := Scalar.muli arg17 c1_i32_5324
  let v3153 : BitVec 32 := Scalar.addi c0_i32_5325 v3152
  let v3217 : Index := Scalar.indexCast v3153
  let c32_5366 : Index := 32#32
  ![1, 1, v3217.toNat, 32]
def k0_off306 (k0_t35 : Fin k0_t35_loop.trips) : Fin 4 → Nat :=
  let c1_i32_5367 : BitVec 32 := 1#32
  let v3221 : Index := Scalar.indexCast c1_i32_5367
  let c1_i32_5368 : BitVec 32 := 1#32
  let v3222 : Index := Scalar.indexCast c1_i32_5368
  let c0_i32_5325 : BitVec 32 := 0#32
  let c0_i32_1944 : BitVec 32 := 0#32
  let c1_i32_1946 : BitVec 32 := 1#32
  let arg17 : BitVec 32 := Scf.iv c0_i32_1944 c1_i32_1946 k0_t35
  let c1_i32_5324 : BitVec 32 := 1#32
  let v3152 : BitVec 32 := Scalar.muli arg17 c1_i32_5324
  let v3153 : BitVec 32 := Scalar.addi c0_i32_5325 v3152
  let v3223 : Index := Scalar.indexCast v3153
  let c48_5369 : Index := 48#32
  ![1, 1, v3223.toNat, 48]
def k0_off307 (i : grid0.Coords) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c7_i32_1961 : BitVec 32 := 7#32
  let c1_i32_1962 : BitVec 32 := 1#32
  let c0_i32_1967 : BitVec 32 := 0#32
  let c0_i32_1968 : BitVec 32 := 0#32
  ![v2.toNat, 7, 1, 0, 0]
@[reducible] def k0_t36_loop : Scf.Loop 32 :=
  let c0_i32_2000 : BitVec 32 := 0#32
  let c64_i32_2001 : BitVec 32 := 64#32
  let v1196 : BitVec 32 := Scalar.addi c0_i32_2000 c64_i32_2001
  let c1_i32_2002 : BitVec 32 := 1#32
  ⟨c0_i32_2000, v1196, c1_i32_2002⟩
def k0_off308 (k0_t36 : Fin k0_t36_loop.trips) : Fin 4 → Nat :=
  let c2_i32_5338 : BitVec 32 := 2#32
  let v3167 : Index := Scalar.indexCast c2_i32_5338
  let c0_i32_5339 : BitVec 32 := 0#32
  let v3168 : Index := Scalar.indexCast c0_i32_5339
  let c0_i32_5325 : BitVec 32 := 0#32
  let c0_i32_2000 : BitVec 32 := 0#32
  let c1_i32_2002 : BitVec 32 := 1#32
  let arg17 : BitVec 32 := Scf.iv c0_i32_2000 c1_i32_2002 k0_t36
  let c1_i32_5324 : BitVec 32 := 1#32
  let v3152 : BitVec 32 := Scalar.muli arg17 c1_i32_5324
  let v3153 : BitVec 32 := Scalar.addi c0_i32_5325 v3152
  let v3169 : Index := Scalar.indexCast v3153
  let c0 : Index := 0#32
  ![2, 0, v3169.toNat, 0]
def k0_off309 (k0_t36 : Fin k0_t36_loop.trips) : Fin 4 → Nat :=
  let c2_i32_5340 : BitVec 32 := 2#32
  let v3173 : Index := Scalar.indexCast c2_i32_5340
  let c0_i32_5341 : BitVec 32 := 0#32
  let v3174 : Index := Scalar.indexCast c0_i32_5341
  let c0_i32_5325 : BitVec 32 := 0#32
  let c0_i32_2000 : BitVec 32 := 0#32
  let c1_i32_2002 : BitVec 32 := 1#32
  let arg17 : BitVec 32 := Scf.iv c0_i32_2000 c1_i32_2002 k0_t36
  let c1_i32_5324 : BitVec 32 := 1#32
  let v3152 : BitVec 32 := Scalar.muli arg17 c1_i32_5324
  let v3153 : BitVec 32 := Scalar.addi c0_i32_5325 v3152
  let v3175 : Index := Scalar.indexCast v3153
  let c16 : Index := 16#32
  ![2, 0, v3175.toNat, 16]
def k0_off310 (k0_t36 : Fin k0_t36_loop.trips) : Fin 4 → Nat :=
  let c2_i32_5342 : BitVec 32 := 2#32
  let v3179 : Index := Scalar.indexCast c2_i32_5342
  let c0_i32_5343 : BitVec 32 := 0#32
  let v3180 : Index := Scalar.indexCast c0_i32_5343
  let c0_i32_5325 : BitVec 32 := 0#32
  let c0_i32_2000 : BitVec 32 := 0#32
  let c1_i32_2002 : BitVec 32 := 1#32
  let arg17 : BitVec 32 := Scf.iv c0_i32_2000 c1_i32_2002 k0_t36
  let c1_i32_5324 : BitVec 32 := 1#32
  let v3152 : BitVec 32 := Scalar.muli arg17 c1_i32_5324
  let v3153 : BitVec 32 := Scalar.addi c0_i32_5325 v3152
  let v3181 : Index := Scalar.indexCast v3153
  let c32 : Index := 32#32
  ![2, 0, v3181.toNat, 32]
def k0_off311 (k0_t36 : Fin k0_t36_loop.trips) : Fin 4 → Nat :=
  let c2_i32_5344 : BitVec 32 := 2#32
  let v3185 : Index := Scalar.indexCast c2_i32_5344
  let c0_i32_5345 : BitVec 32 := 0#32
  let v3186 : Index := Scalar.indexCast c0_i32_5345
  let c0_i32_5325 : BitVec 32 := 0#32
  let c0_i32_2000 : BitVec 32 := 0#32
  let c1_i32_2002 : BitVec 32 := 1#32
  let arg17 : BitVec 32 := Scf.iv c0_i32_2000 c1_i32_2002 k0_t36
  let c1_i32_5324 : BitVec 32 := 1#32
  let v3152 : BitVec 32 := Scalar.muli arg17 c1_i32_5324
  let v3153 : BitVec 32 := Scalar.addi c0_i32_5325 v3152
  let v3187 : Index := Scalar.indexCast v3153
  let c48 : Index := 48#32
  ![2, 0, v3187.toNat, 48]

def k0_chk36 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx281_inb : ∀ (v5 : IVec S16 32) (v8 : IVec S16 32) (v11 : IVec S16 32) (v14 : IVec S16 32) (v15 : IVec S16 32) (v16 : IVec S16 32) (v3154 : IVec S16 32) (k0_hw36 : k0_chk36 v5 v8 v11 v14 v15 v16 v3154), ∀ a x, ((![v15, v3154, v14] : Fin 3 → IVec S16 32) a x).toNat < S2x64x64.size a := fun v5 v8 v11 v14 v15 v16 v3154 k0_hw36 => k0_hw36.1
theorem k0_idx282_inb : ∀ (v5 : IVec S16 32) (v8 : IVec S16 32) (v11 : IVec S16 32) (v14 : IVec S16 32) (v15 : IVec S16 32) (v16 : IVec S16 32) (v3154 : IVec S16 32) (k0_hw36 : k0_chk36 v5 v8 v11 v14 v15 v16 v3154), ∀ a x, ((![v15, v3154, v11] : Fin 3 → IVec S16 32) a x).toNat < S2x64x64.size a := fun v5 v8 v11 v14 v15 v16 v3154 k0_hw36 => k0_hw36.2.1
theorem k0_idx283_inb : ∀ (v5 : IVec S16 32) (v8 : IVec S16 32) (v11 : IVec S16 32) (v14 : IVec S16 32) (v15 : IVec S16 32) (v16 : IVec S16 32) (v3154 : IVec S16 32) (k0_hw36 : k0_chk36 v5 v8 v11 v14 v15 v16 v3154), ∀ a x, ((![v15, v3154, v8] : Fin 3 → IVec S16 32) a x).toNat < S2x64x64.size a := fun v5 v8 v11 v14 v15 v16 v3154 k0_hw36 => k0_hw36.2.2.1
theorem k0_idx284_inb : ∀ (v5 : IVec S16 32) (v8 : IVec S16 32) (v11 : IVec S16 32) (v14 : IVec S16 32) (v15 : IVec S16 32) (v16 : IVec S16 32) (v3154 : IVec S16 32) (k0_hw36 : k0_chk36 v5 v8 v11 v14 v15 v16 v3154), ∀ a x, ((![v15, v3154, v5] : Fin 3 → IVec S16 32) a x).toNat < S2x64x64.size a := fun v5 v8 v11 v14 v15 v16 v3154 k0_hw36 => k0_hw36.2.2.2.1
theorem k0_idx285_inb : ∀ (v5 : IVec S16 32) (v8 : IVec S16 32) (v11 : IVec S16 32) (v14 : IVec S16 32) (v15 : IVec S16 32) (v16 : IVec S16 32) (v3154 : IVec S16 32) (k0_hw36 : k0_chk36 v5 v8 v11 v14 v15 v16 v3154), ∀ a x, ((![v16, v3154, v14] : Fin 3 → IVec S16 32) a x).toNat < S2x64x64.size a := fun v5 v8 v11 v14 v15 v16 v3154 k0_hw36 => k0_hw36.2.2.2.2.1
theorem k0_idx286_inb : ∀ (v5 : IVec S16 32) (v8 : IVec S16 32) (v11 : IVec S16 32) (v14 : IVec S16 32) (v15 : IVec S16 32) (v16 : IVec S16 32) (v3154 : IVec S16 32) (k0_hw36 : k0_chk36 v5 v8 v11 v14 v15 v16 v3154), ∀ a x, ((![v16, v3154, v11] : Fin 3 → IVec S16 32) a x).toNat < S2x64x64.size a := fun v5 v8 v11 v14 v15 v16 v3154 k0_hw36 => k0_hw36.2.2.2.2.2.1
theorem k0_idx287_inb : ∀ (v5 : IVec S16 32) (v8 : IVec S16 32) (v11 : IVec S16 32) (v14 : IVec S16 32) (v15 : IVec S16 32) (v16 : IVec S16 32) (v3154 : IVec S16 32) (k0_hw36 : k0_chk36 v5 v8 v11 v14 v15 v16 v3154), ∀ a x, ((![v16, v3154, v8] : Fin 3 → IVec S16 32) a x).toNat < S2x64x64.size a := fun v5 v8 v11 v14 v15 v16 v3154 k0_hw36 => k0_hw36.2.2.2.2.2.2.1
theorem k0_idx288_inb : ∀ (v5 : IVec S16 32) (v8 : IVec S16 32) (v11 : IVec S16 32) (v14 : IVec S16 32) (v15 : IVec S16 32) (v16 : IVec S16 32) (v3154 : IVec S16 32) (k0_hw36 : k0_chk36 v5 v8 v11 v14 v15 v16 v3154), ∀ a x, ((![v16, v3154, v5] : Fin 3 → IVec S16 32) a x).toNat < S2x64x64.size a := fun v5 v8 v11 v14 v15 v16 v3154 k0_hw36 => k0_hw36.2.2.2.2.2.2.2
def k0_off312 (k0_t36 : Fin k0_t36_loop.trips) : Fin 4 → Nat :=
  let c2_i32_5358 : BitVec 32 := 2#32
  let v3203 : Index := Scalar.indexCast c2_i32_5358
  let c1_i32_5359 : BitVec 32 := 1#32
  let v3204 : Index := Scalar.indexCast c1_i32_5359
  let c0_i32_5325 : BitVec 32 := 0#32
  let c0_i32_2000 : BitVec 32 := 0#32
  let c1_i32_2002 : BitVec 32 := 1#32
  let arg17 : BitVec 32 := Scf.iv c0_i32_2000 c1_i32_2002 k0_t36
  let c1_i32_5324 : BitVec 32 := 1#32
  let v3152 : BitVec 32 := Scalar.muli arg17 c1_i32_5324
  let v3153 : BitVec 32 := Scalar.addi c0_i32_5325 v3152
  let v3205 : Index := Scalar.indexCast v3153
  let c0_5360 : Index := 0#32
  ![2, 1, v3205.toNat, 0]
def k0_off313 (k0_t36 : Fin k0_t36_loop.trips) : Fin 4 → Nat :=
  let c2_i32_5361 : BitVec 32 := 2#32
  let v3209 : Index := Scalar.indexCast c2_i32_5361
  let c1_i32_5362 : BitVec 32 := 1#32
  let v3210 : Index := Scalar.indexCast c1_i32_5362
  let c0_i32_5325 : BitVec 32 := 0#32
  let c0_i32_2000 : BitVec 32 := 0#32
  let c1_i32_2002 : BitVec 32 := 1#32
  let arg17 : BitVec 32 := Scf.iv c0_i32_2000 c1_i32_2002 k0_t36
  let c1_i32_5324 : BitVec 32 := 1#32
  let v3152 : BitVec 32 := Scalar.muli arg17 c1_i32_5324
  let v3153 : BitVec 32 := Scalar.addi c0_i32_5325 v3152
  let v3211 : Index := Scalar.indexCast v3153
  let c16_5363 : Index := 16#32
  ![2, 1, v3211.toNat, 16]
def k0_off314 (k0_t36 : Fin k0_t36_loop.trips) : Fin 4 → Nat :=
  let c2_i32_5364 : BitVec 32 := 2#32
  let v3215 : Index := Scalar.indexCast c2_i32_5364
  let c1_i32_5365 : BitVec 32 := 1#32
  let v3216 : Index := Scalar.indexCast c1_i32_5365
  let c0_i32_5325 : BitVec 32 := 0#32
  let c0_i32_2000 : BitVec 32 := 0#32
  let c1_i32_2002 : BitVec 32 := 1#32
  let arg17 : BitVec 32 := Scf.iv c0_i32_2000 c1_i32_2002 k0_t36
  let c1_i32_5324 : BitVec 32 := 1#32
  let v3152 : BitVec 32 := Scalar.muli arg17 c1_i32_5324
  let v3153 : BitVec 32 := Scalar.addi c0_i32_5325 v3152
  let v3217 : Index := Scalar.indexCast v3153
  let c32_5366 : Index := 32#32
  ![2, 1, v3217.toNat, 32]
def k0_off315 (k0_t36 : Fin k0_t36_loop.trips) : Fin 4 → Nat :=
  let c2_i32_5367 : BitVec 32 := 2#32
  let v3221 : Index := Scalar.indexCast c2_i32_5367
  let c1_i32_5368 : BitVec 32 := 1#32
  let v3222 : Index := Scalar.indexCast c1_i32_5368
  let c0_i32_5325 : BitVec 32 := 0#32
  let c0_i32_2000 : BitVec 32 := 0#32
  let c1_i32_2002 : BitVec 32 := 1#32
  let arg17 : BitVec 32 := Scf.iv c0_i32_2000 c1_i32_2002 k0_t36
  let c1_i32_5324 : BitVec 32 := 1#32
  let v3152 : BitVec 32 := Scalar.muli arg17 c1_i32_5324
  let v3153 : BitVec 32 := Scalar.addi c0_i32_5325 v3152
  let v3223 : Index := Scalar.indexCast v3153
  let c48_5369 : Index := 48#32
  ![2, 1, v3223.toNat, 48]
@[reducible] def k0_t37_loop : Scf.Loop 32 :=
  let c0_i32_2056 : BitVec 32 := 0#32
  let c64_i32_2057 : BitVec 32 := 64#32
  let v1229 : BitVec 32 := Scalar.addi c0_i32_2056 c64_i32_2057
  let c1_i32_2058 : BitVec 32 := 1#32
  ⟨c0_i32_2056, v1229, c1_i32_2058⟩
def k0_off316 (k0_t37 : Fin k0_t37_loop.trips) : Fin 4 → Nat :=
  let c0_i32_5341 : BitVec 32 := 0#32
  let v3175 : Index := Scalar.indexCast c0_i32_5341
  let c0_i32_5342 : BitVec 32 := 0#32
  let v3176 : Index := Scalar.indexCast c0_i32_5342
  let c0_i32_5325 : BitVec 32 := 0#32
  let c0_i32_2056 : BitVec 32 := 0#32
  let c1_i32_2058 : BitVec 32 := 1#32
  let arg17 : BitVec 32 := Scf.iv c0_i32_2056 c1_i32_2058 k0_t37
  let c1_i32_5324 : BitVec 32 := 1#32
  let v3152 : BitVec 32 := Scalar.muli arg17 c1_i32_5324
  let v3153 : BitVec 32 := Scalar.addi c0_i32_5325 v3152
  let v3177 : Index := Scalar.indexCast v3153
  let c0 : Index := 0#32
  ![0, 0, v3177.toNat, 0]
def k0_off317 (k0_t37 : Fin k0_t37_loop.trips) : Fin 4 → Nat :=
  let c0_i32_5343 : BitVec 32 := 0#32
  let v3181 : Index := Scalar.indexCast c0_i32_5343
  let c0_i32_5344 : BitVec 32 := 0#32
  let v3182 : Index := Scalar.indexCast c0_i32_5344
  let c0_i32_5325 : BitVec 32 := 0#32
  let c0_i32_2056 : BitVec 32 := 0#32
  let c1_i32_2058 : BitVec 32 := 1#32
  let arg17 : BitVec 32 := Scf.iv c0_i32_2056 c1_i32_2058 k0_t37
  let c1_i32_5324 : BitVec 32 := 1#32
  let v3152 : BitVec 32 := Scalar.muli arg17 c1_i32_5324
  let v3153 : BitVec 32 := Scalar.addi c0_i32_5325 v3152
  let v3183 : Index := Scalar.indexCast v3153
  let c16 : Index := 16#32
  ![0, 0, v3183.toNat, 16]
def k0_off318 (k0_t37 : Fin k0_t37_loop.trips) : Fin 4 → Nat :=
  let c0_i32_5345 : BitVec 32 := 0#32
  let v3187 : Index := Scalar.indexCast c0_i32_5345
  let c0_i32_5346 : BitVec 32 := 0#32
  let v3188 : Index := Scalar.indexCast c0_i32_5346
  let c0_i32_5325 : BitVec 32 := 0#32
  let c0_i32_2056 : BitVec 32 := 0#32
  let c1_i32_2058 : BitVec 32 := 1#32
  let arg17 : BitVec 32 := Scf.iv c0_i32_2056 c1_i32_2058 k0_t37
  let c1_i32_5324 : BitVec 32 := 1#32
  let v3152 : BitVec 32 := Scalar.muli arg17 c1_i32_5324
  let v3153 : BitVec 32 := Scalar.addi c0_i32_5325 v3152
  let v3189 : Index := Scalar.indexCast v3153
  let c32 : Index := 32#32
  ![0, 0, v3189.toNat, 32]
def k0_off319 (k0_t37 : Fin k0_t37_loop.trips) : Fin 4 → Nat :=
  let c0_i32_5347 : BitVec 32 := 0#32
  let v3193 : Index := Scalar.indexCast c0_i32_5347
  let c0_i32_5348 : BitVec 32 := 0#32
  let v3194 : Index := Scalar.indexCast c0_i32_5348
  let c0_i32_5325 : BitVec 32 := 0#32
  let c0_i32_2056 : BitVec 32 := 0#32
  let c1_i32_2058 : BitVec 32 := 1#32
  let arg17 : BitVec 32 := Scf.iv c0_i32_2056 c1_i32_2058 k0_t37
  let c1_i32_5324 : BitVec 32 := 1#32
  let v3152 : BitVec 32 := Scalar.muli arg17 c1_i32_5324
  let v3153 : BitVec 32 := Scalar.addi c0_i32_5325 v3152
  let v3195 : Index := Scalar.indexCast v3153
  let c48 : Index := 48#32
  ![0, 0, v3195.toNat, 48]

def k0_chk37 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx289_inb : ∀ (v5 : IVec S16 32) (v8 : IVec S16 32) (v11 : IVec S16 32) (v14 : IVec S16 32) (v15 : IVec S16 32) (v16 : IVec S16 32) (v3154 : IVec S16 32) (k0_hw37 : k0_chk37 v5 v8 v11 v14 v15 v16 v3154), ∀ a x, ((![v15, v3154, v14] : Fin 3 → IVec S16 32) a x).toNat < S2x64x64.size a := fun v5 v8 v11 v14 v15 v16 v3154 k0_hw37 => k0_hw37.1
theorem k0_idx290_inb : ∀ (v5 : IVec S16 32) (v8 : IVec S16 32) (v11 : IVec S16 32) (v14 : IVec S16 32) (v15 : IVec S16 32) (v16 : IVec S16 32) (v3154 : IVec S16 32) (k0_hw37 : k0_chk37 v5 v8 v11 v14 v15 v16 v3154), ∀ a x, ((![v15, v3154, v11] : Fin 3 → IVec S16 32) a x).toNat < S2x64x64.size a := fun v5 v8 v11 v14 v15 v16 v3154 k0_hw37 => k0_hw37.2.1
theorem k0_idx291_inb : ∀ (v5 : IVec S16 32) (v8 : IVec S16 32) (v11 : IVec S16 32) (v14 : IVec S16 32) (v15 : IVec S16 32) (v16 : IVec S16 32) (v3154 : IVec S16 32) (k0_hw37 : k0_chk37 v5 v8 v11 v14 v15 v16 v3154), ∀ a x, ((![v15, v3154, v8] : Fin 3 → IVec S16 32) a x).toNat < S2x64x64.size a := fun v5 v8 v11 v14 v15 v16 v3154 k0_hw37 => k0_hw37.2.2.1
theorem k0_idx292_inb : ∀ (v5 : IVec S16 32) (v8 : IVec S16 32) (v11 : IVec S16 32) (v14 : IVec S16 32) (v15 : IVec S16 32) (v16 : IVec S16 32) (v3154 : IVec S16 32) (k0_hw37 : k0_chk37 v5 v8 v11 v14 v15 v16 v3154), ∀ a x, ((![v15, v3154, v5] : Fin 3 → IVec S16 32) a x).toNat < S2x64x64.size a := fun v5 v8 v11 v14 v15 v16 v3154 k0_hw37 => k0_hw37.2.2.2.1
theorem k0_idx293_inb : ∀ (v5 : IVec S16 32) (v8 : IVec S16 32) (v11 : IVec S16 32) (v14 : IVec S16 32) (v15 : IVec S16 32) (v16 : IVec S16 32) (v3154 : IVec S16 32) (k0_hw37 : k0_chk37 v5 v8 v11 v14 v15 v16 v3154), ∀ a x, ((![v16, v3154, v14] : Fin 3 → IVec S16 32) a x).toNat < S2x64x64.size a := fun v5 v8 v11 v14 v15 v16 v3154 k0_hw37 => k0_hw37.2.2.2.2.1
theorem k0_idx294_inb : ∀ (v5 : IVec S16 32) (v8 : IVec S16 32) (v11 : IVec S16 32) (v14 : IVec S16 32) (v15 : IVec S16 32) (v16 : IVec S16 32) (v3154 : IVec S16 32) (k0_hw37 : k0_chk37 v5 v8 v11 v14 v15 v16 v3154), ∀ a x, ((![v16, v3154, v11] : Fin 3 → IVec S16 32) a x).toNat < S2x64x64.size a := fun v5 v8 v11 v14 v15 v16 v3154 k0_hw37 => k0_hw37.2.2.2.2.2.1
theorem k0_idx295_inb : ∀ (v5 : IVec S16 32) (v8 : IVec S16 32) (v11 : IVec S16 32) (v14 : IVec S16 32) (v15 : IVec S16 32) (v16 : IVec S16 32) (v3154 : IVec S16 32) (k0_hw37 : k0_chk37 v5 v8 v11 v14 v15 v16 v3154), ∀ a x, ((![v16, v3154, v8] : Fin 3 → IVec S16 32) a x).toNat < S2x64x64.size a := fun v5 v8 v11 v14 v15 v16 v3154 k0_hw37 => k0_hw37.2.2.2.2.2.2.1
theorem k0_idx296_inb : ∀ (v5 : IVec S16 32) (v8 : IVec S16 32) (v11 : IVec S16 32) (v14 : IVec S16 32) (v15 : IVec S16 32) (v16 : IVec S16 32) (v3154 : IVec S16 32) (k0_hw37 : k0_chk37 v5 v8 v11 v14 v15 v16 v3154), ∀ a x, ((![v16, v3154, v5] : Fin 3 → IVec S16 32) a x).toNat < S2x64x64.size a := fun v5 v8 v11 v14 v15 v16 v3154 k0_hw37 => k0_hw37.2.2.2.2.2.2.2
def k0_off320 (k0_t37 : Fin k0_t37_loop.trips) : Fin 4 → Nat :=
  let c0_i32_5365 : BitVec 32 := 0#32
  let v3219 : Index := Scalar.indexCast c0_i32_5365
  let c1_i32_5366 : BitVec 32 := 1#32
  let v3220 : Index := Scalar.indexCast c1_i32_5366
  let c0_i32_5325 : BitVec 32 := 0#32
  let c0_i32_2056 : BitVec 32 := 0#32
  let c1_i32_2058 : BitVec 32 := 1#32
  let arg17 : BitVec 32 := Scf.iv c0_i32_2056 c1_i32_2058 k0_t37
  let c1_i32_5324 : BitVec 32 := 1#32
  let v3152 : BitVec 32 := Scalar.muli arg17 c1_i32_5324
  let v3153 : BitVec 32 := Scalar.addi c0_i32_5325 v3152
  let v3221 : Index := Scalar.indexCast v3153
  let c0_5367 : Index := 0#32
  ![0, 1, v3221.toNat, 0]
def k0_off321 (k0_t37 : Fin k0_t37_loop.trips) : Fin 4 → Nat :=
  let c0_i32_5368 : BitVec 32 := 0#32
  let v3225 : Index := Scalar.indexCast c0_i32_5368
  let c1_i32_5369 : BitVec 32 := 1#32
  let v3226 : Index := Scalar.indexCast c1_i32_5369
  let c0_i32_5325 : BitVec 32 := 0#32
  let c0_i32_2056 : BitVec 32 := 0#32
  let c1_i32_2058 : BitVec 32 := 1#32
  let arg17 : BitVec 32 := Scf.iv c0_i32_2056 c1_i32_2058 k0_t37
  let c1_i32_5324 : BitVec 32 := 1#32
  let v3152 : BitVec 32 := Scalar.muli arg17 c1_i32_5324
  let v3153 : BitVec 32 := Scalar.addi c0_i32_5325 v3152
  let v3227 : Index := Scalar.indexCast v3153
  let c16_5370 : Index := 16#32
  ![0, 1, v3227.toNat, 16]
def k0_off322 (k0_t37 : Fin k0_t37_loop.trips) : Fin 4 → Nat :=
  let c0_i32_5371 : BitVec 32 := 0#32
  let v3231 : Index := Scalar.indexCast c0_i32_5371
  let c1_i32_5372 : BitVec 32 := 1#32
  let v3232 : Index := Scalar.indexCast c1_i32_5372
  let c0_i32_5325 : BitVec 32 := 0#32
  let c0_i32_2056 : BitVec 32 := 0#32
  let c1_i32_2058 : BitVec 32 := 1#32
  let arg17 : BitVec 32 := Scf.iv c0_i32_2056 c1_i32_2058 k0_t37
  let c1_i32_5324 : BitVec 32 := 1#32
  let v3152 : BitVec 32 := Scalar.muli arg17 c1_i32_5324
  let v3153 : BitVec 32 := Scalar.addi c0_i32_5325 v3152
  let v3233 : Index := Scalar.indexCast v3153
  let c32_5373 : Index := 32#32
  ![0, 1, v3233.toNat, 32]
def k0_off323 (k0_t37 : Fin k0_t37_loop.trips) : Fin 4 → Nat :=
  let c0_i32_5374 : BitVec 32 := 0#32
  let v3237 : Index := Scalar.indexCast c0_i32_5374
  let c1_i32_5375 : BitVec 32 := 1#32
  let v3238 : Index := Scalar.indexCast c1_i32_5375
  let c0_i32_5325 : BitVec 32 := 0#32
  let c0_i32_2056 : BitVec 32 := 0#32
  let c1_i32_2058 : BitVec 32 := 1#32
  let arg17 : BitVec 32 := Scf.iv c0_i32_2056 c1_i32_2058 k0_t37
  let c1_i32_5324 : BitVec 32 := 1#32
  let v3152 : BitVec 32 := Scalar.muli arg17 c1_i32_5324
  let v3153 : BitVec 32 := Scalar.addi c0_i32_5325 v3152
  let v3239 : Index := Scalar.indexCast v3153
  let c48_5376 : Index := 48#32
  ![0, 1, v3239.toNat, 48]
def k0_off324 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c9_i32 : BitVec 32 := 9#32
  let c0_i32_2077 : BitVec 32 := 0#32
  let c0_i32_2078 : BitVec 32 := 0#32
  ![v2.toNat, 9, 0, 0]
@[reducible] def k0_t38_loop : Scf.Loop 32 :=
  let c0_i32_2111 : BitVec 32 := 0#32
  let c64_i32_2112 : BitVec 32 := 64#32
  let v1262 : BitVec 32 := Scalar.addi c0_i32_2111 c64_i32_2112
  let c1_i32_2113 : BitVec 32 := 1#32
  ⟨c0_i32_2111, v1262, c1_i32_2113⟩
def k0_off325 (k0_t38 : Fin k0_t38_loop.trips) : Fin 4 → Nat :=
  let c1_i32_5341 : BitVec 32 := 1#32
  let v3175 : Index := Scalar.indexCast c1_i32_5341
  let c0_i32_5342 : BitVec 32 := 0#32
  let v3176 : Index := Scalar.indexCast c0_i32_5342
  let c0_i32_5325 : BitVec 32 := 0#32
  let c0_i32_2111 : BitVec 32 := 0#32
  let c1_i32_2113 : BitVec 32 := 1#32
  let arg17 : BitVec 32 := Scf.iv c0_i32_2111 c1_i32_2113 k0_t38
  let c1_i32_5324 : BitVec 32 := 1#32
  let v3152 : BitVec 32 := Scalar.muli arg17 c1_i32_5324
  let v3153 : BitVec 32 := Scalar.addi c0_i32_5325 v3152
  let v3177 : Index := Scalar.indexCast v3153
  let c0 : Index := 0#32
  ![1, 0, v3177.toNat, 0]
def k0_off326 (k0_t38 : Fin k0_t38_loop.trips) : Fin 4 → Nat :=
  let c1_i32_5343 : BitVec 32 := 1#32
  let v3181 : Index := Scalar.indexCast c1_i32_5343
  let c0_i32_5344 : BitVec 32 := 0#32
  let v3182 : Index := Scalar.indexCast c0_i32_5344
  let c0_i32_5325 : BitVec 32 := 0#32
  let c0_i32_2111 : BitVec 32 := 0#32
  let c1_i32_2113 : BitVec 32 := 1#32
  let arg17 : BitVec 32 := Scf.iv c0_i32_2111 c1_i32_2113 k0_t38
  let c1_i32_5324 : BitVec 32 := 1#32
  let v3152 : BitVec 32 := Scalar.muli arg17 c1_i32_5324
  let v3153 : BitVec 32 := Scalar.addi c0_i32_5325 v3152
  let v3183 : Index := Scalar.indexCast v3153
  let c16 : Index := 16#32
  ![1, 0, v3183.toNat, 16]
def k0_off327 (k0_t38 : Fin k0_t38_loop.trips) : Fin 4 → Nat :=
  let c1_i32_5345 : BitVec 32 := 1#32
  let v3187 : Index := Scalar.indexCast c1_i32_5345
  let c0_i32_5346 : BitVec 32 := 0#32
  let v3188 : Index := Scalar.indexCast c0_i32_5346
  let c0_i32_5325 : BitVec 32 := 0#32
  let c0_i32_2111 : BitVec 32 := 0#32
  let c1_i32_2113 : BitVec 32 := 1#32
  let arg17 : BitVec 32 := Scf.iv c0_i32_2111 c1_i32_2113 k0_t38
  let c1_i32_5324 : BitVec 32 := 1#32
  let v3152 : BitVec 32 := Scalar.muli arg17 c1_i32_5324
  let v3153 : BitVec 32 := Scalar.addi c0_i32_5325 v3152
  let v3189 : Index := Scalar.indexCast v3153
  let c32 : Index := 32#32
  ![1, 0, v3189.toNat, 32]
def k0_off328 (k0_t38 : Fin k0_t38_loop.trips) : Fin 4 → Nat :=
  let c1_i32_5347 : BitVec 32 := 1#32
  let v3193 : Index := Scalar.indexCast c1_i32_5347
  let c0_i32_5348 : BitVec 32 := 0#32
  let v3194 : Index := Scalar.indexCast c0_i32_5348
  let c0_i32_5325 : BitVec 32 := 0#32
  let c0_i32_2111 : BitVec 32 := 0#32
  let c1_i32_2113 : BitVec 32 := 1#32
  let arg17 : BitVec 32 := Scf.iv c0_i32_2111 c1_i32_2113 k0_t38
  let c1_i32_5324 : BitVec 32 := 1#32
  let v3152 : BitVec 32 := Scalar.muli arg17 c1_i32_5324
  let v3153 : BitVec 32 := Scalar.addi c0_i32_5325 v3152
  let v3195 : Index := Scalar.indexCast v3153
  let c48 : Index := 48#32
  ![1, 0, v3195.toNat, 48]

def k0_chk38 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx297_inb : ∀ (v5 : IVec S16 32) (v8 : IVec S16 32) (v11 : IVec S16 32) (v14 : IVec S16 32) (v15 : IVec S16 32) (v16 : IVec S16 32) (v3154 : IVec S16 32) (k0_hw38 : k0_chk38 v5 v8 v11 v14 v15 v16 v3154), ∀ a x, ((![v15, v3154, v14] : Fin 3 → IVec S16 32) a x).toNat < S2x64x64.size a := fun v5 v8 v11 v14 v15 v16 v3154 k0_hw38 => k0_hw38.1
theorem k0_idx298_inb : ∀ (v5 : IVec S16 32) (v8 : IVec S16 32) (v11 : IVec S16 32) (v14 : IVec S16 32) (v15 : IVec S16 32) (v16 : IVec S16 32) (v3154 : IVec S16 32) (k0_hw38 : k0_chk38 v5 v8 v11 v14 v15 v16 v3154), ∀ a x, ((![v15, v3154, v11] : Fin 3 → IVec S16 32) a x).toNat < S2x64x64.size a := fun v5 v8 v11 v14 v15 v16 v3154 k0_hw38 => k0_hw38.2.1
theorem k0_idx299_inb : ∀ (v5 : IVec S16 32) (v8 : IVec S16 32) (v11 : IVec S16 32) (v14 : IVec S16 32) (v15 : IVec S16 32) (v16 : IVec S16 32) (v3154 : IVec S16 32) (k0_hw38 : k0_chk38 v5 v8 v11 v14 v15 v16 v3154), ∀ a x, ((![v15, v3154, v8] : Fin 3 → IVec S16 32) a x).toNat < S2x64x64.size a := fun v5 v8 v11 v14 v15 v16 v3154 k0_hw38 => k0_hw38.2.2.1
theorem k0_idx300_inb : ∀ (v5 : IVec S16 32) (v8 : IVec S16 32) (v11 : IVec S16 32) (v14 : IVec S16 32) (v15 : IVec S16 32) (v16 : IVec S16 32) (v3154 : IVec S16 32) (k0_hw38 : k0_chk38 v5 v8 v11 v14 v15 v16 v3154), ∀ a x, ((![v15, v3154, v5] : Fin 3 → IVec S16 32) a x).toNat < S2x64x64.size a := fun v5 v8 v11 v14 v15 v16 v3154 k0_hw38 => k0_hw38.2.2.2.1
theorem k0_idx301_inb : ∀ (v5 : IVec S16 32) (v8 : IVec S16 32) (v11 : IVec S16 32) (v14 : IVec S16 32) (v15 : IVec S16 32) (v16 : IVec S16 32) (v3154 : IVec S16 32) (k0_hw38 : k0_chk38 v5 v8 v11 v14 v15 v16 v3154), ∀ a x, ((![v16, v3154, v14] : Fin 3 → IVec S16 32) a x).toNat < S2x64x64.size a := fun v5 v8 v11 v14 v15 v16 v3154 k0_hw38 => k0_hw38.2.2.2.2.1
theorem k0_idx302_inb : ∀ (v5 : IVec S16 32) (v8 : IVec S16 32) (v11 : IVec S16 32) (v14 : IVec S16 32) (v15 : IVec S16 32) (v16 : IVec S16 32) (v3154 : IVec S16 32) (k0_hw38 : k0_chk38 v5 v8 v11 v14 v15 v16 v3154), ∀ a x, ((![v16, v3154, v11] : Fin 3 → IVec S16 32) a x).toNat < S2x64x64.size a := fun v5 v8 v11 v14 v15 v16 v3154 k0_hw38 => k0_hw38.2.2.2.2.2.1
theorem k0_idx303_inb : ∀ (v5 : IVec S16 32) (v8 : IVec S16 32) (v11 : IVec S16 32) (v14 : IVec S16 32) (v15 : IVec S16 32) (v16 : IVec S16 32) (v3154 : IVec S16 32) (k0_hw38 : k0_chk38 v5 v8 v11 v14 v15 v16 v3154), ∀ a x, ((![v16, v3154, v8] : Fin 3 → IVec S16 32) a x).toNat < S2x64x64.size a := fun v5 v8 v11 v14 v15 v16 v3154 k0_hw38 => k0_hw38.2.2.2.2.2.2.1
theorem k0_idx304_inb : ∀ (v5 : IVec S16 32) (v8 : IVec S16 32) (v11 : IVec S16 32) (v14 : IVec S16 32) (v15 : IVec S16 32) (v16 : IVec S16 32) (v3154 : IVec S16 32) (k0_hw38 : k0_chk38 v5 v8 v11 v14 v15 v16 v3154), ∀ a x, ((![v16, v3154, v5] : Fin 3 → IVec S16 32) a x).toNat < S2x64x64.size a := fun v5 v8 v11 v14 v15 v16 v3154 k0_hw38 => k0_hw38.2.2.2.2.2.2.2
def k0_off329 (k0_t38 : Fin k0_t38_loop.trips) : Fin 4 → Nat :=
  let c1_i32_5365 : BitVec 32 := 1#32
  let v3219 : Index := Scalar.indexCast c1_i32_5365
  let c1_i32_5366 : BitVec 32 := 1#32
  let v3220 : Index := Scalar.indexCast c1_i32_5366
  let c0_i32_5325 : BitVec 32 := 0#32
  let c0_i32_2111 : BitVec 32 := 0#32
  let c1_i32_2113 : BitVec 32 := 1#32
  let arg17 : BitVec 32 := Scf.iv c0_i32_2111 c1_i32_2113 k0_t38
  let c1_i32_5324 : BitVec 32 := 1#32
  let v3152 : BitVec 32 := Scalar.muli arg17 c1_i32_5324
  let v3153 : BitVec 32 := Scalar.addi c0_i32_5325 v3152
  let v3221 : Index := Scalar.indexCast v3153
  let c0_5367 : Index := 0#32
  ![1, 1, v3221.toNat, 0]
def k0_off330 (k0_t38 : Fin k0_t38_loop.trips) : Fin 4 → Nat :=
  let c1_i32_5368 : BitVec 32 := 1#32
  let v3225 : Index := Scalar.indexCast c1_i32_5368
  let c1_i32_5369 : BitVec 32 := 1#32
  let v3226 : Index := Scalar.indexCast c1_i32_5369
  let c0_i32_5325 : BitVec 32 := 0#32
  let c0_i32_2111 : BitVec 32 := 0#32
  let c1_i32_2113 : BitVec 32 := 1#32
  let arg17 : BitVec 32 := Scf.iv c0_i32_2111 c1_i32_2113 k0_t38
  let c1_i32_5324 : BitVec 32 := 1#32
  let v3152 : BitVec 32 := Scalar.muli arg17 c1_i32_5324
  let v3153 : BitVec 32 := Scalar.addi c0_i32_5325 v3152
  let v3227 : Index := Scalar.indexCast v3153
  let c16_5370 : Index := 16#32
  ![1, 1, v3227.toNat, 16]
def k0_off331 (k0_t38 : Fin k0_t38_loop.trips) : Fin 4 → Nat :=
  let c1_i32_5371 : BitVec 32 := 1#32
  let v3231 : Index := Scalar.indexCast c1_i32_5371
  let c1_i32_5372 : BitVec 32 := 1#32
  let v3232 : Index := Scalar.indexCast c1_i32_5372
  let c0_i32_5325 : BitVec 32 := 0#32
  let c0_i32_2111 : BitVec 32 := 0#32
  let c1_i32_2113 : BitVec 32 := 1#32
  let arg17 : BitVec 32 := Scf.iv c0_i32_2111 c1_i32_2113 k0_t38
  let c1_i32_5324 : BitVec 32 := 1#32
  let v3152 : BitVec 32 := Scalar.muli arg17 c1_i32_5324
  let v3153 : BitVec 32 := Scalar.addi c0_i32_5325 v3152
  let v3233 : Index := Scalar.indexCast v3153
  let c32_5373 : Index := 32#32
  ![1, 1, v3233.toNat, 32]
def k0_off332 (k0_t38 : Fin k0_t38_loop.trips) : Fin 4 → Nat :=
  let c1_i32_5374 : BitVec 32 := 1#32
  let v3237 : Index := Scalar.indexCast c1_i32_5374
  let c1_i32_5375 : BitVec 32 := 1#32
  let v3238 : Index := Scalar.indexCast c1_i32_5375
  let c0_i32_5325 : BitVec 32 := 0#32
  let c0_i32_2111 : BitVec 32 := 0#32
  let c1_i32_2113 : BitVec 32 := 1#32
  let arg17 : BitVec 32 := Scf.iv c0_i32_2111 c1_i32_2113 k0_t38
  let c1_i32_5324 : BitVec 32 := 1#32
  let v3152 : BitVec 32 := Scalar.muli arg17 c1_i32_5324
  let v3153 : BitVec 32 := Scalar.addi c0_i32_5325 v3152
  let v3239 : Index := Scalar.indexCast v3153
  let c48_5376 : Index := 48#32
  ![1, 1, v3239.toNat, 48]
def k0_off333 (i : grid0.Coords) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c9_i32_2128 : BitVec 32 := 9#32
  let c0_i32_2129 : BitVec 32 := 0#32
  let c0_i32_2134 : BitVec 32 := 0#32
  let c0_i32_2135 : BitVec 32 := 0#32
  ![v2.toNat, 9, 0, 0, 0]
@[reducible] def k0_t39_loop : Scf.Loop 32 :=
  let c0_i32_2167 : BitVec 32 := 0#32
  let c64_i32_2168 : BitVec 32 := 64#32
  let v1295 : BitVec 32 := Scalar.addi c0_i32_2167 c64_i32_2168
  let c1_i32_2169 : BitVec 32 := 1#32
  ⟨c0_i32_2167, v1295, c1_i32_2169⟩
def k0_off334 (k0_t39 : Fin k0_t39_loop.trips) : Fin 4 → Nat :=
  let c2_i32_5338 : BitVec 32 := 2#32
  let v3167 : Index := Scalar.indexCast c2_i32_5338
  let c0_i32_5339 : BitVec 32 := 0#32
  let v3168 : Index := Scalar.indexCast c0_i32_5339
  let c0_i32_5325 : BitVec 32 := 0#32
  let c0_i32_2167 : BitVec 32 := 0#32
  let c1_i32_2169 : BitVec 32 := 1#32
  let arg17 : BitVec 32 := Scf.iv c0_i32_2167 c1_i32_2169 k0_t39
  let c1_i32_5324 : BitVec 32 := 1#32
  let v3152 : BitVec 32 := Scalar.muli arg17 c1_i32_5324
  let v3153 : BitVec 32 := Scalar.addi c0_i32_5325 v3152
  let v3169 : Index := Scalar.indexCast v3153
  let c0 : Index := 0#32
  ![2, 0, v3169.toNat, 0]
def k0_off335 (k0_t39 : Fin k0_t39_loop.trips) : Fin 4 → Nat :=
  let c2_i32_5340 : BitVec 32 := 2#32
  let v3173 : Index := Scalar.indexCast c2_i32_5340
  let c0_i32_5341 : BitVec 32 := 0#32
  let v3174 : Index := Scalar.indexCast c0_i32_5341
  let c0_i32_5325 : BitVec 32 := 0#32
  let c0_i32_2167 : BitVec 32 := 0#32
  let c1_i32_2169 : BitVec 32 := 1#32
  let arg17 : BitVec 32 := Scf.iv c0_i32_2167 c1_i32_2169 k0_t39
  let c1_i32_5324 : BitVec 32 := 1#32
  let v3152 : BitVec 32 := Scalar.muli arg17 c1_i32_5324
  let v3153 : BitVec 32 := Scalar.addi c0_i32_5325 v3152
  let v3175 : Index := Scalar.indexCast v3153
  let c16 : Index := 16#32
  ![2, 0, v3175.toNat, 16]
def k0_off336 (k0_t39 : Fin k0_t39_loop.trips) : Fin 4 → Nat :=
  let c2_i32_5342 : BitVec 32 := 2#32
  let v3179 : Index := Scalar.indexCast c2_i32_5342
  let c0_i32_5343 : BitVec 32 := 0#32
  let v3180 : Index := Scalar.indexCast c0_i32_5343
  let c0_i32_5325 : BitVec 32 := 0#32
  let c0_i32_2167 : BitVec 32 := 0#32
  let c1_i32_2169 : BitVec 32 := 1#32
  let arg17 : BitVec 32 := Scf.iv c0_i32_2167 c1_i32_2169 k0_t39
  let c1_i32_5324 : BitVec 32 := 1#32
  let v3152 : BitVec 32 := Scalar.muli arg17 c1_i32_5324
  let v3153 : BitVec 32 := Scalar.addi c0_i32_5325 v3152
  let v3181 : Index := Scalar.indexCast v3153
  let c32 : Index := 32#32
  ![2, 0, v3181.toNat, 32]
def k0_off337 (k0_t39 : Fin k0_t39_loop.trips) : Fin 4 → Nat :=
  let c2_i32_5344 : BitVec 32 := 2#32
  let v3185 : Index := Scalar.indexCast c2_i32_5344
  let c0_i32_5345 : BitVec 32 := 0#32
  let v3186 : Index := Scalar.indexCast c0_i32_5345
  let c0_i32_5325 : BitVec 32 := 0#32
  let c0_i32_2167 : BitVec 32 := 0#32
  let c1_i32_2169 : BitVec 32 := 1#32
  let arg17 : BitVec 32 := Scf.iv c0_i32_2167 c1_i32_2169 k0_t39
  let c1_i32_5324 : BitVec 32 := 1#32
  let v3152 : BitVec 32 := Scalar.muli arg17 c1_i32_5324
  let v3153 : BitVec 32 := Scalar.addi c0_i32_5325 v3152
  let v3187 : Index := Scalar.indexCast v3153
  let c48 : Index := 48#32
  ![2, 0, v3187.toNat, 48]

def k0_chk39 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx305_inb : ∀ (v5 : IVec S16 32) (v8 : IVec S16 32) (v11 : IVec S16 32) (v14 : IVec S16 32) (v15 : IVec S16 32) (v16 : IVec S16 32) (v3154 : IVec S16 32) (k0_hw39 : k0_chk39 v5 v8 v11 v14 v15 v16 v3154), ∀ a x, ((![v15, v3154, v14] : Fin 3 → IVec S16 32) a x).toNat < S2x64x64.size a := fun v5 v8 v11 v14 v15 v16 v3154 k0_hw39 => k0_hw39.1
theorem k0_idx306_inb : ∀ (v5 : IVec S16 32) (v8 : IVec S16 32) (v11 : IVec S16 32) (v14 : IVec S16 32) (v15 : IVec S16 32) (v16 : IVec S16 32) (v3154 : IVec S16 32) (k0_hw39 : k0_chk39 v5 v8 v11 v14 v15 v16 v3154), ∀ a x, ((![v15, v3154, v11] : Fin 3 → IVec S16 32) a x).toNat < S2x64x64.size a := fun v5 v8 v11 v14 v15 v16 v3154 k0_hw39 => k0_hw39.2.1
theorem k0_idx307_inb : ∀ (v5 : IVec S16 32) (v8 : IVec S16 32) (v11 : IVec S16 32) (v14 : IVec S16 32) (v15 : IVec S16 32) (v16 : IVec S16 32) (v3154 : IVec S16 32) (k0_hw39 : k0_chk39 v5 v8 v11 v14 v15 v16 v3154), ∀ a x, ((![v15, v3154, v8] : Fin 3 → IVec S16 32) a x).toNat < S2x64x64.size a := fun v5 v8 v11 v14 v15 v16 v3154 k0_hw39 => k0_hw39.2.2.1
theorem k0_idx308_inb : ∀ (v5 : IVec S16 32) (v8 : IVec S16 32) (v11 : IVec S16 32) (v14 : IVec S16 32) (v15 : IVec S16 32) (v16 : IVec S16 32) (v3154 : IVec S16 32) (k0_hw39 : k0_chk39 v5 v8 v11 v14 v15 v16 v3154), ∀ a x, ((![v15, v3154, v5] : Fin 3 → IVec S16 32) a x).toNat < S2x64x64.size a := fun v5 v8 v11 v14 v15 v16 v3154 k0_hw39 => k0_hw39.2.2.2.1
theorem k0_idx309_inb : ∀ (v5 : IVec S16 32) (v8 : IVec S16 32) (v11 : IVec S16 32) (v14 : IVec S16 32) (v15 : IVec S16 32) (v16 : IVec S16 32) (v3154 : IVec S16 32) (k0_hw39 : k0_chk39 v5 v8 v11 v14 v15 v16 v3154), ∀ a x, ((![v16, v3154, v14] : Fin 3 → IVec S16 32) a x).toNat < S2x64x64.size a := fun v5 v8 v11 v14 v15 v16 v3154 k0_hw39 => k0_hw39.2.2.2.2.1
theorem k0_idx310_inb : ∀ (v5 : IVec S16 32) (v8 : IVec S16 32) (v11 : IVec S16 32) (v14 : IVec S16 32) (v15 : IVec S16 32) (v16 : IVec S16 32) (v3154 : IVec S16 32) (k0_hw39 : k0_chk39 v5 v8 v11 v14 v15 v16 v3154), ∀ a x, ((![v16, v3154, v11] : Fin 3 → IVec S16 32) a x).toNat < S2x64x64.size a := fun v5 v8 v11 v14 v15 v16 v3154 k0_hw39 => k0_hw39.2.2.2.2.2.1
theorem k0_idx311_inb : ∀ (v5 : IVec S16 32) (v8 : IVec S16 32) (v11 : IVec S16 32) (v14 : IVec S16 32) (v15 : IVec S16 32) (v16 : IVec S16 32) (v3154 : IVec S16 32) (k0_hw39 : k0_chk39 v5 v8 v11 v14 v15 v16 v3154), ∀ a x, ((![v16, v3154, v8] : Fin 3 → IVec S16 32) a x).toNat < S2x64x64.size a := fun v5 v8 v11 v14 v15 v16 v3154 k0_hw39 => k0_hw39.2.2.2.2.2.2.1
theorem k0_idx312_inb : ∀ (v5 : IVec S16 32) (v8 : IVec S16 32) (v11 : IVec S16 32) (v14 : IVec S16 32) (v15 : IVec S16 32) (v16 : IVec S16 32) (v3154 : IVec S16 32) (k0_hw39 : k0_chk39 v5 v8 v11 v14 v15 v16 v3154), ∀ a x, ((![v16, v3154, v5] : Fin 3 → IVec S16 32) a x).toNat < S2x64x64.size a := fun v5 v8 v11 v14 v15 v16 v3154 k0_hw39 => k0_hw39.2.2.2.2.2.2.2
def k0_off338 (k0_t39 : Fin k0_t39_loop.trips) : Fin 4 → Nat :=
  let c2_i32_5358 : BitVec 32 := 2#32
  let v3203 : Index := Scalar.indexCast c2_i32_5358
  let c1_i32_5359 : BitVec 32 := 1#32
  let v3204 : Index := Scalar.indexCast c1_i32_5359
  let c0_i32_5325 : BitVec 32 := 0#32
  let c0_i32_2167 : BitVec 32 := 0#32
  let c1_i32_2169 : BitVec 32 := 1#32
  let arg17 : BitVec 32 := Scf.iv c0_i32_2167 c1_i32_2169 k0_t39
  let c1_i32_5324 : BitVec 32 := 1#32
  let v3152 : BitVec 32 := Scalar.muli arg17 c1_i32_5324
  let v3153 : BitVec 32 := Scalar.addi c0_i32_5325 v3152
  let v3205 : Index := Scalar.indexCast v3153
  let c0_5360 : Index := 0#32
  ![2, 1, v3205.toNat, 0]
def k0_off339 (k0_t39 : Fin k0_t39_loop.trips) : Fin 4 → Nat :=
  let c2_i32_5361 : BitVec 32 := 2#32
  let v3209 : Index := Scalar.indexCast c2_i32_5361
  let c1_i32_5362 : BitVec 32 := 1#32
  let v3210 : Index := Scalar.indexCast c1_i32_5362
  let c0_i32_5325 : BitVec 32 := 0#32
  let c0_i32_2167 : BitVec 32 := 0#32
  let c1_i32_2169 : BitVec 32 := 1#32
  let arg17 : BitVec 32 := Scf.iv c0_i32_2167 c1_i32_2169 k0_t39
  let c1_i32_5324 : BitVec 32 := 1#32
  let v3152 : BitVec 32 := Scalar.muli arg17 c1_i32_5324
  let v3153 : BitVec 32 := Scalar.addi c0_i32_5325 v3152
  let v3211 : Index := Scalar.indexCast v3153
  let c16_5363 : Index := 16#32
  ![2, 1, v3211.toNat, 16]
def k0_off340 (k0_t39 : Fin k0_t39_loop.trips) : Fin 4 → Nat :=
  let c2_i32_5364 : BitVec 32 := 2#32
  let v3215 : Index := Scalar.indexCast c2_i32_5364
  let c1_i32_5365 : BitVec 32 := 1#32
  let v3216 : Index := Scalar.indexCast c1_i32_5365
  let c0_i32_5325 : BitVec 32 := 0#32
  let c0_i32_2167 : BitVec 32 := 0#32
  let c1_i32_2169 : BitVec 32 := 1#32
  let arg17 : BitVec 32 := Scf.iv c0_i32_2167 c1_i32_2169 k0_t39
  let c1_i32_5324 : BitVec 32 := 1#32
  let v3152 : BitVec 32 := Scalar.muli arg17 c1_i32_5324
  let v3153 : BitVec 32 := Scalar.addi c0_i32_5325 v3152
  let v3217 : Index := Scalar.indexCast v3153
  let c32_5366 : Index := 32#32
  ![2, 1, v3217.toNat, 32]
def k0_off341 (k0_t39 : Fin k0_t39_loop.trips) : Fin 4 → Nat :=
  let c2_i32_5367 : BitVec 32 := 2#32
  let v3221 : Index := Scalar.indexCast c2_i32_5367
  let c1_i32_5368 : BitVec 32 := 1#32
  let v3222 : Index := Scalar.indexCast c1_i32_5368
  let c0_i32_5325 : BitVec 32 := 0#32
  let c0_i32_2167 : BitVec 32 := 0#32
  let c1_i32_2169 : BitVec 32 := 1#32
  let arg17 : BitVec 32 := Scf.iv c0_i32_2167 c1_i32_2169 k0_t39
  let c1_i32_5324 : BitVec 32 := 1#32
  let v3152 : BitVec 32 := Scalar.muli arg17 c1_i32_5324
  let v3153 : BitVec 32 := Scalar.addi c0_i32_5325 v3152
  let v3223 : Index := Scalar.indexCast v3153
  let c48_5369 : Index := 48#32
  ![2, 1, v3223.toNat, 48]
@[reducible] def k0_t40_loop : Scf.Loop 32 :=
  let c0_i32_2224 : BitVec 32 := 0#32
  let c64_i32_2225 : BitVec 32 := 64#32
  let v1328 : BitVec 32 := Scalar.addi c0_i32_2224 c64_i32_2225
  let c1_i32_2226 : BitVec 32 := 1#32
  ⟨c0_i32_2224, v1328, c1_i32_2226⟩
def k0_off342 (k0_t40 : Fin k0_t40_loop.trips) : Fin 4 → Nat :=
  let c0_i32_5338 : BitVec 32 := 0#32
  let v3167 : Index := Scalar.indexCast c0_i32_5338
  let c0_i32_5339 : BitVec 32 := 0#32
  let v3168 : Index := Scalar.indexCast c0_i32_5339
  let c0_i32_5325 : BitVec 32 := 0#32
  let c0_i32_2224 : BitVec 32 := 0#32
  let c1_i32_2226 : BitVec 32 := 1#32
  let arg17 : BitVec 32 := Scf.iv c0_i32_2224 c1_i32_2226 k0_t40
  let c1_i32_5324 : BitVec 32 := 1#32
  let v3152 : BitVec 32 := Scalar.muli arg17 c1_i32_5324
  let v3153 : BitVec 32 := Scalar.addi c0_i32_5325 v3152
  let v3169 : Index := Scalar.indexCast v3153
  let c0 : Index := 0#32
  ![0, 0, v3169.toNat, 0]
def k0_off343 (k0_t40 : Fin k0_t40_loop.trips) : Fin 4 → Nat :=
  let c0_i32_5340 : BitVec 32 := 0#32
  let v3173 : Index := Scalar.indexCast c0_i32_5340
  let c0_i32_5341 : BitVec 32 := 0#32
  let v3174 : Index := Scalar.indexCast c0_i32_5341
  let c0_i32_5325 : BitVec 32 := 0#32
  let c0_i32_2224 : BitVec 32 := 0#32
  let c1_i32_2226 : BitVec 32 := 1#32
  let arg17 : BitVec 32 := Scf.iv c0_i32_2224 c1_i32_2226 k0_t40
  let c1_i32_5324 : BitVec 32 := 1#32
  let v3152 : BitVec 32 := Scalar.muli arg17 c1_i32_5324
  let v3153 : BitVec 32 := Scalar.addi c0_i32_5325 v3152
  let v3175 : Index := Scalar.indexCast v3153
  let c16 : Index := 16#32
  ![0, 0, v3175.toNat, 16]
def k0_off344 (k0_t40 : Fin k0_t40_loop.trips) : Fin 4 → Nat :=
  let c0_i32_5342 : BitVec 32 := 0#32
  let v3179 : Index := Scalar.indexCast c0_i32_5342
  let c0_i32_5343 : BitVec 32 := 0#32
  let v3180 : Index := Scalar.indexCast c0_i32_5343
  let c0_i32_5325 : BitVec 32 := 0#32
  let c0_i32_2224 : BitVec 32 := 0#32
  let c1_i32_2226 : BitVec 32 := 1#32
  let arg17 : BitVec 32 := Scf.iv c0_i32_2224 c1_i32_2226 k0_t40
  let c1_i32_5324 : BitVec 32 := 1#32
  let v3152 : BitVec 32 := Scalar.muli arg17 c1_i32_5324
  let v3153 : BitVec 32 := Scalar.addi c0_i32_5325 v3152
  let v3181 : Index := Scalar.indexCast v3153
  let c32 : Index := 32#32
  ![0, 0, v3181.toNat, 32]
def k0_off345 (k0_t40 : Fin k0_t40_loop.trips) : Fin 4 → Nat :=
  let c0_i32_5344 : BitVec 32 := 0#32
  let v3185 : Index := Scalar.indexCast c0_i32_5344
  let c0_i32_5345 : BitVec 32 := 0#32
  let v3186 : Index := Scalar.indexCast c0_i32_5345
  let c0_i32_5325 : BitVec 32 := 0#32
  let c0_i32_2224 : BitVec 32 := 0#32
  let c1_i32_2226 : BitVec 32 := 1#32
  let arg17 : BitVec 32 := Scf.iv c0_i32_2224 c1_i32_2226 k0_t40
  let c1_i32_5324 : BitVec 32 := 1#32
  let v3152 : BitVec 32 := Scalar.muli arg17 c1_i32_5324
  let v3153 : BitVec 32 := Scalar.addi c0_i32_5325 v3152
  let v3187 : Index := Scalar.indexCast v3153
  let c48 : Index := 48#32
  ![0, 0, v3187.toNat, 48]

def k0_chk40 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx313_inb : ∀ (v5 : IVec S16 32) (v8 : IVec S16 32) (v11 : IVec S16 32) (v14 : IVec S16 32) (v15 : IVec S16 32) (v16 : IVec S16 32) (v3154 : IVec S16 32) (k0_hw40 : k0_chk40 v5 v8 v11 v14 v15 v16 v3154), ∀ a x, ((![v15, v3154, v14] : Fin 3 → IVec S16 32) a x).toNat < S2x64x64.size a := fun v5 v8 v11 v14 v15 v16 v3154 k0_hw40 => k0_hw40.1
theorem k0_idx314_inb : ∀ (v5 : IVec S16 32) (v8 : IVec S16 32) (v11 : IVec S16 32) (v14 : IVec S16 32) (v15 : IVec S16 32) (v16 : IVec S16 32) (v3154 : IVec S16 32) (k0_hw40 : k0_chk40 v5 v8 v11 v14 v15 v16 v3154), ∀ a x, ((![v15, v3154, v11] : Fin 3 → IVec S16 32) a x).toNat < S2x64x64.size a := fun v5 v8 v11 v14 v15 v16 v3154 k0_hw40 => k0_hw40.2.1
theorem k0_idx315_inb : ∀ (v5 : IVec S16 32) (v8 : IVec S16 32) (v11 : IVec S16 32) (v14 : IVec S16 32) (v15 : IVec S16 32) (v16 : IVec S16 32) (v3154 : IVec S16 32) (k0_hw40 : k0_chk40 v5 v8 v11 v14 v15 v16 v3154), ∀ a x, ((![v15, v3154, v8] : Fin 3 → IVec S16 32) a x).toNat < S2x64x64.size a := fun v5 v8 v11 v14 v15 v16 v3154 k0_hw40 => k0_hw40.2.2.1
theorem k0_idx316_inb : ∀ (v5 : IVec S16 32) (v8 : IVec S16 32) (v11 : IVec S16 32) (v14 : IVec S16 32) (v15 : IVec S16 32) (v16 : IVec S16 32) (v3154 : IVec S16 32) (k0_hw40 : k0_chk40 v5 v8 v11 v14 v15 v16 v3154), ∀ a x, ((![v15, v3154, v5] : Fin 3 → IVec S16 32) a x).toNat < S2x64x64.size a := fun v5 v8 v11 v14 v15 v16 v3154 k0_hw40 => k0_hw40.2.2.2.1
theorem k0_idx317_inb : ∀ (v5 : IVec S16 32) (v8 : IVec S16 32) (v11 : IVec S16 32) (v14 : IVec S16 32) (v15 : IVec S16 32) (v16 : IVec S16 32) (v3154 : IVec S16 32) (k0_hw40 : k0_chk40 v5 v8 v11 v14 v15 v16 v3154), ∀ a x, ((![v16, v3154, v14] : Fin 3 → IVec S16 32) a x).toNat < S2x64x64.size a := fun v5 v8 v11 v14 v15 v16 v3154 k0_hw40 => k0_hw40.2.2.2.2.1
theorem k0_idx318_inb : ∀ (v5 : IVec S16 32) (v8 : IVec S16 32) (v11 : IVec S16 32) (v14 : IVec S16 32) (v15 : IVec S16 32) (v16 : IVec S16 32) (v3154 : IVec S16 32) (k0_hw40 : k0_chk40 v5 v8 v11 v14 v15 v16 v3154), ∀ a x, ((![v16, v3154, v11] : Fin 3 → IVec S16 32) a x).toNat < S2x64x64.size a := fun v5 v8 v11 v14 v15 v16 v3154 k0_hw40 => k0_hw40.2.2.2.2.2.1
theorem k0_idx319_inb : ∀ (v5 : IVec S16 32) (v8 : IVec S16 32) (v11 : IVec S16 32) (v14 : IVec S16 32) (v15 : IVec S16 32) (v16 : IVec S16 32) (v3154 : IVec S16 32) (k0_hw40 : k0_chk40 v5 v8 v11 v14 v15 v16 v3154), ∀ a x, ((![v16, v3154, v8] : Fin 3 → IVec S16 32) a x).toNat < S2x64x64.size a := fun v5 v8 v11 v14 v15 v16 v3154 k0_hw40 => k0_hw40.2.2.2.2.2.2.1
theorem k0_idx320_inb : ∀ (v5 : IVec S16 32) (v8 : IVec S16 32) (v11 : IVec S16 32) (v14 : IVec S16 32) (v15 : IVec S16 32) (v16 : IVec S16 32) (v3154 : IVec S16 32) (k0_hw40 : k0_chk40 v5 v8 v11 v14 v15 v16 v3154), ∀ a x, ((![v16, v3154, v5] : Fin 3 → IVec S16 32) a x).toNat < S2x64x64.size a := fun v5 v8 v11 v14 v15 v16 v3154 k0_hw40 => k0_hw40.2.2.2.2.2.2.2
def k0_off346 (k0_t40 : Fin k0_t40_loop.trips) : Fin 4 → Nat :=
  let c0_i32_5358 : BitVec 32 := 0#32
  let v3203 : Index := Scalar.indexCast c0_i32_5358
  let c1_i32_5359 : BitVec 32 := 1#32
  let v3204 : Index := Scalar.indexCast c1_i32_5359
  let c0_i32_5325 : BitVec 32 := 0#32
  let c0_i32_2224 : BitVec 32 := 0#32
  let c1_i32_2226 : BitVec 32 := 1#32
  let arg17 : BitVec 32 := Scf.iv c0_i32_2224 c1_i32_2226 k0_t40
  let c1_i32_5324 : BitVec 32 := 1#32
  let v3152 : BitVec 32 := Scalar.muli arg17 c1_i32_5324
  let v3153 : BitVec 32 := Scalar.addi c0_i32_5325 v3152
  let v3205 : Index := Scalar.indexCast v3153
  let c0_5360 : Index := 0#32
  ![0, 1, v3205.toNat, 0]
def k0_off347 (k0_t40 : Fin k0_t40_loop.trips) : Fin 4 → Nat :=
  let c0_i32_5361 : BitVec 32 := 0#32
  let v3209 : Index := Scalar.indexCast c0_i32_5361
  let c1_i32_5362 : BitVec 32 := 1#32
  let v3210 : Index := Scalar.indexCast c1_i32_5362
  let c0_i32_5325 : BitVec 32 := 0#32
  let c0_i32_2224 : BitVec 32 := 0#32
  let c1_i32_2226 : BitVec 32 := 1#32
  let arg17 : BitVec 32 := Scf.iv c0_i32_2224 c1_i32_2226 k0_t40
  let c1_i32_5324 : BitVec 32 := 1#32
  let v3152 : BitVec 32 := Scalar.muli arg17 c1_i32_5324
  let v3153 : BitVec 32 := Scalar.addi c0_i32_5325 v3152
  let v3211 : Index := Scalar.indexCast v3153
  let c16_5363 : Index := 16#32
  ![0, 1, v3211.toNat, 16]
def k0_off348 (k0_t40 : Fin k0_t40_loop.trips) : Fin 4 → Nat :=
  let c0_i32_5364 : BitVec 32 := 0#32
  let v3215 : Index := Scalar.indexCast c0_i32_5364
  let c1_i32_5365 : BitVec 32 := 1#32
  let v3216 : Index := Scalar.indexCast c1_i32_5365
  let c0_i32_5325 : BitVec 32 := 0#32
  let c0_i32_2224 : BitVec 32 := 0#32
  let c1_i32_2226 : BitVec 32 := 1#32
  let arg17 : BitVec 32 := Scf.iv c0_i32_2224 c1_i32_2226 k0_t40
  let c1_i32_5324 : BitVec 32 := 1#32
  let v3152 : BitVec 32 := Scalar.muli arg17 c1_i32_5324
  let v3153 : BitVec 32 := Scalar.addi c0_i32_5325 v3152
  let v3217 : Index := Scalar.indexCast v3153
  let c32_5366 : Index := 32#32
  ![0, 1, v3217.toNat, 32]
def k0_off349 (k0_t40 : Fin k0_t40_loop.trips) : Fin 4 → Nat :=
  let c0_i32_5367 : BitVec 32 := 0#32
  let v3221 : Index := Scalar.indexCast c0_i32_5367
  let c1_i32_5368 : BitVec 32 := 1#32
  let v3222 : Index := Scalar.indexCast c1_i32_5368
  let c0_i32_5325 : BitVec 32 := 0#32
  let c0_i32_2224 : BitVec 32 := 0#32
  let c1_i32_2226 : BitVec 32 := 1#32
  let arg17 : BitVec 32 := Scf.iv c0_i32_2224 c1_i32_2226 k0_t40
  let c1_i32_5324 : BitVec 32 := 1#32
  let v3152 : BitVec 32 := Scalar.muli arg17 c1_i32_5324
  let v3153 : BitVec 32 := Scalar.addi c0_i32_5325 v3152
  let v3223 : Index := Scalar.indexCast v3153
  let c48_5369 : Index := 48#32
  ![0, 1, v3223.toNat, 48]
def k0_off350 (i : grid0.Coords) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c9_i32_2241 : BitVec 32 := 9#32
  let c1_i32_2242 : BitVec 32 := 1#32
  let c0_i32_2247 : BitVec 32 := 0#32
  let c0_i32_2248 : BitVec 32 := 0#32
  ![v2.toNat, 9, 1, 0, 0]
@[reducible] def k0_t41_loop : Scf.Loop 32 :=
  let c0_i32_2280 : BitVec 32 := 0#32
  let c64_i32_2281 : BitVec 32 := 64#32
  let v1361 : BitVec 32 := Scalar.addi c0_i32_2280 c64_i32_2281
  let c1_i32_2282 : BitVec 32 := 1#32
  ⟨c0_i32_2280, v1361, c1_i32_2282⟩
def k0_off351 (k0_t41 : Fin k0_t41_loop.trips) : Fin 4 → Nat :=
  let c1_i32_5338 : BitVec 32 := 1#32
  let v3167 : Index := Scalar.indexCast c1_i32_5338
  let c0_i32_5339 : BitVec 32 := 0#32
  let v3168 : Index := Scalar.indexCast c0_i32_5339
  let c0_i32_5325 : BitVec 32 := 0#32
  let c0_i32_2280 : BitVec 32 := 0#32
  let c1_i32_2282 : BitVec 32 := 1#32
  let arg17 : BitVec 32 := Scf.iv c0_i32_2280 c1_i32_2282 k0_t41
  let c1_i32_5324 : BitVec 32 := 1#32
  let v3152 : BitVec 32 := Scalar.muli arg17 c1_i32_5324
  let v3153 : BitVec 32 := Scalar.addi c0_i32_5325 v3152
  let v3169 : Index := Scalar.indexCast v3153
  let c0 : Index := 0#32
  ![1, 0, v3169.toNat, 0]
def k0_off352 (k0_t41 : Fin k0_t41_loop.trips) : Fin 4 → Nat :=
  let c1_i32_5340 : BitVec 32 := 1#32
  let v3173 : Index := Scalar.indexCast c1_i32_5340
  let c0_i32_5341 : BitVec 32 := 0#32
  let v3174 : Index := Scalar.indexCast c0_i32_5341
  let c0_i32_5325 : BitVec 32 := 0#32
  let c0_i32_2280 : BitVec 32 := 0#32
  let c1_i32_2282 : BitVec 32 := 1#32
  let arg17 : BitVec 32 := Scf.iv c0_i32_2280 c1_i32_2282 k0_t41
  let c1_i32_5324 : BitVec 32 := 1#32
  let v3152 : BitVec 32 := Scalar.muli arg17 c1_i32_5324
  let v3153 : BitVec 32 := Scalar.addi c0_i32_5325 v3152
  let v3175 : Index := Scalar.indexCast v3153
  let c16 : Index := 16#32
  ![1, 0, v3175.toNat, 16]
def k0_off353 (k0_t41 : Fin k0_t41_loop.trips) : Fin 4 → Nat :=
  let c1_i32_5342 : BitVec 32 := 1#32
  let v3179 : Index := Scalar.indexCast c1_i32_5342
  let c0_i32_5343 : BitVec 32 := 0#32
  let v3180 : Index := Scalar.indexCast c0_i32_5343
  let c0_i32_5325 : BitVec 32 := 0#32
  let c0_i32_2280 : BitVec 32 := 0#32
  let c1_i32_2282 : BitVec 32 := 1#32
  let arg17 : BitVec 32 := Scf.iv c0_i32_2280 c1_i32_2282 k0_t41
  let c1_i32_5324 : BitVec 32 := 1#32
  let v3152 : BitVec 32 := Scalar.muli arg17 c1_i32_5324
  let v3153 : BitVec 32 := Scalar.addi c0_i32_5325 v3152
  let v3181 : Index := Scalar.indexCast v3153
  let c32 : Index := 32#32
  ![1, 0, v3181.toNat, 32]
def k0_off354 (k0_t41 : Fin k0_t41_loop.trips) : Fin 4 → Nat :=
  let c1_i32_5344 : BitVec 32 := 1#32
  let v3185 : Index := Scalar.indexCast c1_i32_5344
  let c0_i32_5345 : BitVec 32 := 0#32
  let v3186 : Index := Scalar.indexCast c0_i32_5345
  let c0_i32_5325 : BitVec 32 := 0#32
  let c0_i32_2280 : BitVec 32 := 0#32
  let c1_i32_2282 : BitVec 32 := 1#32
  let arg17 : BitVec 32 := Scf.iv c0_i32_2280 c1_i32_2282 k0_t41
  let c1_i32_5324 : BitVec 32 := 1#32
  let v3152 : BitVec 32 := Scalar.muli arg17 c1_i32_5324
  let v3153 : BitVec 32 := Scalar.addi c0_i32_5325 v3152
  let v3187 : Index := Scalar.indexCast v3153
  let c48 : Index := 48#32
  ![1, 0, v3187.toNat, 48]

def k0_chk41 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx321_inb : ∀ (v5 : IVec S16 32) (v8 : IVec S16 32) (v11 : IVec S16 32) (v14 : IVec S16 32) (v15 : IVec S16 32) (v16 : IVec S16 32) (v3154 : IVec S16 32) (k0_hw41 : k0_chk41 v5 v8 v11 v14 v15 v16 v3154), ∀ a x, ((![v15, v3154, v14] : Fin 3 → IVec S16 32) a x).toNat < S2x64x64.size a := fun v5 v8 v11 v14 v15 v16 v3154 k0_hw41 => k0_hw41.1
theorem k0_idx322_inb : ∀ (v5 : IVec S16 32) (v8 : IVec S16 32) (v11 : IVec S16 32) (v14 : IVec S16 32) (v15 : IVec S16 32) (v16 : IVec S16 32) (v3154 : IVec S16 32) (k0_hw41 : k0_chk41 v5 v8 v11 v14 v15 v16 v3154), ∀ a x, ((![v15, v3154, v11] : Fin 3 → IVec S16 32) a x).toNat < S2x64x64.size a := fun v5 v8 v11 v14 v15 v16 v3154 k0_hw41 => k0_hw41.2.1
theorem k0_idx323_inb : ∀ (v5 : IVec S16 32) (v8 : IVec S16 32) (v11 : IVec S16 32) (v14 : IVec S16 32) (v15 : IVec S16 32) (v16 : IVec S16 32) (v3154 : IVec S16 32) (k0_hw41 : k0_chk41 v5 v8 v11 v14 v15 v16 v3154), ∀ a x, ((![v15, v3154, v8] : Fin 3 → IVec S16 32) a x).toNat < S2x64x64.size a := fun v5 v8 v11 v14 v15 v16 v3154 k0_hw41 => k0_hw41.2.2.1
theorem k0_idx324_inb : ∀ (v5 : IVec S16 32) (v8 : IVec S16 32) (v11 : IVec S16 32) (v14 : IVec S16 32) (v15 : IVec S16 32) (v16 : IVec S16 32) (v3154 : IVec S16 32) (k0_hw41 : k0_chk41 v5 v8 v11 v14 v15 v16 v3154), ∀ a x, ((![v15, v3154, v5] : Fin 3 → IVec S16 32) a x).toNat < S2x64x64.size a := fun v5 v8 v11 v14 v15 v16 v3154 k0_hw41 => k0_hw41.2.2.2.1
theorem k0_idx325_inb : ∀ (v5 : IVec S16 32) (v8 : IVec S16 32) (v11 : IVec S16 32) (v14 : IVec S16 32) (v15 : IVec S16 32) (v16 : IVec S16 32) (v3154 : IVec S16 32) (k0_hw41 : k0_chk41 v5 v8 v11 v14 v15 v16 v3154), ∀ a x, ((![v16, v3154, v14] : Fin 3 → IVec S16 32) a x).toNat < S2x64x64.size a := fun v5 v8 v11 v14 v15 v16 v3154 k0_hw41 => k0_hw41.2.2.2.2.1
theorem k0_idx326_inb : ∀ (v5 : IVec S16 32) (v8 : IVec S16 32) (v11 : IVec S16 32) (v14 : IVec S16 32) (v15 : IVec S16 32) (v16 : IVec S16 32) (v3154 : IVec S16 32) (k0_hw41 : k0_chk41 v5 v8 v11 v14 v15 v16 v3154), ∀ a x, ((![v16, v3154, v11] : Fin 3 → IVec S16 32) a x).toNat < S2x64x64.size a := fun v5 v8 v11 v14 v15 v16 v3154 k0_hw41 => k0_hw41.2.2.2.2.2.1
theorem k0_idx327_inb : ∀ (v5 : IVec S16 32) (v8 : IVec S16 32) (v11 : IVec S16 32) (v14 : IVec S16 32) (v15 : IVec S16 32) (v16 : IVec S16 32) (v3154 : IVec S16 32) (k0_hw41 : k0_chk41 v5 v8 v11 v14 v15 v16 v3154), ∀ a x, ((![v16, v3154, v8] : Fin 3 → IVec S16 32) a x).toNat < S2x64x64.size a := fun v5 v8 v11 v14 v15 v16 v3154 k0_hw41 => k0_hw41.2.2.2.2.2.2.1
theorem k0_idx328_inb : ∀ (v5 : IVec S16 32) (v8 : IVec S16 32) (v11 : IVec S16 32) (v14 : IVec S16 32) (v15 : IVec S16 32) (v16 : IVec S16 32) (v3154 : IVec S16 32) (k0_hw41 : k0_chk41 v5 v8 v11 v14 v15 v16 v3154), ∀ a x, ((![v16, v3154, v5] : Fin 3 → IVec S16 32) a x).toNat < S2x64x64.size a := fun v5 v8 v11 v14 v15 v16 v3154 k0_hw41 => k0_hw41.2.2.2.2.2.2.2
def k0_off355 (k0_t41 : Fin k0_t41_loop.trips) : Fin 4 → Nat :=
  let c1_i32_5358 : BitVec 32 := 1#32
  let v3203 : Index := Scalar.indexCast c1_i32_5358
  let c1_i32_5359 : BitVec 32 := 1#32
  let v3204 : Index := Scalar.indexCast c1_i32_5359
  let c0_i32_5325 : BitVec 32 := 0#32
  let c0_i32_2280 : BitVec 32 := 0#32
  let c1_i32_2282 : BitVec 32 := 1#32
  let arg17 : BitVec 32 := Scf.iv c0_i32_2280 c1_i32_2282 k0_t41
  let c1_i32_5324 : BitVec 32 := 1#32
  let v3152 : BitVec 32 := Scalar.muli arg17 c1_i32_5324
  let v3153 : BitVec 32 := Scalar.addi c0_i32_5325 v3152
  let v3205 : Index := Scalar.indexCast v3153
  let c0_5360 : Index := 0#32
  ![1, 1, v3205.toNat, 0]
def k0_off356 (k0_t41 : Fin k0_t41_loop.trips) : Fin 4 → Nat :=
  let c1_i32_5361 : BitVec 32 := 1#32
  let v3209 : Index := Scalar.indexCast c1_i32_5361
  let c1_i32_5362 : BitVec 32 := 1#32
  let v3210 : Index := Scalar.indexCast c1_i32_5362
  let c0_i32_5325 : BitVec 32 := 0#32
  let c0_i32_2280 : BitVec 32 := 0#32
  let c1_i32_2282 : BitVec 32 := 1#32
  let arg17 : BitVec 32 := Scf.iv c0_i32_2280 c1_i32_2282 k0_t41
  let c1_i32_5324 : BitVec 32 := 1#32
  let v3152 : BitVec 32 := Scalar.muli arg17 c1_i32_5324
  let v3153 : BitVec 32 := Scalar.addi c0_i32_5325 v3152
  let v3211 : Index := Scalar.indexCast v3153
  let c16_5363 : Index := 16#32
  ![1, 1, v3211.toNat, 16]
def k0_off357 (k0_t41 : Fin k0_t41_loop.trips) : Fin 4 → Nat :=
  let c1_i32_5364 : BitVec 32 := 1#32
  let v3215 : Index := Scalar.indexCast c1_i32_5364
  let c1_i32_5365 : BitVec 32 := 1#32
  let v3216 : Index := Scalar.indexCast c1_i32_5365
  let c0_i32_5325 : BitVec 32 := 0#32
  let c0_i32_2280 : BitVec 32 := 0#32
  let c1_i32_2282 : BitVec 32 := 1#32
  let arg17 : BitVec 32 := Scf.iv c0_i32_2280 c1_i32_2282 k0_t41
  let c1_i32_5324 : BitVec 32 := 1#32
  let v3152 : BitVec 32 := Scalar.muli arg17 c1_i32_5324
  let v3153 : BitVec 32 := Scalar.addi c0_i32_5325 v3152
  let v3217 : Index := Scalar.indexCast v3153
  let c32_5366 : Index := 32#32
  ![1, 1, v3217.toNat, 32]
def k0_off358 (k0_t41 : Fin k0_t41_loop.trips) : Fin 4 → Nat :=
  let c1_i32_5367 : BitVec 32 := 1#32
  let v3221 : Index := Scalar.indexCast c1_i32_5367
  let c1_i32_5368 : BitVec 32 := 1#32
  let v3222 : Index := Scalar.indexCast c1_i32_5368
  let c0_i32_5325 : BitVec 32 := 0#32
  let c0_i32_2280 : BitVec 32 := 0#32
  let c1_i32_2282 : BitVec 32 := 1#32
  let arg17 : BitVec 32 := Scf.iv c0_i32_2280 c1_i32_2282 k0_t41
  let c1_i32_5324 : BitVec 32 := 1#32
  let v3152 : BitVec 32 := Scalar.muli arg17 c1_i32_5324
  let v3153 : BitVec 32 := Scalar.addi c0_i32_5325 v3152
  let v3223 : Index := Scalar.indexCast v3153
  let c48_5369 : Index := 48#32
  ![1, 1, v3223.toNat, 48]
def k0_off359 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c8_i32 : BitVec 32 := 8#32
  let c0_i32_2288 : BitVec 32 := 0#32
  let c0_i32_2289 : BitVec 32 := 0#32
  ![v2.toNat, 8, 0, 0]
@[reducible] def k0_t42_loop : Scf.Loop 32 :=
  let c0_i32_2335 : BitVec 32 := 0#32
  let c64_i32_2336 : BitVec 32 := 64#32
  let v1394 : BitVec 32 := Scalar.addi c0_i32_2335 c64_i32_2336
  let c1_i32_2337 : BitVec 32 := 1#32
  ⟨c0_i32_2335, v1394, c1_i32_2337⟩
def k0_off360 (k0_t42 : Fin k0_t42_loop.trips) : Fin 4 → Nat :=
  let c2_i32_5341 : BitVec 32 := 2#32
  let v3175 : Index := Scalar.indexCast c2_i32_5341
  let c0_i32_5342 : BitVec 32 := 0#32
  let v3176 : Index := Scalar.indexCast c0_i32_5342
  let c0_i32_5325 : BitVec 32 := 0#32
  let c0_i32_2335 : BitVec 32 := 0#32
  let c1_i32_2337 : BitVec 32 := 1#32
  let arg17 : BitVec 32 := Scf.iv c0_i32_2335 c1_i32_2337 k0_t42
  let c1_i32_5324 : BitVec 32 := 1#32
  let v3152 : BitVec 32 := Scalar.muli arg17 c1_i32_5324
  let v3153 : BitVec 32 := Scalar.addi c0_i32_5325 v3152
  let v3177 : Index := Scalar.indexCast v3153
  let c0 : Index := 0#32
  ![2, 0, v3177.toNat, 0]
def k0_off361 (k0_t42 : Fin k0_t42_loop.trips) : Fin 4 → Nat :=
  let c2_i32_5343 : BitVec 32 := 2#32
  let v3181 : Index := Scalar.indexCast c2_i32_5343
  let c0_i32_5344 : BitVec 32 := 0#32
  let v3182 : Index := Scalar.indexCast c0_i32_5344
  let c0_i32_5325 : BitVec 32 := 0#32
  let c0_i32_2335 : BitVec 32 := 0#32
  let c1_i32_2337 : BitVec 32 := 1#32
  let arg17 : BitVec 32 := Scf.iv c0_i32_2335 c1_i32_2337 k0_t42
  let c1_i32_5324 : BitVec 32 := 1#32
  let v3152 : BitVec 32 := Scalar.muli arg17 c1_i32_5324
  let v3153 : BitVec 32 := Scalar.addi c0_i32_5325 v3152
  let v3183 : Index := Scalar.indexCast v3153
  let c16 : Index := 16#32
  ![2, 0, v3183.toNat, 16]
def k0_off362 (k0_t42 : Fin k0_t42_loop.trips) : Fin 4 → Nat :=
  let c2_i32_5345 : BitVec 32 := 2#32
  let v3187 : Index := Scalar.indexCast c2_i32_5345
  let c0_i32_5346 : BitVec 32 := 0#32
  let v3188 : Index := Scalar.indexCast c0_i32_5346
  let c0_i32_5325 : BitVec 32 := 0#32
  let c0_i32_2335 : BitVec 32 := 0#32
  let c1_i32_2337 : BitVec 32 := 1#32
  let arg17 : BitVec 32 := Scf.iv c0_i32_2335 c1_i32_2337 k0_t42
  let c1_i32_5324 : BitVec 32 := 1#32
  let v3152 : BitVec 32 := Scalar.muli arg17 c1_i32_5324
  let v3153 : BitVec 32 := Scalar.addi c0_i32_5325 v3152
  let v3189 : Index := Scalar.indexCast v3153
  let c32 : Index := 32#32
  ![2, 0, v3189.toNat, 32]
def k0_off363 (k0_t42 : Fin k0_t42_loop.trips) : Fin 4 → Nat :=
  let c2_i32_5347 : BitVec 32 := 2#32
  let v3193 : Index := Scalar.indexCast c2_i32_5347
  let c0_i32_5348 : BitVec 32 := 0#32
  let v3194 : Index := Scalar.indexCast c0_i32_5348
  let c0_i32_5325 : BitVec 32 := 0#32
  let c0_i32_2335 : BitVec 32 := 0#32
  let c1_i32_2337 : BitVec 32 := 1#32
  let arg17 : BitVec 32 := Scf.iv c0_i32_2335 c1_i32_2337 k0_t42
  let c1_i32_5324 : BitVec 32 := 1#32
  let v3152 : BitVec 32 := Scalar.muli arg17 c1_i32_5324
  let v3153 : BitVec 32 := Scalar.addi c0_i32_5325 v3152
  let v3195 : Index := Scalar.indexCast v3153
  let c48 : Index := 48#32
  ![2, 0, v3195.toNat, 48]

def k0_chk42 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx329_inb : ∀ (v5 : IVec S16 32) (v8 : IVec S16 32) (v11 : IVec S16 32) (v14 : IVec S16 32) (v15 : IVec S16 32) (v16 : IVec S16 32) (v3154 : IVec S16 32) (k0_hw42 : k0_chk42 v5 v8 v11 v14 v15 v16 v3154), ∀ a x, ((![v15, v3154, v14] : Fin 3 → IVec S16 32) a x).toNat < S2x64x64.size a := fun v5 v8 v11 v14 v15 v16 v3154 k0_hw42 => k0_hw42.1
theorem k0_idx330_inb : ∀ (v5 : IVec S16 32) (v8 : IVec S16 32) (v11 : IVec S16 32) (v14 : IVec S16 32) (v15 : IVec S16 32) (v16 : IVec S16 32) (v3154 : IVec S16 32) (k0_hw42 : k0_chk42 v5 v8 v11 v14 v15 v16 v3154), ∀ a x, ((![v15, v3154, v11] : Fin 3 → IVec S16 32) a x).toNat < S2x64x64.size a := fun v5 v8 v11 v14 v15 v16 v3154 k0_hw42 => k0_hw42.2.1
theorem k0_idx331_inb : ∀ (v5 : IVec S16 32) (v8 : IVec S16 32) (v11 : IVec S16 32) (v14 : IVec S16 32) (v15 : IVec S16 32) (v16 : IVec S16 32) (v3154 : IVec S16 32) (k0_hw42 : k0_chk42 v5 v8 v11 v14 v15 v16 v3154), ∀ a x, ((![v15, v3154, v8] : Fin 3 → IVec S16 32) a x).toNat < S2x64x64.size a := fun v5 v8 v11 v14 v15 v16 v3154 k0_hw42 => k0_hw42.2.2.1
theorem k0_idx332_inb : ∀ (v5 : IVec S16 32) (v8 : IVec S16 32) (v11 : IVec S16 32) (v14 : IVec S16 32) (v15 : IVec S16 32) (v16 : IVec S16 32) (v3154 : IVec S16 32) (k0_hw42 : k0_chk42 v5 v8 v11 v14 v15 v16 v3154), ∀ a x, ((![v15, v3154, v5] : Fin 3 → IVec S16 32) a x).toNat < S2x64x64.size a := fun v5 v8 v11 v14 v15 v16 v3154 k0_hw42 => k0_hw42.2.2.2.1
theorem k0_idx333_inb : ∀ (v5 : IVec S16 32) (v8 : IVec S16 32) (v11 : IVec S16 32) (v14 : IVec S16 32) (v15 : IVec S16 32) (v16 : IVec S16 32) (v3154 : IVec S16 32) (k0_hw42 : k0_chk42 v5 v8 v11 v14 v15 v16 v3154), ∀ a x, ((![v16, v3154, v14] : Fin 3 → IVec S16 32) a x).toNat < S2x64x64.size a := fun v5 v8 v11 v14 v15 v16 v3154 k0_hw42 => k0_hw42.2.2.2.2.1
theorem k0_idx334_inb : ∀ (v5 : IVec S16 32) (v8 : IVec S16 32) (v11 : IVec S16 32) (v14 : IVec S16 32) (v15 : IVec S16 32) (v16 : IVec S16 32) (v3154 : IVec S16 32) (k0_hw42 : k0_chk42 v5 v8 v11 v14 v15 v16 v3154), ∀ a x, ((![v16, v3154, v11] : Fin 3 → IVec S16 32) a x).toNat < S2x64x64.size a := fun v5 v8 v11 v14 v15 v16 v3154 k0_hw42 => k0_hw42.2.2.2.2.2.1
theorem k0_idx335_inb : ∀ (v5 : IVec S16 32) (v8 : IVec S16 32) (v11 : IVec S16 32) (v14 : IVec S16 32) (v15 : IVec S16 32) (v16 : IVec S16 32) (v3154 : IVec S16 32) (k0_hw42 : k0_chk42 v5 v8 v11 v14 v15 v16 v3154), ∀ a x, ((![v16, v3154, v8] : Fin 3 → IVec S16 32) a x).toNat < S2x64x64.size a := fun v5 v8 v11 v14 v15 v16 v3154 k0_hw42 => k0_hw42.2.2.2.2.2.2.1
theorem k0_idx336_inb : ∀ (v5 : IVec S16 32) (v8 : IVec S16 32) (v11 : IVec S16 32) (v14 : IVec S16 32) (v15 : IVec S16 32) (v16 : IVec S16 32) (v3154 : IVec S16 32) (k0_hw42 : k0_chk42 v5 v8 v11 v14 v15 v16 v3154), ∀ a x, ((![v16, v3154, v5] : Fin 3 → IVec S16 32) a x).toNat < S2x64x64.size a := fun v5 v8 v11 v14 v15 v16 v3154 k0_hw42 => k0_hw42.2.2.2.2.2.2.2
def k0_off364 (k0_t42 : Fin k0_t42_loop.trips) : Fin 4 → Nat :=
  let c2_i32_5365 : BitVec 32 := 2#32
  let v3219 : Index := Scalar.indexCast c2_i32_5365
  let c1_i32_5366 : BitVec 32 := 1#32
  let v3220 : Index := Scalar.indexCast c1_i32_5366
  let c0_i32_5325 : BitVec 32 := 0#32
  let c0_i32_2335 : BitVec 32 := 0#32
  let c1_i32_2337 : BitVec 32 := 1#32
  let arg17 : BitVec 32 := Scf.iv c0_i32_2335 c1_i32_2337 k0_t42
  let c1_i32_5324 : BitVec 32 := 1#32
  let v3152 : BitVec 32 := Scalar.muli arg17 c1_i32_5324
  let v3153 : BitVec 32 := Scalar.addi c0_i32_5325 v3152
  let v3221 : Index := Scalar.indexCast v3153
  let c0_5367 : Index := 0#32
  ![2, 1, v3221.toNat, 0]
def k0_off365 (k0_t42 : Fin k0_t42_loop.trips) : Fin 4 → Nat :=
  let c2_i32_5368 : BitVec 32 := 2#32
  let v3225 : Index := Scalar.indexCast c2_i32_5368
  let c1_i32_5369 : BitVec 32 := 1#32
  let v3226 : Index := Scalar.indexCast c1_i32_5369
  let c0_i32_5325 : BitVec 32 := 0#32
  let c0_i32_2335 : BitVec 32 := 0#32
  let c1_i32_2337 : BitVec 32 := 1#32
  let arg17 : BitVec 32 := Scf.iv c0_i32_2335 c1_i32_2337 k0_t42
  let c1_i32_5324 : BitVec 32 := 1#32
  let v3152 : BitVec 32 := Scalar.muli arg17 c1_i32_5324
  let v3153 : BitVec 32 := Scalar.addi c0_i32_5325 v3152
  let v3227 : Index := Scalar.indexCast v3153
  let c16_5370 : Index := 16#32
  ![2, 1, v3227.toNat, 16]
def k0_off366 (k0_t42 : Fin k0_t42_loop.trips) : Fin 4 → Nat :=
  let c2_i32_5371 : BitVec 32 := 2#32
  let v3231 : Index := Scalar.indexCast c2_i32_5371
  let c1_i32_5372 : BitVec 32 := 1#32
  let v3232 : Index := Scalar.indexCast c1_i32_5372
  let c0_i32_5325 : BitVec 32 := 0#32
  let c0_i32_2335 : BitVec 32 := 0#32
  let c1_i32_2337 : BitVec 32 := 1#32
  let arg17 : BitVec 32 := Scf.iv c0_i32_2335 c1_i32_2337 k0_t42
  let c1_i32_5324 : BitVec 32 := 1#32
  let v3152 : BitVec 32 := Scalar.muli arg17 c1_i32_5324
  let v3153 : BitVec 32 := Scalar.addi c0_i32_5325 v3152
  let v3233 : Index := Scalar.indexCast v3153
  let c32_5373 : Index := 32#32
  ![2, 1, v3233.toNat, 32]
def k0_off367 (k0_t42 : Fin k0_t42_loop.trips) : Fin 4 → Nat :=
  let c2_i32_5374 : BitVec 32 := 2#32
  let v3237 : Index := Scalar.indexCast c2_i32_5374
  let c1_i32_5375 : BitVec 32 := 1#32
  let v3238 : Index := Scalar.indexCast c1_i32_5375
  let c0_i32_5325 : BitVec 32 := 0#32
  let c0_i32_2335 : BitVec 32 := 0#32
  let c1_i32_2337 : BitVec 32 := 1#32
  let arg17 : BitVec 32 := Scf.iv c0_i32_2335 c1_i32_2337 k0_t42
  let c1_i32_5324 : BitVec 32 := 1#32
  let v3152 : BitVec 32 := Scalar.muli arg17 c1_i32_5324
  let v3153 : BitVec 32 := Scalar.addi c0_i32_5325 v3152
  let v3239 : Index := Scalar.indexCast v3153
  let c48_5376 : Index := 48#32
  ![2, 1, v3239.toNat, 48]
def k0_off368 (i : grid0.Coords) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c8_i32_2340 : BitVec 32 := 8#32
  let c0_i32_2341 : BitVec 32 := 0#32
  let c0_i32_2345 : BitVec 32 := 0#32
  let c0_i32_2346 : BitVec 32 := 0#32
  ![v2.toNat, 8, 0, 0, 0]
@[reducible] def k0_t43_loop : Scf.Loop 32 :=
  let c0_i32_2391 : BitVec 32 := 0#32
  let c64_i32_2392 : BitVec 32 := 64#32
  let v1427 : BitVec 32 := Scalar.addi c0_i32_2391 c64_i32_2392
  let c1_i32_2393 : BitVec 32 := 1#32
  ⟨c0_i32_2391, v1427, c1_i32_2393⟩
def k0_off369 (k0_t43 : Fin k0_t43_loop.trips) : Fin 4 → Nat :=
  let c0_i32_5341 : BitVec 32 := 0#32
  let v3175 : Index := Scalar.indexCast c0_i32_5341
  let c0_i32_5342 : BitVec 32 := 0#32
  let v3176 : Index := Scalar.indexCast c0_i32_5342
  let c0_i32_5325 : BitVec 32 := 0#32
  let c0_i32_2391 : BitVec 32 := 0#32
  let c1_i32_2393 : BitVec 32 := 1#32
  let arg17 : BitVec 32 := Scf.iv c0_i32_2391 c1_i32_2393 k0_t43
  let c1_i32_5324 : BitVec 32 := 1#32
  let v3152 : BitVec 32 := Scalar.muli arg17 c1_i32_5324
  let v3153 : BitVec 32 := Scalar.addi c0_i32_5325 v3152
  let v3177 : Index := Scalar.indexCast v3153
  let c0 : Index := 0#32
  ![0, 0, v3177.toNat, 0]
def k0_off370 (k0_t43 : Fin k0_t43_loop.trips) : Fin 4 → Nat :=
  let c0_i32_5343 : BitVec 32 := 0#32
  let v3181 : Index := Scalar.indexCast c0_i32_5343
  let c0_i32_5344 : BitVec 32 := 0#32
  let v3182 : Index := Scalar.indexCast c0_i32_5344
  let c0_i32_5325 : BitVec 32 := 0#32
  let c0_i32_2391 : BitVec 32 := 0#32
  let c1_i32_2393 : BitVec 32 := 1#32
  let arg17 : BitVec 32 := Scf.iv c0_i32_2391 c1_i32_2393 k0_t43
  let c1_i32_5324 : BitVec 32 := 1#32
  let v3152 : BitVec 32 := Scalar.muli arg17 c1_i32_5324
  let v3153 : BitVec 32 := Scalar.addi c0_i32_5325 v3152
  let v3183 : Index := Scalar.indexCast v3153
  let c16 : Index := 16#32
  ![0, 0, v3183.toNat, 16]
def k0_off371 (k0_t43 : Fin k0_t43_loop.trips) : Fin 4 → Nat :=
  let c0_i32_5345 : BitVec 32 := 0#32
  let v3187 : Index := Scalar.indexCast c0_i32_5345
  let c0_i32_5346 : BitVec 32 := 0#32
  let v3188 : Index := Scalar.indexCast c0_i32_5346
  let c0_i32_5325 : BitVec 32 := 0#32
  let c0_i32_2391 : BitVec 32 := 0#32
  let c1_i32_2393 : BitVec 32 := 1#32
  let arg17 : BitVec 32 := Scf.iv c0_i32_2391 c1_i32_2393 k0_t43
  let c1_i32_5324 : BitVec 32 := 1#32
  let v3152 : BitVec 32 := Scalar.muli arg17 c1_i32_5324
  let v3153 : BitVec 32 := Scalar.addi c0_i32_5325 v3152
  let v3189 : Index := Scalar.indexCast v3153
  let c32 : Index := 32#32
  ![0, 0, v3189.toNat, 32]
def k0_off372 (k0_t43 : Fin k0_t43_loop.trips) : Fin 4 → Nat :=
  let c0_i32_5347 : BitVec 32 := 0#32
  let v3193 : Index := Scalar.indexCast c0_i32_5347
  let c0_i32_5348 : BitVec 32 := 0#32
  let v3194 : Index := Scalar.indexCast c0_i32_5348
  let c0_i32_5325 : BitVec 32 := 0#32
  let c0_i32_2391 : BitVec 32 := 0#32
  let c1_i32_2393 : BitVec 32 := 1#32
  let arg17 : BitVec 32 := Scf.iv c0_i32_2391 c1_i32_2393 k0_t43
  let c1_i32_5324 : BitVec 32 := 1#32
  let v3152 : BitVec 32 := Scalar.muli arg17 c1_i32_5324
  let v3153 : BitVec 32 := Scalar.addi c0_i32_5325 v3152
  let v3195 : Index := Scalar.indexCast v3153
  let c48 : Index := 48#32
  ![0, 0, v3195.toNat, 48]

def k0_chk43 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx337_inb : ∀ (v5 : IVec S16 32) (v8 : IVec S16 32) (v11 : IVec S16 32) (v14 : IVec S16 32) (v15 : IVec S16 32) (v16 : IVec S16 32) (v3154 : IVec S16 32) (k0_hw43 : k0_chk43 v5 v8 v11 v14 v15 v16 v3154), ∀ a x, ((![v15, v3154, v14] : Fin 3 → IVec S16 32) a x).toNat < S2x64x64.size a := fun v5 v8 v11 v14 v15 v16 v3154 k0_hw43 => k0_hw43.1
theorem k0_idx338_inb : ∀ (v5 : IVec S16 32) (v8 : IVec S16 32) (v11 : IVec S16 32) (v14 : IVec S16 32) (v15 : IVec S16 32) (v16 : IVec S16 32) (v3154 : IVec S16 32) (k0_hw43 : k0_chk43 v5 v8 v11 v14 v15 v16 v3154), ∀ a x, ((![v15, v3154, v11] : Fin 3 → IVec S16 32) a x).toNat < S2x64x64.size a := fun v5 v8 v11 v14 v15 v16 v3154 k0_hw43 => k0_hw43.2.1
theorem k0_idx339_inb : ∀ (v5 : IVec S16 32) (v8 : IVec S16 32) (v11 : IVec S16 32) (v14 : IVec S16 32) (v15 : IVec S16 32) (v16 : IVec S16 32) (v3154 : IVec S16 32) (k0_hw43 : k0_chk43 v5 v8 v11 v14 v15 v16 v3154), ∀ a x, ((![v15, v3154, v8] : Fin 3 → IVec S16 32) a x).toNat < S2x64x64.size a := fun v5 v8 v11 v14 v15 v16 v3154 k0_hw43 => k0_hw43.2.2.1
theorem k0_idx340_inb : ∀ (v5 : IVec S16 32) (v8 : IVec S16 32) (v11 : IVec S16 32) (v14 : IVec S16 32) (v15 : IVec S16 32) (v16 : IVec S16 32) (v3154 : IVec S16 32) (k0_hw43 : k0_chk43 v5 v8 v11 v14 v15 v16 v3154), ∀ a x, ((![v15, v3154, v5] : Fin 3 → IVec S16 32) a x).toNat < S2x64x64.size a := fun v5 v8 v11 v14 v15 v16 v3154 k0_hw43 => k0_hw43.2.2.2.1
theorem k0_idx341_inb : ∀ (v5 : IVec S16 32) (v8 : IVec S16 32) (v11 : IVec S16 32) (v14 : IVec S16 32) (v15 : IVec S16 32) (v16 : IVec S16 32) (v3154 : IVec S16 32) (k0_hw43 : k0_chk43 v5 v8 v11 v14 v15 v16 v3154), ∀ a x, ((![v16, v3154, v14] : Fin 3 → IVec S16 32) a x).toNat < S2x64x64.size a := fun v5 v8 v11 v14 v15 v16 v3154 k0_hw43 => k0_hw43.2.2.2.2.1
theorem k0_idx342_inb : ∀ (v5 : IVec S16 32) (v8 : IVec S16 32) (v11 : IVec S16 32) (v14 : IVec S16 32) (v15 : IVec S16 32) (v16 : IVec S16 32) (v3154 : IVec S16 32) (k0_hw43 : k0_chk43 v5 v8 v11 v14 v15 v16 v3154), ∀ a x, ((![v16, v3154, v11] : Fin 3 → IVec S16 32) a x).toNat < S2x64x64.size a := fun v5 v8 v11 v14 v15 v16 v3154 k0_hw43 => k0_hw43.2.2.2.2.2.1
theorem k0_idx343_inb : ∀ (v5 : IVec S16 32) (v8 : IVec S16 32) (v11 : IVec S16 32) (v14 : IVec S16 32) (v15 : IVec S16 32) (v16 : IVec S16 32) (v3154 : IVec S16 32) (k0_hw43 : k0_chk43 v5 v8 v11 v14 v15 v16 v3154), ∀ a x, ((![v16, v3154, v8] : Fin 3 → IVec S16 32) a x).toNat < S2x64x64.size a := fun v5 v8 v11 v14 v15 v16 v3154 k0_hw43 => k0_hw43.2.2.2.2.2.2.1
theorem k0_idx344_inb : ∀ (v5 : IVec S16 32) (v8 : IVec S16 32) (v11 : IVec S16 32) (v14 : IVec S16 32) (v15 : IVec S16 32) (v16 : IVec S16 32) (v3154 : IVec S16 32) (k0_hw43 : k0_chk43 v5 v8 v11 v14 v15 v16 v3154), ∀ a x, ((![v16, v3154, v5] : Fin 3 → IVec S16 32) a x).toNat < S2x64x64.size a := fun v5 v8 v11 v14 v15 v16 v3154 k0_hw43 => k0_hw43.2.2.2.2.2.2.2
def k0_off373 (k0_t43 : Fin k0_t43_loop.trips) : Fin 4 → Nat :=
  let c0_i32_5365 : BitVec 32 := 0#32
  let v3219 : Index := Scalar.indexCast c0_i32_5365
  let c1_i32_5366 : BitVec 32 := 1#32
  let v3220 : Index := Scalar.indexCast c1_i32_5366
  let c0_i32_5325 : BitVec 32 := 0#32
  let c0_i32_2391 : BitVec 32 := 0#32
  let c1_i32_2393 : BitVec 32 := 1#32
  let arg17 : BitVec 32 := Scf.iv c0_i32_2391 c1_i32_2393 k0_t43
  let c1_i32_5324 : BitVec 32 := 1#32
  let v3152 : BitVec 32 := Scalar.muli arg17 c1_i32_5324
  let v3153 : BitVec 32 := Scalar.addi c0_i32_5325 v3152
  let v3221 : Index := Scalar.indexCast v3153
  let c0_5367 : Index := 0#32
  ![0, 1, v3221.toNat, 0]
def k0_off374 (k0_t43 : Fin k0_t43_loop.trips) : Fin 4 → Nat :=
  let c0_i32_5368 : BitVec 32 := 0#32
  let v3225 : Index := Scalar.indexCast c0_i32_5368
  let c1_i32_5369 : BitVec 32 := 1#32
  let v3226 : Index := Scalar.indexCast c1_i32_5369
  let c0_i32_5325 : BitVec 32 := 0#32
  let c0_i32_2391 : BitVec 32 := 0#32
  let c1_i32_2393 : BitVec 32 := 1#32
  let arg17 : BitVec 32 := Scf.iv c0_i32_2391 c1_i32_2393 k0_t43
  let c1_i32_5324 : BitVec 32 := 1#32
  let v3152 : BitVec 32 := Scalar.muli arg17 c1_i32_5324
  let v3153 : BitVec 32 := Scalar.addi c0_i32_5325 v3152
  let v3227 : Index := Scalar.indexCast v3153
  let c16_5370 : Index := 16#32
  ![0, 1, v3227.toNat, 16]
def k0_off375 (k0_t43 : Fin k0_t43_loop.trips) : Fin 4 → Nat :=
  let c0_i32_5371 : BitVec 32 := 0#32
  let v3231 : Index := Scalar.indexCast c0_i32_5371
  let c1_i32_5372 : BitVec 32 := 1#32
  let v3232 : Index := Scalar.indexCast c1_i32_5372
  let c0_i32_5325 : BitVec 32 := 0#32
  let c0_i32_2391 : BitVec 32 := 0#32
  let c1_i32_2393 : BitVec 32 := 1#32
  let arg17 : BitVec 32 := Scf.iv c0_i32_2391 c1_i32_2393 k0_t43
  let c1_i32_5324 : BitVec 32 := 1#32
  let v3152 : BitVec 32 := Scalar.muli arg17 c1_i32_5324
  let v3153 : BitVec 32 := Scalar.addi c0_i32_5325 v3152
  let v3233 : Index := Scalar.indexCast v3153
  let c32_5373 : Index := 32#32
  ![0, 1, v3233.toNat, 32]
def k0_off376 (k0_t43 : Fin k0_t43_loop.trips) : Fin 4 → Nat :=
  let c0_i32_5374 : BitVec 32 := 0#32
  let v3237 : Index := Scalar.indexCast c0_i32_5374
  let c1_i32_5375 : BitVec 32 := 1#32
  let v3238 : Index := Scalar.indexCast c1_i32_5375
  let c0_i32_5325 : BitVec 32 := 0#32
  let c0_i32_2391 : BitVec 32 := 0#32
  let c1_i32_2393 : BitVec 32 := 1#32
  let arg17 : BitVec 32 := Scf.iv c0_i32_2391 c1_i32_2393 k0_t43
  let c1_i32_5324 : BitVec 32 := 1#32
  let v3152 : BitVec 32 := Scalar.muli arg17 c1_i32_5324
  let v3153 : BitVec 32 := Scalar.addi c0_i32_5325 v3152
  let v3239 : Index := Scalar.indexCast v3153
  let c48_5376 : Index := 48#32
  ![0, 1, v3239.toNat, 48]
@[reducible] def k0_t44_loop : Scf.Loop 32 :=
  let c0_i32_2447 : BitVec 32 := 0#32
  let c64_i32_2448 : BitVec 32 := 64#32
  let v1460 : BitVec 32 := Scalar.addi c0_i32_2447 c64_i32_2448
  let c1_i32_2449 : BitVec 32 := 1#32
  ⟨c0_i32_2447, v1460, c1_i32_2449⟩
def k0_off377 (k0_t44 : Fin k0_t44_loop.trips) : Fin 4 → Nat :=
  let c1_i32_5338 : BitVec 32 := 1#32
  let v3167 : Index := Scalar.indexCast c1_i32_5338
  let c0_i32_5339 : BitVec 32 := 0#32
  let v3168 : Index := Scalar.indexCast c0_i32_5339
  let c0_i32_5325 : BitVec 32 := 0#32
  let c0_i32_2447 : BitVec 32 := 0#32
  let c1_i32_2449 : BitVec 32 := 1#32
  let arg17 : BitVec 32 := Scf.iv c0_i32_2447 c1_i32_2449 k0_t44
  let c1_i32_5324 : BitVec 32 := 1#32
  let v3152 : BitVec 32 := Scalar.muli arg17 c1_i32_5324
  let v3153 : BitVec 32 := Scalar.addi c0_i32_5325 v3152
  let v3169 : Index := Scalar.indexCast v3153
  let c0 : Index := 0#32
  ![1, 0, v3169.toNat, 0]
def k0_off378 (k0_t44 : Fin k0_t44_loop.trips) : Fin 4 → Nat :=
  let c1_i32_5340 : BitVec 32 := 1#32
  let v3173 : Index := Scalar.indexCast c1_i32_5340
  let c0_i32_5341 : BitVec 32 := 0#32
  let v3174 : Index := Scalar.indexCast c0_i32_5341
  let c0_i32_5325 : BitVec 32 := 0#32
  let c0_i32_2447 : BitVec 32 := 0#32
  let c1_i32_2449 : BitVec 32 := 1#32
  let arg17 : BitVec 32 := Scf.iv c0_i32_2447 c1_i32_2449 k0_t44
  let c1_i32_5324 : BitVec 32 := 1#32
  let v3152 : BitVec 32 := Scalar.muli arg17 c1_i32_5324
  let v3153 : BitVec 32 := Scalar.addi c0_i32_5325 v3152
  let v3175 : Index := Scalar.indexCast v3153
  let c16 : Index := 16#32
  ![1, 0, v3175.toNat, 16]
def k0_off379 (k0_t44 : Fin k0_t44_loop.trips) : Fin 4 → Nat :=
  let c1_i32_5342 : BitVec 32 := 1#32
  let v3179 : Index := Scalar.indexCast c1_i32_5342
  let c0_i32_5343 : BitVec 32 := 0#32
  let v3180 : Index := Scalar.indexCast c0_i32_5343
  let c0_i32_5325 : BitVec 32 := 0#32
  let c0_i32_2447 : BitVec 32 := 0#32
  let c1_i32_2449 : BitVec 32 := 1#32
  let arg17 : BitVec 32 := Scf.iv c0_i32_2447 c1_i32_2449 k0_t44
  let c1_i32_5324 : BitVec 32 := 1#32
  let v3152 : BitVec 32 := Scalar.muli arg17 c1_i32_5324
  let v3153 : BitVec 32 := Scalar.addi c0_i32_5325 v3152
  let v3181 : Index := Scalar.indexCast v3153
  let c32 : Index := 32#32
  ![1, 0, v3181.toNat, 32]
def k0_off380 (k0_t44 : Fin k0_t44_loop.trips) : Fin 4 → Nat :=
  let c1_i32_5344 : BitVec 32 := 1#32
  let v3185 : Index := Scalar.indexCast c1_i32_5344
  let c0_i32_5345 : BitVec 32 := 0#32
  let v3186 : Index := Scalar.indexCast c0_i32_5345
  let c0_i32_5325 : BitVec 32 := 0#32
  let c0_i32_2447 : BitVec 32 := 0#32
  let c1_i32_2449 : BitVec 32 := 1#32
  let arg17 : BitVec 32 := Scf.iv c0_i32_2447 c1_i32_2449 k0_t44
  let c1_i32_5324 : BitVec 32 := 1#32
  let v3152 : BitVec 32 := Scalar.muli arg17 c1_i32_5324
  let v3153 : BitVec 32 := Scalar.addi c0_i32_5325 v3152
  let v3187 : Index := Scalar.indexCast v3153
  let c48 : Index := 48#32
  ![1, 0, v3187.toNat, 48]

def k0_chk44 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx345_inb : ∀ (v5 : IVec S16 32) (v8 : IVec S16 32) (v11 : IVec S16 32) (v14 : IVec S16 32) (v15 : IVec S16 32) (v16 : IVec S16 32) (v3154 : IVec S16 32) (k0_hw44 : k0_chk44 v5 v8 v11 v14 v15 v16 v3154), ∀ a x, ((![v15, v3154, v14] : Fin 3 → IVec S16 32) a x).toNat < S2x64x64.size a := fun v5 v8 v11 v14 v15 v16 v3154 k0_hw44 => k0_hw44.1
theorem k0_idx346_inb : ∀ (v5 : IVec S16 32) (v8 : IVec S16 32) (v11 : IVec S16 32) (v14 : IVec S16 32) (v15 : IVec S16 32) (v16 : IVec S16 32) (v3154 : IVec S16 32) (k0_hw44 : k0_chk44 v5 v8 v11 v14 v15 v16 v3154), ∀ a x, ((![v15, v3154, v11] : Fin 3 → IVec S16 32) a x).toNat < S2x64x64.size a := fun v5 v8 v11 v14 v15 v16 v3154 k0_hw44 => k0_hw44.2.1
theorem k0_idx347_inb : ∀ (v5 : IVec S16 32) (v8 : IVec S16 32) (v11 : IVec S16 32) (v14 : IVec S16 32) (v15 : IVec S16 32) (v16 : IVec S16 32) (v3154 : IVec S16 32) (k0_hw44 : k0_chk44 v5 v8 v11 v14 v15 v16 v3154), ∀ a x, ((![v15, v3154, v8] : Fin 3 → IVec S16 32) a x).toNat < S2x64x64.size a := fun v5 v8 v11 v14 v15 v16 v3154 k0_hw44 => k0_hw44.2.2.1
theorem k0_idx348_inb : ∀ (v5 : IVec S16 32) (v8 : IVec S16 32) (v11 : IVec S16 32) (v14 : IVec S16 32) (v15 : IVec S16 32) (v16 : IVec S16 32) (v3154 : IVec S16 32) (k0_hw44 : k0_chk44 v5 v8 v11 v14 v15 v16 v3154), ∀ a x, ((![v15, v3154, v5] : Fin 3 → IVec S16 32) a x).toNat < S2x64x64.size a := fun v5 v8 v11 v14 v15 v16 v3154 k0_hw44 => k0_hw44.2.2.2.1
theorem k0_idx349_inb : ∀ (v5 : IVec S16 32) (v8 : IVec S16 32) (v11 : IVec S16 32) (v14 : IVec S16 32) (v15 : IVec S16 32) (v16 : IVec S16 32) (v3154 : IVec S16 32) (k0_hw44 : k0_chk44 v5 v8 v11 v14 v15 v16 v3154), ∀ a x, ((![v16, v3154, v14] : Fin 3 → IVec S16 32) a x).toNat < S2x64x64.size a := fun v5 v8 v11 v14 v15 v16 v3154 k0_hw44 => k0_hw44.2.2.2.2.1
theorem k0_idx350_inb : ∀ (v5 : IVec S16 32) (v8 : IVec S16 32) (v11 : IVec S16 32) (v14 : IVec S16 32) (v15 : IVec S16 32) (v16 : IVec S16 32) (v3154 : IVec S16 32) (k0_hw44 : k0_chk44 v5 v8 v11 v14 v15 v16 v3154), ∀ a x, ((![v16, v3154, v11] : Fin 3 → IVec S16 32) a x).toNat < S2x64x64.size a := fun v5 v8 v11 v14 v15 v16 v3154 k0_hw44 => k0_hw44.2.2.2.2.2.1
theorem k0_idx351_inb : ∀ (v5 : IVec S16 32) (v8 : IVec S16 32) (v11 : IVec S16 32) (v14 : IVec S16 32) (v15 : IVec S16 32) (v16 : IVec S16 32) (v3154 : IVec S16 32) (k0_hw44 : k0_chk44 v5 v8 v11 v14 v15 v16 v3154), ∀ a x, ((![v16, v3154, v8] : Fin 3 → IVec S16 32) a x).toNat < S2x64x64.size a := fun v5 v8 v11 v14 v15 v16 v3154 k0_hw44 => k0_hw44.2.2.2.2.2.2.1
theorem k0_idx352_inb : ∀ (v5 : IVec S16 32) (v8 : IVec S16 32) (v11 : IVec S16 32) (v14 : IVec S16 32) (v15 : IVec S16 32) (v16 : IVec S16 32) (v3154 : IVec S16 32) (k0_hw44 : k0_chk44 v5 v8 v11 v14 v15 v16 v3154), ∀ a x, ((![v16, v3154, v5] : Fin 3 → IVec S16 32) a x).toNat < S2x64x64.size a := fun v5 v8 v11 v14 v15 v16 v3154 k0_hw44 => k0_hw44.2.2.2.2.2.2.2
def k0_off381 (k0_t44 : Fin k0_t44_loop.trips) : Fin 4 → Nat :=
  let c1_i32_5358 : BitVec 32 := 1#32
  let v3203 : Index := Scalar.indexCast c1_i32_5358
  let c1_i32_5359 : BitVec 32 := 1#32
  let v3204 : Index := Scalar.indexCast c1_i32_5359
  let c0_i32_5325 : BitVec 32 := 0#32
  let c0_i32_2447 : BitVec 32 := 0#32
  let c1_i32_2449 : BitVec 32 := 1#32
  let arg17 : BitVec 32 := Scf.iv c0_i32_2447 c1_i32_2449 k0_t44
  let c1_i32_5324 : BitVec 32 := 1#32
  let v3152 : BitVec 32 := Scalar.muli arg17 c1_i32_5324
  let v3153 : BitVec 32 := Scalar.addi c0_i32_5325 v3152
  let v3205 : Index := Scalar.indexCast v3153
  let c0_5360 : Index := 0#32
  ![1, 1, v3205.toNat, 0]
def k0_off382 (k0_t44 : Fin k0_t44_loop.trips) : Fin 4 → Nat :=
  let c1_i32_5361 : BitVec 32 := 1#32
  let v3209 : Index := Scalar.indexCast c1_i32_5361
  let c1_i32_5362 : BitVec 32 := 1#32
  let v3210 : Index := Scalar.indexCast c1_i32_5362
  let c0_i32_5325 : BitVec 32 := 0#32
  let c0_i32_2447 : BitVec 32 := 0#32
  let c1_i32_2449 : BitVec 32 := 1#32
  let arg17 : BitVec 32 := Scf.iv c0_i32_2447 c1_i32_2449 k0_t44
  let c1_i32_5324 : BitVec 32 := 1#32
  let v3152 : BitVec 32 := Scalar.muli arg17 c1_i32_5324
  let v3153 : BitVec 32 := Scalar.addi c0_i32_5325 v3152
  let v3211 : Index := Scalar.indexCast v3153
  let c16_5363 : Index := 16#32
  ![1, 1, v3211.toNat, 16]
def k0_off383 (k0_t44 : Fin k0_t44_loop.trips) : Fin 4 → Nat :=
  let c1_i32_5364 : BitVec 32 := 1#32
  let v3215 : Index := Scalar.indexCast c1_i32_5364
  let c1_i32_5365 : BitVec 32 := 1#32
  let v3216 : Index := Scalar.indexCast c1_i32_5365
  let c0_i32_5325 : BitVec 32 := 0#32
  let c0_i32_2447 : BitVec 32 := 0#32
  let c1_i32_2449 : BitVec 32 := 1#32
  let arg17 : BitVec 32 := Scf.iv c0_i32_2447 c1_i32_2449 k0_t44
  let c1_i32_5324 : BitVec 32 := 1#32
  let v3152 : BitVec 32 := Scalar.muli arg17 c1_i32_5324
  let v3153 : BitVec 32 := Scalar.addi c0_i32_5325 v3152
  let v3217 : Index := Scalar.indexCast v3153
  let c32_5366 : Index := 32#32
  ![1, 1, v3217.toNat, 32]
def k0_off384 (k0_t44 : Fin k0_t44_loop.trips) : Fin 4 → Nat :=
  let c1_i32_5367 : BitVec 32 := 1#32
  let v3221 : Index := Scalar.indexCast c1_i32_5367
  let c1_i32_5368 : BitVec 32 := 1#32
  let v3222 : Index := Scalar.indexCast c1_i32_5368
  let c0_i32_5325 : BitVec 32 := 0#32
  let c0_i32_2447 : BitVec 32 := 0#32
  let c1_i32_2449 : BitVec 32 := 1#32
  let arg17 : BitVec 32 := Scf.iv c0_i32_2447 c1_i32_2449 k0_t44
  let c1_i32_5324 : BitVec 32 := 1#32
  let v3152 : BitVec 32 := Scalar.muli arg17 c1_i32_5324
  let v3153 : BitVec 32 := Scalar.addi c0_i32_5325 v3152
  let v3223 : Index := Scalar.indexCast v3153
  let c48_5369 : Index := 48#32
  ![1, 1, v3223.toNat, 48]
def k0_off385 (i : grid0.Coords) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c8_i32_2452 : BitVec 32 := 8#32
  let c1_i32_2453 : BitVec 32 := 1#32
  let c0_i32_2457 : BitVec 32 := 0#32
  let c0_i32_2458 : BitVec 32 := 0#32
  ![v2.toNat, 8, 1, 0, 0]
@[reducible] def k0_t45_loop : Scf.Loop 32 :=
  let c0_i32_2504 : BitVec 32 := 0#32
  let c64_i32_2505 : BitVec 32 := 64#32
  let v1493 : BitVec 32 := Scalar.addi c0_i32_2504 c64_i32_2505
  let c1_i32_2506 : BitVec 32 := 1#32
  ⟨c0_i32_2504, v1493, c1_i32_2506⟩
def k0_off386 (k0_t45 : Fin k0_t45_loop.trips) : Fin 4 → Nat :=
  let c2_i32_5338 : BitVec 32 := 2#32
  let v3167 : Index := Scalar.indexCast c2_i32_5338
  let c0_i32_5339 : BitVec 32 := 0#32
  let v3168 : Index := Scalar.indexCast c0_i32_5339
  let c0_i32_5325 : BitVec 32 := 0#32
  let c0_i32_2504 : BitVec 32 := 0#32
  let c1_i32_2506 : BitVec 32 := 1#32
  let arg17 : BitVec 32 := Scf.iv c0_i32_2504 c1_i32_2506 k0_t45
  let c1_i32_5324 : BitVec 32 := 1#32
  let v3152 : BitVec 32 := Scalar.muli arg17 c1_i32_5324
  let v3153 : BitVec 32 := Scalar.addi c0_i32_5325 v3152
  let v3169 : Index := Scalar.indexCast v3153
  let c0 : Index := 0#32
  ![2, 0, v3169.toNat, 0]
def k0_off387 (k0_t45 : Fin k0_t45_loop.trips) : Fin 4 → Nat :=
  let c2_i32_5340 : BitVec 32 := 2#32
  let v3173 : Index := Scalar.indexCast c2_i32_5340
  let c0_i32_5341 : BitVec 32 := 0#32
  let v3174 : Index := Scalar.indexCast c0_i32_5341
  let c0_i32_5325 : BitVec 32 := 0#32
  let c0_i32_2504 : BitVec 32 := 0#32
  let c1_i32_2506 : BitVec 32 := 1#32
  let arg17 : BitVec 32 := Scf.iv c0_i32_2504 c1_i32_2506 k0_t45
  let c1_i32_5324 : BitVec 32 := 1#32
  let v3152 : BitVec 32 := Scalar.muli arg17 c1_i32_5324
  let v3153 : BitVec 32 := Scalar.addi c0_i32_5325 v3152
  let v3175 : Index := Scalar.indexCast v3153
  let c16 : Index := 16#32
  ![2, 0, v3175.toNat, 16]
def k0_off388 (k0_t45 : Fin k0_t45_loop.trips) : Fin 4 → Nat :=
  let c2_i32_5342 : BitVec 32 := 2#32
  let v3179 : Index := Scalar.indexCast c2_i32_5342
  let c0_i32_5343 : BitVec 32 := 0#32
  let v3180 : Index := Scalar.indexCast c0_i32_5343
  let c0_i32_5325 : BitVec 32 := 0#32
  let c0_i32_2504 : BitVec 32 := 0#32
  let c1_i32_2506 : BitVec 32 := 1#32
  let arg17 : BitVec 32 := Scf.iv c0_i32_2504 c1_i32_2506 k0_t45
  let c1_i32_5324 : BitVec 32 := 1#32
  let v3152 : BitVec 32 := Scalar.muli arg17 c1_i32_5324
  let v3153 : BitVec 32 := Scalar.addi c0_i32_5325 v3152
  let v3181 : Index := Scalar.indexCast v3153
  let c32 : Index := 32#32
  ![2, 0, v3181.toNat, 32]
def k0_off389 (k0_t45 : Fin k0_t45_loop.trips) : Fin 4 → Nat :=
  let c2_i32_5344 : BitVec 32 := 2#32
  let v3185 : Index := Scalar.indexCast c2_i32_5344
  let c0_i32_5345 : BitVec 32 := 0#32
  let v3186 : Index := Scalar.indexCast c0_i32_5345
  let c0_i32_5325 : BitVec 32 := 0#32
  let c0_i32_2504 : BitVec 32 := 0#32
  let c1_i32_2506 : BitVec 32 := 1#32
  let arg17 : BitVec 32 := Scf.iv c0_i32_2504 c1_i32_2506 k0_t45
  let c1_i32_5324 : BitVec 32 := 1#32
  let v3152 : BitVec 32 := Scalar.muli arg17 c1_i32_5324
  let v3153 : BitVec 32 := Scalar.addi c0_i32_5325 v3152
  let v3187 : Index := Scalar.indexCast v3153
  let c48 : Index := 48#32
  ![2, 0, v3187.toNat, 48]

def k0_chk45 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx353_inb : ∀ (v5 : IVec S16 32) (v8 : IVec S16 32) (v11 : IVec S16 32) (v14 : IVec S16 32) (v15 : IVec S16 32) (v16 : IVec S16 32) (v3154 : IVec S16 32) (k0_hw45 : k0_chk45 v5 v8 v11 v14 v15 v16 v3154), ∀ a x, ((![v15, v3154, v14] : Fin 3 → IVec S16 32) a x).toNat < S2x64x64.size a := fun v5 v8 v11 v14 v15 v16 v3154 k0_hw45 => k0_hw45.1
theorem k0_idx354_inb : ∀ (v5 : IVec S16 32) (v8 : IVec S16 32) (v11 : IVec S16 32) (v14 : IVec S16 32) (v15 : IVec S16 32) (v16 : IVec S16 32) (v3154 : IVec S16 32) (k0_hw45 : k0_chk45 v5 v8 v11 v14 v15 v16 v3154), ∀ a x, ((![v15, v3154, v11] : Fin 3 → IVec S16 32) a x).toNat < S2x64x64.size a := fun v5 v8 v11 v14 v15 v16 v3154 k0_hw45 => k0_hw45.2.1
theorem k0_idx355_inb : ∀ (v5 : IVec S16 32) (v8 : IVec S16 32) (v11 : IVec S16 32) (v14 : IVec S16 32) (v15 : IVec S16 32) (v16 : IVec S16 32) (v3154 : IVec S16 32) (k0_hw45 : k0_chk45 v5 v8 v11 v14 v15 v16 v3154), ∀ a x, ((![v15, v3154, v8] : Fin 3 → IVec S16 32) a x).toNat < S2x64x64.size a := fun v5 v8 v11 v14 v15 v16 v3154 k0_hw45 => k0_hw45.2.2.1
theorem k0_idx356_inb : ∀ (v5 : IVec S16 32) (v8 : IVec S16 32) (v11 : IVec S16 32) (v14 : IVec S16 32) (v15 : IVec S16 32) (v16 : IVec S16 32) (v3154 : IVec S16 32) (k0_hw45 : k0_chk45 v5 v8 v11 v14 v15 v16 v3154), ∀ a x, ((![v15, v3154, v5] : Fin 3 → IVec S16 32) a x).toNat < S2x64x64.size a := fun v5 v8 v11 v14 v15 v16 v3154 k0_hw45 => k0_hw45.2.2.2.1
theorem k0_idx357_inb : ∀ (v5 : IVec S16 32) (v8 : IVec S16 32) (v11 : IVec S16 32) (v14 : IVec S16 32) (v15 : IVec S16 32) (v16 : IVec S16 32) (v3154 : IVec S16 32) (k0_hw45 : k0_chk45 v5 v8 v11 v14 v15 v16 v3154), ∀ a x, ((![v16, v3154, v14] : Fin 3 → IVec S16 32) a x).toNat < S2x64x64.size a := fun v5 v8 v11 v14 v15 v16 v3154 k0_hw45 => k0_hw45.2.2.2.2.1
theorem k0_idx358_inb : ∀ (v5 : IVec S16 32) (v8 : IVec S16 32) (v11 : IVec S16 32) (v14 : IVec S16 32) (v15 : IVec S16 32) (v16 : IVec S16 32) (v3154 : IVec S16 32) (k0_hw45 : k0_chk45 v5 v8 v11 v14 v15 v16 v3154), ∀ a x, ((![v16, v3154, v11] : Fin 3 → IVec S16 32) a x).toNat < S2x64x64.size a := fun v5 v8 v11 v14 v15 v16 v3154 k0_hw45 => k0_hw45.2.2.2.2.2.1
theorem k0_idx359_inb : ∀ (v5 : IVec S16 32) (v8 : IVec S16 32) (v11 : IVec S16 32) (v14 : IVec S16 32) (v15 : IVec S16 32) (v16 : IVec S16 32) (v3154 : IVec S16 32) (k0_hw45 : k0_chk45 v5 v8 v11 v14 v15 v16 v3154), ∀ a x, ((![v16, v3154, v8] : Fin 3 → IVec S16 32) a x).toNat < S2x64x64.size a := fun v5 v8 v11 v14 v15 v16 v3154 k0_hw45 => k0_hw45.2.2.2.2.2.2.1
theorem k0_idx360_inb : ∀ (v5 : IVec S16 32) (v8 : IVec S16 32) (v11 : IVec S16 32) (v14 : IVec S16 32) (v15 : IVec S16 32) (v16 : IVec S16 32) (v3154 : IVec S16 32) (k0_hw45 : k0_chk45 v5 v8 v11 v14 v15 v16 v3154), ∀ a x, ((![v16, v3154, v5] : Fin 3 → IVec S16 32) a x).toNat < S2x64x64.size a := fun v5 v8 v11 v14 v15 v16 v3154 k0_hw45 => k0_hw45.2.2.2.2.2.2.2
def k0_off390 (k0_t45 : Fin k0_t45_loop.trips) : Fin 4 → Nat :=
  let c2_i32_5358 : BitVec 32 := 2#32
  let v3203 : Index := Scalar.indexCast c2_i32_5358
  let c1_i32_5359 : BitVec 32 := 1#32
  let v3204 : Index := Scalar.indexCast c1_i32_5359
  let c0_i32_5325 : BitVec 32 := 0#32
  let c0_i32_2504 : BitVec 32 := 0#32
  let c1_i32_2506 : BitVec 32 := 1#32
  let arg17 : BitVec 32 := Scf.iv c0_i32_2504 c1_i32_2506 k0_t45
  let c1_i32_5324 : BitVec 32 := 1#32
  let v3152 : BitVec 32 := Scalar.muli arg17 c1_i32_5324
  let v3153 : BitVec 32 := Scalar.addi c0_i32_5325 v3152
  let v3205 : Index := Scalar.indexCast v3153
  let c0_5360 : Index := 0#32
  ![2, 1, v3205.toNat, 0]
def k0_off391 (k0_t45 : Fin k0_t45_loop.trips) : Fin 4 → Nat :=
  let c2_i32_5361 : BitVec 32 := 2#32
  let v3209 : Index := Scalar.indexCast c2_i32_5361
  let c1_i32_5362 : BitVec 32 := 1#32
  let v3210 : Index := Scalar.indexCast c1_i32_5362
  let c0_i32_5325 : BitVec 32 := 0#32
  let c0_i32_2504 : BitVec 32 := 0#32
  let c1_i32_2506 : BitVec 32 := 1#32
  let arg17 : BitVec 32 := Scf.iv c0_i32_2504 c1_i32_2506 k0_t45
  let c1_i32_5324 : BitVec 32 := 1#32
  let v3152 : BitVec 32 := Scalar.muli arg17 c1_i32_5324
  let v3153 : BitVec 32 := Scalar.addi c0_i32_5325 v3152
  let v3211 : Index := Scalar.indexCast v3153
  let c16_5363 : Index := 16#32
  ![2, 1, v3211.toNat, 16]
def k0_off392 (k0_t45 : Fin k0_t45_loop.trips) : Fin 4 → Nat :=
  let c2_i32_5364 : BitVec 32 := 2#32
  let v3215 : Index := Scalar.indexCast c2_i32_5364
  let c1_i32_5365 : BitVec 32 := 1#32
  let v3216 : Index := Scalar.indexCast c1_i32_5365
  let c0_i32_5325 : BitVec 32 := 0#32
  let c0_i32_2504 : BitVec 32 := 0#32
  let c1_i32_2506 : BitVec 32 := 1#32
  let arg17 : BitVec 32 := Scf.iv c0_i32_2504 c1_i32_2506 k0_t45
  let c1_i32_5324 : BitVec 32 := 1#32
  let v3152 : BitVec 32 := Scalar.muli arg17 c1_i32_5324
  let v3153 : BitVec 32 := Scalar.addi c0_i32_5325 v3152
  let v3217 : Index := Scalar.indexCast v3153
  let c32_5366 : Index := 32#32
  ![2, 1, v3217.toNat, 32]
def k0_off393 (k0_t45 : Fin k0_t45_loop.trips) : Fin 4 → Nat :=
  let c2_i32_5367 : BitVec 32 := 2#32
  let v3221 : Index := Scalar.indexCast c2_i32_5367
  let c1_i32_5368 : BitVec 32 := 1#32
  let v3222 : Index := Scalar.indexCast c1_i32_5368
  let c0_i32_5325 : BitVec 32 := 0#32
  let c0_i32_2504 : BitVec 32 := 0#32
  let c1_i32_2506 : BitVec 32 := 1#32
  let arg17 : BitVec 32 := Scf.iv c0_i32_2504 c1_i32_2506 k0_t45
  let c1_i32_5324 : BitVec 32 := 1#32
  let v3152 : BitVec 32 := Scalar.muli arg17 c1_i32_5324
  let v3153 : BitVec 32 := Scalar.addi c0_i32_5325 v3152
  let v3223 : Index := Scalar.indexCast v3153
  let c48_5369 : Index := 48#32
  ![2, 1, v3223.toNat, 48]
@[reducible] def k0_t46_loop : Scf.Loop 32 :=
  let c0_i32_2560 : BitVec 32 := 0#32
  let c64_i32_2561 : BitVec 32 := 64#32
  let v1526 : BitVec 32 := Scalar.addi c0_i32_2560 c64_i32_2561
  let c1_i32_2562 : BitVec 32 := 1#32
  ⟨c0_i32_2560, v1526, c1_i32_2562⟩
def k0_off394 (k0_t46 : Fin k0_t46_loop.trips) : Fin 4 → Nat :=
  let c0_i32_5338 : BitVec 32 := 0#32
  let v3167 : Index := Scalar.indexCast c0_i32_5338
  let c0_i32_5339 : BitVec 32 := 0#32
  let v3168 : Index := Scalar.indexCast c0_i32_5339
  let c0_i32_5325 : BitVec 32 := 0#32
  let c0_i32_2560 : BitVec 32 := 0#32
  let c1_i32_2562 : BitVec 32 := 1#32
  let arg17 : BitVec 32 := Scf.iv c0_i32_2560 c1_i32_2562 k0_t46
  let c1_i32_5324 : BitVec 32 := 1#32
  let v3152 : BitVec 32 := Scalar.muli arg17 c1_i32_5324
  let v3153 : BitVec 32 := Scalar.addi c0_i32_5325 v3152
  let v3169 : Index := Scalar.indexCast v3153
  let c0 : Index := 0#32
  ![0, 0, v3169.toNat, 0]
def k0_off395 (k0_t46 : Fin k0_t46_loop.trips) : Fin 4 → Nat :=
  let c0_i32_5340 : BitVec 32 := 0#32
  let v3173 : Index := Scalar.indexCast c0_i32_5340
  let c0_i32_5341 : BitVec 32 := 0#32
  let v3174 : Index := Scalar.indexCast c0_i32_5341
  let c0_i32_5325 : BitVec 32 := 0#32
  let c0_i32_2560 : BitVec 32 := 0#32
  let c1_i32_2562 : BitVec 32 := 1#32
  let arg17 : BitVec 32 := Scf.iv c0_i32_2560 c1_i32_2562 k0_t46
  let c1_i32_5324 : BitVec 32 := 1#32
  let v3152 : BitVec 32 := Scalar.muli arg17 c1_i32_5324
  let v3153 : BitVec 32 := Scalar.addi c0_i32_5325 v3152
  let v3175 : Index := Scalar.indexCast v3153
  let c16 : Index := 16#32
  ![0, 0, v3175.toNat, 16]
def k0_off396 (k0_t46 : Fin k0_t46_loop.trips) : Fin 4 → Nat :=
  let c0_i32_5342 : BitVec 32 := 0#32
  let v3179 : Index := Scalar.indexCast c0_i32_5342
  let c0_i32_5343 : BitVec 32 := 0#32
  let v3180 : Index := Scalar.indexCast c0_i32_5343
  let c0_i32_5325 : BitVec 32 := 0#32
  let c0_i32_2560 : BitVec 32 := 0#32
  let c1_i32_2562 : BitVec 32 := 1#32
  let arg17 : BitVec 32 := Scf.iv c0_i32_2560 c1_i32_2562 k0_t46
  let c1_i32_5324 : BitVec 32 := 1#32
  let v3152 : BitVec 32 := Scalar.muli arg17 c1_i32_5324
  let v3153 : BitVec 32 := Scalar.addi c0_i32_5325 v3152
  let v3181 : Index := Scalar.indexCast v3153
  let c32 : Index := 32#32
  ![0, 0, v3181.toNat, 32]
def k0_off397 (k0_t46 : Fin k0_t46_loop.trips) : Fin 4 → Nat :=
  let c0_i32_5344 : BitVec 32 := 0#32
  let v3185 : Index := Scalar.indexCast c0_i32_5344
  let c0_i32_5345 : BitVec 32 := 0#32
  let v3186 : Index := Scalar.indexCast c0_i32_5345
  let c0_i32_5325 : BitVec 32 := 0#32
  let c0_i32_2560 : BitVec 32 := 0#32
  let c1_i32_2562 : BitVec 32 := 1#32
  let arg17 : BitVec 32 := Scf.iv c0_i32_2560 c1_i32_2562 k0_t46
  let c1_i32_5324 : BitVec 32 := 1#32
  let v3152 : BitVec 32 := Scalar.muli arg17 c1_i32_5324
  let v3153 : BitVec 32 := Scalar.addi c0_i32_5325 v3152
  let v3187 : Index := Scalar.indexCast v3153
  let c48 : Index := 48#32
  ![0, 0, v3187.toNat, 48]

def k0_chk46 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx361_inb : ∀ (v5 : IVec S16 32) (v8 : IVec S16 32) (v11 : IVec S16 32) (v14 : IVec S16 32) (v15 : IVec S16 32) (v16 : IVec S16 32) (v3154 : IVec S16 32) (k0_hw46 : k0_chk46 v5 v8 v11 v14 v15 v16 v3154), ∀ a x, ((![v15, v3154, v14] : Fin 3 → IVec S16 32) a x).toNat < S2x64x64.size a := fun v5 v8 v11 v14 v15 v16 v3154 k0_hw46 => k0_hw46.1
theorem k0_idx362_inb : ∀ (v5 : IVec S16 32) (v8 : IVec S16 32) (v11 : IVec S16 32) (v14 : IVec S16 32) (v15 : IVec S16 32) (v16 : IVec S16 32) (v3154 : IVec S16 32) (k0_hw46 : k0_chk46 v5 v8 v11 v14 v15 v16 v3154), ∀ a x, ((![v15, v3154, v11] : Fin 3 → IVec S16 32) a x).toNat < S2x64x64.size a := fun v5 v8 v11 v14 v15 v16 v3154 k0_hw46 => k0_hw46.2.1
theorem k0_idx363_inb : ∀ (v5 : IVec S16 32) (v8 : IVec S16 32) (v11 : IVec S16 32) (v14 : IVec S16 32) (v15 : IVec S16 32) (v16 : IVec S16 32) (v3154 : IVec S16 32) (k0_hw46 : k0_chk46 v5 v8 v11 v14 v15 v16 v3154), ∀ a x, ((![v15, v3154, v8] : Fin 3 → IVec S16 32) a x).toNat < S2x64x64.size a := fun v5 v8 v11 v14 v15 v16 v3154 k0_hw46 => k0_hw46.2.2.1
theorem k0_idx364_inb : ∀ (v5 : IVec S16 32) (v8 : IVec S16 32) (v11 : IVec S16 32) (v14 : IVec S16 32) (v15 : IVec S16 32) (v16 : IVec S16 32) (v3154 : IVec S16 32) (k0_hw46 : k0_chk46 v5 v8 v11 v14 v15 v16 v3154), ∀ a x, ((![v15, v3154, v5] : Fin 3 → IVec S16 32) a x).toNat < S2x64x64.size a := fun v5 v8 v11 v14 v15 v16 v3154 k0_hw46 => k0_hw46.2.2.2.1
theorem k0_idx365_inb : ∀ (v5 : IVec S16 32) (v8 : IVec S16 32) (v11 : IVec S16 32) (v14 : IVec S16 32) (v15 : IVec S16 32) (v16 : IVec S16 32) (v3154 : IVec S16 32) (k0_hw46 : k0_chk46 v5 v8 v11 v14 v15 v16 v3154), ∀ a x, ((![v16, v3154, v14] : Fin 3 → IVec S16 32) a x).toNat < S2x64x64.size a := fun v5 v8 v11 v14 v15 v16 v3154 k0_hw46 => k0_hw46.2.2.2.2.1
theorem k0_idx366_inb : ∀ (v5 : IVec S16 32) (v8 : IVec S16 32) (v11 : IVec S16 32) (v14 : IVec S16 32) (v15 : IVec S16 32) (v16 : IVec S16 32) (v3154 : IVec S16 32) (k0_hw46 : k0_chk46 v5 v8 v11 v14 v15 v16 v3154), ∀ a x, ((![v16, v3154, v11] : Fin 3 → IVec S16 32) a x).toNat < S2x64x64.size a := fun v5 v8 v11 v14 v15 v16 v3154 k0_hw46 => k0_hw46.2.2.2.2.2.1
theorem k0_idx367_inb : ∀ (v5 : IVec S16 32) (v8 : IVec S16 32) (v11 : IVec S16 32) (v14 : IVec S16 32) (v15 : IVec S16 32) (v16 : IVec S16 32) (v3154 : IVec S16 32) (k0_hw46 : k0_chk46 v5 v8 v11 v14 v15 v16 v3154), ∀ a x, ((![v16, v3154, v8] : Fin 3 → IVec S16 32) a x).toNat < S2x64x64.size a := fun v5 v8 v11 v14 v15 v16 v3154 k0_hw46 => k0_hw46.2.2.2.2.2.2.1
theorem k0_idx368_inb : ∀ (v5 : IVec S16 32) (v8 : IVec S16 32) (v11 : IVec S16 32) (v14 : IVec S16 32) (v15 : IVec S16 32) (v16 : IVec S16 32) (v3154 : IVec S16 32) (k0_hw46 : k0_chk46 v5 v8 v11 v14 v15 v16 v3154), ∀ a x, ((![v16, v3154, v5] : Fin 3 → IVec S16 32) a x).toNat < S2x64x64.size a := fun v5 v8 v11 v14 v15 v16 v3154 k0_hw46 => k0_hw46.2.2.2.2.2.2.2
def k0_off398 (k0_t46 : Fin k0_t46_loop.trips) : Fin 4 → Nat :=
  let c0_i32_5358 : BitVec 32 := 0#32
  let v3203 : Index := Scalar.indexCast c0_i32_5358
  let c1_i32_5359 : BitVec 32 := 1#32
  let v3204 : Index := Scalar.indexCast c1_i32_5359
  let c0_i32_5325 : BitVec 32 := 0#32
  let c0_i32_2560 : BitVec 32 := 0#32
  let c1_i32_2562 : BitVec 32 := 1#32
  let arg17 : BitVec 32 := Scf.iv c0_i32_2560 c1_i32_2562 k0_t46
  let c1_i32_5324 : BitVec 32 := 1#32
  let v3152 : BitVec 32 := Scalar.muli arg17 c1_i32_5324
  let v3153 : BitVec 32 := Scalar.addi c0_i32_5325 v3152
  let v3205 : Index := Scalar.indexCast v3153
  let c0_5360 : Index := 0#32
  ![0, 1, v3205.toNat, 0]
def k0_off399 (k0_t46 : Fin k0_t46_loop.trips) : Fin 4 → Nat :=
  let c0_i32_5361 : BitVec 32 := 0#32
  let v3209 : Index := Scalar.indexCast c0_i32_5361
  let c1_i32_5362 : BitVec 32 := 1#32
  let v3210 : Index := Scalar.indexCast c1_i32_5362
  let c0_i32_5325 : BitVec 32 := 0#32
  let c0_i32_2560 : BitVec 32 := 0#32
  let c1_i32_2562 : BitVec 32 := 1#32
  let arg17 : BitVec 32 := Scf.iv c0_i32_2560 c1_i32_2562 k0_t46
  let c1_i32_5324 : BitVec 32 := 1#32
  let v3152 : BitVec 32 := Scalar.muli arg17 c1_i32_5324
  let v3153 : BitVec 32 := Scalar.addi c0_i32_5325 v3152
  let v3211 : Index := Scalar.indexCast v3153
  let c16_5363 : Index := 16#32
  ![0, 1, v3211.toNat, 16]
def k0_off400 (k0_t46 : Fin k0_t46_loop.trips) : Fin 4 → Nat :=
  let c0_i32_5364 : BitVec 32 := 0#32
  let v3215 : Index := Scalar.indexCast c0_i32_5364
  let c1_i32_5365 : BitVec 32 := 1#32
  let v3216 : Index := Scalar.indexCast c1_i32_5365
  let c0_i32_5325 : BitVec 32 := 0#32
  let c0_i32_2560 : BitVec 32 := 0#32
  let c1_i32_2562 : BitVec 32 := 1#32
  let arg17 : BitVec 32 := Scf.iv c0_i32_2560 c1_i32_2562 k0_t46
  let c1_i32_5324 : BitVec 32 := 1#32
  let v3152 : BitVec 32 := Scalar.muli arg17 c1_i32_5324
  let v3153 : BitVec 32 := Scalar.addi c0_i32_5325 v3152
  let v3217 : Index := Scalar.indexCast v3153
  let c32_5366 : Index := 32#32
  ![0, 1, v3217.toNat, 32]
def k0_off401 (k0_t46 : Fin k0_t46_loop.trips) : Fin 4 → Nat :=
  let c0_i32_5367 : BitVec 32 := 0#32
  let v3221 : Index := Scalar.indexCast c0_i32_5367
  let c1_i32_5368 : BitVec 32 := 1#32
  let v3222 : Index := Scalar.indexCast c1_i32_5368
  let c0_i32_5325 : BitVec 32 := 0#32
  let c0_i32_2560 : BitVec 32 := 0#32
  let c1_i32_2562 : BitVec 32 := 1#32
  let arg17 : BitVec 32 := Scf.iv c0_i32_2560 c1_i32_2562 k0_t46
  let c1_i32_5324 : BitVec 32 := 1#32
  let v3152 : BitVec 32 := Scalar.muli arg17 c1_i32_5324
  let v3153 : BitVec 32 := Scalar.addi c0_i32_5325 v3152
  let v3223 : Index := Scalar.indexCast v3153
  let c48_5369 : Index := 48#32
  ![0, 1, v3223.toNat, 48]
@[reducible] def k0_t47_loop : Scf.Loop 32 :=
  let c0_i32_2616 : BitVec 32 := 0#32
  let c64_i32_2617 : BitVec 32 := 64#32
  let v1559 : BitVec 32 := Scalar.addi c0_i32_2616 c64_i32_2617
  let c1_i32_2618 : BitVec 32 := 1#32
  ⟨c0_i32_2616, v1559, c1_i32_2618⟩
def k0_off402 (k0_t47 : Fin k0_t47_loop.trips) : Fin 4 → Nat :=
  let c1_i32_5341 : BitVec 32 := 1#32
  let v3175 : Index := Scalar.indexCast c1_i32_5341
  let c0_i32_5342 : BitVec 32 := 0#32
  let v3176 : Index := Scalar.indexCast c0_i32_5342
  let c0_i32_5325 : BitVec 32 := 0#32
  let c0_i32_2616 : BitVec 32 := 0#32
  let c1_i32_2618 : BitVec 32 := 1#32
  let arg17 : BitVec 32 := Scf.iv c0_i32_2616 c1_i32_2618 k0_t47
  let c1_i32_5324 : BitVec 32 := 1#32
  let v3152 : BitVec 32 := Scalar.muli arg17 c1_i32_5324
  let v3153 : BitVec 32 := Scalar.addi c0_i32_5325 v3152
  let v3177 : Index := Scalar.indexCast v3153
  let c0 : Index := 0#32
  ![1, 0, v3177.toNat, 0]
def k0_off403 (k0_t47 : Fin k0_t47_loop.trips) : Fin 4 → Nat :=
  let c1_i32_5343 : BitVec 32 := 1#32
  let v3181 : Index := Scalar.indexCast c1_i32_5343
  let c0_i32_5344 : BitVec 32 := 0#32
  let v3182 : Index := Scalar.indexCast c0_i32_5344
  let c0_i32_5325 : BitVec 32 := 0#32
  let c0_i32_2616 : BitVec 32 := 0#32
  let c1_i32_2618 : BitVec 32 := 1#32
  let arg17 : BitVec 32 := Scf.iv c0_i32_2616 c1_i32_2618 k0_t47
  let c1_i32_5324 : BitVec 32 := 1#32
  let v3152 : BitVec 32 := Scalar.muli arg17 c1_i32_5324
  let v3153 : BitVec 32 := Scalar.addi c0_i32_5325 v3152
  let v3183 : Index := Scalar.indexCast v3153
  let c16 : Index := 16#32
  ![1, 0, v3183.toNat, 16]
def k0_off404 (k0_t47 : Fin k0_t47_loop.trips) : Fin 4 → Nat :=
  let c1_i32_5345 : BitVec 32 := 1#32
  let v3187 : Index := Scalar.indexCast c1_i32_5345
  let c0_i32_5346 : BitVec 32 := 0#32
  let v3188 : Index := Scalar.indexCast c0_i32_5346
  let c0_i32_5325 : BitVec 32 := 0#32
  let c0_i32_2616 : BitVec 32 := 0#32
  let c1_i32_2618 : BitVec 32 := 1#32
  let arg17 : BitVec 32 := Scf.iv c0_i32_2616 c1_i32_2618 k0_t47
  let c1_i32_5324 : BitVec 32 := 1#32
  let v3152 : BitVec 32 := Scalar.muli arg17 c1_i32_5324
  let v3153 : BitVec 32 := Scalar.addi c0_i32_5325 v3152
  let v3189 : Index := Scalar.indexCast v3153
  let c32 : Index := 32#32
  ![1, 0, v3189.toNat, 32]
def k0_off405 (k0_t47 : Fin k0_t47_loop.trips) : Fin 4 → Nat :=
  let c1_i32_5347 : BitVec 32 := 1#32
  let v3193 : Index := Scalar.indexCast c1_i32_5347
  let c0_i32_5348 : BitVec 32 := 0#32
  let v3194 : Index := Scalar.indexCast c0_i32_5348
  let c0_i32_5325 : BitVec 32 := 0#32
  let c0_i32_2616 : BitVec 32 := 0#32
  let c1_i32_2618 : BitVec 32 := 1#32
  let arg17 : BitVec 32 := Scf.iv c0_i32_2616 c1_i32_2618 k0_t47
  let c1_i32_5324 : BitVec 32 := 1#32
  let v3152 : BitVec 32 := Scalar.muli arg17 c1_i32_5324
  let v3153 : BitVec 32 := Scalar.addi c0_i32_5325 v3152
  let v3195 : Index := Scalar.indexCast v3153
  let c48 : Index := 48#32
  ![1, 0, v3195.toNat, 48]

def k0_chk47 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx369_inb : ∀ (v5 : IVec S16 32) (v8 : IVec S16 32) (v11 : IVec S16 32) (v14 : IVec S16 32) (v15 : IVec S16 32) (v16 : IVec S16 32) (v3154 : IVec S16 32) (k0_hw47 : k0_chk47 v5 v8 v11 v14 v15 v16 v3154), ∀ a x, ((![v15, v3154, v14] : Fin 3 → IVec S16 32) a x).toNat < S2x64x64.size a := fun v5 v8 v11 v14 v15 v16 v3154 k0_hw47 => k0_hw47.1
theorem k0_idx370_inb : ∀ (v5 : IVec S16 32) (v8 : IVec S16 32) (v11 : IVec S16 32) (v14 : IVec S16 32) (v15 : IVec S16 32) (v16 : IVec S16 32) (v3154 : IVec S16 32) (k0_hw47 : k0_chk47 v5 v8 v11 v14 v15 v16 v3154), ∀ a x, ((![v15, v3154, v11] : Fin 3 → IVec S16 32) a x).toNat < S2x64x64.size a := fun v5 v8 v11 v14 v15 v16 v3154 k0_hw47 => k0_hw47.2.1
theorem k0_idx371_inb : ∀ (v5 : IVec S16 32) (v8 : IVec S16 32) (v11 : IVec S16 32) (v14 : IVec S16 32) (v15 : IVec S16 32) (v16 : IVec S16 32) (v3154 : IVec S16 32) (k0_hw47 : k0_chk47 v5 v8 v11 v14 v15 v16 v3154), ∀ a x, ((![v15, v3154, v8] : Fin 3 → IVec S16 32) a x).toNat < S2x64x64.size a := fun v5 v8 v11 v14 v15 v16 v3154 k0_hw47 => k0_hw47.2.2.1
theorem k0_idx372_inb : ∀ (v5 : IVec S16 32) (v8 : IVec S16 32) (v11 : IVec S16 32) (v14 : IVec S16 32) (v15 : IVec S16 32) (v16 : IVec S16 32) (v3154 : IVec S16 32) (k0_hw47 : k0_chk47 v5 v8 v11 v14 v15 v16 v3154), ∀ a x, ((![v15, v3154, v5] : Fin 3 → IVec S16 32) a x).toNat < S2x64x64.size a := fun v5 v8 v11 v14 v15 v16 v3154 k0_hw47 => k0_hw47.2.2.2.1
theorem k0_idx373_inb : ∀ (v5 : IVec S16 32) (v8 : IVec S16 32) (v11 : IVec S16 32) (v14 : IVec S16 32) (v15 : IVec S16 32) (v16 : IVec S16 32) (v3154 : IVec S16 32) (k0_hw47 : k0_chk47 v5 v8 v11 v14 v15 v16 v3154), ∀ a x, ((![v16, v3154, v14] : Fin 3 → IVec S16 32) a x).toNat < S2x64x64.size a := fun v5 v8 v11 v14 v15 v16 v3154 k0_hw47 => k0_hw47.2.2.2.2.1
theorem k0_idx374_inb : ∀ (v5 : IVec S16 32) (v8 : IVec S16 32) (v11 : IVec S16 32) (v14 : IVec S16 32) (v15 : IVec S16 32) (v16 : IVec S16 32) (v3154 : IVec S16 32) (k0_hw47 : k0_chk47 v5 v8 v11 v14 v15 v16 v3154), ∀ a x, ((![v16, v3154, v11] : Fin 3 → IVec S16 32) a x).toNat < S2x64x64.size a := fun v5 v8 v11 v14 v15 v16 v3154 k0_hw47 => k0_hw47.2.2.2.2.2.1
theorem k0_idx375_inb : ∀ (v5 : IVec S16 32) (v8 : IVec S16 32) (v11 : IVec S16 32) (v14 : IVec S16 32) (v15 : IVec S16 32) (v16 : IVec S16 32) (v3154 : IVec S16 32) (k0_hw47 : k0_chk47 v5 v8 v11 v14 v15 v16 v3154), ∀ a x, ((![v16, v3154, v8] : Fin 3 → IVec S16 32) a x).toNat < S2x64x64.size a := fun v5 v8 v11 v14 v15 v16 v3154 k0_hw47 => k0_hw47.2.2.2.2.2.2.1
theorem k0_idx376_inb : ∀ (v5 : IVec S16 32) (v8 : IVec S16 32) (v11 : IVec S16 32) (v14 : IVec S16 32) (v15 : IVec S16 32) (v16 : IVec S16 32) (v3154 : IVec S16 32) (k0_hw47 : k0_chk47 v5 v8 v11 v14 v15 v16 v3154), ∀ a x, ((![v16, v3154, v5] : Fin 3 → IVec S16 32) a x).toNat < S2x64x64.size a := fun v5 v8 v11 v14 v15 v16 v3154 k0_hw47 => k0_hw47.2.2.2.2.2.2.2
def k0_off406 (k0_t47 : Fin k0_t47_loop.trips) : Fin 4 → Nat :=
  let c1_i32_5365 : BitVec 32 := 1#32
  let v3219 : Index := Scalar.indexCast c1_i32_5365
  let c1_i32_5366 : BitVec 32 := 1#32
  let v3220 : Index := Scalar.indexCast c1_i32_5366
  let c0_i32_5325 : BitVec 32 := 0#32
  let c0_i32_2616 : BitVec 32 := 0#32
  let c1_i32_2618 : BitVec 32 := 1#32
  let arg17 : BitVec 32 := Scf.iv c0_i32_2616 c1_i32_2618 k0_t47
  let c1_i32_5324 : BitVec 32 := 1#32
  let v3152 : BitVec 32 := Scalar.muli arg17 c1_i32_5324
  let v3153 : BitVec 32 := Scalar.addi c0_i32_5325 v3152
  let v3221 : Index := Scalar.indexCast v3153
  let c0_5367 : Index := 0#32
  ![1, 1, v3221.toNat, 0]
def k0_off407 (k0_t47 : Fin k0_t47_loop.trips) : Fin 4 → Nat :=
  let c1_i32_5368 : BitVec 32 := 1#32
  let v3225 : Index := Scalar.indexCast c1_i32_5368
  let c1_i32_5369 : BitVec 32 := 1#32
  let v3226 : Index := Scalar.indexCast c1_i32_5369
  let c0_i32_5325 : BitVec 32 := 0#32
  let c0_i32_2616 : BitVec 32 := 0#32
  let c1_i32_2618 : BitVec 32 := 1#32
  let arg17 : BitVec 32 := Scf.iv c0_i32_2616 c1_i32_2618 k0_t47
  let c1_i32_5324 : BitVec 32 := 1#32
  let v3152 : BitVec 32 := Scalar.muli arg17 c1_i32_5324
  let v3153 : BitVec 32 := Scalar.addi c0_i32_5325 v3152
  let v3227 : Index := Scalar.indexCast v3153
  let c16_5370 : Index := 16#32
  ![1, 1, v3227.toNat, 16]
def k0_off408 (k0_t47 : Fin k0_t47_loop.trips) : Fin 4 → Nat :=
  let c1_i32_5371 : BitVec 32 := 1#32
  let v3231 : Index := Scalar.indexCast c1_i32_5371
  let c1_i32_5372 : BitVec 32 := 1#32
  let v3232 : Index := Scalar.indexCast c1_i32_5372
  let c0_i32_5325 : BitVec 32 := 0#32
  let c0_i32_2616 : BitVec 32 := 0#32
  let c1_i32_2618 : BitVec 32 := 1#32
  let arg17 : BitVec 32 := Scf.iv c0_i32_2616 c1_i32_2618 k0_t47
  let c1_i32_5324 : BitVec 32 := 1#32
  let v3152 : BitVec 32 := Scalar.muli arg17 c1_i32_5324
  let v3153 : BitVec 32 := Scalar.addi c0_i32_5325 v3152
  let v3233 : Index := Scalar.indexCast v3153
  let c32_5373 : Index := 32#32
  ![1, 1, v3233.toNat, 32]
def k0_off409 (k0_t47 : Fin k0_t47_loop.trips) : Fin 4 → Nat :=
  let c1_i32_5374 : BitVec 32 := 1#32
  let v3237 : Index := Scalar.indexCast c1_i32_5374
  let c1_i32_5375 : BitVec 32 := 1#32
  let v3238 : Index := Scalar.indexCast c1_i32_5375
  let c0_i32_5325 : BitVec 32 := 0#32
  let c0_i32_2616 : BitVec 32 := 0#32
  let c1_i32_2618 : BitVec 32 := 1#32
  let arg17 : BitVec 32 := Scf.iv c0_i32_2616 c1_i32_2618 k0_t47
  let c1_i32_5324 : BitVec 32 := 1#32
  let v3152 : BitVec 32 := Scalar.muli arg17 c1_i32_5324
  let v3153 : BitVec 32 := Scalar.addi c0_i32_5325 v3152
  let v3239 : Index := Scalar.indexCast v3153
  let c48_5376 : Index := 48#32
  ![1, 1, v3239.toNat, 48]
def k0_off410 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c11_i32 : BitVec 32 := 11#32
  let c0_i32_2637 : BitVec 32 := 0#32
  let c0_i32_2638 : BitVec 32 := 0#32
  ![v2.toNat, 11, 0, 0]
@[reducible] def k0_t48_loop : Scf.Loop 32 :=
  let c0_i32_2671 : BitVec 32 := 0#32
  let c64_i32_2672 : BitVec 32 := 64#32
  let v1592 : BitVec 32 := Scalar.addi c0_i32_2671 c64_i32_2672
  let c1_i32_2673 : BitVec 32 := 1#32
  ⟨c0_i32_2671, v1592, c1_i32_2673⟩
def k0_off411 (k0_t48 : Fin k0_t48_loop.trips) : Fin 4 → Nat :=
  let c2_i32_5341 : BitVec 32 := 2#32
  let v3175 : Index := Scalar.indexCast c2_i32_5341
  let c0_i32_5342 : BitVec 32 := 0#32
  let v3176 : Index := Scalar.indexCast c0_i32_5342
  let c0_i32_5325 : BitVec 32 := 0#32
  let c0_i32_2671 : BitVec 32 := 0#32
  let c1_i32_2673 : BitVec 32 := 1#32
  let arg17 : BitVec 32 := Scf.iv c0_i32_2671 c1_i32_2673 k0_t48
  let c1_i32_5324 : BitVec 32 := 1#32
  let v3152 : BitVec 32 := Scalar.muli arg17 c1_i32_5324
  let v3153 : BitVec 32 := Scalar.addi c0_i32_5325 v3152
  let v3177 : Index := Scalar.indexCast v3153
  let c0 : Index := 0#32
  ![2, 0, v3177.toNat, 0]
def k0_off412 (k0_t48 : Fin k0_t48_loop.trips) : Fin 4 → Nat :=
  let c2_i32_5343 : BitVec 32 := 2#32
  let v3181 : Index := Scalar.indexCast c2_i32_5343
  let c0_i32_5344 : BitVec 32 := 0#32
  let v3182 : Index := Scalar.indexCast c0_i32_5344
  let c0_i32_5325 : BitVec 32 := 0#32
  let c0_i32_2671 : BitVec 32 := 0#32
  let c1_i32_2673 : BitVec 32 := 1#32
  let arg17 : BitVec 32 := Scf.iv c0_i32_2671 c1_i32_2673 k0_t48
  let c1_i32_5324 : BitVec 32 := 1#32
  let v3152 : BitVec 32 := Scalar.muli arg17 c1_i32_5324
  let v3153 : BitVec 32 := Scalar.addi c0_i32_5325 v3152
  let v3183 : Index := Scalar.indexCast v3153
  let c16 : Index := 16#32
  ![2, 0, v3183.toNat, 16]
def k0_off413 (k0_t48 : Fin k0_t48_loop.trips) : Fin 4 → Nat :=
  let c2_i32_5345 : BitVec 32 := 2#32
  let v3187 : Index := Scalar.indexCast c2_i32_5345
  let c0_i32_5346 : BitVec 32 := 0#32
  let v3188 : Index := Scalar.indexCast c0_i32_5346
  let c0_i32_5325 : BitVec 32 := 0#32
  let c0_i32_2671 : BitVec 32 := 0#32
  let c1_i32_2673 : BitVec 32 := 1#32
  let arg17 : BitVec 32 := Scf.iv c0_i32_2671 c1_i32_2673 k0_t48
  let c1_i32_5324 : BitVec 32 := 1#32
  let v3152 : BitVec 32 := Scalar.muli arg17 c1_i32_5324
  let v3153 : BitVec 32 := Scalar.addi c0_i32_5325 v3152
  let v3189 : Index := Scalar.indexCast v3153
  let c32 : Index := 32#32
  ![2, 0, v3189.toNat, 32]
def k0_off414 (k0_t48 : Fin k0_t48_loop.trips) : Fin 4 → Nat :=
  let c2_i32_5347 : BitVec 32 := 2#32
  let v3193 : Index := Scalar.indexCast c2_i32_5347
  let c0_i32_5348 : BitVec 32 := 0#32
  let v3194 : Index := Scalar.indexCast c0_i32_5348
  let c0_i32_5325 : BitVec 32 := 0#32
  let c0_i32_2671 : BitVec 32 := 0#32
  let c1_i32_2673 : BitVec 32 := 1#32
  let arg17 : BitVec 32 := Scf.iv c0_i32_2671 c1_i32_2673 k0_t48
  let c1_i32_5324 : BitVec 32 := 1#32
  let v3152 : BitVec 32 := Scalar.muli arg17 c1_i32_5324
  let v3153 : BitVec 32 := Scalar.addi c0_i32_5325 v3152
  let v3195 : Index := Scalar.indexCast v3153
  let c48 : Index := 48#32
  ![2, 0, v3195.toNat, 48]

def k0_chk48 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx377_inb : ∀ (v5 : IVec S16 32) (v8 : IVec S16 32) (v11 : IVec S16 32) (v14 : IVec S16 32) (v15 : IVec S16 32) (v16 : IVec S16 32) (v3154 : IVec S16 32) (k0_hw48 : k0_chk48 v5 v8 v11 v14 v15 v16 v3154), ∀ a x, ((![v15, v3154, v14] : Fin 3 → IVec S16 32) a x).toNat < S2x64x64.size a := fun v5 v8 v11 v14 v15 v16 v3154 k0_hw48 => k0_hw48.1
theorem k0_idx378_inb : ∀ (v5 : IVec S16 32) (v8 : IVec S16 32) (v11 : IVec S16 32) (v14 : IVec S16 32) (v15 : IVec S16 32) (v16 : IVec S16 32) (v3154 : IVec S16 32) (k0_hw48 : k0_chk48 v5 v8 v11 v14 v15 v16 v3154), ∀ a x, ((![v15, v3154, v11] : Fin 3 → IVec S16 32) a x).toNat < S2x64x64.size a := fun v5 v8 v11 v14 v15 v16 v3154 k0_hw48 => k0_hw48.2.1
theorem k0_idx379_inb : ∀ (v5 : IVec S16 32) (v8 : IVec S16 32) (v11 : IVec S16 32) (v14 : IVec S16 32) (v15 : IVec S16 32) (v16 : IVec S16 32) (v3154 : IVec S16 32) (k0_hw48 : k0_chk48 v5 v8 v11 v14 v15 v16 v3154), ∀ a x, ((![v15, v3154, v8] : Fin 3 → IVec S16 32) a x).toNat < S2x64x64.size a := fun v5 v8 v11 v14 v15 v16 v3154 k0_hw48 => k0_hw48.2.2.1
theorem k0_idx380_inb : ∀ (v5 : IVec S16 32) (v8 : IVec S16 32) (v11 : IVec S16 32) (v14 : IVec S16 32) (v15 : IVec S16 32) (v16 : IVec S16 32) (v3154 : IVec S16 32) (k0_hw48 : k0_chk48 v5 v8 v11 v14 v15 v16 v3154), ∀ a x, ((![v15, v3154, v5] : Fin 3 → IVec S16 32) a x).toNat < S2x64x64.size a := fun v5 v8 v11 v14 v15 v16 v3154 k0_hw48 => k0_hw48.2.2.2.1
theorem k0_idx381_inb : ∀ (v5 : IVec S16 32) (v8 : IVec S16 32) (v11 : IVec S16 32) (v14 : IVec S16 32) (v15 : IVec S16 32) (v16 : IVec S16 32) (v3154 : IVec S16 32) (k0_hw48 : k0_chk48 v5 v8 v11 v14 v15 v16 v3154), ∀ a x, ((![v16, v3154, v14] : Fin 3 → IVec S16 32) a x).toNat < S2x64x64.size a := fun v5 v8 v11 v14 v15 v16 v3154 k0_hw48 => k0_hw48.2.2.2.2.1
theorem k0_idx382_inb : ∀ (v5 : IVec S16 32) (v8 : IVec S16 32) (v11 : IVec S16 32) (v14 : IVec S16 32) (v15 : IVec S16 32) (v16 : IVec S16 32) (v3154 : IVec S16 32) (k0_hw48 : k0_chk48 v5 v8 v11 v14 v15 v16 v3154), ∀ a x, ((![v16, v3154, v11] : Fin 3 → IVec S16 32) a x).toNat < S2x64x64.size a := fun v5 v8 v11 v14 v15 v16 v3154 k0_hw48 => k0_hw48.2.2.2.2.2.1
theorem k0_idx383_inb : ∀ (v5 : IVec S16 32) (v8 : IVec S16 32) (v11 : IVec S16 32) (v14 : IVec S16 32) (v15 : IVec S16 32) (v16 : IVec S16 32) (v3154 : IVec S16 32) (k0_hw48 : k0_chk48 v5 v8 v11 v14 v15 v16 v3154), ∀ a x, ((![v16, v3154, v8] : Fin 3 → IVec S16 32) a x).toNat < S2x64x64.size a := fun v5 v8 v11 v14 v15 v16 v3154 k0_hw48 => k0_hw48.2.2.2.2.2.2.1
theorem k0_idx384_inb : ∀ (v5 : IVec S16 32) (v8 : IVec S16 32) (v11 : IVec S16 32) (v14 : IVec S16 32) (v15 : IVec S16 32) (v16 : IVec S16 32) (v3154 : IVec S16 32) (k0_hw48 : k0_chk48 v5 v8 v11 v14 v15 v16 v3154), ∀ a x, ((![v16, v3154, v5] : Fin 3 → IVec S16 32) a x).toNat < S2x64x64.size a := fun v5 v8 v11 v14 v15 v16 v3154 k0_hw48 => k0_hw48.2.2.2.2.2.2.2
def k0_off415 (k0_t48 : Fin k0_t48_loop.trips) : Fin 4 → Nat :=
  let c2_i32_5365 : BitVec 32 := 2#32
  let v3219 : Index := Scalar.indexCast c2_i32_5365
  let c1_i32_5366 : BitVec 32 := 1#32
  let v3220 : Index := Scalar.indexCast c1_i32_5366
  let c0_i32_5325 : BitVec 32 := 0#32
  let c0_i32_2671 : BitVec 32 := 0#32
  let c1_i32_2673 : BitVec 32 := 1#32
  let arg17 : BitVec 32 := Scf.iv c0_i32_2671 c1_i32_2673 k0_t48
  let c1_i32_5324 : BitVec 32 := 1#32
  let v3152 : BitVec 32 := Scalar.muli arg17 c1_i32_5324
  let v3153 : BitVec 32 := Scalar.addi c0_i32_5325 v3152
  let v3221 : Index := Scalar.indexCast v3153
  let c0_5367 : Index := 0#32
  ![2, 1, v3221.toNat, 0]
def k0_off416 (k0_t48 : Fin k0_t48_loop.trips) : Fin 4 → Nat :=
  let c2_i32_5368 : BitVec 32 := 2#32
  let v3225 : Index := Scalar.indexCast c2_i32_5368
  let c1_i32_5369 : BitVec 32 := 1#32
  let v3226 : Index := Scalar.indexCast c1_i32_5369
  let c0_i32_5325 : BitVec 32 := 0#32
  let c0_i32_2671 : BitVec 32 := 0#32
  let c1_i32_2673 : BitVec 32 := 1#32
  let arg17 : BitVec 32 := Scf.iv c0_i32_2671 c1_i32_2673 k0_t48
  let c1_i32_5324 : BitVec 32 := 1#32
  let v3152 : BitVec 32 := Scalar.muli arg17 c1_i32_5324
  let v3153 : BitVec 32 := Scalar.addi c0_i32_5325 v3152
  let v3227 : Index := Scalar.indexCast v3153
  let c16_5370 : Index := 16#32
  ![2, 1, v3227.toNat, 16]
def k0_off417 (k0_t48 : Fin k0_t48_loop.trips) : Fin 4 → Nat :=
  let c2_i32_5371 : BitVec 32 := 2#32
  let v3231 : Index := Scalar.indexCast c2_i32_5371
  let c1_i32_5372 : BitVec 32 := 1#32
  let v3232 : Index := Scalar.indexCast c1_i32_5372
  let c0_i32_5325 : BitVec 32 := 0#32
  let c0_i32_2671 : BitVec 32 := 0#32
  let c1_i32_2673 : BitVec 32 := 1#32
  let arg17 : BitVec 32 := Scf.iv c0_i32_2671 c1_i32_2673 k0_t48
  let c1_i32_5324 : BitVec 32 := 1#32
  let v3152 : BitVec 32 := Scalar.muli arg17 c1_i32_5324
  let v3153 : BitVec 32 := Scalar.addi c0_i32_5325 v3152
  let v3233 : Index := Scalar.indexCast v3153
  let c32_5373 : Index := 32#32
  ![2, 1, v3233.toNat, 32]
def k0_off418 (k0_t48 : Fin k0_t48_loop.trips) : Fin 4 → Nat :=
  let c2_i32_5374 : BitVec 32 := 2#32
  let v3237 : Index := Scalar.indexCast c2_i32_5374
  let c1_i32_5375 : BitVec 32 := 1#32
  let v3238 : Index := Scalar.indexCast c1_i32_5375
  let c0_i32_5325 : BitVec 32 := 0#32
  let c0_i32_2671 : BitVec 32 := 0#32
  let c1_i32_2673 : BitVec 32 := 1#32
  let arg17 : BitVec 32 := Scf.iv c0_i32_2671 c1_i32_2673 k0_t48
  let c1_i32_5324 : BitVec 32 := 1#32
  let v3152 : BitVec 32 := Scalar.muli arg17 c1_i32_5324
  let v3153 : BitVec 32 := Scalar.addi c0_i32_5325 v3152
  let v3239 : Index := Scalar.indexCast v3153
  let c48_5376 : Index := 48#32
  ![2, 1, v3239.toNat, 48]
def k0_off419 (i : grid0.Coords) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c11_i32_2688 : BitVec 32 := 11#32
  let c0_i32_2689 : BitVec 32 := 0#32
  let c0_i32_2694 : BitVec 32 := 0#32
  let c0_i32_2695 : BitVec 32 := 0#32
  ![v2.toNat, 11, 0, 0, 0]
@[reducible] def k0_t49_loop : Scf.Loop 32 :=
  let c0_i32_2727 : BitVec 32 := 0#32
  let c64_i32_2728 : BitVec 32 := 64#32
  let v1625 : BitVec 32 := Scalar.addi c0_i32_2727 c64_i32_2728
  let c1_i32_2729 : BitVec 32 := 1#32
  ⟨c0_i32_2727, v1625, c1_i32_2729⟩
def k0_off420 (k0_t49 : Fin k0_t49_loop.trips) : Fin 4 → Nat :=
  let c0_i32_5338 : BitVec 32 := 0#32
  let v3167 : Index := Scalar.indexCast c0_i32_5338
  let c0_i32_5339 : BitVec 32 := 0#32
  let v3168 : Index := Scalar.indexCast c0_i32_5339
  let c0_i32_5325 : BitVec 32 := 0#32
  let c0_i32_2727 : BitVec 32 := 0#32
  let c1_i32_2729 : BitVec 32 := 1#32
  let arg17 : BitVec 32 := Scf.iv c0_i32_2727 c1_i32_2729 k0_t49
  let c1_i32_5324 : BitVec 32 := 1#32
  let v3152 : BitVec 32 := Scalar.muli arg17 c1_i32_5324
  let v3153 : BitVec 32 := Scalar.addi c0_i32_5325 v3152
  let v3169 : Index := Scalar.indexCast v3153
  let c0 : Index := 0#32
  ![0, 0, v3169.toNat, 0]
def k0_off421 (k0_t49 : Fin k0_t49_loop.trips) : Fin 4 → Nat :=
  let c0_i32_5340 : BitVec 32 := 0#32
  let v3173 : Index := Scalar.indexCast c0_i32_5340
  let c0_i32_5341 : BitVec 32 := 0#32
  let v3174 : Index := Scalar.indexCast c0_i32_5341
  let c0_i32_5325 : BitVec 32 := 0#32
  let c0_i32_2727 : BitVec 32 := 0#32
  let c1_i32_2729 : BitVec 32 := 1#32
  let arg17 : BitVec 32 := Scf.iv c0_i32_2727 c1_i32_2729 k0_t49
  let c1_i32_5324 : BitVec 32 := 1#32
  let v3152 : BitVec 32 := Scalar.muli arg17 c1_i32_5324
  let v3153 : BitVec 32 := Scalar.addi c0_i32_5325 v3152
  let v3175 : Index := Scalar.indexCast v3153
  let c16 : Index := 16#32
  ![0, 0, v3175.toNat, 16]
def k0_off422 (k0_t49 : Fin k0_t49_loop.trips) : Fin 4 → Nat :=
  let c0_i32_5342 : BitVec 32 := 0#32
  let v3179 : Index := Scalar.indexCast c0_i32_5342
  let c0_i32_5343 : BitVec 32 := 0#32
  let v3180 : Index := Scalar.indexCast c0_i32_5343
  let c0_i32_5325 : BitVec 32 := 0#32
  let c0_i32_2727 : BitVec 32 := 0#32
  let c1_i32_2729 : BitVec 32 := 1#32
  let arg17 : BitVec 32 := Scf.iv c0_i32_2727 c1_i32_2729 k0_t49
  let c1_i32_5324 : BitVec 32 := 1#32
  let v3152 : BitVec 32 := Scalar.muli arg17 c1_i32_5324
  let v3153 : BitVec 32 := Scalar.addi c0_i32_5325 v3152
  let v3181 : Index := Scalar.indexCast v3153
  let c32 : Index := 32#32
  ![0, 0, v3181.toNat, 32]
def k0_off423 (k0_t49 : Fin k0_t49_loop.trips) : Fin 4 → Nat :=
  let c0_i32_5344 : BitVec 32 := 0#32
  let v3185 : Index := Scalar.indexCast c0_i32_5344
  let c0_i32_5345 : BitVec 32 := 0#32
  let v3186 : Index := Scalar.indexCast c0_i32_5345
  let c0_i32_5325 : BitVec 32 := 0#32
  let c0_i32_2727 : BitVec 32 := 0#32
  let c1_i32_2729 : BitVec 32 := 1#32
  let arg17 : BitVec 32 := Scf.iv c0_i32_2727 c1_i32_2729 k0_t49
  let c1_i32_5324 : BitVec 32 := 1#32
  let v3152 : BitVec 32 := Scalar.muli arg17 c1_i32_5324
  let v3153 : BitVec 32 := Scalar.addi c0_i32_5325 v3152
  let v3187 : Index := Scalar.indexCast v3153
  let c48 : Index := 48#32
  ![0, 0, v3187.toNat, 48]

def k0_chk49 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx385_inb : ∀ (v5 : IVec S16 32) (v8 : IVec S16 32) (v11 : IVec S16 32) (v14 : IVec S16 32) (v15 : IVec S16 32) (v16 : IVec S16 32) (v3154 : IVec S16 32) (k0_hw49 : k0_chk49 v5 v8 v11 v14 v15 v16 v3154), ∀ a x, ((![v15, v3154, v14] : Fin 3 → IVec S16 32) a x).toNat < S2x64x64.size a := fun v5 v8 v11 v14 v15 v16 v3154 k0_hw49 => k0_hw49.1
theorem k0_idx386_inb : ∀ (v5 : IVec S16 32) (v8 : IVec S16 32) (v11 : IVec S16 32) (v14 : IVec S16 32) (v15 : IVec S16 32) (v16 : IVec S16 32) (v3154 : IVec S16 32) (k0_hw49 : k0_chk49 v5 v8 v11 v14 v15 v16 v3154), ∀ a x, ((![v15, v3154, v11] : Fin 3 → IVec S16 32) a x).toNat < S2x64x64.size a := fun v5 v8 v11 v14 v15 v16 v3154 k0_hw49 => k0_hw49.2.1
theorem k0_idx387_inb : ∀ (v5 : IVec S16 32) (v8 : IVec S16 32) (v11 : IVec S16 32) (v14 : IVec S16 32) (v15 : IVec S16 32) (v16 : IVec S16 32) (v3154 : IVec S16 32) (k0_hw49 : k0_chk49 v5 v8 v11 v14 v15 v16 v3154), ∀ a x, ((![v15, v3154, v8] : Fin 3 → IVec S16 32) a x).toNat < S2x64x64.size a := fun v5 v8 v11 v14 v15 v16 v3154 k0_hw49 => k0_hw49.2.2.1
theorem k0_idx388_inb : ∀ (v5 : IVec S16 32) (v8 : IVec S16 32) (v11 : IVec S16 32) (v14 : IVec S16 32) (v15 : IVec S16 32) (v16 : IVec S16 32) (v3154 : IVec S16 32) (k0_hw49 : k0_chk49 v5 v8 v11 v14 v15 v16 v3154), ∀ a x, ((![v15, v3154, v5] : Fin 3 → IVec S16 32) a x).toNat < S2x64x64.size a := fun v5 v8 v11 v14 v15 v16 v3154 k0_hw49 => k0_hw49.2.2.2.1
theorem k0_idx389_inb : ∀ (v5 : IVec S16 32) (v8 : IVec S16 32) (v11 : IVec S16 32) (v14 : IVec S16 32) (v15 : IVec S16 32) (v16 : IVec S16 32) (v3154 : IVec S16 32) (k0_hw49 : k0_chk49 v5 v8 v11 v14 v15 v16 v3154), ∀ a x, ((![v16, v3154, v14] : Fin 3 → IVec S16 32) a x).toNat < S2x64x64.size a := fun v5 v8 v11 v14 v15 v16 v3154 k0_hw49 => k0_hw49.2.2.2.2.1
theorem k0_idx390_inb : ∀ (v5 : IVec S16 32) (v8 : IVec S16 32) (v11 : IVec S16 32) (v14 : IVec S16 32) (v15 : IVec S16 32) (v16 : IVec S16 32) (v3154 : IVec S16 32) (k0_hw49 : k0_chk49 v5 v8 v11 v14 v15 v16 v3154), ∀ a x, ((![v16, v3154, v11] : Fin 3 → IVec S16 32) a x).toNat < S2x64x64.size a := fun v5 v8 v11 v14 v15 v16 v3154 k0_hw49 => k0_hw49.2.2.2.2.2.1
theorem k0_idx391_inb : ∀ (v5 : IVec S16 32) (v8 : IVec S16 32) (v11 : IVec S16 32) (v14 : IVec S16 32) (v15 : IVec S16 32) (v16 : IVec S16 32) (v3154 : IVec S16 32) (k0_hw49 : k0_chk49 v5 v8 v11 v14 v15 v16 v3154), ∀ a x, ((![v16, v3154, v8] : Fin 3 → IVec S16 32) a x).toNat < S2x64x64.size a := fun v5 v8 v11 v14 v15 v16 v3154 k0_hw49 => k0_hw49.2.2.2.2.2.2.1
theorem k0_idx392_inb : ∀ (v5 : IVec S16 32) (v8 : IVec S16 32) (v11 : IVec S16 32) (v14 : IVec S16 32) (v15 : IVec S16 32) (v16 : IVec S16 32) (v3154 : IVec S16 32) (k0_hw49 : k0_chk49 v5 v8 v11 v14 v15 v16 v3154), ∀ a x, ((![v16, v3154, v5] : Fin 3 → IVec S16 32) a x).toNat < S2x64x64.size a := fun v5 v8 v11 v14 v15 v16 v3154 k0_hw49 => k0_hw49.2.2.2.2.2.2.2
def k0_off424 (k0_t49 : Fin k0_t49_loop.trips) : Fin 4 → Nat :=
  let c0_i32_5358 : BitVec 32 := 0#32
  let v3203 : Index := Scalar.indexCast c0_i32_5358
  let c1_i32_5359 : BitVec 32 := 1#32
  let v3204 : Index := Scalar.indexCast c1_i32_5359
  let c0_i32_5325 : BitVec 32 := 0#32
  let c0_i32_2727 : BitVec 32 := 0#32
  let c1_i32_2729 : BitVec 32 := 1#32
  let arg17 : BitVec 32 := Scf.iv c0_i32_2727 c1_i32_2729 k0_t49
  let c1_i32_5324 : BitVec 32 := 1#32
  let v3152 : BitVec 32 := Scalar.muli arg17 c1_i32_5324
  let v3153 : BitVec 32 := Scalar.addi c0_i32_5325 v3152
  let v3205 : Index := Scalar.indexCast v3153
  let c0_5360 : Index := 0#32
  ![0, 1, v3205.toNat, 0]
def k0_off425 (k0_t49 : Fin k0_t49_loop.trips) : Fin 4 → Nat :=
  let c0_i32_5361 : BitVec 32 := 0#32
  let v3209 : Index := Scalar.indexCast c0_i32_5361
  let c1_i32_5362 : BitVec 32 := 1#32
  let v3210 : Index := Scalar.indexCast c1_i32_5362
  let c0_i32_5325 : BitVec 32 := 0#32
  let c0_i32_2727 : BitVec 32 := 0#32
  let c1_i32_2729 : BitVec 32 := 1#32
  let arg17 : BitVec 32 := Scf.iv c0_i32_2727 c1_i32_2729 k0_t49
  let c1_i32_5324 : BitVec 32 := 1#32
  let v3152 : BitVec 32 := Scalar.muli arg17 c1_i32_5324
  let v3153 : BitVec 32 := Scalar.addi c0_i32_5325 v3152
  let v3211 : Index := Scalar.indexCast v3153
  let c16_5363 : Index := 16#32
  ![0, 1, v3211.toNat, 16]
def k0_off426 (k0_t49 : Fin k0_t49_loop.trips) : Fin 4 → Nat :=
  let c0_i32_5364 : BitVec 32 := 0#32
  let v3215 : Index := Scalar.indexCast c0_i32_5364
  let c1_i32_5365 : BitVec 32 := 1#32
  let v3216 : Index := Scalar.indexCast c1_i32_5365
  let c0_i32_5325 : BitVec 32 := 0#32
  let c0_i32_2727 : BitVec 32 := 0#32
  let c1_i32_2729 : BitVec 32 := 1#32
  let arg17 : BitVec 32 := Scf.iv c0_i32_2727 c1_i32_2729 k0_t49
  let c1_i32_5324 : BitVec 32 := 1#32
  let v3152 : BitVec 32 := Scalar.muli arg17 c1_i32_5324
  let v3153 : BitVec 32 := Scalar.addi c0_i32_5325 v3152
  let v3217 : Index := Scalar.indexCast v3153
  let c32_5366 : Index := 32#32
  ![0, 1, v3217.toNat, 32]
def k0_off427 (k0_t49 : Fin k0_t49_loop.trips) : Fin 4 → Nat :=
  let c0_i32_5367 : BitVec 32 := 0#32
  let v3221 : Index := Scalar.indexCast c0_i32_5367
  let c1_i32_5368 : BitVec 32 := 1#32
  let v3222 : Index := Scalar.indexCast c1_i32_5368
  let c0_i32_5325 : BitVec 32 := 0#32
  let c0_i32_2727 : BitVec 32 := 0#32
  let c1_i32_2729 : BitVec 32 := 1#32
  let arg17 : BitVec 32 := Scf.iv c0_i32_2727 c1_i32_2729 k0_t49
  let c1_i32_5324 : BitVec 32 := 1#32
  let v3152 : BitVec 32 := Scalar.muli arg17 c1_i32_5324
  let v3153 : BitVec 32 := Scalar.addi c0_i32_5325 v3152
  let v3223 : Index := Scalar.indexCast v3153
  let c48_5369 : Index := 48#32
  ![0, 1, v3223.toNat, 48]
@[reducible] def k0_t50_loop : Scf.Loop 32 :=
  let c0_i32_2784 : BitVec 32 := 0#32
  let c64_i32_2785 : BitVec 32 := 64#32
  let v1658 : BitVec 32 := Scalar.addi c0_i32_2784 c64_i32_2785
  let c1_i32_2786 : BitVec 32 := 1#32
  ⟨c0_i32_2784, v1658, c1_i32_2786⟩
def k0_off428 (k0_t50 : Fin k0_t50_loop.trips) : Fin 4 → Nat :=
  let c1_i32_5338 : BitVec 32 := 1#32
  let v3167 : Index := Scalar.indexCast c1_i32_5338
  let c0_i32_5339 : BitVec 32 := 0#32
  let v3168 : Index := Scalar.indexCast c0_i32_5339
  let c0_i32_5325 : BitVec 32 := 0#32
  let c0_i32_2784 : BitVec 32 := 0#32
  let c1_i32_2786 : BitVec 32 := 1#32
  let arg17 : BitVec 32 := Scf.iv c0_i32_2784 c1_i32_2786 k0_t50
  let c1_i32_5324 : BitVec 32 := 1#32
  let v3152 : BitVec 32 := Scalar.muli arg17 c1_i32_5324
  let v3153 : BitVec 32 := Scalar.addi c0_i32_5325 v3152
  let v3169 : Index := Scalar.indexCast v3153
  let c0 : Index := 0#32
  ![1, 0, v3169.toNat, 0]
def k0_off429 (k0_t50 : Fin k0_t50_loop.trips) : Fin 4 → Nat :=
  let c1_i32_5340 : BitVec 32 := 1#32
  let v3173 : Index := Scalar.indexCast c1_i32_5340
  let c0_i32_5341 : BitVec 32 := 0#32
  let v3174 : Index := Scalar.indexCast c0_i32_5341
  let c0_i32_5325 : BitVec 32 := 0#32
  let c0_i32_2784 : BitVec 32 := 0#32
  let c1_i32_2786 : BitVec 32 := 1#32
  let arg17 : BitVec 32 := Scf.iv c0_i32_2784 c1_i32_2786 k0_t50
  let c1_i32_5324 : BitVec 32 := 1#32
  let v3152 : BitVec 32 := Scalar.muli arg17 c1_i32_5324
  let v3153 : BitVec 32 := Scalar.addi c0_i32_5325 v3152
  let v3175 : Index := Scalar.indexCast v3153
  let c16 : Index := 16#32
  ![1, 0, v3175.toNat, 16]
def k0_off430 (k0_t50 : Fin k0_t50_loop.trips) : Fin 4 → Nat :=
  let c1_i32_5342 : BitVec 32 := 1#32
  let v3179 : Index := Scalar.indexCast c1_i32_5342
  let c0_i32_5343 : BitVec 32 := 0#32
  let v3180 : Index := Scalar.indexCast c0_i32_5343
  let c0_i32_5325 : BitVec 32 := 0#32
  let c0_i32_2784 : BitVec 32 := 0#32
  let c1_i32_2786 : BitVec 32 := 1#32
  let arg17 : BitVec 32 := Scf.iv c0_i32_2784 c1_i32_2786 k0_t50
  let c1_i32_5324 : BitVec 32 := 1#32
  let v3152 : BitVec 32 := Scalar.muli arg17 c1_i32_5324
  let v3153 : BitVec 32 := Scalar.addi c0_i32_5325 v3152
  let v3181 : Index := Scalar.indexCast v3153
  let c32 : Index := 32#32
  ![1, 0, v3181.toNat, 32]
def k0_off431 (k0_t50 : Fin k0_t50_loop.trips) : Fin 4 → Nat :=
  let c1_i32_5344 : BitVec 32 := 1#32
  let v3185 : Index := Scalar.indexCast c1_i32_5344
  let c0_i32_5345 : BitVec 32 := 0#32
  let v3186 : Index := Scalar.indexCast c0_i32_5345
  let c0_i32_5325 : BitVec 32 := 0#32
  let c0_i32_2784 : BitVec 32 := 0#32
  let c1_i32_2786 : BitVec 32 := 1#32
  let arg17 : BitVec 32 := Scf.iv c0_i32_2784 c1_i32_2786 k0_t50
  let c1_i32_5324 : BitVec 32 := 1#32
  let v3152 : BitVec 32 := Scalar.muli arg17 c1_i32_5324
  let v3153 : BitVec 32 := Scalar.addi c0_i32_5325 v3152
  let v3187 : Index := Scalar.indexCast v3153
  let c48 : Index := 48#32
  ![1, 0, v3187.toNat, 48]

def k0_chk50 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx393_inb : ∀ (v5 : IVec S16 32) (v8 : IVec S16 32) (v11 : IVec S16 32) (v14 : IVec S16 32) (v15 : IVec S16 32) (v16 : IVec S16 32) (v3154 : IVec S16 32) (k0_hw50 : k0_chk50 v5 v8 v11 v14 v15 v16 v3154), ∀ a x, ((![v15, v3154, v14] : Fin 3 → IVec S16 32) a x).toNat < S2x64x64.size a := fun v5 v8 v11 v14 v15 v16 v3154 k0_hw50 => k0_hw50.1
theorem k0_idx394_inb : ∀ (v5 : IVec S16 32) (v8 : IVec S16 32) (v11 : IVec S16 32) (v14 : IVec S16 32) (v15 : IVec S16 32) (v16 : IVec S16 32) (v3154 : IVec S16 32) (k0_hw50 : k0_chk50 v5 v8 v11 v14 v15 v16 v3154), ∀ a x, ((![v15, v3154, v11] : Fin 3 → IVec S16 32) a x).toNat < S2x64x64.size a := fun v5 v8 v11 v14 v15 v16 v3154 k0_hw50 => k0_hw50.2.1
theorem k0_idx395_inb : ∀ (v5 : IVec S16 32) (v8 : IVec S16 32) (v11 : IVec S16 32) (v14 : IVec S16 32) (v15 : IVec S16 32) (v16 : IVec S16 32) (v3154 : IVec S16 32) (k0_hw50 : k0_chk50 v5 v8 v11 v14 v15 v16 v3154), ∀ a x, ((![v15, v3154, v8] : Fin 3 → IVec S16 32) a x).toNat < S2x64x64.size a := fun v5 v8 v11 v14 v15 v16 v3154 k0_hw50 => k0_hw50.2.2.1
theorem k0_idx396_inb : ∀ (v5 : IVec S16 32) (v8 : IVec S16 32) (v11 : IVec S16 32) (v14 : IVec S16 32) (v15 : IVec S16 32) (v16 : IVec S16 32) (v3154 : IVec S16 32) (k0_hw50 : k0_chk50 v5 v8 v11 v14 v15 v16 v3154), ∀ a x, ((![v15, v3154, v5] : Fin 3 → IVec S16 32) a x).toNat < S2x64x64.size a := fun v5 v8 v11 v14 v15 v16 v3154 k0_hw50 => k0_hw50.2.2.2.1
theorem k0_idx397_inb : ∀ (v5 : IVec S16 32) (v8 : IVec S16 32) (v11 : IVec S16 32) (v14 : IVec S16 32) (v15 : IVec S16 32) (v16 : IVec S16 32) (v3154 : IVec S16 32) (k0_hw50 : k0_chk50 v5 v8 v11 v14 v15 v16 v3154), ∀ a x, ((![v16, v3154, v14] : Fin 3 → IVec S16 32) a x).toNat < S2x64x64.size a := fun v5 v8 v11 v14 v15 v16 v3154 k0_hw50 => k0_hw50.2.2.2.2.1
theorem k0_idx398_inb : ∀ (v5 : IVec S16 32) (v8 : IVec S16 32) (v11 : IVec S16 32) (v14 : IVec S16 32) (v15 : IVec S16 32) (v16 : IVec S16 32) (v3154 : IVec S16 32) (k0_hw50 : k0_chk50 v5 v8 v11 v14 v15 v16 v3154), ∀ a x, ((![v16, v3154, v11] : Fin 3 → IVec S16 32) a x).toNat < S2x64x64.size a := fun v5 v8 v11 v14 v15 v16 v3154 k0_hw50 => k0_hw50.2.2.2.2.2.1
theorem k0_idx399_inb : ∀ (v5 : IVec S16 32) (v8 : IVec S16 32) (v11 : IVec S16 32) (v14 : IVec S16 32) (v15 : IVec S16 32) (v16 : IVec S16 32) (v3154 : IVec S16 32) (k0_hw50 : k0_chk50 v5 v8 v11 v14 v15 v16 v3154), ∀ a x, ((![v16, v3154, v8] : Fin 3 → IVec S16 32) a x).toNat < S2x64x64.size a := fun v5 v8 v11 v14 v15 v16 v3154 k0_hw50 => k0_hw50.2.2.2.2.2.2.1
theorem k0_idx400_inb : ∀ (v5 : IVec S16 32) (v8 : IVec S16 32) (v11 : IVec S16 32) (v14 : IVec S16 32) (v15 : IVec S16 32) (v16 : IVec S16 32) (v3154 : IVec S16 32) (k0_hw50 : k0_chk50 v5 v8 v11 v14 v15 v16 v3154), ∀ a x, ((![v16, v3154, v5] : Fin 3 → IVec S16 32) a x).toNat < S2x64x64.size a := fun v5 v8 v11 v14 v15 v16 v3154 k0_hw50 => k0_hw50.2.2.2.2.2.2.2
def k0_off432 (k0_t50 : Fin k0_t50_loop.trips) : Fin 4 → Nat :=
  let c1_i32_5358 : BitVec 32 := 1#32
  let v3203 : Index := Scalar.indexCast c1_i32_5358
  let c1_i32_5359 : BitVec 32 := 1#32
  let v3204 : Index := Scalar.indexCast c1_i32_5359
  let c0_i32_5325 : BitVec 32 := 0#32
  let c0_i32_2784 : BitVec 32 := 0#32
  let c1_i32_2786 : BitVec 32 := 1#32
  let arg17 : BitVec 32 := Scf.iv c0_i32_2784 c1_i32_2786 k0_t50
  let c1_i32_5324 : BitVec 32 := 1#32
  let v3152 : BitVec 32 := Scalar.muli arg17 c1_i32_5324
  let v3153 : BitVec 32 := Scalar.addi c0_i32_5325 v3152
  let v3205 : Index := Scalar.indexCast v3153
  let c0_5360 : Index := 0#32
  ![1, 1, v3205.toNat, 0]
def k0_off433 (k0_t50 : Fin k0_t50_loop.trips) : Fin 4 → Nat :=
  let c1_i32_5361 : BitVec 32 := 1#32
  let v3209 : Index := Scalar.indexCast c1_i32_5361
  let c1_i32_5362 : BitVec 32 := 1#32
  let v3210 : Index := Scalar.indexCast c1_i32_5362
  let c0_i32_5325 : BitVec 32 := 0#32
  let c0_i32_2784 : BitVec 32 := 0#32
  let c1_i32_2786 : BitVec 32 := 1#32
  let arg17 : BitVec 32 := Scf.iv c0_i32_2784 c1_i32_2786 k0_t50
  let c1_i32_5324 : BitVec 32 := 1#32
  let v3152 : BitVec 32 := Scalar.muli arg17 c1_i32_5324
  let v3153 : BitVec 32 := Scalar.addi c0_i32_5325 v3152
  let v3211 : Index := Scalar.indexCast v3153
  let c16_5363 : Index := 16#32
  ![1, 1, v3211.toNat, 16]
def k0_off434 (k0_t50 : Fin k0_t50_loop.trips) : Fin 4 → Nat :=
  let c1_i32_5364 : BitVec 32 := 1#32
  let v3215 : Index := Scalar.indexCast c1_i32_5364
  let c1_i32_5365 : BitVec 32 := 1#32
  let v3216 : Index := Scalar.indexCast c1_i32_5365
  let c0_i32_5325 : BitVec 32 := 0#32
  let c0_i32_2784 : BitVec 32 := 0#32
  let c1_i32_2786 : BitVec 32 := 1#32
  let arg17 : BitVec 32 := Scf.iv c0_i32_2784 c1_i32_2786 k0_t50
  let c1_i32_5324 : BitVec 32 := 1#32
  let v3152 : BitVec 32 := Scalar.muli arg17 c1_i32_5324
  let v3153 : BitVec 32 := Scalar.addi c0_i32_5325 v3152
  let v3217 : Index := Scalar.indexCast v3153
  let c32_5366 : Index := 32#32
  ![1, 1, v3217.toNat, 32]
def k0_off435 (k0_t50 : Fin k0_t50_loop.trips) : Fin 4 → Nat :=
  let c1_i32_5367 : BitVec 32 := 1#32
  let v3221 : Index := Scalar.indexCast c1_i32_5367
  let c1_i32_5368 : BitVec 32 := 1#32
  let v3222 : Index := Scalar.indexCast c1_i32_5368
  let c0_i32_5325 : BitVec 32 := 0#32
  let c0_i32_2784 : BitVec 32 := 0#32
  let c1_i32_2786 : BitVec 32 := 1#32
  let arg17 : BitVec 32 := Scf.iv c0_i32_2784 c1_i32_2786 k0_t50
  let c1_i32_5324 : BitVec 32 := 1#32
  let v3152 : BitVec 32 := Scalar.muli arg17 c1_i32_5324
  let v3153 : BitVec 32 := Scalar.addi c0_i32_5325 v3152
  let v3223 : Index := Scalar.indexCast v3153
  let c48_5369 : Index := 48#32
  ![1, 1, v3223.toNat, 48]
def k0_off436 (i : grid0.Coords) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c11_i32_2801 : BitVec 32 := 11#32
  let c1_i32_2802 : BitVec 32 := 1#32
  let c0_i32_2807 : BitVec 32 := 0#32
  let c0_i32_2808 : BitVec 32 := 0#32
  ![v2.toNat, 11, 1, 0, 0]
@[reducible] def k0_t51_loop : Scf.Loop 32 :=
  let c0_i32_2840 : BitVec 32 := 0#32
  let c64_i32_2841 : BitVec 32 := 64#32
  let v1691 : BitVec 32 := Scalar.addi c0_i32_2840 c64_i32_2841
  let c1_i32_2842 : BitVec 32 := 1#32
  ⟨c0_i32_2840, v1691, c1_i32_2842⟩
def k0_off437 (k0_t51 : Fin k0_t51_loop.trips) : Fin 4 → Nat :=
  let c2_i32_5338 : BitVec 32 := 2#32
  let v3167 : Index := Scalar.indexCast c2_i32_5338
  let c0_i32_5339 : BitVec 32 := 0#32
  let v3168 : Index := Scalar.indexCast c0_i32_5339
  let c0_i32_5325 : BitVec 32 := 0#32
  let c0_i32_2840 : BitVec 32 := 0#32
  let c1_i32_2842 : BitVec 32 := 1#32
  let arg17 : BitVec 32 := Scf.iv c0_i32_2840 c1_i32_2842 k0_t51
  let c1_i32_5324 : BitVec 32 := 1#32
  let v3152 : BitVec 32 := Scalar.muli arg17 c1_i32_5324
  let v3153 : BitVec 32 := Scalar.addi c0_i32_5325 v3152
  let v3169 : Index := Scalar.indexCast v3153
  let c0 : Index := 0#32
  ![2, 0, v3169.toNat, 0]
def k0_off438 (k0_t51 : Fin k0_t51_loop.trips) : Fin 4 → Nat :=
  let c2_i32_5340 : BitVec 32 := 2#32
  let v3173 : Index := Scalar.indexCast c2_i32_5340
  let c0_i32_5341 : BitVec 32 := 0#32
  let v3174 : Index := Scalar.indexCast c0_i32_5341
  let c0_i32_5325 : BitVec 32 := 0#32
  let c0_i32_2840 : BitVec 32 := 0#32
  let c1_i32_2842 : BitVec 32 := 1#32
  let arg17 : BitVec 32 := Scf.iv c0_i32_2840 c1_i32_2842 k0_t51
  let c1_i32_5324 : BitVec 32 := 1#32
  let v3152 : BitVec 32 := Scalar.muli arg17 c1_i32_5324
  let v3153 : BitVec 32 := Scalar.addi c0_i32_5325 v3152
  let v3175 : Index := Scalar.indexCast v3153
  let c16 : Index := 16#32
  ![2, 0, v3175.toNat, 16]
def k0_off439 (k0_t51 : Fin k0_t51_loop.trips) : Fin 4 → Nat :=
  let c2_i32_5342 : BitVec 32 := 2#32
  let v3179 : Index := Scalar.indexCast c2_i32_5342
  let c0_i32_5343 : BitVec 32 := 0#32
  let v3180 : Index := Scalar.indexCast c0_i32_5343
  let c0_i32_5325 : BitVec 32 := 0#32
  let c0_i32_2840 : BitVec 32 := 0#32
  let c1_i32_2842 : BitVec 32 := 1#32
  let arg17 : BitVec 32 := Scf.iv c0_i32_2840 c1_i32_2842 k0_t51
  let c1_i32_5324 : BitVec 32 := 1#32
  let v3152 : BitVec 32 := Scalar.muli arg17 c1_i32_5324
  let v3153 : BitVec 32 := Scalar.addi c0_i32_5325 v3152
  let v3181 : Index := Scalar.indexCast v3153
  let c32 : Index := 32#32
  ![2, 0, v3181.toNat, 32]
def k0_off440 (k0_t51 : Fin k0_t51_loop.trips) : Fin 4 → Nat :=
  let c2_i32_5344 : BitVec 32 := 2#32
  let v3185 : Index := Scalar.indexCast c2_i32_5344
  let c0_i32_5345 : BitVec 32 := 0#32
  let v3186 : Index := Scalar.indexCast c0_i32_5345
  let c0_i32_5325 : BitVec 32 := 0#32
  let c0_i32_2840 : BitVec 32 := 0#32
  let c1_i32_2842 : BitVec 32 := 1#32
  let arg17 : BitVec 32 := Scf.iv c0_i32_2840 c1_i32_2842 k0_t51
  let c1_i32_5324 : BitVec 32 := 1#32
  let v3152 : BitVec 32 := Scalar.muli arg17 c1_i32_5324
  let v3153 : BitVec 32 := Scalar.addi c0_i32_5325 v3152
  let v3187 : Index := Scalar.indexCast v3153
  let c48 : Index := 48#32
  ![2, 0, v3187.toNat, 48]

def k0_chk51 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx401_inb : ∀ (v5 : IVec S16 32) (v8 : IVec S16 32) (v11 : IVec S16 32) (v14 : IVec S16 32) (v15 : IVec S16 32) (v16 : IVec S16 32) (v3154 : IVec S16 32) (k0_hw51 : k0_chk51 v5 v8 v11 v14 v15 v16 v3154), ∀ a x, ((![v15, v3154, v14] : Fin 3 → IVec S16 32) a x).toNat < S2x64x64.size a := fun v5 v8 v11 v14 v15 v16 v3154 k0_hw51 => k0_hw51.1
theorem k0_idx402_inb : ∀ (v5 : IVec S16 32) (v8 : IVec S16 32) (v11 : IVec S16 32) (v14 : IVec S16 32) (v15 : IVec S16 32) (v16 : IVec S16 32) (v3154 : IVec S16 32) (k0_hw51 : k0_chk51 v5 v8 v11 v14 v15 v16 v3154), ∀ a x, ((![v15, v3154, v11] : Fin 3 → IVec S16 32) a x).toNat < S2x64x64.size a := fun v5 v8 v11 v14 v15 v16 v3154 k0_hw51 => k0_hw51.2.1
theorem k0_idx403_inb : ∀ (v5 : IVec S16 32) (v8 : IVec S16 32) (v11 : IVec S16 32) (v14 : IVec S16 32) (v15 : IVec S16 32) (v16 : IVec S16 32) (v3154 : IVec S16 32) (k0_hw51 : k0_chk51 v5 v8 v11 v14 v15 v16 v3154), ∀ a x, ((![v15, v3154, v8] : Fin 3 → IVec S16 32) a x).toNat < S2x64x64.size a := fun v5 v8 v11 v14 v15 v16 v3154 k0_hw51 => k0_hw51.2.2.1
theorem k0_idx404_inb : ∀ (v5 : IVec S16 32) (v8 : IVec S16 32) (v11 : IVec S16 32) (v14 : IVec S16 32) (v15 : IVec S16 32) (v16 : IVec S16 32) (v3154 : IVec S16 32) (k0_hw51 : k0_chk51 v5 v8 v11 v14 v15 v16 v3154), ∀ a x, ((![v15, v3154, v5] : Fin 3 → IVec S16 32) a x).toNat < S2x64x64.size a := fun v5 v8 v11 v14 v15 v16 v3154 k0_hw51 => k0_hw51.2.2.2.1
theorem k0_idx405_inb : ∀ (v5 : IVec S16 32) (v8 : IVec S16 32) (v11 : IVec S16 32) (v14 : IVec S16 32) (v15 : IVec S16 32) (v16 : IVec S16 32) (v3154 : IVec S16 32) (k0_hw51 : k0_chk51 v5 v8 v11 v14 v15 v16 v3154), ∀ a x, ((![v16, v3154, v14] : Fin 3 → IVec S16 32) a x).toNat < S2x64x64.size a := fun v5 v8 v11 v14 v15 v16 v3154 k0_hw51 => k0_hw51.2.2.2.2.1
theorem k0_idx406_inb : ∀ (v5 : IVec S16 32) (v8 : IVec S16 32) (v11 : IVec S16 32) (v14 : IVec S16 32) (v15 : IVec S16 32) (v16 : IVec S16 32) (v3154 : IVec S16 32) (k0_hw51 : k0_chk51 v5 v8 v11 v14 v15 v16 v3154), ∀ a x, ((![v16, v3154, v11] : Fin 3 → IVec S16 32) a x).toNat < S2x64x64.size a := fun v5 v8 v11 v14 v15 v16 v3154 k0_hw51 => k0_hw51.2.2.2.2.2.1
theorem k0_idx407_inb : ∀ (v5 : IVec S16 32) (v8 : IVec S16 32) (v11 : IVec S16 32) (v14 : IVec S16 32) (v15 : IVec S16 32) (v16 : IVec S16 32) (v3154 : IVec S16 32) (k0_hw51 : k0_chk51 v5 v8 v11 v14 v15 v16 v3154), ∀ a x, ((![v16, v3154, v8] : Fin 3 → IVec S16 32) a x).toNat < S2x64x64.size a := fun v5 v8 v11 v14 v15 v16 v3154 k0_hw51 => k0_hw51.2.2.2.2.2.2.1
theorem k0_idx408_inb : ∀ (v5 : IVec S16 32) (v8 : IVec S16 32) (v11 : IVec S16 32) (v14 : IVec S16 32) (v15 : IVec S16 32) (v16 : IVec S16 32) (v3154 : IVec S16 32) (k0_hw51 : k0_chk51 v5 v8 v11 v14 v15 v16 v3154), ∀ a x, ((![v16, v3154, v5] : Fin 3 → IVec S16 32) a x).toNat < S2x64x64.size a := fun v5 v8 v11 v14 v15 v16 v3154 k0_hw51 => k0_hw51.2.2.2.2.2.2.2
def k0_off441 (k0_t51 : Fin k0_t51_loop.trips) : Fin 4 → Nat :=
  let c2_i32_5358 : BitVec 32 := 2#32
  let v3203 : Index := Scalar.indexCast c2_i32_5358
  let c1_i32_5359 : BitVec 32 := 1#32
  let v3204 : Index := Scalar.indexCast c1_i32_5359
  let c0_i32_5325 : BitVec 32 := 0#32
  let c0_i32_2840 : BitVec 32 := 0#32
  let c1_i32_2842 : BitVec 32 := 1#32
  let arg17 : BitVec 32 := Scf.iv c0_i32_2840 c1_i32_2842 k0_t51
  let c1_i32_5324 : BitVec 32 := 1#32
  let v3152 : BitVec 32 := Scalar.muli arg17 c1_i32_5324
  let v3153 : BitVec 32 := Scalar.addi c0_i32_5325 v3152
  let v3205 : Index := Scalar.indexCast v3153
  let c0_5360 : Index := 0#32
  ![2, 1, v3205.toNat, 0]
def k0_off442 (k0_t51 : Fin k0_t51_loop.trips) : Fin 4 → Nat :=
  let c2_i32_5361 : BitVec 32 := 2#32
  let v3209 : Index := Scalar.indexCast c2_i32_5361
  let c1_i32_5362 : BitVec 32 := 1#32
  let v3210 : Index := Scalar.indexCast c1_i32_5362
  let c0_i32_5325 : BitVec 32 := 0#32
  let c0_i32_2840 : BitVec 32 := 0#32
  let c1_i32_2842 : BitVec 32 := 1#32
  let arg17 : BitVec 32 := Scf.iv c0_i32_2840 c1_i32_2842 k0_t51
  let c1_i32_5324 : BitVec 32 := 1#32
  let v3152 : BitVec 32 := Scalar.muli arg17 c1_i32_5324
  let v3153 : BitVec 32 := Scalar.addi c0_i32_5325 v3152
  let v3211 : Index := Scalar.indexCast v3153
  let c16_5363 : Index := 16#32
  ![2, 1, v3211.toNat, 16]
def k0_off443 (k0_t51 : Fin k0_t51_loop.trips) : Fin 4 → Nat :=
  let c2_i32_5364 : BitVec 32 := 2#32
  let v3215 : Index := Scalar.indexCast c2_i32_5364
  let c1_i32_5365 : BitVec 32 := 1#32
  let v3216 : Index := Scalar.indexCast c1_i32_5365
  let c0_i32_5325 : BitVec 32 := 0#32
  let c0_i32_2840 : BitVec 32 := 0#32
  let c1_i32_2842 : BitVec 32 := 1#32
  let arg17 : BitVec 32 := Scf.iv c0_i32_2840 c1_i32_2842 k0_t51
  let c1_i32_5324 : BitVec 32 := 1#32
  let v3152 : BitVec 32 := Scalar.muli arg17 c1_i32_5324
  let v3153 : BitVec 32 := Scalar.addi c0_i32_5325 v3152
  let v3217 : Index := Scalar.indexCast v3153
  let c32_5366 : Index := 32#32
  ![2, 1, v3217.toNat, 32]
def k0_off444 (k0_t51 : Fin k0_t51_loop.trips) : Fin 4 → Nat :=
  let c2_i32_5367 : BitVec 32 := 2#32
  let v3221 : Index := Scalar.indexCast c2_i32_5367
  let c1_i32_5368 : BitVec 32 := 1#32
  let v3222 : Index := Scalar.indexCast c1_i32_5368
  let c0_i32_5325 : BitVec 32 := 0#32
  let c0_i32_2840 : BitVec 32 := 0#32
  let c1_i32_2842 : BitVec 32 := 1#32
  let arg17 : BitVec 32 := Scf.iv c0_i32_2840 c1_i32_2842 k0_t51
  let c1_i32_5324 : BitVec 32 := 1#32
  let v3152 : BitVec 32 := Scalar.muli arg17 c1_i32_5324
  let v3153 : BitVec 32 := Scalar.addi c0_i32_5325 v3152
  let v3223 : Index := Scalar.indexCast v3153
  let c48_5369 : Index := 48#32
  ![2, 1, v3223.toNat, 48]
def k0_off445 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c10_i32 : BitVec 32 := 10#32
  let c0_i32_2848 : BitVec 32 := 0#32
  let c0_i32_2849 : BitVec 32 := 0#32
  ![v2.toNat, 10, 0, 0]
@[reducible] def k0_t52_loop : Scf.Loop 32 :=
  let c0_i32_2895 : BitVec 32 := 0#32
  let c64_i32_2896 : BitVec 32 := 64#32
  let v1724 : BitVec 32 := Scalar.addi c0_i32_2895 c64_i32_2896
  let c1_i32_2897 : BitVec 32 := 1#32
  ⟨c0_i32_2895, v1724, c1_i32_2897⟩
def k0_off446 (k0_t52 : Fin k0_t52_loop.trips) : Fin 4 → Nat :=
  let c0_i32_5341 : BitVec 32 := 0#32
  let v3175 : Index := Scalar.indexCast c0_i32_5341
  let c0_i32_5342 : BitVec 32 := 0#32
  let v3176 : Index := Scalar.indexCast c0_i32_5342
  let c0_i32_5325 : BitVec 32 := 0#32
  let c0_i32_2895 : BitVec 32 := 0#32
  let c1_i32_2897 : BitVec 32 := 1#32
  let arg17 : BitVec 32 := Scf.iv c0_i32_2895 c1_i32_2897 k0_t52
  let c1_i32_5324 : BitVec 32 := 1#32
  let v3152 : BitVec 32 := Scalar.muli arg17 c1_i32_5324
  let v3153 : BitVec 32 := Scalar.addi c0_i32_5325 v3152
  let v3177 : Index := Scalar.indexCast v3153
  let c0 : Index := 0#32
  ![0, 0, v3177.toNat, 0]
def k0_off447 (k0_t52 : Fin k0_t52_loop.trips) : Fin 4 → Nat :=
  let c0_i32_5343 : BitVec 32 := 0#32
  let v3181 : Index := Scalar.indexCast c0_i32_5343
  let c0_i32_5344 : BitVec 32 := 0#32
  let v3182 : Index := Scalar.indexCast c0_i32_5344
  let c0_i32_5325 : BitVec 32 := 0#32
  let c0_i32_2895 : BitVec 32 := 0#32
  let c1_i32_2897 : BitVec 32 := 1#32
  let arg17 : BitVec 32 := Scf.iv c0_i32_2895 c1_i32_2897 k0_t52
  let c1_i32_5324 : BitVec 32 := 1#32
  let v3152 : BitVec 32 := Scalar.muli arg17 c1_i32_5324
  let v3153 : BitVec 32 := Scalar.addi c0_i32_5325 v3152
  let v3183 : Index := Scalar.indexCast v3153
  let c16 : Index := 16#32
  ![0, 0, v3183.toNat, 16]
def k0_off448 (k0_t52 : Fin k0_t52_loop.trips) : Fin 4 → Nat :=
  let c0_i32_5345 : BitVec 32 := 0#32
  let v3187 : Index := Scalar.indexCast c0_i32_5345
  let c0_i32_5346 : BitVec 32 := 0#32
  let v3188 : Index := Scalar.indexCast c0_i32_5346
  let c0_i32_5325 : BitVec 32 := 0#32
  let c0_i32_2895 : BitVec 32 := 0#32
  let c1_i32_2897 : BitVec 32 := 1#32
  let arg17 : BitVec 32 := Scf.iv c0_i32_2895 c1_i32_2897 k0_t52
  let c1_i32_5324 : BitVec 32 := 1#32
  let v3152 : BitVec 32 := Scalar.muli arg17 c1_i32_5324
  let v3153 : BitVec 32 := Scalar.addi c0_i32_5325 v3152
  let v3189 : Index := Scalar.indexCast v3153
  let c32 : Index := 32#32
  ![0, 0, v3189.toNat, 32]
def k0_off449 (k0_t52 : Fin k0_t52_loop.trips) : Fin 4 → Nat :=
  let c0_i32_5347 : BitVec 32 := 0#32
  let v3193 : Index := Scalar.indexCast c0_i32_5347
  let c0_i32_5348 : BitVec 32 := 0#32
  let v3194 : Index := Scalar.indexCast c0_i32_5348
  let c0_i32_5325 : BitVec 32 := 0#32
  let c0_i32_2895 : BitVec 32 := 0#32
  let c1_i32_2897 : BitVec 32 := 1#32
  let arg17 : BitVec 32 := Scf.iv c0_i32_2895 c1_i32_2897 k0_t52
  let c1_i32_5324 : BitVec 32 := 1#32
  let v3152 : BitVec 32 := Scalar.muli arg17 c1_i32_5324
  let v3153 : BitVec 32 := Scalar.addi c0_i32_5325 v3152
  let v3195 : Index := Scalar.indexCast v3153
  let c48 : Index := 48#32
  ![0, 0, v3195.toNat, 48]

def k0_chk52 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx409_inb : ∀ (v5 : IVec S16 32) (v8 : IVec S16 32) (v11 : IVec S16 32) (v14 : IVec S16 32) (v15 : IVec S16 32) (v16 : IVec S16 32) (v3154 : IVec S16 32) (k0_hw52 : k0_chk52 v5 v8 v11 v14 v15 v16 v3154), ∀ a x, ((![v15, v3154, v14] : Fin 3 → IVec S16 32) a x).toNat < S2x64x64.size a := fun v5 v8 v11 v14 v15 v16 v3154 k0_hw52 => k0_hw52.1
theorem k0_idx410_inb : ∀ (v5 : IVec S16 32) (v8 : IVec S16 32) (v11 : IVec S16 32) (v14 : IVec S16 32) (v15 : IVec S16 32) (v16 : IVec S16 32) (v3154 : IVec S16 32) (k0_hw52 : k0_chk52 v5 v8 v11 v14 v15 v16 v3154), ∀ a x, ((![v15, v3154, v11] : Fin 3 → IVec S16 32) a x).toNat < S2x64x64.size a := fun v5 v8 v11 v14 v15 v16 v3154 k0_hw52 => k0_hw52.2.1
theorem k0_idx411_inb : ∀ (v5 : IVec S16 32) (v8 : IVec S16 32) (v11 : IVec S16 32) (v14 : IVec S16 32) (v15 : IVec S16 32) (v16 : IVec S16 32) (v3154 : IVec S16 32) (k0_hw52 : k0_chk52 v5 v8 v11 v14 v15 v16 v3154), ∀ a x, ((![v15, v3154, v8] : Fin 3 → IVec S16 32) a x).toNat < S2x64x64.size a := fun v5 v8 v11 v14 v15 v16 v3154 k0_hw52 => k0_hw52.2.2.1
theorem k0_idx412_inb : ∀ (v5 : IVec S16 32) (v8 : IVec S16 32) (v11 : IVec S16 32) (v14 : IVec S16 32) (v15 : IVec S16 32) (v16 : IVec S16 32) (v3154 : IVec S16 32) (k0_hw52 : k0_chk52 v5 v8 v11 v14 v15 v16 v3154), ∀ a x, ((![v15, v3154, v5] : Fin 3 → IVec S16 32) a x).toNat < S2x64x64.size a := fun v5 v8 v11 v14 v15 v16 v3154 k0_hw52 => k0_hw52.2.2.2.1
theorem k0_idx413_inb : ∀ (v5 : IVec S16 32) (v8 : IVec S16 32) (v11 : IVec S16 32) (v14 : IVec S16 32) (v15 : IVec S16 32) (v16 : IVec S16 32) (v3154 : IVec S16 32) (k0_hw52 : k0_chk52 v5 v8 v11 v14 v15 v16 v3154), ∀ a x, ((![v16, v3154, v14] : Fin 3 → IVec S16 32) a x).toNat < S2x64x64.size a := fun v5 v8 v11 v14 v15 v16 v3154 k0_hw52 => k0_hw52.2.2.2.2.1
theorem k0_idx414_inb : ∀ (v5 : IVec S16 32) (v8 : IVec S16 32) (v11 : IVec S16 32) (v14 : IVec S16 32) (v15 : IVec S16 32) (v16 : IVec S16 32) (v3154 : IVec S16 32) (k0_hw52 : k0_chk52 v5 v8 v11 v14 v15 v16 v3154), ∀ a x, ((![v16, v3154, v11] : Fin 3 → IVec S16 32) a x).toNat < S2x64x64.size a := fun v5 v8 v11 v14 v15 v16 v3154 k0_hw52 => k0_hw52.2.2.2.2.2.1
theorem k0_idx415_inb : ∀ (v5 : IVec S16 32) (v8 : IVec S16 32) (v11 : IVec S16 32) (v14 : IVec S16 32) (v15 : IVec S16 32) (v16 : IVec S16 32) (v3154 : IVec S16 32) (k0_hw52 : k0_chk52 v5 v8 v11 v14 v15 v16 v3154), ∀ a x, ((![v16, v3154, v8] : Fin 3 → IVec S16 32) a x).toNat < S2x64x64.size a := fun v5 v8 v11 v14 v15 v16 v3154 k0_hw52 => k0_hw52.2.2.2.2.2.2.1
theorem k0_idx416_inb : ∀ (v5 : IVec S16 32) (v8 : IVec S16 32) (v11 : IVec S16 32) (v14 : IVec S16 32) (v15 : IVec S16 32) (v16 : IVec S16 32) (v3154 : IVec S16 32) (k0_hw52 : k0_chk52 v5 v8 v11 v14 v15 v16 v3154), ∀ a x, ((![v16, v3154, v5] : Fin 3 → IVec S16 32) a x).toNat < S2x64x64.size a := fun v5 v8 v11 v14 v15 v16 v3154 k0_hw52 => k0_hw52.2.2.2.2.2.2.2
def k0_off450 (k0_t52 : Fin k0_t52_loop.trips) : Fin 4 → Nat :=
  let c0_i32_5365 : BitVec 32 := 0#32
  let v3219 : Index := Scalar.indexCast c0_i32_5365
  let c1_i32_5366 : BitVec 32 := 1#32
  let v3220 : Index := Scalar.indexCast c1_i32_5366
  let c0_i32_5325 : BitVec 32 := 0#32
  let c0_i32_2895 : BitVec 32 := 0#32
  let c1_i32_2897 : BitVec 32 := 1#32
  let arg17 : BitVec 32 := Scf.iv c0_i32_2895 c1_i32_2897 k0_t52
  let c1_i32_5324 : BitVec 32 := 1#32
  let v3152 : BitVec 32 := Scalar.muli arg17 c1_i32_5324
  let v3153 : BitVec 32 := Scalar.addi c0_i32_5325 v3152
  let v3221 : Index := Scalar.indexCast v3153
  let c0_5367 : Index := 0#32
  ![0, 1, v3221.toNat, 0]
def k0_off451 (k0_t52 : Fin k0_t52_loop.trips) : Fin 4 → Nat :=
  let c0_i32_5368 : BitVec 32 := 0#32
  let v3225 : Index := Scalar.indexCast c0_i32_5368
  let c1_i32_5369 : BitVec 32 := 1#32
  let v3226 : Index := Scalar.indexCast c1_i32_5369
  let c0_i32_5325 : BitVec 32 := 0#32
  let c0_i32_2895 : BitVec 32 := 0#32
  let c1_i32_2897 : BitVec 32 := 1#32
  let arg17 : BitVec 32 := Scf.iv c0_i32_2895 c1_i32_2897 k0_t52
  let c1_i32_5324 : BitVec 32 := 1#32
  let v3152 : BitVec 32 := Scalar.muli arg17 c1_i32_5324
  let v3153 : BitVec 32 := Scalar.addi c0_i32_5325 v3152
  let v3227 : Index := Scalar.indexCast v3153
  let c16_5370 : Index := 16#32
  ![0, 1, v3227.toNat, 16]
def k0_off452 (k0_t52 : Fin k0_t52_loop.trips) : Fin 4 → Nat :=
  let c0_i32_5371 : BitVec 32 := 0#32
  let v3231 : Index := Scalar.indexCast c0_i32_5371
  let c1_i32_5372 : BitVec 32 := 1#32
  let v3232 : Index := Scalar.indexCast c1_i32_5372
  let c0_i32_5325 : BitVec 32 := 0#32
  let c0_i32_2895 : BitVec 32 := 0#32
  let c1_i32_2897 : BitVec 32 := 1#32
  let arg17 : BitVec 32 := Scf.iv c0_i32_2895 c1_i32_2897 k0_t52
  let c1_i32_5324 : BitVec 32 := 1#32
  let v3152 : BitVec 32 := Scalar.muli arg17 c1_i32_5324
  let v3153 : BitVec 32 := Scalar.addi c0_i32_5325 v3152
  let v3233 : Index := Scalar.indexCast v3153
  let c32_5373 : Index := 32#32
  ![0, 1, v3233.toNat, 32]
def k0_off453 (k0_t52 : Fin k0_t52_loop.trips) : Fin 4 → Nat :=
  let c0_i32_5374 : BitVec 32 := 0#32
  let v3237 : Index := Scalar.indexCast c0_i32_5374
  let c1_i32_5375 : BitVec 32 := 1#32
  let v3238 : Index := Scalar.indexCast c1_i32_5375
  let c0_i32_5325 : BitVec 32 := 0#32
  let c0_i32_2895 : BitVec 32 := 0#32
  let c1_i32_2897 : BitVec 32 := 1#32
  let arg17 : BitVec 32 := Scf.iv c0_i32_2895 c1_i32_2897 k0_t52
  let c1_i32_5324 : BitVec 32 := 1#32
  let v3152 : BitVec 32 := Scalar.muli arg17 c1_i32_5324
  let v3153 : BitVec 32 := Scalar.addi c0_i32_5325 v3152
  let v3239 : Index := Scalar.indexCast v3153
  let c48_5376 : Index := 48#32
  ![0, 1, v3239.toNat, 48]
def k0_off454 (i : grid0.Coords) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c10_i32_2900 : BitVec 32 := 10#32
  let c0_i32_2901 : BitVec 32 := 0#32
  let c0_i32_2905 : BitVec 32 := 0#32
  let c0_i32_2906 : BitVec 32 := 0#32
  ![v2.toNat, 10, 0, 0, 0]
@[reducible] def k0_t53_loop : Scf.Loop 32 :=
  let c0_i32_2951 : BitVec 32 := 0#32
  let c64_i32_2952 : BitVec 32 := 64#32
  let v1757 : BitVec 32 := Scalar.addi c0_i32_2951 c64_i32_2952
  let c1_i32_2953 : BitVec 32 := 1#32
  ⟨c0_i32_2951, v1757, c1_i32_2953⟩
def k0_off455 (k0_t53 : Fin k0_t53_loop.trips) : Fin 4 → Nat :=
  let c1_i32_5341 : BitVec 32 := 1#32
  let v3175 : Index := Scalar.indexCast c1_i32_5341
  let c0_i32_5342 : BitVec 32 := 0#32
  let v3176 : Index := Scalar.indexCast c0_i32_5342
  let c0_i32_5325 : BitVec 32 := 0#32
  let c0_i32_2951 : BitVec 32 := 0#32
  let c1_i32_2953 : BitVec 32 := 1#32
  let arg17 : BitVec 32 := Scf.iv c0_i32_2951 c1_i32_2953 k0_t53
  let c1_i32_5324 : BitVec 32 := 1#32
  let v3152 : BitVec 32 := Scalar.muli arg17 c1_i32_5324
  let v3153 : BitVec 32 := Scalar.addi c0_i32_5325 v3152
  let v3177 : Index := Scalar.indexCast v3153
  let c0 : Index := 0#32
  ![1, 0, v3177.toNat, 0]
def k0_off456 (k0_t53 : Fin k0_t53_loop.trips) : Fin 4 → Nat :=
  let c1_i32_5343 : BitVec 32 := 1#32
  let v3181 : Index := Scalar.indexCast c1_i32_5343
  let c0_i32_5344 : BitVec 32 := 0#32
  let v3182 : Index := Scalar.indexCast c0_i32_5344
  let c0_i32_5325 : BitVec 32 := 0#32
  let c0_i32_2951 : BitVec 32 := 0#32
  let c1_i32_2953 : BitVec 32 := 1#32
  let arg17 : BitVec 32 := Scf.iv c0_i32_2951 c1_i32_2953 k0_t53
  let c1_i32_5324 : BitVec 32 := 1#32
  let v3152 : BitVec 32 := Scalar.muli arg17 c1_i32_5324
  let v3153 : BitVec 32 := Scalar.addi c0_i32_5325 v3152
  let v3183 : Index := Scalar.indexCast v3153
  let c16 : Index := 16#32
  ![1, 0, v3183.toNat, 16]
def k0_off457 (k0_t53 : Fin k0_t53_loop.trips) : Fin 4 → Nat :=
  let c1_i32_5345 : BitVec 32 := 1#32
  let v3187 : Index := Scalar.indexCast c1_i32_5345
  let c0_i32_5346 : BitVec 32 := 0#32
  let v3188 : Index := Scalar.indexCast c0_i32_5346
  let c0_i32_5325 : BitVec 32 := 0#32
  let c0_i32_2951 : BitVec 32 := 0#32
  let c1_i32_2953 : BitVec 32 := 1#32
  let arg17 : BitVec 32 := Scf.iv c0_i32_2951 c1_i32_2953 k0_t53
  let c1_i32_5324 : BitVec 32 := 1#32
  let v3152 : BitVec 32 := Scalar.muli arg17 c1_i32_5324
  let v3153 : BitVec 32 := Scalar.addi c0_i32_5325 v3152
  let v3189 : Index := Scalar.indexCast v3153
  let c32 : Index := 32#32
  ![1, 0, v3189.toNat, 32]
def k0_off458 (k0_t53 : Fin k0_t53_loop.trips) : Fin 4 → Nat :=
  let c1_i32_5347 : BitVec 32 := 1#32
  let v3193 : Index := Scalar.indexCast c1_i32_5347
  let c0_i32_5348 : BitVec 32 := 0#32
  let v3194 : Index := Scalar.indexCast c0_i32_5348
  let c0_i32_5325 : BitVec 32 := 0#32
  let c0_i32_2951 : BitVec 32 := 0#32
  let c1_i32_2953 : BitVec 32 := 1#32
  let arg17 : BitVec 32 := Scf.iv c0_i32_2951 c1_i32_2953 k0_t53
  let c1_i32_5324 : BitVec 32 := 1#32
  let v3152 : BitVec 32 := Scalar.muli arg17 c1_i32_5324
  let v3153 : BitVec 32 := Scalar.addi c0_i32_5325 v3152
  let v3195 : Index := Scalar.indexCast v3153
  let c48 : Index := 48#32
  ![1, 0, v3195.toNat, 48]

def k0_chk53 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx417_inb : ∀ (v5 : IVec S16 32) (v8 : IVec S16 32) (v11 : IVec S16 32) (v14 : IVec S16 32) (v15 : IVec S16 32) (v16 : IVec S16 32) (v3154 : IVec S16 32) (k0_hw53 : k0_chk53 v5 v8 v11 v14 v15 v16 v3154), ∀ a x, ((![v15, v3154, v14] : Fin 3 → IVec S16 32) a x).toNat < S2x64x64.size a := fun v5 v8 v11 v14 v15 v16 v3154 k0_hw53 => k0_hw53.1
theorem k0_idx418_inb : ∀ (v5 : IVec S16 32) (v8 : IVec S16 32) (v11 : IVec S16 32) (v14 : IVec S16 32) (v15 : IVec S16 32) (v16 : IVec S16 32) (v3154 : IVec S16 32) (k0_hw53 : k0_chk53 v5 v8 v11 v14 v15 v16 v3154), ∀ a x, ((![v15, v3154, v11] : Fin 3 → IVec S16 32) a x).toNat < S2x64x64.size a := fun v5 v8 v11 v14 v15 v16 v3154 k0_hw53 => k0_hw53.2.1
theorem k0_idx419_inb : ∀ (v5 : IVec S16 32) (v8 : IVec S16 32) (v11 : IVec S16 32) (v14 : IVec S16 32) (v15 : IVec S16 32) (v16 : IVec S16 32) (v3154 : IVec S16 32) (k0_hw53 : k0_chk53 v5 v8 v11 v14 v15 v16 v3154), ∀ a x, ((![v15, v3154, v8] : Fin 3 → IVec S16 32) a x).toNat < S2x64x64.size a := fun v5 v8 v11 v14 v15 v16 v3154 k0_hw53 => k0_hw53.2.2.1
theorem k0_idx420_inb : ∀ (v5 : IVec S16 32) (v8 : IVec S16 32) (v11 : IVec S16 32) (v14 : IVec S16 32) (v15 : IVec S16 32) (v16 : IVec S16 32) (v3154 : IVec S16 32) (k0_hw53 : k0_chk53 v5 v8 v11 v14 v15 v16 v3154), ∀ a x, ((![v15, v3154, v5] : Fin 3 → IVec S16 32) a x).toNat < S2x64x64.size a := fun v5 v8 v11 v14 v15 v16 v3154 k0_hw53 => k0_hw53.2.2.2.1
theorem k0_idx421_inb : ∀ (v5 : IVec S16 32) (v8 : IVec S16 32) (v11 : IVec S16 32) (v14 : IVec S16 32) (v15 : IVec S16 32) (v16 : IVec S16 32) (v3154 : IVec S16 32) (k0_hw53 : k0_chk53 v5 v8 v11 v14 v15 v16 v3154), ∀ a x, ((![v16, v3154, v14] : Fin 3 → IVec S16 32) a x).toNat < S2x64x64.size a := fun v5 v8 v11 v14 v15 v16 v3154 k0_hw53 => k0_hw53.2.2.2.2.1
theorem k0_idx422_inb : ∀ (v5 : IVec S16 32) (v8 : IVec S16 32) (v11 : IVec S16 32) (v14 : IVec S16 32) (v15 : IVec S16 32) (v16 : IVec S16 32) (v3154 : IVec S16 32) (k0_hw53 : k0_chk53 v5 v8 v11 v14 v15 v16 v3154), ∀ a x, ((![v16, v3154, v11] : Fin 3 → IVec S16 32) a x).toNat < S2x64x64.size a := fun v5 v8 v11 v14 v15 v16 v3154 k0_hw53 => k0_hw53.2.2.2.2.2.1
theorem k0_idx423_inb : ∀ (v5 : IVec S16 32) (v8 : IVec S16 32) (v11 : IVec S16 32) (v14 : IVec S16 32) (v15 : IVec S16 32) (v16 : IVec S16 32) (v3154 : IVec S16 32) (k0_hw53 : k0_chk53 v5 v8 v11 v14 v15 v16 v3154), ∀ a x, ((![v16, v3154, v8] : Fin 3 → IVec S16 32) a x).toNat < S2x64x64.size a := fun v5 v8 v11 v14 v15 v16 v3154 k0_hw53 => k0_hw53.2.2.2.2.2.2.1
theorem k0_idx424_inb : ∀ (v5 : IVec S16 32) (v8 : IVec S16 32) (v11 : IVec S16 32) (v14 : IVec S16 32) (v15 : IVec S16 32) (v16 : IVec S16 32) (v3154 : IVec S16 32) (k0_hw53 : k0_chk53 v5 v8 v11 v14 v15 v16 v3154), ∀ a x, ((![v16, v3154, v5] : Fin 3 → IVec S16 32) a x).toNat < S2x64x64.size a := fun v5 v8 v11 v14 v15 v16 v3154 k0_hw53 => k0_hw53.2.2.2.2.2.2.2
def k0_off459 (k0_t53 : Fin k0_t53_loop.trips) : Fin 4 → Nat :=
  let c1_i32_5365 : BitVec 32 := 1#32
  let v3219 : Index := Scalar.indexCast c1_i32_5365
  let c1_i32_5366 : BitVec 32 := 1#32
  let v3220 : Index := Scalar.indexCast c1_i32_5366
  let c0_i32_5325 : BitVec 32 := 0#32
  let c0_i32_2951 : BitVec 32 := 0#32
  let c1_i32_2953 : BitVec 32 := 1#32
  let arg17 : BitVec 32 := Scf.iv c0_i32_2951 c1_i32_2953 k0_t53
  let c1_i32_5324 : BitVec 32 := 1#32
  let v3152 : BitVec 32 := Scalar.muli arg17 c1_i32_5324
  let v3153 : BitVec 32 := Scalar.addi c0_i32_5325 v3152
  let v3221 : Index := Scalar.indexCast v3153
  let c0_5367 : Index := 0#32
  ![1, 1, v3221.toNat, 0]
def k0_off460 (k0_t53 : Fin k0_t53_loop.trips) : Fin 4 → Nat :=
  let c1_i32_5368 : BitVec 32 := 1#32
  let v3225 : Index := Scalar.indexCast c1_i32_5368
  let c1_i32_5369 : BitVec 32 := 1#32
  let v3226 : Index := Scalar.indexCast c1_i32_5369
  let c0_i32_5325 : BitVec 32 := 0#32
  let c0_i32_2951 : BitVec 32 := 0#32
  let c1_i32_2953 : BitVec 32 := 1#32
  let arg17 : BitVec 32 := Scf.iv c0_i32_2951 c1_i32_2953 k0_t53
  let c1_i32_5324 : BitVec 32 := 1#32
  let v3152 : BitVec 32 := Scalar.muli arg17 c1_i32_5324
  let v3153 : BitVec 32 := Scalar.addi c0_i32_5325 v3152
  let v3227 : Index := Scalar.indexCast v3153
  let c16_5370 : Index := 16#32
  ![1, 1, v3227.toNat, 16]
def k0_off461 (k0_t53 : Fin k0_t53_loop.trips) : Fin 4 → Nat :=
  let c1_i32_5371 : BitVec 32 := 1#32
  let v3231 : Index := Scalar.indexCast c1_i32_5371
  let c1_i32_5372 : BitVec 32 := 1#32
  let v3232 : Index := Scalar.indexCast c1_i32_5372
  let c0_i32_5325 : BitVec 32 := 0#32
  let c0_i32_2951 : BitVec 32 := 0#32
  let c1_i32_2953 : BitVec 32 := 1#32
  let arg17 : BitVec 32 := Scf.iv c0_i32_2951 c1_i32_2953 k0_t53
  let c1_i32_5324 : BitVec 32 := 1#32
  let v3152 : BitVec 32 := Scalar.muli arg17 c1_i32_5324
  let v3153 : BitVec 32 := Scalar.addi c0_i32_5325 v3152
  let v3233 : Index := Scalar.indexCast v3153
  let c32_5373 : Index := 32#32
  ![1, 1, v3233.toNat, 32]
def k0_off462 (k0_t53 : Fin k0_t53_loop.trips) : Fin 4 → Nat :=
  let c1_i32_5374 : BitVec 32 := 1#32
  let v3237 : Index := Scalar.indexCast c1_i32_5374
  let c1_i32_5375 : BitVec 32 := 1#32
  let v3238 : Index := Scalar.indexCast c1_i32_5375
  let c0_i32_5325 : BitVec 32 := 0#32
  let c0_i32_2951 : BitVec 32 := 0#32
  let c1_i32_2953 : BitVec 32 := 1#32
  let arg17 : BitVec 32 := Scf.iv c0_i32_2951 c1_i32_2953 k0_t53
  let c1_i32_5324 : BitVec 32 := 1#32
  let v3152 : BitVec 32 := Scalar.muli arg17 c1_i32_5324
  let v3153 : BitVec 32 := Scalar.addi c0_i32_5325 v3152
  let v3239 : Index := Scalar.indexCast v3153
  let c48_5376 : Index := 48#32
  ![1, 1, v3239.toNat, 48]
@[reducible] def k0_t54_loop : Scf.Loop 32 :=
  let c0_i32_3007 : BitVec 32 := 0#32
  let c64_i32_3008 : BitVec 32 := 64#32
  let v1790 : BitVec 32 := Scalar.addi c0_i32_3007 c64_i32_3008
  let c1_i32_3009 : BitVec 32 := 1#32
  ⟨c0_i32_3007, v1790, c1_i32_3009⟩
def k0_off463 (k0_t54 : Fin k0_t54_loop.trips) : Fin 4 → Nat :=
  let c2_i32_5338 : BitVec 32 := 2#32
  let v3167 : Index := Scalar.indexCast c2_i32_5338
  let c0_i32_5339 : BitVec 32 := 0#32
  let v3168 : Index := Scalar.indexCast c0_i32_5339
  let c0_i32_5325 : BitVec 32 := 0#32
  let c0_i32_3007 : BitVec 32 := 0#32
  let c1_i32_3009 : BitVec 32 := 1#32
  let arg17 : BitVec 32 := Scf.iv c0_i32_3007 c1_i32_3009 k0_t54
  let c1_i32_5324 : BitVec 32 := 1#32
  let v3152 : BitVec 32 := Scalar.muli arg17 c1_i32_5324
  let v3153 : BitVec 32 := Scalar.addi c0_i32_5325 v3152
  let v3169 : Index := Scalar.indexCast v3153
  let c0 : Index := 0#32
  ![2, 0, v3169.toNat, 0]
def k0_off464 (k0_t54 : Fin k0_t54_loop.trips) : Fin 4 → Nat :=
  let c2_i32_5340 : BitVec 32 := 2#32
  let v3173 : Index := Scalar.indexCast c2_i32_5340
  let c0_i32_5341 : BitVec 32 := 0#32
  let v3174 : Index := Scalar.indexCast c0_i32_5341
  let c0_i32_5325 : BitVec 32 := 0#32
  let c0_i32_3007 : BitVec 32 := 0#32
  let c1_i32_3009 : BitVec 32 := 1#32
  let arg17 : BitVec 32 := Scf.iv c0_i32_3007 c1_i32_3009 k0_t54
  let c1_i32_5324 : BitVec 32 := 1#32
  let v3152 : BitVec 32 := Scalar.muli arg17 c1_i32_5324
  let v3153 : BitVec 32 := Scalar.addi c0_i32_5325 v3152
  let v3175 : Index := Scalar.indexCast v3153
  let c16 : Index := 16#32
  ![2, 0, v3175.toNat, 16]
def k0_off465 (k0_t54 : Fin k0_t54_loop.trips) : Fin 4 → Nat :=
  let c2_i32_5342 : BitVec 32 := 2#32
  let v3179 : Index := Scalar.indexCast c2_i32_5342
  let c0_i32_5343 : BitVec 32 := 0#32
  let v3180 : Index := Scalar.indexCast c0_i32_5343
  let c0_i32_5325 : BitVec 32 := 0#32
  let c0_i32_3007 : BitVec 32 := 0#32
  let c1_i32_3009 : BitVec 32 := 1#32
  let arg17 : BitVec 32 := Scf.iv c0_i32_3007 c1_i32_3009 k0_t54
  let c1_i32_5324 : BitVec 32 := 1#32
  let v3152 : BitVec 32 := Scalar.muli arg17 c1_i32_5324
  let v3153 : BitVec 32 := Scalar.addi c0_i32_5325 v3152
  let v3181 : Index := Scalar.indexCast v3153
  let c32 : Index := 32#32
  ![2, 0, v3181.toNat, 32]
def k0_off466 (k0_t54 : Fin k0_t54_loop.trips) : Fin 4 → Nat :=
  let c2_i32_5344 : BitVec 32 := 2#32
  let v3185 : Index := Scalar.indexCast c2_i32_5344
  let c0_i32_5345 : BitVec 32 := 0#32
  let v3186 : Index := Scalar.indexCast c0_i32_5345
  let c0_i32_5325 : BitVec 32 := 0#32
  let c0_i32_3007 : BitVec 32 := 0#32
  let c1_i32_3009 : BitVec 32 := 1#32
  let arg17 : BitVec 32 := Scf.iv c0_i32_3007 c1_i32_3009 k0_t54
  let c1_i32_5324 : BitVec 32 := 1#32
  let v3152 : BitVec 32 := Scalar.muli arg17 c1_i32_5324
  let v3153 : BitVec 32 := Scalar.addi c0_i32_5325 v3152
  let v3187 : Index := Scalar.indexCast v3153
  let c48 : Index := 48#32
  ![2, 0, v3187.toNat, 48]

def k0_chk54 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx425_inb : ∀ (v5 : IVec S16 32) (v8 : IVec S16 32) (v11 : IVec S16 32) (v14 : IVec S16 32) (v15 : IVec S16 32) (v16 : IVec S16 32) (v3154 : IVec S16 32) (k0_hw54 : k0_chk54 v5 v8 v11 v14 v15 v16 v3154), ∀ a x, ((![v15, v3154, v14] : Fin 3 → IVec S16 32) a x).toNat < S2x64x64.size a := fun v5 v8 v11 v14 v15 v16 v3154 k0_hw54 => k0_hw54.1
theorem k0_idx426_inb : ∀ (v5 : IVec S16 32) (v8 : IVec S16 32) (v11 : IVec S16 32) (v14 : IVec S16 32) (v15 : IVec S16 32) (v16 : IVec S16 32) (v3154 : IVec S16 32) (k0_hw54 : k0_chk54 v5 v8 v11 v14 v15 v16 v3154), ∀ a x, ((![v15, v3154, v11] : Fin 3 → IVec S16 32) a x).toNat < S2x64x64.size a := fun v5 v8 v11 v14 v15 v16 v3154 k0_hw54 => k0_hw54.2.1
theorem k0_idx427_inb : ∀ (v5 : IVec S16 32) (v8 : IVec S16 32) (v11 : IVec S16 32) (v14 : IVec S16 32) (v15 : IVec S16 32) (v16 : IVec S16 32) (v3154 : IVec S16 32) (k0_hw54 : k0_chk54 v5 v8 v11 v14 v15 v16 v3154), ∀ a x, ((![v15, v3154, v8] : Fin 3 → IVec S16 32) a x).toNat < S2x64x64.size a := fun v5 v8 v11 v14 v15 v16 v3154 k0_hw54 => k0_hw54.2.2.1
theorem k0_idx428_inb : ∀ (v5 : IVec S16 32) (v8 : IVec S16 32) (v11 : IVec S16 32) (v14 : IVec S16 32) (v15 : IVec S16 32) (v16 : IVec S16 32) (v3154 : IVec S16 32) (k0_hw54 : k0_chk54 v5 v8 v11 v14 v15 v16 v3154), ∀ a x, ((![v15, v3154, v5] : Fin 3 → IVec S16 32) a x).toNat < S2x64x64.size a := fun v5 v8 v11 v14 v15 v16 v3154 k0_hw54 => k0_hw54.2.2.2.1
theorem k0_idx429_inb : ∀ (v5 : IVec S16 32) (v8 : IVec S16 32) (v11 : IVec S16 32) (v14 : IVec S16 32) (v15 : IVec S16 32) (v16 : IVec S16 32) (v3154 : IVec S16 32) (k0_hw54 : k0_chk54 v5 v8 v11 v14 v15 v16 v3154), ∀ a x, ((![v16, v3154, v14] : Fin 3 → IVec S16 32) a x).toNat < S2x64x64.size a := fun v5 v8 v11 v14 v15 v16 v3154 k0_hw54 => k0_hw54.2.2.2.2.1
theorem k0_idx430_inb : ∀ (v5 : IVec S16 32) (v8 : IVec S16 32) (v11 : IVec S16 32) (v14 : IVec S16 32) (v15 : IVec S16 32) (v16 : IVec S16 32) (v3154 : IVec S16 32) (k0_hw54 : k0_chk54 v5 v8 v11 v14 v15 v16 v3154), ∀ a x, ((![v16, v3154, v11] : Fin 3 → IVec S16 32) a x).toNat < S2x64x64.size a := fun v5 v8 v11 v14 v15 v16 v3154 k0_hw54 => k0_hw54.2.2.2.2.2.1
theorem k0_idx431_inb : ∀ (v5 : IVec S16 32) (v8 : IVec S16 32) (v11 : IVec S16 32) (v14 : IVec S16 32) (v15 : IVec S16 32) (v16 : IVec S16 32) (v3154 : IVec S16 32) (k0_hw54 : k0_chk54 v5 v8 v11 v14 v15 v16 v3154), ∀ a x, ((![v16, v3154, v8] : Fin 3 → IVec S16 32) a x).toNat < S2x64x64.size a := fun v5 v8 v11 v14 v15 v16 v3154 k0_hw54 => k0_hw54.2.2.2.2.2.2.1
theorem k0_idx432_inb : ∀ (v5 : IVec S16 32) (v8 : IVec S16 32) (v11 : IVec S16 32) (v14 : IVec S16 32) (v15 : IVec S16 32) (v16 : IVec S16 32) (v3154 : IVec S16 32) (k0_hw54 : k0_chk54 v5 v8 v11 v14 v15 v16 v3154), ∀ a x, ((![v16, v3154, v5] : Fin 3 → IVec S16 32) a x).toNat < S2x64x64.size a := fun v5 v8 v11 v14 v15 v16 v3154 k0_hw54 => k0_hw54.2.2.2.2.2.2.2
def k0_off467 (k0_t54 : Fin k0_t54_loop.trips) : Fin 4 → Nat :=
  let c2_i32_5358 : BitVec 32 := 2#32
  let v3203 : Index := Scalar.indexCast c2_i32_5358
  let c1_i32_5359 : BitVec 32 := 1#32
  let v3204 : Index := Scalar.indexCast c1_i32_5359
  let c0_i32_5325 : BitVec 32 := 0#32
  let c0_i32_3007 : BitVec 32 := 0#32
  let c1_i32_3009 : BitVec 32 := 1#32
  let arg17 : BitVec 32 := Scf.iv c0_i32_3007 c1_i32_3009 k0_t54
  let c1_i32_5324 : BitVec 32 := 1#32
  let v3152 : BitVec 32 := Scalar.muli arg17 c1_i32_5324
  let v3153 : BitVec 32 := Scalar.addi c0_i32_5325 v3152
  let v3205 : Index := Scalar.indexCast v3153
  let c0_5360 : Index := 0#32
  ![2, 1, v3205.toNat, 0]
def k0_off468 (k0_t54 : Fin k0_t54_loop.trips) : Fin 4 → Nat :=
  let c2_i32_5361 : BitVec 32 := 2#32
  let v3209 : Index := Scalar.indexCast c2_i32_5361
  let c1_i32_5362 : BitVec 32 := 1#32
  let v3210 : Index := Scalar.indexCast c1_i32_5362
  let c0_i32_5325 : BitVec 32 := 0#32
  let c0_i32_3007 : BitVec 32 := 0#32
  let c1_i32_3009 : BitVec 32 := 1#32
  let arg17 : BitVec 32 := Scf.iv c0_i32_3007 c1_i32_3009 k0_t54
  let c1_i32_5324 : BitVec 32 := 1#32
  let v3152 : BitVec 32 := Scalar.muli arg17 c1_i32_5324
  let v3153 : BitVec 32 := Scalar.addi c0_i32_5325 v3152
  let v3211 : Index := Scalar.indexCast v3153
  let c16_5363 : Index := 16#32
  ![2, 1, v3211.toNat, 16]
def k0_off469 (k0_t54 : Fin k0_t54_loop.trips) : Fin 4 → Nat :=
  let c2_i32_5364 : BitVec 32 := 2#32
  let v3215 : Index := Scalar.indexCast c2_i32_5364
  let c1_i32_5365 : BitVec 32 := 1#32
  let v3216 : Index := Scalar.indexCast c1_i32_5365
  let c0_i32_5325 : BitVec 32 := 0#32
  let c0_i32_3007 : BitVec 32 := 0#32
  let c1_i32_3009 : BitVec 32 := 1#32
  let arg17 : BitVec 32 := Scf.iv c0_i32_3007 c1_i32_3009 k0_t54
  let c1_i32_5324 : BitVec 32 := 1#32
  let v3152 : BitVec 32 := Scalar.muli arg17 c1_i32_5324
  let v3153 : BitVec 32 := Scalar.addi c0_i32_5325 v3152
  let v3217 : Index := Scalar.indexCast v3153
  let c32_5366 : Index := 32#32
  ![2, 1, v3217.toNat, 32]
def k0_off470 (k0_t54 : Fin k0_t54_loop.trips) : Fin 4 → Nat :=
  let c2_i32_5367 : BitVec 32 := 2#32
  let v3221 : Index := Scalar.indexCast c2_i32_5367
  let c1_i32_5368 : BitVec 32 := 1#32
  let v3222 : Index := Scalar.indexCast c1_i32_5368
  let c0_i32_5325 : BitVec 32 := 0#32
  let c0_i32_3007 : BitVec 32 := 0#32
  let c1_i32_3009 : BitVec 32 := 1#32
  let arg17 : BitVec 32 := Scf.iv c0_i32_3007 c1_i32_3009 k0_t54
  let c1_i32_5324 : BitVec 32 := 1#32
  let v3152 : BitVec 32 := Scalar.muli arg17 c1_i32_5324
  let v3153 : BitVec 32 := Scalar.addi c0_i32_5325 v3152
  let v3223 : Index := Scalar.indexCast v3153
  let c48_5369 : Index := 48#32
  ![2, 1, v3223.toNat, 48]
def k0_off471 (i : grid0.Coords) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c10_i32_3012 : BitVec 32 := 10#32
  let c1_i32_3013 : BitVec 32 := 1#32
  let c0_i32_3017 : BitVec 32 := 0#32
  let c0_i32_3018 : BitVec 32 := 0#32
  ![v2.toNat, 10, 1, 0, 0]
@[reducible] def k0_t55_loop : Scf.Loop 32 :=
  let c0_i32_3064 : BitVec 32 := 0#32
  let c64_i32_3065 : BitVec 32 := 64#32
  let v1823 : BitVec 32 := Scalar.addi c0_i32_3064 c64_i32_3065
  let c1_i32_3066 : BitVec 32 := 1#32
  ⟨c0_i32_3064, v1823, c1_i32_3066⟩
def k0_off472 (k0_t55 : Fin k0_t55_loop.trips) : Fin 4 → Nat :=
  let c0_i32_5338 : BitVec 32 := 0#32
  let v3167 : Index := Scalar.indexCast c0_i32_5338
  let c0_i32_5339 : BitVec 32 := 0#32
  let v3168 : Index := Scalar.indexCast c0_i32_5339
  let c0_i32_5325 : BitVec 32 := 0#32
  let c0_i32_3064 : BitVec 32 := 0#32
  let c1_i32_3066 : BitVec 32 := 1#32
  let arg17 : BitVec 32 := Scf.iv c0_i32_3064 c1_i32_3066 k0_t55
  let c1_i32_5324 : BitVec 32 := 1#32
  let v3152 : BitVec 32 := Scalar.muli arg17 c1_i32_5324
  let v3153 : BitVec 32 := Scalar.addi c0_i32_5325 v3152
  let v3169 : Index := Scalar.indexCast v3153
  let c0 : Index := 0#32
  ![0, 0, v3169.toNat, 0]
def k0_off473 (k0_t55 : Fin k0_t55_loop.trips) : Fin 4 → Nat :=
  let c0_i32_5340 : BitVec 32 := 0#32
  let v3173 : Index := Scalar.indexCast c0_i32_5340
  let c0_i32_5341 : BitVec 32 := 0#32
  let v3174 : Index := Scalar.indexCast c0_i32_5341
  let c0_i32_5325 : BitVec 32 := 0#32
  let c0_i32_3064 : BitVec 32 := 0#32
  let c1_i32_3066 : BitVec 32 := 1#32
  let arg17 : BitVec 32 := Scf.iv c0_i32_3064 c1_i32_3066 k0_t55
  let c1_i32_5324 : BitVec 32 := 1#32
  let v3152 : BitVec 32 := Scalar.muli arg17 c1_i32_5324
  let v3153 : BitVec 32 := Scalar.addi c0_i32_5325 v3152
  let v3175 : Index := Scalar.indexCast v3153
  let c16 : Index := 16#32
  ![0, 0, v3175.toNat, 16]
def k0_off474 (k0_t55 : Fin k0_t55_loop.trips) : Fin 4 → Nat :=
  let c0_i32_5342 : BitVec 32 := 0#32
  let v3179 : Index := Scalar.indexCast c0_i32_5342
  let c0_i32_5343 : BitVec 32 := 0#32
  let v3180 : Index := Scalar.indexCast c0_i32_5343
  let c0_i32_5325 : BitVec 32 := 0#32
  let c0_i32_3064 : BitVec 32 := 0#32
  let c1_i32_3066 : BitVec 32 := 1#32
  let arg17 : BitVec 32 := Scf.iv c0_i32_3064 c1_i32_3066 k0_t55
  let c1_i32_5324 : BitVec 32 := 1#32
  let v3152 : BitVec 32 := Scalar.muli arg17 c1_i32_5324
  let v3153 : BitVec 32 := Scalar.addi c0_i32_5325 v3152
  let v3181 : Index := Scalar.indexCast v3153
  let c32 : Index := 32#32
  ![0, 0, v3181.toNat, 32]
def k0_off475 (k0_t55 : Fin k0_t55_loop.trips) : Fin 4 → Nat :=
  let c0_i32_5344 : BitVec 32 := 0#32
  let v3185 : Index := Scalar.indexCast c0_i32_5344
  let c0_i32_5345 : BitVec 32 := 0#32
  let v3186 : Index := Scalar.indexCast c0_i32_5345
  let c0_i32_5325 : BitVec 32 := 0#32
  let c0_i32_3064 : BitVec 32 := 0#32
  let c1_i32_3066 : BitVec 32 := 1#32
  let arg17 : BitVec 32 := Scf.iv c0_i32_3064 c1_i32_3066 k0_t55
  let c1_i32_5324 : BitVec 32 := 1#32
  let v3152 : BitVec 32 := Scalar.muli arg17 c1_i32_5324
  let v3153 : BitVec 32 := Scalar.addi c0_i32_5325 v3152
  let v3187 : Index := Scalar.indexCast v3153
  let c48 : Index := 48#32
  ![0, 0, v3187.toNat, 48]

def k0_chk55 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx433_inb : ∀ (v5 : IVec S16 32) (v8 : IVec S16 32) (v11 : IVec S16 32) (v14 : IVec S16 32) (v15 : IVec S16 32) (v16 : IVec S16 32) (v3154 : IVec S16 32) (k0_hw55 : k0_chk55 v5 v8 v11 v14 v15 v16 v3154), ∀ a x, ((![v15, v3154, v14] : Fin 3 → IVec S16 32) a x).toNat < S2x64x64.size a := fun v5 v8 v11 v14 v15 v16 v3154 k0_hw55 => k0_hw55.1
theorem k0_idx434_inb : ∀ (v5 : IVec S16 32) (v8 : IVec S16 32) (v11 : IVec S16 32) (v14 : IVec S16 32) (v15 : IVec S16 32) (v16 : IVec S16 32) (v3154 : IVec S16 32) (k0_hw55 : k0_chk55 v5 v8 v11 v14 v15 v16 v3154), ∀ a x, ((![v15, v3154, v11] : Fin 3 → IVec S16 32) a x).toNat < S2x64x64.size a := fun v5 v8 v11 v14 v15 v16 v3154 k0_hw55 => k0_hw55.2.1
theorem k0_idx435_inb : ∀ (v5 : IVec S16 32) (v8 : IVec S16 32) (v11 : IVec S16 32) (v14 : IVec S16 32) (v15 : IVec S16 32) (v16 : IVec S16 32) (v3154 : IVec S16 32) (k0_hw55 : k0_chk55 v5 v8 v11 v14 v15 v16 v3154), ∀ a x, ((![v15, v3154, v8] : Fin 3 → IVec S16 32) a x).toNat < S2x64x64.size a := fun v5 v8 v11 v14 v15 v16 v3154 k0_hw55 => k0_hw55.2.2.1
theorem k0_idx436_inb : ∀ (v5 : IVec S16 32) (v8 : IVec S16 32) (v11 : IVec S16 32) (v14 : IVec S16 32) (v15 : IVec S16 32) (v16 : IVec S16 32) (v3154 : IVec S16 32) (k0_hw55 : k0_chk55 v5 v8 v11 v14 v15 v16 v3154), ∀ a x, ((![v15, v3154, v5] : Fin 3 → IVec S16 32) a x).toNat < S2x64x64.size a := fun v5 v8 v11 v14 v15 v16 v3154 k0_hw55 => k0_hw55.2.2.2.1
theorem k0_idx437_inb : ∀ (v5 : IVec S16 32) (v8 : IVec S16 32) (v11 : IVec S16 32) (v14 : IVec S16 32) (v15 : IVec S16 32) (v16 : IVec S16 32) (v3154 : IVec S16 32) (k0_hw55 : k0_chk55 v5 v8 v11 v14 v15 v16 v3154), ∀ a x, ((![v16, v3154, v14] : Fin 3 → IVec S16 32) a x).toNat < S2x64x64.size a := fun v5 v8 v11 v14 v15 v16 v3154 k0_hw55 => k0_hw55.2.2.2.2.1
theorem k0_idx438_inb : ∀ (v5 : IVec S16 32) (v8 : IVec S16 32) (v11 : IVec S16 32) (v14 : IVec S16 32) (v15 : IVec S16 32) (v16 : IVec S16 32) (v3154 : IVec S16 32) (k0_hw55 : k0_chk55 v5 v8 v11 v14 v15 v16 v3154), ∀ a x, ((![v16, v3154, v11] : Fin 3 → IVec S16 32) a x).toNat < S2x64x64.size a := fun v5 v8 v11 v14 v15 v16 v3154 k0_hw55 => k0_hw55.2.2.2.2.2.1
theorem k0_idx439_inb : ∀ (v5 : IVec S16 32) (v8 : IVec S16 32) (v11 : IVec S16 32) (v14 : IVec S16 32) (v15 : IVec S16 32) (v16 : IVec S16 32) (v3154 : IVec S16 32) (k0_hw55 : k0_chk55 v5 v8 v11 v14 v15 v16 v3154), ∀ a x, ((![v16, v3154, v8] : Fin 3 → IVec S16 32) a x).toNat < S2x64x64.size a := fun v5 v8 v11 v14 v15 v16 v3154 k0_hw55 => k0_hw55.2.2.2.2.2.2.1
theorem k0_idx440_inb : ∀ (v5 : IVec S16 32) (v8 : IVec S16 32) (v11 : IVec S16 32) (v14 : IVec S16 32) (v15 : IVec S16 32) (v16 : IVec S16 32) (v3154 : IVec S16 32) (k0_hw55 : k0_chk55 v5 v8 v11 v14 v15 v16 v3154), ∀ a x, ((![v16, v3154, v5] : Fin 3 → IVec S16 32) a x).toNat < S2x64x64.size a := fun v5 v8 v11 v14 v15 v16 v3154 k0_hw55 => k0_hw55.2.2.2.2.2.2.2
def k0_off476 (k0_t55 : Fin k0_t55_loop.trips) : Fin 4 → Nat :=
  let c0_i32_5358 : BitVec 32 := 0#32
  let v3203 : Index := Scalar.indexCast c0_i32_5358
  let c1_i32_5359 : BitVec 32 := 1#32
  let v3204 : Index := Scalar.indexCast c1_i32_5359
  let c0_i32_5325 : BitVec 32 := 0#32
  let c0_i32_3064 : BitVec 32 := 0#32
  let c1_i32_3066 : BitVec 32 := 1#32
  let arg17 : BitVec 32 := Scf.iv c0_i32_3064 c1_i32_3066 k0_t55
  let c1_i32_5324 : BitVec 32 := 1#32
  let v3152 : BitVec 32 := Scalar.muli arg17 c1_i32_5324
  let v3153 : BitVec 32 := Scalar.addi c0_i32_5325 v3152
  let v3205 : Index := Scalar.indexCast v3153
  let c0_5360 : Index := 0#32
  ![0, 1, v3205.toNat, 0]
def k0_off477 (k0_t55 : Fin k0_t55_loop.trips) : Fin 4 → Nat :=
  let c0_i32_5361 : BitVec 32 := 0#32
  let v3209 : Index := Scalar.indexCast c0_i32_5361
  let c1_i32_5362 : BitVec 32 := 1#32
  let v3210 : Index := Scalar.indexCast c1_i32_5362
  let c0_i32_5325 : BitVec 32 := 0#32
  let c0_i32_3064 : BitVec 32 := 0#32
  let c1_i32_3066 : BitVec 32 := 1#32
  let arg17 : BitVec 32 := Scf.iv c0_i32_3064 c1_i32_3066 k0_t55
  let c1_i32_5324 : BitVec 32 := 1#32
  let v3152 : BitVec 32 := Scalar.muli arg17 c1_i32_5324
  let v3153 : BitVec 32 := Scalar.addi c0_i32_5325 v3152
  let v3211 : Index := Scalar.indexCast v3153
  let c16_5363 : Index := 16#32
  ![0, 1, v3211.toNat, 16]
def k0_off478 (k0_t55 : Fin k0_t55_loop.trips) : Fin 4 → Nat :=
  let c0_i32_5364 : BitVec 32 := 0#32
  let v3215 : Index := Scalar.indexCast c0_i32_5364
  let c1_i32_5365 : BitVec 32 := 1#32
  let v3216 : Index := Scalar.indexCast c1_i32_5365
  let c0_i32_5325 : BitVec 32 := 0#32
  let c0_i32_3064 : BitVec 32 := 0#32
  let c1_i32_3066 : BitVec 32 := 1#32
  let arg17 : BitVec 32 := Scf.iv c0_i32_3064 c1_i32_3066 k0_t55
  let c1_i32_5324 : BitVec 32 := 1#32
  let v3152 : BitVec 32 := Scalar.muli arg17 c1_i32_5324
  let v3153 : BitVec 32 := Scalar.addi c0_i32_5325 v3152
  let v3217 : Index := Scalar.indexCast v3153
  let c32_5366 : Index := 32#32
  ![0, 1, v3217.toNat, 32]
def k0_off479 (k0_t55 : Fin k0_t55_loop.trips) : Fin 4 → Nat :=
  let c0_i32_5367 : BitVec 32 := 0#32
  let v3221 : Index := Scalar.indexCast c0_i32_5367
  let c1_i32_5368 : BitVec 32 := 1#32
  let v3222 : Index := Scalar.indexCast c1_i32_5368
  let c0_i32_5325 : BitVec 32 := 0#32
  let c0_i32_3064 : BitVec 32 := 0#32
  let c1_i32_3066 : BitVec 32 := 1#32
  let arg17 : BitVec 32 := Scf.iv c0_i32_3064 c1_i32_3066 k0_t55
  let c1_i32_5324 : BitVec 32 := 1#32
  let v3152 : BitVec 32 := Scalar.muli arg17 c1_i32_5324
  let v3153 : BitVec 32 := Scalar.addi c0_i32_5325 v3152
  let v3223 : Index := Scalar.indexCast v3153
  let c48_5369 : Index := 48#32
  ![0, 1, v3223.toNat, 48]
@[reducible] def k0_t56_loop : Scf.Loop 32 :=
  let c0_i32_3120 : BitVec 32 := 0#32
  let c64_i32_3121 : BitVec 32 := 64#32
  let v1856 : BitVec 32 := Scalar.addi c0_i32_3120 c64_i32_3121
  let c1_i32_3122 : BitVec 32 := 1#32
  ⟨c0_i32_3120, v1856, c1_i32_3122⟩
def k0_off480 (k0_t56 : Fin k0_t56_loop.trips) : Fin 4 → Nat :=
  let c1_i32_5338 : BitVec 32 := 1#32
  let v3167 : Index := Scalar.indexCast c1_i32_5338
  let c0_i32_5339 : BitVec 32 := 0#32
  let v3168 : Index := Scalar.indexCast c0_i32_5339
  let c0_i32_5325 : BitVec 32 := 0#32
  let c0_i32_3120 : BitVec 32 := 0#32
  let c1_i32_3122 : BitVec 32 := 1#32
  let arg17 : BitVec 32 := Scf.iv c0_i32_3120 c1_i32_3122 k0_t56
  let c1_i32_5324 : BitVec 32 := 1#32
  let v3152 : BitVec 32 := Scalar.muli arg17 c1_i32_5324
  let v3153 : BitVec 32 := Scalar.addi c0_i32_5325 v3152
  let v3169 : Index := Scalar.indexCast v3153
  let c0 : Index := 0#32
  ![1, 0, v3169.toNat, 0]
def k0_off481 (k0_t56 : Fin k0_t56_loop.trips) : Fin 4 → Nat :=
  let c1_i32_5340 : BitVec 32 := 1#32
  let v3173 : Index := Scalar.indexCast c1_i32_5340
  let c0_i32_5341 : BitVec 32 := 0#32
  let v3174 : Index := Scalar.indexCast c0_i32_5341
  let c0_i32_5325 : BitVec 32 := 0#32
  let c0_i32_3120 : BitVec 32 := 0#32
  let c1_i32_3122 : BitVec 32 := 1#32
  let arg17 : BitVec 32 := Scf.iv c0_i32_3120 c1_i32_3122 k0_t56
  let c1_i32_5324 : BitVec 32 := 1#32
  let v3152 : BitVec 32 := Scalar.muli arg17 c1_i32_5324
  let v3153 : BitVec 32 := Scalar.addi c0_i32_5325 v3152
  let v3175 : Index := Scalar.indexCast v3153
  let c16 : Index := 16#32
  ![1, 0, v3175.toNat, 16]
def k0_off482 (k0_t56 : Fin k0_t56_loop.trips) : Fin 4 → Nat :=
  let c1_i32_5342 : BitVec 32 := 1#32
  let v3179 : Index := Scalar.indexCast c1_i32_5342
  let c0_i32_5343 : BitVec 32 := 0#32
  let v3180 : Index := Scalar.indexCast c0_i32_5343
  let c0_i32_5325 : BitVec 32 := 0#32
  let c0_i32_3120 : BitVec 32 := 0#32
  let c1_i32_3122 : BitVec 32 := 1#32
  let arg17 : BitVec 32 := Scf.iv c0_i32_3120 c1_i32_3122 k0_t56
  let c1_i32_5324 : BitVec 32 := 1#32
  let v3152 : BitVec 32 := Scalar.muli arg17 c1_i32_5324
  let v3153 : BitVec 32 := Scalar.addi c0_i32_5325 v3152
  let v3181 : Index := Scalar.indexCast v3153
  let c32 : Index := 32#32
  ![1, 0, v3181.toNat, 32]
def k0_off483 (k0_t56 : Fin k0_t56_loop.trips) : Fin 4 → Nat :=
  let c1_i32_5344 : BitVec 32 := 1#32
  let v3185 : Index := Scalar.indexCast c1_i32_5344
  let c0_i32_5345 : BitVec 32 := 0#32
  let v3186 : Index := Scalar.indexCast c0_i32_5345
  let c0_i32_5325 : BitVec 32 := 0#32
  let c0_i32_3120 : BitVec 32 := 0#32
  let c1_i32_3122 : BitVec 32 := 1#32
  let arg17 : BitVec 32 := Scf.iv c0_i32_3120 c1_i32_3122 k0_t56
  let c1_i32_5324 : BitVec 32 := 1#32
  let v3152 : BitVec 32 := Scalar.muli arg17 c1_i32_5324
  let v3153 : BitVec 32 := Scalar.addi c0_i32_5325 v3152
  let v3187 : Index := Scalar.indexCast v3153
  let c48 : Index := 48#32
  ![1, 0, v3187.toNat, 48]

def k0_chk56 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx441_inb : ∀ (v5 : IVec S16 32) (v8 : IVec S16 32) (v11 : IVec S16 32) (v14 : IVec S16 32) (v15 : IVec S16 32) (v16 : IVec S16 32) (v3154 : IVec S16 32) (k0_hw56 : k0_chk56 v5 v8 v11 v14 v15 v16 v3154), ∀ a x, ((![v15, v3154, v14] : Fin 3 → IVec S16 32) a x).toNat < S2x64x64.size a := fun v5 v8 v11 v14 v15 v16 v3154 k0_hw56 => k0_hw56.1
theorem k0_idx442_inb : ∀ (v5 : IVec S16 32) (v8 : IVec S16 32) (v11 : IVec S16 32) (v14 : IVec S16 32) (v15 : IVec S16 32) (v16 : IVec S16 32) (v3154 : IVec S16 32) (k0_hw56 : k0_chk56 v5 v8 v11 v14 v15 v16 v3154), ∀ a x, ((![v15, v3154, v11] : Fin 3 → IVec S16 32) a x).toNat < S2x64x64.size a := fun v5 v8 v11 v14 v15 v16 v3154 k0_hw56 => k0_hw56.2.1
theorem k0_idx443_inb : ∀ (v5 : IVec S16 32) (v8 : IVec S16 32) (v11 : IVec S16 32) (v14 : IVec S16 32) (v15 : IVec S16 32) (v16 : IVec S16 32) (v3154 : IVec S16 32) (k0_hw56 : k0_chk56 v5 v8 v11 v14 v15 v16 v3154), ∀ a x, ((![v15, v3154, v8] : Fin 3 → IVec S16 32) a x).toNat < S2x64x64.size a := fun v5 v8 v11 v14 v15 v16 v3154 k0_hw56 => k0_hw56.2.2.1
theorem k0_idx444_inb : ∀ (v5 : IVec S16 32) (v8 : IVec S16 32) (v11 : IVec S16 32) (v14 : IVec S16 32) (v15 : IVec S16 32) (v16 : IVec S16 32) (v3154 : IVec S16 32) (k0_hw56 : k0_chk56 v5 v8 v11 v14 v15 v16 v3154), ∀ a x, ((![v15, v3154, v5] : Fin 3 → IVec S16 32) a x).toNat < S2x64x64.size a := fun v5 v8 v11 v14 v15 v16 v3154 k0_hw56 => k0_hw56.2.2.2.1
theorem k0_idx445_inb : ∀ (v5 : IVec S16 32) (v8 : IVec S16 32) (v11 : IVec S16 32) (v14 : IVec S16 32) (v15 : IVec S16 32) (v16 : IVec S16 32) (v3154 : IVec S16 32) (k0_hw56 : k0_chk56 v5 v8 v11 v14 v15 v16 v3154), ∀ a x, ((![v16, v3154, v14] : Fin 3 → IVec S16 32) a x).toNat < S2x64x64.size a := fun v5 v8 v11 v14 v15 v16 v3154 k0_hw56 => k0_hw56.2.2.2.2.1
theorem k0_idx446_inb : ∀ (v5 : IVec S16 32) (v8 : IVec S16 32) (v11 : IVec S16 32) (v14 : IVec S16 32) (v15 : IVec S16 32) (v16 : IVec S16 32) (v3154 : IVec S16 32) (k0_hw56 : k0_chk56 v5 v8 v11 v14 v15 v16 v3154), ∀ a x, ((![v16, v3154, v11] : Fin 3 → IVec S16 32) a x).toNat < S2x64x64.size a := fun v5 v8 v11 v14 v15 v16 v3154 k0_hw56 => k0_hw56.2.2.2.2.2.1
theorem k0_idx447_inb : ∀ (v5 : IVec S16 32) (v8 : IVec S16 32) (v11 : IVec S16 32) (v14 : IVec S16 32) (v15 : IVec S16 32) (v16 : IVec S16 32) (v3154 : IVec S16 32) (k0_hw56 : k0_chk56 v5 v8 v11 v14 v15 v16 v3154), ∀ a x, ((![v16, v3154, v8] : Fin 3 → IVec S16 32) a x).toNat < S2x64x64.size a := fun v5 v8 v11 v14 v15 v16 v3154 k0_hw56 => k0_hw56.2.2.2.2.2.2.1
theorem k0_idx448_inb : ∀ (v5 : IVec S16 32) (v8 : IVec S16 32) (v11 : IVec S16 32) (v14 : IVec S16 32) (v15 : IVec S16 32) (v16 : IVec S16 32) (v3154 : IVec S16 32) (k0_hw56 : k0_chk56 v5 v8 v11 v14 v15 v16 v3154), ∀ a x, ((![v16, v3154, v5] : Fin 3 → IVec S16 32) a x).toNat < S2x64x64.size a := fun v5 v8 v11 v14 v15 v16 v3154 k0_hw56 => k0_hw56.2.2.2.2.2.2.2
def k0_off484 (k0_t56 : Fin k0_t56_loop.trips) : Fin 4 → Nat :=
  let c1_i32_5358 : BitVec 32 := 1#32
  let v3203 : Index := Scalar.indexCast c1_i32_5358
  let c1_i32_5359 : BitVec 32 := 1#32
  let v3204 : Index := Scalar.indexCast c1_i32_5359
  let c0_i32_5325 : BitVec 32 := 0#32
  let c0_i32_3120 : BitVec 32 := 0#32
  let c1_i32_3122 : BitVec 32 := 1#32
  let arg17 : BitVec 32 := Scf.iv c0_i32_3120 c1_i32_3122 k0_t56
  let c1_i32_5324 : BitVec 32 := 1#32
  let v3152 : BitVec 32 := Scalar.muli arg17 c1_i32_5324
  let v3153 : BitVec 32 := Scalar.addi c0_i32_5325 v3152
  let v3205 : Index := Scalar.indexCast v3153
  let c0_5360 : Index := 0#32
  ![1, 1, v3205.toNat, 0]
def k0_off485 (k0_t56 : Fin k0_t56_loop.trips) : Fin 4 → Nat :=
  let c1_i32_5361 : BitVec 32 := 1#32
  let v3209 : Index := Scalar.indexCast c1_i32_5361
  let c1_i32_5362 : BitVec 32 := 1#32
  let v3210 : Index := Scalar.indexCast c1_i32_5362
  let c0_i32_5325 : BitVec 32 := 0#32
  let c0_i32_3120 : BitVec 32 := 0#32
  let c1_i32_3122 : BitVec 32 := 1#32
  let arg17 : BitVec 32 := Scf.iv c0_i32_3120 c1_i32_3122 k0_t56
  let c1_i32_5324 : BitVec 32 := 1#32
  let v3152 : BitVec 32 := Scalar.muli arg17 c1_i32_5324
  let v3153 : BitVec 32 := Scalar.addi c0_i32_5325 v3152
  let v3211 : Index := Scalar.indexCast v3153
  let c16_5363 : Index := 16#32
  ![1, 1, v3211.toNat, 16]
def k0_off486 (k0_t56 : Fin k0_t56_loop.trips) : Fin 4 → Nat :=
  let c1_i32_5364 : BitVec 32 := 1#32
  let v3215 : Index := Scalar.indexCast c1_i32_5364
  let c1_i32_5365 : BitVec 32 := 1#32
  let v3216 : Index := Scalar.indexCast c1_i32_5365
  let c0_i32_5325 : BitVec 32 := 0#32
  let c0_i32_3120 : BitVec 32 := 0#32
  let c1_i32_3122 : BitVec 32 := 1#32
  let arg17 : BitVec 32 := Scf.iv c0_i32_3120 c1_i32_3122 k0_t56
  let c1_i32_5324 : BitVec 32 := 1#32
  let v3152 : BitVec 32 := Scalar.muli arg17 c1_i32_5324
  let v3153 : BitVec 32 := Scalar.addi c0_i32_5325 v3152
  let v3217 : Index := Scalar.indexCast v3153
  let c32_5366 : Index := 32#32
  ![1, 1, v3217.toNat, 32]
def k0_off487 (k0_t56 : Fin k0_t56_loop.trips) : Fin 4 → Nat :=
  let c1_i32_5367 : BitVec 32 := 1#32
  let v3221 : Index := Scalar.indexCast c1_i32_5367
  let c1_i32_5368 : BitVec 32 := 1#32
  let v3222 : Index := Scalar.indexCast c1_i32_5368
  let c0_i32_5325 : BitVec 32 := 0#32
  let c0_i32_3120 : BitVec 32 := 0#32
  let c1_i32_3122 : BitVec 32 := 1#32
  let arg17 : BitVec 32 := Scf.iv c0_i32_3120 c1_i32_3122 k0_t56
  let c1_i32_5324 : BitVec 32 := 1#32
  let v3152 : BitVec 32 := Scalar.muli arg17 c1_i32_5324
  let v3153 : BitVec 32 := Scalar.addi c0_i32_5325 v3152
  let v3223 : Index := Scalar.indexCast v3153
  let c48_5369 : Index := 48#32
  ![1, 1, v3223.toNat, 48]
@[reducible] def k0_t57_loop : Scf.Loop 32 :=
  let c0_i32_3176 : BitVec 32 := 0#32
  let c64_i32_3177 : BitVec 32 := 64#32
  let v1889 : BitVec 32 := Scalar.addi c0_i32_3176 c64_i32_3177
  let c1_i32_3178 : BitVec 32 := 1#32
  ⟨c0_i32_3176, v1889, c1_i32_3178⟩
def k0_off488 (k0_t57 : Fin k0_t57_loop.trips) : Fin 4 → Nat :=
  let c2_i32_5341 : BitVec 32 := 2#32
  let v3175 : Index := Scalar.indexCast c2_i32_5341
  let c0_i32_5342 : BitVec 32 := 0#32
  let v3176 : Index := Scalar.indexCast c0_i32_5342
  let c0_i32_5325 : BitVec 32 := 0#32
  let c0_i32_3176 : BitVec 32 := 0#32
  let c1_i32_3178 : BitVec 32 := 1#32
  let arg17 : BitVec 32 := Scf.iv c0_i32_3176 c1_i32_3178 k0_t57
  let c1_i32_5324 : BitVec 32 := 1#32
  let v3152 : BitVec 32 := Scalar.muli arg17 c1_i32_5324
  let v3153 : BitVec 32 := Scalar.addi c0_i32_5325 v3152
  let v3177 : Index := Scalar.indexCast v3153
  let c0 : Index := 0#32
  ![2, 0, v3177.toNat, 0]
def k0_off489 (k0_t57 : Fin k0_t57_loop.trips) : Fin 4 → Nat :=
  let c2_i32_5343 : BitVec 32 := 2#32
  let v3181 : Index := Scalar.indexCast c2_i32_5343
  let c0_i32_5344 : BitVec 32 := 0#32
  let v3182 : Index := Scalar.indexCast c0_i32_5344
  let c0_i32_5325 : BitVec 32 := 0#32
  let c0_i32_3176 : BitVec 32 := 0#32
  let c1_i32_3178 : BitVec 32 := 1#32
  let arg17 : BitVec 32 := Scf.iv c0_i32_3176 c1_i32_3178 k0_t57
  let c1_i32_5324 : BitVec 32 := 1#32
  let v3152 : BitVec 32 := Scalar.muli arg17 c1_i32_5324
  let v3153 : BitVec 32 := Scalar.addi c0_i32_5325 v3152
  let v3183 : Index := Scalar.indexCast v3153
  let c16 : Index := 16#32
  ![2, 0, v3183.toNat, 16]
def k0_off490 (k0_t57 : Fin k0_t57_loop.trips) : Fin 4 → Nat :=
  let c2_i32_5345 : BitVec 32 := 2#32
  let v3187 : Index := Scalar.indexCast c2_i32_5345
  let c0_i32_5346 : BitVec 32 := 0#32
  let v3188 : Index := Scalar.indexCast c0_i32_5346
  let c0_i32_5325 : BitVec 32 := 0#32
  let c0_i32_3176 : BitVec 32 := 0#32
  let c1_i32_3178 : BitVec 32 := 1#32
  let arg17 : BitVec 32 := Scf.iv c0_i32_3176 c1_i32_3178 k0_t57
  let c1_i32_5324 : BitVec 32 := 1#32
  let v3152 : BitVec 32 := Scalar.muli arg17 c1_i32_5324
  let v3153 : BitVec 32 := Scalar.addi c0_i32_5325 v3152
  let v3189 : Index := Scalar.indexCast v3153
  let c32 : Index := 32#32
  ![2, 0, v3189.toNat, 32]
def k0_off491 (k0_t57 : Fin k0_t57_loop.trips) : Fin 4 → Nat :=
  let c2_i32_5347 : BitVec 32 := 2#32
  let v3193 : Index := Scalar.indexCast c2_i32_5347
  let c0_i32_5348 : BitVec 32 := 0#32
  let v3194 : Index := Scalar.indexCast c0_i32_5348
  let c0_i32_5325 : BitVec 32 := 0#32
  let c0_i32_3176 : BitVec 32 := 0#32
  let c1_i32_3178 : BitVec 32 := 1#32
  let arg17 : BitVec 32 := Scf.iv c0_i32_3176 c1_i32_3178 k0_t57
  let c1_i32_5324 : BitVec 32 := 1#32
  let v3152 : BitVec 32 := Scalar.muli arg17 c1_i32_5324
  let v3153 : BitVec 32 := Scalar.addi c0_i32_5325 v3152
  let v3195 : Index := Scalar.indexCast v3153
  let c48 : Index := 48#32
  ![2, 0, v3195.toNat, 48]

def k0_chk57 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx449_inb : ∀ (v5 : IVec S16 32) (v8 : IVec S16 32) (v11 : IVec S16 32) (v14 : IVec S16 32) (v15 : IVec S16 32) (v16 : IVec S16 32) (v3154 : IVec S16 32) (k0_hw57 : k0_chk57 v5 v8 v11 v14 v15 v16 v3154), ∀ a x, ((![v15, v3154, v14] : Fin 3 → IVec S16 32) a x).toNat < S2x64x64.size a := fun v5 v8 v11 v14 v15 v16 v3154 k0_hw57 => k0_hw57.1
theorem k0_idx450_inb : ∀ (v5 : IVec S16 32) (v8 : IVec S16 32) (v11 : IVec S16 32) (v14 : IVec S16 32) (v15 : IVec S16 32) (v16 : IVec S16 32) (v3154 : IVec S16 32) (k0_hw57 : k0_chk57 v5 v8 v11 v14 v15 v16 v3154), ∀ a x, ((![v15, v3154, v11] : Fin 3 → IVec S16 32) a x).toNat < S2x64x64.size a := fun v5 v8 v11 v14 v15 v16 v3154 k0_hw57 => k0_hw57.2.1
theorem k0_idx451_inb : ∀ (v5 : IVec S16 32) (v8 : IVec S16 32) (v11 : IVec S16 32) (v14 : IVec S16 32) (v15 : IVec S16 32) (v16 : IVec S16 32) (v3154 : IVec S16 32) (k0_hw57 : k0_chk57 v5 v8 v11 v14 v15 v16 v3154), ∀ a x, ((![v15, v3154, v8] : Fin 3 → IVec S16 32) a x).toNat < S2x64x64.size a := fun v5 v8 v11 v14 v15 v16 v3154 k0_hw57 => k0_hw57.2.2.1
theorem k0_idx452_inb : ∀ (v5 : IVec S16 32) (v8 : IVec S16 32) (v11 : IVec S16 32) (v14 : IVec S16 32) (v15 : IVec S16 32) (v16 : IVec S16 32) (v3154 : IVec S16 32) (k0_hw57 : k0_chk57 v5 v8 v11 v14 v15 v16 v3154), ∀ a x, ((![v15, v3154, v5] : Fin 3 → IVec S16 32) a x).toNat < S2x64x64.size a := fun v5 v8 v11 v14 v15 v16 v3154 k0_hw57 => k0_hw57.2.2.2.1
theorem k0_idx453_inb : ∀ (v5 : IVec S16 32) (v8 : IVec S16 32) (v11 : IVec S16 32) (v14 : IVec S16 32) (v15 : IVec S16 32) (v16 : IVec S16 32) (v3154 : IVec S16 32) (k0_hw57 : k0_chk57 v5 v8 v11 v14 v15 v16 v3154), ∀ a x, ((![v16, v3154, v14] : Fin 3 → IVec S16 32) a x).toNat < S2x64x64.size a := fun v5 v8 v11 v14 v15 v16 v3154 k0_hw57 => k0_hw57.2.2.2.2.1
theorem k0_idx454_inb : ∀ (v5 : IVec S16 32) (v8 : IVec S16 32) (v11 : IVec S16 32) (v14 : IVec S16 32) (v15 : IVec S16 32) (v16 : IVec S16 32) (v3154 : IVec S16 32) (k0_hw57 : k0_chk57 v5 v8 v11 v14 v15 v16 v3154), ∀ a x, ((![v16, v3154, v11] : Fin 3 → IVec S16 32) a x).toNat < S2x64x64.size a := fun v5 v8 v11 v14 v15 v16 v3154 k0_hw57 => k0_hw57.2.2.2.2.2.1
theorem k0_idx455_inb : ∀ (v5 : IVec S16 32) (v8 : IVec S16 32) (v11 : IVec S16 32) (v14 : IVec S16 32) (v15 : IVec S16 32) (v16 : IVec S16 32) (v3154 : IVec S16 32) (k0_hw57 : k0_chk57 v5 v8 v11 v14 v15 v16 v3154), ∀ a x, ((![v16, v3154, v8] : Fin 3 → IVec S16 32) a x).toNat < S2x64x64.size a := fun v5 v8 v11 v14 v15 v16 v3154 k0_hw57 => k0_hw57.2.2.2.2.2.2.1
theorem k0_idx456_inb : ∀ (v5 : IVec S16 32) (v8 : IVec S16 32) (v11 : IVec S16 32) (v14 : IVec S16 32) (v15 : IVec S16 32) (v16 : IVec S16 32) (v3154 : IVec S16 32) (k0_hw57 : k0_chk57 v5 v8 v11 v14 v15 v16 v3154), ∀ a x, ((![v16, v3154, v5] : Fin 3 → IVec S16 32) a x).toNat < S2x64x64.size a := fun v5 v8 v11 v14 v15 v16 v3154 k0_hw57 => k0_hw57.2.2.2.2.2.2.2
def k0_off492 (k0_t57 : Fin k0_t57_loop.trips) : Fin 4 → Nat :=
  let c2_i32_5365 : BitVec 32 := 2#32
  let v3219 : Index := Scalar.indexCast c2_i32_5365
  let c1_i32_5366 : BitVec 32 := 1#32
  let v3220 : Index := Scalar.indexCast c1_i32_5366
  let c0_i32_5325 : BitVec 32 := 0#32
  let c0_i32_3176 : BitVec 32 := 0#32
  let c1_i32_3178 : BitVec 32 := 1#32
  let arg17 : BitVec 32 := Scf.iv c0_i32_3176 c1_i32_3178 k0_t57
  let c1_i32_5324 : BitVec 32 := 1#32
  let v3152 : BitVec 32 := Scalar.muli arg17 c1_i32_5324
  let v3153 : BitVec 32 := Scalar.addi c0_i32_5325 v3152
  let v3221 : Index := Scalar.indexCast v3153
  let c0_5367 : Index := 0#32
  ![2, 1, v3221.toNat, 0]
def k0_off493 (k0_t57 : Fin k0_t57_loop.trips) : Fin 4 → Nat :=
  let c2_i32_5368 : BitVec 32 := 2#32
  let v3225 : Index := Scalar.indexCast c2_i32_5368
  let c1_i32_5369 : BitVec 32 := 1#32
  let v3226 : Index := Scalar.indexCast c1_i32_5369
  let c0_i32_5325 : BitVec 32 := 0#32
  let c0_i32_3176 : BitVec 32 := 0#32
  let c1_i32_3178 : BitVec 32 := 1#32
  let arg17 : BitVec 32 := Scf.iv c0_i32_3176 c1_i32_3178 k0_t57
  let c1_i32_5324 : BitVec 32 := 1#32
  let v3152 : BitVec 32 := Scalar.muli arg17 c1_i32_5324
  let v3153 : BitVec 32 := Scalar.addi c0_i32_5325 v3152
  let v3227 : Index := Scalar.indexCast v3153
  let c16_5370 : Index := 16#32
  ![2, 1, v3227.toNat, 16]
def k0_off494 (k0_t57 : Fin k0_t57_loop.trips) : Fin 4 → Nat :=
  let c2_i32_5371 : BitVec 32 := 2#32
  let v3231 : Index := Scalar.indexCast c2_i32_5371
  let c1_i32_5372 : BitVec 32 := 1#32
  let v3232 : Index := Scalar.indexCast c1_i32_5372
  let c0_i32_5325 : BitVec 32 := 0#32
  let c0_i32_3176 : BitVec 32 := 0#32
  let c1_i32_3178 : BitVec 32 := 1#32
  let arg17 : BitVec 32 := Scf.iv c0_i32_3176 c1_i32_3178 k0_t57
  let c1_i32_5324 : BitVec 32 := 1#32
  let v3152 : BitVec 32 := Scalar.muli arg17 c1_i32_5324
  let v3153 : BitVec 32 := Scalar.addi c0_i32_5325 v3152
  let v3233 : Index := Scalar.indexCast v3153
  let c32_5373 : Index := 32#32
  ![2, 1, v3233.toNat, 32]
def k0_off495 (k0_t57 : Fin k0_t57_loop.trips) : Fin 4 → Nat :=
  let c2_i32_5374 : BitVec 32 := 2#32
  let v3237 : Index := Scalar.indexCast c2_i32_5374
  let c1_i32_5375 : BitVec 32 := 1#32
  let v3238 : Index := Scalar.indexCast c1_i32_5375
  let c0_i32_5325 : BitVec 32 := 0#32
  let c0_i32_3176 : BitVec 32 := 0#32
  let c1_i32_3178 : BitVec 32 := 1#32
  let arg17 : BitVec 32 := Scf.iv c0_i32_3176 c1_i32_3178 k0_t57
  let c1_i32_5324 : BitVec 32 := 1#32
  let v3152 : BitVec 32 := Scalar.muli arg17 c1_i32_5324
  let v3153 : BitVec 32 := Scalar.addi c0_i32_5325 v3152
  let v3239 : Index := Scalar.indexCast v3153
  let c48_5376 : Index := 48#32
  ![2, 1, v3239.toNat, 48]
def k0_off496 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c12_i32 : BitVec 32 := 12#32
  let c0_i32_3197 : BitVec 32 := 0#32
  let c0_i32_3198 : BitVec 32 := 0#32
  ![v2.toNat, 12, 0, 0]
@[reducible] def k0_t58_loop : Scf.Loop 32 :=
  let c0_i32_3231 : BitVec 32 := 0#32
  let c64_i32_3232 : BitVec 32 := 64#32
  let v1922 : BitVec 32 := Scalar.addi c0_i32_3231 c64_i32_3232
  let c1_i32_3233 : BitVec 32 := 1#32
  ⟨c0_i32_3231, v1922, c1_i32_3233⟩
def k0_off497 (k0_t58 : Fin k0_t58_loop.trips) : Fin 4 → Nat :=
  let c0_i32_5341 : BitVec 32 := 0#32
  let v3175 : Index := Scalar.indexCast c0_i32_5341
  let c0_i32_5342 : BitVec 32 := 0#32
  let v3176 : Index := Scalar.indexCast c0_i32_5342
  let c0_i32_5325 : BitVec 32 := 0#32
  let c0_i32_3231 : BitVec 32 := 0#32
  let c1_i32_3233 : BitVec 32 := 1#32
  let arg17 : BitVec 32 := Scf.iv c0_i32_3231 c1_i32_3233 k0_t58
  let c1_i32_5324 : BitVec 32 := 1#32
  let v3152 : BitVec 32 := Scalar.muli arg17 c1_i32_5324
  let v3153 : BitVec 32 := Scalar.addi c0_i32_5325 v3152
  let v3177 : Index := Scalar.indexCast v3153
  let c0 : Index := 0#32
  ![0, 0, v3177.toNat, 0]
def k0_off498 (k0_t58 : Fin k0_t58_loop.trips) : Fin 4 → Nat :=
  let c0_i32_5343 : BitVec 32 := 0#32
  let v3181 : Index := Scalar.indexCast c0_i32_5343
  let c0_i32_5344 : BitVec 32 := 0#32
  let v3182 : Index := Scalar.indexCast c0_i32_5344
  let c0_i32_5325 : BitVec 32 := 0#32
  let c0_i32_3231 : BitVec 32 := 0#32
  let c1_i32_3233 : BitVec 32 := 1#32
  let arg17 : BitVec 32 := Scf.iv c0_i32_3231 c1_i32_3233 k0_t58
  let c1_i32_5324 : BitVec 32 := 1#32
  let v3152 : BitVec 32 := Scalar.muli arg17 c1_i32_5324
  let v3153 : BitVec 32 := Scalar.addi c0_i32_5325 v3152
  let v3183 : Index := Scalar.indexCast v3153
  let c16 : Index := 16#32
  ![0, 0, v3183.toNat, 16]
def k0_off499 (k0_t58 : Fin k0_t58_loop.trips) : Fin 4 → Nat :=
  let c0_i32_5345 : BitVec 32 := 0#32
  let v3187 : Index := Scalar.indexCast c0_i32_5345
  let c0_i32_5346 : BitVec 32 := 0#32
  let v3188 : Index := Scalar.indexCast c0_i32_5346
  let c0_i32_5325 : BitVec 32 := 0#32
  let c0_i32_3231 : BitVec 32 := 0#32
  let c1_i32_3233 : BitVec 32 := 1#32
  let arg17 : BitVec 32 := Scf.iv c0_i32_3231 c1_i32_3233 k0_t58
  let c1_i32_5324 : BitVec 32 := 1#32
  let v3152 : BitVec 32 := Scalar.muli arg17 c1_i32_5324
  let v3153 : BitVec 32 := Scalar.addi c0_i32_5325 v3152
  let v3189 : Index := Scalar.indexCast v3153
  let c32 : Index := 32#32
  ![0, 0, v3189.toNat, 32]
def k0_off500 (k0_t58 : Fin k0_t58_loop.trips) : Fin 4 → Nat :=
  let c0_i32_5347 : BitVec 32 := 0#32
  let v3193 : Index := Scalar.indexCast c0_i32_5347
  let c0_i32_5348 : BitVec 32 := 0#32
  let v3194 : Index := Scalar.indexCast c0_i32_5348
  let c0_i32_5325 : BitVec 32 := 0#32
  let c0_i32_3231 : BitVec 32 := 0#32
  let c1_i32_3233 : BitVec 32 := 1#32
  let arg17 : BitVec 32 := Scf.iv c0_i32_3231 c1_i32_3233 k0_t58
  let c1_i32_5324 : BitVec 32 := 1#32
  let v3152 : BitVec 32 := Scalar.muli arg17 c1_i32_5324
  let v3153 : BitVec 32 := Scalar.addi c0_i32_5325 v3152
  let v3195 : Index := Scalar.indexCast v3153
  let c48 : Index := 48#32
  ![0, 0, v3195.toNat, 48]

def k0_chk58 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx457_inb : ∀ (v5 : IVec S16 32) (v8 : IVec S16 32) (v11 : IVec S16 32) (v14 : IVec S16 32) (v15 : IVec S16 32) (v16 : IVec S16 32) (v3154 : IVec S16 32) (k0_hw58 : k0_chk58 v5 v8 v11 v14 v15 v16 v3154), ∀ a x, ((![v15, v3154, v14] : Fin 3 → IVec S16 32) a x).toNat < S2x64x64.size a := fun v5 v8 v11 v14 v15 v16 v3154 k0_hw58 => k0_hw58.1
theorem k0_idx458_inb : ∀ (v5 : IVec S16 32) (v8 : IVec S16 32) (v11 : IVec S16 32) (v14 : IVec S16 32) (v15 : IVec S16 32) (v16 : IVec S16 32) (v3154 : IVec S16 32) (k0_hw58 : k0_chk58 v5 v8 v11 v14 v15 v16 v3154), ∀ a x, ((![v15, v3154, v11] : Fin 3 → IVec S16 32) a x).toNat < S2x64x64.size a := fun v5 v8 v11 v14 v15 v16 v3154 k0_hw58 => k0_hw58.2.1
theorem k0_idx459_inb : ∀ (v5 : IVec S16 32) (v8 : IVec S16 32) (v11 : IVec S16 32) (v14 : IVec S16 32) (v15 : IVec S16 32) (v16 : IVec S16 32) (v3154 : IVec S16 32) (k0_hw58 : k0_chk58 v5 v8 v11 v14 v15 v16 v3154), ∀ a x, ((![v15, v3154, v8] : Fin 3 → IVec S16 32) a x).toNat < S2x64x64.size a := fun v5 v8 v11 v14 v15 v16 v3154 k0_hw58 => k0_hw58.2.2.1
theorem k0_idx460_inb : ∀ (v5 : IVec S16 32) (v8 : IVec S16 32) (v11 : IVec S16 32) (v14 : IVec S16 32) (v15 : IVec S16 32) (v16 : IVec S16 32) (v3154 : IVec S16 32) (k0_hw58 : k0_chk58 v5 v8 v11 v14 v15 v16 v3154), ∀ a x, ((![v15, v3154, v5] : Fin 3 → IVec S16 32) a x).toNat < S2x64x64.size a := fun v5 v8 v11 v14 v15 v16 v3154 k0_hw58 => k0_hw58.2.2.2.1
theorem k0_idx461_inb : ∀ (v5 : IVec S16 32) (v8 : IVec S16 32) (v11 : IVec S16 32) (v14 : IVec S16 32) (v15 : IVec S16 32) (v16 : IVec S16 32) (v3154 : IVec S16 32) (k0_hw58 : k0_chk58 v5 v8 v11 v14 v15 v16 v3154), ∀ a x, ((![v16, v3154, v14] : Fin 3 → IVec S16 32) a x).toNat < S2x64x64.size a := fun v5 v8 v11 v14 v15 v16 v3154 k0_hw58 => k0_hw58.2.2.2.2.1
theorem k0_idx462_inb : ∀ (v5 : IVec S16 32) (v8 : IVec S16 32) (v11 : IVec S16 32) (v14 : IVec S16 32) (v15 : IVec S16 32) (v16 : IVec S16 32) (v3154 : IVec S16 32) (k0_hw58 : k0_chk58 v5 v8 v11 v14 v15 v16 v3154), ∀ a x, ((![v16, v3154, v11] : Fin 3 → IVec S16 32) a x).toNat < S2x64x64.size a := fun v5 v8 v11 v14 v15 v16 v3154 k0_hw58 => k0_hw58.2.2.2.2.2.1
theorem k0_idx463_inb : ∀ (v5 : IVec S16 32) (v8 : IVec S16 32) (v11 : IVec S16 32) (v14 : IVec S16 32) (v15 : IVec S16 32) (v16 : IVec S16 32) (v3154 : IVec S16 32) (k0_hw58 : k0_chk58 v5 v8 v11 v14 v15 v16 v3154), ∀ a x, ((![v16, v3154, v8] : Fin 3 → IVec S16 32) a x).toNat < S2x64x64.size a := fun v5 v8 v11 v14 v15 v16 v3154 k0_hw58 => k0_hw58.2.2.2.2.2.2.1
theorem k0_idx464_inb : ∀ (v5 : IVec S16 32) (v8 : IVec S16 32) (v11 : IVec S16 32) (v14 : IVec S16 32) (v15 : IVec S16 32) (v16 : IVec S16 32) (v3154 : IVec S16 32) (k0_hw58 : k0_chk58 v5 v8 v11 v14 v15 v16 v3154), ∀ a x, ((![v16, v3154, v5] : Fin 3 → IVec S16 32) a x).toNat < S2x64x64.size a := fun v5 v8 v11 v14 v15 v16 v3154 k0_hw58 => k0_hw58.2.2.2.2.2.2.2
def k0_off501 (k0_t58 : Fin k0_t58_loop.trips) : Fin 4 → Nat :=
  let c0_i32_5365 : BitVec 32 := 0#32
  let v3219 : Index := Scalar.indexCast c0_i32_5365
  let c1_i32_5366 : BitVec 32 := 1#32
  let v3220 : Index := Scalar.indexCast c1_i32_5366
  let c0_i32_5325 : BitVec 32 := 0#32
  let c0_i32_3231 : BitVec 32 := 0#32
  let c1_i32_3233 : BitVec 32 := 1#32
  let arg17 : BitVec 32 := Scf.iv c0_i32_3231 c1_i32_3233 k0_t58
  let c1_i32_5324 : BitVec 32 := 1#32
  let v3152 : BitVec 32 := Scalar.muli arg17 c1_i32_5324
  let v3153 : BitVec 32 := Scalar.addi c0_i32_5325 v3152
  let v3221 : Index := Scalar.indexCast v3153
  let c0_5367 : Index := 0#32
  ![0, 1, v3221.toNat, 0]
def k0_off502 (k0_t58 : Fin k0_t58_loop.trips) : Fin 4 → Nat :=
  let c0_i32_5368 : BitVec 32 := 0#32
  let v3225 : Index := Scalar.indexCast c0_i32_5368
  let c1_i32_5369 : BitVec 32 := 1#32
  let v3226 : Index := Scalar.indexCast c1_i32_5369
  let c0_i32_5325 : BitVec 32 := 0#32
  let c0_i32_3231 : BitVec 32 := 0#32
  let c1_i32_3233 : BitVec 32 := 1#32
  let arg17 : BitVec 32 := Scf.iv c0_i32_3231 c1_i32_3233 k0_t58
  let c1_i32_5324 : BitVec 32 := 1#32
  let v3152 : BitVec 32 := Scalar.muli arg17 c1_i32_5324
  let v3153 : BitVec 32 := Scalar.addi c0_i32_5325 v3152
  let v3227 : Index := Scalar.indexCast v3153
  let c16_5370 : Index := 16#32
  ![0, 1, v3227.toNat, 16]
def k0_off503 (k0_t58 : Fin k0_t58_loop.trips) : Fin 4 → Nat :=
  let c0_i32_5371 : BitVec 32 := 0#32
  let v3231 : Index := Scalar.indexCast c0_i32_5371
  let c1_i32_5372 : BitVec 32 := 1#32
  let v3232 : Index := Scalar.indexCast c1_i32_5372
  let c0_i32_5325 : BitVec 32 := 0#32
  let c0_i32_3231 : BitVec 32 := 0#32
  let c1_i32_3233 : BitVec 32 := 1#32
  let arg17 : BitVec 32 := Scf.iv c0_i32_3231 c1_i32_3233 k0_t58
  let c1_i32_5324 : BitVec 32 := 1#32
  let v3152 : BitVec 32 := Scalar.muli arg17 c1_i32_5324
  let v3153 : BitVec 32 := Scalar.addi c0_i32_5325 v3152
  let v3233 : Index := Scalar.indexCast v3153
  let c32_5373 : Index := 32#32
  ![0, 1, v3233.toNat, 32]
def k0_off504 (k0_t58 : Fin k0_t58_loop.trips) : Fin 4 → Nat :=
  let c0_i32_5374 : BitVec 32 := 0#32
  let v3237 : Index := Scalar.indexCast c0_i32_5374
  let c1_i32_5375 : BitVec 32 := 1#32
  let v3238 : Index := Scalar.indexCast c1_i32_5375
  let c0_i32_5325 : BitVec 32 := 0#32
  let c0_i32_3231 : BitVec 32 := 0#32
  let c1_i32_3233 : BitVec 32 := 1#32
  let arg17 : BitVec 32 := Scf.iv c0_i32_3231 c1_i32_3233 k0_t58
  let c1_i32_5324 : BitVec 32 := 1#32
  let v3152 : BitVec 32 := Scalar.muli arg17 c1_i32_5324
  let v3153 : BitVec 32 := Scalar.addi c0_i32_5325 v3152
  let v3239 : Index := Scalar.indexCast v3153
  let c48_5376 : Index := 48#32
  ![0, 1, v3239.toNat, 48]
def k0_off505 (i : grid0.Coords) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c12_i32_3248 : BitVec 32 := 12#32
  let c0_i32_3249 : BitVec 32 := 0#32
  let c0_i32_3254 : BitVec 32 := 0#32
  let c0_i32_3255 : BitVec 32 := 0#32
  ![v2.toNat, 12, 0, 0, 0]
@[reducible] def k0_t59_loop : Scf.Loop 32 :=
  let c0_i32_3287 : BitVec 32 := 0#32
  let c64_i32_3288 : BitVec 32 := 64#32
  let v1955 : BitVec 32 := Scalar.addi c0_i32_3287 c64_i32_3288
  let c1_i32_3289 : BitVec 32 := 1#32
  ⟨c0_i32_3287, v1955, c1_i32_3289⟩
def k0_off506 (k0_t59 : Fin k0_t59_loop.trips) : Fin 4 → Nat :=
  let c1_i32_5338 : BitVec 32 := 1#32
  let v3167 : Index := Scalar.indexCast c1_i32_5338
  let c0_i32_5339 : BitVec 32 := 0#32
  let v3168 : Index := Scalar.indexCast c0_i32_5339
  let c0_i32_5325 : BitVec 32 := 0#32
  let c0_i32_3287 : BitVec 32 := 0#32
  let c1_i32_3289 : BitVec 32 := 1#32
  let arg17 : BitVec 32 := Scf.iv c0_i32_3287 c1_i32_3289 k0_t59
  let c1_i32_5324 : BitVec 32 := 1#32
  let v3152 : BitVec 32 := Scalar.muli arg17 c1_i32_5324
  let v3153 : BitVec 32 := Scalar.addi c0_i32_5325 v3152
  let v3169 : Index := Scalar.indexCast v3153
  let c0 : Index := 0#32
  ![1, 0, v3169.toNat, 0]
def k0_off507 (k0_t59 : Fin k0_t59_loop.trips) : Fin 4 → Nat :=
  let c1_i32_5340 : BitVec 32 := 1#32
  let v3173 : Index := Scalar.indexCast c1_i32_5340
  let c0_i32_5341 : BitVec 32 := 0#32
  let v3174 : Index := Scalar.indexCast c0_i32_5341
  let c0_i32_5325 : BitVec 32 := 0#32
  let c0_i32_3287 : BitVec 32 := 0#32
  let c1_i32_3289 : BitVec 32 := 1#32
  let arg17 : BitVec 32 := Scf.iv c0_i32_3287 c1_i32_3289 k0_t59
  let c1_i32_5324 : BitVec 32 := 1#32
  let v3152 : BitVec 32 := Scalar.muli arg17 c1_i32_5324
  let v3153 : BitVec 32 := Scalar.addi c0_i32_5325 v3152
  let v3175 : Index := Scalar.indexCast v3153
  let c16 : Index := 16#32
  ![1, 0, v3175.toNat, 16]
def k0_off508 (k0_t59 : Fin k0_t59_loop.trips) : Fin 4 → Nat :=
  let c1_i32_5342 : BitVec 32 := 1#32
  let v3179 : Index := Scalar.indexCast c1_i32_5342
  let c0_i32_5343 : BitVec 32 := 0#32
  let v3180 : Index := Scalar.indexCast c0_i32_5343
  let c0_i32_5325 : BitVec 32 := 0#32
  let c0_i32_3287 : BitVec 32 := 0#32
  let c1_i32_3289 : BitVec 32 := 1#32
  let arg17 : BitVec 32 := Scf.iv c0_i32_3287 c1_i32_3289 k0_t59
  let c1_i32_5324 : BitVec 32 := 1#32
  let v3152 : BitVec 32 := Scalar.muli arg17 c1_i32_5324
  let v3153 : BitVec 32 := Scalar.addi c0_i32_5325 v3152
  let v3181 : Index := Scalar.indexCast v3153
  let c32 : Index := 32#32
  ![1, 0, v3181.toNat, 32]
def k0_off509 (k0_t59 : Fin k0_t59_loop.trips) : Fin 4 → Nat :=
  let c1_i32_5344 : BitVec 32 := 1#32
  let v3185 : Index := Scalar.indexCast c1_i32_5344
  let c0_i32_5345 : BitVec 32 := 0#32
  let v3186 : Index := Scalar.indexCast c0_i32_5345
  let c0_i32_5325 : BitVec 32 := 0#32
  let c0_i32_3287 : BitVec 32 := 0#32
  let c1_i32_3289 : BitVec 32 := 1#32
  let arg17 : BitVec 32 := Scf.iv c0_i32_3287 c1_i32_3289 k0_t59
  let c1_i32_5324 : BitVec 32 := 1#32
  let v3152 : BitVec 32 := Scalar.muli arg17 c1_i32_5324
  let v3153 : BitVec 32 := Scalar.addi c0_i32_5325 v3152
  let v3187 : Index := Scalar.indexCast v3153
  let c48 : Index := 48#32
  ![1, 0, v3187.toNat, 48]

def k0_chk59 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx465_inb : ∀ (v5 : IVec S16 32) (v8 : IVec S16 32) (v11 : IVec S16 32) (v14 : IVec S16 32) (v15 : IVec S16 32) (v16 : IVec S16 32) (v3154 : IVec S16 32) (k0_hw59 : k0_chk59 v5 v8 v11 v14 v15 v16 v3154), ∀ a x, ((![v15, v3154, v14] : Fin 3 → IVec S16 32) a x).toNat < S2x64x64.size a := fun v5 v8 v11 v14 v15 v16 v3154 k0_hw59 => k0_hw59.1
theorem k0_idx466_inb : ∀ (v5 : IVec S16 32) (v8 : IVec S16 32) (v11 : IVec S16 32) (v14 : IVec S16 32) (v15 : IVec S16 32) (v16 : IVec S16 32) (v3154 : IVec S16 32) (k0_hw59 : k0_chk59 v5 v8 v11 v14 v15 v16 v3154), ∀ a x, ((![v15, v3154, v11] : Fin 3 → IVec S16 32) a x).toNat < S2x64x64.size a := fun v5 v8 v11 v14 v15 v16 v3154 k0_hw59 => k0_hw59.2.1
theorem k0_idx467_inb : ∀ (v5 : IVec S16 32) (v8 : IVec S16 32) (v11 : IVec S16 32) (v14 : IVec S16 32) (v15 : IVec S16 32) (v16 : IVec S16 32) (v3154 : IVec S16 32) (k0_hw59 : k0_chk59 v5 v8 v11 v14 v15 v16 v3154), ∀ a x, ((![v15, v3154, v8] : Fin 3 → IVec S16 32) a x).toNat < S2x64x64.size a := fun v5 v8 v11 v14 v15 v16 v3154 k0_hw59 => k0_hw59.2.2.1
theorem k0_idx468_inb : ∀ (v5 : IVec S16 32) (v8 : IVec S16 32) (v11 : IVec S16 32) (v14 : IVec S16 32) (v15 : IVec S16 32) (v16 : IVec S16 32) (v3154 : IVec S16 32) (k0_hw59 : k0_chk59 v5 v8 v11 v14 v15 v16 v3154), ∀ a x, ((![v15, v3154, v5] : Fin 3 → IVec S16 32) a x).toNat < S2x64x64.size a := fun v5 v8 v11 v14 v15 v16 v3154 k0_hw59 => k0_hw59.2.2.2.1
theorem k0_idx469_inb : ∀ (v5 : IVec S16 32) (v8 : IVec S16 32) (v11 : IVec S16 32) (v14 : IVec S16 32) (v15 : IVec S16 32) (v16 : IVec S16 32) (v3154 : IVec S16 32) (k0_hw59 : k0_chk59 v5 v8 v11 v14 v15 v16 v3154), ∀ a x, ((![v16, v3154, v14] : Fin 3 → IVec S16 32) a x).toNat < S2x64x64.size a := fun v5 v8 v11 v14 v15 v16 v3154 k0_hw59 => k0_hw59.2.2.2.2.1
theorem k0_idx470_inb : ∀ (v5 : IVec S16 32) (v8 : IVec S16 32) (v11 : IVec S16 32) (v14 : IVec S16 32) (v15 : IVec S16 32) (v16 : IVec S16 32) (v3154 : IVec S16 32) (k0_hw59 : k0_chk59 v5 v8 v11 v14 v15 v16 v3154), ∀ a x, ((![v16, v3154, v11] : Fin 3 → IVec S16 32) a x).toNat < S2x64x64.size a := fun v5 v8 v11 v14 v15 v16 v3154 k0_hw59 => k0_hw59.2.2.2.2.2.1
theorem k0_idx471_inb : ∀ (v5 : IVec S16 32) (v8 : IVec S16 32) (v11 : IVec S16 32) (v14 : IVec S16 32) (v15 : IVec S16 32) (v16 : IVec S16 32) (v3154 : IVec S16 32) (k0_hw59 : k0_chk59 v5 v8 v11 v14 v15 v16 v3154), ∀ a x, ((![v16, v3154, v8] : Fin 3 → IVec S16 32) a x).toNat < S2x64x64.size a := fun v5 v8 v11 v14 v15 v16 v3154 k0_hw59 => k0_hw59.2.2.2.2.2.2.1
theorem k0_idx472_inb : ∀ (v5 : IVec S16 32) (v8 : IVec S16 32) (v11 : IVec S16 32) (v14 : IVec S16 32) (v15 : IVec S16 32) (v16 : IVec S16 32) (v3154 : IVec S16 32) (k0_hw59 : k0_chk59 v5 v8 v11 v14 v15 v16 v3154), ∀ a x, ((![v16, v3154, v5] : Fin 3 → IVec S16 32) a x).toNat < S2x64x64.size a := fun v5 v8 v11 v14 v15 v16 v3154 k0_hw59 => k0_hw59.2.2.2.2.2.2.2
def k0_off510 (k0_t59 : Fin k0_t59_loop.trips) : Fin 4 → Nat :=
  let c1_i32_5358 : BitVec 32 := 1#32
  let v3203 : Index := Scalar.indexCast c1_i32_5358
  let c1_i32_5359 : BitVec 32 := 1#32
  let v3204 : Index := Scalar.indexCast c1_i32_5359
  let c0_i32_5325 : BitVec 32 := 0#32
  let c0_i32_3287 : BitVec 32 := 0#32
  let c1_i32_3289 : BitVec 32 := 1#32
  let arg17 : BitVec 32 := Scf.iv c0_i32_3287 c1_i32_3289 k0_t59
  let c1_i32_5324 : BitVec 32 := 1#32
  let v3152 : BitVec 32 := Scalar.muli arg17 c1_i32_5324
  let v3153 : BitVec 32 := Scalar.addi c0_i32_5325 v3152
  let v3205 : Index := Scalar.indexCast v3153
  let c0_5360 : Index := 0#32
  ![1, 1, v3205.toNat, 0]
def k0_off511 (k0_t59 : Fin k0_t59_loop.trips) : Fin 4 → Nat :=
  let c1_i32_5361 : BitVec 32 := 1#32
  let v3209 : Index := Scalar.indexCast c1_i32_5361
  let c1_i32_5362 : BitVec 32 := 1#32
  let v3210 : Index := Scalar.indexCast c1_i32_5362
  let c0_i32_5325 : BitVec 32 := 0#32
  let c0_i32_3287 : BitVec 32 := 0#32
  let c1_i32_3289 : BitVec 32 := 1#32
  let arg17 : BitVec 32 := Scf.iv c0_i32_3287 c1_i32_3289 k0_t59
  let c1_i32_5324 : BitVec 32 := 1#32
  let v3152 : BitVec 32 := Scalar.muli arg17 c1_i32_5324
  let v3153 : BitVec 32 := Scalar.addi c0_i32_5325 v3152
  let v3211 : Index := Scalar.indexCast v3153
  let c16_5363 : Index := 16#32
  ![1, 1, v3211.toNat, 16]
def k0_off512 (k0_t59 : Fin k0_t59_loop.trips) : Fin 4 → Nat :=
  let c1_i32_5364 : BitVec 32 := 1#32
  let v3215 : Index := Scalar.indexCast c1_i32_5364
  let c1_i32_5365 : BitVec 32 := 1#32
  let v3216 : Index := Scalar.indexCast c1_i32_5365
  let c0_i32_5325 : BitVec 32 := 0#32
  let c0_i32_3287 : BitVec 32 := 0#32
  let c1_i32_3289 : BitVec 32 := 1#32
  let arg17 : BitVec 32 := Scf.iv c0_i32_3287 c1_i32_3289 k0_t59
  let c1_i32_5324 : BitVec 32 := 1#32
  let v3152 : BitVec 32 := Scalar.muli arg17 c1_i32_5324
  let v3153 : BitVec 32 := Scalar.addi c0_i32_5325 v3152
  let v3217 : Index := Scalar.indexCast v3153
  let c32_5366 : Index := 32#32
  ![1, 1, v3217.toNat, 32]
def k0_off513 (k0_t59 : Fin k0_t59_loop.trips) : Fin 4 → Nat :=
  let c1_i32_5367 : BitVec 32 := 1#32
  let v3221 : Index := Scalar.indexCast c1_i32_5367
  let c1_i32_5368 : BitVec 32 := 1#32
  let v3222 : Index := Scalar.indexCast c1_i32_5368
  let c0_i32_5325 : BitVec 32 := 0#32
  let c0_i32_3287 : BitVec 32 := 0#32
  let c1_i32_3289 : BitVec 32 := 1#32
  let arg17 : BitVec 32 := Scf.iv c0_i32_3287 c1_i32_3289 k0_t59
  let c1_i32_5324 : BitVec 32 := 1#32
  let v3152 : BitVec 32 := Scalar.muli arg17 c1_i32_5324
  let v3153 : BitVec 32 := Scalar.addi c0_i32_5325 v3152
  let v3223 : Index := Scalar.indexCast v3153
  let c48_5369 : Index := 48#32
  ![1, 1, v3223.toNat, 48]
@[reducible] def k0_t60_loop : Scf.Loop 32 :=
  let c0_i32_3344 : BitVec 32 := 0#32
  let c64_i32_3345 : BitVec 32 := 64#32
  let v1988 : BitVec 32 := Scalar.addi c0_i32_3344 c64_i32_3345
  let c1_i32_3346 : BitVec 32 := 1#32
  ⟨c0_i32_3344, v1988, c1_i32_3346⟩
def k0_off514 (k0_t60 : Fin k0_t60_loop.trips) : Fin 4 → Nat :=
  let c2_i32_5338 : BitVec 32 := 2#32
  let v3167 : Index := Scalar.indexCast c2_i32_5338
  let c0_i32_5339 : BitVec 32 := 0#32
  let v3168 : Index := Scalar.indexCast c0_i32_5339
  let c0_i32_5325 : BitVec 32 := 0#32
  let c0_i32_3344 : BitVec 32 := 0#32
  let c1_i32_3346 : BitVec 32 := 1#32
  let arg17 : BitVec 32 := Scf.iv c0_i32_3344 c1_i32_3346 k0_t60
  let c1_i32_5324 : BitVec 32 := 1#32
  let v3152 : BitVec 32 := Scalar.muli arg17 c1_i32_5324
  let v3153 : BitVec 32 := Scalar.addi c0_i32_5325 v3152
  let v3169 : Index := Scalar.indexCast v3153
  let c0 : Index := 0#32
  ![2, 0, v3169.toNat, 0]
def k0_off515 (k0_t60 : Fin k0_t60_loop.trips) : Fin 4 → Nat :=
  let c2_i32_5340 : BitVec 32 := 2#32
  let v3173 : Index := Scalar.indexCast c2_i32_5340
  let c0_i32_5341 : BitVec 32 := 0#32
  let v3174 : Index := Scalar.indexCast c0_i32_5341
  let c0_i32_5325 : BitVec 32 := 0#32
  let c0_i32_3344 : BitVec 32 := 0#32
  let c1_i32_3346 : BitVec 32 := 1#32
  let arg17 : BitVec 32 := Scf.iv c0_i32_3344 c1_i32_3346 k0_t60
  let c1_i32_5324 : BitVec 32 := 1#32
  let v3152 : BitVec 32 := Scalar.muli arg17 c1_i32_5324
  let v3153 : BitVec 32 := Scalar.addi c0_i32_5325 v3152
  let v3175 : Index := Scalar.indexCast v3153
  let c16 : Index := 16#32
  ![2, 0, v3175.toNat, 16]
def k0_off516 (k0_t60 : Fin k0_t60_loop.trips) : Fin 4 → Nat :=
  let c2_i32_5342 : BitVec 32 := 2#32
  let v3179 : Index := Scalar.indexCast c2_i32_5342
  let c0_i32_5343 : BitVec 32 := 0#32
  let v3180 : Index := Scalar.indexCast c0_i32_5343
  let c0_i32_5325 : BitVec 32 := 0#32
  let c0_i32_3344 : BitVec 32 := 0#32
  let c1_i32_3346 : BitVec 32 := 1#32
  let arg17 : BitVec 32 := Scf.iv c0_i32_3344 c1_i32_3346 k0_t60
  let c1_i32_5324 : BitVec 32 := 1#32
  let v3152 : BitVec 32 := Scalar.muli arg17 c1_i32_5324
  let v3153 : BitVec 32 := Scalar.addi c0_i32_5325 v3152
  let v3181 : Index := Scalar.indexCast v3153
  let c32 : Index := 32#32
  ![2, 0, v3181.toNat, 32]
def k0_off517 (k0_t60 : Fin k0_t60_loop.trips) : Fin 4 → Nat :=
  let c2_i32_5344 : BitVec 32 := 2#32
  let v3185 : Index := Scalar.indexCast c2_i32_5344
  let c0_i32_5345 : BitVec 32 := 0#32
  let v3186 : Index := Scalar.indexCast c0_i32_5345
  let c0_i32_5325 : BitVec 32 := 0#32
  let c0_i32_3344 : BitVec 32 := 0#32
  let c1_i32_3346 : BitVec 32 := 1#32
  let arg17 : BitVec 32 := Scf.iv c0_i32_3344 c1_i32_3346 k0_t60
  let c1_i32_5324 : BitVec 32 := 1#32
  let v3152 : BitVec 32 := Scalar.muli arg17 c1_i32_5324
  let v3153 : BitVec 32 := Scalar.addi c0_i32_5325 v3152
  let v3187 : Index := Scalar.indexCast v3153
  let c48 : Index := 48#32
  ![2, 0, v3187.toNat, 48]

def k0_chk60 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx473_inb : ∀ (v5 : IVec S16 32) (v8 : IVec S16 32) (v11 : IVec S16 32) (v14 : IVec S16 32) (v15 : IVec S16 32) (v16 : IVec S16 32) (v3154 : IVec S16 32) (k0_hw60 : k0_chk60 v5 v8 v11 v14 v15 v16 v3154), ∀ a x, ((![v15, v3154, v14] : Fin 3 → IVec S16 32) a x).toNat < S2x64x64.size a := fun v5 v8 v11 v14 v15 v16 v3154 k0_hw60 => k0_hw60.1
theorem k0_idx474_inb : ∀ (v5 : IVec S16 32) (v8 : IVec S16 32) (v11 : IVec S16 32) (v14 : IVec S16 32) (v15 : IVec S16 32) (v16 : IVec S16 32) (v3154 : IVec S16 32) (k0_hw60 : k0_chk60 v5 v8 v11 v14 v15 v16 v3154), ∀ a x, ((![v15, v3154, v11] : Fin 3 → IVec S16 32) a x).toNat < S2x64x64.size a := fun v5 v8 v11 v14 v15 v16 v3154 k0_hw60 => k0_hw60.2.1
theorem k0_idx475_inb : ∀ (v5 : IVec S16 32) (v8 : IVec S16 32) (v11 : IVec S16 32) (v14 : IVec S16 32) (v15 : IVec S16 32) (v16 : IVec S16 32) (v3154 : IVec S16 32) (k0_hw60 : k0_chk60 v5 v8 v11 v14 v15 v16 v3154), ∀ a x, ((![v15, v3154, v8] : Fin 3 → IVec S16 32) a x).toNat < S2x64x64.size a := fun v5 v8 v11 v14 v15 v16 v3154 k0_hw60 => k0_hw60.2.2.1
theorem k0_idx476_inb : ∀ (v5 : IVec S16 32) (v8 : IVec S16 32) (v11 : IVec S16 32) (v14 : IVec S16 32) (v15 : IVec S16 32) (v16 : IVec S16 32) (v3154 : IVec S16 32) (k0_hw60 : k0_chk60 v5 v8 v11 v14 v15 v16 v3154), ∀ a x, ((![v15, v3154, v5] : Fin 3 → IVec S16 32) a x).toNat < S2x64x64.size a := fun v5 v8 v11 v14 v15 v16 v3154 k0_hw60 => k0_hw60.2.2.2.1
theorem k0_idx477_inb : ∀ (v5 : IVec S16 32) (v8 : IVec S16 32) (v11 : IVec S16 32) (v14 : IVec S16 32) (v15 : IVec S16 32) (v16 : IVec S16 32) (v3154 : IVec S16 32) (k0_hw60 : k0_chk60 v5 v8 v11 v14 v15 v16 v3154), ∀ a x, ((![v16, v3154, v14] : Fin 3 → IVec S16 32) a x).toNat < S2x64x64.size a := fun v5 v8 v11 v14 v15 v16 v3154 k0_hw60 => k0_hw60.2.2.2.2.1
theorem k0_idx478_inb : ∀ (v5 : IVec S16 32) (v8 : IVec S16 32) (v11 : IVec S16 32) (v14 : IVec S16 32) (v15 : IVec S16 32) (v16 : IVec S16 32) (v3154 : IVec S16 32) (k0_hw60 : k0_chk60 v5 v8 v11 v14 v15 v16 v3154), ∀ a x, ((![v16, v3154, v11] : Fin 3 → IVec S16 32) a x).toNat < S2x64x64.size a := fun v5 v8 v11 v14 v15 v16 v3154 k0_hw60 => k0_hw60.2.2.2.2.2.1
theorem k0_idx479_inb : ∀ (v5 : IVec S16 32) (v8 : IVec S16 32) (v11 : IVec S16 32) (v14 : IVec S16 32) (v15 : IVec S16 32) (v16 : IVec S16 32) (v3154 : IVec S16 32) (k0_hw60 : k0_chk60 v5 v8 v11 v14 v15 v16 v3154), ∀ a x, ((![v16, v3154, v8] : Fin 3 → IVec S16 32) a x).toNat < S2x64x64.size a := fun v5 v8 v11 v14 v15 v16 v3154 k0_hw60 => k0_hw60.2.2.2.2.2.2.1
theorem k0_idx480_inb : ∀ (v5 : IVec S16 32) (v8 : IVec S16 32) (v11 : IVec S16 32) (v14 : IVec S16 32) (v15 : IVec S16 32) (v16 : IVec S16 32) (v3154 : IVec S16 32) (k0_hw60 : k0_chk60 v5 v8 v11 v14 v15 v16 v3154), ∀ a x, ((![v16, v3154, v5] : Fin 3 → IVec S16 32) a x).toNat < S2x64x64.size a := fun v5 v8 v11 v14 v15 v16 v3154 k0_hw60 => k0_hw60.2.2.2.2.2.2.2
def k0_off518 (k0_t60 : Fin k0_t60_loop.trips) : Fin 4 → Nat :=
  let c2_i32_5358 : BitVec 32 := 2#32
  let v3203 : Index := Scalar.indexCast c2_i32_5358
  let c1_i32_5359 : BitVec 32 := 1#32
  let v3204 : Index := Scalar.indexCast c1_i32_5359
  let c0_i32_5325 : BitVec 32 := 0#32
  let c0_i32_3344 : BitVec 32 := 0#32
  let c1_i32_3346 : BitVec 32 := 1#32
  let arg17 : BitVec 32 := Scf.iv c0_i32_3344 c1_i32_3346 k0_t60
  let c1_i32_5324 : BitVec 32 := 1#32
  let v3152 : BitVec 32 := Scalar.muli arg17 c1_i32_5324
  let v3153 : BitVec 32 := Scalar.addi c0_i32_5325 v3152
  let v3205 : Index := Scalar.indexCast v3153
  let c0_5360 : Index := 0#32
  ![2, 1, v3205.toNat, 0]
def k0_off519 (k0_t60 : Fin k0_t60_loop.trips) : Fin 4 → Nat :=
  let c2_i32_5361 : BitVec 32 := 2#32
  let v3209 : Index := Scalar.indexCast c2_i32_5361
  let c1_i32_5362 : BitVec 32 := 1#32
  let v3210 : Index := Scalar.indexCast c1_i32_5362
  let c0_i32_5325 : BitVec 32 := 0#32
  let c0_i32_3344 : BitVec 32 := 0#32
  let c1_i32_3346 : BitVec 32 := 1#32
  let arg17 : BitVec 32 := Scf.iv c0_i32_3344 c1_i32_3346 k0_t60
  let c1_i32_5324 : BitVec 32 := 1#32
  let v3152 : BitVec 32 := Scalar.muli arg17 c1_i32_5324
  let v3153 : BitVec 32 := Scalar.addi c0_i32_5325 v3152
  let v3211 : Index := Scalar.indexCast v3153
  let c16_5363 : Index := 16#32
  ![2, 1, v3211.toNat, 16]
def k0_off520 (k0_t60 : Fin k0_t60_loop.trips) : Fin 4 → Nat :=
  let c2_i32_5364 : BitVec 32 := 2#32
  let v3215 : Index := Scalar.indexCast c2_i32_5364
  let c1_i32_5365 : BitVec 32 := 1#32
  let v3216 : Index := Scalar.indexCast c1_i32_5365
  let c0_i32_5325 : BitVec 32 := 0#32
  let c0_i32_3344 : BitVec 32 := 0#32
  let c1_i32_3346 : BitVec 32 := 1#32
  let arg17 : BitVec 32 := Scf.iv c0_i32_3344 c1_i32_3346 k0_t60
  let c1_i32_5324 : BitVec 32 := 1#32
  let v3152 : BitVec 32 := Scalar.muli arg17 c1_i32_5324
  let v3153 : BitVec 32 := Scalar.addi c0_i32_5325 v3152
  let v3217 : Index := Scalar.indexCast v3153
  let c32_5366 : Index := 32#32
  ![2, 1, v3217.toNat, 32]
def k0_off521 (k0_t60 : Fin k0_t60_loop.trips) : Fin 4 → Nat :=
  let c2_i32_5367 : BitVec 32 := 2#32
  let v3221 : Index := Scalar.indexCast c2_i32_5367
  let c1_i32_5368 : BitVec 32 := 1#32
  let v3222 : Index := Scalar.indexCast c1_i32_5368
  let c0_i32_5325 : BitVec 32 := 0#32
  let c0_i32_3344 : BitVec 32 := 0#32
  let c1_i32_3346 : BitVec 32 := 1#32
  let arg17 : BitVec 32 := Scf.iv c0_i32_3344 c1_i32_3346 k0_t60
  let c1_i32_5324 : BitVec 32 := 1#32
  let v3152 : BitVec 32 := Scalar.muli arg17 c1_i32_5324
  let v3153 : BitVec 32 := Scalar.addi c0_i32_5325 v3152
  let v3223 : Index := Scalar.indexCast v3153
  let c48_5369 : Index := 48#32
  ![2, 1, v3223.toNat, 48]
def k0_off522 (i : grid0.Coords) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c12_i32_3361 : BitVec 32 := 12#32
  let c1_i32_3362 : BitVec 32 := 1#32
  let c0_i32_3367 : BitVec 32 := 0#32
  let c0_i32_3368 : BitVec 32 := 0#32
  ![v2.toNat, 12, 1, 0, 0]
@[reducible] def k0_t61_loop : Scf.Loop 32 :=
  let c0_i32_3400 : BitVec 32 := 0#32
  let c64_i32_3401 : BitVec 32 := 64#32
  let v2021 : BitVec 32 := Scalar.addi c0_i32_3400 c64_i32_3401
  let c1_i32_3402 : BitVec 32 := 1#32
  ⟨c0_i32_3400, v2021, c1_i32_3402⟩
def k0_off523 (k0_t61 : Fin k0_t61_loop.trips) : Fin 4 → Nat :=
  let c0_i32_5338 : BitVec 32 := 0#32
  let v3167 : Index := Scalar.indexCast c0_i32_5338
  let c0_i32_5339 : BitVec 32 := 0#32
  let v3168 : Index := Scalar.indexCast c0_i32_5339
  let c0_i32_5325 : BitVec 32 := 0#32
  let c0_i32_3400 : BitVec 32 := 0#32
  let c1_i32_3402 : BitVec 32 := 1#32
  let arg17 : BitVec 32 := Scf.iv c0_i32_3400 c1_i32_3402 k0_t61
  let c1_i32_5324 : BitVec 32 := 1#32
  let v3152 : BitVec 32 := Scalar.muli arg17 c1_i32_5324
  let v3153 : BitVec 32 := Scalar.addi c0_i32_5325 v3152
  let v3169 : Index := Scalar.indexCast v3153
  let c0 : Index := 0#32
  ![0, 0, v3169.toNat, 0]
def k0_off524 (k0_t61 : Fin k0_t61_loop.trips) : Fin 4 → Nat :=
  let c0_i32_5340 : BitVec 32 := 0#32
  let v3173 : Index := Scalar.indexCast c0_i32_5340
  let c0_i32_5341 : BitVec 32 := 0#32
  let v3174 : Index := Scalar.indexCast c0_i32_5341
  let c0_i32_5325 : BitVec 32 := 0#32
  let c0_i32_3400 : BitVec 32 := 0#32
  let c1_i32_3402 : BitVec 32 := 1#32
  let arg17 : BitVec 32 := Scf.iv c0_i32_3400 c1_i32_3402 k0_t61
  let c1_i32_5324 : BitVec 32 := 1#32
  let v3152 : BitVec 32 := Scalar.muli arg17 c1_i32_5324
  let v3153 : BitVec 32 := Scalar.addi c0_i32_5325 v3152
  let v3175 : Index := Scalar.indexCast v3153
  let c16 : Index := 16#32
  ![0, 0, v3175.toNat, 16]
def k0_off525 (k0_t61 : Fin k0_t61_loop.trips) : Fin 4 → Nat :=
  let c0_i32_5342 : BitVec 32 := 0#32
  let v3179 : Index := Scalar.indexCast c0_i32_5342
  let c0_i32_5343 : BitVec 32 := 0#32
  let v3180 : Index := Scalar.indexCast c0_i32_5343
  let c0_i32_5325 : BitVec 32 := 0#32
  let c0_i32_3400 : BitVec 32 := 0#32
  let c1_i32_3402 : BitVec 32 := 1#32
  let arg17 : BitVec 32 := Scf.iv c0_i32_3400 c1_i32_3402 k0_t61
  let c1_i32_5324 : BitVec 32 := 1#32
  let v3152 : BitVec 32 := Scalar.muli arg17 c1_i32_5324
  let v3153 : BitVec 32 := Scalar.addi c0_i32_5325 v3152
  let v3181 : Index := Scalar.indexCast v3153
  let c32 : Index := 32#32
  ![0, 0, v3181.toNat, 32]
def k0_off526 (k0_t61 : Fin k0_t61_loop.trips) : Fin 4 → Nat :=
  let c0_i32_5344 : BitVec 32 := 0#32
  let v3185 : Index := Scalar.indexCast c0_i32_5344
  let c0_i32_5345 : BitVec 32 := 0#32
  let v3186 : Index := Scalar.indexCast c0_i32_5345
  let c0_i32_5325 : BitVec 32 := 0#32
  let c0_i32_3400 : BitVec 32 := 0#32
  let c1_i32_3402 : BitVec 32 := 1#32
  let arg17 : BitVec 32 := Scf.iv c0_i32_3400 c1_i32_3402 k0_t61
  let c1_i32_5324 : BitVec 32 := 1#32
  let v3152 : BitVec 32 := Scalar.muli arg17 c1_i32_5324
  let v3153 : BitVec 32 := Scalar.addi c0_i32_5325 v3152
  let v3187 : Index := Scalar.indexCast v3153
  let c48 : Index := 48#32
  ![0, 0, v3187.toNat, 48]

def k0_chk61 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx481_inb : ∀ (v5 : IVec S16 32) (v8 : IVec S16 32) (v11 : IVec S16 32) (v14 : IVec S16 32) (v15 : IVec S16 32) (v16 : IVec S16 32) (v3154 : IVec S16 32) (k0_hw61 : k0_chk61 v5 v8 v11 v14 v15 v16 v3154), ∀ a x, ((![v15, v3154, v14] : Fin 3 → IVec S16 32) a x).toNat < S2x64x64.size a := fun v5 v8 v11 v14 v15 v16 v3154 k0_hw61 => k0_hw61.1
theorem k0_idx482_inb : ∀ (v5 : IVec S16 32) (v8 : IVec S16 32) (v11 : IVec S16 32) (v14 : IVec S16 32) (v15 : IVec S16 32) (v16 : IVec S16 32) (v3154 : IVec S16 32) (k0_hw61 : k0_chk61 v5 v8 v11 v14 v15 v16 v3154), ∀ a x, ((![v15, v3154, v11] : Fin 3 → IVec S16 32) a x).toNat < S2x64x64.size a := fun v5 v8 v11 v14 v15 v16 v3154 k0_hw61 => k0_hw61.2.1
theorem k0_idx483_inb : ∀ (v5 : IVec S16 32) (v8 : IVec S16 32) (v11 : IVec S16 32) (v14 : IVec S16 32) (v15 : IVec S16 32) (v16 : IVec S16 32) (v3154 : IVec S16 32) (k0_hw61 : k0_chk61 v5 v8 v11 v14 v15 v16 v3154), ∀ a x, ((![v15, v3154, v8] : Fin 3 → IVec S16 32) a x).toNat < S2x64x64.size a := fun v5 v8 v11 v14 v15 v16 v3154 k0_hw61 => k0_hw61.2.2.1
theorem k0_idx484_inb : ∀ (v5 : IVec S16 32) (v8 : IVec S16 32) (v11 : IVec S16 32) (v14 : IVec S16 32) (v15 : IVec S16 32) (v16 : IVec S16 32) (v3154 : IVec S16 32) (k0_hw61 : k0_chk61 v5 v8 v11 v14 v15 v16 v3154), ∀ a x, ((![v15, v3154, v5] : Fin 3 → IVec S16 32) a x).toNat < S2x64x64.size a := fun v5 v8 v11 v14 v15 v16 v3154 k0_hw61 => k0_hw61.2.2.2.1
theorem k0_idx485_inb : ∀ (v5 : IVec S16 32) (v8 : IVec S16 32) (v11 : IVec S16 32) (v14 : IVec S16 32) (v15 : IVec S16 32) (v16 : IVec S16 32) (v3154 : IVec S16 32) (k0_hw61 : k0_chk61 v5 v8 v11 v14 v15 v16 v3154), ∀ a x, ((![v16, v3154, v14] : Fin 3 → IVec S16 32) a x).toNat < S2x64x64.size a := fun v5 v8 v11 v14 v15 v16 v3154 k0_hw61 => k0_hw61.2.2.2.2.1
theorem k0_idx486_inb : ∀ (v5 : IVec S16 32) (v8 : IVec S16 32) (v11 : IVec S16 32) (v14 : IVec S16 32) (v15 : IVec S16 32) (v16 : IVec S16 32) (v3154 : IVec S16 32) (k0_hw61 : k0_chk61 v5 v8 v11 v14 v15 v16 v3154), ∀ a x, ((![v16, v3154, v11] : Fin 3 → IVec S16 32) a x).toNat < S2x64x64.size a := fun v5 v8 v11 v14 v15 v16 v3154 k0_hw61 => k0_hw61.2.2.2.2.2.1
theorem k0_idx487_inb : ∀ (v5 : IVec S16 32) (v8 : IVec S16 32) (v11 : IVec S16 32) (v14 : IVec S16 32) (v15 : IVec S16 32) (v16 : IVec S16 32) (v3154 : IVec S16 32) (k0_hw61 : k0_chk61 v5 v8 v11 v14 v15 v16 v3154), ∀ a x, ((![v16, v3154, v8] : Fin 3 → IVec S16 32) a x).toNat < S2x64x64.size a := fun v5 v8 v11 v14 v15 v16 v3154 k0_hw61 => k0_hw61.2.2.2.2.2.2.1
theorem k0_idx488_inb : ∀ (v5 : IVec S16 32) (v8 : IVec S16 32) (v11 : IVec S16 32) (v14 : IVec S16 32) (v15 : IVec S16 32) (v16 : IVec S16 32) (v3154 : IVec S16 32) (k0_hw61 : k0_chk61 v5 v8 v11 v14 v15 v16 v3154), ∀ a x, ((![v16, v3154, v5] : Fin 3 → IVec S16 32) a x).toNat < S2x64x64.size a := fun v5 v8 v11 v14 v15 v16 v3154 k0_hw61 => k0_hw61.2.2.2.2.2.2.2
def k0_off527 (k0_t61 : Fin k0_t61_loop.trips) : Fin 4 → Nat :=
  let c0_i32_5358 : BitVec 32 := 0#32
  let v3203 : Index := Scalar.indexCast c0_i32_5358
  let c1_i32_5359 : BitVec 32 := 1#32
  let v3204 : Index := Scalar.indexCast c1_i32_5359
  let c0_i32_5325 : BitVec 32 := 0#32
  let c0_i32_3400 : BitVec 32 := 0#32
  let c1_i32_3402 : BitVec 32 := 1#32
  let arg17 : BitVec 32 := Scf.iv c0_i32_3400 c1_i32_3402 k0_t61
  let c1_i32_5324 : BitVec 32 := 1#32
  let v3152 : BitVec 32 := Scalar.muli arg17 c1_i32_5324
  let v3153 : BitVec 32 := Scalar.addi c0_i32_5325 v3152
  let v3205 : Index := Scalar.indexCast v3153
  let c0_5360 : Index := 0#32
  ![0, 1, v3205.toNat, 0]
def k0_off528 (k0_t61 : Fin k0_t61_loop.trips) : Fin 4 → Nat :=
  let c0_i32_5361 : BitVec 32 := 0#32
  let v3209 : Index := Scalar.indexCast c0_i32_5361
  let c1_i32_5362 : BitVec 32 := 1#32
  let v3210 : Index := Scalar.indexCast c1_i32_5362
  let c0_i32_5325 : BitVec 32 := 0#32
  let c0_i32_3400 : BitVec 32 := 0#32
  let c1_i32_3402 : BitVec 32 := 1#32
  let arg17 : BitVec 32 := Scf.iv c0_i32_3400 c1_i32_3402 k0_t61
  let c1_i32_5324 : BitVec 32 := 1#32
  let v3152 : BitVec 32 := Scalar.muli arg17 c1_i32_5324
  let v3153 : BitVec 32 := Scalar.addi c0_i32_5325 v3152
  let v3211 : Index := Scalar.indexCast v3153
  let c16_5363 : Index := 16#32
  ![0, 1, v3211.toNat, 16]
def k0_off529 (k0_t61 : Fin k0_t61_loop.trips) : Fin 4 → Nat :=
  let c0_i32_5364 : BitVec 32 := 0#32
  let v3215 : Index := Scalar.indexCast c0_i32_5364
  let c1_i32_5365 : BitVec 32 := 1#32
  let v3216 : Index := Scalar.indexCast c1_i32_5365
  let c0_i32_5325 : BitVec 32 := 0#32
  let c0_i32_3400 : BitVec 32 := 0#32
  let c1_i32_3402 : BitVec 32 := 1#32
  let arg17 : BitVec 32 := Scf.iv c0_i32_3400 c1_i32_3402 k0_t61
  let c1_i32_5324 : BitVec 32 := 1#32
  let v3152 : BitVec 32 := Scalar.muli arg17 c1_i32_5324
  let v3153 : BitVec 32 := Scalar.addi c0_i32_5325 v3152
  let v3217 : Index := Scalar.indexCast v3153
  let c32_5366 : Index := 32#32
  ![0, 1, v3217.toNat, 32]
def k0_off530 (k0_t61 : Fin k0_t61_loop.trips) : Fin 4 → Nat :=
  let c0_i32_5367 : BitVec 32 := 0#32
  let v3221 : Index := Scalar.indexCast c0_i32_5367
  let c1_i32_5368 : BitVec 32 := 1#32
  let v3222 : Index := Scalar.indexCast c1_i32_5368
  let c0_i32_5325 : BitVec 32 := 0#32
  let c0_i32_3400 : BitVec 32 := 0#32
  let c1_i32_3402 : BitVec 32 := 1#32
  let arg17 : BitVec 32 := Scf.iv c0_i32_3400 c1_i32_3402 k0_t61
  let c1_i32_5324 : BitVec 32 := 1#32
  let v3152 : BitVec 32 := Scalar.muli arg17 c1_i32_5324
  let v3153 : BitVec 32 := Scalar.addi c0_i32_5325 v3152
  let v3223 : Index := Scalar.indexCast v3153
  let c48_5369 : Index := 48#32
  ![0, 1, v3223.toNat, 48]
@[reducible] def k0_t62_loop : Scf.Loop 32 :=
  let c0_i32_3456 : BitVec 32 := 0#32
  let c64_i32_3457 : BitVec 32 := 64#32
  let v2054 : BitVec 32 := Scalar.addi c0_i32_3456 c64_i32_3457
  let c1_i32_3458 : BitVec 32 := 1#32
  ⟨c0_i32_3456, v2054, c1_i32_3458⟩
def k0_off531 (k0_t62 : Fin k0_t62_loop.trips) : Fin 4 → Nat :=
  let c1_i32_5341 : BitVec 32 := 1#32
  let v3175 : Index := Scalar.indexCast c1_i32_5341
  let c0_i32_5342 : BitVec 32 := 0#32
  let v3176 : Index := Scalar.indexCast c0_i32_5342
  let c0_i32_5325 : BitVec 32 := 0#32
  let c0_i32_3456 : BitVec 32 := 0#32
  let c1_i32_3458 : BitVec 32 := 1#32
  let arg17 : BitVec 32 := Scf.iv c0_i32_3456 c1_i32_3458 k0_t62
  let c1_i32_5324 : BitVec 32 := 1#32
  let v3152 : BitVec 32 := Scalar.muli arg17 c1_i32_5324
  let v3153 : BitVec 32 := Scalar.addi c0_i32_5325 v3152
  let v3177 : Index := Scalar.indexCast v3153
  let c0 : Index := 0#32
  ![1, 0, v3177.toNat, 0]
def k0_off532 (k0_t62 : Fin k0_t62_loop.trips) : Fin 4 → Nat :=
  let c1_i32_5343 : BitVec 32 := 1#32
  let v3181 : Index := Scalar.indexCast c1_i32_5343
  let c0_i32_5344 : BitVec 32 := 0#32
  let v3182 : Index := Scalar.indexCast c0_i32_5344
  let c0_i32_5325 : BitVec 32 := 0#32
  let c0_i32_3456 : BitVec 32 := 0#32
  let c1_i32_3458 : BitVec 32 := 1#32
  let arg17 : BitVec 32 := Scf.iv c0_i32_3456 c1_i32_3458 k0_t62
  let c1_i32_5324 : BitVec 32 := 1#32
  let v3152 : BitVec 32 := Scalar.muli arg17 c1_i32_5324
  let v3153 : BitVec 32 := Scalar.addi c0_i32_5325 v3152
  let v3183 : Index := Scalar.indexCast v3153
  let c16 : Index := 16#32
  ![1, 0, v3183.toNat, 16]
def k0_off533 (k0_t62 : Fin k0_t62_loop.trips) : Fin 4 → Nat :=
  let c1_i32_5345 : BitVec 32 := 1#32
  let v3187 : Index := Scalar.indexCast c1_i32_5345
  let c0_i32_5346 : BitVec 32 := 0#32
  let v3188 : Index := Scalar.indexCast c0_i32_5346
  let c0_i32_5325 : BitVec 32 := 0#32
  let c0_i32_3456 : BitVec 32 := 0#32
  let c1_i32_3458 : BitVec 32 := 1#32
  let arg17 : BitVec 32 := Scf.iv c0_i32_3456 c1_i32_3458 k0_t62
  let c1_i32_5324 : BitVec 32 := 1#32
  let v3152 : BitVec 32 := Scalar.muli arg17 c1_i32_5324
  let v3153 : BitVec 32 := Scalar.addi c0_i32_5325 v3152
  let v3189 : Index := Scalar.indexCast v3153
  let c32 : Index := 32#32
  ![1, 0, v3189.toNat, 32]
def k0_off534 (k0_t62 : Fin k0_t62_loop.trips) : Fin 4 → Nat :=
  let c1_i32_5347 : BitVec 32 := 1#32
  let v3193 : Index := Scalar.indexCast c1_i32_5347
  let c0_i32_5348 : BitVec 32 := 0#32
  let v3194 : Index := Scalar.indexCast c0_i32_5348
  let c0_i32_5325 : BitVec 32 := 0#32
  let c0_i32_3456 : BitVec 32 := 0#32
  let c1_i32_3458 : BitVec 32 := 1#32
  let arg17 : BitVec 32 := Scf.iv c0_i32_3456 c1_i32_3458 k0_t62
  let c1_i32_5324 : BitVec 32 := 1#32
  let v3152 : BitVec 32 := Scalar.muli arg17 c1_i32_5324
  let v3153 : BitVec 32 := Scalar.addi c0_i32_5325 v3152
  let v3195 : Index := Scalar.indexCast v3153
  let c48 : Index := 48#32
  ![1, 0, v3195.toNat, 48]

def k0_chk62 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx489_inb : ∀ (v5 : IVec S16 32) (v8 : IVec S16 32) (v11 : IVec S16 32) (v14 : IVec S16 32) (v15 : IVec S16 32) (v16 : IVec S16 32) (v3154 : IVec S16 32) (k0_hw62 : k0_chk62 v5 v8 v11 v14 v15 v16 v3154), ∀ a x, ((![v15, v3154, v14] : Fin 3 → IVec S16 32) a x).toNat < S2x64x64.size a := fun v5 v8 v11 v14 v15 v16 v3154 k0_hw62 => k0_hw62.1
theorem k0_idx490_inb : ∀ (v5 : IVec S16 32) (v8 : IVec S16 32) (v11 : IVec S16 32) (v14 : IVec S16 32) (v15 : IVec S16 32) (v16 : IVec S16 32) (v3154 : IVec S16 32) (k0_hw62 : k0_chk62 v5 v8 v11 v14 v15 v16 v3154), ∀ a x, ((![v15, v3154, v11] : Fin 3 → IVec S16 32) a x).toNat < S2x64x64.size a := fun v5 v8 v11 v14 v15 v16 v3154 k0_hw62 => k0_hw62.2.1
theorem k0_idx491_inb : ∀ (v5 : IVec S16 32) (v8 : IVec S16 32) (v11 : IVec S16 32) (v14 : IVec S16 32) (v15 : IVec S16 32) (v16 : IVec S16 32) (v3154 : IVec S16 32) (k0_hw62 : k0_chk62 v5 v8 v11 v14 v15 v16 v3154), ∀ a x, ((![v15, v3154, v8] : Fin 3 → IVec S16 32) a x).toNat < S2x64x64.size a := fun v5 v8 v11 v14 v15 v16 v3154 k0_hw62 => k0_hw62.2.2.1
theorem k0_idx492_inb : ∀ (v5 : IVec S16 32) (v8 : IVec S16 32) (v11 : IVec S16 32) (v14 : IVec S16 32) (v15 : IVec S16 32) (v16 : IVec S16 32) (v3154 : IVec S16 32) (k0_hw62 : k0_chk62 v5 v8 v11 v14 v15 v16 v3154), ∀ a x, ((![v15, v3154, v5] : Fin 3 → IVec S16 32) a x).toNat < S2x64x64.size a := fun v5 v8 v11 v14 v15 v16 v3154 k0_hw62 => k0_hw62.2.2.2.1
theorem k0_idx493_inb : ∀ (v5 : IVec S16 32) (v8 : IVec S16 32) (v11 : IVec S16 32) (v14 : IVec S16 32) (v15 : IVec S16 32) (v16 : IVec S16 32) (v3154 : IVec S16 32) (k0_hw62 : k0_chk62 v5 v8 v11 v14 v15 v16 v3154), ∀ a x, ((![v16, v3154, v14] : Fin 3 → IVec S16 32) a x).toNat < S2x64x64.size a := fun v5 v8 v11 v14 v15 v16 v3154 k0_hw62 => k0_hw62.2.2.2.2.1
theorem k0_idx494_inb : ∀ (v5 : IVec S16 32) (v8 : IVec S16 32) (v11 : IVec S16 32) (v14 : IVec S16 32) (v15 : IVec S16 32) (v16 : IVec S16 32) (v3154 : IVec S16 32) (k0_hw62 : k0_chk62 v5 v8 v11 v14 v15 v16 v3154), ∀ a x, ((![v16, v3154, v11] : Fin 3 → IVec S16 32) a x).toNat < S2x64x64.size a := fun v5 v8 v11 v14 v15 v16 v3154 k0_hw62 => k0_hw62.2.2.2.2.2.1
theorem k0_idx495_inb : ∀ (v5 : IVec S16 32) (v8 : IVec S16 32) (v11 : IVec S16 32) (v14 : IVec S16 32) (v15 : IVec S16 32) (v16 : IVec S16 32) (v3154 : IVec S16 32) (k0_hw62 : k0_chk62 v5 v8 v11 v14 v15 v16 v3154), ∀ a x, ((![v16, v3154, v8] : Fin 3 → IVec S16 32) a x).toNat < S2x64x64.size a := fun v5 v8 v11 v14 v15 v16 v3154 k0_hw62 => k0_hw62.2.2.2.2.2.2.1
theorem k0_idx496_inb : ∀ (v5 : IVec S16 32) (v8 : IVec S16 32) (v11 : IVec S16 32) (v14 : IVec S16 32) (v15 : IVec S16 32) (v16 : IVec S16 32) (v3154 : IVec S16 32) (k0_hw62 : k0_chk62 v5 v8 v11 v14 v15 v16 v3154), ∀ a x, ((![v16, v3154, v5] : Fin 3 → IVec S16 32) a x).toNat < S2x64x64.size a := fun v5 v8 v11 v14 v15 v16 v3154 k0_hw62 => k0_hw62.2.2.2.2.2.2.2
def k0_off535 (k0_t62 : Fin k0_t62_loop.trips) : Fin 4 → Nat :=
  let c1_i32_5365 : BitVec 32 := 1#32
  let v3219 : Index := Scalar.indexCast c1_i32_5365
  let c1_i32_5366 : BitVec 32 := 1#32
  let v3220 : Index := Scalar.indexCast c1_i32_5366
  let c0_i32_5325 : BitVec 32 := 0#32
  let c0_i32_3456 : BitVec 32 := 0#32
  let c1_i32_3458 : BitVec 32 := 1#32
  let arg17 : BitVec 32 := Scf.iv c0_i32_3456 c1_i32_3458 k0_t62
  let c1_i32_5324 : BitVec 32 := 1#32
  let v3152 : BitVec 32 := Scalar.muli arg17 c1_i32_5324
  let v3153 : BitVec 32 := Scalar.addi c0_i32_5325 v3152
  let v3221 : Index := Scalar.indexCast v3153
  let c0_5367 : Index := 0#32
  ![1, 1, v3221.toNat, 0]
def k0_off536 (k0_t62 : Fin k0_t62_loop.trips) : Fin 4 → Nat :=
  let c1_i32_5368 : BitVec 32 := 1#32
  let v3225 : Index := Scalar.indexCast c1_i32_5368
  let c1_i32_5369 : BitVec 32 := 1#32
  let v3226 : Index := Scalar.indexCast c1_i32_5369
  let c0_i32_5325 : BitVec 32 := 0#32
  let c0_i32_3456 : BitVec 32 := 0#32
  let c1_i32_3458 : BitVec 32 := 1#32
  let arg17 : BitVec 32 := Scf.iv c0_i32_3456 c1_i32_3458 k0_t62
  let c1_i32_5324 : BitVec 32 := 1#32
  let v3152 : BitVec 32 := Scalar.muli arg17 c1_i32_5324
  let v3153 : BitVec 32 := Scalar.addi c0_i32_5325 v3152
  let v3227 : Index := Scalar.indexCast v3153
  let c16_5370 : Index := 16#32
  ![1, 1, v3227.toNat, 16]
def k0_off537 (k0_t62 : Fin k0_t62_loop.trips) : Fin 4 → Nat :=
  let c1_i32_5371 : BitVec 32 := 1#32
  let v3231 : Index := Scalar.indexCast c1_i32_5371
  let c1_i32_5372 : BitVec 32 := 1#32
  let v3232 : Index := Scalar.indexCast c1_i32_5372
  let c0_i32_5325 : BitVec 32 := 0#32
  let c0_i32_3456 : BitVec 32 := 0#32
  let c1_i32_3458 : BitVec 32 := 1#32
  let arg17 : BitVec 32 := Scf.iv c0_i32_3456 c1_i32_3458 k0_t62
  let c1_i32_5324 : BitVec 32 := 1#32
  let v3152 : BitVec 32 := Scalar.muli arg17 c1_i32_5324
  let v3153 : BitVec 32 := Scalar.addi c0_i32_5325 v3152
  let v3233 : Index := Scalar.indexCast v3153
  let c32_5373 : Index := 32#32
  ![1, 1, v3233.toNat, 32]
def k0_off538 (k0_t62 : Fin k0_t62_loop.trips) : Fin 4 → Nat :=
  let c1_i32_5374 : BitVec 32 := 1#32
  let v3237 : Index := Scalar.indexCast c1_i32_5374
  let c1_i32_5375 : BitVec 32 := 1#32
  let v3238 : Index := Scalar.indexCast c1_i32_5375
  let c0_i32_5325 : BitVec 32 := 0#32
  let c0_i32_3456 : BitVec 32 := 0#32
  let c1_i32_3458 : BitVec 32 := 1#32
  let arg17 : BitVec 32 := Scf.iv c0_i32_3456 c1_i32_3458 k0_t62
  let c1_i32_5324 : BitVec 32 := 1#32
  let v3152 : BitVec 32 := Scalar.muli arg17 c1_i32_5324
  let v3153 : BitVec 32 := Scalar.addi c0_i32_5325 v3152
  let v3239 : Index := Scalar.indexCast v3153
  let c48_5376 : Index := 48#32
  ![1, 1, v3239.toNat, 48]
def k0_off539 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c14_i32 : BitVec 32 := 14#32
  let c0_i32_3477 : BitVec 32 := 0#32
  let c0_i32_3478 : BitVec 32 := 0#32
  ![v2.toNat, 14, 0, 0]
@[reducible] def k0_t63_loop : Scf.Loop 32 :=
  let c0_i32_3511 : BitVec 32 := 0#32
  let c64_i32_3512 : BitVec 32 := 64#32
  let v2087 : BitVec 32 := Scalar.addi c0_i32_3511 c64_i32_3512
  let c1_i32_3513 : BitVec 32 := 1#32
  ⟨c0_i32_3511, v2087, c1_i32_3513⟩
def k0_off540 (k0_t63 : Fin k0_t63_loop.trips) : Fin 4 → Nat :=
  let c2_i32_5341 : BitVec 32 := 2#32
  let v3175 : Index := Scalar.indexCast c2_i32_5341
  let c0_i32_5342 : BitVec 32 := 0#32
  let v3176 : Index := Scalar.indexCast c0_i32_5342
  let c0_i32_5325 : BitVec 32 := 0#32
  let c0_i32_3511 : BitVec 32 := 0#32
  let c1_i32_3513 : BitVec 32 := 1#32
  let arg17 : BitVec 32 := Scf.iv c0_i32_3511 c1_i32_3513 k0_t63
  let c1_i32_5324 : BitVec 32 := 1#32
  let v3152 : BitVec 32 := Scalar.muli arg17 c1_i32_5324
  let v3153 : BitVec 32 := Scalar.addi c0_i32_5325 v3152
  let v3177 : Index := Scalar.indexCast v3153
  let c0 : Index := 0#32
  ![2, 0, v3177.toNat, 0]
def k0_off541 (k0_t63 : Fin k0_t63_loop.trips) : Fin 4 → Nat :=
  let c2_i32_5343 : BitVec 32 := 2#32
  let v3181 : Index := Scalar.indexCast c2_i32_5343
  let c0_i32_5344 : BitVec 32 := 0#32
  let v3182 : Index := Scalar.indexCast c0_i32_5344
  let c0_i32_5325 : BitVec 32 := 0#32
  let c0_i32_3511 : BitVec 32 := 0#32
  let c1_i32_3513 : BitVec 32 := 1#32
  let arg17 : BitVec 32 := Scf.iv c0_i32_3511 c1_i32_3513 k0_t63
  let c1_i32_5324 : BitVec 32 := 1#32
  let v3152 : BitVec 32 := Scalar.muli arg17 c1_i32_5324
  let v3153 : BitVec 32 := Scalar.addi c0_i32_5325 v3152
  let v3183 : Index := Scalar.indexCast v3153
  let c16 : Index := 16#32
  ![2, 0, v3183.toNat, 16]
def k0_off542 (k0_t63 : Fin k0_t63_loop.trips) : Fin 4 → Nat :=
  let c2_i32_5345 : BitVec 32 := 2#32
  let v3187 : Index := Scalar.indexCast c2_i32_5345
  let c0_i32_5346 : BitVec 32 := 0#32
  let v3188 : Index := Scalar.indexCast c0_i32_5346
  let c0_i32_5325 : BitVec 32 := 0#32
  let c0_i32_3511 : BitVec 32 := 0#32
  let c1_i32_3513 : BitVec 32 := 1#32
  let arg17 : BitVec 32 := Scf.iv c0_i32_3511 c1_i32_3513 k0_t63
  let c1_i32_5324 : BitVec 32 := 1#32
  let v3152 : BitVec 32 := Scalar.muli arg17 c1_i32_5324
  let v3153 : BitVec 32 := Scalar.addi c0_i32_5325 v3152
  let v3189 : Index := Scalar.indexCast v3153
  let c32 : Index := 32#32
  ![2, 0, v3189.toNat, 32]
def k0_off543 (k0_t63 : Fin k0_t63_loop.trips) : Fin 4 → Nat :=
  let c2_i32_5347 : BitVec 32 := 2#32
  let v3193 : Index := Scalar.indexCast c2_i32_5347
  let c0_i32_5348 : BitVec 32 := 0#32
  let v3194 : Index := Scalar.indexCast c0_i32_5348
  let c0_i32_5325 : BitVec 32 := 0#32
  let c0_i32_3511 : BitVec 32 := 0#32
  let c1_i32_3513 : BitVec 32 := 1#32
  let arg17 : BitVec 32 := Scf.iv c0_i32_3511 c1_i32_3513 k0_t63
  let c1_i32_5324 : BitVec 32 := 1#32
  let v3152 : BitVec 32 := Scalar.muli arg17 c1_i32_5324
  let v3153 : BitVec 32 := Scalar.addi c0_i32_5325 v3152
  let v3195 : Index := Scalar.indexCast v3153
  let c48 : Index := 48#32
  ![2, 0, v3195.toNat, 48]

def k0_chk63 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx497_inb : ∀ (v5 : IVec S16 32) (v8 : IVec S16 32) (v11 : IVec S16 32) (v14 : IVec S16 32) (v15 : IVec S16 32) (v16 : IVec S16 32) (v3154 : IVec S16 32) (k0_hw63 : k0_chk63 v5 v8 v11 v14 v15 v16 v3154), ∀ a x, ((![v15, v3154, v14] : Fin 3 → IVec S16 32) a x).toNat < S2x64x64.size a := fun v5 v8 v11 v14 v15 v16 v3154 k0_hw63 => k0_hw63.1
theorem k0_idx498_inb : ∀ (v5 : IVec S16 32) (v8 : IVec S16 32) (v11 : IVec S16 32) (v14 : IVec S16 32) (v15 : IVec S16 32) (v16 : IVec S16 32) (v3154 : IVec S16 32) (k0_hw63 : k0_chk63 v5 v8 v11 v14 v15 v16 v3154), ∀ a x, ((![v15, v3154, v11] : Fin 3 → IVec S16 32) a x).toNat < S2x64x64.size a := fun v5 v8 v11 v14 v15 v16 v3154 k0_hw63 => k0_hw63.2.1
theorem k0_idx499_inb : ∀ (v5 : IVec S16 32) (v8 : IVec S16 32) (v11 : IVec S16 32) (v14 : IVec S16 32) (v15 : IVec S16 32) (v16 : IVec S16 32) (v3154 : IVec S16 32) (k0_hw63 : k0_chk63 v5 v8 v11 v14 v15 v16 v3154), ∀ a x, ((![v15, v3154, v8] : Fin 3 → IVec S16 32) a x).toNat < S2x64x64.size a := fun v5 v8 v11 v14 v15 v16 v3154 k0_hw63 => k0_hw63.2.2.1
theorem k0_idx500_inb : ∀ (v5 : IVec S16 32) (v8 : IVec S16 32) (v11 : IVec S16 32) (v14 : IVec S16 32) (v15 : IVec S16 32) (v16 : IVec S16 32) (v3154 : IVec S16 32) (k0_hw63 : k0_chk63 v5 v8 v11 v14 v15 v16 v3154), ∀ a x, ((![v15, v3154, v5] : Fin 3 → IVec S16 32) a x).toNat < S2x64x64.size a := fun v5 v8 v11 v14 v15 v16 v3154 k0_hw63 => k0_hw63.2.2.2.1
theorem k0_idx501_inb : ∀ (v5 : IVec S16 32) (v8 : IVec S16 32) (v11 : IVec S16 32) (v14 : IVec S16 32) (v15 : IVec S16 32) (v16 : IVec S16 32) (v3154 : IVec S16 32) (k0_hw63 : k0_chk63 v5 v8 v11 v14 v15 v16 v3154), ∀ a x, ((![v16, v3154, v14] : Fin 3 → IVec S16 32) a x).toNat < S2x64x64.size a := fun v5 v8 v11 v14 v15 v16 v3154 k0_hw63 => k0_hw63.2.2.2.2.1
theorem k0_idx502_inb : ∀ (v5 : IVec S16 32) (v8 : IVec S16 32) (v11 : IVec S16 32) (v14 : IVec S16 32) (v15 : IVec S16 32) (v16 : IVec S16 32) (v3154 : IVec S16 32) (k0_hw63 : k0_chk63 v5 v8 v11 v14 v15 v16 v3154), ∀ a x, ((![v16, v3154, v11] : Fin 3 → IVec S16 32) a x).toNat < S2x64x64.size a := fun v5 v8 v11 v14 v15 v16 v3154 k0_hw63 => k0_hw63.2.2.2.2.2.1
theorem k0_idx503_inb : ∀ (v5 : IVec S16 32) (v8 : IVec S16 32) (v11 : IVec S16 32) (v14 : IVec S16 32) (v15 : IVec S16 32) (v16 : IVec S16 32) (v3154 : IVec S16 32) (k0_hw63 : k0_chk63 v5 v8 v11 v14 v15 v16 v3154), ∀ a x, ((![v16, v3154, v8] : Fin 3 → IVec S16 32) a x).toNat < S2x64x64.size a := fun v5 v8 v11 v14 v15 v16 v3154 k0_hw63 => k0_hw63.2.2.2.2.2.2.1
theorem k0_idx504_inb : ∀ (v5 : IVec S16 32) (v8 : IVec S16 32) (v11 : IVec S16 32) (v14 : IVec S16 32) (v15 : IVec S16 32) (v16 : IVec S16 32) (v3154 : IVec S16 32) (k0_hw63 : k0_chk63 v5 v8 v11 v14 v15 v16 v3154), ∀ a x, ((![v16, v3154, v5] : Fin 3 → IVec S16 32) a x).toNat < S2x64x64.size a := fun v5 v8 v11 v14 v15 v16 v3154 k0_hw63 => k0_hw63.2.2.2.2.2.2.2
def k0_off544 (k0_t63 : Fin k0_t63_loop.trips) : Fin 4 → Nat :=
  let c2_i32_5365 : BitVec 32 := 2#32
  let v3219 : Index := Scalar.indexCast c2_i32_5365
  let c1_i32_5366 : BitVec 32 := 1#32
  let v3220 : Index := Scalar.indexCast c1_i32_5366
  let c0_i32_5325 : BitVec 32 := 0#32
  let c0_i32_3511 : BitVec 32 := 0#32
  let c1_i32_3513 : BitVec 32 := 1#32
  let arg17 : BitVec 32 := Scf.iv c0_i32_3511 c1_i32_3513 k0_t63
  let c1_i32_5324 : BitVec 32 := 1#32
  let v3152 : BitVec 32 := Scalar.muli arg17 c1_i32_5324
  let v3153 : BitVec 32 := Scalar.addi c0_i32_5325 v3152
  let v3221 : Index := Scalar.indexCast v3153
  let c0_5367 : Index := 0#32
  ![2, 1, v3221.toNat, 0]
def k0_off545 (k0_t63 : Fin k0_t63_loop.trips) : Fin 4 → Nat :=
  let c2_i32_5368 : BitVec 32 := 2#32
  let v3225 : Index := Scalar.indexCast c2_i32_5368
  let c1_i32_5369 : BitVec 32 := 1#32
  let v3226 : Index := Scalar.indexCast c1_i32_5369
  let c0_i32_5325 : BitVec 32 := 0#32
  let c0_i32_3511 : BitVec 32 := 0#32
  let c1_i32_3513 : BitVec 32 := 1#32
  let arg17 : BitVec 32 := Scf.iv c0_i32_3511 c1_i32_3513 k0_t63
  let c1_i32_5324 : BitVec 32 := 1#32
  let v3152 : BitVec 32 := Scalar.muli arg17 c1_i32_5324
  let v3153 : BitVec 32 := Scalar.addi c0_i32_5325 v3152
  let v3227 : Index := Scalar.indexCast v3153
  let c16_5370 : Index := 16#32
  ![2, 1, v3227.toNat, 16]
def k0_off546 (k0_t63 : Fin k0_t63_loop.trips) : Fin 4 → Nat :=
  let c2_i32_5371 : BitVec 32 := 2#32
  let v3231 : Index := Scalar.indexCast c2_i32_5371
  let c1_i32_5372 : BitVec 32 := 1#32
  let v3232 : Index := Scalar.indexCast c1_i32_5372
  let c0_i32_5325 : BitVec 32 := 0#32
  let c0_i32_3511 : BitVec 32 := 0#32
  let c1_i32_3513 : BitVec 32 := 1#32
  let arg17 : BitVec 32 := Scf.iv c0_i32_3511 c1_i32_3513 k0_t63
  let c1_i32_5324 : BitVec 32 := 1#32
  let v3152 : BitVec 32 := Scalar.muli arg17 c1_i32_5324
  let v3153 : BitVec 32 := Scalar.addi c0_i32_5325 v3152
  let v3233 : Index := Scalar.indexCast v3153
  let c32_5373 : Index := 32#32
  ![2, 1, v3233.toNat, 32]
def k0_off547 (k0_t63 : Fin k0_t63_loop.trips) : Fin 4 → Nat :=
  let c2_i32_5374 : BitVec 32 := 2#32
  let v3237 : Index := Scalar.indexCast c2_i32_5374
  let c1_i32_5375 : BitVec 32 := 1#32
  let v3238 : Index := Scalar.indexCast c1_i32_5375
  let c0_i32_5325 : BitVec 32 := 0#32
  let c0_i32_3511 : BitVec 32 := 0#32
  let c1_i32_3513 : BitVec 32 := 1#32
  let arg17 : BitVec 32 := Scf.iv c0_i32_3511 c1_i32_3513 k0_t63
  let c1_i32_5324 : BitVec 32 := 1#32
  let v3152 : BitVec 32 := Scalar.muli arg17 c1_i32_5324
  let v3153 : BitVec 32 := Scalar.addi c0_i32_5325 v3152
  let v3239 : Index := Scalar.indexCast v3153
  let c48_5376 : Index := 48#32
  ![2, 1, v3239.toNat, 48]
def k0_off548 (i : grid0.Coords) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c14_i32_3528 : BitVec 32 := 14#32
  let c0_i32_3529 : BitVec 32 := 0#32
  let c0_i32_3534 : BitVec 32 := 0#32
  let c0_i32_3535 : BitVec 32 := 0#32
  ![v2.toNat, 14, 0, 0, 0]
@[reducible] def k0_t64_loop : Scf.Loop 32 :=
  let c0_i32_3567 : BitVec 32 := 0#32
  let c64_i32_3568 : BitVec 32 := 64#32
  let v2120 : BitVec 32 := Scalar.addi c0_i32_3567 c64_i32_3568
  let c1_i32_3569 : BitVec 32 := 1#32
  ⟨c0_i32_3567, v2120, c1_i32_3569⟩
def k0_off549 (k0_t64 : Fin k0_t64_loop.trips) : Fin 4 → Nat :=
  let c0_i32_5338 : BitVec 32 := 0#32
  let v3167 : Index := Scalar.indexCast c0_i32_5338
  let c0_i32_5339 : BitVec 32 := 0#32
  let v3168 : Index := Scalar.indexCast c0_i32_5339
  let c0_i32_5325 : BitVec 32 := 0#32
  let c0_i32_3567 : BitVec 32 := 0#32
  let c1_i32_3569 : BitVec 32 := 1#32
  let arg17 : BitVec 32 := Scf.iv c0_i32_3567 c1_i32_3569 k0_t64
  let c1_i32_5324 : BitVec 32 := 1#32
  let v3152 : BitVec 32 := Scalar.muli arg17 c1_i32_5324
  let v3153 : BitVec 32 := Scalar.addi c0_i32_5325 v3152
  let v3169 : Index := Scalar.indexCast v3153
  let c0 : Index := 0#32
  ![0, 0, v3169.toNat, 0]
def k0_off550 (k0_t64 : Fin k0_t64_loop.trips) : Fin 4 → Nat :=
  let c0_i32_5340 : BitVec 32 := 0#32
  let v3173 : Index := Scalar.indexCast c0_i32_5340
  let c0_i32_5341 : BitVec 32 := 0#32
  let v3174 : Index := Scalar.indexCast c0_i32_5341
  let c0_i32_5325 : BitVec 32 := 0#32
  let c0_i32_3567 : BitVec 32 := 0#32
  let c1_i32_3569 : BitVec 32 := 1#32
  let arg17 : BitVec 32 := Scf.iv c0_i32_3567 c1_i32_3569 k0_t64
  let c1_i32_5324 : BitVec 32 := 1#32
  let v3152 : BitVec 32 := Scalar.muli arg17 c1_i32_5324
  let v3153 : BitVec 32 := Scalar.addi c0_i32_5325 v3152
  let v3175 : Index := Scalar.indexCast v3153
  let c16 : Index := 16#32
  ![0, 0, v3175.toNat, 16]
def k0_off551 (k0_t64 : Fin k0_t64_loop.trips) : Fin 4 → Nat :=
  let c0_i32_5342 : BitVec 32 := 0#32
  let v3179 : Index := Scalar.indexCast c0_i32_5342
  let c0_i32_5343 : BitVec 32 := 0#32
  let v3180 : Index := Scalar.indexCast c0_i32_5343
  let c0_i32_5325 : BitVec 32 := 0#32
  let c0_i32_3567 : BitVec 32 := 0#32
  let c1_i32_3569 : BitVec 32 := 1#32
  let arg17 : BitVec 32 := Scf.iv c0_i32_3567 c1_i32_3569 k0_t64
  let c1_i32_5324 : BitVec 32 := 1#32
  let v3152 : BitVec 32 := Scalar.muli arg17 c1_i32_5324
  let v3153 : BitVec 32 := Scalar.addi c0_i32_5325 v3152
  let v3181 : Index := Scalar.indexCast v3153
  let c32 : Index := 32#32
  ![0, 0, v3181.toNat, 32]
def k0_off552 (k0_t64 : Fin k0_t64_loop.trips) : Fin 4 → Nat :=
  let c0_i32_5344 : BitVec 32 := 0#32
  let v3185 : Index := Scalar.indexCast c0_i32_5344
  let c0_i32_5345 : BitVec 32 := 0#32
  let v3186 : Index := Scalar.indexCast c0_i32_5345
  let c0_i32_5325 : BitVec 32 := 0#32
  let c0_i32_3567 : BitVec 32 := 0#32
  let c1_i32_3569 : BitVec 32 := 1#32
  let arg17 : BitVec 32 := Scf.iv c0_i32_3567 c1_i32_3569 k0_t64
  let c1_i32_5324 : BitVec 32 := 1#32
  let v3152 : BitVec 32 := Scalar.muli arg17 c1_i32_5324
  let v3153 : BitVec 32 := Scalar.addi c0_i32_5325 v3152
  let v3187 : Index := Scalar.indexCast v3153
  let c48 : Index := 48#32
  ![0, 0, v3187.toNat, 48]

def k0_chk64 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx505_inb : ∀ (v5 : IVec S16 32) (v8 : IVec S16 32) (v11 : IVec S16 32) (v14 : IVec S16 32) (v15 : IVec S16 32) (v16 : IVec S16 32) (v3154 : IVec S16 32) (k0_hw64 : k0_chk64 v5 v8 v11 v14 v15 v16 v3154), ∀ a x, ((![v15, v3154, v14] : Fin 3 → IVec S16 32) a x).toNat < S2x64x64.size a := fun v5 v8 v11 v14 v15 v16 v3154 k0_hw64 => k0_hw64.1
theorem k0_idx506_inb : ∀ (v5 : IVec S16 32) (v8 : IVec S16 32) (v11 : IVec S16 32) (v14 : IVec S16 32) (v15 : IVec S16 32) (v16 : IVec S16 32) (v3154 : IVec S16 32) (k0_hw64 : k0_chk64 v5 v8 v11 v14 v15 v16 v3154), ∀ a x, ((![v15, v3154, v11] : Fin 3 → IVec S16 32) a x).toNat < S2x64x64.size a := fun v5 v8 v11 v14 v15 v16 v3154 k0_hw64 => k0_hw64.2.1
theorem k0_idx507_inb : ∀ (v5 : IVec S16 32) (v8 : IVec S16 32) (v11 : IVec S16 32) (v14 : IVec S16 32) (v15 : IVec S16 32) (v16 : IVec S16 32) (v3154 : IVec S16 32) (k0_hw64 : k0_chk64 v5 v8 v11 v14 v15 v16 v3154), ∀ a x, ((![v15, v3154, v8] : Fin 3 → IVec S16 32) a x).toNat < S2x64x64.size a := fun v5 v8 v11 v14 v15 v16 v3154 k0_hw64 => k0_hw64.2.2.1
theorem k0_idx508_inb : ∀ (v5 : IVec S16 32) (v8 : IVec S16 32) (v11 : IVec S16 32) (v14 : IVec S16 32) (v15 : IVec S16 32) (v16 : IVec S16 32) (v3154 : IVec S16 32) (k0_hw64 : k0_chk64 v5 v8 v11 v14 v15 v16 v3154), ∀ a x, ((![v15, v3154, v5] : Fin 3 → IVec S16 32) a x).toNat < S2x64x64.size a := fun v5 v8 v11 v14 v15 v16 v3154 k0_hw64 => k0_hw64.2.2.2.1
theorem k0_idx509_inb : ∀ (v5 : IVec S16 32) (v8 : IVec S16 32) (v11 : IVec S16 32) (v14 : IVec S16 32) (v15 : IVec S16 32) (v16 : IVec S16 32) (v3154 : IVec S16 32) (k0_hw64 : k0_chk64 v5 v8 v11 v14 v15 v16 v3154), ∀ a x, ((![v16, v3154, v14] : Fin 3 → IVec S16 32) a x).toNat < S2x64x64.size a := fun v5 v8 v11 v14 v15 v16 v3154 k0_hw64 => k0_hw64.2.2.2.2.1
theorem k0_idx510_inb : ∀ (v5 : IVec S16 32) (v8 : IVec S16 32) (v11 : IVec S16 32) (v14 : IVec S16 32) (v15 : IVec S16 32) (v16 : IVec S16 32) (v3154 : IVec S16 32) (k0_hw64 : k0_chk64 v5 v8 v11 v14 v15 v16 v3154), ∀ a x, ((![v16, v3154, v11] : Fin 3 → IVec S16 32) a x).toNat < S2x64x64.size a := fun v5 v8 v11 v14 v15 v16 v3154 k0_hw64 => k0_hw64.2.2.2.2.2.1
theorem k0_idx511_inb : ∀ (v5 : IVec S16 32) (v8 : IVec S16 32) (v11 : IVec S16 32) (v14 : IVec S16 32) (v15 : IVec S16 32) (v16 : IVec S16 32) (v3154 : IVec S16 32) (k0_hw64 : k0_chk64 v5 v8 v11 v14 v15 v16 v3154), ∀ a x, ((![v16, v3154, v8] : Fin 3 → IVec S16 32) a x).toNat < S2x64x64.size a := fun v5 v8 v11 v14 v15 v16 v3154 k0_hw64 => k0_hw64.2.2.2.2.2.2.1
theorem k0_idx512_inb : ∀ (v5 : IVec S16 32) (v8 : IVec S16 32) (v11 : IVec S16 32) (v14 : IVec S16 32) (v15 : IVec S16 32) (v16 : IVec S16 32) (v3154 : IVec S16 32) (k0_hw64 : k0_chk64 v5 v8 v11 v14 v15 v16 v3154), ∀ a x, ((![v16, v3154, v5] : Fin 3 → IVec S16 32) a x).toNat < S2x64x64.size a := fun v5 v8 v11 v14 v15 v16 v3154 k0_hw64 => k0_hw64.2.2.2.2.2.2.2
def k0_off553 (k0_t64 : Fin k0_t64_loop.trips) : Fin 4 → Nat :=
  let c0_i32_5358 : BitVec 32 := 0#32
  let v3203 : Index := Scalar.indexCast c0_i32_5358
  let c1_i32_5359 : BitVec 32 := 1#32
  let v3204 : Index := Scalar.indexCast c1_i32_5359
  let c0_i32_5325 : BitVec 32 := 0#32
  let c0_i32_3567 : BitVec 32 := 0#32
  let c1_i32_3569 : BitVec 32 := 1#32
  let arg17 : BitVec 32 := Scf.iv c0_i32_3567 c1_i32_3569 k0_t64
  let c1_i32_5324 : BitVec 32 := 1#32
  let v3152 : BitVec 32 := Scalar.muli arg17 c1_i32_5324
  let v3153 : BitVec 32 := Scalar.addi c0_i32_5325 v3152
  let v3205 : Index := Scalar.indexCast v3153
  let c0_5360 : Index := 0#32
  ![0, 1, v3205.toNat, 0]
def k0_off554 (k0_t64 : Fin k0_t64_loop.trips) : Fin 4 → Nat :=
  let c0_i32_5361 : BitVec 32 := 0#32
  let v3209 : Index := Scalar.indexCast c0_i32_5361
  let c1_i32_5362 : BitVec 32 := 1#32
  let v3210 : Index := Scalar.indexCast c1_i32_5362
  let c0_i32_5325 : BitVec 32 := 0#32
  let c0_i32_3567 : BitVec 32 := 0#32
  let c1_i32_3569 : BitVec 32 := 1#32
  let arg17 : BitVec 32 := Scf.iv c0_i32_3567 c1_i32_3569 k0_t64
  let c1_i32_5324 : BitVec 32 := 1#32
  let v3152 : BitVec 32 := Scalar.muli arg17 c1_i32_5324
  let v3153 : BitVec 32 := Scalar.addi c0_i32_5325 v3152
  let v3211 : Index := Scalar.indexCast v3153
  let c16_5363 : Index := 16#32
  ![0, 1, v3211.toNat, 16]
def k0_off555 (k0_t64 : Fin k0_t64_loop.trips) : Fin 4 → Nat :=
  let c0_i32_5364 : BitVec 32 := 0#32
  let v3215 : Index := Scalar.indexCast c0_i32_5364
  let c1_i32_5365 : BitVec 32 := 1#32
  let v3216 : Index := Scalar.indexCast c1_i32_5365
  let c0_i32_5325 : BitVec 32 := 0#32
  let c0_i32_3567 : BitVec 32 := 0#32
  let c1_i32_3569 : BitVec 32 := 1#32
  let arg17 : BitVec 32 := Scf.iv c0_i32_3567 c1_i32_3569 k0_t64
  let c1_i32_5324 : BitVec 32 := 1#32
  let v3152 : BitVec 32 := Scalar.muli arg17 c1_i32_5324
  let v3153 : BitVec 32 := Scalar.addi c0_i32_5325 v3152
  let v3217 : Index := Scalar.indexCast v3153
  let c32_5366 : Index := 32#32
  ![0, 1, v3217.toNat, 32]
def k0_off556 (k0_t64 : Fin k0_t64_loop.trips) : Fin 4 → Nat :=
  let c0_i32_5367 : BitVec 32 := 0#32
  let v3221 : Index := Scalar.indexCast c0_i32_5367
  let c1_i32_5368 : BitVec 32 := 1#32
  let v3222 : Index := Scalar.indexCast c1_i32_5368
  let c0_i32_5325 : BitVec 32 := 0#32
  let c0_i32_3567 : BitVec 32 := 0#32
  let c1_i32_3569 : BitVec 32 := 1#32
  let arg17 : BitVec 32 := Scf.iv c0_i32_3567 c1_i32_3569 k0_t64
  let c1_i32_5324 : BitVec 32 := 1#32
  let v3152 : BitVec 32 := Scalar.muli arg17 c1_i32_5324
  let v3153 : BitVec 32 := Scalar.addi c0_i32_5325 v3152
  let v3223 : Index := Scalar.indexCast v3153
  let c48_5369 : Index := 48#32
  ![0, 1, v3223.toNat, 48]
@[reducible] def k0_t65_loop : Scf.Loop 32 :=
  let c0_i32_3624 : BitVec 32 := 0#32
  let c64_i32_3625 : BitVec 32 := 64#32
  let v2153 : BitVec 32 := Scalar.addi c0_i32_3624 c64_i32_3625
  let c1_i32_3626 : BitVec 32 := 1#32
  ⟨c0_i32_3624, v2153, c1_i32_3626⟩
def k0_off557 (k0_t65 : Fin k0_t65_loop.trips) : Fin 4 → Nat :=
  let c1_i32_5338 : BitVec 32 := 1#32
  let v3167 : Index := Scalar.indexCast c1_i32_5338
  let c0_i32_5339 : BitVec 32 := 0#32
  let v3168 : Index := Scalar.indexCast c0_i32_5339
  let c0_i32_5325 : BitVec 32 := 0#32
  let c0_i32_3624 : BitVec 32 := 0#32
  let c1_i32_3626 : BitVec 32 := 1#32
  let arg17 : BitVec 32 := Scf.iv c0_i32_3624 c1_i32_3626 k0_t65
  let c1_i32_5324 : BitVec 32 := 1#32
  let v3152 : BitVec 32 := Scalar.muli arg17 c1_i32_5324
  let v3153 : BitVec 32 := Scalar.addi c0_i32_5325 v3152
  let v3169 : Index := Scalar.indexCast v3153
  let c0 : Index := 0#32
  ![1, 0, v3169.toNat, 0]
def k0_off558 (k0_t65 : Fin k0_t65_loop.trips) : Fin 4 → Nat :=
  let c1_i32_5340 : BitVec 32 := 1#32
  let v3173 : Index := Scalar.indexCast c1_i32_5340
  let c0_i32_5341 : BitVec 32 := 0#32
  let v3174 : Index := Scalar.indexCast c0_i32_5341
  let c0_i32_5325 : BitVec 32 := 0#32
  let c0_i32_3624 : BitVec 32 := 0#32
  let c1_i32_3626 : BitVec 32 := 1#32
  let arg17 : BitVec 32 := Scf.iv c0_i32_3624 c1_i32_3626 k0_t65
  let c1_i32_5324 : BitVec 32 := 1#32
  let v3152 : BitVec 32 := Scalar.muli arg17 c1_i32_5324
  let v3153 : BitVec 32 := Scalar.addi c0_i32_5325 v3152
  let v3175 : Index := Scalar.indexCast v3153
  let c16 : Index := 16#32
  ![1, 0, v3175.toNat, 16]
def k0_off559 (k0_t65 : Fin k0_t65_loop.trips) : Fin 4 → Nat :=
  let c1_i32_5342 : BitVec 32 := 1#32
  let v3179 : Index := Scalar.indexCast c1_i32_5342
  let c0_i32_5343 : BitVec 32 := 0#32
  let v3180 : Index := Scalar.indexCast c0_i32_5343
  let c0_i32_5325 : BitVec 32 := 0#32
  let c0_i32_3624 : BitVec 32 := 0#32
  let c1_i32_3626 : BitVec 32 := 1#32
  let arg17 : BitVec 32 := Scf.iv c0_i32_3624 c1_i32_3626 k0_t65
  let c1_i32_5324 : BitVec 32 := 1#32
  let v3152 : BitVec 32 := Scalar.muli arg17 c1_i32_5324
  let v3153 : BitVec 32 := Scalar.addi c0_i32_5325 v3152
  let v3181 : Index := Scalar.indexCast v3153
  let c32 : Index := 32#32
  ![1, 0, v3181.toNat, 32]
def k0_off560 (k0_t65 : Fin k0_t65_loop.trips) : Fin 4 → Nat :=
  let c1_i32_5344 : BitVec 32 := 1#32
  let v3185 : Index := Scalar.indexCast c1_i32_5344
  let c0_i32_5345 : BitVec 32 := 0#32
  let v3186 : Index := Scalar.indexCast c0_i32_5345
  let c0_i32_5325 : BitVec 32 := 0#32
  let c0_i32_3624 : BitVec 32 := 0#32
  let c1_i32_3626 : BitVec 32 := 1#32
  let arg17 : BitVec 32 := Scf.iv c0_i32_3624 c1_i32_3626 k0_t65
  let c1_i32_5324 : BitVec 32 := 1#32
  let v3152 : BitVec 32 := Scalar.muli arg17 c1_i32_5324
  let v3153 : BitVec 32 := Scalar.addi c0_i32_5325 v3152
  let v3187 : Index := Scalar.indexCast v3153
  let c48 : Index := 48#32
  ![1, 0, v3187.toNat, 48]

def k0_chk65 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx513_inb : ∀ (v5 : IVec S16 32) (v8 : IVec S16 32) (v11 : IVec S16 32) (v14 : IVec S16 32) (v15 : IVec S16 32) (v16 : IVec S16 32) (v3154 : IVec S16 32) (k0_hw65 : k0_chk65 v5 v8 v11 v14 v15 v16 v3154), ∀ a x, ((![v15, v3154, v14] : Fin 3 → IVec S16 32) a x).toNat < S2x64x64.size a := fun v5 v8 v11 v14 v15 v16 v3154 k0_hw65 => k0_hw65.1
theorem k0_idx514_inb : ∀ (v5 : IVec S16 32) (v8 : IVec S16 32) (v11 : IVec S16 32) (v14 : IVec S16 32) (v15 : IVec S16 32) (v16 : IVec S16 32) (v3154 : IVec S16 32) (k0_hw65 : k0_chk65 v5 v8 v11 v14 v15 v16 v3154), ∀ a x, ((![v15, v3154, v11] : Fin 3 → IVec S16 32) a x).toNat < S2x64x64.size a := fun v5 v8 v11 v14 v15 v16 v3154 k0_hw65 => k0_hw65.2.1
theorem k0_idx515_inb : ∀ (v5 : IVec S16 32) (v8 : IVec S16 32) (v11 : IVec S16 32) (v14 : IVec S16 32) (v15 : IVec S16 32) (v16 : IVec S16 32) (v3154 : IVec S16 32) (k0_hw65 : k0_chk65 v5 v8 v11 v14 v15 v16 v3154), ∀ a x, ((![v15, v3154, v8] : Fin 3 → IVec S16 32) a x).toNat < S2x64x64.size a := fun v5 v8 v11 v14 v15 v16 v3154 k0_hw65 => k0_hw65.2.2.1
theorem k0_idx516_inb : ∀ (v5 : IVec S16 32) (v8 : IVec S16 32) (v11 : IVec S16 32) (v14 : IVec S16 32) (v15 : IVec S16 32) (v16 : IVec S16 32) (v3154 : IVec S16 32) (k0_hw65 : k0_chk65 v5 v8 v11 v14 v15 v16 v3154), ∀ a x, ((![v15, v3154, v5] : Fin 3 → IVec S16 32) a x).toNat < S2x64x64.size a := fun v5 v8 v11 v14 v15 v16 v3154 k0_hw65 => k0_hw65.2.2.2.1
theorem k0_idx517_inb : ∀ (v5 : IVec S16 32) (v8 : IVec S16 32) (v11 : IVec S16 32) (v14 : IVec S16 32) (v15 : IVec S16 32) (v16 : IVec S16 32) (v3154 : IVec S16 32) (k0_hw65 : k0_chk65 v5 v8 v11 v14 v15 v16 v3154), ∀ a x, ((![v16, v3154, v14] : Fin 3 → IVec S16 32) a x).toNat < S2x64x64.size a := fun v5 v8 v11 v14 v15 v16 v3154 k0_hw65 => k0_hw65.2.2.2.2.1
theorem k0_idx518_inb : ∀ (v5 : IVec S16 32) (v8 : IVec S16 32) (v11 : IVec S16 32) (v14 : IVec S16 32) (v15 : IVec S16 32) (v16 : IVec S16 32) (v3154 : IVec S16 32) (k0_hw65 : k0_chk65 v5 v8 v11 v14 v15 v16 v3154), ∀ a x, ((![v16, v3154, v11] : Fin 3 → IVec S16 32) a x).toNat < S2x64x64.size a := fun v5 v8 v11 v14 v15 v16 v3154 k0_hw65 => k0_hw65.2.2.2.2.2.1
theorem k0_idx519_inb : ∀ (v5 : IVec S16 32) (v8 : IVec S16 32) (v11 : IVec S16 32) (v14 : IVec S16 32) (v15 : IVec S16 32) (v16 : IVec S16 32) (v3154 : IVec S16 32) (k0_hw65 : k0_chk65 v5 v8 v11 v14 v15 v16 v3154), ∀ a x, ((![v16, v3154, v8] : Fin 3 → IVec S16 32) a x).toNat < S2x64x64.size a := fun v5 v8 v11 v14 v15 v16 v3154 k0_hw65 => k0_hw65.2.2.2.2.2.2.1
theorem k0_idx520_inb : ∀ (v5 : IVec S16 32) (v8 : IVec S16 32) (v11 : IVec S16 32) (v14 : IVec S16 32) (v15 : IVec S16 32) (v16 : IVec S16 32) (v3154 : IVec S16 32) (k0_hw65 : k0_chk65 v5 v8 v11 v14 v15 v16 v3154), ∀ a x, ((![v16, v3154, v5] : Fin 3 → IVec S16 32) a x).toNat < S2x64x64.size a := fun v5 v8 v11 v14 v15 v16 v3154 k0_hw65 => k0_hw65.2.2.2.2.2.2.2
def k0_off561 (k0_t65 : Fin k0_t65_loop.trips) : Fin 4 → Nat :=
  let c1_i32_5358 : BitVec 32 := 1#32
  let v3203 : Index := Scalar.indexCast c1_i32_5358
  let c1_i32_5359 : BitVec 32 := 1#32
  let v3204 : Index := Scalar.indexCast c1_i32_5359
  let c0_i32_5325 : BitVec 32 := 0#32
  let c0_i32_3624 : BitVec 32 := 0#32
  let c1_i32_3626 : BitVec 32 := 1#32
  let arg17 : BitVec 32 := Scf.iv c0_i32_3624 c1_i32_3626 k0_t65
  let c1_i32_5324 : BitVec 32 := 1#32
  let v3152 : BitVec 32 := Scalar.muli arg17 c1_i32_5324
  let v3153 : BitVec 32 := Scalar.addi c0_i32_5325 v3152
  let v3205 : Index := Scalar.indexCast v3153
  let c0_5360 : Index := 0#32
  ![1, 1, v3205.toNat, 0]
def k0_off562 (k0_t65 : Fin k0_t65_loop.trips) : Fin 4 → Nat :=
  let c1_i32_5361 : BitVec 32 := 1#32
  let v3209 : Index := Scalar.indexCast c1_i32_5361
  let c1_i32_5362 : BitVec 32 := 1#32
  let v3210 : Index := Scalar.indexCast c1_i32_5362
  let c0_i32_5325 : BitVec 32 := 0#32
  let c0_i32_3624 : BitVec 32 := 0#32
  let c1_i32_3626 : BitVec 32 := 1#32
  let arg17 : BitVec 32 := Scf.iv c0_i32_3624 c1_i32_3626 k0_t65
  let c1_i32_5324 : BitVec 32 := 1#32
  let v3152 : BitVec 32 := Scalar.muli arg17 c1_i32_5324
  let v3153 : BitVec 32 := Scalar.addi c0_i32_5325 v3152
  let v3211 : Index := Scalar.indexCast v3153
  let c16_5363 : Index := 16#32
  ![1, 1, v3211.toNat, 16]
def k0_off563 (k0_t65 : Fin k0_t65_loop.trips) : Fin 4 → Nat :=
  let c1_i32_5364 : BitVec 32 := 1#32
  let v3215 : Index := Scalar.indexCast c1_i32_5364
  let c1_i32_5365 : BitVec 32 := 1#32
  let v3216 : Index := Scalar.indexCast c1_i32_5365
  let c0_i32_5325 : BitVec 32 := 0#32
  let c0_i32_3624 : BitVec 32 := 0#32
  let c1_i32_3626 : BitVec 32 := 1#32
  let arg17 : BitVec 32 := Scf.iv c0_i32_3624 c1_i32_3626 k0_t65
  let c1_i32_5324 : BitVec 32 := 1#32
  let v3152 : BitVec 32 := Scalar.muli arg17 c1_i32_5324
  let v3153 : BitVec 32 := Scalar.addi c0_i32_5325 v3152
  let v3217 : Index := Scalar.indexCast v3153
  let c32_5366 : Index := 32#32
  ![1, 1, v3217.toNat, 32]
def k0_off564 (k0_t65 : Fin k0_t65_loop.trips) : Fin 4 → Nat :=
  let c1_i32_5367 : BitVec 32 := 1#32
  let v3221 : Index := Scalar.indexCast c1_i32_5367
  let c1_i32_5368 : BitVec 32 := 1#32
  let v3222 : Index := Scalar.indexCast c1_i32_5368
  let c0_i32_5325 : BitVec 32 := 0#32
  let c0_i32_3624 : BitVec 32 := 0#32
  let c1_i32_3626 : BitVec 32 := 1#32
  let arg17 : BitVec 32 := Scf.iv c0_i32_3624 c1_i32_3626 k0_t65
  let c1_i32_5324 : BitVec 32 := 1#32
  let v3152 : BitVec 32 := Scalar.muli arg17 c1_i32_5324
  let v3153 : BitVec 32 := Scalar.addi c0_i32_5325 v3152
  let v3223 : Index := Scalar.indexCast v3153
  let c48_5369 : Index := 48#32
  ![1, 1, v3223.toNat, 48]
def k0_off565 (i : grid0.Coords) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c14_i32_3641 : BitVec 32 := 14#32
  let c1_i32_3642 : BitVec 32 := 1#32
  let c0_i32_3647 : BitVec 32 := 0#32
  let c0_i32_3648 : BitVec 32 := 0#32
  ![v2.toNat, 14, 1, 0, 0]
@[reducible] def k0_t66_loop : Scf.Loop 32 :=
  let c0_i32_3680 : BitVec 32 := 0#32
  let c64_i32_3681 : BitVec 32 := 64#32
  let v2186 : BitVec 32 := Scalar.addi c0_i32_3680 c64_i32_3681
  let c1_i32_3682 : BitVec 32 := 1#32
  ⟨c0_i32_3680, v2186, c1_i32_3682⟩
def k0_off566 (k0_t66 : Fin k0_t66_loop.trips) : Fin 4 → Nat :=
  let c2_i32_5338 : BitVec 32 := 2#32
  let v3167 : Index := Scalar.indexCast c2_i32_5338
  let c0_i32_5339 : BitVec 32 := 0#32
  let v3168 : Index := Scalar.indexCast c0_i32_5339
  let c0_i32_5325 : BitVec 32 := 0#32
  let c0_i32_3680 : BitVec 32 := 0#32
  let c1_i32_3682 : BitVec 32 := 1#32
  let arg17 : BitVec 32 := Scf.iv c0_i32_3680 c1_i32_3682 k0_t66
  let c1_i32_5324 : BitVec 32 := 1#32
  let v3152 : BitVec 32 := Scalar.muli arg17 c1_i32_5324
  let v3153 : BitVec 32 := Scalar.addi c0_i32_5325 v3152
  let v3169 : Index := Scalar.indexCast v3153
  let c0 : Index := 0#32
  ![2, 0, v3169.toNat, 0]
def k0_off567 (k0_t66 : Fin k0_t66_loop.trips) : Fin 4 → Nat :=
  let c2_i32_5340 : BitVec 32 := 2#32
  let v3173 : Index := Scalar.indexCast c2_i32_5340
  let c0_i32_5341 : BitVec 32 := 0#32
  let v3174 : Index := Scalar.indexCast c0_i32_5341
  let c0_i32_5325 : BitVec 32 := 0#32
  let c0_i32_3680 : BitVec 32 := 0#32
  let c1_i32_3682 : BitVec 32 := 1#32
  let arg17 : BitVec 32 := Scf.iv c0_i32_3680 c1_i32_3682 k0_t66
  let c1_i32_5324 : BitVec 32 := 1#32
  let v3152 : BitVec 32 := Scalar.muli arg17 c1_i32_5324
  let v3153 : BitVec 32 := Scalar.addi c0_i32_5325 v3152
  let v3175 : Index := Scalar.indexCast v3153
  let c16 : Index := 16#32
  ![2, 0, v3175.toNat, 16]
def k0_off568 (k0_t66 : Fin k0_t66_loop.trips) : Fin 4 → Nat :=
  let c2_i32_5342 : BitVec 32 := 2#32
  let v3179 : Index := Scalar.indexCast c2_i32_5342
  let c0_i32_5343 : BitVec 32 := 0#32
  let v3180 : Index := Scalar.indexCast c0_i32_5343
  let c0_i32_5325 : BitVec 32 := 0#32
  let c0_i32_3680 : BitVec 32 := 0#32
  let c1_i32_3682 : BitVec 32 := 1#32
  let arg17 : BitVec 32 := Scf.iv c0_i32_3680 c1_i32_3682 k0_t66
  let c1_i32_5324 : BitVec 32 := 1#32
  let v3152 : BitVec 32 := Scalar.muli arg17 c1_i32_5324
  let v3153 : BitVec 32 := Scalar.addi c0_i32_5325 v3152
  let v3181 : Index := Scalar.indexCast v3153
  let c32 : Index := 32#32
  ![2, 0, v3181.toNat, 32]
def k0_off569 (k0_t66 : Fin k0_t66_loop.trips) : Fin 4 → Nat :=
  let c2_i32_5344 : BitVec 32 := 2#32
  let v3185 : Index := Scalar.indexCast c2_i32_5344
  let c0_i32_5345 : BitVec 32 := 0#32
  let v3186 : Index := Scalar.indexCast c0_i32_5345
  let c0_i32_5325 : BitVec 32 := 0#32
  let c0_i32_3680 : BitVec 32 := 0#32
  let c1_i32_3682 : BitVec 32 := 1#32
  let arg17 : BitVec 32 := Scf.iv c0_i32_3680 c1_i32_3682 k0_t66
  let c1_i32_5324 : BitVec 32 := 1#32
  let v3152 : BitVec 32 := Scalar.muli arg17 c1_i32_5324
  let v3153 : BitVec 32 := Scalar.addi c0_i32_5325 v3152
  let v3187 : Index := Scalar.indexCast v3153
  let c48 : Index := 48#32
  ![2, 0, v3187.toNat, 48]

def k0_chk66 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx521_inb : ∀ (v5 : IVec S16 32) (v8 : IVec S16 32) (v11 : IVec S16 32) (v14 : IVec S16 32) (v15 : IVec S16 32) (v16 : IVec S16 32) (v3154 : IVec S16 32) (k0_hw66 : k0_chk66 v5 v8 v11 v14 v15 v16 v3154), ∀ a x, ((![v15, v3154, v14] : Fin 3 → IVec S16 32) a x).toNat < S2x64x64.size a := fun v5 v8 v11 v14 v15 v16 v3154 k0_hw66 => k0_hw66.1
theorem k0_idx522_inb : ∀ (v5 : IVec S16 32) (v8 : IVec S16 32) (v11 : IVec S16 32) (v14 : IVec S16 32) (v15 : IVec S16 32) (v16 : IVec S16 32) (v3154 : IVec S16 32) (k0_hw66 : k0_chk66 v5 v8 v11 v14 v15 v16 v3154), ∀ a x, ((![v15, v3154, v11] : Fin 3 → IVec S16 32) a x).toNat < S2x64x64.size a := fun v5 v8 v11 v14 v15 v16 v3154 k0_hw66 => k0_hw66.2.1
theorem k0_idx523_inb : ∀ (v5 : IVec S16 32) (v8 : IVec S16 32) (v11 : IVec S16 32) (v14 : IVec S16 32) (v15 : IVec S16 32) (v16 : IVec S16 32) (v3154 : IVec S16 32) (k0_hw66 : k0_chk66 v5 v8 v11 v14 v15 v16 v3154), ∀ a x, ((![v15, v3154, v8] : Fin 3 → IVec S16 32) a x).toNat < S2x64x64.size a := fun v5 v8 v11 v14 v15 v16 v3154 k0_hw66 => k0_hw66.2.2.1
theorem k0_idx524_inb : ∀ (v5 : IVec S16 32) (v8 : IVec S16 32) (v11 : IVec S16 32) (v14 : IVec S16 32) (v15 : IVec S16 32) (v16 : IVec S16 32) (v3154 : IVec S16 32) (k0_hw66 : k0_chk66 v5 v8 v11 v14 v15 v16 v3154), ∀ a x, ((![v15, v3154, v5] : Fin 3 → IVec S16 32) a x).toNat < S2x64x64.size a := fun v5 v8 v11 v14 v15 v16 v3154 k0_hw66 => k0_hw66.2.2.2.1
theorem k0_idx525_inb : ∀ (v5 : IVec S16 32) (v8 : IVec S16 32) (v11 : IVec S16 32) (v14 : IVec S16 32) (v15 : IVec S16 32) (v16 : IVec S16 32) (v3154 : IVec S16 32) (k0_hw66 : k0_chk66 v5 v8 v11 v14 v15 v16 v3154), ∀ a x, ((![v16, v3154, v14] : Fin 3 → IVec S16 32) a x).toNat < S2x64x64.size a := fun v5 v8 v11 v14 v15 v16 v3154 k0_hw66 => k0_hw66.2.2.2.2.1
theorem k0_idx526_inb : ∀ (v5 : IVec S16 32) (v8 : IVec S16 32) (v11 : IVec S16 32) (v14 : IVec S16 32) (v15 : IVec S16 32) (v16 : IVec S16 32) (v3154 : IVec S16 32) (k0_hw66 : k0_chk66 v5 v8 v11 v14 v15 v16 v3154), ∀ a x, ((![v16, v3154, v11] : Fin 3 → IVec S16 32) a x).toNat < S2x64x64.size a := fun v5 v8 v11 v14 v15 v16 v3154 k0_hw66 => k0_hw66.2.2.2.2.2.1
theorem k0_idx527_inb : ∀ (v5 : IVec S16 32) (v8 : IVec S16 32) (v11 : IVec S16 32) (v14 : IVec S16 32) (v15 : IVec S16 32) (v16 : IVec S16 32) (v3154 : IVec S16 32) (k0_hw66 : k0_chk66 v5 v8 v11 v14 v15 v16 v3154), ∀ a x, ((![v16, v3154, v8] : Fin 3 → IVec S16 32) a x).toNat < S2x64x64.size a := fun v5 v8 v11 v14 v15 v16 v3154 k0_hw66 => k0_hw66.2.2.2.2.2.2.1
theorem k0_idx528_inb : ∀ (v5 : IVec S16 32) (v8 : IVec S16 32) (v11 : IVec S16 32) (v14 : IVec S16 32) (v15 : IVec S16 32) (v16 : IVec S16 32) (v3154 : IVec S16 32) (k0_hw66 : k0_chk66 v5 v8 v11 v14 v15 v16 v3154), ∀ a x, ((![v16, v3154, v5] : Fin 3 → IVec S16 32) a x).toNat < S2x64x64.size a := fun v5 v8 v11 v14 v15 v16 v3154 k0_hw66 => k0_hw66.2.2.2.2.2.2.2
def k0_off570 (k0_t66 : Fin k0_t66_loop.trips) : Fin 4 → Nat :=
  let c2_i32_5358 : BitVec 32 := 2#32
  let v3203 : Index := Scalar.indexCast c2_i32_5358
  let c1_i32_5359 : BitVec 32 := 1#32
  let v3204 : Index := Scalar.indexCast c1_i32_5359
  let c0_i32_5325 : BitVec 32 := 0#32
  let c0_i32_3680 : BitVec 32 := 0#32
  let c1_i32_3682 : BitVec 32 := 1#32
  let arg17 : BitVec 32 := Scf.iv c0_i32_3680 c1_i32_3682 k0_t66
  let c1_i32_5324 : BitVec 32 := 1#32
  let v3152 : BitVec 32 := Scalar.muli arg17 c1_i32_5324
  let v3153 : BitVec 32 := Scalar.addi c0_i32_5325 v3152
  let v3205 : Index := Scalar.indexCast v3153
  let c0_5360 : Index := 0#32
  ![2, 1, v3205.toNat, 0]
def k0_off571 (k0_t66 : Fin k0_t66_loop.trips) : Fin 4 → Nat :=
  let c2_i32_5361 : BitVec 32 := 2#32
  let v3209 : Index := Scalar.indexCast c2_i32_5361
  let c1_i32_5362 : BitVec 32 := 1#32
  let v3210 : Index := Scalar.indexCast c1_i32_5362
  let c0_i32_5325 : BitVec 32 := 0#32
  let c0_i32_3680 : BitVec 32 := 0#32
  let c1_i32_3682 : BitVec 32 := 1#32
  let arg17 : BitVec 32 := Scf.iv c0_i32_3680 c1_i32_3682 k0_t66
  let c1_i32_5324 : BitVec 32 := 1#32
  let v3152 : BitVec 32 := Scalar.muli arg17 c1_i32_5324
  let v3153 : BitVec 32 := Scalar.addi c0_i32_5325 v3152
  let v3211 : Index := Scalar.indexCast v3153
  let c16_5363 : Index := 16#32
  ![2, 1, v3211.toNat, 16]
def k0_off572 (k0_t66 : Fin k0_t66_loop.trips) : Fin 4 → Nat :=
  let c2_i32_5364 : BitVec 32 := 2#32
  let v3215 : Index := Scalar.indexCast c2_i32_5364
  let c1_i32_5365 : BitVec 32 := 1#32
  let v3216 : Index := Scalar.indexCast c1_i32_5365
  let c0_i32_5325 : BitVec 32 := 0#32
  let c0_i32_3680 : BitVec 32 := 0#32
  let c1_i32_3682 : BitVec 32 := 1#32
  let arg17 : BitVec 32 := Scf.iv c0_i32_3680 c1_i32_3682 k0_t66
  let c1_i32_5324 : BitVec 32 := 1#32
  let v3152 : BitVec 32 := Scalar.muli arg17 c1_i32_5324
  let v3153 : BitVec 32 := Scalar.addi c0_i32_5325 v3152
  let v3217 : Index := Scalar.indexCast v3153
  let c32_5366 : Index := 32#32
  ![2, 1, v3217.toNat, 32]
def k0_off573 (k0_t66 : Fin k0_t66_loop.trips) : Fin 4 → Nat :=
  let c2_i32_5367 : BitVec 32 := 2#32
  let v3221 : Index := Scalar.indexCast c2_i32_5367
  let c1_i32_5368 : BitVec 32 := 1#32
  let v3222 : Index := Scalar.indexCast c1_i32_5368
  let c0_i32_5325 : BitVec 32 := 0#32
  let c0_i32_3680 : BitVec 32 := 0#32
  let c1_i32_3682 : BitVec 32 := 1#32
  let arg17 : BitVec 32 := Scf.iv c0_i32_3680 c1_i32_3682 k0_t66
  let c1_i32_5324 : BitVec 32 := 1#32
  let v3152 : BitVec 32 := Scalar.muli arg17 c1_i32_5324
  let v3153 : BitVec 32 := Scalar.addi c0_i32_5325 v3152
  let v3223 : Index := Scalar.indexCast v3153
  let c48_5369 : Index := 48#32
  ![2, 1, v3223.toNat, 48]
def k0_off574 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c13_i32 : BitVec 32 := 13#32
  let c0_i32_3688 : BitVec 32 := 0#32
  let c0_i32_3689 : BitVec 32 := 0#32
  ![v2.toNat, 13, 0, 0]
@[reducible] def k0_t67_loop : Scf.Loop 32 :=
  let c0_i32_3735 : BitVec 32 := 0#32
  let c64_i32_3736 : BitVec 32 := 64#32
  let v2219 : BitVec 32 := Scalar.addi c0_i32_3735 c64_i32_3736
  let c1_i32_3737 : BitVec 32 := 1#32
  ⟨c0_i32_3735, v2219, c1_i32_3737⟩
def k0_off575 (k0_t67 : Fin k0_t67_loop.trips) : Fin 4 → Nat :=
  let c0_i32_5341 : BitVec 32 := 0#32
  let v3175 : Index := Scalar.indexCast c0_i32_5341
  let c0_i32_5342 : BitVec 32 := 0#32
  let v3176 : Index := Scalar.indexCast c0_i32_5342
  let c0_i32_5325 : BitVec 32 := 0#32
  let c0_i32_3735 : BitVec 32 := 0#32
  let c1_i32_3737 : BitVec 32 := 1#32
  let arg17 : BitVec 32 := Scf.iv c0_i32_3735 c1_i32_3737 k0_t67
  let c1_i32_5324 : BitVec 32 := 1#32
  let v3152 : BitVec 32 := Scalar.muli arg17 c1_i32_5324
  let v3153 : BitVec 32 := Scalar.addi c0_i32_5325 v3152
  let v3177 : Index := Scalar.indexCast v3153
  let c0 : Index := 0#32
  ![0, 0, v3177.toNat, 0]
def k0_off576 (k0_t67 : Fin k0_t67_loop.trips) : Fin 4 → Nat :=
  let c0_i32_5343 : BitVec 32 := 0#32
  let v3181 : Index := Scalar.indexCast c0_i32_5343
  let c0_i32_5344 : BitVec 32 := 0#32
  let v3182 : Index := Scalar.indexCast c0_i32_5344
  let c0_i32_5325 : BitVec 32 := 0#32
  let c0_i32_3735 : BitVec 32 := 0#32
  let c1_i32_3737 : BitVec 32 := 1#32
  let arg17 : BitVec 32 := Scf.iv c0_i32_3735 c1_i32_3737 k0_t67
  let c1_i32_5324 : BitVec 32 := 1#32
  let v3152 : BitVec 32 := Scalar.muli arg17 c1_i32_5324
  let v3153 : BitVec 32 := Scalar.addi c0_i32_5325 v3152
  let v3183 : Index := Scalar.indexCast v3153
  let c16 : Index := 16#32
  ![0, 0, v3183.toNat, 16]
def k0_off577 (k0_t67 : Fin k0_t67_loop.trips) : Fin 4 → Nat :=
  let c0_i32_5345 : BitVec 32 := 0#32
  let v3187 : Index := Scalar.indexCast c0_i32_5345
  let c0_i32_5346 : BitVec 32 := 0#32
  let v3188 : Index := Scalar.indexCast c0_i32_5346
  let c0_i32_5325 : BitVec 32 := 0#32
  let c0_i32_3735 : BitVec 32 := 0#32
  let c1_i32_3737 : BitVec 32 := 1#32
  let arg17 : BitVec 32 := Scf.iv c0_i32_3735 c1_i32_3737 k0_t67
  let c1_i32_5324 : BitVec 32 := 1#32
  let v3152 : BitVec 32 := Scalar.muli arg17 c1_i32_5324
  let v3153 : BitVec 32 := Scalar.addi c0_i32_5325 v3152
  let v3189 : Index := Scalar.indexCast v3153
  let c32 : Index := 32#32
  ![0, 0, v3189.toNat, 32]
def k0_off578 (k0_t67 : Fin k0_t67_loop.trips) : Fin 4 → Nat :=
  let c0_i32_5347 : BitVec 32 := 0#32
  let v3193 : Index := Scalar.indexCast c0_i32_5347
  let c0_i32_5348 : BitVec 32 := 0#32
  let v3194 : Index := Scalar.indexCast c0_i32_5348
  let c0_i32_5325 : BitVec 32 := 0#32
  let c0_i32_3735 : BitVec 32 := 0#32
  let c1_i32_3737 : BitVec 32 := 1#32
  let arg17 : BitVec 32 := Scf.iv c0_i32_3735 c1_i32_3737 k0_t67
  let c1_i32_5324 : BitVec 32 := 1#32
  let v3152 : BitVec 32 := Scalar.muli arg17 c1_i32_5324
  let v3153 : BitVec 32 := Scalar.addi c0_i32_5325 v3152
  let v3195 : Index := Scalar.indexCast v3153
  let c48 : Index := 48#32
  ![0, 0, v3195.toNat, 48]

def k0_chk67 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx529_inb : ∀ (v5 : IVec S16 32) (v8 : IVec S16 32) (v11 : IVec S16 32) (v14 : IVec S16 32) (v15 : IVec S16 32) (v16 : IVec S16 32) (v3154 : IVec S16 32) (k0_hw67 : k0_chk67 v5 v8 v11 v14 v15 v16 v3154), ∀ a x, ((![v15, v3154, v14] : Fin 3 → IVec S16 32) a x).toNat < S2x64x64.size a := fun v5 v8 v11 v14 v15 v16 v3154 k0_hw67 => k0_hw67.1
theorem k0_idx530_inb : ∀ (v5 : IVec S16 32) (v8 : IVec S16 32) (v11 : IVec S16 32) (v14 : IVec S16 32) (v15 : IVec S16 32) (v16 : IVec S16 32) (v3154 : IVec S16 32) (k0_hw67 : k0_chk67 v5 v8 v11 v14 v15 v16 v3154), ∀ a x, ((![v15, v3154, v11] : Fin 3 → IVec S16 32) a x).toNat < S2x64x64.size a := fun v5 v8 v11 v14 v15 v16 v3154 k0_hw67 => k0_hw67.2.1
theorem k0_idx531_inb : ∀ (v5 : IVec S16 32) (v8 : IVec S16 32) (v11 : IVec S16 32) (v14 : IVec S16 32) (v15 : IVec S16 32) (v16 : IVec S16 32) (v3154 : IVec S16 32) (k0_hw67 : k0_chk67 v5 v8 v11 v14 v15 v16 v3154), ∀ a x, ((![v15, v3154, v8] : Fin 3 → IVec S16 32) a x).toNat < S2x64x64.size a := fun v5 v8 v11 v14 v15 v16 v3154 k0_hw67 => k0_hw67.2.2.1
theorem k0_idx532_inb : ∀ (v5 : IVec S16 32) (v8 : IVec S16 32) (v11 : IVec S16 32) (v14 : IVec S16 32) (v15 : IVec S16 32) (v16 : IVec S16 32) (v3154 : IVec S16 32) (k0_hw67 : k0_chk67 v5 v8 v11 v14 v15 v16 v3154), ∀ a x, ((![v15, v3154, v5] : Fin 3 → IVec S16 32) a x).toNat < S2x64x64.size a := fun v5 v8 v11 v14 v15 v16 v3154 k0_hw67 => k0_hw67.2.2.2.1
theorem k0_idx533_inb : ∀ (v5 : IVec S16 32) (v8 : IVec S16 32) (v11 : IVec S16 32) (v14 : IVec S16 32) (v15 : IVec S16 32) (v16 : IVec S16 32) (v3154 : IVec S16 32) (k0_hw67 : k0_chk67 v5 v8 v11 v14 v15 v16 v3154), ∀ a x, ((![v16, v3154, v14] : Fin 3 → IVec S16 32) a x).toNat < S2x64x64.size a := fun v5 v8 v11 v14 v15 v16 v3154 k0_hw67 => k0_hw67.2.2.2.2.1
theorem k0_idx534_inb : ∀ (v5 : IVec S16 32) (v8 : IVec S16 32) (v11 : IVec S16 32) (v14 : IVec S16 32) (v15 : IVec S16 32) (v16 : IVec S16 32) (v3154 : IVec S16 32) (k0_hw67 : k0_chk67 v5 v8 v11 v14 v15 v16 v3154), ∀ a x, ((![v16, v3154, v11] : Fin 3 → IVec S16 32) a x).toNat < S2x64x64.size a := fun v5 v8 v11 v14 v15 v16 v3154 k0_hw67 => k0_hw67.2.2.2.2.2.1
theorem k0_idx535_inb : ∀ (v5 : IVec S16 32) (v8 : IVec S16 32) (v11 : IVec S16 32) (v14 : IVec S16 32) (v15 : IVec S16 32) (v16 : IVec S16 32) (v3154 : IVec S16 32) (k0_hw67 : k0_chk67 v5 v8 v11 v14 v15 v16 v3154), ∀ a x, ((![v16, v3154, v8] : Fin 3 → IVec S16 32) a x).toNat < S2x64x64.size a := fun v5 v8 v11 v14 v15 v16 v3154 k0_hw67 => k0_hw67.2.2.2.2.2.2.1
theorem k0_idx536_inb : ∀ (v5 : IVec S16 32) (v8 : IVec S16 32) (v11 : IVec S16 32) (v14 : IVec S16 32) (v15 : IVec S16 32) (v16 : IVec S16 32) (v3154 : IVec S16 32) (k0_hw67 : k0_chk67 v5 v8 v11 v14 v15 v16 v3154), ∀ a x, ((![v16, v3154, v5] : Fin 3 → IVec S16 32) a x).toNat < S2x64x64.size a := fun v5 v8 v11 v14 v15 v16 v3154 k0_hw67 => k0_hw67.2.2.2.2.2.2.2
def k0_off579 (k0_t67 : Fin k0_t67_loop.trips) : Fin 4 → Nat :=
  let c0_i32_5365 : BitVec 32 := 0#32
  let v3219 : Index := Scalar.indexCast c0_i32_5365
  let c1_i32_5366 : BitVec 32 := 1#32
  let v3220 : Index := Scalar.indexCast c1_i32_5366
  let c0_i32_5325 : BitVec 32 := 0#32
  let c0_i32_3735 : BitVec 32 := 0#32
  let c1_i32_3737 : BitVec 32 := 1#32
  let arg17 : BitVec 32 := Scf.iv c0_i32_3735 c1_i32_3737 k0_t67
  let c1_i32_5324 : BitVec 32 := 1#32
  let v3152 : BitVec 32 := Scalar.muli arg17 c1_i32_5324
  let v3153 : BitVec 32 := Scalar.addi c0_i32_5325 v3152
  let v3221 : Index := Scalar.indexCast v3153
  let c0_5367 : Index := 0#32
  ![0, 1, v3221.toNat, 0]
def k0_off580 (k0_t67 : Fin k0_t67_loop.trips) : Fin 4 → Nat :=
  let c0_i32_5368 : BitVec 32 := 0#32
  let v3225 : Index := Scalar.indexCast c0_i32_5368
  let c1_i32_5369 : BitVec 32 := 1#32
  let v3226 : Index := Scalar.indexCast c1_i32_5369
  let c0_i32_5325 : BitVec 32 := 0#32
  let c0_i32_3735 : BitVec 32 := 0#32
  let c1_i32_3737 : BitVec 32 := 1#32
  let arg17 : BitVec 32 := Scf.iv c0_i32_3735 c1_i32_3737 k0_t67
  let c1_i32_5324 : BitVec 32 := 1#32
  let v3152 : BitVec 32 := Scalar.muli arg17 c1_i32_5324
  let v3153 : BitVec 32 := Scalar.addi c0_i32_5325 v3152
  let v3227 : Index := Scalar.indexCast v3153
  let c16_5370 : Index := 16#32
  ![0, 1, v3227.toNat, 16]
def k0_off581 (k0_t67 : Fin k0_t67_loop.trips) : Fin 4 → Nat :=
  let c0_i32_5371 : BitVec 32 := 0#32
  let v3231 : Index := Scalar.indexCast c0_i32_5371
  let c1_i32_5372 : BitVec 32 := 1#32
  let v3232 : Index := Scalar.indexCast c1_i32_5372
  let c0_i32_5325 : BitVec 32 := 0#32
  let c0_i32_3735 : BitVec 32 := 0#32
  let c1_i32_3737 : BitVec 32 := 1#32
  let arg17 : BitVec 32 := Scf.iv c0_i32_3735 c1_i32_3737 k0_t67
  let c1_i32_5324 : BitVec 32 := 1#32
  let v3152 : BitVec 32 := Scalar.muli arg17 c1_i32_5324
  let v3153 : BitVec 32 := Scalar.addi c0_i32_5325 v3152
  let v3233 : Index := Scalar.indexCast v3153
  let c32_5373 : Index := 32#32
  ![0, 1, v3233.toNat, 32]
def k0_off582 (k0_t67 : Fin k0_t67_loop.trips) : Fin 4 → Nat :=
  let c0_i32_5374 : BitVec 32 := 0#32
  let v3237 : Index := Scalar.indexCast c0_i32_5374
  let c1_i32_5375 : BitVec 32 := 1#32
  let v3238 : Index := Scalar.indexCast c1_i32_5375
  let c0_i32_5325 : BitVec 32 := 0#32
  let c0_i32_3735 : BitVec 32 := 0#32
  let c1_i32_3737 : BitVec 32 := 1#32
  let arg17 : BitVec 32 := Scf.iv c0_i32_3735 c1_i32_3737 k0_t67
  let c1_i32_5324 : BitVec 32 := 1#32
  let v3152 : BitVec 32 := Scalar.muli arg17 c1_i32_5324
  let v3153 : BitVec 32 := Scalar.addi c0_i32_5325 v3152
  let v3239 : Index := Scalar.indexCast v3153
  let c48_5376 : Index := 48#32
  ![0, 1, v3239.toNat, 48]
def k0_off583 (i : grid0.Coords) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c13_i32_3740 : BitVec 32 := 13#32
  let c0_i32_3741 : BitVec 32 := 0#32
  let c0_i32_3745 : BitVec 32 := 0#32
  let c0_i32_3746 : BitVec 32 := 0#32
  ![v2.toNat, 13, 0, 0, 0]
@[reducible] def k0_t68_loop : Scf.Loop 32 :=
  let c0_i32_3791 : BitVec 32 := 0#32
  let c64_i32_3792 : BitVec 32 := 64#32
  let v2252 : BitVec 32 := Scalar.addi c0_i32_3791 c64_i32_3792
  let c1_i32_3793 : BitVec 32 := 1#32
  ⟨c0_i32_3791, v2252, c1_i32_3793⟩
def k0_off584 (k0_t68 : Fin k0_t68_loop.trips) : Fin 4 → Nat :=
  let c1_i32_5341 : BitVec 32 := 1#32
  let v3175 : Index := Scalar.indexCast c1_i32_5341
  let c0_i32_5342 : BitVec 32 := 0#32
  let v3176 : Index := Scalar.indexCast c0_i32_5342
  let c0_i32_5325 : BitVec 32 := 0#32
  let c0_i32_3791 : BitVec 32 := 0#32
  let c1_i32_3793 : BitVec 32 := 1#32
  let arg17 : BitVec 32 := Scf.iv c0_i32_3791 c1_i32_3793 k0_t68
  let c1_i32_5324 : BitVec 32 := 1#32
  let v3152 : BitVec 32 := Scalar.muli arg17 c1_i32_5324
  let v3153 : BitVec 32 := Scalar.addi c0_i32_5325 v3152
  let v3177 : Index := Scalar.indexCast v3153
  let c0 : Index := 0#32
  ![1, 0, v3177.toNat, 0]
def k0_off585 (k0_t68 : Fin k0_t68_loop.trips) : Fin 4 → Nat :=
  let c1_i32_5343 : BitVec 32 := 1#32
  let v3181 : Index := Scalar.indexCast c1_i32_5343
  let c0_i32_5344 : BitVec 32 := 0#32
  let v3182 : Index := Scalar.indexCast c0_i32_5344
  let c0_i32_5325 : BitVec 32 := 0#32
  let c0_i32_3791 : BitVec 32 := 0#32
  let c1_i32_3793 : BitVec 32 := 1#32
  let arg17 : BitVec 32 := Scf.iv c0_i32_3791 c1_i32_3793 k0_t68
  let c1_i32_5324 : BitVec 32 := 1#32
  let v3152 : BitVec 32 := Scalar.muli arg17 c1_i32_5324
  let v3153 : BitVec 32 := Scalar.addi c0_i32_5325 v3152
  let v3183 : Index := Scalar.indexCast v3153
  let c16 : Index := 16#32
  ![1, 0, v3183.toNat, 16]
def k0_off586 (k0_t68 : Fin k0_t68_loop.trips) : Fin 4 → Nat :=
  let c1_i32_5345 : BitVec 32 := 1#32
  let v3187 : Index := Scalar.indexCast c1_i32_5345
  let c0_i32_5346 : BitVec 32 := 0#32
  let v3188 : Index := Scalar.indexCast c0_i32_5346
  let c0_i32_5325 : BitVec 32 := 0#32
  let c0_i32_3791 : BitVec 32 := 0#32
  let c1_i32_3793 : BitVec 32 := 1#32
  let arg17 : BitVec 32 := Scf.iv c0_i32_3791 c1_i32_3793 k0_t68
  let c1_i32_5324 : BitVec 32 := 1#32
  let v3152 : BitVec 32 := Scalar.muli arg17 c1_i32_5324
  let v3153 : BitVec 32 := Scalar.addi c0_i32_5325 v3152
  let v3189 : Index := Scalar.indexCast v3153
  let c32 : Index := 32#32
  ![1, 0, v3189.toNat, 32]
def k0_off587 (k0_t68 : Fin k0_t68_loop.trips) : Fin 4 → Nat :=
  let c1_i32_5347 : BitVec 32 := 1#32
  let v3193 : Index := Scalar.indexCast c1_i32_5347
  let c0_i32_5348 : BitVec 32 := 0#32
  let v3194 : Index := Scalar.indexCast c0_i32_5348
  let c0_i32_5325 : BitVec 32 := 0#32
  let c0_i32_3791 : BitVec 32 := 0#32
  let c1_i32_3793 : BitVec 32 := 1#32
  let arg17 : BitVec 32 := Scf.iv c0_i32_3791 c1_i32_3793 k0_t68
  let c1_i32_5324 : BitVec 32 := 1#32
  let v3152 : BitVec 32 := Scalar.muli arg17 c1_i32_5324
  let v3153 : BitVec 32 := Scalar.addi c0_i32_5325 v3152
  let v3195 : Index := Scalar.indexCast v3153
  let c48 : Index := 48#32
  ![1, 0, v3195.toNat, 48]

def k0_chk68 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx537_inb : ∀ (v5 : IVec S16 32) (v8 : IVec S16 32) (v11 : IVec S16 32) (v14 : IVec S16 32) (v15 : IVec S16 32) (v16 : IVec S16 32) (v3154 : IVec S16 32) (k0_hw68 : k0_chk68 v5 v8 v11 v14 v15 v16 v3154), ∀ a x, ((![v15, v3154, v14] : Fin 3 → IVec S16 32) a x).toNat < S2x64x64.size a := fun v5 v8 v11 v14 v15 v16 v3154 k0_hw68 => k0_hw68.1
theorem k0_idx538_inb : ∀ (v5 : IVec S16 32) (v8 : IVec S16 32) (v11 : IVec S16 32) (v14 : IVec S16 32) (v15 : IVec S16 32) (v16 : IVec S16 32) (v3154 : IVec S16 32) (k0_hw68 : k0_chk68 v5 v8 v11 v14 v15 v16 v3154), ∀ a x, ((![v15, v3154, v11] : Fin 3 → IVec S16 32) a x).toNat < S2x64x64.size a := fun v5 v8 v11 v14 v15 v16 v3154 k0_hw68 => k0_hw68.2.1
theorem k0_idx539_inb : ∀ (v5 : IVec S16 32) (v8 : IVec S16 32) (v11 : IVec S16 32) (v14 : IVec S16 32) (v15 : IVec S16 32) (v16 : IVec S16 32) (v3154 : IVec S16 32) (k0_hw68 : k0_chk68 v5 v8 v11 v14 v15 v16 v3154), ∀ a x, ((![v15, v3154, v8] : Fin 3 → IVec S16 32) a x).toNat < S2x64x64.size a := fun v5 v8 v11 v14 v15 v16 v3154 k0_hw68 => k0_hw68.2.2.1
theorem k0_idx540_inb : ∀ (v5 : IVec S16 32) (v8 : IVec S16 32) (v11 : IVec S16 32) (v14 : IVec S16 32) (v15 : IVec S16 32) (v16 : IVec S16 32) (v3154 : IVec S16 32) (k0_hw68 : k0_chk68 v5 v8 v11 v14 v15 v16 v3154), ∀ a x, ((![v15, v3154, v5] : Fin 3 → IVec S16 32) a x).toNat < S2x64x64.size a := fun v5 v8 v11 v14 v15 v16 v3154 k0_hw68 => k0_hw68.2.2.2.1
theorem k0_idx541_inb : ∀ (v5 : IVec S16 32) (v8 : IVec S16 32) (v11 : IVec S16 32) (v14 : IVec S16 32) (v15 : IVec S16 32) (v16 : IVec S16 32) (v3154 : IVec S16 32) (k0_hw68 : k0_chk68 v5 v8 v11 v14 v15 v16 v3154), ∀ a x, ((![v16, v3154, v14] : Fin 3 → IVec S16 32) a x).toNat < S2x64x64.size a := fun v5 v8 v11 v14 v15 v16 v3154 k0_hw68 => k0_hw68.2.2.2.2.1
theorem k0_idx542_inb : ∀ (v5 : IVec S16 32) (v8 : IVec S16 32) (v11 : IVec S16 32) (v14 : IVec S16 32) (v15 : IVec S16 32) (v16 : IVec S16 32) (v3154 : IVec S16 32) (k0_hw68 : k0_chk68 v5 v8 v11 v14 v15 v16 v3154), ∀ a x, ((![v16, v3154, v11] : Fin 3 → IVec S16 32) a x).toNat < S2x64x64.size a := fun v5 v8 v11 v14 v15 v16 v3154 k0_hw68 => k0_hw68.2.2.2.2.2.1
theorem k0_idx543_inb : ∀ (v5 : IVec S16 32) (v8 : IVec S16 32) (v11 : IVec S16 32) (v14 : IVec S16 32) (v15 : IVec S16 32) (v16 : IVec S16 32) (v3154 : IVec S16 32) (k0_hw68 : k0_chk68 v5 v8 v11 v14 v15 v16 v3154), ∀ a x, ((![v16, v3154, v8] : Fin 3 → IVec S16 32) a x).toNat < S2x64x64.size a := fun v5 v8 v11 v14 v15 v16 v3154 k0_hw68 => k0_hw68.2.2.2.2.2.2.1
theorem k0_idx544_inb : ∀ (v5 : IVec S16 32) (v8 : IVec S16 32) (v11 : IVec S16 32) (v14 : IVec S16 32) (v15 : IVec S16 32) (v16 : IVec S16 32) (v3154 : IVec S16 32) (k0_hw68 : k0_chk68 v5 v8 v11 v14 v15 v16 v3154), ∀ a x, ((![v16, v3154, v5] : Fin 3 → IVec S16 32) a x).toNat < S2x64x64.size a := fun v5 v8 v11 v14 v15 v16 v3154 k0_hw68 => k0_hw68.2.2.2.2.2.2.2
def k0_off588 (k0_t68 : Fin k0_t68_loop.trips) : Fin 4 → Nat :=
  let c1_i32_5365 : BitVec 32 := 1#32
  let v3219 : Index := Scalar.indexCast c1_i32_5365
  let c1_i32_5366 : BitVec 32 := 1#32
  let v3220 : Index := Scalar.indexCast c1_i32_5366
  let c0_i32_5325 : BitVec 32 := 0#32
  let c0_i32_3791 : BitVec 32 := 0#32
  let c1_i32_3793 : BitVec 32 := 1#32
  let arg17 : BitVec 32 := Scf.iv c0_i32_3791 c1_i32_3793 k0_t68
  let c1_i32_5324 : BitVec 32 := 1#32
  let v3152 : BitVec 32 := Scalar.muli arg17 c1_i32_5324
  let v3153 : BitVec 32 := Scalar.addi c0_i32_5325 v3152
  let v3221 : Index := Scalar.indexCast v3153
  let c0_5367 : Index := 0#32
  ![1, 1, v3221.toNat, 0]
def k0_off589 (k0_t68 : Fin k0_t68_loop.trips) : Fin 4 → Nat :=
  let c1_i32_5368 : BitVec 32 := 1#32
  let v3225 : Index := Scalar.indexCast c1_i32_5368
  let c1_i32_5369 : BitVec 32 := 1#32
  let v3226 : Index := Scalar.indexCast c1_i32_5369
  let c0_i32_5325 : BitVec 32 := 0#32
  let c0_i32_3791 : BitVec 32 := 0#32
  let c1_i32_3793 : BitVec 32 := 1#32
  let arg17 : BitVec 32 := Scf.iv c0_i32_3791 c1_i32_3793 k0_t68
  let c1_i32_5324 : BitVec 32 := 1#32
  let v3152 : BitVec 32 := Scalar.muli arg17 c1_i32_5324
  let v3153 : BitVec 32 := Scalar.addi c0_i32_5325 v3152
  let v3227 : Index := Scalar.indexCast v3153
  let c16_5370 : Index := 16#32
  ![1, 1, v3227.toNat, 16]
def k0_off590 (k0_t68 : Fin k0_t68_loop.trips) : Fin 4 → Nat :=
  let c1_i32_5371 : BitVec 32 := 1#32
  let v3231 : Index := Scalar.indexCast c1_i32_5371
  let c1_i32_5372 : BitVec 32 := 1#32
  let v3232 : Index := Scalar.indexCast c1_i32_5372
  let c0_i32_5325 : BitVec 32 := 0#32
  let c0_i32_3791 : BitVec 32 := 0#32
  let c1_i32_3793 : BitVec 32 := 1#32
  let arg17 : BitVec 32 := Scf.iv c0_i32_3791 c1_i32_3793 k0_t68
  let c1_i32_5324 : BitVec 32 := 1#32
  let v3152 : BitVec 32 := Scalar.muli arg17 c1_i32_5324
  let v3153 : BitVec 32 := Scalar.addi c0_i32_5325 v3152
  let v3233 : Index := Scalar.indexCast v3153
  let c32_5373 : Index := 32#32
  ![1, 1, v3233.toNat, 32]
def k0_off591 (k0_t68 : Fin k0_t68_loop.trips) : Fin 4 → Nat :=
  let c1_i32_5374 : BitVec 32 := 1#32
  let v3237 : Index := Scalar.indexCast c1_i32_5374
  let c1_i32_5375 : BitVec 32 := 1#32
  let v3238 : Index := Scalar.indexCast c1_i32_5375
  let c0_i32_5325 : BitVec 32 := 0#32
  let c0_i32_3791 : BitVec 32 := 0#32
  let c1_i32_3793 : BitVec 32 := 1#32
  let arg17 : BitVec 32 := Scf.iv c0_i32_3791 c1_i32_3793 k0_t68
  let c1_i32_5324 : BitVec 32 := 1#32
  let v3152 : BitVec 32 := Scalar.muli arg17 c1_i32_5324
  let v3153 : BitVec 32 := Scalar.addi c0_i32_5325 v3152
  let v3239 : Index := Scalar.indexCast v3153
  let c48_5376 : Index := 48#32
  ![1, 1, v3239.toNat, 48]
@[reducible] def k0_t69_loop : Scf.Loop 32 :=
  let c0_i32_3847 : BitVec 32 := 0#32
  let c64_i32_3848 : BitVec 32 := 64#32
  let v2285 : BitVec 32 := Scalar.addi c0_i32_3847 c64_i32_3848
  let c1_i32_3849 : BitVec 32 := 1#32
  ⟨c0_i32_3847, v2285, c1_i32_3849⟩
def k0_off592 (k0_t69 : Fin k0_t69_loop.trips) : Fin 4 → Nat :=
  let c2_i32_5338 : BitVec 32 := 2#32
  let v3167 : Index := Scalar.indexCast c2_i32_5338
  let c0_i32_5339 : BitVec 32 := 0#32
  let v3168 : Index := Scalar.indexCast c0_i32_5339
  let c0_i32_5325 : BitVec 32 := 0#32
  let c0_i32_3847 : BitVec 32 := 0#32
  let c1_i32_3849 : BitVec 32 := 1#32
  let arg17 : BitVec 32 := Scf.iv c0_i32_3847 c1_i32_3849 k0_t69
  let c1_i32_5324 : BitVec 32 := 1#32
  let v3152 : BitVec 32 := Scalar.muli arg17 c1_i32_5324
  let v3153 : BitVec 32 := Scalar.addi c0_i32_5325 v3152
  let v3169 : Index := Scalar.indexCast v3153
  let c0 : Index := 0#32
  ![2, 0, v3169.toNat, 0]
def k0_off593 (k0_t69 : Fin k0_t69_loop.trips) : Fin 4 → Nat :=
  let c2_i32_5340 : BitVec 32 := 2#32
  let v3173 : Index := Scalar.indexCast c2_i32_5340
  let c0_i32_5341 : BitVec 32 := 0#32
  let v3174 : Index := Scalar.indexCast c0_i32_5341
  let c0_i32_5325 : BitVec 32 := 0#32
  let c0_i32_3847 : BitVec 32 := 0#32
  let c1_i32_3849 : BitVec 32 := 1#32
  let arg17 : BitVec 32 := Scf.iv c0_i32_3847 c1_i32_3849 k0_t69
  let c1_i32_5324 : BitVec 32 := 1#32
  let v3152 : BitVec 32 := Scalar.muli arg17 c1_i32_5324
  let v3153 : BitVec 32 := Scalar.addi c0_i32_5325 v3152
  let v3175 : Index := Scalar.indexCast v3153
  let c16 : Index := 16#32
  ![2, 0, v3175.toNat, 16]
def k0_off594 (k0_t69 : Fin k0_t69_loop.trips) : Fin 4 → Nat :=
  let c2_i32_5342 : BitVec 32 := 2#32
  let v3179 : Index := Scalar.indexCast c2_i32_5342
  let c0_i32_5343 : BitVec 32 := 0#32
  let v3180 : Index := Scalar.indexCast c0_i32_5343
  let c0_i32_5325 : BitVec 32 := 0#32
  let c0_i32_3847 : BitVec 32 := 0#32
  let c1_i32_3849 : BitVec 32 := 1#32
  let arg17 : BitVec 32 := Scf.iv c0_i32_3847 c1_i32_3849 k0_t69
  let c1_i32_5324 : BitVec 32 := 1#32
  let v3152 : BitVec 32 := Scalar.muli arg17 c1_i32_5324
  let v3153 : BitVec 32 := Scalar.addi c0_i32_5325 v3152
  let v3181 : Index := Scalar.indexCast v3153
  let c32 : Index := 32#32
  ![2, 0, v3181.toNat, 32]
def k0_off595 (k0_t69 : Fin k0_t69_loop.trips) : Fin 4 → Nat :=
  let c2_i32_5344 : BitVec 32 := 2#32
  let v3185 : Index := Scalar.indexCast c2_i32_5344
  let c0_i32_5345 : BitVec 32 := 0#32
  let v3186 : Index := Scalar.indexCast c0_i32_5345
  let c0_i32_5325 : BitVec 32 := 0#32
  let c0_i32_3847 : BitVec 32 := 0#32
  let c1_i32_3849 : BitVec 32 := 1#32
  let arg17 : BitVec 32 := Scf.iv c0_i32_3847 c1_i32_3849 k0_t69
  let c1_i32_5324 : BitVec 32 := 1#32
  let v3152 : BitVec 32 := Scalar.muli arg17 c1_i32_5324
  let v3153 : BitVec 32 := Scalar.addi c0_i32_5325 v3152
  let v3187 : Index := Scalar.indexCast v3153
  let c48 : Index := 48#32
  ![2, 0, v3187.toNat, 48]

def k0_chk69 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx545_inb : ∀ (v5 : IVec S16 32) (v8 : IVec S16 32) (v11 : IVec S16 32) (v14 : IVec S16 32) (v15 : IVec S16 32) (v16 : IVec S16 32) (v3154 : IVec S16 32) (k0_hw69 : k0_chk69 v5 v8 v11 v14 v15 v16 v3154), ∀ a x, ((![v15, v3154, v14] : Fin 3 → IVec S16 32) a x).toNat < S2x64x64.size a := fun v5 v8 v11 v14 v15 v16 v3154 k0_hw69 => k0_hw69.1
theorem k0_idx546_inb : ∀ (v5 : IVec S16 32) (v8 : IVec S16 32) (v11 : IVec S16 32) (v14 : IVec S16 32) (v15 : IVec S16 32) (v16 : IVec S16 32) (v3154 : IVec S16 32) (k0_hw69 : k0_chk69 v5 v8 v11 v14 v15 v16 v3154), ∀ a x, ((![v15, v3154, v11] : Fin 3 → IVec S16 32) a x).toNat < S2x64x64.size a := fun v5 v8 v11 v14 v15 v16 v3154 k0_hw69 => k0_hw69.2.1
theorem k0_idx547_inb : ∀ (v5 : IVec S16 32) (v8 : IVec S16 32) (v11 : IVec S16 32) (v14 : IVec S16 32) (v15 : IVec S16 32) (v16 : IVec S16 32) (v3154 : IVec S16 32) (k0_hw69 : k0_chk69 v5 v8 v11 v14 v15 v16 v3154), ∀ a x, ((![v15, v3154, v8] : Fin 3 → IVec S16 32) a x).toNat < S2x64x64.size a := fun v5 v8 v11 v14 v15 v16 v3154 k0_hw69 => k0_hw69.2.2.1
theorem k0_idx548_inb : ∀ (v5 : IVec S16 32) (v8 : IVec S16 32) (v11 : IVec S16 32) (v14 : IVec S16 32) (v15 : IVec S16 32) (v16 : IVec S16 32) (v3154 : IVec S16 32) (k0_hw69 : k0_chk69 v5 v8 v11 v14 v15 v16 v3154), ∀ a x, ((![v15, v3154, v5] : Fin 3 → IVec S16 32) a x).toNat < S2x64x64.size a := fun v5 v8 v11 v14 v15 v16 v3154 k0_hw69 => k0_hw69.2.2.2.1
theorem k0_idx549_inb : ∀ (v5 : IVec S16 32) (v8 : IVec S16 32) (v11 : IVec S16 32) (v14 : IVec S16 32) (v15 : IVec S16 32) (v16 : IVec S16 32) (v3154 : IVec S16 32) (k0_hw69 : k0_chk69 v5 v8 v11 v14 v15 v16 v3154), ∀ a x, ((![v16, v3154, v14] : Fin 3 → IVec S16 32) a x).toNat < S2x64x64.size a := fun v5 v8 v11 v14 v15 v16 v3154 k0_hw69 => k0_hw69.2.2.2.2.1
theorem k0_idx550_inb : ∀ (v5 : IVec S16 32) (v8 : IVec S16 32) (v11 : IVec S16 32) (v14 : IVec S16 32) (v15 : IVec S16 32) (v16 : IVec S16 32) (v3154 : IVec S16 32) (k0_hw69 : k0_chk69 v5 v8 v11 v14 v15 v16 v3154), ∀ a x, ((![v16, v3154, v11] : Fin 3 → IVec S16 32) a x).toNat < S2x64x64.size a := fun v5 v8 v11 v14 v15 v16 v3154 k0_hw69 => k0_hw69.2.2.2.2.2.1
theorem k0_idx551_inb : ∀ (v5 : IVec S16 32) (v8 : IVec S16 32) (v11 : IVec S16 32) (v14 : IVec S16 32) (v15 : IVec S16 32) (v16 : IVec S16 32) (v3154 : IVec S16 32) (k0_hw69 : k0_chk69 v5 v8 v11 v14 v15 v16 v3154), ∀ a x, ((![v16, v3154, v8] : Fin 3 → IVec S16 32) a x).toNat < S2x64x64.size a := fun v5 v8 v11 v14 v15 v16 v3154 k0_hw69 => k0_hw69.2.2.2.2.2.2.1
theorem k0_idx552_inb : ∀ (v5 : IVec S16 32) (v8 : IVec S16 32) (v11 : IVec S16 32) (v14 : IVec S16 32) (v15 : IVec S16 32) (v16 : IVec S16 32) (v3154 : IVec S16 32) (k0_hw69 : k0_chk69 v5 v8 v11 v14 v15 v16 v3154), ∀ a x, ((![v16, v3154, v5] : Fin 3 → IVec S16 32) a x).toNat < S2x64x64.size a := fun v5 v8 v11 v14 v15 v16 v3154 k0_hw69 => k0_hw69.2.2.2.2.2.2.2
def k0_off596 (k0_t69 : Fin k0_t69_loop.trips) : Fin 4 → Nat :=
  let c2_i32_5358 : BitVec 32 := 2#32
  let v3203 : Index := Scalar.indexCast c2_i32_5358
  let c1_i32_5359 : BitVec 32 := 1#32
  let v3204 : Index := Scalar.indexCast c1_i32_5359
  let c0_i32_5325 : BitVec 32 := 0#32
  let c0_i32_3847 : BitVec 32 := 0#32
  let c1_i32_3849 : BitVec 32 := 1#32
  let arg17 : BitVec 32 := Scf.iv c0_i32_3847 c1_i32_3849 k0_t69
  let c1_i32_5324 : BitVec 32 := 1#32
  let v3152 : BitVec 32 := Scalar.muli arg17 c1_i32_5324
  let v3153 : BitVec 32 := Scalar.addi c0_i32_5325 v3152
  let v3205 : Index := Scalar.indexCast v3153
  let c0_5360 : Index := 0#32
  ![2, 1, v3205.toNat, 0]
def k0_off597 (k0_t69 : Fin k0_t69_loop.trips) : Fin 4 → Nat :=
  let c2_i32_5361 : BitVec 32 := 2#32
  let v3209 : Index := Scalar.indexCast c2_i32_5361
  let c1_i32_5362 : BitVec 32 := 1#32
  let v3210 : Index := Scalar.indexCast c1_i32_5362
  let c0_i32_5325 : BitVec 32 := 0#32
  let c0_i32_3847 : BitVec 32 := 0#32
  let c1_i32_3849 : BitVec 32 := 1#32
  let arg17 : BitVec 32 := Scf.iv c0_i32_3847 c1_i32_3849 k0_t69
  let c1_i32_5324 : BitVec 32 := 1#32
  let v3152 : BitVec 32 := Scalar.muli arg17 c1_i32_5324
  let v3153 : BitVec 32 := Scalar.addi c0_i32_5325 v3152
  let v3211 : Index := Scalar.indexCast v3153
  let c16_5363 : Index := 16#32
  ![2, 1, v3211.toNat, 16]
def k0_off598 (k0_t69 : Fin k0_t69_loop.trips) : Fin 4 → Nat :=
  let c2_i32_5364 : BitVec 32 := 2#32
  let v3215 : Index := Scalar.indexCast c2_i32_5364
  let c1_i32_5365 : BitVec 32 := 1#32
  let v3216 : Index := Scalar.indexCast c1_i32_5365
  let c0_i32_5325 : BitVec 32 := 0#32
  let c0_i32_3847 : BitVec 32 := 0#32
  let c1_i32_3849 : BitVec 32 := 1#32
  let arg17 : BitVec 32 := Scf.iv c0_i32_3847 c1_i32_3849 k0_t69
  let c1_i32_5324 : BitVec 32 := 1#32
  let v3152 : BitVec 32 := Scalar.muli arg17 c1_i32_5324
  let v3153 : BitVec 32 := Scalar.addi c0_i32_5325 v3152
  let v3217 : Index := Scalar.indexCast v3153
  let c32_5366 : Index := 32#32
  ![2, 1, v3217.toNat, 32]
def k0_off599 (k0_t69 : Fin k0_t69_loop.trips) : Fin 4 → Nat :=
  let c2_i32_5367 : BitVec 32 := 2#32
  let v3221 : Index := Scalar.indexCast c2_i32_5367
  let c1_i32_5368 : BitVec 32 := 1#32
  let v3222 : Index := Scalar.indexCast c1_i32_5368
  let c0_i32_5325 : BitVec 32 := 0#32
  let c0_i32_3847 : BitVec 32 := 0#32
  let c1_i32_3849 : BitVec 32 := 1#32
  let arg17 : BitVec 32 := Scf.iv c0_i32_3847 c1_i32_3849 k0_t69
  let c1_i32_5324 : BitVec 32 := 1#32
  let v3152 : BitVec 32 := Scalar.muli arg17 c1_i32_5324
  let v3153 : BitVec 32 := Scalar.addi c0_i32_5325 v3152
  let v3223 : Index := Scalar.indexCast v3153
  let c48_5369 : Index := 48#32
  ![2, 1, v3223.toNat, 48]
def k0_off600 (i : grid0.Coords) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c13_i32_3852 : BitVec 32 := 13#32
  let c1_i32_3853 : BitVec 32 := 1#32
  let c0_i32_3857 : BitVec 32 := 0#32
  let c0_i32_3858 : BitVec 32 := 0#32
  ![v2.toNat, 13, 1, 0, 0]
@[reducible] def k0_t70_loop : Scf.Loop 32 :=
  let c0_i32_3904 : BitVec 32 := 0#32
  let c64_i32_3905 : BitVec 32 := 64#32
  let v2318 : BitVec 32 := Scalar.addi c0_i32_3904 c64_i32_3905
  let c1_i32_3906 : BitVec 32 := 1#32
  ⟨c0_i32_3904, v2318, c1_i32_3906⟩
def k0_off601 (k0_t70 : Fin k0_t70_loop.trips) : Fin 4 → Nat :=
  let c0_i32_5338 : BitVec 32 := 0#32
  let v3167 : Index := Scalar.indexCast c0_i32_5338
  let c0_i32_5339 : BitVec 32 := 0#32
  let v3168 : Index := Scalar.indexCast c0_i32_5339
  let c0_i32_5325 : BitVec 32 := 0#32
  let c0_i32_3904 : BitVec 32 := 0#32
  let c1_i32_3906 : BitVec 32 := 1#32
  let arg17 : BitVec 32 := Scf.iv c0_i32_3904 c1_i32_3906 k0_t70
  let c1_i32_5324 : BitVec 32 := 1#32
  let v3152 : BitVec 32 := Scalar.muli arg17 c1_i32_5324
  let v3153 : BitVec 32 := Scalar.addi c0_i32_5325 v3152
  let v3169 : Index := Scalar.indexCast v3153
  let c0 : Index := 0#32
  ![0, 0, v3169.toNat, 0]
def k0_off602 (k0_t70 : Fin k0_t70_loop.trips) : Fin 4 → Nat :=
  let c0_i32_5340 : BitVec 32 := 0#32
  let v3173 : Index := Scalar.indexCast c0_i32_5340
  let c0_i32_5341 : BitVec 32 := 0#32
  let v3174 : Index := Scalar.indexCast c0_i32_5341
  let c0_i32_5325 : BitVec 32 := 0#32
  let c0_i32_3904 : BitVec 32 := 0#32
  let c1_i32_3906 : BitVec 32 := 1#32
  let arg17 : BitVec 32 := Scf.iv c0_i32_3904 c1_i32_3906 k0_t70
  let c1_i32_5324 : BitVec 32 := 1#32
  let v3152 : BitVec 32 := Scalar.muli arg17 c1_i32_5324
  let v3153 : BitVec 32 := Scalar.addi c0_i32_5325 v3152
  let v3175 : Index := Scalar.indexCast v3153
  let c16 : Index := 16#32
  ![0, 0, v3175.toNat, 16]
def k0_off603 (k0_t70 : Fin k0_t70_loop.trips) : Fin 4 → Nat :=
  let c0_i32_5342 : BitVec 32 := 0#32
  let v3179 : Index := Scalar.indexCast c0_i32_5342
  let c0_i32_5343 : BitVec 32 := 0#32
  let v3180 : Index := Scalar.indexCast c0_i32_5343
  let c0_i32_5325 : BitVec 32 := 0#32
  let c0_i32_3904 : BitVec 32 := 0#32
  let c1_i32_3906 : BitVec 32 := 1#32
  let arg17 : BitVec 32 := Scf.iv c0_i32_3904 c1_i32_3906 k0_t70
  let c1_i32_5324 : BitVec 32 := 1#32
  let v3152 : BitVec 32 := Scalar.muli arg17 c1_i32_5324
  let v3153 : BitVec 32 := Scalar.addi c0_i32_5325 v3152
  let v3181 : Index := Scalar.indexCast v3153
  let c32 : Index := 32#32
  ![0, 0, v3181.toNat, 32]
def k0_off604 (k0_t70 : Fin k0_t70_loop.trips) : Fin 4 → Nat :=
  let c0_i32_5344 : BitVec 32 := 0#32
  let v3185 : Index := Scalar.indexCast c0_i32_5344
  let c0_i32_5345 : BitVec 32 := 0#32
  let v3186 : Index := Scalar.indexCast c0_i32_5345
  let c0_i32_5325 : BitVec 32 := 0#32
  let c0_i32_3904 : BitVec 32 := 0#32
  let c1_i32_3906 : BitVec 32 := 1#32
  let arg17 : BitVec 32 := Scf.iv c0_i32_3904 c1_i32_3906 k0_t70
  let c1_i32_5324 : BitVec 32 := 1#32
  let v3152 : BitVec 32 := Scalar.muli arg17 c1_i32_5324
  let v3153 : BitVec 32 := Scalar.addi c0_i32_5325 v3152
  let v3187 : Index := Scalar.indexCast v3153
  let c48 : Index := 48#32
  ![0, 0, v3187.toNat, 48]

def k0_chk70 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx553_inb : ∀ (v5 : IVec S16 32) (v8 : IVec S16 32) (v11 : IVec S16 32) (v14 : IVec S16 32) (v15 : IVec S16 32) (v16 : IVec S16 32) (v3154 : IVec S16 32) (k0_hw70 : k0_chk70 v5 v8 v11 v14 v15 v16 v3154), ∀ a x, ((![v15, v3154, v14] : Fin 3 → IVec S16 32) a x).toNat < S2x64x64.size a := fun v5 v8 v11 v14 v15 v16 v3154 k0_hw70 => k0_hw70.1
theorem k0_idx554_inb : ∀ (v5 : IVec S16 32) (v8 : IVec S16 32) (v11 : IVec S16 32) (v14 : IVec S16 32) (v15 : IVec S16 32) (v16 : IVec S16 32) (v3154 : IVec S16 32) (k0_hw70 : k0_chk70 v5 v8 v11 v14 v15 v16 v3154), ∀ a x, ((![v15, v3154, v11] : Fin 3 → IVec S16 32) a x).toNat < S2x64x64.size a := fun v5 v8 v11 v14 v15 v16 v3154 k0_hw70 => k0_hw70.2.1
theorem k0_idx555_inb : ∀ (v5 : IVec S16 32) (v8 : IVec S16 32) (v11 : IVec S16 32) (v14 : IVec S16 32) (v15 : IVec S16 32) (v16 : IVec S16 32) (v3154 : IVec S16 32) (k0_hw70 : k0_chk70 v5 v8 v11 v14 v15 v16 v3154), ∀ a x, ((![v15, v3154, v8] : Fin 3 → IVec S16 32) a x).toNat < S2x64x64.size a := fun v5 v8 v11 v14 v15 v16 v3154 k0_hw70 => k0_hw70.2.2.1
theorem k0_idx556_inb : ∀ (v5 : IVec S16 32) (v8 : IVec S16 32) (v11 : IVec S16 32) (v14 : IVec S16 32) (v15 : IVec S16 32) (v16 : IVec S16 32) (v3154 : IVec S16 32) (k0_hw70 : k0_chk70 v5 v8 v11 v14 v15 v16 v3154), ∀ a x, ((![v15, v3154, v5] : Fin 3 → IVec S16 32) a x).toNat < S2x64x64.size a := fun v5 v8 v11 v14 v15 v16 v3154 k0_hw70 => k0_hw70.2.2.2.1
theorem k0_idx557_inb : ∀ (v5 : IVec S16 32) (v8 : IVec S16 32) (v11 : IVec S16 32) (v14 : IVec S16 32) (v15 : IVec S16 32) (v16 : IVec S16 32) (v3154 : IVec S16 32) (k0_hw70 : k0_chk70 v5 v8 v11 v14 v15 v16 v3154), ∀ a x, ((![v16, v3154, v14] : Fin 3 → IVec S16 32) a x).toNat < S2x64x64.size a := fun v5 v8 v11 v14 v15 v16 v3154 k0_hw70 => k0_hw70.2.2.2.2.1
theorem k0_idx558_inb : ∀ (v5 : IVec S16 32) (v8 : IVec S16 32) (v11 : IVec S16 32) (v14 : IVec S16 32) (v15 : IVec S16 32) (v16 : IVec S16 32) (v3154 : IVec S16 32) (k0_hw70 : k0_chk70 v5 v8 v11 v14 v15 v16 v3154), ∀ a x, ((![v16, v3154, v11] : Fin 3 → IVec S16 32) a x).toNat < S2x64x64.size a := fun v5 v8 v11 v14 v15 v16 v3154 k0_hw70 => k0_hw70.2.2.2.2.2.1
theorem k0_idx559_inb : ∀ (v5 : IVec S16 32) (v8 : IVec S16 32) (v11 : IVec S16 32) (v14 : IVec S16 32) (v15 : IVec S16 32) (v16 : IVec S16 32) (v3154 : IVec S16 32) (k0_hw70 : k0_chk70 v5 v8 v11 v14 v15 v16 v3154), ∀ a x, ((![v16, v3154, v8] : Fin 3 → IVec S16 32) a x).toNat < S2x64x64.size a := fun v5 v8 v11 v14 v15 v16 v3154 k0_hw70 => k0_hw70.2.2.2.2.2.2.1
theorem k0_idx560_inb : ∀ (v5 : IVec S16 32) (v8 : IVec S16 32) (v11 : IVec S16 32) (v14 : IVec S16 32) (v15 : IVec S16 32) (v16 : IVec S16 32) (v3154 : IVec S16 32) (k0_hw70 : k0_chk70 v5 v8 v11 v14 v15 v16 v3154), ∀ a x, ((![v16, v3154, v5] : Fin 3 → IVec S16 32) a x).toNat < S2x64x64.size a := fun v5 v8 v11 v14 v15 v16 v3154 k0_hw70 => k0_hw70.2.2.2.2.2.2.2
def k0_off605 (k0_t70 : Fin k0_t70_loop.trips) : Fin 4 → Nat :=
  let c0_i32_5358 : BitVec 32 := 0#32
  let v3203 : Index := Scalar.indexCast c0_i32_5358
  let c1_i32_5359 : BitVec 32 := 1#32
  let v3204 : Index := Scalar.indexCast c1_i32_5359
  let c0_i32_5325 : BitVec 32 := 0#32
  let c0_i32_3904 : BitVec 32 := 0#32
  let c1_i32_3906 : BitVec 32 := 1#32
  let arg17 : BitVec 32 := Scf.iv c0_i32_3904 c1_i32_3906 k0_t70
  let c1_i32_5324 : BitVec 32 := 1#32
  let v3152 : BitVec 32 := Scalar.muli arg17 c1_i32_5324
  let v3153 : BitVec 32 := Scalar.addi c0_i32_5325 v3152
  let v3205 : Index := Scalar.indexCast v3153
  let c0_5360 : Index := 0#32
  ![0, 1, v3205.toNat, 0]
def k0_off606 (k0_t70 : Fin k0_t70_loop.trips) : Fin 4 → Nat :=
  let c0_i32_5361 : BitVec 32 := 0#32
  let v3209 : Index := Scalar.indexCast c0_i32_5361
  let c1_i32_5362 : BitVec 32 := 1#32
  let v3210 : Index := Scalar.indexCast c1_i32_5362
  let c0_i32_5325 : BitVec 32 := 0#32
  let c0_i32_3904 : BitVec 32 := 0#32
  let c1_i32_3906 : BitVec 32 := 1#32
  let arg17 : BitVec 32 := Scf.iv c0_i32_3904 c1_i32_3906 k0_t70
  let c1_i32_5324 : BitVec 32 := 1#32
  let v3152 : BitVec 32 := Scalar.muli arg17 c1_i32_5324
  let v3153 : BitVec 32 := Scalar.addi c0_i32_5325 v3152
  let v3211 : Index := Scalar.indexCast v3153
  let c16_5363 : Index := 16#32
  ![0, 1, v3211.toNat, 16]
def k0_off607 (k0_t70 : Fin k0_t70_loop.trips) : Fin 4 → Nat :=
  let c0_i32_5364 : BitVec 32 := 0#32
  let v3215 : Index := Scalar.indexCast c0_i32_5364
  let c1_i32_5365 : BitVec 32 := 1#32
  let v3216 : Index := Scalar.indexCast c1_i32_5365
  let c0_i32_5325 : BitVec 32 := 0#32
  let c0_i32_3904 : BitVec 32 := 0#32
  let c1_i32_3906 : BitVec 32 := 1#32
  let arg17 : BitVec 32 := Scf.iv c0_i32_3904 c1_i32_3906 k0_t70
  let c1_i32_5324 : BitVec 32 := 1#32
  let v3152 : BitVec 32 := Scalar.muli arg17 c1_i32_5324
  let v3153 : BitVec 32 := Scalar.addi c0_i32_5325 v3152
  let v3217 : Index := Scalar.indexCast v3153
  let c32_5366 : Index := 32#32
  ![0, 1, v3217.toNat, 32]
def k0_off608 (k0_t70 : Fin k0_t70_loop.trips) : Fin 4 → Nat :=
  let c0_i32_5367 : BitVec 32 := 0#32
  let v3221 : Index := Scalar.indexCast c0_i32_5367
  let c1_i32_5368 : BitVec 32 := 1#32
  let v3222 : Index := Scalar.indexCast c1_i32_5368
  let c0_i32_5325 : BitVec 32 := 0#32
  let c0_i32_3904 : BitVec 32 := 0#32
  let c1_i32_3906 : BitVec 32 := 1#32
  let arg17 : BitVec 32 := Scf.iv c0_i32_3904 c1_i32_3906 k0_t70
  let c1_i32_5324 : BitVec 32 := 1#32
  let v3152 : BitVec 32 := Scalar.muli arg17 c1_i32_5324
  let v3153 : BitVec 32 := Scalar.addi c0_i32_5325 v3152
  let v3223 : Index := Scalar.indexCast v3153
  let c48_5369 : Index := 48#32
  ![0, 1, v3223.toNat, 48]
@[reducible] def k0_t71_loop : Scf.Loop 32 :=
  let c0_i32_3960 : BitVec 32 := 0#32
  let c64_i32_3961 : BitVec 32 := 64#32
  let v2351 : BitVec 32 := Scalar.addi c0_i32_3960 c64_i32_3961
  let c1_i32_3962 : BitVec 32 := 1#32
  ⟨c0_i32_3960, v2351, c1_i32_3962⟩
def k0_off609 (k0_t71 : Fin k0_t71_loop.trips) : Fin 4 → Nat :=
  let c1_i32_5338 : BitVec 32 := 1#32
  let v3167 : Index := Scalar.indexCast c1_i32_5338
  let c0_i32_5339 : BitVec 32 := 0#32
  let v3168 : Index := Scalar.indexCast c0_i32_5339
  let c0_i32_5325 : BitVec 32 := 0#32
  let c0_i32_3960 : BitVec 32 := 0#32
  let c1_i32_3962 : BitVec 32 := 1#32
  let arg17 : BitVec 32 := Scf.iv c0_i32_3960 c1_i32_3962 k0_t71
  let c1_i32_5324 : BitVec 32 := 1#32
  let v3152 : BitVec 32 := Scalar.muli arg17 c1_i32_5324
  let v3153 : BitVec 32 := Scalar.addi c0_i32_5325 v3152
  let v3169 : Index := Scalar.indexCast v3153
  let c0 : Index := 0#32
  ![1, 0, v3169.toNat, 0]
def k0_off610 (k0_t71 : Fin k0_t71_loop.trips) : Fin 4 → Nat :=
  let c1_i32_5340 : BitVec 32 := 1#32
  let v3173 : Index := Scalar.indexCast c1_i32_5340
  let c0_i32_5341 : BitVec 32 := 0#32
  let v3174 : Index := Scalar.indexCast c0_i32_5341
  let c0_i32_5325 : BitVec 32 := 0#32
  let c0_i32_3960 : BitVec 32 := 0#32
  let c1_i32_3962 : BitVec 32 := 1#32
  let arg17 : BitVec 32 := Scf.iv c0_i32_3960 c1_i32_3962 k0_t71
  let c1_i32_5324 : BitVec 32 := 1#32
  let v3152 : BitVec 32 := Scalar.muli arg17 c1_i32_5324
  let v3153 : BitVec 32 := Scalar.addi c0_i32_5325 v3152
  let v3175 : Index := Scalar.indexCast v3153
  let c16 : Index := 16#32
  ![1, 0, v3175.toNat, 16]
def k0_off611 (k0_t71 : Fin k0_t71_loop.trips) : Fin 4 → Nat :=
  let c1_i32_5342 : BitVec 32 := 1#32
  let v3179 : Index := Scalar.indexCast c1_i32_5342
  let c0_i32_5343 : BitVec 32 := 0#32
  let v3180 : Index := Scalar.indexCast c0_i32_5343
  let c0_i32_5325 : BitVec 32 := 0#32
  let c0_i32_3960 : BitVec 32 := 0#32
  let c1_i32_3962 : BitVec 32 := 1#32
  let arg17 : BitVec 32 := Scf.iv c0_i32_3960 c1_i32_3962 k0_t71
  let c1_i32_5324 : BitVec 32 := 1#32
  let v3152 : BitVec 32 := Scalar.muli arg17 c1_i32_5324
  let v3153 : BitVec 32 := Scalar.addi c0_i32_5325 v3152
  let v3181 : Index := Scalar.indexCast v3153
  let c32 : Index := 32#32
  ![1, 0, v3181.toNat, 32]
def k0_off612 (k0_t71 : Fin k0_t71_loop.trips) : Fin 4 → Nat :=
  let c1_i32_5344 : BitVec 32 := 1#32
  let v3185 : Index := Scalar.indexCast c1_i32_5344
  let c0_i32_5345 : BitVec 32 := 0#32
  let v3186 : Index := Scalar.indexCast c0_i32_5345
  let c0_i32_5325 : BitVec 32 := 0#32
  let c0_i32_3960 : BitVec 32 := 0#32
  let c1_i32_3962 : BitVec 32 := 1#32
  let arg17 : BitVec 32 := Scf.iv c0_i32_3960 c1_i32_3962 k0_t71
  let c1_i32_5324 : BitVec 32 := 1#32
  let v3152 : BitVec 32 := Scalar.muli arg17 c1_i32_5324
  let v3153 : BitVec 32 := Scalar.addi c0_i32_5325 v3152
  let v3187 : Index := Scalar.indexCast v3153
  let c48 : Index := 48#32
  ![1, 0, v3187.toNat, 48]

def k0_chk71 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx561_inb : ∀ (v5 : IVec S16 32) (v8 : IVec S16 32) (v11 : IVec S16 32) (v14 : IVec S16 32) (v15 : IVec S16 32) (v16 : IVec S16 32) (v3154 : IVec S16 32) (k0_hw71 : k0_chk71 v5 v8 v11 v14 v15 v16 v3154), ∀ a x, ((![v15, v3154, v14] : Fin 3 → IVec S16 32) a x).toNat < S2x64x64.size a := fun v5 v8 v11 v14 v15 v16 v3154 k0_hw71 => k0_hw71.1
theorem k0_idx562_inb : ∀ (v5 : IVec S16 32) (v8 : IVec S16 32) (v11 : IVec S16 32) (v14 : IVec S16 32) (v15 : IVec S16 32) (v16 : IVec S16 32) (v3154 : IVec S16 32) (k0_hw71 : k0_chk71 v5 v8 v11 v14 v15 v16 v3154), ∀ a x, ((![v15, v3154, v11] : Fin 3 → IVec S16 32) a x).toNat < S2x64x64.size a := fun v5 v8 v11 v14 v15 v16 v3154 k0_hw71 => k0_hw71.2.1
theorem k0_idx563_inb : ∀ (v5 : IVec S16 32) (v8 : IVec S16 32) (v11 : IVec S16 32) (v14 : IVec S16 32) (v15 : IVec S16 32) (v16 : IVec S16 32) (v3154 : IVec S16 32) (k0_hw71 : k0_chk71 v5 v8 v11 v14 v15 v16 v3154), ∀ a x, ((![v15, v3154, v8] : Fin 3 → IVec S16 32) a x).toNat < S2x64x64.size a := fun v5 v8 v11 v14 v15 v16 v3154 k0_hw71 => k0_hw71.2.2.1
theorem k0_idx564_inb : ∀ (v5 : IVec S16 32) (v8 : IVec S16 32) (v11 : IVec S16 32) (v14 : IVec S16 32) (v15 : IVec S16 32) (v16 : IVec S16 32) (v3154 : IVec S16 32) (k0_hw71 : k0_chk71 v5 v8 v11 v14 v15 v16 v3154), ∀ a x, ((![v15, v3154, v5] : Fin 3 → IVec S16 32) a x).toNat < S2x64x64.size a := fun v5 v8 v11 v14 v15 v16 v3154 k0_hw71 => k0_hw71.2.2.2.1
theorem k0_idx565_inb : ∀ (v5 : IVec S16 32) (v8 : IVec S16 32) (v11 : IVec S16 32) (v14 : IVec S16 32) (v15 : IVec S16 32) (v16 : IVec S16 32) (v3154 : IVec S16 32) (k0_hw71 : k0_chk71 v5 v8 v11 v14 v15 v16 v3154), ∀ a x, ((![v16, v3154, v14] : Fin 3 → IVec S16 32) a x).toNat < S2x64x64.size a := fun v5 v8 v11 v14 v15 v16 v3154 k0_hw71 => k0_hw71.2.2.2.2.1
theorem k0_idx566_inb : ∀ (v5 : IVec S16 32) (v8 : IVec S16 32) (v11 : IVec S16 32) (v14 : IVec S16 32) (v15 : IVec S16 32) (v16 : IVec S16 32) (v3154 : IVec S16 32) (k0_hw71 : k0_chk71 v5 v8 v11 v14 v15 v16 v3154), ∀ a x, ((![v16, v3154, v11] : Fin 3 → IVec S16 32) a x).toNat < S2x64x64.size a := fun v5 v8 v11 v14 v15 v16 v3154 k0_hw71 => k0_hw71.2.2.2.2.2.1
theorem k0_idx567_inb : ∀ (v5 : IVec S16 32) (v8 : IVec S16 32) (v11 : IVec S16 32) (v14 : IVec S16 32) (v15 : IVec S16 32) (v16 : IVec S16 32) (v3154 : IVec S16 32) (k0_hw71 : k0_chk71 v5 v8 v11 v14 v15 v16 v3154), ∀ a x, ((![v16, v3154, v8] : Fin 3 → IVec S16 32) a x).toNat < S2x64x64.size a := fun v5 v8 v11 v14 v15 v16 v3154 k0_hw71 => k0_hw71.2.2.2.2.2.2.1
theorem k0_idx568_inb : ∀ (v5 : IVec S16 32) (v8 : IVec S16 32) (v11 : IVec S16 32) (v14 : IVec S16 32) (v15 : IVec S16 32) (v16 : IVec S16 32) (v3154 : IVec S16 32) (k0_hw71 : k0_chk71 v5 v8 v11 v14 v15 v16 v3154), ∀ a x, ((![v16, v3154, v5] : Fin 3 → IVec S16 32) a x).toNat < S2x64x64.size a := fun v5 v8 v11 v14 v15 v16 v3154 k0_hw71 => k0_hw71.2.2.2.2.2.2.2
def k0_off613 (k0_t71 : Fin k0_t71_loop.trips) : Fin 4 → Nat :=
  let c1_i32_5358 : BitVec 32 := 1#32
  let v3203 : Index := Scalar.indexCast c1_i32_5358
  let c1_i32_5359 : BitVec 32 := 1#32
  let v3204 : Index := Scalar.indexCast c1_i32_5359
  let c0_i32_5325 : BitVec 32 := 0#32
  let c0_i32_3960 : BitVec 32 := 0#32
  let c1_i32_3962 : BitVec 32 := 1#32
  let arg17 : BitVec 32 := Scf.iv c0_i32_3960 c1_i32_3962 k0_t71
  let c1_i32_5324 : BitVec 32 := 1#32
  let v3152 : BitVec 32 := Scalar.muli arg17 c1_i32_5324
  let v3153 : BitVec 32 := Scalar.addi c0_i32_5325 v3152
  let v3205 : Index := Scalar.indexCast v3153
  let c0_5360 : Index := 0#32
  ![1, 1, v3205.toNat, 0]
def k0_off614 (k0_t71 : Fin k0_t71_loop.trips) : Fin 4 → Nat :=
  let c1_i32_5361 : BitVec 32 := 1#32
  let v3209 : Index := Scalar.indexCast c1_i32_5361
  let c1_i32_5362 : BitVec 32 := 1#32
  let v3210 : Index := Scalar.indexCast c1_i32_5362
  let c0_i32_5325 : BitVec 32 := 0#32
  let c0_i32_3960 : BitVec 32 := 0#32
  let c1_i32_3962 : BitVec 32 := 1#32
  let arg17 : BitVec 32 := Scf.iv c0_i32_3960 c1_i32_3962 k0_t71
  let c1_i32_5324 : BitVec 32 := 1#32
  let v3152 : BitVec 32 := Scalar.muli arg17 c1_i32_5324
  let v3153 : BitVec 32 := Scalar.addi c0_i32_5325 v3152
  let v3211 : Index := Scalar.indexCast v3153
  let c16_5363 : Index := 16#32
  ![1, 1, v3211.toNat, 16]
def k0_off615 (k0_t71 : Fin k0_t71_loop.trips) : Fin 4 → Nat :=
  let c1_i32_5364 : BitVec 32 := 1#32
  let v3215 : Index := Scalar.indexCast c1_i32_5364
  let c1_i32_5365 : BitVec 32 := 1#32
  let v3216 : Index := Scalar.indexCast c1_i32_5365
  let c0_i32_5325 : BitVec 32 := 0#32
  let c0_i32_3960 : BitVec 32 := 0#32
  let c1_i32_3962 : BitVec 32 := 1#32
  let arg17 : BitVec 32 := Scf.iv c0_i32_3960 c1_i32_3962 k0_t71
  let c1_i32_5324 : BitVec 32 := 1#32
  let v3152 : BitVec 32 := Scalar.muli arg17 c1_i32_5324
  let v3153 : BitVec 32 := Scalar.addi c0_i32_5325 v3152
  let v3217 : Index := Scalar.indexCast v3153
  let c32_5366 : Index := 32#32
  ![1, 1, v3217.toNat, 32]
def k0_off616 (k0_t71 : Fin k0_t71_loop.trips) : Fin 4 → Nat :=
  let c1_i32_5367 : BitVec 32 := 1#32
  let v3221 : Index := Scalar.indexCast c1_i32_5367
  let c1_i32_5368 : BitVec 32 := 1#32
  let v3222 : Index := Scalar.indexCast c1_i32_5368
  let c0_i32_5325 : BitVec 32 := 0#32
  let c0_i32_3960 : BitVec 32 := 0#32
  let c1_i32_3962 : BitVec 32 := 1#32
  let arg17 : BitVec 32 := Scf.iv c0_i32_3960 c1_i32_3962 k0_t71
  let c1_i32_5324 : BitVec 32 := 1#32
  let v3152 : BitVec 32 := Scalar.muli arg17 c1_i32_5324
  let v3153 : BitVec 32 := Scalar.addi c0_i32_5325 v3152
  let v3223 : Index := Scalar.indexCast v3153
  let c48_5369 : Index := 48#32
  ![1, 1, v3223.toNat, 48]
@[reducible] def k0_t72_loop : Scf.Loop 32 :=
  let c0_i32_4016 : BitVec 32 := 0#32
  let c64_i32_4017 : BitVec 32 := 64#32
  let v2384 : BitVec 32 := Scalar.addi c0_i32_4016 c64_i32_4017
  let c1_i32_4018 : BitVec 32 := 1#32
  ⟨c0_i32_4016, v2384, c1_i32_4018⟩
def k0_off617 (k0_t72 : Fin k0_t72_loop.trips) : Fin 4 → Nat :=
  let c2_i32_5341 : BitVec 32 := 2#32
  let v3175 : Index := Scalar.indexCast c2_i32_5341
  let c0_i32_5342 : BitVec 32 := 0#32
  let v3176 : Index := Scalar.indexCast c0_i32_5342
  let c0_i32_5325 : BitVec 32 := 0#32
  let c0_i32_4016 : BitVec 32 := 0#32
  let c1_i32_4018 : BitVec 32 := 1#32
  let arg17 : BitVec 32 := Scf.iv c0_i32_4016 c1_i32_4018 k0_t72
  let c1_i32_5324 : BitVec 32 := 1#32
  let v3152 : BitVec 32 := Scalar.muli arg17 c1_i32_5324
  let v3153 : BitVec 32 := Scalar.addi c0_i32_5325 v3152
  let v3177 : Index := Scalar.indexCast v3153
  let c0 : Index := 0#32
  ![2, 0, v3177.toNat, 0]
def k0_off618 (k0_t72 : Fin k0_t72_loop.trips) : Fin 4 → Nat :=
  let c2_i32_5343 : BitVec 32 := 2#32
  let v3181 : Index := Scalar.indexCast c2_i32_5343
  let c0_i32_5344 : BitVec 32 := 0#32
  let v3182 : Index := Scalar.indexCast c0_i32_5344
  let c0_i32_5325 : BitVec 32 := 0#32
  let c0_i32_4016 : BitVec 32 := 0#32
  let c1_i32_4018 : BitVec 32 := 1#32
  let arg17 : BitVec 32 := Scf.iv c0_i32_4016 c1_i32_4018 k0_t72
  let c1_i32_5324 : BitVec 32 := 1#32
  let v3152 : BitVec 32 := Scalar.muli arg17 c1_i32_5324
  let v3153 : BitVec 32 := Scalar.addi c0_i32_5325 v3152
  let v3183 : Index := Scalar.indexCast v3153
  let c16 : Index := 16#32
  ![2, 0, v3183.toNat, 16]
def k0_off619 (k0_t72 : Fin k0_t72_loop.trips) : Fin 4 → Nat :=
  let c2_i32_5345 : BitVec 32 := 2#32
  let v3187 : Index := Scalar.indexCast c2_i32_5345
  let c0_i32_5346 : BitVec 32 := 0#32
  let v3188 : Index := Scalar.indexCast c0_i32_5346
  let c0_i32_5325 : BitVec 32 := 0#32
  let c0_i32_4016 : BitVec 32 := 0#32
  let c1_i32_4018 : BitVec 32 := 1#32
  let arg17 : BitVec 32 := Scf.iv c0_i32_4016 c1_i32_4018 k0_t72
  let c1_i32_5324 : BitVec 32 := 1#32
  let v3152 : BitVec 32 := Scalar.muli arg17 c1_i32_5324
  let v3153 : BitVec 32 := Scalar.addi c0_i32_5325 v3152
  let v3189 : Index := Scalar.indexCast v3153
  let c32 : Index := 32#32
  ![2, 0, v3189.toNat, 32]
def k0_off620 (k0_t72 : Fin k0_t72_loop.trips) : Fin 4 → Nat :=
  let c2_i32_5347 : BitVec 32 := 2#32
  let v3193 : Index := Scalar.indexCast c2_i32_5347
  let c0_i32_5348 : BitVec 32 := 0#32
  let v3194 : Index := Scalar.indexCast c0_i32_5348
  let c0_i32_5325 : BitVec 32 := 0#32
  let c0_i32_4016 : BitVec 32 := 0#32
  let c1_i32_4018 : BitVec 32 := 1#32
  let arg17 : BitVec 32 := Scf.iv c0_i32_4016 c1_i32_4018 k0_t72
  let c1_i32_5324 : BitVec 32 := 1#32
  let v3152 : BitVec 32 := Scalar.muli arg17 c1_i32_5324
  let v3153 : BitVec 32 := Scalar.addi c0_i32_5325 v3152
  let v3195 : Index := Scalar.indexCast v3153
  let c48 : Index := 48#32
  ![2, 0, v3195.toNat, 48]

def k0_chk72 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx569_inb : ∀ (v5 : IVec S16 32) (v8 : IVec S16 32) (v11 : IVec S16 32) (v14 : IVec S16 32) (v15 : IVec S16 32) (v16 : IVec S16 32) (v3154 : IVec S16 32) (k0_hw72 : k0_chk72 v5 v8 v11 v14 v15 v16 v3154), ∀ a x, ((![v15, v3154, v14] : Fin 3 → IVec S16 32) a x).toNat < S2x64x64.size a := fun v5 v8 v11 v14 v15 v16 v3154 k0_hw72 => k0_hw72.1
theorem k0_idx570_inb : ∀ (v5 : IVec S16 32) (v8 : IVec S16 32) (v11 : IVec S16 32) (v14 : IVec S16 32) (v15 : IVec S16 32) (v16 : IVec S16 32) (v3154 : IVec S16 32) (k0_hw72 : k0_chk72 v5 v8 v11 v14 v15 v16 v3154), ∀ a x, ((![v15, v3154, v11] : Fin 3 → IVec S16 32) a x).toNat < S2x64x64.size a := fun v5 v8 v11 v14 v15 v16 v3154 k0_hw72 => k0_hw72.2.1
theorem k0_idx571_inb : ∀ (v5 : IVec S16 32) (v8 : IVec S16 32) (v11 : IVec S16 32) (v14 : IVec S16 32) (v15 : IVec S16 32) (v16 : IVec S16 32) (v3154 : IVec S16 32) (k0_hw72 : k0_chk72 v5 v8 v11 v14 v15 v16 v3154), ∀ a x, ((![v15, v3154, v8] : Fin 3 → IVec S16 32) a x).toNat < S2x64x64.size a := fun v5 v8 v11 v14 v15 v16 v3154 k0_hw72 => k0_hw72.2.2.1
theorem k0_idx572_inb : ∀ (v5 : IVec S16 32) (v8 : IVec S16 32) (v11 : IVec S16 32) (v14 : IVec S16 32) (v15 : IVec S16 32) (v16 : IVec S16 32) (v3154 : IVec S16 32) (k0_hw72 : k0_chk72 v5 v8 v11 v14 v15 v16 v3154), ∀ a x, ((![v15, v3154, v5] : Fin 3 → IVec S16 32) a x).toNat < S2x64x64.size a := fun v5 v8 v11 v14 v15 v16 v3154 k0_hw72 => k0_hw72.2.2.2.1
theorem k0_idx573_inb : ∀ (v5 : IVec S16 32) (v8 : IVec S16 32) (v11 : IVec S16 32) (v14 : IVec S16 32) (v15 : IVec S16 32) (v16 : IVec S16 32) (v3154 : IVec S16 32) (k0_hw72 : k0_chk72 v5 v8 v11 v14 v15 v16 v3154), ∀ a x, ((![v16, v3154, v14] : Fin 3 → IVec S16 32) a x).toNat < S2x64x64.size a := fun v5 v8 v11 v14 v15 v16 v3154 k0_hw72 => k0_hw72.2.2.2.2.1
theorem k0_idx574_inb : ∀ (v5 : IVec S16 32) (v8 : IVec S16 32) (v11 : IVec S16 32) (v14 : IVec S16 32) (v15 : IVec S16 32) (v16 : IVec S16 32) (v3154 : IVec S16 32) (k0_hw72 : k0_chk72 v5 v8 v11 v14 v15 v16 v3154), ∀ a x, ((![v16, v3154, v11] : Fin 3 → IVec S16 32) a x).toNat < S2x64x64.size a := fun v5 v8 v11 v14 v15 v16 v3154 k0_hw72 => k0_hw72.2.2.2.2.2.1
theorem k0_idx575_inb : ∀ (v5 : IVec S16 32) (v8 : IVec S16 32) (v11 : IVec S16 32) (v14 : IVec S16 32) (v15 : IVec S16 32) (v16 : IVec S16 32) (v3154 : IVec S16 32) (k0_hw72 : k0_chk72 v5 v8 v11 v14 v15 v16 v3154), ∀ a x, ((![v16, v3154, v8] : Fin 3 → IVec S16 32) a x).toNat < S2x64x64.size a := fun v5 v8 v11 v14 v15 v16 v3154 k0_hw72 => k0_hw72.2.2.2.2.2.2.1
theorem k0_idx576_inb : ∀ (v5 : IVec S16 32) (v8 : IVec S16 32) (v11 : IVec S16 32) (v14 : IVec S16 32) (v15 : IVec S16 32) (v16 : IVec S16 32) (v3154 : IVec S16 32) (k0_hw72 : k0_chk72 v5 v8 v11 v14 v15 v16 v3154), ∀ a x, ((![v16, v3154, v5] : Fin 3 → IVec S16 32) a x).toNat < S2x64x64.size a := fun v5 v8 v11 v14 v15 v16 v3154 k0_hw72 => k0_hw72.2.2.2.2.2.2.2
def k0_off621 (k0_t72 : Fin k0_t72_loop.trips) : Fin 4 → Nat :=
  let c2_i32_5365 : BitVec 32 := 2#32
  let v3219 : Index := Scalar.indexCast c2_i32_5365
  let c1_i32_5366 : BitVec 32 := 1#32
  let v3220 : Index := Scalar.indexCast c1_i32_5366
  let c0_i32_5325 : BitVec 32 := 0#32
  let c0_i32_4016 : BitVec 32 := 0#32
  let c1_i32_4018 : BitVec 32 := 1#32
  let arg17 : BitVec 32 := Scf.iv c0_i32_4016 c1_i32_4018 k0_t72
  let c1_i32_5324 : BitVec 32 := 1#32
  let v3152 : BitVec 32 := Scalar.muli arg17 c1_i32_5324
  let v3153 : BitVec 32 := Scalar.addi c0_i32_5325 v3152
  let v3221 : Index := Scalar.indexCast v3153
  let c0_5367 : Index := 0#32
  ![2, 1, v3221.toNat, 0]
def k0_off622 (k0_t72 : Fin k0_t72_loop.trips) : Fin 4 → Nat :=
  let c2_i32_5368 : BitVec 32 := 2#32
  let v3225 : Index := Scalar.indexCast c2_i32_5368
  let c1_i32_5369 : BitVec 32 := 1#32
  let v3226 : Index := Scalar.indexCast c1_i32_5369
  let c0_i32_5325 : BitVec 32 := 0#32
  let c0_i32_4016 : BitVec 32 := 0#32
  let c1_i32_4018 : BitVec 32 := 1#32
  let arg17 : BitVec 32 := Scf.iv c0_i32_4016 c1_i32_4018 k0_t72
  let c1_i32_5324 : BitVec 32 := 1#32
  let v3152 : BitVec 32 := Scalar.muli arg17 c1_i32_5324
  let v3153 : BitVec 32 := Scalar.addi c0_i32_5325 v3152
  let v3227 : Index := Scalar.indexCast v3153
  let c16_5370 : Index := 16#32
  ![2, 1, v3227.toNat, 16]
def k0_off623 (k0_t72 : Fin k0_t72_loop.trips) : Fin 4 → Nat :=
  let c2_i32_5371 : BitVec 32 := 2#32
  let v3231 : Index := Scalar.indexCast c2_i32_5371
  let c1_i32_5372 : BitVec 32 := 1#32
  let v3232 : Index := Scalar.indexCast c1_i32_5372
  let c0_i32_5325 : BitVec 32 := 0#32
  let c0_i32_4016 : BitVec 32 := 0#32
  let c1_i32_4018 : BitVec 32 := 1#32
  let arg17 : BitVec 32 := Scf.iv c0_i32_4016 c1_i32_4018 k0_t72
  let c1_i32_5324 : BitVec 32 := 1#32
  let v3152 : BitVec 32 := Scalar.muli arg17 c1_i32_5324
  let v3153 : BitVec 32 := Scalar.addi c0_i32_5325 v3152
  let v3233 : Index := Scalar.indexCast v3153
  let c32_5373 : Index := 32#32
  ![2, 1, v3233.toNat, 32]
def k0_off624 (k0_t72 : Fin k0_t72_loop.trips) : Fin 4 → Nat :=
  let c2_i32_5374 : BitVec 32 := 2#32
  let v3237 : Index := Scalar.indexCast c2_i32_5374
  let c1_i32_5375 : BitVec 32 := 1#32
  let v3238 : Index := Scalar.indexCast c1_i32_5375
  let c0_i32_5325 : BitVec 32 := 0#32
  let c0_i32_4016 : BitVec 32 := 0#32
  let c1_i32_4018 : BitVec 32 := 1#32
  let arg17 : BitVec 32 := Scf.iv c0_i32_4016 c1_i32_4018 k0_t72
  let c1_i32_5324 : BitVec 32 := 1#32
  let v3152 : BitVec 32 := Scalar.muli arg17 c1_i32_5324
  let v3153 : BitVec 32 := Scalar.addi c0_i32_5325 v3152
  let v3239 : Index := Scalar.indexCast v3153
  let c48_5376 : Index := 48#32
  ![2, 1, v3239.toNat, 48]
def k0_off625 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c16_i32 : BitVec 32 := 16#32
  let c0_i32_4037 : BitVec 32 := 0#32
  let c0_i32_4038 : BitVec 32 := 0#32
  ![v2.toNat, 16, 0, 0]
@[reducible] def k0_t73_loop : Scf.Loop 32 :=
  let c0_i32_4071 : BitVec 32 := 0#32
  let c64_i32_4072 : BitVec 32 := 64#32
  let v2417 : BitVec 32 := Scalar.addi c0_i32_4071 c64_i32_4072
  let c1_i32_4073 : BitVec 32 := 1#32
  ⟨c0_i32_4071, v2417, c1_i32_4073⟩
def k0_off626 (k0_t73 : Fin k0_t73_loop.trips) : Fin 4 → Nat :=
  let c0_i32_5341 : BitVec 32 := 0#32
  let v3175 : Index := Scalar.indexCast c0_i32_5341
  let c0_i32_5342 : BitVec 32 := 0#32
  let v3176 : Index := Scalar.indexCast c0_i32_5342
  let c0_i32_5325 : BitVec 32 := 0#32
  let c0_i32_4071 : BitVec 32 := 0#32
  let c1_i32_4073 : BitVec 32 := 1#32
  let arg17 : BitVec 32 := Scf.iv c0_i32_4071 c1_i32_4073 k0_t73
  let c1_i32_5324 : BitVec 32 := 1#32
  let v3152 : BitVec 32 := Scalar.muli arg17 c1_i32_5324
  let v3153 : BitVec 32 := Scalar.addi c0_i32_5325 v3152
  let v3177 : Index := Scalar.indexCast v3153
  let c0 : Index := 0#32
  ![0, 0, v3177.toNat, 0]
def k0_off627 (k0_t73 : Fin k0_t73_loop.trips) : Fin 4 → Nat :=
  let c0_i32_5343 : BitVec 32 := 0#32
  let v3181 : Index := Scalar.indexCast c0_i32_5343
  let c0_i32_5344 : BitVec 32 := 0#32
  let v3182 : Index := Scalar.indexCast c0_i32_5344
  let c0_i32_5325 : BitVec 32 := 0#32
  let c0_i32_4071 : BitVec 32 := 0#32
  let c1_i32_4073 : BitVec 32 := 1#32
  let arg17 : BitVec 32 := Scf.iv c0_i32_4071 c1_i32_4073 k0_t73
  let c1_i32_5324 : BitVec 32 := 1#32
  let v3152 : BitVec 32 := Scalar.muli arg17 c1_i32_5324
  let v3153 : BitVec 32 := Scalar.addi c0_i32_5325 v3152
  let v3183 : Index := Scalar.indexCast v3153
  let c16 : Index := 16#32
  ![0, 0, v3183.toNat, 16]
def k0_off628 (k0_t73 : Fin k0_t73_loop.trips) : Fin 4 → Nat :=
  let c0_i32_5345 : BitVec 32 := 0#32
  let v3187 : Index := Scalar.indexCast c0_i32_5345
  let c0_i32_5346 : BitVec 32 := 0#32
  let v3188 : Index := Scalar.indexCast c0_i32_5346
  let c0_i32_5325 : BitVec 32 := 0#32
  let c0_i32_4071 : BitVec 32 := 0#32
  let c1_i32_4073 : BitVec 32 := 1#32
  let arg17 : BitVec 32 := Scf.iv c0_i32_4071 c1_i32_4073 k0_t73
  let c1_i32_5324 : BitVec 32 := 1#32
  let v3152 : BitVec 32 := Scalar.muli arg17 c1_i32_5324
  let v3153 : BitVec 32 := Scalar.addi c0_i32_5325 v3152
  let v3189 : Index := Scalar.indexCast v3153
  let c32 : Index := 32#32
  ![0, 0, v3189.toNat, 32]
def k0_off629 (k0_t73 : Fin k0_t73_loop.trips) : Fin 4 → Nat :=
  let c0_i32_5347 : BitVec 32 := 0#32
  let v3193 : Index := Scalar.indexCast c0_i32_5347
  let c0_i32_5348 : BitVec 32 := 0#32
  let v3194 : Index := Scalar.indexCast c0_i32_5348
  let c0_i32_5325 : BitVec 32 := 0#32
  let c0_i32_4071 : BitVec 32 := 0#32
  let c1_i32_4073 : BitVec 32 := 1#32
  let arg17 : BitVec 32 := Scf.iv c0_i32_4071 c1_i32_4073 k0_t73
  let c1_i32_5324 : BitVec 32 := 1#32
  let v3152 : BitVec 32 := Scalar.muli arg17 c1_i32_5324
  let v3153 : BitVec 32 := Scalar.addi c0_i32_5325 v3152
  let v3195 : Index := Scalar.indexCast v3153
  let c48 : Index := 48#32
  ![0, 0, v3195.toNat, 48]

def k0_chk73 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx577_inb : ∀ (v5 : IVec S16 32) (v8 : IVec S16 32) (v11 : IVec S16 32) (v14 : IVec S16 32) (v15 : IVec S16 32) (v16 : IVec S16 32) (v3154 : IVec S16 32) (k0_hw73 : k0_chk73 v5 v8 v11 v14 v15 v16 v3154), ∀ a x, ((![v15, v3154, v14] : Fin 3 → IVec S16 32) a x).toNat < S2x64x64.size a := fun v5 v8 v11 v14 v15 v16 v3154 k0_hw73 => k0_hw73.1
theorem k0_idx578_inb : ∀ (v5 : IVec S16 32) (v8 : IVec S16 32) (v11 : IVec S16 32) (v14 : IVec S16 32) (v15 : IVec S16 32) (v16 : IVec S16 32) (v3154 : IVec S16 32) (k0_hw73 : k0_chk73 v5 v8 v11 v14 v15 v16 v3154), ∀ a x, ((![v15, v3154, v11] : Fin 3 → IVec S16 32) a x).toNat < S2x64x64.size a := fun v5 v8 v11 v14 v15 v16 v3154 k0_hw73 => k0_hw73.2.1
theorem k0_idx579_inb : ∀ (v5 : IVec S16 32) (v8 : IVec S16 32) (v11 : IVec S16 32) (v14 : IVec S16 32) (v15 : IVec S16 32) (v16 : IVec S16 32) (v3154 : IVec S16 32) (k0_hw73 : k0_chk73 v5 v8 v11 v14 v15 v16 v3154), ∀ a x, ((![v15, v3154, v8] : Fin 3 → IVec S16 32) a x).toNat < S2x64x64.size a := fun v5 v8 v11 v14 v15 v16 v3154 k0_hw73 => k0_hw73.2.2.1
theorem k0_idx580_inb : ∀ (v5 : IVec S16 32) (v8 : IVec S16 32) (v11 : IVec S16 32) (v14 : IVec S16 32) (v15 : IVec S16 32) (v16 : IVec S16 32) (v3154 : IVec S16 32) (k0_hw73 : k0_chk73 v5 v8 v11 v14 v15 v16 v3154), ∀ a x, ((![v15, v3154, v5] : Fin 3 → IVec S16 32) a x).toNat < S2x64x64.size a := fun v5 v8 v11 v14 v15 v16 v3154 k0_hw73 => k0_hw73.2.2.2.1
theorem k0_idx581_inb : ∀ (v5 : IVec S16 32) (v8 : IVec S16 32) (v11 : IVec S16 32) (v14 : IVec S16 32) (v15 : IVec S16 32) (v16 : IVec S16 32) (v3154 : IVec S16 32) (k0_hw73 : k0_chk73 v5 v8 v11 v14 v15 v16 v3154), ∀ a x, ((![v16, v3154, v14] : Fin 3 → IVec S16 32) a x).toNat < S2x64x64.size a := fun v5 v8 v11 v14 v15 v16 v3154 k0_hw73 => k0_hw73.2.2.2.2.1
theorem k0_idx582_inb : ∀ (v5 : IVec S16 32) (v8 : IVec S16 32) (v11 : IVec S16 32) (v14 : IVec S16 32) (v15 : IVec S16 32) (v16 : IVec S16 32) (v3154 : IVec S16 32) (k0_hw73 : k0_chk73 v5 v8 v11 v14 v15 v16 v3154), ∀ a x, ((![v16, v3154, v11] : Fin 3 → IVec S16 32) a x).toNat < S2x64x64.size a := fun v5 v8 v11 v14 v15 v16 v3154 k0_hw73 => k0_hw73.2.2.2.2.2.1
theorem k0_idx583_inb : ∀ (v5 : IVec S16 32) (v8 : IVec S16 32) (v11 : IVec S16 32) (v14 : IVec S16 32) (v15 : IVec S16 32) (v16 : IVec S16 32) (v3154 : IVec S16 32) (k0_hw73 : k0_chk73 v5 v8 v11 v14 v15 v16 v3154), ∀ a x, ((![v16, v3154, v8] : Fin 3 → IVec S16 32) a x).toNat < S2x64x64.size a := fun v5 v8 v11 v14 v15 v16 v3154 k0_hw73 => k0_hw73.2.2.2.2.2.2.1
theorem k0_idx584_inb : ∀ (v5 : IVec S16 32) (v8 : IVec S16 32) (v11 : IVec S16 32) (v14 : IVec S16 32) (v15 : IVec S16 32) (v16 : IVec S16 32) (v3154 : IVec S16 32) (k0_hw73 : k0_chk73 v5 v8 v11 v14 v15 v16 v3154), ∀ a x, ((![v16, v3154, v5] : Fin 3 → IVec S16 32) a x).toNat < S2x64x64.size a := fun v5 v8 v11 v14 v15 v16 v3154 k0_hw73 => k0_hw73.2.2.2.2.2.2.2
def k0_off630 (k0_t73 : Fin k0_t73_loop.trips) : Fin 4 → Nat :=
  let c0_i32_5365 : BitVec 32 := 0#32
  let v3219 : Index := Scalar.indexCast c0_i32_5365
  let c1_i32_5366 : BitVec 32 := 1#32
  let v3220 : Index := Scalar.indexCast c1_i32_5366
  let c0_i32_5325 : BitVec 32 := 0#32
  let c0_i32_4071 : BitVec 32 := 0#32
  let c1_i32_4073 : BitVec 32 := 1#32
  let arg17 : BitVec 32 := Scf.iv c0_i32_4071 c1_i32_4073 k0_t73
  let c1_i32_5324 : BitVec 32 := 1#32
  let v3152 : BitVec 32 := Scalar.muli arg17 c1_i32_5324
  let v3153 : BitVec 32 := Scalar.addi c0_i32_5325 v3152
  let v3221 : Index := Scalar.indexCast v3153
  let c0_5367 : Index := 0#32
  ![0, 1, v3221.toNat, 0]
def k0_off631 (k0_t73 : Fin k0_t73_loop.trips) : Fin 4 → Nat :=
  let c0_i32_5368 : BitVec 32 := 0#32
  let v3225 : Index := Scalar.indexCast c0_i32_5368
  let c1_i32_5369 : BitVec 32 := 1#32
  let v3226 : Index := Scalar.indexCast c1_i32_5369
  let c0_i32_5325 : BitVec 32 := 0#32
  let c0_i32_4071 : BitVec 32 := 0#32
  let c1_i32_4073 : BitVec 32 := 1#32
  let arg17 : BitVec 32 := Scf.iv c0_i32_4071 c1_i32_4073 k0_t73
  let c1_i32_5324 : BitVec 32 := 1#32
  let v3152 : BitVec 32 := Scalar.muli arg17 c1_i32_5324
  let v3153 : BitVec 32 := Scalar.addi c0_i32_5325 v3152
  let v3227 : Index := Scalar.indexCast v3153
  let c16_5370 : Index := 16#32
  ![0, 1, v3227.toNat, 16]
def k0_off632 (k0_t73 : Fin k0_t73_loop.trips) : Fin 4 → Nat :=
  let c0_i32_5371 : BitVec 32 := 0#32
  let v3231 : Index := Scalar.indexCast c0_i32_5371
  let c1_i32_5372 : BitVec 32 := 1#32
  let v3232 : Index := Scalar.indexCast c1_i32_5372
  let c0_i32_5325 : BitVec 32 := 0#32
  let c0_i32_4071 : BitVec 32 := 0#32
  let c1_i32_4073 : BitVec 32 := 1#32
  let arg17 : BitVec 32 := Scf.iv c0_i32_4071 c1_i32_4073 k0_t73
  let c1_i32_5324 : BitVec 32 := 1#32
  let v3152 : BitVec 32 := Scalar.muli arg17 c1_i32_5324
  let v3153 : BitVec 32 := Scalar.addi c0_i32_5325 v3152
  let v3233 : Index := Scalar.indexCast v3153
  let c32_5373 : Index := 32#32
  ![0, 1, v3233.toNat, 32]
def k0_off633 (k0_t73 : Fin k0_t73_loop.trips) : Fin 4 → Nat :=
  let c0_i32_5374 : BitVec 32 := 0#32
  let v3237 : Index := Scalar.indexCast c0_i32_5374
  let c1_i32_5375 : BitVec 32 := 1#32
  let v3238 : Index := Scalar.indexCast c1_i32_5375
  let c0_i32_5325 : BitVec 32 := 0#32
  let c0_i32_4071 : BitVec 32 := 0#32
  let c1_i32_4073 : BitVec 32 := 1#32
  let arg17 : BitVec 32 := Scf.iv c0_i32_4071 c1_i32_4073 k0_t73
  let c1_i32_5324 : BitVec 32 := 1#32
  let v3152 : BitVec 32 := Scalar.muli arg17 c1_i32_5324
  let v3153 : BitVec 32 := Scalar.addi c0_i32_5325 v3152
  let v3239 : Index := Scalar.indexCast v3153
  let c48_5376 : Index := 48#32
  ![0, 1, v3239.toNat, 48]
def k0_off634 (i : grid0.Coords) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c16_i32_4088 : BitVec 32 := 16#32
  let c0_i32_4089 : BitVec 32 := 0#32
  let c0_i32_4094 : BitVec 32 := 0#32
  let c0_i32_4095 : BitVec 32 := 0#32
  ![v2.toNat, 16, 0, 0, 0]
@[reducible] def k0_t74_loop : Scf.Loop 32 :=
  let c0_i32_4127 : BitVec 32 := 0#32
  let c64_i32_4128 : BitVec 32 := 64#32
  let v2450 : BitVec 32 := Scalar.addi c0_i32_4127 c64_i32_4128
  let c1_i32_4129 : BitVec 32 := 1#32
  ⟨c0_i32_4127, v2450, c1_i32_4129⟩
def k0_off635 (k0_t74 : Fin k0_t74_loop.trips) : Fin 4 → Nat :=
  let c1_i32_5338 : BitVec 32 := 1#32
  let v3167 : Index := Scalar.indexCast c1_i32_5338
  let c0_i32_5339 : BitVec 32 := 0#32
  let v3168 : Index := Scalar.indexCast c0_i32_5339
  let c0_i32_5325 : BitVec 32 := 0#32
  let c0_i32_4127 : BitVec 32 := 0#32
  let c1_i32_4129 : BitVec 32 := 1#32
  let arg17 : BitVec 32 := Scf.iv c0_i32_4127 c1_i32_4129 k0_t74
  let c1_i32_5324 : BitVec 32 := 1#32
  let v3152 : BitVec 32 := Scalar.muli arg17 c1_i32_5324
  let v3153 : BitVec 32 := Scalar.addi c0_i32_5325 v3152
  let v3169 : Index := Scalar.indexCast v3153
  let c0 : Index := 0#32
  ![1, 0, v3169.toNat, 0]
def k0_off636 (k0_t74 : Fin k0_t74_loop.trips) : Fin 4 → Nat :=
  let c1_i32_5340 : BitVec 32 := 1#32
  let v3173 : Index := Scalar.indexCast c1_i32_5340
  let c0_i32_5341 : BitVec 32 := 0#32
  let v3174 : Index := Scalar.indexCast c0_i32_5341
  let c0_i32_5325 : BitVec 32 := 0#32
  let c0_i32_4127 : BitVec 32 := 0#32
  let c1_i32_4129 : BitVec 32 := 1#32
  let arg17 : BitVec 32 := Scf.iv c0_i32_4127 c1_i32_4129 k0_t74
  let c1_i32_5324 : BitVec 32 := 1#32
  let v3152 : BitVec 32 := Scalar.muli arg17 c1_i32_5324
  let v3153 : BitVec 32 := Scalar.addi c0_i32_5325 v3152
  let v3175 : Index := Scalar.indexCast v3153
  let c16 : Index := 16#32
  ![1, 0, v3175.toNat, 16]
def k0_off637 (k0_t74 : Fin k0_t74_loop.trips) : Fin 4 → Nat :=
  let c1_i32_5342 : BitVec 32 := 1#32
  let v3179 : Index := Scalar.indexCast c1_i32_5342
  let c0_i32_5343 : BitVec 32 := 0#32
  let v3180 : Index := Scalar.indexCast c0_i32_5343
  let c0_i32_5325 : BitVec 32 := 0#32
  let c0_i32_4127 : BitVec 32 := 0#32
  let c1_i32_4129 : BitVec 32 := 1#32
  let arg17 : BitVec 32 := Scf.iv c0_i32_4127 c1_i32_4129 k0_t74
  let c1_i32_5324 : BitVec 32 := 1#32
  let v3152 : BitVec 32 := Scalar.muli arg17 c1_i32_5324
  let v3153 : BitVec 32 := Scalar.addi c0_i32_5325 v3152
  let v3181 : Index := Scalar.indexCast v3153
  let c32 : Index := 32#32
  ![1, 0, v3181.toNat, 32]
def k0_off638 (k0_t74 : Fin k0_t74_loop.trips) : Fin 4 → Nat :=
  let c1_i32_5344 : BitVec 32 := 1#32
  let v3185 : Index := Scalar.indexCast c1_i32_5344
  let c0_i32_5345 : BitVec 32 := 0#32
  let v3186 : Index := Scalar.indexCast c0_i32_5345
  let c0_i32_5325 : BitVec 32 := 0#32
  let c0_i32_4127 : BitVec 32 := 0#32
  let c1_i32_4129 : BitVec 32 := 1#32
  let arg17 : BitVec 32 := Scf.iv c0_i32_4127 c1_i32_4129 k0_t74
  let c1_i32_5324 : BitVec 32 := 1#32
  let v3152 : BitVec 32 := Scalar.muli arg17 c1_i32_5324
  let v3153 : BitVec 32 := Scalar.addi c0_i32_5325 v3152
  let v3187 : Index := Scalar.indexCast v3153
  let c48 : Index := 48#32
  ![1, 0, v3187.toNat, 48]

def k0_chk74 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx585_inb : ∀ (v5 : IVec S16 32) (v8 : IVec S16 32) (v11 : IVec S16 32) (v14 : IVec S16 32) (v15 : IVec S16 32) (v16 : IVec S16 32) (v3154 : IVec S16 32) (k0_hw74 : k0_chk74 v5 v8 v11 v14 v15 v16 v3154), ∀ a x, ((![v15, v3154, v14] : Fin 3 → IVec S16 32) a x).toNat < S2x64x64.size a := fun v5 v8 v11 v14 v15 v16 v3154 k0_hw74 => k0_hw74.1
theorem k0_idx586_inb : ∀ (v5 : IVec S16 32) (v8 : IVec S16 32) (v11 : IVec S16 32) (v14 : IVec S16 32) (v15 : IVec S16 32) (v16 : IVec S16 32) (v3154 : IVec S16 32) (k0_hw74 : k0_chk74 v5 v8 v11 v14 v15 v16 v3154), ∀ a x, ((![v15, v3154, v11] : Fin 3 → IVec S16 32) a x).toNat < S2x64x64.size a := fun v5 v8 v11 v14 v15 v16 v3154 k0_hw74 => k0_hw74.2.1
theorem k0_idx587_inb : ∀ (v5 : IVec S16 32) (v8 : IVec S16 32) (v11 : IVec S16 32) (v14 : IVec S16 32) (v15 : IVec S16 32) (v16 : IVec S16 32) (v3154 : IVec S16 32) (k0_hw74 : k0_chk74 v5 v8 v11 v14 v15 v16 v3154), ∀ a x, ((![v15, v3154, v8] : Fin 3 → IVec S16 32) a x).toNat < S2x64x64.size a := fun v5 v8 v11 v14 v15 v16 v3154 k0_hw74 => k0_hw74.2.2.1
theorem k0_idx588_inb : ∀ (v5 : IVec S16 32) (v8 : IVec S16 32) (v11 : IVec S16 32) (v14 : IVec S16 32) (v15 : IVec S16 32) (v16 : IVec S16 32) (v3154 : IVec S16 32) (k0_hw74 : k0_chk74 v5 v8 v11 v14 v15 v16 v3154), ∀ a x, ((![v15, v3154, v5] : Fin 3 → IVec S16 32) a x).toNat < S2x64x64.size a := fun v5 v8 v11 v14 v15 v16 v3154 k0_hw74 => k0_hw74.2.2.2.1
theorem k0_idx589_inb : ∀ (v5 : IVec S16 32) (v8 : IVec S16 32) (v11 : IVec S16 32) (v14 : IVec S16 32) (v15 : IVec S16 32) (v16 : IVec S16 32) (v3154 : IVec S16 32) (k0_hw74 : k0_chk74 v5 v8 v11 v14 v15 v16 v3154), ∀ a x, ((![v16, v3154, v14] : Fin 3 → IVec S16 32) a x).toNat < S2x64x64.size a := fun v5 v8 v11 v14 v15 v16 v3154 k0_hw74 => k0_hw74.2.2.2.2.1
theorem k0_idx590_inb : ∀ (v5 : IVec S16 32) (v8 : IVec S16 32) (v11 : IVec S16 32) (v14 : IVec S16 32) (v15 : IVec S16 32) (v16 : IVec S16 32) (v3154 : IVec S16 32) (k0_hw74 : k0_chk74 v5 v8 v11 v14 v15 v16 v3154), ∀ a x, ((![v16, v3154, v11] : Fin 3 → IVec S16 32) a x).toNat < S2x64x64.size a := fun v5 v8 v11 v14 v15 v16 v3154 k0_hw74 => k0_hw74.2.2.2.2.2.1
theorem k0_idx591_inb : ∀ (v5 : IVec S16 32) (v8 : IVec S16 32) (v11 : IVec S16 32) (v14 : IVec S16 32) (v15 : IVec S16 32) (v16 : IVec S16 32) (v3154 : IVec S16 32) (k0_hw74 : k0_chk74 v5 v8 v11 v14 v15 v16 v3154), ∀ a x, ((![v16, v3154, v8] : Fin 3 → IVec S16 32) a x).toNat < S2x64x64.size a := fun v5 v8 v11 v14 v15 v16 v3154 k0_hw74 => k0_hw74.2.2.2.2.2.2.1
theorem k0_idx592_inb : ∀ (v5 : IVec S16 32) (v8 : IVec S16 32) (v11 : IVec S16 32) (v14 : IVec S16 32) (v15 : IVec S16 32) (v16 : IVec S16 32) (v3154 : IVec S16 32) (k0_hw74 : k0_chk74 v5 v8 v11 v14 v15 v16 v3154), ∀ a x, ((![v16, v3154, v5] : Fin 3 → IVec S16 32) a x).toNat < S2x64x64.size a := fun v5 v8 v11 v14 v15 v16 v3154 k0_hw74 => k0_hw74.2.2.2.2.2.2.2
def k0_off639 (k0_t74 : Fin k0_t74_loop.trips) : Fin 4 → Nat :=
  let c1_i32_5358 : BitVec 32 := 1#32
  let v3203 : Index := Scalar.indexCast c1_i32_5358
  let c1_i32_5359 : BitVec 32 := 1#32
  let v3204 : Index := Scalar.indexCast c1_i32_5359
  let c0_i32_5325 : BitVec 32 := 0#32
  let c0_i32_4127 : BitVec 32 := 0#32
  let c1_i32_4129 : BitVec 32 := 1#32
  let arg17 : BitVec 32 := Scf.iv c0_i32_4127 c1_i32_4129 k0_t74
  let c1_i32_5324 : BitVec 32 := 1#32
  let v3152 : BitVec 32 := Scalar.muli arg17 c1_i32_5324
  let v3153 : BitVec 32 := Scalar.addi c0_i32_5325 v3152
  let v3205 : Index := Scalar.indexCast v3153
  let c0_5360 : Index := 0#32
  ![1, 1, v3205.toNat, 0]
def k0_off640 (k0_t74 : Fin k0_t74_loop.trips) : Fin 4 → Nat :=
  let c1_i32_5361 : BitVec 32 := 1#32
  let v3209 : Index := Scalar.indexCast c1_i32_5361
  let c1_i32_5362 : BitVec 32 := 1#32
  let v3210 : Index := Scalar.indexCast c1_i32_5362
  let c0_i32_5325 : BitVec 32 := 0#32
  let c0_i32_4127 : BitVec 32 := 0#32
  let c1_i32_4129 : BitVec 32 := 1#32
  let arg17 : BitVec 32 := Scf.iv c0_i32_4127 c1_i32_4129 k0_t74
  let c1_i32_5324 : BitVec 32 := 1#32
  let v3152 : BitVec 32 := Scalar.muli arg17 c1_i32_5324
  let v3153 : BitVec 32 := Scalar.addi c0_i32_5325 v3152
  let v3211 : Index := Scalar.indexCast v3153
  let c16_5363 : Index := 16#32
  ![1, 1, v3211.toNat, 16]
def k0_off641 (k0_t74 : Fin k0_t74_loop.trips) : Fin 4 → Nat :=
  let c1_i32_5364 : BitVec 32 := 1#32
  let v3215 : Index := Scalar.indexCast c1_i32_5364
  let c1_i32_5365 : BitVec 32 := 1#32
  let v3216 : Index := Scalar.indexCast c1_i32_5365
  let c0_i32_5325 : BitVec 32 := 0#32
  let c0_i32_4127 : BitVec 32 := 0#32
  let c1_i32_4129 : BitVec 32 := 1#32
  let arg17 : BitVec 32 := Scf.iv c0_i32_4127 c1_i32_4129 k0_t74
  let c1_i32_5324 : BitVec 32 := 1#32
  let v3152 : BitVec 32 := Scalar.muli arg17 c1_i32_5324
  let v3153 : BitVec 32 := Scalar.addi c0_i32_5325 v3152
  let v3217 : Index := Scalar.indexCast v3153
  let c32_5366 : Index := 32#32
  ![1, 1, v3217.toNat, 32]
def k0_off642 (k0_t74 : Fin k0_t74_loop.trips) : Fin 4 → Nat :=
  let c1_i32_5367 : BitVec 32 := 1#32
  let v3221 : Index := Scalar.indexCast c1_i32_5367
  let c1_i32_5368 : BitVec 32 := 1#32
  let v3222 : Index := Scalar.indexCast c1_i32_5368
  let c0_i32_5325 : BitVec 32 := 0#32
  let c0_i32_4127 : BitVec 32 := 0#32
  let c1_i32_4129 : BitVec 32 := 1#32
  let arg17 : BitVec 32 := Scf.iv c0_i32_4127 c1_i32_4129 k0_t74
  let c1_i32_5324 : BitVec 32 := 1#32
  let v3152 : BitVec 32 := Scalar.muli arg17 c1_i32_5324
  let v3153 : BitVec 32 := Scalar.addi c0_i32_5325 v3152
  let v3223 : Index := Scalar.indexCast v3153
  let c48_5369 : Index := 48#32
  ![1, 1, v3223.toNat, 48]
@[reducible] def k0_t75_loop : Scf.Loop 32 :=
  let c0_i32_4184 : BitVec 32 := 0#32
  let c64_i32_4185 : BitVec 32 := 64#32
  let v2483 : BitVec 32 := Scalar.addi c0_i32_4184 c64_i32_4185
  let c1_i32_4186 : BitVec 32 := 1#32
  ⟨c0_i32_4184, v2483, c1_i32_4186⟩
def k0_off643 (k0_t75 : Fin k0_t75_loop.trips) : Fin 4 → Nat :=
  let c2_i32_5338 : BitVec 32 := 2#32
  let v3167 : Index := Scalar.indexCast c2_i32_5338
  let c0_i32_5339 : BitVec 32 := 0#32
  let v3168 : Index := Scalar.indexCast c0_i32_5339
  let c0_i32_5325 : BitVec 32 := 0#32
  let c0_i32_4184 : BitVec 32 := 0#32
  let c1_i32_4186 : BitVec 32 := 1#32
  let arg17 : BitVec 32 := Scf.iv c0_i32_4184 c1_i32_4186 k0_t75
  let c1_i32_5324 : BitVec 32 := 1#32
  let v3152 : BitVec 32 := Scalar.muli arg17 c1_i32_5324
  let v3153 : BitVec 32 := Scalar.addi c0_i32_5325 v3152
  let v3169 : Index := Scalar.indexCast v3153
  let c0 : Index := 0#32
  ![2, 0, v3169.toNat, 0]
def k0_off644 (k0_t75 : Fin k0_t75_loop.trips) : Fin 4 → Nat :=
  let c2_i32_5340 : BitVec 32 := 2#32
  let v3173 : Index := Scalar.indexCast c2_i32_5340
  let c0_i32_5341 : BitVec 32 := 0#32
  let v3174 : Index := Scalar.indexCast c0_i32_5341
  let c0_i32_5325 : BitVec 32 := 0#32
  let c0_i32_4184 : BitVec 32 := 0#32
  let c1_i32_4186 : BitVec 32 := 1#32
  let arg17 : BitVec 32 := Scf.iv c0_i32_4184 c1_i32_4186 k0_t75
  let c1_i32_5324 : BitVec 32 := 1#32
  let v3152 : BitVec 32 := Scalar.muli arg17 c1_i32_5324
  let v3153 : BitVec 32 := Scalar.addi c0_i32_5325 v3152
  let v3175 : Index := Scalar.indexCast v3153
  let c16 : Index := 16#32
  ![2, 0, v3175.toNat, 16]
def k0_off645 (k0_t75 : Fin k0_t75_loop.trips) : Fin 4 → Nat :=
  let c2_i32_5342 : BitVec 32 := 2#32
  let v3179 : Index := Scalar.indexCast c2_i32_5342
  let c0_i32_5343 : BitVec 32 := 0#32
  let v3180 : Index := Scalar.indexCast c0_i32_5343
  let c0_i32_5325 : BitVec 32 := 0#32
  let c0_i32_4184 : BitVec 32 := 0#32
  let c1_i32_4186 : BitVec 32 := 1#32
  let arg17 : BitVec 32 := Scf.iv c0_i32_4184 c1_i32_4186 k0_t75
  let c1_i32_5324 : BitVec 32 := 1#32
  let v3152 : BitVec 32 := Scalar.muli arg17 c1_i32_5324
  let v3153 : BitVec 32 := Scalar.addi c0_i32_5325 v3152
  let v3181 : Index := Scalar.indexCast v3153
  let c32 : Index := 32#32
  ![2, 0, v3181.toNat, 32]
def k0_off646 (k0_t75 : Fin k0_t75_loop.trips) : Fin 4 → Nat :=
  let c2_i32_5344 : BitVec 32 := 2#32
  let v3185 : Index := Scalar.indexCast c2_i32_5344
  let c0_i32_5345 : BitVec 32 := 0#32
  let v3186 : Index := Scalar.indexCast c0_i32_5345
  let c0_i32_5325 : BitVec 32 := 0#32
  let c0_i32_4184 : BitVec 32 := 0#32
  let c1_i32_4186 : BitVec 32 := 1#32
  let arg17 : BitVec 32 := Scf.iv c0_i32_4184 c1_i32_4186 k0_t75
  let c1_i32_5324 : BitVec 32 := 1#32
  let v3152 : BitVec 32 := Scalar.muli arg17 c1_i32_5324
  let v3153 : BitVec 32 := Scalar.addi c0_i32_5325 v3152
  let v3187 : Index := Scalar.indexCast v3153
  let c48 : Index := 48#32
  ![2, 0, v3187.toNat, 48]

def k0_chk75 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx593_inb : ∀ (v5 : IVec S16 32) (v8 : IVec S16 32) (v11 : IVec S16 32) (v14 : IVec S16 32) (v15 : IVec S16 32) (v16 : IVec S16 32) (v3154 : IVec S16 32) (k0_hw75 : k0_chk75 v5 v8 v11 v14 v15 v16 v3154), ∀ a x, ((![v15, v3154, v14] : Fin 3 → IVec S16 32) a x).toNat < S2x64x64.size a := fun v5 v8 v11 v14 v15 v16 v3154 k0_hw75 => k0_hw75.1
theorem k0_idx594_inb : ∀ (v5 : IVec S16 32) (v8 : IVec S16 32) (v11 : IVec S16 32) (v14 : IVec S16 32) (v15 : IVec S16 32) (v16 : IVec S16 32) (v3154 : IVec S16 32) (k0_hw75 : k0_chk75 v5 v8 v11 v14 v15 v16 v3154), ∀ a x, ((![v15, v3154, v11] : Fin 3 → IVec S16 32) a x).toNat < S2x64x64.size a := fun v5 v8 v11 v14 v15 v16 v3154 k0_hw75 => k0_hw75.2.1
theorem k0_idx595_inb : ∀ (v5 : IVec S16 32) (v8 : IVec S16 32) (v11 : IVec S16 32) (v14 : IVec S16 32) (v15 : IVec S16 32) (v16 : IVec S16 32) (v3154 : IVec S16 32) (k0_hw75 : k0_chk75 v5 v8 v11 v14 v15 v16 v3154), ∀ a x, ((![v15, v3154, v8] : Fin 3 → IVec S16 32) a x).toNat < S2x64x64.size a := fun v5 v8 v11 v14 v15 v16 v3154 k0_hw75 => k0_hw75.2.2.1
theorem k0_idx596_inb : ∀ (v5 : IVec S16 32) (v8 : IVec S16 32) (v11 : IVec S16 32) (v14 : IVec S16 32) (v15 : IVec S16 32) (v16 : IVec S16 32) (v3154 : IVec S16 32) (k0_hw75 : k0_chk75 v5 v8 v11 v14 v15 v16 v3154), ∀ a x, ((![v15, v3154, v5] : Fin 3 → IVec S16 32) a x).toNat < S2x64x64.size a := fun v5 v8 v11 v14 v15 v16 v3154 k0_hw75 => k0_hw75.2.2.2.1
theorem k0_idx597_inb : ∀ (v5 : IVec S16 32) (v8 : IVec S16 32) (v11 : IVec S16 32) (v14 : IVec S16 32) (v15 : IVec S16 32) (v16 : IVec S16 32) (v3154 : IVec S16 32) (k0_hw75 : k0_chk75 v5 v8 v11 v14 v15 v16 v3154), ∀ a x, ((![v16, v3154, v14] : Fin 3 → IVec S16 32) a x).toNat < S2x64x64.size a := fun v5 v8 v11 v14 v15 v16 v3154 k0_hw75 => k0_hw75.2.2.2.2.1
theorem k0_idx598_inb : ∀ (v5 : IVec S16 32) (v8 : IVec S16 32) (v11 : IVec S16 32) (v14 : IVec S16 32) (v15 : IVec S16 32) (v16 : IVec S16 32) (v3154 : IVec S16 32) (k0_hw75 : k0_chk75 v5 v8 v11 v14 v15 v16 v3154), ∀ a x, ((![v16, v3154, v11] : Fin 3 → IVec S16 32) a x).toNat < S2x64x64.size a := fun v5 v8 v11 v14 v15 v16 v3154 k0_hw75 => k0_hw75.2.2.2.2.2.1
theorem k0_idx599_inb : ∀ (v5 : IVec S16 32) (v8 : IVec S16 32) (v11 : IVec S16 32) (v14 : IVec S16 32) (v15 : IVec S16 32) (v16 : IVec S16 32) (v3154 : IVec S16 32) (k0_hw75 : k0_chk75 v5 v8 v11 v14 v15 v16 v3154), ∀ a x, ((![v16, v3154, v8] : Fin 3 → IVec S16 32) a x).toNat < S2x64x64.size a := fun v5 v8 v11 v14 v15 v16 v3154 k0_hw75 => k0_hw75.2.2.2.2.2.2.1
theorem k0_idx600_inb : ∀ (v5 : IVec S16 32) (v8 : IVec S16 32) (v11 : IVec S16 32) (v14 : IVec S16 32) (v15 : IVec S16 32) (v16 : IVec S16 32) (v3154 : IVec S16 32) (k0_hw75 : k0_chk75 v5 v8 v11 v14 v15 v16 v3154), ∀ a x, ((![v16, v3154, v5] : Fin 3 → IVec S16 32) a x).toNat < S2x64x64.size a := fun v5 v8 v11 v14 v15 v16 v3154 k0_hw75 => k0_hw75.2.2.2.2.2.2.2
def k0_off647 (k0_t75 : Fin k0_t75_loop.trips) : Fin 4 → Nat :=
  let c2_i32_5358 : BitVec 32 := 2#32
  let v3203 : Index := Scalar.indexCast c2_i32_5358
  let c1_i32_5359 : BitVec 32 := 1#32
  let v3204 : Index := Scalar.indexCast c1_i32_5359
  let c0_i32_5325 : BitVec 32 := 0#32
  let c0_i32_4184 : BitVec 32 := 0#32
  let c1_i32_4186 : BitVec 32 := 1#32
  let arg17 : BitVec 32 := Scf.iv c0_i32_4184 c1_i32_4186 k0_t75
  let c1_i32_5324 : BitVec 32 := 1#32
  let v3152 : BitVec 32 := Scalar.muli arg17 c1_i32_5324
  let v3153 : BitVec 32 := Scalar.addi c0_i32_5325 v3152
  let v3205 : Index := Scalar.indexCast v3153
  let c0_5360 : Index := 0#32
  ![2, 1, v3205.toNat, 0]
def k0_off648 (k0_t75 : Fin k0_t75_loop.trips) : Fin 4 → Nat :=
  let c2_i32_5361 : BitVec 32 := 2#32
  let v3209 : Index := Scalar.indexCast c2_i32_5361
  let c1_i32_5362 : BitVec 32 := 1#32
  let v3210 : Index := Scalar.indexCast c1_i32_5362
  let c0_i32_5325 : BitVec 32 := 0#32
  let c0_i32_4184 : BitVec 32 := 0#32
  let c1_i32_4186 : BitVec 32 := 1#32
  let arg17 : BitVec 32 := Scf.iv c0_i32_4184 c1_i32_4186 k0_t75
  let c1_i32_5324 : BitVec 32 := 1#32
  let v3152 : BitVec 32 := Scalar.muli arg17 c1_i32_5324
  let v3153 : BitVec 32 := Scalar.addi c0_i32_5325 v3152
  let v3211 : Index := Scalar.indexCast v3153
  let c16_5363 : Index := 16#32
  ![2, 1, v3211.toNat, 16]
def k0_off649 (k0_t75 : Fin k0_t75_loop.trips) : Fin 4 → Nat :=
  let c2_i32_5364 : BitVec 32 := 2#32
  let v3215 : Index := Scalar.indexCast c2_i32_5364
  let c1_i32_5365 : BitVec 32 := 1#32
  let v3216 : Index := Scalar.indexCast c1_i32_5365
  let c0_i32_5325 : BitVec 32 := 0#32
  let c0_i32_4184 : BitVec 32 := 0#32
  let c1_i32_4186 : BitVec 32 := 1#32
  let arg17 : BitVec 32 := Scf.iv c0_i32_4184 c1_i32_4186 k0_t75
  let c1_i32_5324 : BitVec 32 := 1#32
  let v3152 : BitVec 32 := Scalar.muli arg17 c1_i32_5324
  let v3153 : BitVec 32 := Scalar.addi c0_i32_5325 v3152
  let v3217 : Index := Scalar.indexCast v3153
  let c32_5366 : Index := 32#32
  ![2, 1, v3217.toNat, 32]
def k0_off650 (k0_t75 : Fin k0_t75_loop.trips) : Fin 4 → Nat :=
  let c2_i32_5367 : BitVec 32 := 2#32
  let v3221 : Index := Scalar.indexCast c2_i32_5367
  let c1_i32_5368 : BitVec 32 := 1#32
  let v3222 : Index := Scalar.indexCast c1_i32_5368
  let c0_i32_5325 : BitVec 32 := 0#32
  let c0_i32_4184 : BitVec 32 := 0#32
  let c1_i32_4186 : BitVec 32 := 1#32
  let arg17 : BitVec 32 := Scf.iv c0_i32_4184 c1_i32_4186 k0_t75
  let c1_i32_5324 : BitVec 32 := 1#32
  let v3152 : BitVec 32 := Scalar.muli arg17 c1_i32_5324
  let v3153 : BitVec 32 := Scalar.addi c0_i32_5325 v3152
  let v3223 : Index := Scalar.indexCast v3153
  let c48_5369 : Index := 48#32
  ![2, 1, v3223.toNat, 48]
def k0_off651 (i : grid0.Coords) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c16_i32_4201 : BitVec 32 := 16#32
  let c1_i32_4202 : BitVec 32 := 1#32
  let c0_i32_4207 : BitVec 32 := 0#32
  let c0_i32_4208 : BitVec 32 := 0#32
  ![v2.toNat, 16, 1, 0, 0]
@[reducible] def k0_t76_loop : Scf.Loop 32 :=
  let c0_i32_4240 : BitVec 32 := 0#32
  let c64_i32_4241 : BitVec 32 := 64#32
  let v2516 : BitVec 32 := Scalar.addi c0_i32_4240 c64_i32_4241
  let c1_i32_4242 : BitVec 32 := 1#32
  ⟨c0_i32_4240, v2516, c1_i32_4242⟩
def k0_off652 (k0_t76 : Fin k0_t76_loop.trips) : Fin 4 → Nat :=
  let c0_i32_5338 : BitVec 32 := 0#32
  let v3167 : Index := Scalar.indexCast c0_i32_5338
  let c0_i32_5339 : BitVec 32 := 0#32
  let v3168 : Index := Scalar.indexCast c0_i32_5339
  let c0_i32_5325 : BitVec 32 := 0#32
  let c0_i32_4240 : BitVec 32 := 0#32
  let c1_i32_4242 : BitVec 32 := 1#32
  let arg17 : BitVec 32 := Scf.iv c0_i32_4240 c1_i32_4242 k0_t76
  let c1_i32_5324 : BitVec 32 := 1#32
  let v3152 : BitVec 32 := Scalar.muli arg17 c1_i32_5324
  let v3153 : BitVec 32 := Scalar.addi c0_i32_5325 v3152
  let v3169 : Index := Scalar.indexCast v3153
  let c0 : Index := 0#32
  ![0, 0, v3169.toNat, 0]
def k0_off653 (k0_t76 : Fin k0_t76_loop.trips) : Fin 4 → Nat :=
  let c0_i32_5340 : BitVec 32 := 0#32
  let v3173 : Index := Scalar.indexCast c0_i32_5340
  let c0_i32_5341 : BitVec 32 := 0#32
  let v3174 : Index := Scalar.indexCast c0_i32_5341
  let c0_i32_5325 : BitVec 32 := 0#32
  let c0_i32_4240 : BitVec 32 := 0#32
  let c1_i32_4242 : BitVec 32 := 1#32
  let arg17 : BitVec 32 := Scf.iv c0_i32_4240 c1_i32_4242 k0_t76
  let c1_i32_5324 : BitVec 32 := 1#32
  let v3152 : BitVec 32 := Scalar.muli arg17 c1_i32_5324
  let v3153 : BitVec 32 := Scalar.addi c0_i32_5325 v3152
  let v3175 : Index := Scalar.indexCast v3153
  let c16 : Index := 16#32
  ![0, 0, v3175.toNat, 16]
def k0_off654 (k0_t76 : Fin k0_t76_loop.trips) : Fin 4 → Nat :=
  let c0_i32_5342 : BitVec 32 := 0#32
  let v3179 : Index := Scalar.indexCast c0_i32_5342
  let c0_i32_5343 : BitVec 32 := 0#32
  let v3180 : Index := Scalar.indexCast c0_i32_5343
  let c0_i32_5325 : BitVec 32 := 0#32
  let c0_i32_4240 : BitVec 32 := 0#32
  let c1_i32_4242 : BitVec 32 := 1#32
  let arg17 : BitVec 32 := Scf.iv c0_i32_4240 c1_i32_4242 k0_t76
  let c1_i32_5324 : BitVec 32 := 1#32
  let v3152 : BitVec 32 := Scalar.muli arg17 c1_i32_5324
  let v3153 : BitVec 32 := Scalar.addi c0_i32_5325 v3152
  let v3181 : Index := Scalar.indexCast v3153
  let c32 : Index := 32#32
  ![0, 0, v3181.toNat, 32]
def k0_off655 (k0_t76 : Fin k0_t76_loop.trips) : Fin 4 → Nat :=
  let c0_i32_5344 : BitVec 32 := 0#32
  let v3185 : Index := Scalar.indexCast c0_i32_5344
  let c0_i32_5345 : BitVec 32 := 0#32
  let v3186 : Index := Scalar.indexCast c0_i32_5345
  let c0_i32_5325 : BitVec 32 := 0#32
  let c0_i32_4240 : BitVec 32 := 0#32
  let c1_i32_4242 : BitVec 32 := 1#32
  let arg17 : BitVec 32 := Scf.iv c0_i32_4240 c1_i32_4242 k0_t76
  let c1_i32_5324 : BitVec 32 := 1#32
  let v3152 : BitVec 32 := Scalar.muli arg17 c1_i32_5324
  let v3153 : BitVec 32 := Scalar.addi c0_i32_5325 v3152
  let v3187 : Index := Scalar.indexCast v3153
  let c48 : Index := 48#32
  ![0, 0, v3187.toNat, 48]

def k0_chk76 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx601_inb : ∀ (v5 : IVec S16 32) (v8 : IVec S16 32) (v11 : IVec S16 32) (v14 : IVec S16 32) (v15 : IVec S16 32) (v16 : IVec S16 32) (v3154 : IVec S16 32) (k0_hw76 : k0_chk76 v5 v8 v11 v14 v15 v16 v3154), ∀ a x, ((![v15, v3154, v14] : Fin 3 → IVec S16 32) a x).toNat < S2x64x64.size a := fun v5 v8 v11 v14 v15 v16 v3154 k0_hw76 => k0_hw76.1
theorem k0_idx602_inb : ∀ (v5 : IVec S16 32) (v8 : IVec S16 32) (v11 : IVec S16 32) (v14 : IVec S16 32) (v15 : IVec S16 32) (v16 : IVec S16 32) (v3154 : IVec S16 32) (k0_hw76 : k0_chk76 v5 v8 v11 v14 v15 v16 v3154), ∀ a x, ((![v15, v3154, v11] : Fin 3 → IVec S16 32) a x).toNat < S2x64x64.size a := fun v5 v8 v11 v14 v15 v16 v3154 k0_hw76 => k0_hw76.2.1
theorem k0_idx603_inb : ∀ (v5 : IVec S16 32) (v8 : IVec S16 32) (v11 : IVec S16 32) (v14 : IVec S16 32) (v15 : IVec S16 32) (v16 : IVec S16 32) (v3154 : IVec S16 32) (k0_hw76 : k0_chk76 v5 v8 v11 v14 v15 v16 v3154), ∀ a x, ((![v15, v3154, v8] : Fin 3 → IVec S16 32) a x).toNat < S2x64x64.size a := fun v5 v8 v11 v14 v15 v16 v3154 k0_hw76 => k0_hw76.2.2.1
theorem k0_idx604_inb : ∀ (v5 : IVec S16 32) (v8 : IVec S16 32) (v11 : IVec S16 32) (v14 : IVec S16 32) (v15 : IVec S16 32) (v16 : IVec S16 32) (v3154 : IVec S16 32) (k0_hw76 : k0_chk76 v5 v8 v11 v14 v15 v16 v3154), ∀ a x, ((![v15, v3154, v5] : Fin 3 → IVec S16 32) a x).toNat < S2x64x64.size a := fun v5 v8 v11 v14 v15 v16 v3154 k0_hw76 => k0_hw76.2.2.2.1
theorem k0_idx605_inb : ∀ (v5 : IVec S16 32) (v8 : IVec S16 32) (v11 : IVec S16 32) (v14 : IVec S16 32) (v15 : IVec S16 32) (v16 : IVec S16 32) (v3154 : IVec S16 32) (k0_hw76 : k0_chk76 v5 v8 v11 v14 v15 v16 v3154), ∀ a x, ((![v16, v3154, v14] : Fin 3 → IVec S16 32) a x).toNat < S2x64x64.size a := fun v5 v8 v11 v14 v15 v16 v3154 k0_hw76 => k0_hw76.2.2.2.2.1
theorem k0_idx606_inb : ∀ (v5 : IVec S16 32) (v8 : IVec S16 32) (v11 : IVec S16 32) (v14 : IVec S16 32) (v15 : IVec S16 32) (v16 : IVec S16 32) (v3154 : IVec S16 32) (k0_hw76 : k0_chk76 v5 v8 v11 v14 v15 v16 v3154), ∀ a x, ((![v16, v3154, v11] : Fin 3 → IVec S16 32) a x).toNat < S2x64x64.size a := fun v5 v8 v11 v14 v15 v16 v3154 k0_hw76 => k0_hw76.2.2.2.2.2.1
theorem k0_idx607_inb : ∀ (v5 : IVec S16 32) (v8 : IVec S16 32) (v11 : IVec S16 32) (v14 : IVec S16 32) (v15 : IVec S16 32) (v16 : IVec S16 32) (v3154 : IVec S16 32) (k0_hw76 : k0_chk76 v5 v8 v11 v14 v15 v16 v3154), ∀ a x, ((![v16, v3154, v8] : Fin 3 → IVec S16 32) a x).toNat < S2x64x64.size a := fun v5 v8 v11 v14 v15 v16 v3154 k0_hw76 => k0_hw76.2.2.2.2.2.2.1
theorem k0_idx608_inb : ∀ (v5 : IVec S16 32) (v8 : IVec S16 32) (v11 : IVec S16 32) (v14 : IVec S16 32) (v15 : IVec S16 32) (v16 : IVec S16 32) (v3154 : IVec S16 32) (k0_hw76 : k0_chk76 v5 v8 v11 v14 v15 v16 v3154), ∀ a x, ((![v16, v3154, v5] : Fin 3 → IVec S16 32) a x).toNat < S2x64x64.size a := fun v5 v8 v11 v14 v15 v16 v3154 k0_hw76 => k0_hw76.2.2.2.2.2.2.2
def k0_off656 (k0_t76 : Fin k0_t76_loop.trips) : Fin 4 → Nat :=
  let c0_i32_5358 : BitVec 32 := 0#32
  let v3203 : Index := Scalar.indexCast c0_i32_5358
  let c1_i32_5359 : BitVec 32 := 1#32
  let v3204 : Index := Scalar.indexCast c1_i32_5359
  let c0_i32_5325 : BitVec 32 := 0#32
  let c0_i32_4240 : BitVec 32 := 0#32
  let c1_i32_4242 : BitVec 32 := 1#32
  let arg17 : BitVec 32 := Scf.iv c0_i32_4240 c1_i32_4242 k0_t76
  let c1_i32_5324 : BitVec 32 := 1#32
  let v3152 : BitVec 32 := Scalar.muli arg17 c1_i32_5324
  let v3153 : BitVec 32 := Scalar.addi c0_i32_5325 v3152
  let v3205 : Index := Scalar.indexCast v3153
  let c0_5360 : Index := 0#32
  ![0, 1, v3205.toNat, 0]
def k0_off657 (k0_t76 : Fin k0_t76_loop.trips) : Fin 4 → Nat :=
  let c0_i32_5361 : BitVec 32 := 0#32
  let v3209 : Index := Scalar.indexCast c0_i32_5361
  let c1_i32_5362 : BitVec 32 := 1#32
  let v3210 : Index := Scalar.indexCast c1_i32_5362
  let c0_i32_5325 : BitVec 32 := 0#32
  let c0_i32_4240 : BitVec 32 := 0#32
  let c1_i32_4242 : BitVec 32 := 1#32
  let arg17 : BitVec 32 := Scf.iv c0_i32_4240 c1_i32_4242 k0_t76
  let c1_i32_5324 : BitVec 32 := 1#32
  let v3152 : BitVec 32 := Scalar.muli arg17 c1_i32_5324
  let v3153 : BitVec 32 := Scalar.addi c0_i32_5325 v3152
  let v3211 : Index := Scalar.indexCast v3153
  let c16_5363 : Index := 16#32
  ![0, 1, v3211.toNat, 16]
def k0_off658 (k0_t76 : Fin k0_t76_loop.trips) : Fin 4 → Nat :=
  let c0_i32_5364 : BitVec 32 := 0#32
  let v3215 : Index := Scalar.indexCast c0_i32_5364
  let c1_i32_5365 : BitVec 32 := 1#32
  let v3216 : Index := Scalar.indexCast c1_i32_5365
  let c0_i32_5325 : BitVec 32 := 0#32
  let c0_i32_4240 : BitVec 32 := 0#32
  let c1_i32_4242 : BitVec 32 := 1#32
  let arg17 : BitVec 32 := Scf.iv c0_i32_4240 c1_i32_4242 k0_t76
  let c1_i32_5324 : BitVec 32 := 1#32
  let v3152 : BitVec 32 := Scalar.muli arg17 c1_i32_5324
  let v3153 : BitVec 32 := Scalar.addi c0_i32_5325 v3152
  let v3217 : Index := Scalar.indexCast v3153
  let c32_5366 : Index := 32#32
  ![0, 1, v3217.toNat, 32]
def k0_off659 (k0_t76 : Fin k0_t76_loop.trips) : Fin 4 → Nat :=
  let c0_i32_5367 : BitVec 32 := 0#32
  let v3221 : Index := Scalar.indexCast c0_i32_5367
  let c1_i32_5368 : BitVec 32 := 1#32
  let v3222 : Index := Scalar.indexCast c1_i32_5368
  let c0_i32_5325 : BitVec 32 := 0#32
  let c0_i32_4240 : BitVec 32 := 0#32
  let c1_i32_4242 : BitVec 32 := 1#32
  let arg17 : BitVec 32 := Scf.iv c0_i32_4240 c1_i32_4242 k0_t76
  let c1_i32_5324 : BitVec 32 := 1#32
  let v3152 : BitVec 32 := Scalar.muli arg17 c1_i32_5324
  let v3153 : BitVec 32 := Scalar.addi c0_i32_5325 v3152
  let v3223 : Index := Scalar.indexCast v3153
  let c48_5369 : Index := 48#32
  ![0, 1, v3223.toNat, 48]
def k0_off660 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c15_i32_4245 : BitVec 32 := 15#32
  let c0_i32_4249 : BitVec 32 := 0#32
  let c0_i32_4250 : BitVec 32 := 0#32
  ![v2.toNat, 15, 0, 0]
@[reducible] def k0_t77_loop : Scf.Loop 32 :=
  let c0_i32_4296 : BitVec 32 := 0#32
  let c64_i32_4297 : BitVec 32 := 64#32
  let v2549 : BitVec 32 := Scalar.addi c0_i32_4296 c64_i32_4297
  let c1_i32_4298 : BitVec 32 := 1#32
  ⟨c0_i32_4296, v2549, c1_i32_4298⟩
def k0_off661 (k0_t77 : Fin k0_t77_loop.trips) : Fin 4 → Nat :=
  let c1_i32_5341 : BitVec 32 := 1#32
  let v3175 : Index := Scalar.indexCast c1_i32_5341
  let c0_i32_5342 : BitVec 32 := 0#32
  let v3176 : Index := Scalar.indexCast c0_i32_5342
  let c0_i32_5325 : BitVec 32 := 0#32
  let c0_i32_4296 : BitVec 32 := 0#32
  let c1_i32_4298 : BitVec 32 := 1#32
  let arg17 : BitVec 32 := Scf.iv c0_i32_4296 c1_i32_4298 k0_t77
  let c1_i32_5324 : BitVec 32 := 1#32
  let v3152 : BitVec 32 := Scalar.muli arg17 c1_i32_5324
  let v3153 : BitVec 32 := Scalar.addi c0_i32_5325 v3152
  let v3177 : Index := Scalar.indexCast v3153
  let c0 : Index := 0#32
  ![1, 0, v3177.toNat, 0]
def k0_off662 (k0_t77 : Fin k0_t77_loop.trips) : Fin 4 → Nat :=
  let c1_i32_5343 : BitVec 32 := 1#32
  let v3181 : Index := Scalar.indexCast c1_i32_5343
  let c0_i32_5344 : BitVec 32 := 0#32
  let v3182 : Index := Scalar.indexCast c0_i32_5344
  let c0_i32_5325 : BitVec 32 := 0#32
  let c0_i32_4296 : BitVec 32 := 0#32
  let c1_i32_4298 : BitVec 32 := 1#32
  let arg17 : BitVec 32 := Scf.iv c0_i32_4296 c1_i32_4298 k0_t77
  let c1_i32_5324 : BitVec 32 := 1#32
  let v3152 : BitVec 32 := Scalar.muli arg17 c1_i32_5324
  let v3153 : BitVec 32 := Scalar.addi c0_i32_5325 v3152
  let v3183 : Index := Scalar.indexCast v3153
  let c16 : Index := 16#32
  ![1, 0, v3183.toNat, 16]
def k0_off663 (k0_t77 : Fin k0_t77_loop.trips) : Fin 4 → Nat :=
  let c1_i32_5345 : BitVec 32 := 1#32
  let v3187 : Index := Scalar.indexCast c1_i32_5345
  let c0_i32_5346 : BitVec 32 := 0#32
  let v3188 : Index := Scalar.indexCast c0_i32_5346
  let c0_i32_5325 : BitVec 32 := 0#32
  let c0_i32_4296 : BitVec 32 := 0#32
  let c1_i32_4298 : BitVec 32 := 1#32
  let arg17 : BitVec 32 := Scf.iv c0_i32_4296 c1_i32_4298 k0_t77
  let c1_i32_5324 : BitVec 32 := 1#32
  let v3152 : BitVec 32 := Scalar.muli arg17 c1_i32_5324
  let v3153 : BitVec 32 := Scalar.addi c0_i32_5325 v3152
  let v3189 : Index := Scalar.indexCast v3153
  let c32 : Index := 32#32
  ![1, 0, v3189.toNat, 32]
def k0_off664 (k0_t77 : Fin k0_t77_loop.trips) : Fin 4 → Nat :=
  let c1_i32_5347 : BitVec 32 := 1#32
  let v3193 : Index := Scalar.indexCast c1_i32_5347
  let c0_i32_5348 : BitVec 32 := 0#32
  let v3194 : Index := Scalar.indexCast c0_i32_5348
  let c0_i32_5325 : BitVec 32 := 0#32
  let c0_i32_4296 : BitVec 32 := 0#32
  let c1_i32_4298 : BitVec 32 := 1#32
  let arg17 : BitVec 32 := Scf.iv c0_i32_4296 c1_i32_4298 k0_t77
  let c1_i32_5324 : BitVec 32 := 1#32
  let v3152 : BitVec 32 := Scalar.muli arg17 c1_i32_5324
  let v3153 : BitVec 32 := Scalar.addi c0_i32_5325 v3152
  let v3195 : Index := Scalar.indexCast v3153
  let c48 : Index := 48#32
  ![1, 0, v3195.toNat, 48]

def k0_chk77 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx609_inb : ∀ (v5 : IVec S16 32) (v8 : IVec S16 32) (v11 : IVec S16 32) (v14 : IVec S16 32) (v15 : IVec S16 32) (v16 : IVec S16 32) (v3154 : IVec S16 32) (k0_hw77 : k0_chk77 v5 v8 v11 v14 v15 v16 v3154), ∀ a x, ((![v15, v3154, v14] : Fin 3 → IVec S16 32) a x).toNat < S2x64x64.size a := fun v5 v8 v11 v14 v15 v16 v3154 k0_hw77 => k0_hw77.1
theorem k0_idx610_inb : ∀ (v5 : IVec S16 32) (v8 : IVec S16 32) (v11 : IVec S16 32) (v14 : IVec S16 32) (v15 : IVec S16 32) (v16 : IVec S16 32) (v3154 : IVec S16 32) (k0_hw77 : k0_chk77 v5 v8 v11 v14 v15 v16 v3154), ∀ a x, ((![v15, v3154, v11] : Fin 3 → IVec S16 32) a x).toNat < S2x64x64.size a := fun v5 v8 v11 v14 v15 v16 v3154 k0_hw77 => k0_hw77.2.1
theorem k0_idx611_inb : ∀ (v5 : IVec S16 32) (v8 : IVec S16 32) (v11 : IVec S16 32) (v14 : IVec S16 32) (v15 : IVec S16 32) (v16 : IVec S16 32) (v3154 : IVec S16 32) (k0_hw77 : k0_chk77 v5 v8 v11 v14 v15 v16 v3154), ∀ a x, ((![v15, v3154, v8] : Fin 3 → IVec S16 32) a x).toNat < S2x64x64.size a := fun v5 v8 v11 v14 v15 v16 v3154 k0_hw77 => k0_hw77.2.2.1
theorem k0_idx612_inb : ∀ (v5 : IVec S16 32) (v8 : IVec S16 32) (v11 : IVec S16 32) (v14 : IVec S16 32) (v15 : IVec S16 32) (v16 : IVec S16 32) (v3154 : IVec S16 32) (k0_hw77 : k0_chk77 v5 v8 v11 v14 v15 v16 v3154), ∀ a x, ((![v15, v3154, v5] : Fin 3 → IVec S16 32) a x).toNat < S2x64x64.size a := fun v5 v8 v11 v14 v15 v16 v3154 k0_hw77 => k0_hw77.2.2.2.1
theorem k0_idx613_inb : ∀ (v5 : IVec S16 32) (v8 : IVec S16 32) (v11 : IVec S16 32) (v14 : IVec S16 32) (v15 : IVec S16 32) (v16 : IVec S16 32) (v3154 : IVec S16 32) (k0_hw77 : k0_chk77 v5 v8 v11 v14 v15 v16 v3154), ∀ a x, ((![v16, v3154, v14] : Fin 3 → IVec S16 32) a x).toNat < S2x64x64.size a := fun v5 v8 v11 v14 v15 v16 v3154 k0_hw77 => k0_hw77.2.2.2.2.1
theorem k0_idx614_inb : ∀ (v5 : IVec S16 32) (v8 : IVec S16 32) (v11 : IVec S16 32) (v14 : IVec S16 32) (v15 : IVec S16 32) (v16 : IVec S16 32) (v3154 : IVec S16 32) (k0_hw77 : k0_chk77 v5 v8 v11 v14 v15 v16 v3154), ∀ a x, ((![v16, v3154, v11] : Fin 3 → IVec S16 32) a x).toNat < S2x64x64.size a := fun v5 v8 v11 v14 v15 v16 v3154 k0_hw77 => k0_hw77.2.2.2.2.2.1
theorem k0_idx615_inb : ∀ (v5 : IVec S16 32) (v8 : IVec S16 32) (v11 : IVec S16 32) (v14 : IVec S16 32) (v15 : IVec S16 32) (v16 : IVec S16 32) (v3154 : IVec S16 32) (k0_hw77 : k0_chk77 v5 v8 v11 v14 v15 v16 v3154), ∀ a x, ((![v16, v3154, v8] : Fin 3 → IVec S16 32) a x).toNat < S2x64x64.size a := fun v5 v8 v11 v14 v15 v16 v3154 k0_hw77 => k0_hw77.2.2.2.2.2.2.1
theorem k0_idx616_inb : ∀ (v5 : IVec S16 32) (v8 : IVec S16 32) (v11 : IVec S16 32) (v14 : IVec S16 32) (v15 : IVec S16 32) (v16 : IVec S16 32) (v3154 : IVec S16 32) (k0_hw77 : k0_chk77 v5 v8 v11 v14 v15 v16 v3154), ∀ a x, ((![v16, v3154, v5] : Fin 3 → IVec S16 32) a x).toNat < S2x64x64.size a := fun v5 v8 v11 v14 v15 v16 v3154 k0_hw77 => k0_hw77.2.2.2.2.2.2.2
def k0_off665 (k0_t77 : Fin k0_t77_loop.trips) : Fin 4 → Nat :=
  let c1_i32_5365 : BitVec 32 := 1#32
  let v3219 : Index := Scalar.indexCast c1_i32_5365
  let c1_i32_5366 : BitVec 32 := 1#32
  let v3220 : Index := Scalar.indexCast c1_i32_5366
  let c0_i32_5325 : BitVec 32 := 0#32
  let c0_i32_4296 : BitVec 32 := 0#32
  let c1_i32_4298 : BitVec 32 := 1#32
  let arg17 : BitVec 32 := Scf.iv c0_i32_4296 c1_i32_4298 k0_t77
  let c1_i32_5324 : BitVec 32 := 1#32
  let v3152 : BitVec 32 := Scalar.muli arg17 c1_i32_5324
  let v3153 : BitVec 32 := Scalar.addi c0_i32_5325 v3152
  let v3221 : Index := Scalar.indexCast v3153
  let c0_5367 : Index := 0#32
  ![1, 1, v3221.toNat, 0]
def k0_off666 (k0_t77 : Fin k0_t77_loop.trips) : Fin 4 → Nat :=
  let c1_i32_5368 : BitVec 32 := 1#32
  let v3225 : Index := Scalar.indexCast c1_i32_5368
  let c1_i32_5369 : BitVec 32 := 1#32
  let v3226 : Index := Scalar.indexCast c1_i32_5369
  let c0_i32_5325 : BitVec 32 := 0#32
  let c0_i32_4296 : BitVec 32 := 0#32
  let c1_i32_4298 : BitVec 32 := 1#32
  let arg17 : BitVec 32 := Scf.iv c0_i32_4296 c1_i32_4298 k0_t77
  let c1_i32_5324 : BitVec 32 := 1#32
  let v3152 : BitVec 32 := Scalar.muli arg17 c1_i32_5324
  let v3153 : BitVec 32 := Scalar.addi c0_i32_5325 v3152
  let v3227 : Index := Scalar.indexCast v3153
  let c16_5370 : Index := 16#32
  ![1, 1, v3227.toNat, 16]
def k0_off667 (k0_t77 : Fin k0_t77_loop.trips) : Fin 4 → Nat :=
  let c1_i32_5371 : BitVec 32 := 1#32
  let v3231 : Index := Scalar.indexCast c1_i32_5371
  let c1_i32_5372 : BitVec 32 := 1#32
  let v3232 : Index := Scalar.indexCast c1_i32_5372
  let c0_i32_5325 : BitVec 32 := 0#32
  let c0_i32_4296 : BitVec 32 := 0#32
  let c1_i32_4298 : BitVec 32 := 1#32
  let arg17 : BitVec 32 := Scf.iv c0_i32_4296 c1_i32_4298 k0_t77
  let c1_i32_5324 : BitVec 32 := 1#32
  let v3152 : BitVec 32 := Scalar.muli arg17 c1_i32_5324
  let v3153 : BitVec 32 := Scalar.addi c0_i32_5325 v3152
  let v3233 : Index := Scalar.indexCast v3153
  let c32_5373 : Index := 32#32
  ![1, 1, v3233.toNat, 32]
def k0_off668 (k0_t77 : Fin k0_t77_loop.trips) : Fin 4 → Nat :=
  let c1_i32_5374 : BitVec 32 := 1#32
  let v3237 : Index := Scalar.indexCast c1_i32_5374
  let c1_i32_5375 : BitVec 32 := 1#32
  let v3238 : Index := Scalar.indexCast c1_i32_5375
  let c0_i32_5325 : BitVec 32 := 0#32
  let c0_i32_4296 : BitVec 32 := 0#32
  let c1_i32_4298 : BitVec 32 := 1#32
  let arg17 : BitVec 32 := Scf.iv c0_i32_4296 c1_i32_4298 k0_t77
  let c1_i32_5324 : BitVec 32 := 1#32
  let v3152 : BitVec 32 := Scalar.muli arg17 c1_i32_5324
  let v3153 : BitVec 32 := Scalar.addi c0_i32_5325 v3152
  let v3239 : Index := Scalar.indexCast v3153
  let c48_5376 : Index := 48#32
  ![1, 1, v3239.toNat, 48]
def k0_off669 (i : grid0.Coords) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c15_i32_4301 : BitVec 32 := 15#32
  let c0_i32_4302 : BitVec 32 := 0#32
  let c0_i32_4306 : BitVec 32 := 0#32
  let c0_i32_4307 : BitVec 32 := 0#32
  ![v2.toNat, 15, 0, 0, 0]
@[reducible] def k0_t78_loop : Scf.Loop 32 :=
  let c0_i32_4352 : BitVec 32 := 0#32
  let c64_i32_4353 : BitVec 32 := 64#32
  let v2582 : BitVec 32 := Scalar.addi c0_i32_4352 c64_i32_4353
  let c1_i32_4354 : BitVec 32 := 1#32
  ⟨c0_i32_4352, v2582, c1_i32_4354⟩
def k0_off670 (k0_t78 : Fin k0_t78_loop.trips) : Fin 4 → Nat :=
  let c2_i32_5341 : BitVec 32 := 2#32
  let v3175 : Index := Scalar.indexCast c2_i32_5341
  let c0_i32_5342 : BitVec 32 := 0#32
  let v3176 : Index := Scalar.indexCast c0_i32_5342
  let c0_i32_5325 : BitVec 32 := 0#32
  let c0_i32_4352 : BitVec 32 := 0#32
  let c1_i32_4354 : BitVec 32 := 1#32
  let arg17 : BitVec 32 := Scf.iv c0_i32_4352 c1_i32_4354 k0_t78
  let c1_i32_5324 : BitVec 32 := 1#32
  let v3152 : BitVec 32 := Scalar.muli arg17 c1_i32_5324
  let v3153 : BitVec 32 := Scalar.addi c0_i32_5325 v3152
  let v3177 : Index := Scalar.indexCast v3153
  let c0 : Index := 0#32
  ![2, 0, v3177.toNat, 0]
def k0_off671 (k0_t78 : Fin k0_t78_loop.trips) : Fin 4 → Nat :=
  let c2_i32_5343 : BitVec 32 := 2#32
  let v3181 : Index := Scalar.indexCast c2_i32_5343
  let c0_i32_5344 : BitVec 32 := 0#32
  let v3182 : Index := Scalar.indexCast c0_i32_5344
  let c0_i32_5325 : BitVec 32 := 0#32
  let c0_i32_4352 : BitVec 32 := 0#32
  let c1_i32_4354 : BitVec 32 := 1#32
  let arg17 : BitVec 32 := Scf.iv c0_i32_4352 c1_i32_4354 k0_t78
  let c1_i32_5324 : BitVec 32 := 1#32
  let v3152 : BitVec 32 := Scalar.muli arg17 c1_i32_5324
  let v3153 : BitVec 32 := Scalar.addi c0_i32_5325 v3152
  let v3183 : Index := Scalar.indexCast v3153
  let c16 : Index := 16#32
  ![2, 0, v3183.toNat, 16]
def k0_off672 (k0_t78 : Fin k0_t78_loop.trips) : Fin 4 → Nat :=
  let c2_i32_5345 : BitVec 32 := 2#32
  let v3187 : Index := Scalar.indexCast c2_i32_5345
  let c0_i32_5346 : BitVec 32 := 0#32
  let v3188 : Index := Scalar.indexCast c0_i32_5346
  let c0_i32_5325 : BitVec 32 := 0#32
  let c0_i32_4352 : BitVec 32 := 0#32
  let c1_i32_4354 : BitVec 32 := 1#32
  let arg17 : BitVec 32 := Scf.iv c0_i32_4352 c1_i32_4354 k0_t78
  let c1_i32_5324 : BitVec 32 := 1#32
  let v3152 : BitVec 32 := Scalar.muli arg17 c1_i32_5324
  let v3153 : BitVec 32 := Scalar.addi c0_i32_5325 v3152
  let v3189 : Index := Scalar.indexCast v3153
  let c32 : Index := 32#32
  ![2, 0, v3189.toNat, 32]
def k0_off673 (k0_t78 : Fin k0_t78_loop.trips) : Fin 4 → Nat :=
  let c2_i32_5347 : BitVec 32 := 2#32
  let v3193 : Index := Scalar.indexCast c2_i32_5347
  let c0_i32_5348 : BitVec 32 := 0#32
  let v3194 : Index := Scalar.indexCast c0_i32_5348
  let c0_i32_5325 : BitVec 32 := 0#32
  let c0_i32_4352 : BitVec 32 := 0#32
  let c1_i32_4354 : BitVec 32 := 1#32
  let arg17 : BitVec 32 := Scf.iv c0_i32_4352 c1_i32_4354 k0_t78
  let c1_i32_5324 : BitVec 32 := 1#32
  let v3152 : BitVec 32 := Scalar.muli arg17 c1_i32_5324
  let v3153 : BitVec 32 := Scalar.addi c0_i32_5325 v3152
  let v3195 : Index := Scalar.indexCast v3153
  let c48 : Index := 48#32
  ![2, 0, v3195.toNat, 48]

def k0_chk78 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx617_inb : ∀ (v5 : IVec S16 32) (v8 : IVec S16 32) (v11 : IVec S16 32) (v14 : IVec S16 32) (v15 : IVec S16 32) (v16 : IVec S16 32) (v3154 : IVec S16 32) (k0_hw78 : k0_chk78 v5 v8 v11 v14 v15 v16 v3154), ∀ a x, ((![v15, v3154, v14] : Fin 3 → IVec S16 32) a x).toNat < S2x64x64.size a := fun v5 v8 v11 v14 v15 v16 v3154 k0_hw78 => k0_hw78.1
theorem k0_idx618_inb : ∀ (v5 : IVec S16 32) (v8 : IVec S16 32) (v11 : IVec S16 32) (v14 : IVec S16 32) (v15 : IVec S16 32) (v16 : IVec S16 32) (v3154 : IVec S16 32) (k0_hw78 : k0_chk78 v5 v8 v11 v14 v15 v16 v3154), ∀ a x, ((![v15, v3154, v11] : Fin 3 → IVec S16 32) a x).toNat < S2x64x64.size a := fun v5 v8 v11 v14 v15 v16 v3154 k0_hw78 => k0_hw78.2.1
theorem k0_idx619_inb : ∀ (v5 : IVec S16 32) (v8 : IVec S16 32) (v11 : IVec S16 32) (v14 : IVec S16 32) (v15 : IVec S16 32) (v16 : IVec S16 32) (v3154 : IVec S16 32) (k0_hw78 : k0_chk78 v5 v8 v11 v14 v15 v16 v3154), ∀ a x, ((![v15, v3154, v8] : Fin 3 → IVec S16 32) a x).toNat < S2x64x64.size a := fun v5 v8 v11 v14 v15 v16 v3154 k0_hw78 => k0_hw78.2.2.1
theorem k0_idx620_inb : ∀ (v5 : IVec S16 32) (v8 : IVec S16 32) (v11 : IVec S16 32) (v14 : IVec S16 32) (v15 : IVec S16 32) (v16 : IVec S16 32) (v3154 : IVec S16 32) (k0_hw78 : k0_chk78 v5 v8 v11 v14 v15 v16 v3154), ∀ a x, ((![v15, v3154, v5] : Fin 3 → IVec S16 32) a x).toNat < S2x64x64.size a := fun v5 v8 v11 v14 v15 v16 v3154 k0_hw78 => k0_hw78.2.2.2.1
theorem k0_idx621_inb : ∀ (v5 : IVec S16 32) (v8 : IVec S16 32) (v11 : IVec S16 32) (v14 : IVec S16 32) (v15 : IVec S16 32) (v16 : IVec S16 32) (v3154 : IVec S16 32) (k0_hw78 : k0_chk78 v5 v8 v11 v14 v15 v16 v3154), ∀ a x, ((![v16, v3154, v14] : Fin 3 → IVec S16 32) a x).toNat < S2x64x64.size a := fun v5 v8 v11 v14 v15 v16 v3154 k0_hw78 => k0_hw78.2.2.2.2.1
theorem k0_idx622_inb : ∀ (v5 : IVec S16 32) (v8 : IVec S16 32) (v11 : IVec S16 32) (v14 : IVec S16 32) (v15 : IVec S16 32) (v16 : IVec S16 32) (v3154 : IVec S16 32) (k0_hw78 : k0_chk78 v5 v8 v11 v14 v15 v16 v3154), ∀ a x, ((![v16, v3154, v11] : Fin 3 → IVec S16 32) a x).toNat < S2x64x64.size a := fun v5 v8 v11 v14 v15 v16 v3154 k0_hw78 => k0_hw78.2.2.2.2.2.1
theorem k0_idx623_inb : ∀ (v5 : IVec S16 32) (v8 : IVec S16 32) (v11 : IVec S16 32) (v14 : IVec S16 32) (v15 : IVec S16 32) (v16 : IVec S16 32) (v3154 : IVec S16 32) (k0_hw78 : k0_chk78 v5 v8 v11 v14 v15 v16 v3154), ∀ a x, ((![v16, v3154, v8] : Fin 3 → IVec S16 32) a x).toNat < S2x64x64.size a := fun v5 v8 v11 v14 v15 v16 v3154 k0_hw78 => k0_hw78.2.2.2.2.2.2.1
theorem k0_idx624_inb : ∀ (v5 : IVec S16 32) (v8 : IVec S16 32) (v11 : IVec S16 32) (v14 : IVec S16 32) (v15 : IVec S16 32) (v16 : IVec S16 32) (v3154 : IVec S16 32) (k0_hw78 : k0_chk78 v5 v8 v11 v14 v15 v16 v3154), ∀ a x, ((![v16, v3154, v5] : Fin 3 → IVec S16 32) a x).toNat < S2x64x64.size a := fun v5 v8 v11 v14 v15 v16 v3154 k0_hw78 => k0_hw78.2.2.2.2.2.2.2
def k0_off674 (k0_t78 : Fin k0_t78_loop.trips) : Fin 4 → Nat :=
  let c2_i32_5365 : BitVec 32 := 2#32
  let v3219 : Index := Scalar.indexCast c2_i32_5365
  let c1_i32_5366 : BitVec 32 := 1#32
  let v3220 : Index := Scalar.indexCast c1_i32_5366
  let c0_i32_5325 : BitVec 32 := 0#32
  let c0_i32_4352 : BitVec 32 := 0#32
  let c1_i32_4354 : BitVec 32 := 1#32
  let arg17 : BitVec 32 := Scf.iv c0_i32_4352 c1_i32_4354 k0_t78
  let c1_i32_5324 : BitVec 32 := 1#32
  let v3152 : BitVec 32 := Scalar.muli arg17 c1_i32_5324
  let v3153 : BitVec 32 := Scalar.addi c0_i32_5325 v3152
  let v3221 : Index := Scalar.indexCast v3153
  let c0_5367 : Index := 0#32
  ![2, 1, v3221.toNat, 0]
def k0_off675 (k0_t78 : Fin k0_t78_loop.trips) : Fin 4 → Nat :=
  let c2_i32_5368 : BitVec 32 := 2#32
  let v3225 : Index := Scalar.indexCast c2_i32_5368
  let c1_i32_5369 : BitVec 32 := 1#32
  let v3226 : Index := Scalar.indexCast c1_i32_5369
  let c0_i32_5325 : BitVec 32 := 0#32
  let c0_i32_4352 : BitVec 32 := 0#32
  let c1_i32_4354 : BitVec 32 := 1#32
  let arg17 : BitVec 32 := Scf.iv c0_i32_4352 c1_i32_4354 k0_t78
  let c1_i32_5324 : BitVec 32 := 1#32
  let v3152 : BitVec 32 := Scalar.muli arg17 c1_i32_5324
  let v3153 : BitVec 32 := Scalar.addi c0_i32_5325 v3152
  let v3227 : Index := Scalar.indexCast v3153
  let c16_5370 : Index := 16#32
  ![2, 1, v3227.toNat, 16]
def k0_off676 (k0_t78 : Fin k0_t78_loop.trips) : Fin 4 → Nat :=
  let c2_i32_5371 : BitVec 32 := 2#32
  let v3231 : Index := Scalar.indexCast c2_i32_5371
  let c1_i32_5372 : BitVec 32 := 1#32
  let v3232 : Index := Scalar.indexCast c1_i32_5372
  let c0_i32_5325 : BitVec 32 := 0#32
  let c0_i32_4352 : BitVec 32 := 0#32
  let c1_i32_4354 : BitVec 32 := 1#32
  let arg17 : BitVec 32 := Scf.iv c0_i32_4352 c1_i32_4354 k0_t78
  let c1_i32_5324 : BitVec 32 := 1#32
  let v3152 : BitVec 32 := Scalar.muli arg17 c1_i32_5324
  let v3153 : BitVec 32 := Scalar.addi c0_i32_5325 v3152
  let v3233 : Index := Scalar.indexCast v3153
  let c32_5373 : Index := 32#32
  ![2, 1, v3233.toNat, 32]
def k0_off677 (k0_t78 : Fin k0_t78_loop.trips) : Fin 4 → Nat :=
  let c2_i32_5374 : BitVec 32 := 2#32
  let v3237 : Index := Scalar.indexCast c2_i32_5374
  let c1_i32_5375 : BitVec 32 := 1#32
  let v3238 : Index := Scalar.indexCast c1_i32_5375
  let c0_i32_5325 : BitVec 32 := 0#32
  let c0_i32_4352 : BitVec 32 := 0#32
  let c1_i32_4354 : BitVec 32 := 1#32
  let arg17 : BitVec 32 := Scf.iv c0_i32_4352 c1_i32_4354 k0_t78
  let c1_i32_5324 : BitVec 32 := 1#32
  let v3152 : BitVec 32 := Scalar.muli arg17 c1_i32_5324
  let v3153 : BitVec 32 := Scalar.addi c0_i32_5325 v3152
  let v3239 : Index := Scalar.indexCast v3153
  let c48_5376 : Index := 48#32
  ![2, 1, v3239.toNat, 48]
@[reducible] def k0_t79_loop : Scf.Loop 32 :=
  let c0_i32_4408 : BitVec 32 := 0#32
  let c64_i32_4409 : BitVec 32 := 64#32
  let v2615 : BitVec 32 := Scalar.addi c0_i32_4408 c64_i32_4409
  let c1_i32_4410 : BitVec 32 := 1#32
  ⟨c0_i32_4408, v2615, c1_i32_4410⟩
def k0_off678 (k0_t79 : Fin k0_t79_loop.trips) : Fin 4 → Nat :=
  let c0_i32_5338 : BitVec 32 := 0#32
  let v3167 : Index := Scalar.indexCast c0_i32_5338
  let c0_i32_5339 : BitVec 32 := 0#32
  let v3168 : Index := Scalar.indexCast c0_i32_5339
  let c0_i32_5325 : BitVec 32 := 0#32
  let c0_i32_4408 : BitVec 32 := 0#32
  let c1_i32_4410 : BitVec 32 := 1#32
  let arg17 : BitVec 32 := Scf.iv c0_i32_4408 c1_i32_4410 k0_t79
  let c1_i32_5324 : BitVec 32 := 1#32
  let v3152 : BitVec 32 := Scalar.muli arg17 c1_i32_5324
  let v3153 : BitVec 32 := Scalar.addi c0_i32_5325 v3152
  let v3169 : Index := Scalar.indexCast v3153
  let c0 : Index := 0#32
  ![0, 0, v3169.toNat, 0]
def k0_off679 (k0_t79 : Fin k0_t79_loop.trips) : Fin 4 → Nat :=
  let c0_i32_5340 : BitVec 32 := 0#32
  let v3173 : Index := Scalar.indexCast c0_i32_5340
  let c0_i32_5341 : BitVec 32 := 0#32
  let v3174 : Index := Scalar.indexCast c0_i32_5341
  let c0_i32_5325 : BitVec 32 := 0#32
  let c0_i32_4408 : BitVec 32 := 0#32
  let c1_i32_4410 : BitVec 32 := 1#32
  let arg17 : BitVec 32 := Scf.iv c0_i32_4408 c1_i32_4410 k0_t79
  let c1_i32_5324 : BitVec 32 := 1#32
  let v3152 : BitVec 32 := Scalar.muli arg17 c1_i32_5324
  let v3153 : BitVec 32 := Scalar.addi c0_i32_5325 v3152
  let v3175 : Index := Scalar.indexCast v3153
  let c16 : Index := 16#32
  ![0, 0, v3175.toNat, 16]
def k0_off680 (k0_t79 : Fin k0_t79_loop.trips) : Fin 4 → Nat :=
  let c0_i32_5342 : BitVec 32 := 0#32
  let v3179 : Index := Scalar.indexCast c0_i32_5342
  let c0_i32_5343 : BitVec 32 := 0#32
  let v3180 : Index := Scalar.indexCast c0_i32_5343
  let c0_i32_5325 : BitVec 32 := 0#32
  let c0_i32_4408 : BitVec 32 := 0#32
  let c1_i32_4410 : BitVec 32 := 1#32
  let arg17 : BitVec 32 := Scf.iv c0_i32_4408 c1_i32_4410 k0_t79
  let c1_i32_5324 : BitVec 32 := 1#32
  let v3152 : BitVec 32 := Scalar.muli arg17 c1_i32_5324
  let v3153 : BitVec 32 := Scalar.addi c0_i32_5325 v3152
  let v3181 : Index := Scalar.indexCast v3153
  let c32 : Index := 32#32
  ![0, 0, v3181.toNat, 32]
def k0_off681 (k0_t79 : Fin k0_t79_loop.trips) : Fin 4 → Nat :=
  let c0_i32_5344 : BitVec 32 := 0#32
  let v3185 : Index := Scalar.indexCast c0_i32_5344
  let c0_i32_5345 : BitVec 32 := 0#32
  let v3186 : Index := Scalar.indexCast c0_i32_5345
  let c0_i32_5325 : BitVec 32 := 0#32
  let c0_i32_4408 : BitVec 32 := 0#32
  let c1_i32_4410 : BitVec 32 := 1#32
  let arg17 : BitVec 32 := Scf.iv c0_i32_4408 c1_i32_4410 k0_t79
  let c1_i32_5324 : BitVec 32 := 1#32
  let v3152 : BitVec 32 := Scalar.muli arg17 c1_i32_5324
  let v3153 : BitVec 32 := Scalar.addi c0_i32_5325 v3152
  let v3187 : Index := Scalar.indexCast v3153
  let c48 : Index := 48#32
  ![0, 0, v3187.toNat, 48]

def k0_chk79 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx625_inb : ∀ (v5 : IVec S16 32) (v8 : IVec S16 32) (v11 : IVec S16 32) (v14 : IVec S16 32) (v15 : IVec S16 32) (v16 : IVec S16 32) (v3154 : IVec S16 32) (k0_hw79 : k0_chk79 v5 v8 v11 v14 v15 v16 v3154), ∀ a x, ((![v15, v3154, v14] : Fin 3 → IVec S16 32) a x).toNat < S2x64x64.size a := fun v5 v8 v11 v14 v15 v16 v3154 k0_hw79 => k0_hw79.1
theorem k0_idx626_inb : ∀ (v5 : IVec S16 32) (v8 : IVec S16 32) (v11 : IVec S16 32) (v14 : IVec S16 32) (v15 : IVec S16 32) (v16 : IVec S16 32) (v3154 : IVec S16 32) (k0_hw79 : k0_chk79 v5 v8 v11 v14 v15 v16 v3154), ∀ a x, ((![v15, v3154, v11] : Fin 3 → IVec S16 32) a x).toNat < S2x64x64.size a := fun v5 v8 v11 v14 v15 v16 v3154 k0_hw79 => k0_hw79.2.1
theorem k0_idx627_inb : ∀ (v5 : IVec S16 32) (v8 : IVec S16 32) (v11 : IVec S16 32) (v14 : IVec S16 32) (v15 : IVec S16 32) (v16 : IVec S16 32) (v3154 : IVec S16 32) (k0_hw79 : k0_chk79 v5 v8 v11 v14 v15 v16 v3154), ∀ a x, ((![v15, v3154, v8] : Fin 3 → IVec S16 32) a x).toNat < S2x64x64.size a := fun v5 v8 v11 v14 v15 v16 v3154 k0_hw79 => k0_hw79.2.2.1
theorem k0_idx628_inb : ∀ (v5 : IVec S16 32) (v8 : IVec S16 32) (v11 : IVec S16 32) (v14 : IVec S16 32) (v15 : IVec S16 32) (v16 : IVec S16 32) (v3154 : IVec S16 32) (k0_hw79 : k0_chk79 v5 v8 v11 v14 v15 v16 v3154), ∀ a x, ((![v15, v3154, v5] : Fin 3 → IVec S16 32) a x).toNat < S2x64x64.size a := fun v5 v8 v11 v14 v15 v16 v3154 k0_hw79 => k0_hw79.2.2.2.1
theorem k0_idx629_inb : ∀ (v5 : IVec S16 32) (v8 : IVec S16 32) (v11 : IVec S16 32) (v14 : IVec S16 32) (v15 : IVec S16 32) (v16 : IVec S16 32) (v3154 : IVec S16 32) (k0_hw79 : k0_chk79 v5 v8 v11 v14 v15 v16 v3154), ∀ a x, ((![v16, v3154, v14] : Fin 3 → IVec S16 32) a x).toNat < S2x64x64.size a := fun v5 v8 v11 v14 v15 v16 v3154 k0_hw79 => k0_hw79.2.2.2.2.1
theorem k0_idx630_inb : ∀ (v5 : IVec S16 32) (v8 : IVec S16 32) (v11 : IVec S16 32) (v14 : IVec S16 32) (v15 : IVec S16 32) (v16 : IVec S16 32) (v3154 : IVec S16 32) (k0_hw79 : k0_chk79 v5 v8 v11 v14 v15 v16 v3154), ∀ a x, ((![v16, v3154, v11] : Fin 3 → IVec S16 32) a x).toNat < S2x64x64.size a := fun v5 v8 v11 v14 v15 v16 v3154 k0_hw79 => k0_hw79.2.2.2.2.2.1
theorem k0_idx631_inb : ∀ (v5 : IVec S16 32) (v8 : IVec S16 32) (v11 : IVec S16 32) (v14 : IVec S16 32) (v15 : IVec S16 32) (v16 : IVec S16 32) (v3154 : IVec S16 32) (k0_hw79 : k0_chk79 v5 v8 v11 v14 v15 v16 v3154), ∀ a x, ((![v16, v3154, v8] : Fin 3 → IVec S16 32) a x).toNat < S2x64x64.size a := fun v5 v8 v11 v14 v15 v16 v3154 k0_hw79 => k0_hw79.2.2.2.2.2.2.1
theorem k0_idx632_inb : ∀ (v5 : IVec S16 32) (v8 : IVec S16 32) (v11 : IVec S16 32) (v14 : IVec S16 32) (v15 : IVec S16 32) (v16 : IVec S16 32) (v3154 : IVec S16 32) (k0_hw79 : k0_chk79 v5 v8 v11 v14 v15 v16 v3154), ∀ a x, ((![v16, v3154, v5] : Fin 3 → IVec S16 32) a x).toNat < S2x64x64.size a := fun v5 v8 v11 v14 v15 v16 v3154 k0_hw79 => k0_hw79.2.2.2.2.2.2.2
def k0_off682 (k0_t79 : Fin k0_t79_loop.trips) : Fin 4 → Nat :=
  let c0_i32_5358 : BitVec 32 := 0#32
  let v3203 : Index := Scalar.indexCast c0_i32_5358
  let c1_i32_5359 : BitVec 32 := 1#32
  let v3204 : Index := Scalar.indexCast c1_i32_5359
  let c0_i32_5325 : BitVec 32 := 0#32
  let c0_i32_4408 : BitVec 32 := 0#32
  let c1_i32_4410 : BitVec 32 := 1#32
  let arg17 : BitVec 32 := Scf.iv c0_i32_4408 c1_i32_4410 k0_t79
  let c1_i32_5324 : BitVec 32 := 1#32
  let v3152 : BitVec 32 := Scalar.muli arg17 c1_i32_5324
  let v3153 : BitVec 32 := Scalar.addi c0_i32_5325 v3152
  let v3205 : Index := Scalar.indexCast v3153
  let c0_5360 : Index := 0#32
  ![0, 1, v3205.toNat, 0]
def k0_off683 (k0_t79 : Fin k0_t79_loop.trips) : Fin 4 → Nat :=
  let c0_i32_5361 : BitVec 32 := 0#32
  let v3209 : Index := Scalar.indexCast c0_i32_5361
  let c1_i32_5362 : BitVec 32 := 1#32
  let v3210 : Index := Scalar.indexCast c1_i32_5362
  let c0_i32_5325 : BitVec 32 := 0#32
  let c0_i32_4408 : BitVec 32 := 0#32
  let c1_i32_4410 : BitVec 32 := 1#32
  let arg17 : BitVec 32 := Scf.iv c0_i32_4408 c1_i32_4410 k0_t79
  let c1_i32_5324 : BitVec 32 := 1#32
  let v3152 : BitVec 32 := Scalar.muli arg17 c1_i32_5324
  let v3153 : BitVec 32 := Scalar.addi c0_i32_5325 v3152
  let v3211 : Index := Scalar.indexCast v3153
  let c16_5363 : Index := 16#32
  ![0, 1, v3211.toNat, 16]
def k0_off684 (k0_t79 : Fin k0_t79_loop.trips) : Fin 4 → Nat :=
  let c0_i32_5364 : BitVec 32 := 0#32
  let v3215 : Index := Scalar.indexCast c0_i32_5364
  let c1_i32_5365 : BitVec 32 := 1#32
  let v3216 : Index := Scalar.indexCast c1_i32_5365
  let c0_i32_5325 : BitVec 32 := 0#32
  let c0_i32_4408 : BitVec 32 := 0#32
  let c1_i32_4410 : BitVec 32 := 1#32
  let arg17 : BitVec 32 := Scf.iv c0_i32_4408 c1_i32_4410 k0_t79
  let c1_i32_5324 : BitVec 32 := 1#32
  let v3152 : BitVec 32 := Scalar.muli arg17 c1_i32_5324
  let v3153 : BitVec 32 := Scalar.addi c0_i32_5325 v3152
  let v3217 : Index := Scalar.indexCast v3153
  let c32_5366 : Index := 32#32
  ![0, 1, v3217.toNat, 32]
def k0_off685 (k0_t79 : Fin k0_t79_loop.trips) : Fin 4 → Nat :=
  let c0_i32_5367 : BitVec 32 := 0#32
  let v3221 : Index := Scalar.indexCast c0_i32_5367
  let c1_i32_5368 : BitVec 32 := 1#32
  let v3222 : Index := Scalar.indexCast c1_i32_5368
  let c0_i32_5325 : BitVec 32 := 0#32
  let c0_i32_4408 : BitVec 32 := 0#32
  let c1_i32_4410 : BitVec 32 := 1#32
  let arg17 : BitVec 32 := Scf.iv c0_i32_4408 c1_i32_4410 k0_t79
  let c1_i32_5324 : BitVec 32 := 1#32
  let v3152 : BitVec 32 := Scalar.muli arg17 c1_i32_5324
  let v3153 : BitVec 32 := Scalar.addi c0_i32_5325 v3152
  let v3223 : Index := Scalar.indexCast v3153
  let c48_5369 : Index := 48#32
  ![0, 1, v3223.toNat, 48]
def k0_off686 (i : grid0.Coords) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c15_i32_4413 : BitVec 32 := 15#32
  let c1_i32_4414 : BitVec 32 := 1#32
  let c0_i32_4418 : BitVec 32 := 0#32
  let c0_i32_4419 : BitVec 32 := 0#32
  ![v2.toNat, 15, 1, 0, 0]
@[reducible] def k0_t80_loop : Scf.Loop 32 :=
  let c0_i32_4465 : BitVec 32 := 0#32
  let c64_i32_4466 : BitVec 32 := 64#32
  let v2648 : BitVec 32 := Scalar.addi c0_i32_4465 c64_i32_4466
  let c1_i32_4467 : BitVec 32 := 1#32
  ⟨c0_i32_4465, v2648, c1_i32_4467⟩
def k0_off687 (k0_t80 : Fin k0_t80_loop.trips) : Fin 4 → Nat :=
  let c1_i32_5338 : BitVec 32 := 1#32
  let v3167 : Index := Scalar.indexCast c1_i32_5338
  let c0_i32_5339 : BitVec 32 := 0#32
  let v3168 : Index := Scalar.indexCast c0_i32_5339
  let c0_i32_5325 : BitVec 32 := 0#32
  let c0_i32_4465 : BitVec 32 := 0#32
  let c1_i32_4467 : BitVec 32 := 1#32
  let arg17 : BitVec 32 := Scf.iv c0_i32_4465 c1_i32_4467 k0_t80
  let c1_i32_5324 : BitVec 32 := 1#32
  let v3152 : BitVec 32 := Scalar.muli arg17 c1_i32_5324
  let v3153 : BitVec 32 := Scalar.addi c0_i32_5325 v3152
  let v3169 : Index := Scalar.indexCast v3153
  let c0 : Index := 0#32
  ![1, 0, v3169.toNat, 0]
def k0_off688 (k0_t80 : Fin k0_t80_loop.trips) : Fin 4 → Nat :=
  let c1_i32_5340 : BitVec 32 := 1#32
  let v3173 : Index := Scalar.indexCast c1_i32_5340
  let c0_i32_5341 : BitVec 32 := 0#32
  let v3174 : Index := Scalar.indexCast c0_i32_5341
  let c0_i32_5325 : BitVec 32 := 0#32
  let c0_i32_4465 : BitVec 32 := 0#32
  let c1_i32_4467 : BitVec 32 := 1#32
  let arg17 : BitVec 32 := Scf.iv c0_i32_4465 c1_i32_4467 k0_t80
  let c1_i32_5324 : BitVec 32 := 1#32
  let v3152 : BitVec 32 := Scalar.muli arg17 c1_i32_5324
  let v3153 : BitVec 32 := Scalar.addi c0_i32_5325 v3152
  let v3175 : Index := Scalar.indexCast v3153
  let c16 : Index := 16#32
  ![1, 0, v3175.toNat, 16]
def k0_off689 (k0_t80 : Fin k0_t80_loop.trips) : Fin 4 → Nat :=
  let c1_i32_5342 : BitVec 32 := 1#32
  let v3179 : Index := Scalar.indexCast c1_i32_5342
  let c0_i32_5343 : BitVec 32 := 0#32
  let v3180 : Index := Scalar.indexCast c0_i32_5343
  let c0_i32_5325 : BitVec 32 := 0#32
  let c0_i32_4465 : BitVec 32 := 0#32
  let c1_i32_4467 : BitVec 32 := 1#32
  let arg17 : BitVec 32 := Scf.iv c0_i32_4465 c1_i32_4467 k0_t80
  let c1_i32_5324 : BitVec 32 := 1#32
  let v3152 : BitVec 32 := Scalar.muli arg17 c1_i32_5324
  let v3153 : BitVec 32 := Scalar.addi c0_i32_5325 v3152
  let v3181 : Index := Scalar.indexCast v3153
  let c32 : Index := 32#32
  ![1, 0, v3181.toNat, 32]
def k0_off690 (k0_t80 : Fin k0_t80_loop.trips) : Fin 4 → Nat :=
  let c1_i32_5344 : BitVec 32 := 1#32
  let v3185 : Index := Scalar.indexCast c1_i32_5344
  let c0_i32_5345 : BitVec 32 := 0#32
  let v3186 : Index := Scalar.indexCast c0_i32_5345
  let c0_i32_5325 : BitVec 32 := 0#32
  let c0_i32_4465 : BitVec 32 := 0#32
  let c1_i32_4467 : BitVec 32 := 1#32
  let arg17 : BitVec 32 := Scf.iv c0_i32_4465 c1_i32_4467 k0_t80
  let c1_i32_5324 : BitVec 32 := 1#32
  let v3152 : BitVec 32 := Scalar.muli arg17 c1_i32_5324
  let v3153 : BitVec 32 := Scalar.addi c0_i32_5325 v3152
  let v3187 : Index := Scalar.indexCast v3153
  let c48 : Index := 48#32
  ![1, 0, v3187.toNat, 48]

def k0_chk80 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx633_inb : ∀ (v5 : IVec S16 32) (v8 : IVec S16 32) (v11 : IVec S16 32) (v14 : IVec S16 32) (v15 : IVec S16 32) (v16 : IVec S16 32) (v3154 : IVec S16 32) (k0_hw80 : k0_chk80 v5 v8 v11 v14 v15 v16 v3154), ∀ a x, ((![v15, v3154, v14] : Fin 3 → IVec S16 32) a x).toNat < S2x64x64.size a := fun v5 v8 v11 v14 v15 v16 v3154 k0_hw80 => k0_hw80.1
theorem k0_idx634_inb : ∀ (v5 : IVec S16 32) (v8 : IVec S16 32) (v11 : IVec S16 32) (v14 : IVec S16 32) (v15 : IVec S16 32) (v16 : IVec S16 32) (v3154 : IVec S16 32) (k0_hw80 : k0_chk80 v5 v8 v11 v14 v15 v16 v3154), ∀ a x, ((![v15, v3154, v11] : Fin 3 → IVec S16 32) a x).toNat < S2x64x64.size a := fun v5 v8 v11 v14 v15 v16 v3154 k0_hw80 => k0_hw80.2.1
theorem k0_idx635_inb : ∀ (v5 : IVec S16 32) (v8 : IVec S16 32) (v11 : IVec S16 32) (v14 : IVec S16 32) (v15 : IVec S16 32) (v16 : IVec S16 32) (v3154 : IVec S16 32) (k0_hw80 : k0_chk80 v5 v8 v11 v14 v15 v16 v3154), ∀ a x, ((![v15, v3154, v8] : Fin 3 → IVec S16 32) a x).toNat < S2x64x64.size a := fun v5 v8 v11 v14 v15 v16 v3154 k0_hw80 => k0_hw80.2.2.1
theorem k0_idx636_inb : ∀ (v5 : IVec S16 32) (v8 : IVec S16 32) (v11 : IVec S16 32) (v14 : IVec S16 32) (v15 : IVec S16 32) (v16 : IVec S16 32) (v3154 : IVec S16 32) (k0_hw80 : k0_chk80 v5 v8 v11 v14 v15 v16 v3154), ∀ a x, ((![v15, v3154, v5] : Fin 3 → IVec S16 32) a x).toNat < S2x64x64.size a := fun v5 v8 v11 v14 v15 v16 v3154 k0_hw80 => k0_hw80.2.2.2.1
theorem k0_idx637_inb : ∀ (v5 : IVec S16 32) (v8 : IVec S16 32) (v11 : IVec S16 32) (v14 : IVec S16 32) (v15 : IVec S16 32) (v16 : IVec S16 32) (v3154 : IVec S16 32) (k0_hw80 : k0_chk80 v5 v8 v11 v14 v15 v16 v3154), ∀ a x, ((![v16, v3154, v14] : Fin 3 → IVec S16 32) a x).toNat < S2x64x64.size a := fun v5 v8 v11 v14 v15 v16 v3154 k0_hw80 => k0_hw80.2.2.2.2.1
theorem k0_idx638_inb : ∀ (v5 : IVec S16 32) (v8 : IVec S16 32) (v11 : IVec S16 32) (v14 : IVec S16 32) (v15 : IVec S16 32) (v16 : IVec S16 32) (v3154 : IVec S16 32) (k0_hw80 : k0_chk80 v5 v8 v11 v14 v15 v16 v3154), ∀ a x, ((![v16, v3154, v11] : Fin 3 → IVec S16 32) a x).toNat < S2x64x64.size a := fun v5 v8 v11 v14 v15 v16 v3154 k0_hw80 => k0_hw80.2.2.2.2.2.1
theorem k0_idx639_inb : ∀ (v5 : IVec S16 32) (v8 : IVec S16 32) (v11 : IVec S16 32) (v14 : IVec S16 32) (v15 : IVec S16 32) (v16 : IVec S16 32) (v3154 : IVec S16 32) (k0_hw80 : k0_chk80 v5 v8 v11 v14 v15 v16 v3154), ∀ a x, ((![v16, v3154, v8] : Fin 3 → IVec S16 32) a x).toNat < S2x64x64.size a := fun v5 v8 v11 v14 v15 v16 v3154 k0_hw80 => k0_hw80.2.2.2.2.2.2.1
theorem k0_idx640_inb : ∀ (v5 : IVec S16 32) (v8 : IVec S16 32) (v11 : IVec S16 32) (v14 : IVec S16 32) (v15 : IVec S16 32) (v16 : IVec S16 32) (v3154 : IVec S16 32) (k0_hw80 : k0_chk80 v5 v8 v11 v14 v15 v16 v3154), ∀ a x, ((![v16, v3154, v5] : Fin 3 → IVec S16 32) a x).toNat < S2x64x64.size a := fun v5 v8 v11 v14 v15 v16 v3154 k0_hw80 => k0_hw80.2.2.2.2.2.2.2
def k0_off691 (k0_t80 : Fin k0_t80_loop.trips) : Fin 4 → Nat :=
  let c1_i32_5358 : BitVec 32 := 1#32
  let v3203 : Index := Scalar.indexCast c1_i32_5358
  let c1_i32_5359 : BitVec 32 := 1#32
  let v3204 : Index := Scalar.indexCast c1_i32_5359
  let c0_i32_5325 : BitVec 32 := 0#32
  let c0_i32_4465 : BitVec 32 := 0#32
  let c1_i32_4467 : BitVec 32 := 1#32
  let arg17 : BitVec 32 := Scf.iv c0_i32_4465 c1_i32_4467 k0_t80
  let c1_i32_5324 : BitVec 32 := 1#32
  let v3152 : BitVec 32 := Scalar.muli arg17 c1_i32_5324
  let v3153 : BitVec 32 := Scalar.addi c0_i32_5325 v3152
  let v3205 : Index := Scalar.indexCast v3153
  let c0_5360 : Index := 0#32
  ![1, 1, v3205.toNat, 0]
def k0_off692 (k0_t80 : Fin k0_t80_loop.trips) : Fin 4 → Nat :=
  let c1_i32_5361 : BitVec 32 := 1#32
  let v3209 : Index := Scalar.indexCast c1_i32_5361
  let c1_i32_5362 : BitVec 32 := 1#32
  let v3210 : Index := Scalar.indexCast c1_i32_5362
  let c0_i32_5325 : BitVec 32 := 0#32
  let c0_i32_4465 : BitVec 32 := 0#32
  let c1_i32_4467 : BitVec 32 := 1#32
  let arg17 : BitVec 32 := Scf.iv c0_i32_4465 c1_i32_4467 k0_t80
  let c1_i32_5324 : BitVec 32 := 1#32
  let v3152 : BitVec 32 := Scalar.muli arg17 c1_i32_5324
  let v3153 : BitVec 32 := Scalar.addi c0_i32_5325 v3152
  let v3211 : Index := Scalar.indexCast v3153
  let c16_5363 : Index := 16#32
  ![1, 1, v3211.toNat, 16]
def k0_off693 (k0_t80 : Fin k0_t80_loop.trips) : Fin 4 → Nat :=
  let c1_i32_5364 : BitVec 32 := 1#32
  let v3215 : Index := Scalar.indexCast c1_i32_5364
  let c1_i32_5365 : BitVec 32 := 1#32
  let v3216 : Index := Scalar.indexCast c1_i32_5365
  let c0_i32_5325 : BitVec 32 := 0#32
  let c0_i32_4465 : BitVec 32 := 0#32
  let c1_i32_4467 : BitVec 32 := 1#32
  let arg17 : BitVec 32 := Scf.iv c0_i32_4465 c1_i32_4467 k0_t80
  let c1_i32_5324 : BitVec 32 := 1#32
  let v3152 : BitVec 32 := Scalar.muli arg17 c1_i32_5324
  let v3153 : BitVec 32 := Scalar.addi c0_i32_5325 v3152
  let v3217 : Index := Scalar.indexCast v3153
  let c32_5366 : Index := 32#32
  ![1, 1, v3217.toNat, 32]
def k0_off694 (k0_t80 : Fin k0_t80_loop.trips) : Fin 4 → Nat :=
  let c1_i32_5367 : BitVec 32 := 1#32
  let v3221 : Index := Scalar.indexCast c1_i32_5367
  let c1_i32_5368 : BitVec 32 := 1#32
  let v3222 : Index := Scalar.indexCast c1_i32_5368
  let c0_i32_5325 : BitVec 32 := 0#32
  let c0_i32_4465 : BitVec 32 := 0#32
  let c1_i32_4467 : BitVec 32 := 1#32
  let arg17 : BitVec 32 := Scf.iv c0_i32_4465 c1_i32_4467 k0_t80
  let c1_i32_5324 : BitVec 32 := 1#32
  let v3152 : BitVec 32 := Scalar.muli arg17 c1_i32_5324
  let v3153 : BitVec 32 := Scalar.addi c0_i32_5325 v3152
  let v3223 : Index := Scalar.indexCast v3153
  let c48_5369 : Index := 48#32
  ![1, 1, v3223.toNat, 48]
@[reducible] def k0_t81_loop : Scf.Loop 32 :=
  let c0_i32_4521 : BitVec 32 := 0#32
  let c64_i32_4522 : BitVec 32 := 64#32
  let v2681 : BitVec 32 := Scalar.addi c0_i32_4521 c64_i32_4522
  let c1_i32_4523 : BitVec 32 := 1#32
  ⟨c0_i32_4521, v2681, c1_i32_4523⟩
def k0_off695 (k0_t81 : Fin k0_t81_loop.trips) : Fin 4 → Nat :=
  let c2_i32_5338 : BitVec 32 := 2#32
  let v3167 : Index := Scalar.indexCast c2_i32_5338
  let c0_i32_5339 : BitVec 32 := 0#32
  let v3168 : Index := Scalar.indexCast c0_i32_5339
  let c0_i32_5325 : BitVec 32 := 0#32
  let c0_i32_4521 : BitVec 32 := 0#32
  let c1_i32_4523 : BitVec 32 := 1#32
  let arg17 : BitVec 32 := Scf.iv c0_i32_4521 c1_i32_4523 k0_t81
  let c1_i32_5324 : BitVec 32 := 1#32
  let v3152 : BitVec 32 := Scalar.muli arg17 c1_i32_5324
  let v3153 : BitVec 32 := Scalar.addi c0_i32_5325 v3152
  let v3169 : Index := Scalar.indexCast v3153
  let c0 : Index := 0#32
  ![2, 0, v3169.toNat, 0]
def k0_off696 (k0_t81 : Fin k0_t81_loop.trips) : Fin 4 → Nat :=
  let c2_i32_5340 : BitVec 32 := 2#32
  let v3173 : Index := Scalar.indexCast c2_i32_5340
  let c0_i32_5341 : BitVec 32 := 0#32
  let v3174 : Index := Scalar.indexCast c0_i32_5341
  let c0_i32_5325 : BitVec 32 := 0#32
  let c0_i32_4521 : BitVec 32 := 0#32
  let c1_i32_4523 : BitVec 32 := 1#32
  let arg17 : BitVec 32 := Scf.iv c0_i32_4521 c1_i32_4523 k0_t81
  let c1_i32_5324 : BitVec 32 := 1#32
  let v3152 : BitVec 32 := Scalar.muli arg17 c1_i32_5324
  let v3153 : BitVec 32 := Scalar.addi c0_i32_5325 v3152
  let v3175 : Index := Scalar.indexCast v3153
  let c16 : Index := 16#32
  ![2, 0, v3175.toNat, 16]
def k0_off697 (k0_t81 : Fin k0_t81_loop.trips) : Fin 4 → Nat :=
  let c2_i32_5342 : BitVec 32 := 2#32
  let v3179 : Index := Scalar.indexCast c2_i32_5342
  let c0_i32_5343 : BitVec 32 := 0#32
  let v3180 : Index := Scalar.indexCast c0_i32_5343
  let c0_i32_5325 : BitVec 32 := 0#32
  let c0_i32_4521 : BitVec 32 := 0#32
  let c1_i32_4523 : BitVec 32 := 1#32
  let arg17 : BitVec 32 := Scf.iv c0_i32_4521 c1_i32_4523 k0_t81
  let c1_i32_5324 : BitVec 32 := 1#32
  let v3152 : BitVec 32 := Scalar.muli arg17 c1_i32_5324
  let v3153 : BitVec 32 := Scalar.addi c0_i32_5325 v3152
  let v3181 : Index := Scalar.indexCast v3153
  let c32 : Index := 32#32
  ![2, 0, v3181.toNat, 32]
def k0_off698 (k0_t81 : Fin k0_t81_loop.trips) : Fin 4 → Nat :=
  let c2_i32_5344 : BitVec 32 := 2#32
  let v3185 : Index := Scalar.indexCast c2_i32_5344
  let c0_i32_5345 : BitVec 32 := 0#32
  let v3186 : Index := Scalar.indexCast c0_i32_5345
  let c0_i32_5325 : BitVec 32 := 0#32
  let c0_i32_4521 : BitVec 32 := 0#32
  let c1_i32_4523 : BitVec 32 := 1#32
  let arg17 : BitVec 32 := Scf.iv c0_i32_4521 c1_i32_4523 k0_t81
  let c1_i32_5324 : BitVec 32 := 1#32
  let v3152 : BitVec 32 := Scalar.muli arg17 c1_i32_5324
  let v3153 : BitVec 32 := Scalar.addi c0_i32_5325 v3152
  let v3187 : Index := Scalar.indexCast v3153
  let c48 : Index := 48#32
  ![2, 0, v3187.toNat, 48]

def k0_chk81 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx641_inb : ∀ (v5 : IVec S16 32) (v8 : IVec S16 32) (v11 : IVec S16 32) (v14 : IVec S16 32) (v15 : IVec S16 32) (v16 : IVec S16 32) (v3154 : IVec S16 32) (k0_hw81 : k0_chk81 v5 v8 v11 v14 v15 v16 v3154), ∀ a x, ((![v15, v3154, v14] : Fin 3 → IVec S16 32) a x).toNat < S2x64x64.size a := fun v5 v8 v11 v14 v15 v16 v3154 k0_hw81 => k0_hw81.1
theorem k0_idx642_inb : ∀ (v5 : IVec S16 32) (v8 : IVec S16 32) (v11 : IVec S16 32) (v14 : IVec S16 32) (v15 : IVec S16 32) (v16 : IVec S16 32) (v3154 : IVec S16 32) (k0_hw81 : k0_chk81 v5 v8 v11 v14 v15 v16 v3154), ∀ a x, ((![v15, v3154, v11] : Fin 3 → IVec S16 32) a x).toNat < S2x64x64.size a := fun v5 v8 v11 v14 v15 v16 v3154 k0_hw81 => k0_hw81.2.1
theorem k0_idx643_inb : ∀ (v5 : IVec S16 32) (v8 : IVec S16 32) (v11 : IVec S16 32) (v14 : IVec S16 32) (v15 : IVec S16 32) (v16 : IVec S16 32) (v3154 : IVec S16 32) (k0_hw81 : k0_chk81 v5 v8 v11 v14 v15 v16 v3154), ∀ a x, ((![v15, v3154, v8] : Fin 3 → IVec S16 32) a x).toNat < S2x64x64.size a := fun v5 v8 v11 v14 v15 v16 v3154 k0_hw81 => k0_hw81.2.2.1
theorem k0_idx644_inb : ∀ (v5 : IVec S16 32) (v8 : IVec S16 32) (v11 : IVec S16 32) (v14 : IVec S16 32) (v15 : IVec S16 32) (v16 : IVec S16 32) (v3154 : IVec S16 32) (k0_hw81 : k0_chk81 v5 v8 v11 v14 v15 v16 v3154), ∀ a x, ((![v15, v3154, v5] : Fin 3 → IVec S16 32) a x).toNat < S2x64x64.size a := fun v5 v8 v11 v14 v15 v16 v3154 k0_hw81 => k0_hw81.2.2.2.1
theorem k0_idx645_inb : ∀ (v5 : IVec S16 32) (v8 : IVec S16 32) (v11 : IVec S16 32) (v14 : IVec S16 32) (v15 : IVec S16 32) (v16 : IVec S16 32) (v3154 : IVec S16 32) (k0_hw81 : k0_chk81 v5 v8 v11 v14 v15 v16 v3154), ∀ a x, ((![v16, v3154, v14] : Fin 3 → IVec S16 32) a x).toNat < S2x64x64.size a := fun v5 v8 v11 v14 v15 v16 v3154 k0_hw81 => k0_hw81.2.2.2.2.1
theorem k0_idx646_inb : ∀ (v5 : IVec S16 32) (v8 : IVec S16 32) (v11 : IVec S16 32) (v14 : IVec S16 32) (v15 : IVec S16 32) (v16 : IVec S16 32) (v3154 : IVec S16 32) (k0_hw81 : k0_chk81 v5 v8 v11 v14 v15 v16 v3154), ∀ a x, ((![v16, v3154, v11] : Fin 3 → IVec S16 32) a x).toNat < S2x64x64.size a := fun v5 v8 v11 v14 v15 v16 v3154 k0_hw81 => k0_hw81.2.2.2.2.2.1
theorem k0_idx647_inb : ∀ (v5 : IVec S16 32) (v8 : IVec S16 32) (v11 : IVec S16 32) (v14 : IVec S16 32) (v15 : IVec S16 32) (v16 : IVec S16 32) (v3154 : IVec S16 32) (k0_hw81 : k0_chk81 v5 v8 v11 v14 v15 v16 v3154), ∀ a x, ((![v16, v3154, v8] : Fin 3 → IVec S16 32) a x).toNat < S2x64x64.size a := fun v5 v8 v11 v14 v15 v16 v3154 k0_hw81 => k0_hw81.2.2.2.2.2.2.1
theorem k0_idx648_inb : ∀ (v5 : IVec S16 32) (v8 : IVec S16 32) (v11 : IVec S16 32) (v14 : IVec S16 32) (v15 : IVec S16 32) (v16 : IVec S16 32) (v3154 : IVec S16 32) (k0_hw81 : k0_chk81 v5 v8 v11 v14 v15 v16 v3154), ∀ a x, ((![v16, v3154, v5] : Fin 3 → IVec S16 32) a x).toNat < S2x64x64.size a := fun v5 v8 v11 v14 v15 v16 v3154 k0_hw81 => k0_hw81.2.2.2.2.2.2.2
def k0_off699 (k0_t81 : Fin k0_t81_loop.trips) : Fin 4 → Nat :=
  let c2_i32_5358 : BitVec 32 := 2#32
  let v3203 : Index := Scalar.indexCast c2_i32_5358
  let c1_i32_5359 : BitVec 32 := 1#32
  let v3204 : Index := Scalar.indexCast c1_i32_5359
  let c0_i32_5325 : BitVec 32 := 0#32
  let c0_i32_4521 : BitVec 32 := 0#32
  let c1_i32_4523 : BitVec 32 := 1#32
  let arg17 : BitVec 32 := Scf.iv c0_i32_4521 c1_i32_4523 k0_t81
  let c1_i32_5324 : BitVec 32 := 1#32
  let v3152 : BitVec 32 := Scalar.muli arg17 c1_i32_5324
  let v3153 : BitVec 32 := Scalar.addi c0_i32_5325 v3152
  let v3205 : Index := Scalar.indexCast v3153
  let c0_5360 : Index := 0#32
  ![2, 1, v3205.toNat, 0]
def k0_off700 (k0_t81 : Fin k0_t81_loop.trips) : Fin 4 → Nat :=
  let c2_i32_5361 : BitVec 32 := 2#32
  let v3209 : Index := Scalar.indexCast c2_i32_5361
  let c1_i32_5362 : BitVec 32 := 1#32
  let v3210 : Index := Scalar.indexCast c1_i32_5362
  let c0_i32_5325 : BitVec 32 := 0#32
  let c0_i32_4521 : BitVec 32 := 0#32
  let c1_i32_4523 : BitVec 32 := 1#32
  let arg17 : BitVec 32 := Scf.iv c0_i32_4521 c1_i32_4523 k0_t81
  let c1_i32_5324 : BitVec 32 := 1#32
  let v3152 : BitVec 32 := Scalar.muli arg17 c1_i32_5324
  let v3153 : BitVec 32 := Scalar.addi c0_i32_5325 v3152
  let v3211 : Index := Scalar.indexCast v3153
  let c16_5363 : Index := 16#32
  ![2, 1, v3211.toNat, 16]
def k0_off701 (k0_t81 : Fin k0_t81_loop.trips) : Fin 4 → Nat :=
  let c2_i32_5364 : BitVec 32 := 2#32
  let v3215 : Index := Scalar.indexCast c2_i32_5364
  let c1_i32_5365 : BitVec 32 := 1#32
  let v3216 : Index := Scalar.indexCast c1_i32_5365
  let c0_i32_5325 : BitVec 32 := 0#32
  let c0_i32_4521 : BitVec 32 := 0#32
  let c1_i32_4523 : BitVec 32 := 1#32
  let arg17 : BitVec 32 := Scf.iv c0_i32_4521 c1_i32_4523 k0_t81
  let c1_i32_5324 : BitVec 32 := 1#32
  let v3152 : BitVec 32 := Scalar.muli arg17 c1_i32_5324
  let v3153 : BitVec 32 := Scalar.addi c0_i32_5325 v3152
  let v3217 : Index := Scalar.indexCast v3153
  let c32_5366 : Index := 32#32
  ![2, 1, v3217.toNat, 32]
def k0_off702 (k0_t81 : Fin k0_t81_loop.trips) : Fin 4 → Nat :=
  let c2_i32_5367 : BitVec 32 := 2#32
  let v3221 : Index := Scalar.indexCast c2_i32_5367
  let c1_i32_5368 : BitVec 32 := 1#32
  let v3222 : Index := Scalar.indexCast c1_i32_5368
  let c0_i32_5325 : BitVec 32 := 0#32
  let c0_i32_4521 : BitVec 32 := 0#32
  let c1_i32_4523 : BitVec 32 := 1#32
  let arg17 : BitVec 32 := Scf.iv c0_i32_4521 c1_i32_4523 k0_t81
  let c1_i32_5324 : BitVec 32 := 1#32
  let v3152 : BitVec 32 := Scalar.muli arg17 c1_i32_5324
  let v3153 : BitVec 32 := Scalar.addi c0_i32_5325 v3152
  let v3223 : Index := Scalar.indexCast v3153
  let c48_5369 : Index := 48#32
  ![2, 1, v3223.toNat, 48]
@[reducible] def k0_t82_loop : Scf.Loop 32 :=
  let c0_i32_4577 : BitVec 32 := 0#32
  let c64_i32_4578 : BitVec 32 := 64#32
  let v2714 : BitVec 32 := Scalar.addi c0_i32_4577 c64_i32_4578
  let c1_i32_4579 : BitVec 32 := 1#32
  ⟨c0_i32_4577, v2714, c1_i32_4579⟩
def k0_off703 (k0_t82 : Fin k0_t82_loop.trips) : Fin 4 → Nat :=
  let c0_i32_5341 : BitVec 32 := 0#32
  let v3175 : Index := Scalar.indexCast c0_i32_5341
  let c0_i32_5342 : BitVec 32 := 0#32
  let v3176 : Index := Scalar.indexCast c0_i32_5342
  let c0_i32_5325 : BitVec 32 := 0#32
  let c0_i32_4577 : BitVec 32 := 0#32
  let c1_i32_4579 : BitVec 32 := 1#32
  let arg17 : BitVec 32 := Scf.iv c0_i32_4577 c1_i32_4579 k0_t82
  let c1_i32_5324 : BitVec 32 := 1#32
  let v3152 : BitVec 32 := Scalar.muli arg17 c1_i32_5324
  let v3153 : BitVec 32 := Scalar.addi c0_i32_5325 v3152
  let v3177 : Index := Scalar.indexCast v3153
  let c0 : Index := 0#32
  ![0, 0, v3177.toNat, 0]
def k0_off704 (k0_t82 : Fin k0_t82_loop.trips) : Fin 4 → Nat :=
  let c0_i32_5343 : BitVec 32 := 0#32
  let v3181 : Index := Scalar.indexCast c0_i32_5343
  let c0_i32_5344 : BitVec 32 := 0#32
  let v3182 : Index := Scalar.indexCast c0_i32_5344
  let c0_i32_5325 : BitVec 32 := 0#32
  let c0_i32_4577 : BitVec 32 := 0#32
  let c1_i32_4579 : BitVec 32 := 1#32
  let arg17 : BitVec 32 := Scf.iv c0_i32_4577 c1_i32_4579 k0_t82
  let c1_i32_5324 : BitVec 32 := 1#32
  let v3152 : BitVec 32 := Scalar.muli arg17 c1_i32_5324
  let v3153 : BitVec 32 := Scalar.addi c0_i32_5325 v3152
  let v3183 : Index := Scalar.indexCast v3153
  let c16 : Index := 16#32
  ![0, 0, v3183.toNat, 16]
def k0_off705 (k0_t82 : Fin k0_t82_loop.trips) : Fin 4 → Nat :=
  let c0_i32_5345 : BitVec 32 := 0#32
  let v3187 : Index := Scalar.indexCast c0_i32_5345
  let c0_i32_5346 : BitVec 32 := 0#32
  let v3188 : Index := Scalar.indexCast c0_i32_5346
  let c0_i32_5325 : BitVec 32 := 0#32
  let c0_i32_4577 : BitVec 32 := 0#32
  let c1_i32_4579 : BitVec 32 := 1#32
  let arg17 : BitVec 32 := Scf.iv c0_i32_4577 c1_i32_4579 k0_t82
  let c1_i32_5324 : BitVec 32 := 1#32
  let v3152 : BitVec 32 := Scalar.muli arg17 c1_i32_5324
  let v3153 : BitVec 32 := Scalar.addi c0_i32_5325 v3152
  let v3189 : Index := Scalar.indexCast v3153
  let c32 : Index := 32#32
  ![0, 0, v3189.toNat, 32]
def k0_off706 (k0_t82 : Fin k0_t82_loop.trips) : Fin 4 → Nat :=
  let c0_i32_5347 : BitVec 32 := 0#32
  let v3193 : Index := Scalar.indexCast c0_i32_5347
  let c0_i32_5348 : BitVec 32 := 0#32
  let v3194 : Index := Scalar.indexCast c0_i32_5348
  let c0_i32_5325 : BitVec 32 := 0#32
  let c0_i32_4577 : BitVec 32 := 0#32
  let c1_i32_4579 : BitVec 32 := 1#32
  let arg17 : BitVec 32 := Scf.iv c0_i32_4577 c1_i32_4579 k0_t82
  let c1_i32_5324 : BitVec 32 := 1#32
  let v3152 : BitVec 32 := Scalar.muli arg17 c1_i32_5324
  let v3153 : BitVec 32 := Scalar.addi c0_i32_5325 v3152
  let v3195 : Index := Scalar.indexCast v3153
  let c48 : Index := 48#32
  ![0, 0, v3195.toNat, 48]

def k0_chk82 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx649_inb : ∀ (v5 : IVec S16 32) (v8 : IVec S16 32) (v11 : IVec S16 32) (v14 : IVec S16 32) (v15 : IVec S16 32) (v16 : IVec S16 32) (v3154 : IVec S16 32) (k0_hw82 : k0_chk82 v5 v8 v11 v14 v15 v16 v3154), ∀ a x, ((![v15, v3154, v14] : Fin 3 → IVec S16 32) a x).toNat < S2x64x64.size a := fun v5 v8 v11 v14 v15 v16 v3154 k0_hw82 => k0_hw82.1
theorem k0_idx650_inb : ∀ (v5 : IVec S16 32) (v8 : IVec S16 32) (v11 : IVec S16 32) (v14 : IVec S16 32) (v15 : IVec S16 32) (v16 : IVec S16 32) (v3154 : IVec S16 32) (k0_hw82 : k0_chk82 v5 v8 v11 v14 v15 v16 v3154), ∀ a x, ((![v15, v3154, v11] : Fin 3 → IVec S16 32) a x).toNat < S2x64x64.size a := fun v5 v8 v11 v14 v15 v16 v3154 k0_hw82 => k0_hw82.2.1
theorem k0_idx651_inb : ∀ (v5 : IVec S16 32) (v8 : IVec S16 32) (v11 : IVec S16 32) (v14 : IVec S16 32) (v15 : IVec S16 32) (v16 : IVec S16 32) (v3154 : IVec S16 32) (k0_hw82 : k0_chk82 v5 v8 v11 v14 v15 v16 v3154), ∀ a x, ((![v15, v3154, v8] : Fin 3 → IVec S16 32) a x).toNat < S2x64x64.size a := fun v5 v8 v11 v14 v15 v16 v3154 k0_hw82 => k0_hw82.2.2.1
theorem k0_idx652_inb : ∀ (v5 : IVec S16 32) (v8 : IVec S16 32) (v11 : IVec S16 32) (v14 : IVec S16 32) (v15 : IVec S16 32) (v16 : IVec S16 32) (v3154 : IVec S16 32) (k0_hw82 : k0_chk82 v5 v8 v11 v14 v15 v16 v3154), ∀ a x, ((![v15, v3154, v5] : Fin 3 → IVec S16 32) a x).toNat < S2x64x64.size a := fun v5 v8 v11 v14 v15 v16 v3154 k0_hw82 => k0_hw82.2.2.2.1
theorem k0_idx653_inb : ∀ (v5 : IVec S16 32) (v8 : IVec S16 32) (v11 : IVec S16 32) (v14 : IVec S16 32) (v15 : IVec S16 32) (v16 : IVec S16 32) (v3154 : IVec S16 32) (k0_hw82 : k0_chk82 v5 v8 v11 v14 v15 v16 v3154), ∀ a x, ((![v16, v3154, v14] : Fin 3 → IVec S16 32) a x).toNat < S2x64x64.size a := fun v5 v8 v11 v14 v15 v16 v3154 k0_hw82 => k0_hw82.2.2.2.2.1
theorem k0_idx654_inb : ∀ (v5 : IVec S16 32) (v8 : IVec S16 32) (v11 : IVec S16 32) (v14 : IVec S16 32) (v15 : IVec S16 32) (v16 : IVec S16 32) (v3154 : IVec S16 32) (k0_hw82 : k0_chk82 v5 v8 v11 v14 v15 v16 v3154), ∀ a x, ((![v16, v3154, v11] : Fin 3 → IVec S16 32) a x).toNat < S2x64x64.size a := fun v5 v8 v11 v14 v15 v16 v3154 k0_hw82 => k0_hw82.2.2.2.2.2.1
theorem k0_idx655_inb : ∀ (v5 : IVec S16 32) (v8 : IVec S16 32) (v11 : IVec S16 32) (v14 : IVec S16 32) (v15 : IVec S16 32) (v16 : IVec S16 32) (v3154 : IVec S16 32) (k0_hw82 : k0_chk82 v5 v8 v11 v14 v15 v16 v3154), ∀ a x, ((![v16, v3154, v8] : Fin 3 → IVec S16 32) a x).toNat < S2x64x64.size a := fun v5 v8 v11 v14 v15 v16 v3154 k0_hw82 => k0_hw82.2.2.2.2.2.2.1
theorem k0_idx656_inb : ∀ (v5 : IVec S16 32) (v8 : IVec S16 32) (v11 : IVec S16 32) (v14 : IVec S16 32) (v15 : IVec S16 32) (v16 : IVec S16 32) (v3154 : IVec S16 32) (k0_hw82 : k0_chk82 v5 v8 v11 v14 v15 v16 v3154), ∀ a x, ((![v16, v3154, v5] : Fin 3 → IVec S16 32) a x).toNat < S2x64x64.size a := fun v5 v8 v11 v14 v15 v16 v3154 k0_hw82 => k0_hw82.2.2.2.2.2.2.2
def k0_off707 (k0_t82 : Fin k0_t82_loop.trips) : Fin 4 → Nat :=
  let c0_i32_5365 : BitVec 32 := 0#32
  let v3219 : Index := Scalar.indexCast c0_i32_5365
  let c1_i32_5366 : BitVec 32 := 1#32
  let v3220 : Index := Scalar.indexCast c1_i32_5366
  let c0_i32_5325 : BitVec 32 := 0#32
  let c0_i32_4577 : BitVec 32 := 0#32
  let c1_i32_4579 : BitVec 32 := 1#32
  let arg17 : BitVec 32 := Scf.iv c0_i32_4577 c1_i32_4579 k0_t82
  let c1_i32_5324 : BitVec 32 := 1#32
  let v3152 : BitVec 32 := Scalar.muli arg17 c1_i32_5324
  let v3153 : BitVec 32 := Scalar.addi c0_i32_5325 v3152
  let v3221 : Index := Scalar.indexCast v3153
  let c0_5367 : Index := 0#32
  ![0, 1, v3221.toNat, 0]
def k0_off708 (k0_t82 : Fin k0_t82_loop.trips) : Fin 4 → Nat :=
  let c0_i32_5368 : BitVec 32 := 0#32
  let v3225 : Index := Scalar.indexCast c0_i32_5368
  let c1_i32_5369 : BitVec 32 := 1#32
  let v3226 : Index := Scalar.indexCast c1_i32_5369
  let c0_i32_5325 : BitVec 32 := 0#32
  let c0_i32_4577 : BitVec 32 := 0#32
  let c1_i32_4579 : BitVec 32 := 1#32
  let arg17 : BitVec 32 := Scf.iv c0_i32_4577 c1_i32_4579 k0_t82
  let c1_i32_5324 : BitVec 32 := 1#32
  let v3152 : BitVec 32 := Scalar.muli arg17 c1_i32_5324
  let v3153 : BitVec 32 := Scalar.addi c0_i32_5325 v3152
  let v3227 : Index := Scalar.indexCast v3153
  let c16_5370 : Index := 16#32
  ![0, 1, v3227.toNat, 16]
def k0_off709 (k0_t82 : Fin k0_t82_loop.trips) : Fin 4 → Nat :=
  let c0_i32_5371 : BitVec 32 := 0#32
  let v3231 : Index := Scalar.indexCast c0_i32_5371
  let c1_i32_5372 : BitVec 32 := 1#32
  let v3232 : Index := Scalar.indexCast c1_i32_5372
  let c0_i32_5325 : BitVec 32 := 0#32
  let c0_i32_4577 : BitVec 32 := 0#32
  let c1_i32_4579 : BitVec 32 := 1#32
  let arg17 : BitVec 32 := Scf.iv c0_i32_4577 c1_i32_4579 k0_t82
  let c1_i32_5324 : BitVec 32 := 1#32
  let v3152 : BitVec 32 := Scalar.muli arg17 c1_i32_5324
  let v3153 : BitVec 32 := Scalar.addi c0_i32_5325 v3152
  let v3233 : Index := Scalar.indexCast v3153
  let c32_5373 : Index := 32#32
  ![0, 1, v3233.toNat, 32]
def k0_off710 (k0_t82 : Fin k0_t82_loop.trips) : Fin 4 → Nat :=
  let c0_i32_5374 : BitVec 32 := 0#32
  let v3237 : Index := Scalar.indexCast c0_i32_5374
  let c1_i32_5375 : BitVec 32 := 1#32
  let v3238 : Index := Scalar.indexCast c1_i32_5375
  let c0_i32_5325 : BitVec 32 := 0#32
  let c0_i32_4577 : BitVec 32 := 0#32
  let c1_i32_4579 : BitVec 32 := 1#32
  let arg17 : BitVec 32 := Scf.iv c0_i32_4577 c1_i32_4579 k0_t82
  let c1_i32_5324 : BitVec 32 := 1#32
  let v3152 : BitVec 32 := Scalar.muli arg17 c1_i32_5324
  let v3153 : BitVec 32 := Scalar.addi c0_i32_5325 v3152
  let v3239 : Index := Scalar.indexCast v3153
  let c48_5376 : Index := 48#32
  ![0, 1, v3239.toNat, 48]
def k0_off711 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c18_i32 : BitVec 32 := 18#32
  let c0_i32_4598 : BitVec 32 := 0#32
  let c0_i32_4599 : BitVec 32 := 0#32
  ![v2.toNat, 18, 0, 0]
@[reducible] def k0_t83_loop : Scf.Loop 32 :=
  let c0_i32_4632 : BitVec 32 := 0#32
  let c64_i32_4633 : BitVec 32 := 64#32
  let v2747 : BitVec 32 := Scalar.addi c0_i32_4632 c64_i32_4633
  let c1_i32_4634 : BitVec 32 := 1#32
  ⟨c0_i32_4632, v2747, c1_i32_4634⟩
def k0_off712 (k0_t83 : Fin k0_t83_loop.trips) : Fin 4 → Nat :=
  let c1_i32_5341 : BitVec 32 := 1#32
  let v3175 : Index := Scalar.indexCast c1_i32_5341
  let c0_i32_5342 : BitVec 32 := 0#32
  let v3176 : Index := Scalar.indexCast c0_i32_5342
  let c0_i32_5325 : BitVec 32 := 0#32
  let c0_i32_4632 : BitVec 32 := 0#32
  let c1_i32_4634 : BitVec 32 := 1#32
  let arg17 : BitVec 32 := Scf.iv c0_i32_4632 c1_i32_4634 k0_t83
  let c1_i32_5324 : BitVec 32 := 1#32
  let v3152 : BitVec 32 := Scalar.muli arg17 c1_i32_5324
  let v3153 : BitVec 32 := Scalar.addi c0_i32_5325 v3152
  let v3177 : Index := Scalar.indexCast v3153
  let c0 : Index := 0#32
  ![1, 0, v3177.toNat, 0]
def k0_off713 (k0_t83 : Fin k0_t83_loop.trips) : Fin 4 → Nat :=
  let c1_i32_5343 : BitVec 32 := 1#32
  let v3181 : Index := Scalar.indexCast c1_i32_5343
  let c0_i32_5344 : BitVec 32 := 0#32
  let v3182 : Index := Scalar.indexCast c0_i32_5344
  let c0_i32_5325 : BitVec 32 := 0#32
  let c0_i32_4632 : BitVec 32 := 0#32
  let c1_i32_4634 : BitVec 32 := 1#32
  let arg17 : BitVec 32 := Scf.iv c0_i32_4632 c1_i32_4634 k0_t83
  let c1_i32_5324 : BitVec 32 := 1#32
  let v3152 : BitVec 32 := Scalar.muli arg17 c1_i32_5324
  let v3153 : BitVec 32 := Scalar.addi c0_i32_5325 v3152
  let v3183 : Index := Scalar.indexCast v3153
  let c16 : Index := 16#32
  ![1, 0, v3183.toNat, 16]
def k0_off714 (k0_t83 : Fin k0_t83_loop.trips) : Fin 4 → Nat :=
  let c1_i32_5345 : BitVec 32 := 1#32
  let v3187 : Index := Scalar.indexCast c1_i32_5345
  let c0_i32_5346 : BitVec 32 := 0#32
  let v3188 : Index := Scalar.indexCast c0_i32_5346
  let c0_i32_5325 : BitVec 32 := 0#32
  let c0_i32_4632 : BitVec 32 := 0#32
  let c1_i32_4634 : BitVec 32 := 1#32
  let arg17 : BitVec 32 := Scf.iv c0_i32_4632 c1_i32_4634 k0_t83
  let c1_i32_5324 : BitVec 32 := 1#32
  let v3152 : BitVec 32 := Scalar.muli arg17 c1_i32_5324
  let v3153 : BitVec 32 := Scalar.addi c0_i32_5325 v3152
  let v3189 : Index := Scalar.indexCast v3153
  let c32 : Index := 32#32
  ![1, 0, v3189.toNat, 32]
def k0_off715 (k0_t83 : Fin k0_t83_loop.trips) : Fin 4 → Nat :=
  let c1_i32_5347 : BitVec 32 := 1#32
  let v3193 : Index := Scalar.indexCast c1_i32_5347
  let c0_i32_5348 : BitVec 32 := 0#32
  let v3194 : Index := Scalar.indexCast c0_i32_5348
  let c0_i32_5325 : BitVec 32 := 0#32
  let c0_i32_4632 : BitVec 32 := 0#32
  let c1_i32_4634 : BitVec 32 := 1#32
  let arg17 : BitVec 32 := Scf.iv c0_i32_4632 c1_i32_4634 k0_t83
  let c1_i32_5324 : BitVec 32 := 1#32
  let v3152 : BitVec 32 := Scalar.muli arg17 c1_i32_5324
  let v3153 : BitVec 32 := Scalar.addi c0_i32_5325 v3152
  let v3195 : Index := Scalar.indexCast v3153
  let c48 : Index := 48#32
  ![1, 0, v3195.toNat, 48]

def k0_chk83 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx657_inb : ∀ (v5 : IVec S16 32) (v8 : IVec S16 32) (v11 : IVec S16 32) (v14 : IVec S16 32) (v15 : IVec S16 32) (v16 : IVec S16 32) (v3154 : IVec S16 32) (k0_hw83 : k0_chk83 v5 v8 v11 v14 v15 v16 v3154), ∀ a x, ((![v15, v3154, v14] : Fin 3 → IVec S16 32) a x).toNat < S2x64x64.size a := fun v5 v8 v11 v14 v15 v16 v3154 k0_hw83 => k0_hw83.1
theorem k0_idx658_inb : ∀ (v5 : IVec S16 32) (v8 : IVec S16 32) (v11 : IVec S16 32) (v14 : IVec S16 32) (v15 : IVec S16 32) (v16 : IVec S16 32) (v3154 : IVec S16 32) (k0_hw83 : k0_chk83 v5 v8 v11 v14 v15 v16 v3154), ∀ a x, ((![v15, v3154, v11] : Fin 3 → IVec S16 32) a x).toNat < S2x64x64.size a := fun v5 v8 v11 v14 v15 v16 v3154 k0_hw83 => k0_hw83.2.1
theorem k0_idx659_inb : ∀ (v5 : IVec S16 32) (v8 : IVec S16 32) (v11 : IVec S16 32) (v14 : IVec S16 32) (v15 : IVec S16 32) (v16 : IVec S16 32) (v3154 : IVec S16 32) (k0_hw83 : k0_chk83 v5 v8 v11 v14 v15 v16 v3154), ∀ a x, ((![v15, v3154, v8] : Fin 3 → IVec S16 32) a x).toNat < S2x64x64.size a := fun v5 v8 v11 v14 v15 v16 v3154 k0_hw83 => k0_hw83.2.2.1
theorem k0_idx660_inb : ∀ (v5 : IVec S16 32) (v8 : IVec S16 32) (v11 : IVec S16 32) (v14 : IVec S16 32) (v15 : IVec S16 32) (v16 : IVec S16 32) (v3154 : IVec S16 32) (k0_hw83 : k0_chk83 v5 v8 v11 v14 v15 v16 v3154), ∀ a x, ((![v15, v3154, v5] : Fin 3 → IVec S16 32) a x).toNat < S2x64x64.size a := fun v5 v8 v11 v14 v15 v16 v3154 k0_hw83 => k0_hw83.2.2.2.1
theorem k0_idx661_inb : ∀ (v5 : IVec S16 32) (v8 : IVec S16 32) (v11 : IVec S16 32) (v14 : IVec S16 32) (v15 : IVec S16 32) (v16 : IVec S16 32) (v3154 : IVec S16 32) (k0_hw83 : k0_chk83 v5 v8 v11 v14 v15 v16 v3154), ∀ a x, ((![v16, v3154, v14] : Fin 3 → IVec S16 32) a x).toNat < S2x64x64.size a := fun v5 v8 v11 v14 v15 v16 v3154 k0_hw83 => k0_hw83.2.2.2.2.1
theorem k0_idx662_inb : ∀ (v5 : IVec S16 32) (v8 : IVec S16 32) (v11 : IVec S16 32) (v14 : IVec S16 32) (v15 : IVec S16 32) (v16 : IVec S16 32) (v3154 : IVec S16 32) (k0_hw83 : k0_chk83 v5 v8 v11 v14 v15 v16 v3154), ∀ a x, ((![v16, v3154, v11] : Fin 3 → IVec S16 32) a x).toNat < S2x64x64.size a := fun v5 v8 v11 v14 v15 v16 v3154 k0_hw83 => k0_hw83.2.2.2.2.2.1
theorem k0_idx663_inb : ∀ (v5 : IVec S16 32) (v8 : IVec S16 32) (v11 : IVec S16 32) (v14 : IVec S16 32) (v15 : IVec S16 32) (v16 : IVec S16 32) (v3154 : IVec S16 32) (k0_hw83 : k0_chk83 v5 v8 v11 v14 v15 v16 v3154), ∀ a x, ((![v16, v3154, v8] : Fin 3 → IVec S16 32) a x).toNat < S2x64x64.size a := fun v5 v8 v11 v14 v15 v16 v3154 k0_hw83 => k0_hw83.2.2.2.2.2.2.1
theorem k0_idx664_inb : ∀ (v5 : IVec S16 32) (v8 : IVec S16 32) (v11 : IVec S16 32) (v14 : IVec S16 32) (v15 : IVec S16 32) (v16 : IVec S16 32) (v3154 : IVec S16 32) (k0_hw83 : k0_chk83 v5 v8 v11 v14 v15 v16 v3154), ∀ a x, ((![v16, v3154, v5] : Fin 3 → IVec S16 32) a x).toNat < S2x64x64.size a := fun v5 v8 v11 v14 v15 v16 v3154 k0_hw83 => k0_hw83.2.2.2.2.2.2.2
def k0_off716 (k0_t83 : Fin k0_t83_loop.trips) : Fin 4 → Nat :=
  let c1_i32_5365 : BitVec 32 := 1#32
  let v3219 : Index := Scalar.indexCast c1_i32_5365
  let c1_i32_5366 : BitVec 32 := 1#32
  let v3220 : Index := Scalar.indexCast c1_i32_5366
  let c0_i32_5325 : BitVec 32 := 0#32
  let c0_i32_4632 : BitVec 32 := 0#32
  let c1_i32_4634 : BitVec 32 := 1#32
  let arg17 : BitVec 32 := Scf.iv c0_i32_4632 c1_i32_4634 k0_t83
  let c1_i32_5324 : BitVec 32 := 1#32
  let v3152 : BitVec 32 := Scalar.muli arg17 c1_i32_5324
  let v3153 : BitVec 32 := Scalar.addi c0_i32_5325 v3152
  let v3221 : Index := Scalar.indexCast v3153
  let c0_5367 : Index := 0#32
  ![1, 1, v3221.toNat, 0]
def k0_off717 (k0_t83 : Fin k0_t83_loop.trips) : Fin 4 → Nat :=
  let c1_i32_5368 : BitVec 32 := 1#32
  let v3225 : Index := Scalar.indexCast c1_i32_5368
  let c1_i32_5369 : BitVec 32 := 1#32
  let v3226 : Index := Scalar.indexCast c1_i32_5369
  let c0_i32_5325 : BitVec 32 := 0#32
  let c0_i32_4632 : BitVec 32 := 0#32
  let c1_i32_4634 : BitVec 32 := 1#32
  let arg17 : BitVec 32 := Scf.iv c0_i32_4632 c1_i32_4634 k0_t83
  let c1_i32_5324 : BitVec 32 := 1#32
  let v3152 : BitVec 32 := Scalar.muli arg17 c1_i32_5324
  let v3153 : BitVec 32 := Scalar.addi c0_i32_5325 v3152
  let v3227 : Index := Scalar.indexCast v3153
  let c16_5370 : Index := 16#32
  ![1, 1, v3227.toNat, 16]
def k0_off718 (k0_t83 : Fin k0_t83_loop.trips) : Fin 4 → Nat :=
  let c1_i32_5371 : BitVec 32 := 1#32
  let v3231 : Index := Scalar.indexCast c1_i32_5371
  let c1_i32_5372 : BitVec 32 := 1#32
  let v3232 : Index := Scalar.indexCast c1_i32_5372
  let c0_i32_5325 : BitVec 32 := 0#32
  let c0_i32_4632 : BitVec 32 := 0#32
  let c1_i32_4634 : BitVec 32 := 1#32
  let arg17 : BitVec 32 := Scf.iv c0_i32_4632 c1_i32_4634 k0_t83
  let c1_i32_5324 : BitVec 32 := 1#32
  let v3152 : BitVec 32 := Scalar.muli arg17 c1_i32_5324
  let v3153 : BitVec 32 := Scalar.addi c0_i32_5325 v3152
  let v3233 : Index := Scalar.indexCast v3153
  let c32_5373 : Index := 32#32
  ![1, 1, v3233.toNat, 32]
def k0_off719 (k0_t83 : Fin k0_t83_loop.trips) : Fin 4 → Nat :=
  let c1_i32_5374 : BitVec 32 := 1#32
  let v3237 : Index := Scalar.indexCast c1_i32_5374
  let c1_i32_5375 : BitVec 32 := 1#32
  let v3238 : Index := Scalar.indexCast c1_i32_5375
  let c0_i32_5325 : BitVec 32 := 0#32
  let c0_i32_4632 : BitVec 32 := 0#32
  let c1_i32_4634 : BitVec 32 := 1#32
  let arg17 : BitVec 32 := Scf.iv c0_i32_4632 c1_i32_4634 k0_t83
  let c1_i32_5324 : BitVec 32 := 1#32
  let v3152 : BitVec 32 := Scalar.muli arg17 c1_i32_5324
  let v3153 : BitVec 32 := Scalar.addi c0_i32_5325 v3152
  let v3239 : Index := Scalar.indexCast v3153
  let c48_5376 : Index := 48#32
  ![1, 1, v3239.toNat, 48]
def k0_off720 (i : grid0.Coords) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c18_i32_4649 : BitVec 32 := 18#32
  let c0_i32_4650 : BitVec 32 := 0#32
  let c0_i32_4655 : BitVec 32 := 0#32
  let c0_i32_4656 : BitVec 32 := 0#32
  ![v2.toNat, 18, 0, 0, 0]
@[reducible] def k0_t84_loop : Scf.Loop 32 :=
  let c0_i32_4688 : BitVec 32 := 0#32
  let c64_i32_4689 : BitVec 32 := 64#32
  let v2780 : BitVec 32 := Scalar.addi c0_i32_4688 c64_i32_4689
  let c1_i32_4690 : BitVec 32 := 1#32
  ⟨c0_i32_4688, v2780, c1_i32_4690⟩
def k0_off721 (k0_t84 : Fin k0_t84_loop.trips) : Fin 4 → Nat :=
  let c2_i32_5338 : BitVec 32 := 2#32
  let v3167 : Index := Scalar.indexCast c2_i32_5338
  let c0_i32_5339 : BitVec 32 := 0#32
  let v3168 : Index := Scalar.indexCast c0_i32_5339
  let c0_i32_5325 : BitVec 32 := 0#32
  let c0_i32_4688 : BitVec 32 := 0#32
  let c1_i32_4690 : BitVec 32 := 1#32
  let arg17 : BitVec 32 := Scf.iv c0_i32_4688 c1_i32_4690 k0_t84
  let c1_i32_5324 : BitVec 32 := 1#32
  let v3152 : BitVec 32 := Scalar.muli arg17 c1_i32_5324
  let v3153 : BitVec 32 := Scalar.addi c0_i32_5325 v3152
  let v3169 : Index := Scalar.indexCast v3153
  let c0 : Index := 0#32
  ![2, 0, v3169.toNat, 0]
def k0_off722 (k0_t84 : Fin k0_t84_loop.trips) : Fin 4 → Nat :=
  let c2_i32_5340 : BitVec 32 := 2#32
  let v3173 : Index := Scalar.indexCast c2_i32_5340
  let c0_i32_5341 : BitVec 32 := 0#32
  let v3174 : Index := Scalar.indexCast c0_i32_5341
  let c0_i32_5325 : BitVec 32 := 0#32
  let c0_i32_4688 : BitVec 32 := 0#32
  let c1_i32_4690 : BitVec 32 := 1#32
  let arg17 : BitVec 32 := Scf.iv c0_i32_4688 c1_i32_4690 k0_t84
  let c1_i32_5324 : BitVec 32 := 1#32
  let v3152 : BitVec 32 := Scalar.muli arg17 c1_i32_5324
  let v3153 : BitVec 32 := Scalar.addi c0_i32_5325 v3152
  let v3175 : Index := Scalar.indexCast v3153
  let c16 : Index := 16#32
  ![2, 0, v3175.toNat, 16]
def k0_off723 (k0_t84 : Fin k0_t84_loop.trips) : Fin 4 → Nat :=
  let c2_i32_5342 : BitVec 32 := 2#32
  let v3179 : Index := Scalar.indexCast c2_i32_5342
  let c0_i32_5343 : BitVec 32 := 0#32
  let v3180 : Index := Scalar.indexCast c0_i32_5343
  let c0_i32_5325 : BitVec 32 := 0#32
  let c0_i32_4688 : BitVec 32 := 0#32
  let c1_i32_4690 : BitVec 32 := 1#32
  let arg17 : BitVec 32 := Scf.iv c0_i32_4688 c1_i32_4690 k0_t84
  let c1_i32_5324 : BitVec 32 := 1#32
  let v3152 : BitVec 32 := Scalar.muli arg17 c1_i32_5324
  let v3153 : BitVec 32 := Scalar.addi c0_i32_5325 v3152
  let v3181 : Index := Scalar.indexCast v3153
  let c32 : Index := 32#32
  ![2, 0, v3181.toNat, 32]
def k0_off724 (k0_t84 : Fin k0_t84_loop.trips) : Fin 4 → Nat :=
  let c2_i32_5344 : BitVec 32 := 2#32
  let v3185 : Index := Scalar.indexCast c2_i32_5344
  let c0_i32_5345 : BitVec 32 := 0#32
  let v3186 : Index := Scalar.indexCast c0_i32_5345
  let c0_i32_5325 : BitVec 32 := 0#32
  let c0_i32_4688 : BitVec 32 := 0#32
  let c1_i32_4690 : BitVec 32 := 1#32
  let arg17 : BitVec 32 := Scf.iv c0_i32_4688 c1_i32_4690 k0_t84
  let c1_i32_5324 : BitVec 32 := 1#32
  let v3152 : BitVec 32 := Scalar.muli arg17 c1_i32_5324
  let v3153 : BitVec 32 := Scalar.addi c0_i32_5325 v3152
  let v3187 : Index := Scalar.indexCast v3153
  let c48 : Index := 48#32
  ![2, 0, v3187.toNat, 48]

def k0_chk84 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx665_inb : ∀ (v5 : IVec S16 32) (v8 : IVec S16 32) (v11 : IVec S16 32) (v14 : IVec S16 32) (v15 : IVec S16 32) (v16 : IVec S16 32) (v3154 : IVec S16 32) (k0_hw84 : k0_chk84 v5 v8 v11 v14 v15 v16 v3154), ∀ a x, ((![v15, v3154, v14] : Fin 3 → IVec S16 32) a x).toNat < S2x64x64.size a := fun v5 v8 v11 v14 v15 v16 v3154 k0_hw84 => k0_hw84.1
theorem k0_idx666_inb : ∀ (v5 : IVec S16 32) (v8 : IVec S16 32) (v11 : IVec S16 32) (v14 : IVec S16 32) (v15 : IVec S16 32) (v16 : IVec S16 32) (v3154 : IVec S16 32) (k0_hw84 : k0_chk84 v5 v8 v11 v14 v15 v16 v3154), ∀ a x, ((![v15, v3154, v11] : Fin 3 → IVec S16 32) a x).toNat < S2x64x64.size a := fun v5 v8 v11 v14 v15 v16 v3154 k0_hw84 => k0_hw84.2.1
theorem k0_idx667_inb : ∀ (v5 : IVec S16 32) (v8 : IVec S16 32) (v11 : IVec S16 32) (v14 : IVec S16 32) (v15 : IVec S16 32) (v16 : IVec S16 32) (v3154 : IVec S16 32) (k0_hw84 : k0_chk84 v5 v8 v11 v14 v15 v16 v3154), ∀ a x, ((![v15, v3154, v8] : Fin 3 → IVec S16 32) a x).toNat < S2x64x64.size a := fun v5 v8 v11 v14 v15 v16 v3154 k0_hw84 => k0_hw84.2.2.1
theorem k0_idx668_inb : ∀ (v5 : IVec S16 32) (v8 : IVec S16 32) (v11 : IVec S16 32) (v14 : IVec S16 32) (v15 : IVec S16 32) (v16 : IVec S16 32) (v3154 : IVec S16 32) (k0_hw84 : k0_chk84 v5 v8 v11 v14 v15 v16 v3154), ∀ a x, ((![v15, v3154, v5] : Fin 3 → IVec S16 32) a x).toNat < S2x64x64.size a := fun v5 v8 v11 v14 v15 v16 v3154 k0_hw84 => k0_hw84.2.2.2.1
theorem k0_idx669_inb : ∀ (v5 : IVec S16 32) (v8 : IVec S16 32) (v11 : IVec S16 32) (v14 : IVec S16 32) (v15 : IVec S16 32) (v16 : IVec S16 32) (v3154 : IVec S16 32) (k0_hw84 : k0_chk84 v5 v8 v11 v14 v15 v16 v3154), ∀ a x, ((![v16, v3154, v14] : Fin 3 → IVec S16 32) a x).toNat < S2x64x64.size a := fun v5 v8 v11 v14 v15 v16 v3154 k0_hw84 => k0_hw84.2.2.2.2.1
theorem k0_idx670_inb : ∀ (v5 : IVec S16 32) (v8 : IVec S16 32) (v11 : IVec S16 32) (v14 : IVec S16 32) (v15 : IVec S16 32) (v16 : IVec S16 32) (v3154 : IVec S16 32) (k0_hw84 : k0_chk84 v5 v8 v11 v14 v15 v16 v3154), ∀ a x, ((![v16, v3154, v11] : Fin 3 → IVec S16 32) a x).toNat < S2x64x64.size a := fun v5 v8 v11 v14 v15 v16 v3154 k0_hw84 => k0_hw84.2.2.2.2.2.1
theorem k0_idx671_inb : ∀ (v5 : IVec S16 32) (v8 : IVec S16 32) (v11 : IVec S16 32) (v14 : IVec S16 32) (v15 : IVec S16 32) (v16 : IVec S16 32) (v3154 : IVec S16 32) (k0_hw84 : k0_chk84 v5 v8 v11 v14 v15 v16 v3154), ∀ a x, ((![v16, v3154, v8] : Fin 3 → IVec S16 32) a x).toNat < S2x64x64.size a := fun v5 v8 v11 v14 v15 v16 v3154 k0_hw84 => k0_hw84.2.2.2.2.2.2.1
theorem k0_idx672_inb : ∀ (v5 : IVec S16 32) (v8 : IVec S16 32) (v11 : IVec S16 32) (v14 : IVec S16 32) (v15 : IVec S16 32) (v16 : IVec S16 32) (v3154 : IVec S16 32) (k0_hw84 : k0_chk84 v5 v8 v11 v14 v15 v16 v3154), ∀ a x, ((![v16, v3154, v5] : Fin 3 → IVec S16 32) a x).toNat < S2x64x64.size a := fun v5 v8 v11 v14 v15 v16 v3154 k0_hw84 => k0_hw84.2.2.2.2.2.2.2
def k0_off725 (k0_t84 : Fin k0_t84_loop.trips) : Fin 4 → Nat :=
  let c2_i32_5358 : BitVec 32 := 2#32
  let v3203 : Index := Scalar.indexCast c2_i32_5358
  let c1_i32_5359 : BitVec 32 := 1#32
  let v3204 : Index := Scalar.indexCast c1_i32_5359
  let c0_i32_5325 : BitVec 32 := 0#32
  let c0_i32_4688 : BitVec 32 := 0#32
  let c1_i32_4690 : BitVec 32 := 1#32
  let arg17 : BitVec 32 := Scf.iv c0_i32_4688 c1_i32_4690 k0_t84
  let c1_i32_5324 : BitVec 32 := 1#32
  let v3152 : BitVec 32 := Scalar.muli arg17 c1_i32_5324
  let v3153 : BitVec 32 := Scalar.addi c0_i32_5325 v3152
  let v3205 : Index := Scalar.indexCast v3153
  let c0_5360 : Index := 0#32
  ![2, 1, v3205.toNat, 0]
def k0_off726 (k0_t84 : Fin k0_t84_loop.trips) : Fin 4 → Nat :=
  let c2_i32_5361 : BitVec 32 := 2#32
  let v3209 : Index := Scalar.indexCast c2_i32_5361
  let c1_i32_5362 : BitVec 32 := 1#32
  let v3210 : Index := Scalar.indexCast c1_i32_5362
  let c0_i32_5325 : BitVec 32 := 0#32
  let c0_i32_4688 : BitVec 32 := 0#32
  let c1_i32_4690 : BitVec 32 := 1#32
  let arg17 : BitVec 32 := Scf.iv c0_i32_4688 c1_i32_4690 k0_t84
  let c1_i32_5324 : BitVec 32 := 1#32
  let v3152 : BitVec 32 := Scalar.muli arg17 c1_i32_5324
  let v3153 : BitVec 32 := Scalar.addi c0_i32_5325 v3152
  let v3211 : Index := Scalar.indexCast v3153
  let c16_5363 : Index := 16#32
  ![2, 1, v3211.toNat, 16]
def k0_off727 (k0_t84 : Fin k0_t84_loop.trips) : Fin 4 → Nat :=
  let c2_i32_5364 : BitVec 32 := 2#32
  let v3215 : Index := Scalar.indexCast c2_i32_5364
  let c1_i32_5365 : BitVec 32 := 1#32
  let v3216 : Index := Scalar.indexCast c1_i32_5365
  let c0_i32_5325 : BitVec 32 := 0#32
  let c0_i32_4688 : BitVec 32 := 0#32
  let c1_i32_4690 : BitVec 32 := 1#32
  let arg17 : BitVec 32 := Scf.iv c0_i32_4688 c1_i32_4690 k0_t84
  let c1_i32_5324 : BitVec 32 := 1#32
  let v3152 : BitVec 32 := Scalar.muli arg17 c1_i32_5324
  let v3153 : BitVec 32 := Scalar.addi c0_i32_5325 v3152
  let v3217 : Index := Scalar.indexCast v3153
  let c32_5366 : Index := 32#32
  ![2, 1, v3217.toNat, 32]
def k0_off728 (k0_t84 : Fin k0_t84_loop.trips) : Fin 4 → Nat :=
  let c2_i32_5367 : BitVec 32 := 2#32
  let v3221 : Index := Scalar.indexCast c2_i32_5367
  let c1_i32_5368 : BitVec 32 := 1#32
  let v3222 : Index := Scalar.indexCast c1_i32_5368
  let c0_i32_5325 : BitVec 32 := 0#32
  let c0_i32_4688 : BitVec 32 := 0#32
  let c1_i32_4690 : BitVec 32 := 1#32
  let arg17 : BitVec 32 := Scf.iv c0_i32_4688 c1_i32_4690 k0_t84
  let c1_i32_5324 : BitVec 32 := 1#32
  let v3152 : BitVec 32 := Scalar.muli arg17 c1_i32_5324
  let v3153 : BitVec 32 := Scalar.addi c0_i32_5325 v3152
  let v3223 : Index := Scalar.indexCast v3153
  let c48_5369 : Index := 48#32
  ![2, 1, v3223.toNat, 48]
@[reducible] def k0_t85_loop : Scf.Loop 32 :=
  let c0_i32_4745 : BitVec 32 := 0#32
  let c64_i32_4746 : BitVec 32 := 64#32
  let v2813 : BitVec 32 := Scalar.addi c0_i32_4745 c64_i32_4746
  let c1_i32_4747 : BitVec 32 := 1#32
  ⟨c0_i32_4745, v2813, c1_i32_4747⟩
def k0_off729 (k0_t85 : Fin k0_t85_loop.trips) : Fin 4 → Nat :=
  let c0_i32_5338 : BitVec 32 := 0#32
  let v3167 : Index := Scalar.indexCast c0_i32_5338
  let c0_i32_5339 : BitVec 32 := 0#32
  let v3168 : Index := Scalar.indexCast c0_i32_5339
  let c0_i32_5325 : BitVec 32 := 0#32
  let c0_i32_4745 : BitVec 32 := 0#32
  let c1_i32_4747 : BitVec 32 := 1#32
  let arg17 : BitVec 32 := Scf.iv c0_i32_4745 c1_i32_4747 k0_t85
  let c1_i32_5324 : BitVec 32 := 1#32
  let v3152 : BitVec 32 := Scalar.muli arg17 c1_i32_5324
  let v3153 : BitVec 32 := Scalar.addi c0_i32_5325 v3152
  let v3169 : Index := Scalar.indexCast v3153
  let c0 : Index := 0#32
  ![0, 0, v3169.toNat, 0]
def k0_off730 (k0_t85 : Fin k0_t85_loop.trips) : Fin 4 → Nat :=
  let c0_i32_5340 : BitVec 32 := 0#32
  let v3173 : Index := Scalar.indexCast c0_i32_5340
  let c0_i32_5341 : BitVec 32 := 0#32
  let v3174 : Index := Scalar.indexCast c0_i32_5341
  let c0_i32_5325 : BitVec 32 := 0#32
  let c0_i32_4745 : BitVec 32 := 0#32
  let c1_i32_4747 : BitVec 32 := 1#32
  let arg17 : BitVec 32 := Scf.iv c0_i32_4745 c1_i32_4747 k0_t85
  let c1_i32_5324 : BitVec 32 := 1#32
  let v3152 : BitVec 32 := Scalar.muli arg17 c1_i32_5324
  let v3153 : BitVec 32 := Scalar.addi c0_i32_5325 v3152
  let v3175 : Index := Scalar.indexCast v3153
  let c16 : Index := 16#32
  ![0, 0, v3175.toNat, 16]
def k0_off731 (k0_t85 : Fin k0_t85_loop.trips) : Fin 4 → Nat :=
  let c0_i32_5342 : BitVec 32 := 0#32
  let v3179 : Index := Scalar.indexCast c0_i32_5342
  let c0_i32_5343 : BitVec 32 := 0#32
  let v3180 : Index := Scalar.indexCast c0_i32_5343
  let c0_i32_5325 : BitVec 32 := 0#32
  let c0_i32_4745 : BitVec 32 := 0#32
  let c1_i32_4747 : BitVec 32 := 1#32
  let arg17 : BitVec 32 := Scf.iv c0_i32_4745 c1_i32_4747 k0_t85
  let c1_i32_5324 : BitVec 32 := 1#32
  let v3152 : BitVec 32 := Scalar.muli arg17 c1_i32_5324
  let v3153 : BitVec 32 := Scalar.addi c0_i32_5325 v3152
  let v3181 : Index := Scalar.indexCast v3153
  let c32 : Index := 32#32
  ![0, 0, v3181.toNat, 32]
def k0_off732 (k0_t85 : Fin k0_t85_loop.trips) : Fin 4 → Nat :=
  let c0_i32_5344 : BitVec 32 := 0#32
  let v3185 : Index := Scalar.indexCast c0_i32_5344
  let c0_i32_5345 : BitVec 32 := 0#32
  let v3186 : Index := Scalar.indexCast c0_i32_5345
  let c0_i32_5325 : BitVec 32 := 0#32
  let c0_i32_4745 : BitVec 32 := 0#32
  let c1_i32_4747 : BitVec 32 := 1#32
  let arg17 : BitVec 32 := Scf.iv c0_i32_4745 c1_i32_4747 k0_t85
  let c1_i32_5324 : BitVec 32 := 1#32
  let v3152 : BitVec 32 := Scalar.muli arg17 c1_i32_5324
  let v3153 : BitVec 32 := Scalar.addi c0_i32_5325 v3152
  let v3187 : Index := Scalar.indexCast v3153
  let c48 : Index := 48#32
  ![0, 0, v3187.toNat, 48]

def k0_chk85 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx673_inb : ∀ (v5 : IVec S16 32) (v8 : IVec S16 32) (v11 : IVec S16 32) (v14 : IVec S16 32) (v15 : IVec S16 32) (v16 : IVec S16 32) (v3154 : IVec S16 32) (k0_hw85 : k0_chk85 v5 v8 v11 v14 v15 v16 v3154), ∀ a x, ((![v15, v3154, v14] : Fin 3 → IVec S16 32) a x).toNat < S2x64x64.size a := fun v5 v8 v11 v14 v15 v16 v3154 k0_hw85 => k0_hw85.1
theorem k0_idx674_inb : ∀ (v5 : IVec S16 32) (v8 : IVec S16 32) (v11 : IVec S16 32) (v14 : IVec S16 32) (v15 : IVec S16 32) (v16 : IVec S16 32) (v3154 : IVec S16 32) (k0_hw85 : k0_chk85 v5 v8 v11 v14 v15 v16 v3154), ∀ a x, ((![v15, v3154, v11] : Fin 3 → IVec S16 32) a x).toNat < S2x64x64.size a := fun v5 v8 v11 v14 v15 v16 v3154 k0_hw85 => k0_hw85.2.1
theorem k0_idx675_inb : ∀ (v5 : IVec S16 32) (v8 : IVec S16 32) (v11 : IVec S16 32) (v14 : IVec S16 32) (v15 : IVec S16 32) (v16 : IVec S16 32) (v3154 : IVec S16 32) (k0_hw85 : k0_chk85 v5 v8 v11 v14 v15 v16 v3154), ∀ a x, ((![v15, v3154, v8] : Fin 3 → IVec S16 32) a x).toNat < S2x64x64.size a := fun v5 v8 v11 v14 v15 v16 v3154 k0_hw85 => k0_hw85.2.2.1
theorem k0_idx676_inb : ∀ (v5 : IVec S16 32) (v8 : IVec S16 32) (v11 : IVec S16 32) (v14 : IVec S16 32) (v15 : IVec S16 32) (v16 : IVec S16 32) (v3154 : IVec S16 32) (k0_hw85 : k0_chk85 v5 v8 v11 v14 v15 v16 v3154), ∀ a x, ((![v15, v3154, v5] : Fin 3 → IVec S16 32) a x).toNat < S2x64x64.size a := fun v5 v8 v11 v14 v15 v16 v3154 k0_hw85 => k0_hw85.2.2.2.1
theorem k0_idx677_inb : ∀ (v5 : IVec S16 32) (v8 : IVec S16 32) (v11 : IVec S16 32) (v14 : IVec S16 32) (v15 : IVec S16 32) (v16 : IVec S16 32) (v3154 : IVec S16 32) (k0_hw85 : k0_chk85 v5 v8 v11 v14 v15 v16 v3154), ∀ a x, ((![v16, v3154, v14] : Fin 3 → IVec S16 32) a x).toNat < S2x64x64.size a := fun v5 v8 v11 v14 v15 v16 v3154 k0_hw85 => k0_hw85.2.2.2.2.1
theorem k0_idx678_inb : ∀ (v5 : IVec S16 32) (v8 : IVec S16 32) (v11 : IVec S16 32) (v14 : IVec S16 32) (v15 : IVec S16 32) (v16 : IVec S16 32) (v3154 : IVec S16 32) (k0_hw85 : k0_chk85 v5 v8 v11 v14 v15 v16 v3154), ∀ a x, ((![v16, v3154, v11] : Fin 3 → IVec S16 32) a x).toNat < S2x64x64.size a := fun v5 v8 v11 v14 v15 v16 v3154 k0_hw85 => k0_hw85.2.2.2.2.2.1
theorem k0_idx679_inb : ∀ (v5 : IVec S16 32) (v8 : IVec S16 32) (v11 : IVec S16 32) (v14 : IVec S16 32) (v15 : IVec S16 32) (v16 : IVec S16 32) (v3154 : IVec S16 32) (k0_hw85 : k0_chk85 v5 v8 v11 v14 v15 v16 v3154), ∀ a x, ((![v16, v3154, v8] : Fin 3 → IVec S16 32) a x).toNat < S2x64x64.size a := fun v5 v8 v11 v14 v15 v16 v3154 k0_hw85 => k0_hw85.2.2.2.2.2.2.1
theorem k0_idx680_inb : ∀ (v5 : IVec S16 32) (v8 : IVec S16 32) (v11 : IVec S16 32) (v14 : IVec S16 32) (v15 : IVec S16 32) (v16 : IVec S16 32) (v3154 : IVec S16 32) (k0_hw85 : k0_chk85 v5 v8 v11 v14 v15 v16 v3154), ∀ a x, ((![v16, v3154, v5] : Fin 3 → IVec S16 32) a x).toNat < S2x64x64.size a := fun v5 v8 v11 v14 v15 v16 v3154 k0_hw85 => k0_hw85.2.2.2.2.2.2.2
def k0_off733 (k0_t85 : Fin k0_t85_loop.trips) : Fin 4 → Nat :=
  let c0_i32_5358 : BitVec 32 := 0#32
  let v3203 : Index := Scalar.indexCast c0_i32_5358
  let c1_i32_5359 : BitVec 32 := 1#32
  let v3204 : Index := Scalar.indexCast c1_i32_5359
  let c0_i32_5325 : BitVec 32 := 0#32
  let c0_i32_4745 : BitVec 32 := 0#32
  let c1_i32_4747 : BitVec 32 := 1#32
  let arg17 : BitVec 32 := Scf.iv c0_i32_4745 c1_i32_4747 k0_t85
  let c1_i32_5324 : BitVec 32 := 1#32
  let v3152 : BitVec 32 := Scalar.muli arg17 c1_i32_5324
  let v3153 : BitVec 32 := Scalar.addi c0_i32_5325 v3152
  let v3205 : Index := Scalar.indexCast v3153
  let c0_5360 : Index := 0#32
  ![0, 1, v3205.toNat, 0]
def k0_off734 (k0_t85 : Fin k0_t85_loop.trips) : Fin 4 → Nat :=
  let c0_i32_5361 : BitVec 32 := 0#32
  let v3209 : Index := Scalar.indexCast c0_i32_5361
  let c1_i32_5362 : BitVec 32 := 1#32
  let v3210 : Index := Scalar.indexCast c1_i32_5362
  let c0_i32_5325 : BitVec 32 := 0#32
  let c0_i32_4745 : BitVec 32 := 0#32
  let c1_i32_4747 : BitVec 32 := 1#32
  let arg17 : BitVec 32 := Scf.iv c0_i32_4745 c1_i32_4747 k0_t85
  let c1_i32_5324 : BitVec 32 := 1#32
  let v3152 : BitVec 32 := Scalar.muli arg17 c1_i32_5324
  let v3153 : BitVec 32 := Scalar.addi c0_i32_5325 v3152
  let v3211 : Index := Scalar.indexCast v3153
  let c16_5363 : Index := 16#32
  ![0, 1, v3211.toNat, 16]
def k0_off735 (k0_t85 : Fin k0_t85_loop.trips) : Fin 4 → Nat :=
  let c0_i32_5364 : BitVec 32 := 0#32
  let v3215 : Index := Scalar.indexCast c0_i32_5364
  let c1_i32_5365 : BitVec 32 := 1#32
  let v3216 : Index := Scalar.indexCast c1_i32_5365
  let c0_i32_5325 : BitVec 32 := 0#32
  let c0_i32_4745 : BitVec 32 := 0#32
  let c1_i32_4747 : BitVec 32 := 1#32
  let arg17 : BitVec 32 := Scf.iv c0_i32_4745 c1_i32_4747 k0_t85
  let c1_i32_5324 : BitVec 32 := 1#32
  let v3152 : BitVec 32 := Scalar.muli arg17 c1_i32_5324
  let v3153 : BitVec 32 := Scalar.addi c0_i32_5325 v3152
  let v3217 : Index := Scalar.indexCast v3153
  let c32_5366 : Index := 32#32
  ![0, 1, v3217.toNat, 32]
def k0_off736 (k0_t85 : Fin k0_t85_loop.trips) : Fin 4 → Nat :=
  let c0_i32_5367 : BitVec 32 := 0#32
  let v3221 : Index := Scalar.indexCast c0_i32_5367
  let c1_i32_5368 : BitVec 32 := 1#32
  let v3222 : Index := Scalar.indexCast c1_i32_5368
  let c0_i32_5325 : BitVec 32 := 0#32
  let c0_i32_4745 : BitVec 32 := 0#32
  let c1_i32_4747 : BitVec 32 := 1#32
  let arg17 : BitVec 32 := Scf.iv c0_i32_4745 c1_i32_4747 k0_t85
  let c1_i32_5324 : BitVec 32 := 1#32
  let v3152 : BitVec 32 := Scalar.muli arg17 c1_i32_5324
  let v3153 : BitVec 32 := Scalar.addi c0_i32_5325 v3152
  let v3223 : Index := Scalar.indexCast v3153
  let c48_5369 : Index := 48#32
  ![0, 1, v3223.toNat, 48]
def k0_off737 (i : grid0.Coords) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c18_i32_4762 : BitVec 32 := 18#32
  let c1_i32_4763 : BitVec 32 := 1#32
  let c0_i32_4768 : BitVec 32 := 0#32
  let c0_i32_4769 : BitVec 32 := 0#32
  ![v2.toNat, 18, 1, 0, 0]
@[reducible] def k0_t86_loop : Scf.Loop 32 :=
  let c0_i32_4801 : BitVec 32 := 0#32
  let c64_i32_4802 : BitVec 32 := 64#32
  let v2846 : BitVec 32 := Scalar.addi c0_i32_4801 c64_i32_4802
  let c1_i32_4803 : BitVec 32 := 1#32
  ⟨c0_i32_4801, v2846, c1_i32_4803⟩
def k0_off738 (k0_t86 : Fin k0_t86_loop.trips) : Fin 4 → Nat :=
  let c1_i32_5338 : BitVec 32 := 1#32
  let v3167 : Index := Scalar.indexCast c1_i32_5338
  let c0_i32_5339 : BitVec 32 := 0#32
  let v3168 : Index := Scalar.indexCast c0_i32_5339
  let c0_i32_5325 : BitVec 32 := 0#32
  let c0_i32_4801 : BitVec 32 := 0#32
  let c1_i32_4803 : BitVec 32 := 1#32
  let arg17 : BitVec 32 := Scf.iv c0_i32_4801 c1_i32_4803 k0_t86
  let c1_i32_5324 : BitVec 32 := 1#32
  let v3152 : BitVec 32 := Scalar.muli arg17 c1_i32_5324
  let v3153 : BitVec 32 := Scalar.addi c0_i32_5325 v3152
  let v3169 : Index := Scalar.indexCast v3153
  let c0 : Index := 0#32
  ![1, 0, v3169.toNat, 0]
def k0_off739 (k0_t86 : Fin k0_t86_loop.trips) : Fin 4 → Nat :=
  let c1_i32_5340 : BitVec 32 := 1#32
  let v3173 : Index := Scalar.indexCast c1_i32_5340
  let c0_i32_5341 : BitVec 32 := 0#32
  let v3174 : Index := Scalar.indexCast c0_i32_5341
  let c0_i32_5325 : BitVec 32 := 0#32
  let c0_i32_4801 : BitVec 32 := 0#32
  let c1_i32_4803 : BitVec 32 := 1#32
  let arg17 : BitVec 32 := Scf.iv c0_i32_4801 c1_i32_4803 k0_t86
  let c1_i32_5324 : BitVec 32 := 1#32
  let v3152 : BitVec 32 := Scalar.muli arg17 c1_i32_5324
  let v3153 : BitVec 32 := Scalar.addi c0_i32_5325 v3152
  let v3175 : Index := Scalar.indexCast v3153
  let c16 : Index := 16#32
  ![1, 0, v3175.toNat, 16]
def k0_off740 (k0_t86 : Fin k0_t86_loop.trips) : Fin 4 → Nat :=
  let c1_i32_5342 : BitVec 32 := 1#32
  let v3179 : Index := Scalar.indexCast c1_i32_5342
  let c0_i32_5343 : BitVec 32 := 0#32
  let v3180 : Index := Scalar.indexCast c0_i32_5343
  let c0_i32_5325 : BitVec 32 := 0#32
  let c0_i32_4801 : BitVec 32 := 0#32
  let c1_i32_4803 : BitVec 32 := 1#32
  let arg17 : BitVec 32 := Scf.iv c0_i32_4801 c1_i32_4803 k0_t86
  let c1_i32_5324 : BitVec 32 := 1#32
  let v3152 : BitVec 32 := Scalar.muli arg17 c1_i32_5324
  let v3153 : BitVec 32 := Scalar.addi c0_i32_5325 v3152
  let v3181 : Index := Scalar.indexCast v3153
  let c32 : Index := 32#32
  ![1, 0, v3181.toNat, 32]
def k0_off741 (k0_t86 : Fin k0_t86_loop.trips) : Fin 4 → Nat :=
  let c1_i32_5344 : BitVec 32 := 1#32
  let v3185 : Index := Scalar.indexCast c1_i32_5344
  let c0_i32_5345 : BitVec 32 := 0#32
  let v3186 : Index := Scalar.indexCast c0_i32_5345
  let c0_i32_5325 : BitVec 32 := 0#32
  let c0_i32_4801 : BitVec 32 := 0#32
  let c1_i32_4803 : BitVec 32 := 1#32
  let arg17 : BitVec 32 := Scf.iv c0_i32_4801 c1_i32_4803 k0_t86
  let c1_i32_5324 : BitVec 32 := 1#32
  let v3152 : BitVec 32 := Scalar.muli arg17 c1_i32_5324
  let v3153 : BitVec 32 := Scalar.addi c0_i32_5325 v3152
  let v3187 : Index := Scalar.indexCast v3153
  let c48 : Index := 48#32
  ![1, 0, v3187.toNat, 48]

def k0_chk86 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx681_inb : ∀ (v5 : IVec S16 32) (v8 : IVec S16 32) (v11 : IVec S16 32) (v14 : IVec S16 32) (v15 : IVec S16 32) (v16 : IVec S16 32) (v3154 : IVec S16 32) (k0_hw86 : k0_chk86 v5 v8 v11 v14 v15 v16 v3154), ∀ a x, ((![v15, v3154, v14] : Fin 3 → IVec S16 32) a x).toNat < S2x64x64.size a := fun v5 v8 v11 v14 v15 v16 v3154 k0_hw86 => k0_hw86.1
theorem k0_idx682_inb : ∀ (v5 : IVec S16 32) (v8 : IVec S16 32) (v11 : IVec S16 32) (v14 : IVec S16 32) (v15 : IVec S16 32) (v16 : IVec S16 32) (v3154 : IVec S16 32) (k0_hw86 : k0_chk86 v5 v8 v11 v14 v15 v16 v3154), ∀ a x, ((![v15, v3154, v11] : Fin 3 → IVec S16 32) a x).toNat < S2x64x64.size a := fun v5 v8 v11 v14 v15 v16 v3154 k0_hw86 => k0_hw86.2.1
theorem k0_idx683_inb : ∀ (v5 : IVec S16 32) (v8 : IVec S16 32) (v11 : IVec S16 32) (v14 : IVec S16 32) (v15 : IVec S16 32) (v16 : IVec S16 32) (v3154 : IVec S16 32) (k0_hw86 : k0_chk86 v5 v8 v11 v14 v15 v16 v3154), ∀ a x, ((![v15, v3154, v8] : Fin 3 → IVec S16 32) a x).toNat < S2x64x64.size a := fun v5 v8 v11 v14 v15 v16 v3154 k0_hw86 => k0_hw86.2.2.1
theorem k0_idx684_inb : ∀ (v5 : IVec S16 32) (v8 : IVec S16 32) (v11 : IVec S16 32) (v14 : IVec S16 32) (v15 : IVec S16 32) (v16 : IVec S16 32) (v3154 : IVec S16 32) (k0_hw86 : k0_chk86 v5 v8 v11 v14 v15 v16 v3154), ∀ a x, ((![v15, v3154, v5] : Fin 3 → IVec S16 32) a x).toNat < S2x64x64.size a := fun v5 v8 v11 v14 v15 v16 v3154 k0_hw86 => k0_hw86.2.2.2.1
theorem k0_idx685_inb : ∀ (v5 : IVec S16 32) (v8 : IVec S16 32) (v11 : IVec S16 32) (v14 : IVec S16 32) (v15 : IVec S16 32) (v16 : IVec S16 32) (v3154 : IVec S16 32) (k0_hw86 : k0_chk86 v5 v8 v11 v14 v15 v16 v3154), ∀ a x, ((![v16, v3154, v14] : Fin 3 → IVec S16 32) a x).toNat < S2x64x64.size a := fun v5 v8 v11 v14 v15 v16 v3154 k0_hw86 => k0_hw86.2.2.2.2.1
theorem k0_idx686_inb : ∀ (v5 : IVec S16 32) (v8 : IVec S16 32) (v11 : IVec S16 32) (v14 : IVec S16 32) (v15 : IVec S16 32) (v16 : IVec S16 32) (v3154 : IVec S16 32) (k0_hw86 : k0_chk86 v5 v8 v11 v14 v15 v16 v3154), ∀ a x, ((![v16, v3154, v11] : Fin 3 → IVec S16 32) a x).toNat < S2x64x64.size a := fun v5 v8 v11 v14 v15 v16 v3154 k0_hw86 => k0_hw86.2.2.2.2.2.1
theorem k0_idx687_inb : ∀ (v5 : IVec S16 32) (v8 : IVec S16 32) (v11 : IVec S16 32) (v14 : IVec S16 32) (v15 : IVec S16 32) (v16 : IVec S16 32) (v3154 : IVec S16 32) (k0_hw86 : k0_chk86 v5 v8 v11 v14 v15 v16 v3154), ∀ a x, ((![v16, v3154, v8] : Fin 3 → IVec S16 32) a x).toNat < S2x64x64.size a := fun v5 v8 v11 v14 v15 v16 v3154 k0_hw86 => k0_hw86.2.2.2.2.2.2.1
theorem k0_idx688_inb : ∀ (v5 : IVec S16 32) (v8 : IVec S16 32) (v11 : IVec S16 32) (v14 : IVec S16 32) (v15 : IVec S16 32) (v16 : IVec S16 32) (v3154 : IVec S16 32) (k0_hw86 : k0_chk86 v5 v8 v11 v14 v15 v16 v3154), ∀ a x, ((![v16, v3154, v5] : Fin 3 → IVec S16 32) a x).toNat < S2x64x64.size a := fun v5 v8 v11 v14 v15 v16 v3154 k0_hw86 => k0_hw86.2.2.2.2.2.2.2
def k0_off742 (k0_t86 : Fin k0_t86_loop.trips) : Fin 4 → Nat :=
  let c1_i32_5358 : BitVec 32 := 1#32
  let v3203 : Index := Scalar.indexCast c1_i32_5358
  let c1_i32_5359 : BitVec 32 := 1#32
  let v3204 : Index := Scalar.indexCast c1_i32_5359
  let c0_i32_5325 : BitVec 32 := 0#32
  let c0_i32_4801 : BitVec 32 := 0#32
  let c1_i32_4803 : BitVec 32 := 1#32
  let arg17 : BitVec 32 := Scf.iv c0_i32_4801 c1_i32_4803 k0_t86
  let c1_i32_5324 : BitVec 32 := 1#32
  let v3152 : BitVec 32 := Scalar.muli arg17 c1_i32_5324
  let v3153 : BitVec 32 := Scalar.addi c0_i32_5325 v3152
  let v3205 : Index := Scalar.indexCast v3153
  let c0_5360 : Index := 0#32
  ![1, 1, v3205.toNat, 0]
def k0_off743 (k0_t86 : Fin k0_t86_loop.trips) : Fin 4 → Nat :=
  let c1_i32_5361 : BitVec 32 := 1#32
  let v3209 : Index := Scalar.indexCast c1_i32_5361
  let c1_i32_5362 : BitVec 32 := 1#32
  let v3210 : Index := Scalar.indexCast c1_i32_5362
  let c0_i32_5325 : BitVec 32 := 0#32
  let c0_i32_4801 : BitVec 32 := 0#32
  let c1_i32_4803 : BitVec 32 := 1#32
  let arg17 : BitVec 32 := Scf.iv c0_i32_4801 c1_i32_4803 k0_t86
  let c1_i32_5324 : BitVec 32 := 1#32
  let v3152 : BitVec 32 := Scalar.muli arg17 c1_i32_5324
  let v3153 : BitVec 32 := Scalar.addi c0_i32_5325 v3152
  let v3211 : Index := Scalar.indexCast v3153
  let c16_5363 : Index := 16#32
  ![1, 1, v3211.toNat, 16]
def k0_off744 (k0_t86 : Fin k0_t86_loop.trips) : Fin 4 → Nat :=
  let c1_i32_5364 : BitVec 32 := 1#32
  let v3215 : Index := Scalar.indexCast c1_i32_5364
  let c1_i32_5365 : BitVec 32 := 1#32
  let v3216 : Index := Scalar.indexCast c1_i32_5365
  let c0_i32_5325 : BitVec 32 := 0#32
  let c0_i32_4801 : BitVec 32 := 0#32
  let c1_i32_4803 : BitVec 32 := 1#32
  let arg17 : BitVec 32 := Scf.iv c0_i32_4801 c1_i32_4803 k0_t86
  let c1_i32_5324 : BitVec 32 := 1#32
  let v3152 : BitVec 32 := Scalar.muli arg17 c1_i32_5324
  let v3153 : BitVec 32 := Scalar.addi c0_i32_5325 v3152
  let v3217 : Index := Scalar.indexCast v3153
  let c32_5366 : Index := 32#32
  ![1, 1, v3217.toNat, 32]
def k0_off745 (k0_t86 : Fin k0_t86_loop.trips) : Fin 4 → Nat :=
  let c1_i32_5367 : BitVec 32 := 1#32
  let v3221 : Index := Scalar.indexCast c1_i32_5367
  let c1_i32_5368 : BitVec 32 := 1#32
  let v3222 : Index := Scalar.indexCast c1_i32_5368
  let c0_i32_5325 : BitVec 32 := 0#32
  let c0_i32_4801 : BitVec 32 := 0#32
  let c1_i32_4803 : BitVec 32 := 1#32
  let arg17 : BitVec 32 := Scf.iv c0_i32_4801 c1_i32_4803 k0_t86
  let c1_i32_5324 : BitVec 32 := 1#32
  let v3152 : BitVec 32 := Scalar.muli arg17 c1_i32_5324
  let v3153 : BitVec 32 := Scalar.addi c0_i32_5325 v3152
  let v3223 : Index := Scalar.indexCast v3153
  let c48_5369 : Index := 48#32
  ![1, 1, v3223.toNat, 48]
def k0_off746 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c17_i32 : BitVec 32 := 17#32
  let c0_i32_4809 : BitVec 32 := 0#32
  let c0_i32_4810 : BitVec 32 := 0#32
  ![v2.toNat, 17, 0, 0]
@[reducible] def k0_t87_loop : Scf.Loop 32 :=
  let c0_i32_4856 : BitVec 32 := 0#32
  let c64_i32_4857 : BitVec 32 := 64#32
  let v2879 : BitVec 32 := Scalar.addi c0_i32_4856 c64_i32_4857
  let c1_i32_4858 : BitVec 32 := 1#32
  ⟨c0_i32_4856, v2879, c1_i32_4858⟩
def k0_off747 (k0_t87 : Fin k0_t87_loop.trips) : Fin 4 → Nat :=
  let c2_i32_5341 : BitVec 32 := 2#32
  let v3175 : Index := Scalar.indexCast c2_i32_5341
  let c0_i32_5342 : BitVec 32 := 0#32
  let v3176 : Index := Scalar.indexCast c0_i32_5342
  let c0_i32_5325 : BitVec 32 := 0#32
  let c0_i32_4856 : BitVec 32 := 0#32
  let c1_i32_4858 : BitVec 32 := 1#32
  let arg17 : BitVec 32 := Scf.iv c0_i32_4856 c1_i32_4858 k0_t87
  let c1_i32_5324 : BitVec 32 := 1#32
  let v3152 : BitVec 32 := Scalar.muli arg17 c1_i32_5324
  let v3153 : BitVec 32 := Scalar.addi c0_i32_5325 v3152
  let v3177 : Index := Scalar.indexCast v3153
  let c0 : Index := 0#32
  ![2, 0, v3177.toNat, 0]
def k0_off748 (k0_t87 : Fin k0_t87_loop.trips) : Fin 4 → Nat :=
  let c2_i32_5343 : BitVec 32 := 2#32
  let v3181 : Index := Scalar.indexCast c2_i32_5343
  let c0_i32_5344 : BitVec 32 := 0#32
  let v3182 : Index := Scalar.indexCast c0_i32_5344
  let c0_i32_5325 : BitVec 32 := 0#32
  let c0_i32_4856 : BitVec 32 := 0#32
  let c1_i32_4858 : BitVec 32 := 1#32
  let arg17 : BitVec 32 := Scf.iv c0_i32_4856 c1_i32_4858 k0_t87
  let c1_i32_5324 : BitVec 32 := 1#32
  let v3152 : BitVec 32 := Scalar.muli arg17 c1_i32_5324
  let v3153 : BitVec 32 := Scalar.addi c0_i32_5325 v3152
  let v3183 : Index := Scalar.indexCast v3153
  let c16 : Index := 16#32
  ![2, 0, v3183.toNat, 16]
def k0_off749 (k0_t87 : Fin k0_t87_loop.trips) : Fin 4 → Nat :=
  let c2_i32_5345 : BitVec 32 := 2#32
  let v3187 : Index := Scalar.indexCast c2_i32_5345
  let c0_i32_5346 : BitVec 32 := 0#32
  let v3188 : Index := Scalar.indexCast c0_i32_5346
  let c0_i32_5325 : BitVec 32 := 0#32
  let c0_i32_4856 : BitVec 32 := 0#32
  let c1_i32_4858 : BitVec 32 := 1#32
  let arg17 : BitVec 32 := Scf.iv c0_i32_4856 c1_i32_4858 k0_t87
  let c1_i32_5324 : BitVec 32 := 1#32
  let v3152 : BitVec 32 := Scalar.muli arg17 c1_i32_5324
  let v3153 : BitVec 32 := Scalar.addi c0_i32_5325 v3152
  let v3189 : Index := Scalar.indexCast v3153
  let c32 : Index := 32#32
  ![2, 0, v3189.toNat, 32]
def k0_off750 (k0_t87 : Fin k0_t87_loop.trips) : Fin 4 → Nat :=
  let c2_i32_5347 : BitVec 32 := 2#32
  let v3193 : Index := Scalar.indexCast c2_i32_5347
  let c0_i32_5348 : BitVec 32 := 0#32
  let v3194 : Index := Scalar.indexCast c0_i32_5348
  let c0_i32_5325 : BitVec 32 := 0#32
  let c0_i32_4856 : BitVec 32 := 0#32
  let c1_i32_4858 : BitVec 32 := 1#32
  let arg17 : BitVec 32 := Scf.iv c0_i32_4856 c1_i32_4858 k0_t87
  let c1_i32_5324 : BitVec 32 := 1#32
  let v3152 : BitVec 32 := Scalar.muli arg17 c1_i32_5324
  let v3153 : BitVec 32 := Scalar.addi c0_i32_5325 v3152
  let v3195 : Index := Scalar.indexCast v3153
  let c48 : Index := 48#32
  ![2, 0, v3195.toNat, 48]

def k0_chk87 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx689_inb : ∀ (v5 : IVec S16 32) (v8 : IVec S16 32) (v11 : IVec S16 32) (v14 : IVec S16 32) (v15 : IVec S16 32) (v16 : IVec S16 32) (v3154 : IVec S16 32) (k0_hw87 : k0_chk87 v5 v8 v11 v14 v15 v16 v3154), ∀ a x, ((![v15, v3154, v14] : Fin 3 → IVec S16 32) a x).toNat < S2x64x64.size a := fun v5 v8 v11 v14 v15 v16 v3154 k0_hw87 => k0_hw87.1
theorem k0_idx690_inb : ∀ (v5 : IVec S16 32) (v8 : IVec S16 32) (v11 : IVec S16 32) (v14 : IVec S16 32) (v15 : IVec S16 32) (v16 : IVec S16 32) (v3154 : IVec S16 32) (k0_hw87 : k0_chk87 v5 v8 v11 v14 v15 v16 v3154), ∀ a x, ((![v15, v3154, v11] : Fin 3 → IVec S16 32) a x).toNat < S2x64x64.size a := fun v5 v8 v11 v14 v15 v16 v3154 k0_hw87 => k0_hw87.2.1
theorem k0_idx691_inb : ∀ (v5 : IVec S16 32) (v8 : IVec S16 32) (v11 : IVec S16 32) (v14 : IVec S16 32) (v15 : IVec S16 32) (v16 : IVec S16 32) (v3154 : IVec S16 32) (k0_hw87 : k0_chk87 v5 v8 v11 v14 v15 v16 v3154), ∀ a x, ((![v15, v3154, v8] : Fin 3 → IVec S16 32) a x).toNat < S2x64x64.size a := fun v5 v8 v11 v14 v15 v16 v3154 k0_hw87 => k0_hw87.2.2.1
theorem k0_idx692_inb : ∀ (v5 : IVec S16 32) (v8 : IVec S16 32) (v11 : IVec S16 32) (v14 : IVec S16 32) (v15 : IVec S16 32) (v16 : IVec S16 32) (v3154 : IVec S16 32) (k0_hw87 : k0_chk87 v5 v8 v11 v14 v15 v16 v3154), ∀ a x, ((![v15, v3154, v5] : Fin 3 → IVec S16 32) a x).toNat < S2x64x64.size a := fun v5 v8 v11 v14 v15 v16 v3154 k0_hw87 => k0_hw87.2.2.2.1
theorem k0_idx693_inb : ∀ (v5 : IVec S16 32) (v8 : IVec S16 32) (v11 : IVec S16 32) (v14 : IVec S16 32) (v15 : IVec S16 32) (v16 : IVec S16 32) (v3154 : IVec S16 32) (k0_hw87 : k0_chk87 v5 v8 v11 v14 v15 v16 v3154), ∀ a x, ((![v16, v3154, v14] : Fin 3 → IVec S16 32) a x).toNat < S2x64x64.size a := fun v5 v8 v11 v14 v15 v16 v3154 k0_hw87 => k0_hw87.2.2.2.2.1
theorem k0_idx694_inb : ∀ (v5 : IVec S16 32) (v8 : IVec S16 32) (v11 : IVec S16 32) (v14 : IVec S16 32) (v15 : IVec S16 32) (v16 : IVec S16 32) (v3154 : IVec S16 32) (k0_hw87 : k0_chk87 v5 v8 v11 v14 v15 v16 v3154), ∀ a x, ((![v16, v3154, v11] : Fin 3 → IVec S16 32) a x).toNat < S2x64x64.size a := fun v5 v8 v11 v14 v15 v16 v3154 k0_hw87 => k0_hw87.2.2.2.2.2.1
theorem k0_idx695_inb : ∀ (v5 : IVec S16 32) (v8 : IVec S16 32) (v11 : IVec S16 32) (v14 : IVec S16 32) (v15 : IVec S16 32) (v16 : IVec S16 32) (v3154 : IVec S16 32) (k0_hw87 : k0_chk87 v5 v8 v11 v14 v15 v16 v3154), ∀ a x, ((![v16, v3154, v8] : Fin 3 → IVec S16 32) a x).toNat < S2x64x64.size a := fun v5 v8 v11 v14 v15 v16 v3154 k0_hw87 => k0_hw87.2.2.2.2.2.2.1
theorem k0_idx696_inb : ∀ (v5 : IVec S16 32) (v8 : IVec S16 32) (v11 : IVec S16 32) (v14 : IVec S16 32) (v15 : IVec S16 32) (v16 : IVec S16 32) (v3154 : IVec S16 32) (k0_hw87 : k0_chk87 v5 v8 v11 v14 v15 v16 v3154), ∀ a x, ((![v16, v3154, v5] : Fin 3 → IVec S16 32) a x).toNat < S2x64x64.size a := fun v5 v8 v11 v14 v15 v16 v3154 k0_hw87 => k0_hw87.2.2.2.2.2.2.2
def k0_off751 (k0_t87 : Fin k0_t87_loop.trips) : Fin 4 → Nat :=
  let c2_i32_5365 : BitVec 32 := 2#32
  let v3219 : Index := Scalar.indexCast c2_i32_5365
  let c1_i32_5366 : BitVec 32 := 1#32
  let v3220 : Index := Scalar.indexCast c1_i32_5366
  let c0_i32_5325 : BitVec 32 := 0#32
  let c0_i32_4856 : BitVec 32 := 0#32
  let c1_i32_4858 : BitVec 32 := 1#32
  let arg17 : BitVec 32 := Scf.iv c0_i32_4856 c1_i32_4858 k0_t87
  let c1_i32_5324 : BitVec 32 := 1#32
  let v3152 : BitVec 32 := Scalar.muli arg17 c1_i32_5324
  let v3153 : BitVec 32 := Scalar.addi c0_i32_5325 v3152
  let v3221 : Index := Scalar.indexCast v3153
  let c0_5367 : Index := 0#32
  ![2, 1, v3221.toNat, 0]
def k0_off752 (k0_t87 : Fin k0_t87_loop.trips) : Fin 4 → Nat :=
  let c2_i32_5368 : BitVec 32 := 2#32
  let v3225 : Index := Scalar.indexCast c2_i32_5368
  let c1_i32_5369 : BitVec 32 := 1#32
  let v3226 : Index := Scalar.indexCast c1_i32_5369
  let c0_i32_5325 : BitVec 32 := 0#32
  let c0_i32_4856 : BitVec 32 := 0#32
  let c1_i32_4858 : BitVec 32 := 1#32
  let arg17 : BitVec 32 := Scf.iv c0_i32_4856 c1_i32_4858 k0_t87
  let c1_i32_5324 : BitVec 32 := 1#32
  let v3152 : BitVec 32 := Scalar.muli arg17 c1_i32_5324
  let v3153 : BitVec 32 := Scalar.addi c0_i32_5325 v3152
  let v3227 : Index := Scalar.indexCast v3153
  let c16_5370 : Index := 16#32
  ![2, 1, v3227.toNat, 16]
def k0_off753 (k0_t87 : Fin k0_t87_loop.trips) : Fin 4 → Nat :=
  let c2_i32_5371 : BitVec 32 := 2#32
  let v3231 : Index := Scalar.indexCast c2_i32_5371
  let c1_i32_5372 : BitVec 32 := 1#32
  let v3232 : Index := Scalar.indexCast c1_i32_5372
  let c0_i32_5325 : BitVec 32 := 0#32
  let c0_i32_4856 : BitVec 32 := 0#32
  let c1_i32_4858 : BitVec 32 := 1#32
  let arg17 : BitVec 32 := Scf.iv c0_i32_4856 c1_i32_4858 k0_t87
  let c1_i32_5324 : BitVec 32 := 1#32
  let v3152 : BitVec 32 := Scalar.muli arg17 c1_i32_5324
  let v3153 : BitVec 32 := Scalar.addi c0_i32_5325 v3152
  let v3233 : Index := Scalar.indexCast v3153
  let c32_5373 : Index := 32#32
  ![2, 1, v3233.toNat, 32]
def k0_off754 (k0_t87 : Fin k0_t87_loop.trips) : Fin 4 → Nat :=
  let c2_i32_5374 : BitVec 32 := 2#32
  let v3237 : Index := Scalar.indexCast c2_i32_5374
  let c1_i32_5375 : BitVec 32 := 1#32
  let v3238 : Index := Scalar.indexCast c1_i32_5375
  let c0_i32_5325 : BitVec 32 := 0#32
  let c0_i32_4856 : BitVec 32 := 0#32
  let c1_i32_4858 : BitVec 32 := 1#32
  let arg17 : BitVec 32 := Scf.iv c0_i32_4856 c1_i32_4858 k0_t87
  let c1_i32_5324 : BitVec 32 := 1#32
  let v3152 : BitVec 32 := Scalar.muli arg17 c1_i32_5324
  let v3153 : BitVec 32 := Scalar.addi c0_i32_5325 v3152
  let v3239 : Index := Scalar.indexCast v3153
  let c48_5376 : Index := 48#32
  ![2, 1, v3239.toNat, 48]
def k0_off755 (i : grid0.Coords) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c17_i32_4861 : BitVec 32 := 17#32
  let c0_i32_4862 : BitVec 32 := 0#32
  let c0_i32_4866 : BitVec 32 := 0#32
  let c0_i32_4867 : BitVec 32 := 0#32
  ![v2.toNat, 17, 0, 0, 0]
@[reducible] def k0_t88_loop : Scf.Loop 32 :=
  let c0_i32_4912 : BitVec 32 := 0#32
  let c64_i32_4913 : BitVec 32 := 64#32
  let v2912 : BitVec 32 := Scalar.addi c0_i32_4912 c64_i32_4913
  let c1_i32_4914 : BitVec 32 := 1#32
  ⟨c0_i32_4912, v2912, c1_i32_4914⟩
def k0_off756 (k0_t88 : Fin k0_t88_loop.trips) : Fin 4 → Nat :=
  let c0_i32_5341 : BitVec 32 := 0#32
  let v3175 : Index := Scalar.indexCast c0_i32_5341
  let c0_i32_5342 : BitVec 32 := 0#32
  let v3176 : Index := Scalar.indexCast c0_i32_5342
  let c0_i32_5325 : BitVec 32 := 0#32
  let c0_i32_4912 : BitVec 32 := 0#32
  let c1_i32_4914 : BitVec 32 := 1#32
  let arg17 : BitVec 32 := Scf.iv c0_i32_4912 c1_i32_4914 k0_t88
  let c1_i32_5324 : BitVec 32 := 1#32
  let v3152 : BitVec 32 := Scalar.muli arg17 c1_i32_5324
  let v3153 : BitVec 32 := Scalar.addi c0_i32_5325 v3152
  let v3177 : Index := Scalar.indexCast v3153
  let c0 : Index := 0#32
  ![0, 0, v3177.toNat, 0]
def k0_off757 (k0_t88 : Fin k0_t88_loop.trips) : Fin 4 → Nat :=
  let c0_i32_5343 : BitVec 32 := 0#32
  let v3181 : Index := Scalar.indexCast c0_i32_5343
  let c0_i32_5344 : BitVec 32 := 0#32
  let v3182 : Index := Scalar.indexCast c0_i32_5344
  let c0_i32_5325 : BitVec 32 := 0#32
  let c0_i32_4912 : BitVec 32 := 0#32
  let c1_i32_4914 : BitVec 32 := 1#32
  let arg17 : BitVec 32 := Scf.iv c0_i32_4912 c1_i32_4914 k0_t88
  let c1_i32_5324 : BitVec 32 := 1#32
  let v3152 : BitVec 32 := Scalar.muli arg17 c1_i32_5324
  let v3153 : BitVec 32 := Scalar.addi c0_i32_5325 v3152
  let v3183 : Index := Scalar.indexCast v3153
  let c16 : Index := 16#32
  ![0, 0, v3183.toNat, 16]
def k0_off758 (k0_t88 : Fin k0_t88_loop.trips) : Fin 4 → Nat :=
  let c0_i32_5345 : BitVec 32 := 0#32
  let v3187 : Index := Scalar.indexCast c0_i32_5345
  let c0_i32_5346 : BitVec 32 := 0#32
  let v3188 : Index := Scalar.indexCast c0_i32_5346
  let c0_i32_5325 : BitVec 32 := 0#32
  let c0_i32_4912 : BitVec 32 := 0#32
  let c1_i32_4914 : BitVec 32 := 1#32
  let arg17 : BitVec 32 := Scf.iv c0_i32_4912 c1_i32_4914 k0_t88
  let c1_i32_5324 : BitVec 32 := 1#32
  let v3152 : BitVec 32 := Scalar.muli arg17 c1_i32_5324
  let v3153 : BitVec 32 := Scalar.addi c0_i32_5325 v3152
  let v3189 : Index := Scalar.indexCast v3153
  let c32 : Index := 32#32
  ![0, 0, v3189.toNat, 32]
def k0_off759 (k0_t88 : Fin k0_t88_loop.trips) : Fin 4 → Nat :=
  let c0_i32_5347 : BitVec 32 := 0#32
  let v3193 : Index := Scalar.indexCast c0_i32_5347
  let c0_i32_5348 : BitVec 32 := 0#32
  let v3194 : Index := Scalar.indexCast c0_i32_5348
  let c0_i32_5325 : BitVec 32 := 0#32
  let c0_i32_4912 : BitVec 32 := 0#32
  let c1_i32_4914 : BitVec 32 := 1#32
  let arg17 : BitVec 32 := Scf.iv c0_i32_4912 c1_i32_4914 k0_t88
  let c1_i32_5324 : BitVec 32 := 1#32
  let v3152 : BitVec 32 := Scalar.muli arg17 c1_i32_5324
  let v3153 : BitVec 32 := Scalar.addi c0_i32_5325 v3152
  let v3195 : Index := Scalar.indexCast v3153
  let c48 : Index := 48#32
  ![0, 0, v3195.toNat, 48]

def k0_chk88 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx697_inb : ∀ (v5 : IVec S16 32) (v8 : IVec S16 32) (v11 : IVec S16 32) (v14 : IVec S16 32) (v15 : IVec S16 32) (v16 : IVec S16 32) (v3154 : IVec S16 32) (k0_hw88 : k0_chk88 v5 v8 v11 v14 v15 v16 v3154), ∀ a x, ((![v15, v3154, v14] : Fin 3 → IVec S16 32) a x).toNat < S2x64x64.size a := fun v5 v8 v11 v14 v15 v16 v3154 k0_hw88 => k0_hw88.1
theorem k0_idx698_inb : ∀ (v5 : IVec S16 32) (v8 : IVec S16 32) (v11 : IVec S16 32) (v14 : IVec S16 32) (v15 : IVec S16 32) (v16 : IVec S16 32) (v3154 : IVec S16 32) (k0_hw88 : k0_chk88 v5 v8 v11 v14 v15 v16 v3154), ∀ a x, ((![v15, v3154, v11] : Fin 3 → IVec S16 32) a x).toNat < S2x64x64.size a := fun v5 v8 v11 v14 v15 v16 v3154 k0_hw88 => k0_hw88.2.1
theorem k0_idx699_inb : ∀ (v5 : IVec S16 32) (v8 : IVec S16 32) (v11 : IVec S16 32) (v14 : IVec S16 32) (v15 : IVec S16 32) (v16 : IVec S16 32) (v3154 : IVec S16 32) (k0_hw88 : k0_chk88 v5 v8 v11 v14 v15 v16 v3154), ∀ a x, ((![v15, v3154, v8] : Fin 3 → IVec S16 32) a x).toNat < S2x64x64.size a := fun v5 v8 v11 v14 v15 v16 v3154 k0_hw88 => k0_hw88.2.2.1
theorem k0_idx700_inb : ∀ (v5 : IVec S16 32) (v8 : IVec S16 32) (v11 : IVec S16 32) (v14 : IVec S16 32) (v15 : IVec S16 32) (v16 : IVec S16 32) (v3154 : IVec S16 32) (k0_hw88 : k0_chk88 v5 v8 v11 v14 v15 v16 v3154), ∀ a x, ((![v15, v3154, v5] : Fin 3 → IVec S16 32) a x).toNat < S2x64x64.size a := fun v5 v8 v11 v14 v15 v16 v3154 k0_hw88 => k0_hw88.2.2.2.1
theorem k0_idx701_inb : ∀ (v5 : IVec S16 32) (v8 : IVec S16 32) (v11 : IVec S16 32) (v14 : IVec S16 32) (v15 : IVec S16 32) (v16 : IVec S16 32) (v3154 : IVec S16 32) (k0_hw88 : k0_chk88 v5 v8 v11 v14 v15 v16 v3154), ∀ a x, ((![v16, v3154, v14] : Fin 3 → IVec S16 32) a x).toNat < S2x64x64.size a := fun v5 v8 v11 v14 v15 v16 v3154 k0_hw88 => k0_hw88.2.2.2.2.1
theorem k0_idx702_inb : ∀ (v5 : IVec S16 32) (v8 : IVec S16 32) (v11 : IVec S16 32) (v14 : IVec S16 32) (v15 : IVec S16 32) (v16 : IVec S16 32) (v3154 : IVec S16 32) (k0_hw88 : k0_chk88 v5 v8 v11 v14 v15 v16 v3154), ∀ a x, ((![v16, v3154, v11] : Fin 3 → IVec S16 32) a x).toNat < S2x64x64.size a := fun v5 v8 v11 v14 v15 v16 v3154 k0_hw88 => k0_hw88.2.2.2.2.2.1
theorem k0_idx703_inb : ∀ (v5 : IVec S16 32) (v8 : IVec S16 32) (v11 : IVec S16 32) (v14 : IVec S16 32) (v15 : IVec S16 32) (v16 : IVec S16 32) (v3154 : IVec S16 32) (k0_hw88 : k0_chk88 v5 v8 v11 v14 v15 v16 v3154), ∀ a x, ((![v16, v3154, v8] : Fin 3 → IVec S16 32) a x).toNat < S2x64x64.size a := fun v5 v8 v11 v14 v15 v16 v3154 k0_hw88 => k0_hw88.2.2.2.2.2.2.1
theorem k0_idx704_inb : ∀ (v5 : IVec S16 32) (v8 : IVec S16 32) (v11 : IVec S16 32) (v14 : IVec S16 32) (v15 : IVec S16 32) (v16 : IVec S16 32) (v3154 : IVec S16 32) (k0_hw88 : k0_chk88 v5 v8 v11 v14 v15 v16 v3154), ∀ a x, ((![v16, v3154, v5] : Fin 3 → IVec S16 32) a x).toNat < S2x64x64.size a := fun v5 v8 v11 v14 v15 v16 v3154 k0_hw88 => k0_hw88.2.2.2.2.2.2.2
def k0_off760 (k0_t88 : Fin k0_t88_loop.trips) : Fin 4 → Nat :=
  let c0_i32_5365 : BitVec 32 := 0#32
  let v3219 : Index := Scalar.indexCast c0_i32_5365
  let c1_i32_5366 : BitVec 32 := 1#32
  let v3220 : Index := Scalar.indexCast c1_i32_5366
  let c0_i32_5325 : BitVec 32 := 0#32
  let c0_i32_4912 : BitVec 32 := 0#32
  let c1_i32_4914 : BitVec 32 := 1#32
  let arg17 : BitVec 32 := Scf.iv c0_i32_4912 c1_i32_4914 k0_t88
  let c1_i32_5324 : BitVec 32 := 1#32
  let v3152 : BitVec 32 := Scalar.muli arg17 c1_i32_5324
  let v3153 : BitVec 32 := Scalar.addi c0_i32_5325 v3152
  let v3221 : Index := Scalar.indexCast v3153
  let c0_5367 : Index := 0#32
  ![0, 1, v3221.toNat, 0]
def k0_off761 (k0_t88 : Fin k0_t88_loop.trips) : Fin 4 → Nat :=
  let c0_i32_5368 : BitVec 32 := 0#32
  let v3225 : Index := Scalar.indexCast c0_i32_5368
  let c1_i32_5369 : BitVec 32 := 1#32
  let v3226 : Index := Scalar.indexCast c1_i32_5369
  let c0_i32_5325 : BitVec 32 := 0#32
  let c0_i32_4912 : BitVec 32 := 0#32
  let c1_i32_4914 : BitVec 32 := 1#32
  let arg17 : BitVec 32 := Scf.iv c0_i32_4912 c1_i32_4914 k0_t88
  let c1_i32_5324 : BitVec 32 := 1#32
  let v3152 : BitVec 32 := Scalar.muli arg17 c1_i32_5324
  let v3153 : BitVec 32 := Scalar.addi c0_i32_5325 v3152
  let v3227 : Index := Scalar.indexCast v3153
  let c16_5370 : Index := 16#32
  ![0, 1, v3227.toNat, 16]
def k0_off762 (k0_t88 : Fin k0_t88_loop.trips) : Fin 4 → Nat :=
  let c0_i32_5371 : BitVec 32 := 0#32
  let v3231 : Index := Scalar.indexCast c0_i32_5371
  let c1_i32_5372 : BitVec 32 := 1#32
  let v3232 : Index := Scalar.indexCast c1_i32_5372
  let c0_i32_5325 : BitVec 32 := 0#32
  let c0_i32_4912 : BitVec 32 := 0#32
  let c1_i32_4914 : BitVec 32 := 1#32
  let arg17 : BitVec 32 := Scf.iv c0_i32_4912 c1_i32_4914 k0_t88
  let c1_i32_5324 : BitVec 32 := 1#32
  let v3152 : BitVec 32 := Scalar.muli arg17 c1_i32_5324
  let v3153 : BitVec 32 := Scalar.addi c0_i32_5325 v3152
  let v3233 : Index := Scalar.indexCast v3153
  let c32_5373 : Index := 32#32
  ![0, 1, v3233.toNat, 32]
def k0_off763 (k0_t88 : Fin k0_t88_loop.trips) : Fin 4 → Nat :=
  let c0_i32_5374 : BitVec 32 := 0#32
  let v3237 : Index := Scalar.indexCast c0_i32_5374
  let c1_i32_5375 : BitVec 32 := 1#32
  let v3238 : Index := Scalar.indexCast c1_i32_5375
  let c0_i32_5325 : BitVec 32 := 0#32
  let c0_i32_4912 : BitVec 32 := 0#32
  let c1_i32_4914 : BitVec 32 := 1#32
  let arg17 : BitVec 32 := Scf.iv c0_i32_4912 c1_i32_4914 k0_t88
  let c1_i32_5324 : BitVec 32 := 1#32
  let v3152 : BitVec 32 := Scalar.muli arg17 c1_i32_5324
  let v3153 : BitVec 32 := Scalar.addi c0_i32_5325 v3152
  let v3239 : Index := Scalar.indexCast v3153
  let c48_5376 : Index := 48#32
  ![0, 1, v3239.toNat, 48]
@[reducible] def k0_t89_loop : Scf.Loop 32 :=
  let c0_i32_4968 : BitVec 32 := 0#32
  let c64_i32_4969 : BitVec 32 := 64#32
  let v2945 : BitVec 32 := Scalar.addi c0_i32_4968 c64_i32_4969
  let c1_i32_4970 : BitVec 32 := 1#32
  ⟨c0_i32_4968, v2945, c1_i32_4970⟩
def k0_off764 (k0_t89 : Fin k0_t89_loop.trips) : Fin 4 → Nat :=
  let c1_i32_5338 : BitVec 32 := 1#32
  let v3167 : Index := Scalar.indexCast c1_i32_5338
  let c0_i32_5339 : BitVec 32 := 0#32
  let v3168 : Index := Scalar.indexCast c0_i32_5339
  let c0_i32_5325 : BitVec 32 := 0#32
  let c0_i32_4968 : BitVec 32 := 0#32
  let c1_i32_4970 : BitVec 32 := 1#32
  let arg17 : BitVec 32 := Scf.iv c0_i32_4968 c1_i32_4970 k0_t89
  let c1_i32_5324 : BitVec 32 := 1#32
  let v3152 : BitVec 32 := Scalar.muli arg17 c1_i32_5324
  let v3153 : BitVec 32 := Scalar.addi c0_i32_5325 v3152
  let v3169 : Index := Scalar.indexCast v3153
  let c0 : Index := 0#32
  ![1, 0, v3169.toNat, 0]
def k0_off765 (k0_t89 : Fin k0_t89_loop.trips) : Fin 4 → Nat :=
  let c1_i32_5340 : BitVec 32 := 1#32
  let v3173 : Index := Scalar.indexCast c1_i32_5340
  let c0_i32_5341 : BitVec 32 := 0#32
  let v3174 : Index := Scalar.indexCast c0_i32_5341
  let c0_i32_5325 : BitVec 32 := 0#32
  let c0_i32_4968 : BitVec 32 := 0#32
  let c1_i32_4970 : BitVec 32 := 1#32
  let arg17 : BitVec 32 := Scf.iv c0_i32_4968 c1_i32_4970 k0_t89
  let c1_i32_5324 : BitVec 32 := 1#32
  let v3152 : BitVec 32 := Scalar.muli arg17 c1_i32_5324
  let v3153 : BitVec 32 := Scalar.addi c0_i32_5325 v3152
  let v3175 : Index := Scalar.indexCast v3153
  let c16 : Index := 16#32
  ![1, 0, v3175.toNat, 16]
def k0_off766 (k0_t89 : Fin k0_t89_loop.trips) : Fin 4 → Nat :=
  let c1_i32_5342 : BitVec 32 := 1#32
  let v3179 : Index := Scalar.indexCast c1_i32_5342
  let c0_i32_5343 : BitVec 32 := 0#32
  let v3180 : Index := Scalar.indexCast c0_i32_5343
  let c0_i32_5325 : BitVec 32 := 0#32
  let c0_i32_4968 : BitVec 32 := 0#32
  let c1_i32_4970 : BitVec 32 := 1#32
  let arg17 : BitVec 32 := Scf.iv c0_i32_4968 c1_i32_4970 k0_t89
  let c1_i32_5324 : BitVec 32 := 1#32
  let v3152 : BitVec 32 := Scalar.muli arg17 c1_i32_5324
  let v3153 : BitVec 32 := Scalar.addi c0_i32_5325 v3152
  let v3181 : Index := Scalar.indexCast v3153
  let c32 : Index := 32#32
  ![1, 0, v3181.toNat, 32]
def k0_off767 (k0_t89 : Fin k0_t89_loop.trips) : Fin 4 → Nat :=
  let c1_i32_5344 : BitVec 32 := 1#32
  let v3185 : Index := Scalar.indexCast c1_i32_5344
  let c0_i32_5345 : BitVec 32 := 0#32
  let v3186 : Index := Scalar.indexCast c0_i32_5345
  let c0_i32_5325 : BitVec 32 := 0#32
  let c0_i32_4968 : BitVec 32 := 0#32
  let c1_i32_4970 : BitVec 32 := 1#32
  let arg17 : BitVec 32 := Scf.iv c0_i32_4968 c1_i32_4970 k0_t89
  let c1_i32_5324 : BitVec 32 := 1#32
  let v3152 : BitVec 32 := Scalar.muli arg17 c1_i32_5324
  let v3153 : BitVec 32 := Scalar.addi c0_i32_5325 v3152
  let v3187 : Index := Scalar.indexCast v3153
  let c48 : Index := 48#32
  ![1, 0, v3187.toNat, 48]

def k0_chk89 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx705_inb : ∀ (v5 : IVec S16 32) (v8 : IVec S16 32) (v11 : IVec S16 32) (v14 : IVec S16 32) (v15 : IVec S16 32) (v16 : IVec S16 32) (v3154 : IVec S16 32) (k0_hw89 : k0_chk89 v5 v8 v11 v14 v15 v16 v3154), ∀ a x, ((![v15, v3154, v14] : Fin 3 → IVec S16 32) a x).toNat < S2x64x64.size a := fun v5 v8 v11 v14 v15 v16 v3154 k0_hw89 => k0_hw89.1
theorem k0_idx706_inb : ∀ (v5 : IVec S16 32) (v8 : IVec S16 32) (v11 : IVec S16 32) (v14 : IVec S16 32) (v15 : IVec S16 32) (v16 : IVec S16 32) (v3154 : IVec S16 32) (k0_hw89 : k0_chk89 v5 v8 v11 v14 v15 v16 v3154), ∀ a x, ((![v15, v3154, v11] : Fin 3 → IVec S16 32) a x).toNat < S2x64x64.size a := fun v5 v8 v11 v14 v15 v16 v3154 k0_hw89 => k0_hw89.2.1
theorem k0_idx707_inb : ∀ (v5 : IVec S16 32) (v8 : IVec S16 32) (v11 : IVec S16 32) (v14 : IVec S16 32) (v15 : IVec S16 32) (v16 : IVec S16 32) (v3154 : IVec S16 32) (k0_hw89 : k0_chk89 v5 v8 v11 v14 v15 v16 v3154), ∀ a x, ((![v15, v3154, v8] : Fin 3 → IVec S16 32) a x).toNat < S2x64x64.size a := fun v5 v8 v11 v14 v15 v16 v3154 k0_hw89 => k0_hw89.2.2.1
theorem k0_idx708_inb : ∀ (v5 : IVec S16 32) (v8 : IVec S16 32) (v11 : IVec S16 32) (v14 : IVec S16 32) (v15 : IVec S16 32) (v16 : IVec S16 32) (v3154 : IVec S16 32) (k0_hw89 : k0_chk89 v5 v8 v11 v14 v15 v16 v3154), ∀ a x, ((![v15, v3154, v5] : Fin 3 → IVec S16 32) a x).toNat < S2x64x64.size a := fun v5 v8 v11 v14 v15 v16 v3154 k0_hw89 => k0_hw89.2.2.2.1
theorem k0_idx709_inb : ∀ (v5 : IVec S16 32) (v8 : IVec S16 32) (v11 : IVec S16 32) (v14 : IVec S16 32) (v15 : IVec S16 32) (v16 : IVec S16 32) (v3154 : IVec S16 32) (k0_hw89 : k0_chk89 v5 v8 v11 v14 v15 v16 v3154), ∀ a x, ((![v16, v3154, v14] : Fin 3 → IVec S16 32) a x).toNat < S2x64x64.size a := fun v5 v8 v11 v14 v15 v16 v3154 k0_hw89 => k0_hw89.2.2.2.2.1
theorem k0_idx710_inb : ∀ (v5 : IVec S16 32) (v8 : IVec S16 32) (v11 : IVec S16 32) (v14 : IVec S16 32) (v15 : IVec S16 32) (v16 : IVec S16 32) (v3154 : IVec S16 32) (k0_hw89 : k0_chk89 v5 v8 v11 v14 v15 v16 v3154), ∀ a x, ((![v16, v3154, v11] : Fin 3 → IVec S16 32) a x).toNat < S2x64x64.size a := fun v5 v8 v11 v14 v15 v16 v3154 k0_hw89 => k0_hw89.2.2.2.2.2.1
theorem k0_idx711_inb : ∀ (v5 : IVec S16 32) (v8 : IVec S16 32) (v11 : IVec S16 32) (v14 : IVec S16 32) (v15 : IVec S16 32) (v16 : IVec S16 32) (v3154 : IVec S16 32) (k0_hw89 : k0_chk89 v5 v8 v11 v14 v15 v16 v3154), ∀ a x, ((![v16, v3154, v8] : Fin 3 → IVec S16 32) a x).toNat < S2x64x64.size a := fun v5 v8 v11 v14 v15 v16 v3154 k0_hw89 => k0_hw89.2.2.2.2.2.2.1
theorem k0_idx712_inb : ∀ (v5 : IVec S16 32) (v8 : IVec S16 32) (v11 : IVec S16 32) (v14 : IVec S16 32) (v15 : IVec S16 32) (v16 : IVec S16 32) (v3154 : IVec S16 32) (k0_hw89 : k0_chk89 v5 v8 v11 v14 v15 v16 v3154), ∀ a x, ((![v16, v3154, v5] : Fin 3 → IVec S16 32) a x).toNat < S2x64x64.size a := fun v5 v8 v11 v14 v15 v16 v3154 k0_hw89 => k0_hw89.2.2.2.2.2.2.2
def k0_off768 (k0_t89 : Fin k0_t89_loop.trips) : Fin 4 → Nat :=
  let c1_i32_5358 : BitVec 32 := 1#32
  let v3203 : Index := Scalar.indexCast c1_i32_5358
  let c1_i32_5359 : BitVec 32 := 1#32
  let v3204 : Index := Scalar.indexCast c1_i32_5359
  let c0_i32_5325 : BitVec 32 := 0#32
  let c0_i32_4968 : BitVec 32 := 0#32
  let c1_i32_4970 : BitVec 32 := 1#32
  let arg17 : BitVec 32 := Scf.iv c0_i32_4968 c1_i32_4970 k0_t89
  let c1_i32_5324 : BitVec 32 := 1#32
  let v3152 : BitVec 32 := Scalar.muli arg17 c1_i32_5324
  let v3153 : BitVec 32 := Scalar.addi c0_i32_5325 v3152
  let v3205 : Index := Scalar.indexCast v3153
  let c0_5360 : Index := 0#32
  ![1, 1, v3205.toNat, 0]
def k0_off769 (k0_t89 : Fin k0_t89_loop.trips) : Fin 4 → Nat :=
  let c1_i32_5361 : BitVec 32 := 1#32
  let v3209 : Index := Scalar.indexCast c1_i32_5361
  let c1_i32_5362 : BitVec 32 := 1#32
  let v3210 : Index := Scalar.indexCast c1_i32_5362
  let c0_i32_5325 : BitVec 32 := 0#32
  let c0_i32_4968 : BitVec 32 := 0#32
  let c1_i32_4970 : BitVec 32 := 1#32
  let arg17 : BitVec 32 := Scf.iv c0_i32_4968 c1_i32_4970 k0_t89
  let c1_i32_5324 : BitVec 32 := 1#32
  let v3152 : BitVec 32 := Scalar.muli arg17 c1_i32_5324
  let v3153 : BitVec 32 := Scalar.addi c0_i32_5325 v3152
  let v3211 : Index := Scalar.indexCast v3153
  let c16_5363 : Index := 16#32
  ![1, 1, v3211.toNat, 16]
def k0_off770 (k0_t89 : Fin k0_t89_loop.trips) : Fin 4 → Nat :=
  let c1_i32_5364 : BitVec 32 := 1#32
  let v3215 : Index := Scalar.indexCast c1_i32_5364
  let c1_i32_5365 : BitVec 32 := 1#32
  let v3216 : Index := Scalar.indexCast c1_i32_5365
  let c0_i32_5325 : BitVec 32 := 0#32
  let c0_i32_4968 : BitVec 32 := 0#32
  let c1_i32_4970 : BitVec 32 := 1#32
  let arg17 : BitVec 32 := Scf.iv c0_i32_4968 c1_i32_4970 k0_t89
  let c1_i32_5324 : BitVec 32 := 1#32
  let v3152 : BitVec 32 := Scalar.muli arg17 c1_i32_5324
  let v3153 : BitVec 32 := Scalar.addi c0_i32_5325 v3152
  let v3217 : Index := Scalar.indexCast v3153
  let c32_5366 : Index := 32#32
  ![1, 1, v3217.toNat, 32]
def k0_off771 (k0_t89 : Fin k0_t89_loop.trips) : Fin 4 → Nat :=
  let c1_i32_5367 : BitVec 32 := 1#32
  let v3221 : Index := Scalar.indexCast c1_i32_5367
  let c1_i32_5368 : BitVec 32 := 1#32
  let v3222 : Index := Scalar.indexCast c1_i32_5368
  let c0_i32_5325 : BitVec 32 := 0#32
  let c0_i32_4968 : BitVec 32 := 0#32
  let c1_i32_4970 : BitVec 32 := 1#32
  let arg17 : BitVec 32 := Scf.iv c0_i32_4968 c1_i32_4970 k0_t89
  let c1_i32_5324 : BitVec 32 := 1#32
  let v3152 : BitVec 32 := Scalar.muli arg17 c1_i32_5324
  let v3153 : BitVec 32 := Scalar.addi c0_i32_5325 v3152
  let v3223 : Index := Scalar.indexCast v3153
  let c48_5369 : Index := 48#32
  ![1, 1, v3223.toNat, 48]
def k0_off772 (i : grid0.Coords) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c17_i32_4973 : BitVec 32 := 17#32
  let c1_i32_4974 : BitVec 32 := 1#32
  let c0_i32_4978 : BitVec 32 := 0#32
  let c0_i32_4979 : BitVec 32 := 0#32
  ![v2.toNat, 17, 1, 0, 0]
@[reducible] def k0_t90_loop : Scf.Loop 32 :=
  let c0_i32_5025 : BitVec 32 := 0#32
  let c64_i32_5026 : BitVec 32 := 64#32
  let v2978 : BitVec 32 := Scalar.addi c0_i32_5025 c64_i32_5026
  let c1_i32_5027 : BitVec 32 := 1#32
  ⟨c0_i32_5025, v2978, c1_i32_5027⟩
def k0_off773 (k0_t90 : Fin k0_t90_loop.trips) : Fin 4 → Nat :=
  let c2_i32_5338 : BitVec 32 := 2#32
  let v3167 : Index := Scalar.indexCast c2_i32_5338
  let c0_i32_5339 : BitVec 32 := 0#32
  let v3168 : Index := Scalar.indexCast c0_i32_5339
  let c0_i32_5325 : BitVec 32 := 0#32
  let c0_i32_5025 : BitVec 32 := 0#32
  let c1_i32_5027 : BitVec 32 := 1#32
  let arg17 : BitVec 32 := Scf.iv c0_i32_5025 c1_i32_5027 k0_t90
  let c1_i32_5324 : BitVec 32 := 1#32
  let v3152 : BitVec 32 := Scalar.muli arg17 c1_i32_5324
  let v3153 : BitVec 32 := Scalar.addi c0_i32_5325 v3152
  let v3169 : Index := Scalar.indexCast v3153
  let c0 : Index := 0#32
  ![2, 0, v3169.toNat, 0]
def k0_off774 (k0_t90 : Fin k0_t90_loop.trips) : Fin 4 → Nat :=
  let c2_i32_5340 : BitVec 32 := 2#32
  let v3173 : Index := Scalar.indexCast c2_i32_5340
  let c0_i32_5341 : BitVec 32 := 0#32
  let v3174 : Index := Scalar.indexCast c0_i32_5341
  let c0_i32_5325 : BitVec 32 := 0#32
  let c0_i32_5025 : BitVec 32 := 0#32
  let c1_i32_5027 : BitVec 32 := 1#32
  let arg17 : BitVec 32 := Scf.iv c0_i32_5025 c1_i32_5027 k0_t90
  let c1_i32_5324 : BitVec 32 := 1#32
  let v3152 : BitVec 32 := Scalar.muli arg17 c1_i32_5324
  let v3153 : BitVec 32 := Scalar.addi c0_i32_5325 v3152
  let v3175 : Index := Scalar.indexCast v3153
  let c16 : Index := 16#32
  ![2, 0, v3175.toNat, 16]
def k0_off775 (k0_t90 : Fin k0_t90_loop.trips) : Fin 4 → Nat :=
  let c2_i32_5342 : BitVec 32 := 2#32
  let v3179 : Index := Scalar.indexCast c2_i32_5342
  let c0_i32_5343 : BitVec 32 := 0#32
  let v3180 : Index := Scalar.indexCast c0_i32_5343
  let c0_i32_5325 : BitVec 32 := 0#32
  let c0_i32_5025 : BitVec 32 := 0#32
  let c1_i32_5027 : BitVec 32 := 1#32
  let arg17 : BitVec 32 := Scf.iv c0_i32_5025 c1_i32_5027 k0_t90
  let c1_i32_5324 : BitVec 32 := 1#32
  let v3152 : BitVec 32 := Scalar.muli arg17 c1_i32_5324
  let v3153 : BitVec 32 := Scalar.addi c0_i32_5325 v3152
  let v3181 : Index := Scalar.indexCast v3153
  let c32 : Index := 32#32
  ![2, 0, v3181.toNat, 32]
def k0_off776 (k0_t90 : Fin k0_t90_loop.trips) : Fin 4 → Nat :=
  let c2_i32_5344 : BitVec 32 := 2#32
  let v3185 : Index := Scalar.indexCast c2_i32_5344
  let c0_i32_5345 : BitVec 32 := 0#32
  let v3186 : Index := Scalar.indexCast c0_i32_5345
  let c0_i32_5325 : BitVec 32 := 0#32
  let c0_i32_5025 : BitVec 32 := 0#32
  let c1_i32_5027 : BitVec 32 := 1#32
  let arg17 : BitVec 32 := Scf.iv c0_i32_5025 c1_i32_5027 k0_t90
  let c1_i32_5324 : BitVec 32 := 1#32
  let v3152 : BitVec 32 := Scalar.muli arg17 c1_i32_5324
  let v3153 : BitVec 32 := Scalar.addi c0_i32_5325 v3152
  let v3187 : Index := Scalar.indexCast v3153
  let c48 : Index := 48#32
  ![2, 0, v3187.toNat, 48]

def k0_chk90 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx713_inb : ∀ (v5 : IVec S16 32) (v8 : IVec S16 32) (v11 : IVec S16 32) (v14 : IVec S16 32) (v15 : IVec S16 32) (v16 : IVec S16 32) (v3154 : IVec S16 32) (k0_hw90 : k0_chk90 v5 v8 v11 v14 v15 v16 v3154), ∀ a x, ((![v15, v3154, v14] : Fin 3 → IVec S16 32) a x).toNat < S2x64x64.size a := fun v5 v8 v11 v14 v15 v16 v3154 k0_hw90 => k0_hw90.1
theorem k0_idx714_inb : ∀ (v5 : IVec S16 32) (v8 : IVec S16 32) (v11 : IVec S16 32) (v14 : IVec S16 32) (v15 : IVec S16 32) (v16 : IVec S16 32) (v3154 : IVec S16 32) (k0_hw90 : k0_chk90 v5 v8 v11 v14 v15 v16 v3154), ∀ a x, ((![v15, v3154, v11] : Fin 3 → IVec S16 32) a x).toNat < S2x64x64.size a := fun v5 v8 v11 v14 v15 v16 v3154 k0_hw90 => k0_hw90.2.1
theorem k0_idx715_inb : ∀ (v5 : IVec S16 32) (v8 : IVec S16 32) (v11 : IVec S16 32) (v14 : IVec S16 32) (v15 : IVec S16 32) (v16 : IVec S16 32) (v3154 : IVec S16 32) (k0_hw90 : k0_chk90 v5 v8 v11 v14 v15 v16 v3154), ∀ a x, ((![v15, v3154, v8] : Fin 3 → IVec S16 32) a x).toNat < S2x64x64.size a := fun v5 v8 v11 v14 v15 v16 v3154 k0_hw90 => k0_hw90.2.2.1
theorem k0_idx716_inb : ∀ (v5 : IVec S16 32) (v8 : IVec S16 32) (v11 : IVec S16 32) (v14 : IVec S16 32) (v15 : IVec S16 32) (v16 : IVec S16 32) (v3154 : IVec S16 32) (k0_hw90 : k0_chk90 v5 v8 v11 v14 v15 v16 v3154), ∀ a x, ((![v15, v3154, v5] : Fin 3 → IVec S16 32) a x).toNat < S2x64x64.size a := fun v5 v8 v11 v14 v15 v16 v3154 k0_hw90 => k0_hw90.2.2.2.1
theorem k0_idx717_inb : ∀ (v5 : IVec S16 32) (v8 : IVec S16 32) (v11 : IVec S16 32) (v14 : IVec S16 32) (v15 : IVec S16 32) (v16 : IVec S16 32) (v3154 : IVec S16 32) (k0_hw90 : k0_chk90 v5 v8 v11 v14 v15 v16 v3154), ∀ a x, ((![v16, v3154, v14] : Fin 3 → IVec S16 32) a x).toNat < S2x64x64.size a := fun v5 v8 v11 v14 v15 v16 v3154 k0_hw90 => k0_hw90.2.2.2.2.1
theorem k0_idx718_inb : ∀ (v5 : IVec S16 32) (v8 : IVec S16 32) (v11 : IVec S16 32) (v14 : IVec S16 32) (v15 : IVec S16 32) (v16 : IVec S16 32) (v3154 : IVec S16 32) (k0_hw90 : k0_chk90 v5 v8 v11 v14 v15 v16 v3154), ∀ a x, ((![v16, v3154, v11] : Fin 3 → IVec S16 32) a x).toNat < S2x64x64.size a := fun v5 v8 v11 v14 v15 v16 v3154 k0_hw90 => k0_hw90.2.2.2.2.2.1
theorem k0_idx719_inb : ∀ (v5 : IVec S16 32) (v8 : IVec S16 32) (v11 : IVec S16 32) (v14 : IVec S16 32) (v15 : IVec S16 32) (v16 : IVec S16 32) (v3154 : IVec S16 32) (k0_hw90 : k0_chk90 v5 v8 v11 v14 v15 v16 v3154), ∀ a x, ((![v16, v3154, v8] : Fin 3 → IVec S16 32) a x).toNat < S2x64x64.size a := fun v5 v8 v11 v14 v15 v16 v3154 k0_hw90 => k0_hw90.2.2.2.2.2.2.1
theorem k0_idx720_inb : ∀ (v5 : IVec S16 32) (v8 : IVec S16 32) (v11 : IVec S16 32) (v14 : IVec S16 32) (v15 : IVec S16 32) (v16 : IVec S16 32) (v3154 : IVec S16 32) (k0_hw90 : k0_chk90 v5 v8 v11 v14 v15 v16 v3154), ∀ a x, ((![v16, v3154, v5] : Fin 3 → IVec S16 32) a x).toNat < S2x64x64.size a := fun v5 v8 v11 v14 v15 v16 v3154 k0_hw90 => k0_hw90.2.2.2.2.2.2.2
def k0_off777 (k0_t90 : Fin k0_t90_loop.trips) : Fin 4 → Nat :=
  let c2_i32_5358 : BitVec 32 := 2#32
  let v3203 : Index := Scalar.indexCast c2_i32_5358
  let c1_i32_5359 : BitVec 32 := 1#32
  let v3204 : Index := Scalar.indexCast c1_i32_5359
  let c0_i32_5325 : BitVec 32 := 0#32
  let c0_i32_5025 : BitVec 32 := 0#32
  let c1_i32_5027 : BitVec 32 := 1#32
  let arg17 : BitVec 32 := Scf.iv c0_i32_5025 c1_i32_5027 k0_t90
  let c1_i32_5324 : BitVec 32 := 1#32
  let v3152 : BitVec 32 := Scalar.muli arg17 c1_i32_5324
  let v3153 : BitVec 32 := Scalar.addi c0_i32_5325 v3152
  let v3205 : Index := Scalar.indexCast v3153
  let c0_5360 : Index := 0#32
  ![2, 1, v3205.toNat, 0]
def k0_off778 (k0_t90 : Fin k0_t90_loop.trips) : Fin 4 → Nat :=
  let c2_i32_5361 : BitVec 32 := 2#32
  let v3209 : Index := Scalar.indexCast c2_i32_5361
  let c1_i32_5362 : BitVec 32 := 1#32
  let v3210 : Index := Scalar.indexCast c1_i32_5362
  let c0_i32_5325 : BitVec 32 := 0#32
  let c0_i32_5025 : BitVec 32 := 0#32
  let c1_i32_5027 : BitVec 32 := 1#32
  let arg17 : BitVec 32 := Scf.iv c0_i32_5025 c1_i32_5027 k0_t90
  let c1_i32_5324 : BitVec 32 := 1#32
  let v3152 : BitVec 32 := Scalar.muli arg17 c1_i32_5324
  let v3153 : BitVec 32 := Scalar.addi c0_i32_5325 v3152
  let v3211 : Index := Scalar.indexCast v3153
  let c16_5363 : Index := 16#32
  ![2, 1, v3211.toNat, 16]
def k0_off779 (k0_t90 : Fin k0_t90_loop.trips) : Fin 4 → Nat :=
  let c2_i32_5364 : BitVec 32 := 2#32
  let v3215 : Index := Scalar.indexCast c2_i32_5364
  let c1_i32_5365 : BitVec 32 := 1#32
  let v3216 : Index := Scalar.indexCast c1_i32_5365
  let c0_i32_5325 : BitVec 32 := 0#32
  let c0_i32_5025 : BitVec 32 := 0#32
  let c1_i32_5027 : BitVec 32 := 1#32
  let arg17 : BitVec 32 := Scf.iv c0_i32_5025 c1_i32_5027 k0_t90
  let c1_i32_5324 : BitVec 32 := 1#32
  let v3152 : BitVec 32 := Scalar.muli arg17 c1_i32_5324
  let v3153 : BitVec 32 := Scalar.addi c0_i32_5325 v3152
  let v3217 : Index := Scalar.indexCast v3153
  let c32_5366 : Index := 32#32
  ![2, 1, v3217.toNat, 32]
def k0_off780 (k0_t90 : Fin k0_t90_loop.trips) : Fin 4 → Nat :=
  let c2_i32_5367 : BitVec 32 := 2#32
  let v3221 : Index := Scalar.indexCast c2_i32_5367
  let c1_i32_5368 : BitVec 32 := 1#32
  let v3222 : Index := Scalar.indexCast c1_i32_5368
  let c0_i32_5325 : BitVec 32 := 0#32
  let c0_i32_5025 : BitVec 32 := 0#32
  let c1_i32_5027 : BitVec 32 := 1#32
  let arg17 : BitVec 32 := Scf.iv c0_i32_5025 c1_i32_5027 k0_t90
  let c1_i32_5324 : BitVec 32 := 1#32
  let v3152 : BitVec 32 := Scalar.muli arg17 c1_i32_5324
  let v3153 : BitVec 32 := Scalar.addi c0_i32_5325 v3152
  let v3223 : Index := Scalar.indexCast v3153
  let c48_5369 : Index := 48#32
  ![2, 1, v3223.toNat, 48]
@[reducible] def k0_t91_loop : Scf.Loop 32 :=
  let c0_i32_5081 : BitVec 32 := 0#32
  let c64_i32_5082 : BitVec 32 := 64#32
  let v3011 : BitVec 32 := Scalar.addi c0_i32_5081 c64_i32_5082
  let c1_i32_5083 : BitVec 32 := 1#32
  ⟨c0_i32_5081, v3011, c1_i32_5083⟩
def k0_off781 (k0_t91 : Fin k0_t91_loop.trips) : Fin 4 → Nat :=
  let c0_i32_5338 : BitVec 32 := 0#32
  let v3167 : Index := Scalar.indexCast c0_i32_5338
  let c0_i32_5339 : BitVec 32 := 0#32
  let v3168 : Index := Scalar.indexCast c0_i32_5339
  let c0_i32_5325 : BitVec 32 := 0#32
  let c0_i32_5081 : BitVec 32 := 0#32
  let c1_i32_5083 : BitVec 32 := 1#32
  let arg17 : BitVec 32 := Scf.iv c0_i32_5081 c1_i32_5083 k0_t91
  let c1_i32_5324 : BitVec 32 := 1#32
  let v3152 : BitVec 32 := Scalar.muli arg17 c1_i32_5324
  let v3153 : BitVec 32 := Scalar.addi c0_i32_5325 v3152
  let v3169 : Index := Scalar.indexCast v3153
  let c0 : Index := 0#32
  ![0, 0, v3169.toNat, 0]
def k0_off782 (k0_t91 : Fin k0_t91_loop.trips) : Fin 4 → Nat :=
  let c0_i32_5340 : BitVec 32 := 0#32
  let v3173 : Index := Scalar.indexCast c0_i32_5340
  let c0_i32_5341 : BitVec 32 := 0#32
  let v3174 : Index := Scalar.indexCast c0_i32_5341
  let c0_i32_5325 : BitVec 32 := 0#32
  let c0_i32_5081 : BitVec 32 := 0#32
  let c1_i32_5083 : BitVec 32 := 1#32
  let arg17 : BitVec 32 := Scf.iv c0_i32_5081 c1_i32_5083 k0_t91
  let c1_i32_5324 : BitVec 32 := 1#32
  let v3152 : BitVec 32 := Scalar.muli arg17 c1_i32_5324
  let v3153 : BitVec 32 := Scalar.addi c0_i32_5325 v3152
  let v3175 : Index := Scalar.indexCast v3153
  let c16 : Index := 16#32
  ![0, 0, v3175.toNat, 16]
def k0_off783 (k0_t91 : Fin k0_t91_loop.trips) : Fin 4 → Nat :=
  let c0_i32_5342 : BitVec 32 := 0#32
  let v3179 : Index := Scalar.indexCast c0_i32_5342
  let c0_i32_5343 : BitVec 32 := 0#32
  let v3180 : Index := Scalar.indexCast c0_i32_5343
  let c0_i32_5325 : BitVec 32 := 0#32
  let c0_i32_5081 : BitVec 32 := 0#32
  let c1_i32_5083 : BitVec 32 := 1#32
  let arg17 : BitVec 32 := Scf.iv c0_i32_5081 c1_i32_5083 k0_t91
  let c1_i32_5324 : BitVec 32 := 1#32
  let v3152 : BitVec 32 := Scalar.muli arg17 c1_i32_5324
  let v3153 : BitVec 32 := Scalar.addi c0_i32_5325 v3152
  let v3181 : Index := Scalar.indexCast v3153
  let c32 : Index := 32#32
  ![0, 0, v3181.toNat, 32]
def k0_off784 (k0_t91 : Fin k0_t91_loop.trips) : Fin 4 → Nat :=
  let c0_i32_5344 : BitVec 32 := 0#32
  let v3185 : Index := Scalar.indexCast c0_i32_5344
  let c0_i32_5345 : BitVec 32 := 0#32
  let v3186 : Index := Scalar.indexCast c0_i32_5345
  let c0_i32_5325 : BitVec 32 := 0#32
  let c0_i32_5081 : BitVec 32 := 0#32
  let c1_i32_5083 : BitVec 32 := 1#32
  let arg17 : BitVec 32 := Scf.iv c0_i32_5081 c1_i32_5083 k0_t91
  let c1_i32_5324 : BitVec 32 := 1#32
  let v3152 : BitVec 32 := Scalar.muli arg17 c1_i32_5324
  let v3153 : BitVec 32 := Scalar.addi c0_i32_5325 v3152
  let v3187 : Index := Scalar.indexCast v3153
  let c48 : Index := 48#32
  ![0, 0, v3187.toNat, 48]

def k0_chk91 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx721_inb : ∀ (v5 : IVec S16 32) (v8 : IVec S16 32) (v11 : IVec S16 32) (v14 : IVec S16 32) (v15 : IVec S16 32) (v16 : IVec S16 32) (v3154 : IVec S16 32) (k0_hw91 : k0_chk91 v5 v8 v11 v14 v15 v16 v3154), ∀ a x, ((![v15, v3154, v14] : Fin 3 → IVec S16 32) a x).toNat < S2x64x64.size a := fun v5 v8 v11 v14 v15 v16 v3154 k0_hw91 => k0_hw91.1
theorem k0_idx722_inb : ∀ (v5 : IVec S16 32) (v8 : IVec S16 32) (v11 : IVec S16 32) (v14 : IVec S16 32) (v15 : IVec S16 32) (v16 : IVec S16 32) (v3154 : IVec S16 32) (k0_hw91 : k0_chk91 v5 v8 v11 v14 v15 v16 v3154), ∀ a x, ((![v15, v3154, v11] : Fin 3 → IVec S16 32) a x).toNat < S2x64x64.size a := fun v5 v8 v11 v14 v15 v16 v3154 k0_hw91 => k0_hw91.2.1
theorem k0_idx723_inb : ∀ (v5 : IVec S16 32) (v8 : IVec S16 32) (v11 : IVec S16 32) (v14 : IVec S16 32) (v15 : IVec S16 32) (v16 : IVec S16 32) (v3154 : IVec S16 32) (k0_hw91 : k0_chk91 v5 v8 v11 v14 v15 v16 v3154), ∀ a x, ((![v15, v3154, v8] : Fin 3 → IVec S16 32) a x).toNat < S2x64x64.size a := fun v5 v8 v11 v14 v15 v16 v3154 k0_hw91 => k0_hw91.2.2.1
theorem k0_idx724_inb : ∀ (v5 : IVec S16 32) (v8 : IVec S16 32) (v11 : IVec S16 32) (v14 : IVec S16 32) (v15 : IVec S16 32) (v16 : IVec S16 32) (v3154 : IVec S16 32) (k0_hw91 : k0_chk91 v5 v8 v11 v14 v15 v16 v3154), ∀ a x, ((![v15, v3154, v5] : Fin 3 → IVec S16 32) a x).toNat < S2x64x64.size a := fun v5 v8 v11 v14 v15 v16 v3154 k0_hw91 => k0_hw91.2.2.2.1
theorem k0_idx725_inb : ∀ (v5 : IVec S16 32) (v8 : IVec S16 32) (v11 : IVec S16 32) (v14 : IVec S16 32) (v15 : IVec S16 32) (v16 : IVec S16 32) (v3154 : IVec S16 32) (k0_hw91 : k0_chk91 v5 v8 v11 v14 v15 v16 v3154), ∀ a x, ((![v16, v3154, v14] : Fin 3 → IVec S16 32) a x).toNat < S2x64x64.size a := fun v5 v8 v11 v14 v15 v16 v3154 k0_hw91 => k0_hw91.2.2.2.2.1
theorem k0_idx726_inb : ∀ (v5 : IVec S16 32) (v8 : IVec S16 32) (v11 : IVec S16 32) (v14 : IVec S16 32) (v15 : IVec S16 32) (v16 : IVec S16 32) (v3154 : IVec S16 32) (k0_hw91 : k0_chk91 v5 v8 v11 v14 v15 v16 v3154), ∀ a x, ((![v16, v3154, v11] : Fin 3 → IVec S16 32) a x).toNat < S2x64x64.size a := fun v5 v8 v11 v14 v15 v16 v3154 k0_hw91 => k0_hw91.2.2.2.2.2.1
theorem k0_idx727_inb : ∀ (v5 : IVec S16 32) (v8 : IVec S16 32) (v11 : IVec S16 32) (v14 : IVec S16 32) (v15 : IVec S16 32) (v16 : IVec S16 32) (v3154 : IVec S16 32) (k0_hw91 : k0_chk91 v5 v8 v11 v14 v15 v16 v3154), ∀ a x, ((![v16, v3154, v8] : Fin 3 → IVec S16 32) a x).toNat < S2x64x64.size a := fun v5 v8 v11 v14 v15 v16 v3154 k0_hw91 => k0_hw91.2.2.2.2.2.2.1
theorem k0_idx728_inb : ∀ (v5 : IVec S16 32) (v8 : IVec S16 32) (v11 : IVec S16 32) (v14 : IVec S16 32) (v15 : IVec S16 32) (v16 : IVec S16 32) (v3154 : IVec S16 32) (k0_hw91 : k0_chk91 v5 v8 v11 v14 v15 v16 v3154), ∀ a x, ((![v16, v3154, v5] : Fin 3 → IVec S16 32) a x).toNat < S2x64x64.size a := fun v5 v8 v11 v14 v15 v16 v3154 k0_hw91 => k0_hw91.2.2.2.2.2.2.2
def k0_off785 (k0_t91 : Fin k0_t91_loop.trips) : Fin 4 → Nat :=
  let c0_i32_5358 : BitVec 32 := 0#32
  let v3203 : Index := Scalar.indexCast c0_i32_5358
  let c1_i32_5359 : BitVec 32 := 1#32
  let v3204 : Index := Scalar.indexCast c1_i32_5359
  let c0_i32_5325 : BitVec 32 := 0#32
  let c0_i32_5081 : BitVec 32 := 0#32
  let c1_i32_5083 : BitVec 32 := 1#32
  let arg17 : BitVec 32 := Scf.iv c0_i32_5081 c1_i32_5083 k0_t91
  let c1_i32_5324 : BitVec 32 := 1#32
  let v3152 : BitVec 32 := Scalar.muli arg17 c1_i32_5324
  let v3153 : BitVec 32 := Scalar.addi c0_i32_5325 v3152
  let v3205 : Index := Scalar.indexCast v3153
  let c0_5360 : Index := 0#32
  ![0, 1, v3205.toNat, 0]
def k0_off786 (k0_t91 : Fin k0_t91_loop.trips) : Fin 4 → Nat :=
  let c0_i32_5361 : BitVec 32 := 0#32
  let v3209 : Index := Scalar.indexCast c0_i32_5361
  let c1_i32_5362 : BitVec 32 := 1#32
  let v3210 : Index := Scalar.indexCast c1_i32_5362
  let c0_i32_5325 : BitVec 32 := 0#32
  let c0_i32_5081 : BitVec 32 := 0#32
  let c1_i32_5083 : BitVec 32 := 1#32
  let arg17 : BitVec 32 := Scf.iv c0_i32_5081 c1_i32_5083 k0_t91
  let c1_i32_5324 : BitVec 32 := 1#32
  let v3152 : BitVec 32 := Scalar.muli arg17 c1_i32_5324
  let v3153 : BitVec 32 := Scalar.addi c0_i32_5325 v3152
  let v3211 : Index := Scalar.indexCast v3153
  let c16_5363 : Index := 16#32
  ![0, 1, v3211.toNat, 16]
def k0_off787 (k0_t91 : Fin k0_t91_loop.trips) : Fin 4 → Nat :=
  let c0_i32_5364 : BitVec 32 := 0#32
  let v3215 : Index := Scalar.indexCast c0_i32_5364
  let c1_i32_5365 : BitVec 32 := 1#32
  let v3216 : Index := Scalar.indexCast c1_i32_5365
  let c0_i32_5325 : BitVec 32 := 0#32
  let c0_i32_5081 : BitVec 32 := 0#32
  let c1_i32_5083 : BitVec 32 := 1#32
  let arg17 : BitVec 32 := Scf.iv c0_i32_5081 c1_i32_5083 k0_t91
  let c1_i32_5324 : BitVec 32 := 1#32
  let v3152 : BitVec 32 := Scalar.muli arg17 c1_i32_5324
  let v3153 : BitVec 32 := Scalar.addi c0_i32_5325 v3152
  let v3217 : Index := Scalar.indexCast v3153
  let c32_5366 : Index := 32#32
  ![0, 1, v3217.toNat, 32]
def k0_off788 (k0_t91 : Fin k0_t91_loop.trips) : Fin 4 → Nat :=
  let c0_i32_5367 : BitVec 32 := 0#32
  let v3221 : Index := Scalar.indexCast c0_i32_5367
  let c1_i32_5368 : BitVec 32 := 1#32
  let v3222 : Index := Scalar.indexCast c1_i32_5368
  let c0_i32_5325 : BitVec 32 := 0#32
  let c0_i32_5081 : BitVec 32 := 0#32
  let c1_i32_5083 : BitVec 32 := 1#32
  let arg17 : BitVec 32 := Scf.iv c0_i32_5081 c1_i32_5083 k0_t91
  let c1_i32_5324 : BitVec 32 := 1#32
  let v3152 : BitVec 32 := Scalar.muli arg17 c1_i32_5324
  let v3153 : BitVec 32 := Scalar.addi c0_i32_5325 v3152
  let v3223 : Index := Scalar.indexCast v3153
  let c48_5369 : Index := 48#32
  ![0, 1, v3223.toNat, 48]
@[reducible] def k0_t92_loop : Scf.Loop 32 :=
  let c0_i32_5137 : BitVec 32 := 0#32
  let c64_i32_5138 : BitVec 32 := 64#32
  let v3044 : BitVec 32 := Scalar.addi c0_i32_5137 c64_i32_5138
  let c1_i32_5139 : BitVec 32 := 1#32
  ⟨c0_i32_5137, v3044, c1_i32_5139⟩
def k0_off789 (k0_t92 : Fin k0_t92_loop.trips) : Fin 4 → Nat :=
  let c1_i32_5341 : BitVec 32 := 1#32
  let v3175 : Index := Scalar.indexCast c1_i32_5341
  let c0_i32_5342 : BitVec 32 := 0#32
  let v3176 : Index := Scalar.indexCast c0_i32_5342
  let c0_i32_5325 : BitVec 32 := 0#32
  let c0_i32_5137 : BitVec 32 := 0#32
  let c1_i32_5139 : BitVec 32 := 1#32
  let arg17 : BitVec 32 := Scf.iv c0_i32_5137 c1_i32_5139 k0_t92
  let c1_i32_5324 : BitVec 32 := 1#32
  let v3152 : BitVec 32 := Scalar.muli arg17 c1_i32_5324
  let v3153 : BitVec 32 := Scalar.addi c0_i32_5325 v3152
  let v3177 : Index := Scalar.indexCast v3153
  let c0 : Index := 0#32
  ![1, 0, v3177.toNat, 0]
def k0_off790 (k0_t92 : Fin k0_t92_loop.trips) : Fin 4 → Nat :=
  let c1_i32_5343 : BitVec 32 := 1#32
  let v3181 : Index := Scalar.indexCast c1_i32_5343
  let c0_i32_5344 : BitVec 32 := 0#32
  let v3182 : Index := Scalar.indexCast c0_i32_5344
  let c0_i32_5325 : BitVec 32 := 0#32
  let c0_i32_5137 : BitVec 32 := 0#32
  let c1_i32_5139 : BitVec 32 := 1#32
  let arg17 : BitVec 32 := Scf.iv c0_i32_5137 c1_i32_5139 k0_t92
  let c1_i32_5324 : BitVec 32 := 1#32
  let v3152 : BitVec 32 := Scalar.muli arg17 c1_i32_5324
  let v3153 : BitVec 32 := Scalar.addi c0_i32_5325 v3152
  let v3183 : Index := Scalar.indexCast v3153
  let c16 : Index := 16#32
  ![1, 0, v3183.toNat, 16]
def k0_off791 (k0_t92 : Fin k0_t92_loop.trips) : Fin 4 → Nat :=
  let c1_i32_5345 : BitVec 32 := 1#32
  let v3187 : Index := Scalar.indexCast c1_i32_5345
  let c0_i32_5346 : BitVec 32 := 0#32
  let v3188 : Index := Scalar.indexCast c0_i32_5346
  let c0_i32_5325 : BitVec 32 := 0#32
  let c0_i32_5137 : BitVec 32 := 0#32
  let c1_i32_5139 : BitVec 32 := 1#32
  let arg17 : BitVec 32 := Scf.iv c0_i32_5137 c1_i32_5139 k0_t92
  let c1_i32_5324 : BitVec 32 := 1#32
  let v3152 : BitVec 32 := Scalar.muli arg17 c1_i32_5324
  let v3153 : BitVec 32 := Scalar.addi c0_i32_5325 v3152
  let v3189 : Index := Scalar.indexCast v3153
  let c32 : Index := 32#32
  ![1, 0, v3189.toNat, 32]
def k0_off792 (k0_t92 : Fin k0_t92_loop.trips) : Fin 4 → Nat :=
  let c1_i32_5347 : BitVec 32 := 1#32
  let v3193 : Index := Scalar.indexCast c1_i32_5347
  let c0_i32_5348 : BitVec 32 := 0#32
  let v3194 : Index := Scalar.indexCast c0_i32_5348
  let c0_i32_5325 : BitVec 32 := 0#32
  let c0_i32_5137 : BitVec 32 := 0#32
  let c1_i32_5139 : BitVec 32 := 1#32
  let arg17 : BitVec 32 := Scf.iv c0_i32_5137 c1_i32_5139 k0_t92
  let c1_i32_5324 : BitVec 32 := 1#32
  let v3152 : BitVec 32 := Scalar.muli arg17 c1_i32_5324
  let v3153 : BitVec 32 := Scalar.addi c0_i32_5325 v3152
  let v3195 : Index := Scalar.indexCast v3153
  let c48 : Index := 48#32
  ![1, 0, v3195.toNat, 48]

def k0_chk92 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx729_inb : ∀ (v5 : IVec S16 32) (v8 : IVec S16 32) (v11 : IVec S16 32) (v14 : IVec S16 32) (v15 : IVec S16 32) (v16 : IVec S16 32) (v3154 : IVec S16 32) (k0_hw92 : k0_chk92 v5 v8 v11 v14 v15 v16 v3154), ∀ a x, ((![v15, v3154, v14] : Fin 3 → IVec S16 32) a x).toNat < S2x64x64.size a := fun v5 v8 v11 v14 v15 v16 v3154 k0_hw92 => k0_hw92.1
theorem k0_idx730_inb : ∀ (v5 : IVec S16 32) (v8 : IVec S16 32) (v11 : IVec S16 32) (v14 : IVec S16 32) (v15 : IVec S16 32) (v16 : IVec S16 32) (v3154 : IVec S16 32) (k0_hw92 : k0_chk92 v5 v8 v11 v14 v15 v16 v3154), ∀ a x, ((![v15, v3154, v11] : Fin 3 → IVec S16 32) a x).toNat < S2x64x64.size a := fun v5 v8 v11 v14 v15 v16 v3154 k0_hw92 => k0_hw92.2.1
theorem k0_idx731_inb : ∀ (v5 : IVec S16 32) (v8 : IVec S16 32) (v11 : IVec S16 32) (v14 : IVec S16 32) (v15 : IVec S16 32) (v16 : IVec S16 32) (v3154 : IVec S16 32) (k0_hw92 : k0_chk92 v5 v8 v11 v14 v15 v16 v3154), ∀ a x, ((![v15, v3154, v8] : Fin 3 → IVec S16 32) a x).toNat < S2x64x64.size a := fun v5 v8 v11 v14 v15 v16 v3154 k0_hw92 => k0_hw92.2.2.1
theorem k0_idx732_inb : ∀ (v5 : IVec S16 32) (v8 : IVec S16 32) (v11 : IVec S16 32) (v14 : IVec S16 32) (v15 : IVec S16 32) (v16 : IVec S16 32) (v3154 : IVec S16 32) (k0_hw92 : k0_chk92 v5 v8 v11 v14 v15 v16 v3154), ∀ a x, ((![v15, v3154, v5] : Fin 3 → IVec S16 32) a x).toNat < S2x64x64.size a := fun v5 v8 v11 v14 v15 v16 v3154 k0_hw92 => k0_hw92.2.2.2.1
theorem k0_idx733_inb : ∀ (v5 : IVec S16 32) (v8 : IVec S16 32) (v11 : IVec S16 32) (v14 : IVec S16 32) (v15 : IVec S16 32) (v16 : IVec S16 32) (v3154 : IVec S16 32) (k0_hw92 : k0_chk92 v5 v8 v11 v14 v15 v16 v3154), ∀ a x, ((![v16, v3154, v14] : Fin 3 → IVec S16 32) a x).toNat < S2x64x64.size a := fun v5 v8 v11 v14 v15 v16 v3154 k0_hw92 => k0_hw92.2.2.2.2.1
theorem k0_idx734_inb : ∀ (v5 : IVec S16 32) (v8 : IVec S16 32) (v11 : IVec S16 32) (v14 : IVec S16 32) (v15 : IVec S16 32) (v16 : IVec S16 32) (v3154 : IVec S16 32) (k0_hw92 : k0_chk92 v5 v8 v11 v14 v15 v16 v3154), ∀ a x, ((![v16, v3154, v11] : Fin 3 → IVec S16 32) a x).toNat < S2x64x64.size a := fun v5 v8 v11 v14 v15 v16 v3154 k0_hw92 => k0_hw92.2.2.2.2.2.1
theorem k0_idx735_inb : ∀ (v5 : IVec S16 32) (v8 : IVec S16 32) (v11 : IVec S16 32) (v14 : IVec S16 32) (v15 : IVec S16 32) (v16 : IVec S16 32) (v3154 : IVec S16 32) (k0_hw92 : k0_chk92 v5 v8 v11 v14 v15 v16 v3154), ∀ a x, ((![v16, v3154, v8] : Fin 3 → IVec S16 32) a x).toNat < S2x64x64.size a := fun v5 v8 v11 v14 v15 v16 v3154 k0_hw92 => k0_hw92.2.2.2.2.2.2.1
theorem k0_idx736_inb : ∀ (v5 : IVec S16 32) (v8 : IVec S16 32) (v11 : IVec S16 32) (v14 : IVec S16 32) (v15 : IVec S16 32) (v16 : IVec S16 32) (v3154 : IVec S16 32) (k0_hw92 : k0_chk92 v5 v8 v11 v14 v15 v16 v3154), ∀ a x, ((![v16, v3154, v5] : Fin 3 → IVec S16 32) a x).toNat < S2x64x64.size a := fun v5 v8 v11 v14 v15 v16 v3154 k0_hw92 => k0_hw92.2.2.2.2.2.2.2
def k0_off793 (k0_t92 : Fin k0_t92_loop.trips) : Fin 4 → Nat :=
  let c1_i32_5365 : BitVec 32 := 1#32
  let v3219 : Index := Scalar.indexCast c1_i32_5365
  let c1_i32_5366 : BitVec 32 := 1#32
  let v3220 : Index := Scalar.indexCast c1_i32_5366
  let c0_i32_5325 : BitVec 32 := 0#32
  let c0_i32_5137 : BitVec 32 := 0#32
  let c1_i32_5139 : BitVec 32 := 1#32
  let arg17 : BitVec 32 := Scf.iv c0_i32_5137 c1_i32_5139 k0_t92
  let c1_i32_5324 : BitVec 32 := 1#32
  let v3152 : BitVec 32 := Scalar.muli arg17 c1_i32_5324
  let v3153 : BitVec 32 := Scalar.addi c0_i32_5325 v3152
  let v3221 : Index := Scalar.indexCast v3153
  let c0_5367 : Index := 0#32
  ![1, 1, v3221.toNat, 0]
def k0_off794 (k0_t92 : Fin k0_t92_loop.trips) : Fin 4 → Nat :=
  let c1_i32_5368 : BitVec 32 := 1#32
  let v3225 : Index := Scalar.indexCast c1_i32_5368
  let c1_i32_5369 : BitVec 32 := 1#32
  let v3226 : Index := Scalar.indexCast c1_i32_5369
  let c0_i32_5325 : BitVec 32 := 0#32
  let c0_i32_5137 : BitVec 32 := 0#32
  let c1_i32_5139 : BitVec 32 := 1#32
  let arg17 : BitVec 32 := Scf.iv c0_i32_5137 c1_i32_5139 k0_t92
  let c1_i32_5324 : BitVec 32 := 1#32
  let v3152 : BitVec 32 := Scalar.muli arg17 c1_i32_5324
  let v3153 : BitVec 32 := Scalar.addi c0_i32_5325 v3152
  let v3227 : Index := Scalar.indexCast v3153
  let c16_5370 : Index := 16#32
  ![1, 1, v3227.toNat, 16]
def k0_off795 (k0_t92 : Fin k0_t92_loop.trips) : Fin 4 → Nat :=
  let c1_i32_5371 : BitVec 32 := 1#32
  let v3231 : Index := Scalar.indexCast c1_i32_5371
  let c1_i32_5372 : BitVec 32 := 1#32
  let v3232 : Index := Scalar.indexCast c1_i32_5372
  let c0_i32_5325 : BitVec 32 := 0#32
  let c0_i32_5137 : BitVec 32 := 0#32
  let c1_i32_5139 : BitVec 32 := 1#32
  let arg17 : BitVec 32 := Scf.iv c0_i32_5137 c1_i32_5139 k0_t92
  let c1_i32_5324 : BitVec 32 := 1#32
  let v3152 : BitVec 32 := Scalar.muli arg17 c1_i32_5324
  let v3153 : BitVec 32 := Scalar.addi c0_i32_5325 v3152
  let v3233 : Index := Scalar.indexCast v3153
  let c32_5373 : Index := 32#32
  ![1, 1, v3233.toNat, 32]
def k0_off796 (k0_t92 : Fin k0_t92_loop.trips) : Fin 4 → Nat :=
  let c1_i32_5374 : BitVec 32 := 1#32
  let v3237 : Index := Scalar.indexCast c1_i32_5374
  let c1_i32_5375 : BitVec 32 := 1#32
  let v3238 : Index := Scalar.indexCast c1_i32_5375
  let c0_i32_5325 : BitVec 32 := 0#32
  let c0_i32_5137 : BitVec 32 := 0#32
  let c1_i32_5139 : BitVec 32 := 1#32
  let arg17 : BitVec 32 := Scf.iv c0_i32_5137 c1_i32_5139 k0_t92
  let c1_i32_5324 : BitVec 32 := 1#32
  let v3152 : BitVec 32 := Scalar.muli arg17 c1_i32_5324
  let v3153 : BitVec 32 := Scalar.addi c0_i32_5325 v3152
  let v3239 : Index := Scalar.indexCast v3153
  let c48_5376 : Index := 48#32
  ![1, 1, v3239.toNat, 48]
@[reducible] def k0_t93_loop : Scf.Loop 32 :=
  let c0_i32_5181 : BitVec 32 := 0#32
  let c64_i32_5182 : BitVec 32 := 64#32
  let v3069 : BitVec 32 := Scalar.addi c0_i32_5181 c64_i32_5182
  let c1_i32_5183 : BitVec 32 := 1#32
  ⟨c0_i32_5181, v3069, c1_i32_5183⟩
def k0_off797 (k0_t93 : Fin k0_t93_loop.trips) : Fin 4 → Nat :=
  let c2_i32_5341 : BitVec 32 := 2#32
  let v3175 : Index := Scalar.indexCast c2_i32_5341
  let c0_i32_5342 : BitVec 32 := 0#32
  let v3176 : Index := Scalar.indexCast c0_i32_5342
  let c0_i32_5325 : BitVec 32 := 0#32
  let c0_i32_5181 : BitVec 32 := 0#32
  let c1_i32_5183 : BitVec 32 := 1#32
  let arg17 : BitVec 32 := Scf.iv c0_i32_5181 c1_i32_5183 k0_t93
  let c1_i32_5324 : BitVec 32 := 1#32
  let v3152 : BitVec 32 := Scalar.muli arg17 c1_i32_5324
  let v3153 : BitVec 32 := Scalar.addi c0_i32_5325 v3152
  let v3177 : Index := Scalar.indexCast v3153
  let c0 : Index := 0#32
  ![2, 0, v3177.toNat, 0]
def k0_off798 (k0_t93 : Fin k0_t93_loop.trips) : Fin 4 → Nat :=
  let c2_i32_5343 : BitVec 32 := 2#32
  let v3181 : Index := Scalar.indexCast c2_i32_5343
  let c0_i32_5344 : BitVec 32 := 0#32
  let v3182 : Index := Scalar.indexCast c0_i32_5344
  let c0_i32_5325 : BitVec 32 := 0#32
  let c0_i32_5181 : BitVec 32 := 0#32
  let c1_i32_5183 : BitVec 32 := 1#32
  let arg17 : BitVec 32 := Scf.iv c0_i32_5181 c1_i32_5183 k0_t93
  let c1_i32_5324 : BitVec 32 := 1#32
  let v3152 : BitVec 32 := Scalar.muli arg17 c1_i32_5324
  let v3153 : BitVec 32 := Scalar.addi c0_i32_5325 v3152
  let v3183 : Index := Scalar.indexCast v3153
  let c16 : Index := 16#32
  ![2, 0, v3183.toNat, 16]
def k0_off799 (k0_t93 : Fin k0_t93_loop.trips) : Fin 4 → Nat :=
  let c2_i32_5345 : BitVec 32 := 2#32
  let v3187 : Index := Scalar.indexCast c2_i32_5345
  let c0_i32_5346 : BitVec 32 := 0#32
  let v3188 : Index := Scalar.indexCast c0_i32_5346
  let c0_i32_5325 : BitVec 32 := 0#32
  let c0_i32_5181 : BitVec 32 := 0#32
  let c1_i32_5183 : BitVec 32 := 1#32
  let arg17 : BitVec 32 := Scf.iv c0_i32_5181 c1_i32_5183 k0_t93
  let c1_i32_5324 : BitVec 32 := 1#32
  let v3152 : BitVec 32 := Scalar.muli arg17 c1_i32_5324
  let v3153 : BitVec 32 := Scalar.addi c0_i32_5325 v3152
  let v3189 : Index := Scalar.indexCast v3153
  let c32 : Index := 32#32
  ![2, 0, v3189.toNat, 32]
def k0_off800 (k0_t93 : Fin k0_t93_loop.trips) : Fin 4 → Nat :=
  let c2_i32_5347 : BitVec 32 := 2#32
  let v3193 : Index := Scalar.indexCast c2_i32_5347
  let c0_i32_5348 : BitVec 32 := 0#32
  let v3194 : Index := Scalar.indexCast c0_i32_5348
  let c0_i32_5325 : BitVec 32 := 0#32
  let c0_i32_5181 : BitVec 32 := 0#32
  let c1_i32_5183 : BitVec 32 := 1#32
  let arg17 : BitVec 32 := Scf.iv c0_i32_5181 c1_i32_5183 k0_t93
  let c1_i32_5324 : BitVec 32 := 1#32
  let v3152 : BitVec 32 := Scalar.muli arg17 c1_i32_5324
  let v3153 : BitVec 32 := Scalar.addi c0_i32_5325 v3152
  let v3195 : Index := Scalar.indexCast v3153
  let c48 : Index := 48#32
  ![2, 0, v3195.toNat, 48]

def k0_chk93 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx737_inb : ∀ (v5 : IVec S16 32) (v8 : IVec S16 32) (v11 : IVec S16 32) (v14 : IVec S16 32) (v15 : IVec S16 32) (v16 : IVec S16 32) (v3154 : IVec S16 32) (k0_hw93 : k0_chk93 v5 v8 v11 v14 v15 v16 v3154), ∀ a x, ((![v15, v3154, v14] : Fin 3 → IVec S16 32) a x).toNat < S2x64x64.size a := fun v5 v8 v11 v14 v15 v16 v3154 k0_hw93 => k0_hw93.1
theorem k0_idx738_inb : ∀ (v5 : IVec S16 32) (v8 : IVec S16 32) (v11 : IVec S16 32) (v14 : IVec S16 32) (v15 : IVec S16 32) (v16 : IVec S16 32) (v3154 : IVec S16 32) (k0_hw93 : k0_chk93 v5 v8 v11 v14 v15 v16 v3154), ∀ a x, ((![v15, v3154, v11] : Fin 3 → IVec S16 32) a x).toNat < S2x64x64.size a := fun v5 v8 v11 v14 v15 v16 v3154 k0_hw93 => k0_hw93.2.1
theorem k0_idx739_inb : ∀ (v5 : IVec S16 32) (v8 : IVec S16 32) (v11 : IVec S16 32) (v14 : IVec S16 32) (v15 : IVec S16 32) (v16 : IVec S16 32) (v3154 : IVec S16 32) (k0_hw93 : k0_chk93 v5 v8 v11 v14 v15 v16 v3154), ∀ a x, ((![v15, v3154, v8] : Fin 3 → IVec S16 32) a x).toNat < S2x64x64.size a := fun v5 v8 v11 v14 v15 v16 v3154 k0_hw93 => k0_hw93.2.2.1
theorem k0_idx740_inb : ∀ (v5 : IVec S16 32) (v8 : IVec S16 32) (v11 : IVec S16 32) (v14 : IVec S16 32) (v15 : IVec S16 32) (v16 : IVec S16 32) (v3154 : IVec S16 32) (k0_hw93 : k0_chk93 v5 v8 v11 v14 v15 v16 v3154), ∀ a x, ((![v15, v3154, v5] : Fin 3 → IVec S16 32) a x).toNat < S2x64x64.size a := fun v5 v8 v11 v14 v15 v16 v3154 k0_hw93 => k0_hw93.2.2.2.1
theorem k0_idx741_inb : ∀ (v5 : IVec S16 32) (v8 : IVec S16 32) (v11 : IVec S16 32) (v14 : IVec S16 32) (v15 : IVec S16 32) (v16 : IVec S16 32) (v3154 : IVec S16 32) (k0_hw93 : k0_chk93 v5 v8 v11 v14 v15 v16 v3154), ∀ a x, ((![v16, v3154, v14] : Fin 3 → IVec S16 32) a x).toNat < S2x64x64.size a := fun v5 v8 v11 v14 v15 v16 v3154 k0_hw93 => k0_hw93.2.2.2.2.1
theorem k0_idx742_inb : ∀ (v5 : IVec S16 32) (v8 : IVec S16 32) (v11 : IVec S16 32) (v14 : IVec S16 32) (v15 : IVec S16 32) (v16 : IVec S16 32) (v3154 : IVec S16 32) (k0_hw93 : k0_chk93 v5 v8 v11 v14 v15 v16 v3154), ∀ a x, ((![v16, v3154, v11] : Fin 3 → IVec S16 32) a x).toNat < S2x64x64.size a := fun v5 v8 v11 v14 v15 v16 v3154 k0_hw93 => k0_hw93.2.2.2.2.2.1
theorem k0_idx743_inb : ∀ (v5 : IVec S16 32) (v8 : IVec S16 32) (v11 : IVec S16 32) (v14 : IVec S16 32) (v15 : IVec S16 32) (v16 : IVec S16 32) (v3154 : IVec S16 32) (k0_hw93 : k0_chk93 v5 v8 v11 v14 v15 v16 v3154), ∀ a x, ((![v16, v3154, v8] : Fin 3 → IVec S16 32) a x).toNat < S2x64x64.size a := fun v5 v8 v11 v14 v15 v16 v3154 k0_hw93 => k0_hw93.2.2.2.2.2.2.1
theorem k0_idx744_inb : ∀ (v5 : IVec S16 32) (v8 : IVec S16 32) (v11 : IVec S16 32) (v14 : IVec S16 32) (v15 : IVec S16 32) (v16 : IVec S16 32) (v3154 : IVec S16 32) (k0_hw93 : k0_chk93 v5 v8 v11 v14 v15 v16 v3154), ∀ a x, ((![v16, v3154, v5] : Fin 3 → IVec S16 32) a x).toNat < S2x64x64.size a := fun v5 v8 v11 v14 v15 v16 v3154 k0_hw93 => k0_hw93.2.2.2.2.2.2.2
def k0_off801 (k0_t93 : Fin k0_t93_loop.trips) : Fin 4 → Nat :=
  let c2_i32_5365 : BitVec 32 := 2#32
  let v3219 : Index := Scalar.indexCast c2_i32_5365
  let c1_i32_5366 : BitVec 32 := 1#32
  let v3220 : Index := Scalar.indexCast c1_i32_5366
  let c0_i32_5325 : BitVec 32 := 0#32
  let c0_i32_5181 : BitVec 32 := 0#32
  let c1_i32_5183 : BitVec 32 := 1#32
  let arg17 : BitVec 32 := Scf.iv c0_i32_5181 c1_i32_5183 k0_t93
  let c1_i32_5324 : BitVec 32 := 1#32
  let v3152 : BitVec 32 := Scalar.muli arg17 c1_i32_5324
  let v3153 : BitVec 32 := Scalar.addi c0_i32_5325 v3152
  let v3221 : Index := Scalar.indexCast v3153
  let c0_5367 : Index := 0#32
  ![2, 1, v3221.toNat, 0]
def k0_off802 (k0_t93 : Fin k0_t93_loop.trips) : Fin 4 → Nat :=
  let c2_i32_5368 : BitVec 32 := 2#32
  let v3225 : Index := Scalar.indexCast c2_i32_5368
  let c1_i32_5369 : BitVec 32 := 1#32
  let v3226 : Index := Scalar.indexCast c1_i32_5369
  let c0_i32_5325 : BitVec 32 := 0#32
  let c0_i32_5181 : BitVec 32 := 0#32
  let c1_i32_5183 : BitVec 32 := 1#32
  let arg17 : BitVec 32 := Scf.iv c0_i32_5181 c1_i32_5183 k0_t93
  let c1_i32_5324 : BitVec 32 := 1#32
  let v3152 : BitVec 32 := Scalar.muli arg17 c1_i32_5324
  let v3153 : BitVec 32 := Scalar.addi c0_i32_5325 v3152
  let v3227 : Index := Scalar.indexCast v3153
  let c16_5370 : Index := 16#32
  ![2, 1, v3227.toNat, 16]
def k0_off803 (k0_t93 : Fin k0_t93_loop.trips) : Fin 4 → Nat :=
  let c2_i32_5371 : BitVec 32 := 2#32
  let v3231 : Index := Scalar.indexCast c2_i32_5371
  let c1_i32_5372 : BitVec 32 := 1#32
  let v3232 : Index := Scalar.indexCast c1_i32_5372
  let c0_i32_5325 : BitVec 32 := 0#32
  let c0_i32_5181 : BitVec 32 := 0#32
  let c1_i32_5183 : BitVec 32 := 1#32
  let arg17 : BitVec 32 := Scf.iv c0_i32_5181 c1_i32_5183 k0_t93
  let c1_i32_5324 : BitVec 32 := 1#32
  let v3152 : BitVec 32 := Scalar.muli arg17 c1_i32_5324
  let v3153 : BitVec 32 := Scalar.addi c0_i32_5325 v3152
  let v3233 : Index := Scalar.indexCast v3153
  let c32_5373 : Index := 32#32
  ![2, 1, v3233.toNat, 32]
def k0_off804 (k0_t93 : Fin k0_t93_loop.trips) : Fin 4 → Nat :=
  let c2_i32_5374 : BitVec 32 := 2#32
  let v3237 : Index := Scalar.indexCast c2_i32_5374
  let c1_i32_5375 : BitVec 32 := 1#32
  let v3238 : Index := Scalar.indexCast c1_i32_5375
  let c0_i32_5325 : BitVec 32 := 0#32
  let c0_i32_5181 : BitVec 32 := 0#32
  let c1_i32_5183 : BitVec 32 := 1#32
  let arg17 : BitVec 32 := Scf.iv c0_i32_5181 c1_i32_5183 k0_t93
  let c1_i32_5324 : BitVec 32 := 1#32
  let v3152 : BitVec 32 := Scalar.muli arg17 c1_i32_5324
  let v3153 : BitVec 32 := Scalar.addi c0_i32_5325 v3152
  let v3239 : Index := Scalar.indexCast v3153
  let c48_5376 : Index := 48#32
  ![2, 1, v3239.toNat, 48]
@[reducible] def k0_t94_loop : Scf.Loop 32 :=
  let c0_i32_5224 : BitVec 32 := 0#32
  let c64_i32_5225 : BitVec 32 := 64#32
  let v3094 : BitVec 32 := Scalar.addi c0_i32_5224 c64_i32_5225
  let c1_i32_5226 : BitVec 32 := 1#32
  ⟨c0_i32_5224, v3094, c1_i32_5226⟩
def k0_off805 (k0_t94 : Fin k0_t94_loop.trips) : Fin 4 → Nat :=
  let c0_i32_5338 : BitVec 32 := 0#32
  let v3167 : Index := Scalar.indexCast c0_i32_5338
  let c0_i32_5339 : BitVec 32 := 0#32
  let v3168 : Index := Scalar.indexCast c0_i32_5339
  let c0_i32_5325 : BitVec 32 := 0#32
  let c0_i32_5224 : BitVec 32 := 0#32
  let c1_i32_5226 : BitVec 32 := 1#32
  let arg17 : BitVec 32 := Scf.iv c0_i32_5224 c1_i32_5226 k0_t94
  let c1_i32_5324 : BitVec 32 := 1#32
  let v3152 : BitVec 32 := Scalar.muli arg17 c1_i32_5324
  let v3153 : BitVec 32 := Scalar.addi c0_i32_5325 v3152
  let v3169 : Index := Scalar.indexCast v3153
  let c0 : Index := 0#32
  ![0, 0, v3169.toNat, 0]
def k0_off806 (k0_t94 : Fin k0_t94_loop.trips) : Fin 4 → Nat :=
  let c0_i32_5340 : BitVec 32 := 0#32
  let v3173 : Index := Scalar.indexCast c0_i32_5340
  let c0_i32_5341 : BitVec 32 := 0#32
  let v3174 : Index := Scalar.indexCast c0_i32_5341
  let c0_i32_5325 : BitVec 32 := 0#32
  let c0_i32_5224 : BitVec 32 := 0#32
  let c1_i32_5226 : BitVec 32 := 1#32
  let arg17 : BitVec 32 := Scf.iv c0_i32_5224 c1_i32_5226 k0_t94
  let c1_i32_5324 : BitVec 32 := 1#32
  let v3152 : BitVec 32 := Scalar.muli arg17 c1_i32_5324
  let v3153 : BitVec 32 := Scalar.addi c0_i32_5325 v3152
  let v3175 : Index := Scalar.indexCast v3153
  let c16 : Index := 16#32
  ![0, 0, v3175.toNat, 16]
def k0_off807 (k0_t94 : Fin k0_t94_loop.trips) : Fin 4 → Nat :=
  let c0_i32_5342 : BitVec 32 := 0#32
  let v3179 : Index := Scalar.indexCast c0_i32_5342
  let c0_i32_5343 : BitVec 32 := 0#32
  let v3180 : Index := Scalar.indexCast c0_i32_5343
  let c0_i32_5325 : BitVec 32 := 0#32
  let c0_i32_5224 : BitVec 32 := 0#32
  let c1_i32_5226 : BitVec 32 := 1#32
  let arg17 : BitVec 32 := Scf.iv c0_i32_5224 c1_i32_5226 k0_t94
  let c1_i32_5324 : BitVec 32 := 1#32
  let v3152 : BitVec 32 := Scalar.muli arg17 c1_i32_5324
  let v3153 : BitVec 32 := Scalar.addi c0_i32_5325 v3152
  let v3181 : Index := Scalar.indexCast v3153
  let c32 : Index := 32#32
  ![0, 0, v3181.toNat, 32]
def k0_off808 (k0_t94 : Fin k0_t94_loop.trips) : Fin 4 → Nat :=
  let c0_i32_5344 : BitVec 32 := 0#32
  let v3185 : Index := Scalar.indexCast c0_i32_5344
  let c0_i32_5345 : BitVec 32 := 0#32
  let v3186 : Index := Scalar.indexCast c0_i32_5345
  let c0_i32_5325 : BitVec 32 := 0#32
  let c0_i32_5224 : BitVec 32 := 0#32
  let c1_i32_5226 : BitVec 32 := 1#32
  let arg17 : BitVec 32 := Scf.iv c0_i32_5224 c1_i32_5226 k0_t94
  let c1_i32_5324 : BitVec 32 := 1#32
  let v3152 : BitVec 32 := Scalar.muli arg17 c1_i32_5324
  let v3153 : BitVec 32 := Scalar.addi c0_i32_5325 v3152
  let v3187 : Index := Scalar.indexCast v3153
  let c48 : Index := 48#32
  ![0, 0, v3187.toNat, 48]

def k0_chk94 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx745_inb : ∀ (v5 : IVec S16 32) (v8 : IVec S16 32) (v11 : IVec S16 32) (v14 : IVec S16 32) (v15 : IVec S16 32) (v16 : IVec S16 32) (v3154 : IVec S16 32) (k0_hw94 : k0_chk94 v5 v8 v11 v14 v15 v16 v3154), ∀ a x, ((![v15, v3154, v14] : Fin 3 → IVec S16 32) a x).toNat < S2x64x64.size a := fun v5 v8 v11 v14 v15 v16 v3154 k0_hw94 => k0_hw94.1
theorem k0_idx746_inb : ∀ (v5 : IVec S16 32) (v8 : IVec S16 32) (v11 : IVec S16 32) (v14 : IVec S16 32) (v15 : IVec S16 32) (v16 : IVec S16 32) (v3154 : IVec S16 32) (k0_hw94 : k0_chk94 v5 v8 v11 v14 v15 v16 v3154), ∀ a x, ((![v15, v3154, v11] : Fin 3 → IVec S16 32) a x).toNat < S2x64x64.size a := fun v5 v8 v11 v14 v15 v16 v3154 k0_hw94 => k0_hw94.2.1
theorem k0_idx747_inb : ∀ (v5 : IVec S16 32) (v8 : IVec S16 32) (v11 : IVec S16 32) (v14 : IVec S16 32) (v15 : IVec S16 32) (v16 : IVec S16 32) (v3154 : IVec S16 32) (k0_hw94 : k0_chk94 v5 v8 v11 v14 v15 v16 v3154), ∀ a x, ((![v15, v3154, v8] : Fin 3 → IVec S16 32) a x).toNat < S2x64x64.size a := fun v5 v8 v11 v14 v15 v16 v3154 k0_hw94 => k0_hw94.2.2.1
theorem k0_idx748_inb : ∀ (v5 : IVec S16 32) (v8 : IVec S16 32) (v11 : IVec S16 32) (v14 : IVec S16 32) (v15 : IVec S16 32) (v16 : IVec S16 32) (v3154 : IVec S16 32) (k0_hw94 : k0_chk94 v5 v8 v11 v14 v15 v16 v3154), ∀ a x, ((![v15, v3154, v5] : Fin 3 → IVec S16 32) a x).toNat < S2x64x64.size a := fun v5 v8 v11 v14 v15 v16 v3154 k0_hw94 => k0_hw94.2.2.2.1
theorem k0_idx749_inb : ∀ (v5 : IVec S16 32) (v8 : IVec S16 32) (v11 : IVec S16 32) (v14 : IVec S16 32) (v15 : IVec S16 32) (v16 : IVec S16 32) (v3154 : IVec S16 32) (k0_hw94 : k0_chk94 v5 v8 v11 v14 v15 v16 v3154), ∀ a x, ((![v16, v3154, v14] : Fin 3 → IVec S16 32) a x).toNat < S2x64x64.size a := fun v5 v8 v11 v14 v15 v16 v3154 k0_hw94 => k0_hw94.2.2.2.2.1
theorem k0_idx750_inb : ∀ (v5 : IVec S16 32) (v8 : IVec S16 32) (v11 : IVec S16 32) (v14 : IVec S16 32) (v15 : IVec S16 32) (v16 : IVec S16 32) (v3154 : IVec S16 32) (k0_hw94 : k0_chk94 v5 v8 v11 v14 v15 v16 v3154), ∀ a x, ((![v16, v3154, v11] : Fin 3 → IVec S16 32) a x).toNat < S2x64x64.size a := fun v5 v8 v11 v14 v15 v16 v3154 k0_hw94 => k0_hw94.2.2.2.2.2.1
theorem k0_idx751_inb : ∀ (v5 : IVec S16 32) (v8 : IVec S16 32) (v11 : IVec S16 32) (v14 : IVec S16 32) (v15 : IVec S16 32) (v16 : IVec S16 32) (v3154 : IVec S16 32) (k0_hw94 : k0_chk94 v5 v8 v11 v14 v15 v16 v3154), ∀ a x, ((![v16, v3154, v8] : Fin 3 → IVec S16 32) a x).toNat < S2x64x64.size a := fun v5 v8 v11 v14 v15 v16 v3154 k0_hw94 => k0_hw94.2.2.2.2.2.2.1
theorem k0_idx752_inb : ∀ (v5 : IVec S16 32) (v8 : IVec S16 32) (v11 : IVec S16 32) (v14 : IVec S16 32) (v15 : IVec S16 32) (v16 : IVec S16 32) (v3154 : IVec S16 32) (k0_hw94 : k0_chk94 v5 v8 v11 v14 v15 v16 v3154), ∀ a x, ((![v16, v3154, v5] : Fin 3 → IVec S16 32) a x).toNat < S2x64x64.size a := fun v5 v8 v11 v14 v15 v16 v3154 k0_hw94 => k0_hw94.2.2.2.2.2.2.2
def k0_off809 (k0_t94 : Fin k0_t94_loop.trips) : Fin 4 → Nat :=
  let c0_i32_5358 : BitVec 32 := 0#32
  let v3203 : Index := Scalar.indexCast c0_i32_5358
  let c1_i32_5359 : BitVec 32 := 1#32
  let v3204 : Index := Scalar.indexCast c1_i32_5359
  let c0_i32_5325 : BitVec 32 := 0#32
  let c0_i32_5224 : BitVec 32 := 0#32
  let c1_i32_5226 : BitVec 32 := 1#32
  let arg17 : BitVec 32 := Scf.iv c0_i32_5224 c1_i32_5226 k0_t94
  let c1_i32_5324 : BitVec 32 := 1#32
  let v3152 : BitVec 32 := Scalar.muli arg17 c1_i32_5324
  let v3153 : BitVec 32 := Scalar.addi c0_i32_5325 v3152
  let v3205 : Index := Scalar.indexCast v3153
  let c0_5360 : Index := 0#32
  ![0, 1, v3205.toNat, 0]
def k0_off810 (k0_t94 : Fin k0_t94_loop.trips) : Fin 4 → Nat :=
  let c0_i32_5361 : BitVec 32 := 0#32
  let v3209 : Index := Scalar.indexCast c0_i32_5361
  let c1_i32_5362 : BitVec 32 := 1#32
  let v3210 : Index := Scalar.indexCast c1_i32_5362
  let c0_i32_5325 : BitVec 32 := 0#32
  let c0_i32_5224 : BitVec 32 := 0#32
  let c1_i32_5226 : BitVec 32 := 1#32
  let arg17 : BitVec 32 := Scf.iv c0_i32_5224 c1_i32_5226 k0_t94
  let c1_i32_5324 : BitVec 32 := 1#32
  let v3152 : BitVec 32 := Scalar.muli arg17 c1_i32_5324
  let v3153 : BitVec 32 := Scalar.addi c0_i32_5325 v3152
  let v3211 : Index := Scalar.indexCast v3153
  let c16_5363 : Index := 16#32
  ![0, 1, v3211.toNat, 16]
def k0_off811 (k0_t94 : Fin k0_t94_loop.trips) : Fin 4 → Nat :=
  let c0_i32_5364 : BitVec 32 := 0#32
  let v3215 : Index := Scalar.indexCast c0_i32_5364
  let c1_i32_5365 : BitVec 32 := 1#32
  let v3216 : Index := Scalar.indexCast c1_i32_5365
  let c0_i32_5325 : BitVec 32 := 0#32
  let c0_i32_5224 : BitVec 32 := 0#32
  let c1_i32_5226 : BitVec 32 := 1#32
  let arg17 : BitVec 32 := Scf.iv c0_i32_5224 c1_i32_5226 k0_t94
  let c1_i32_5324 : BitVec 32 := 1#32
  let v3152 : BitVec 32 := Scalar.muli arg17 c1_i32_5324
  let v3153 : BitVec 32 := Scalar.addi c0_i32_5325 v3152
  let v3217 : Index := Scalar.indexCast v3153
  let c32_5366 : Index := 32#32
  ![0, 1, v3217.toNat, 32]
def k0_off812 (k0_t94 : Fin k0_t94_loop.trips) : Fin 4 → Nat :=
  let c0_i32_5367 : BitVec 32 := 0#32
  let v3221 : Index := Scalar.indexCast c0_i32_5367
  let c1_i32_5368 : BitVec 32 := 1#32
  let v3222 : Index := Scalar.indexCast c1_i32_5368
  let c0_i32_5325 : BitVec 32 := 0#32
  let c0_i32_5224 : BitVec 32 := 0#32
  let c1_i32_5226 : BitVec 32 := 1#32
  let arg17 : BitVec 32 := Scf.iv c0_i32_5224 c1_i32_5226 k0_t94
  let c1_i32_5324 : BitVec 32 := 1#32
  let v3152 : BitVec 32 := Scalar.muli arg17 c1_i32_5324
  let v3153 : BitVec 32 := Scalar.addi c0_i32_5325 v3152
  let v3223 : Index := Scalar.indexCast v3153
  let c48_5369 : Index := 48#32
  ![0, 1, v3223.toNat, 48]
@[reducible] def k0_t95_loop : Scf.Loop 32 :=
  let c0_i32_5268 : BitVec 32 := 0#32
  let c64_i32_5269 : BitVec 32 := 64#32
  let v3119 : BitVec 32 := Scalar.addi c0_i32_5268 c64_i32_5269
  let c1_i32_5270 : BitVec 32 := 1#32
  ⟨c0_i32_5268, v3119, c1_i32_5270⟩
def k0_off813 (k0_t95 : Fin k0_t95_loop.trips) : Fin 4 → Nat :=
  let c1_i32_5338 : BitVec 32 := 1#32
  let v3167 : Index := Scalar.indexCast c1_i32_5338
  let c0_i32_5339 : BitVec 32 := 0#32
  let v3168 : Index := Scalar.indexCast c0_i32_5339
  let c0_i32_5325 : BitVec 32 := 0#32
  let c0_i32_5268 : BitVec 32 := 0#32
  let c1_i32_5270 : BitVec 32 := 1#32
  let arg17 : BitVec 32 := Scf.iv c0_i32_5268 c1_i32_5270 k0_t95
  let c1_i32_5324 : BitVec 32 := 1#32
  let v3152 : BitVec 32 := Scalar.muli arg17 c1_i32_5324
  let v3153 : BitVec 32 := Scalar.addi c0_i32_5325 v3152
  let v3169 : Index := Scalar.indexCast v3153
  let c0 : Index := 0#32
  ![1, 0, v3169.toNat, 0]
def k0_off814 (k0_t95 : Fin k0_t95_loop.trips) : Fin 4 → Nat :=
  let c1_i32_5340 : BitVec 32 := 1#32
  let v3173 : Index := Scalar.indexCast c1_i32_5340
  let c0_i32_5341 : BitVec 32 := 0#32
  let v3174 : Index := Scalar.indexCast c0_i32_5341
  let c0_i32_5325 : BitVec 32 := 0#32
  let c0_i32_5268 : BitVec 32 := 0#32
  let c1_i32_5270 : BitVec 32 := 1#32
  let arg17 : BitVec 32 := Scf.iv c0_i32_5268 c1_i32_5270 k0_t95
  let c1_i32_5324 : BitVec 32 := 1#32
  let v3152 : BitVec 32 := Scalar.muli arg17 c1_i32_5324
  let v3153 : BitVec 32 := Scalar.addi c0_i32_5325 v3152
  let v3175 : Index := Scalar.indexCast v3153
  let c16 : Index := 16#32
  ![1, 0, v3175.toNat, 16]
def k0_off815 (k0_t95 : Fin k0_t95_loop.trips) : Fin 4 → Nat :=
  let c1_i32_5342 : BitVec 32 := 1#32
  let v3179 : Index := Scalar.indexCast c1_i32_5342
  let c0_i32_5343 : BitVec 32 := 0#32
  let v3180 : Index := Scalar.indexCast c0_i32_5343
  let c0_i32_5325 : BitVec 32 := 0#32
  let c0_i32_5268 : BitVec 32 := 0#32
  let c1_i32_5270 : BitVec 32 := 1#32
  let arg17 : BitVec 32 := Scf.iv c0_i32_5268 c1_i32_5270 k0_t95
  let c1_i32_5324 : BitVec 32 := 1#32
  let v3152 : BitVec 32 := Scalar.muli arg17 c1_i32_5324
  let v3153 : BitVec 32 := Scalar.addi c0_i32_5325 v3152
  let v3181 : Index := Scalar.indexCast v3153
  let c32 : Index := 32#32
  ![1, 0, v3181.toNat, 32]
def k0_off816 (k0_t95 : Fin k0_t95_loop.trips) : Fin 4 → Nat :=
  let c1_i32_5344 : BitVec 32 := 1#32
  let v3185 : Index := Scalar.indexCast c1_i32_5344
  let c0_i32_5345 : BitVec 32 := 0#32
  let v3186 : Index := Scalar.indexCast c0_i32_5345
  let c0_i32_5325 : BitVec 32 := 0#32
  let c0_i32_5268 : BitVec 32 := 0#32
  let c1_i32_5270 : BitVec 32 := 1#32
  let arg17 : BitVec 32 := Scf.iv c0_i32_5268 c1_i32_5270 k0_t95
  let c1_i32_5324 : BitVec 32 := 1#32
  let v3152 : BitVec 32 := Scalar.muli arg17 c1_i32_5324
  let v3153 : BitVec 32 := Scalar.addi c0_i32_5325 v3152
  let v3187 : Index := Scalar.indexCast v3153
  let c48 : Index := 48#32
  ![1, 0, v3187.toNat, 48]

def k0_chk95 (v5 : IVec S16 32) (v8 : IVec S16 32) (v11 : IVec S16 32) (v14 : IVec S16 32) (v15 : IVec S16 32) (v16 : IVec S16 32) (v3154 : IVec S16 32) : Prop :=
  (∀ a x, ((![v15, v3154, v14] : Fin 3 → IVec S16 32) a x).toNat < S2x64x64.size a) ∧
  (∀ a x, ((![v15, v3154, v11] : Fin 3 → IVec S16 32) a x).toNat < S2x64x64.size a) ∧
  (∀ a x, ((![v15, v3154, v8] : Fin 3 → IVec S16 32) a x).toNat < S2x64x64.size a) ∧
  (∀ a x, ((![v15, v3154, v5] : Fin 3 → IVec S16 32) a x).toNat < S2x64x64.size a) ∧
  (∀ a x, ((![v16, v3154, v14] : Fin 3 → IVec S16 32) a x).toNat < S2x64x64.size a) ∧
  (∀ a x, ((![v16, v3154, v11] : Fin 3 → IVec S16 32) a x).toNat < S2x64x64.size a) ∧
  (∀ a x, ((![v16, v3154, v8] : Fin 3 → IVec S16 32) a x).toNat < S2x64x64.size a) ∧
  (∀ a x, ((![v16, v3154, v5] : Fin 3 → IVec S16 32) a x).toNat < S2x64x64.size a)
theorem k0_idx753_inb : ∀ (v5 : IVec S16 32) (v8 : IVec S16 32) (v11 : IVec S16 32) (v14 : IVec S16 32) (v15 : IVec S16 32) (v16 : IVec S16 32) (v3154 : IVec S16 32) (k0_hw95 : k0_chk95 v5 v8 v11 v14 v15 v16 v3154), ∀ a x, ((![v15, v3154, v14] : Fin 3 → IVec S16 32) a x).toNat < S2x64x64.size a := fun v5 v8 v11 v14 v15 v16 v3154 k0_hw95 => k0_hw95.1
theorem k0_idx754_inb : ∀ (v5 : IVec S16 32) (v8 : IVec S16 32) (v11 : IVec S16 32) (v14 : IVec S16 32) (v15 : IVec S16 32) (v16 : IVec S16 32) (v3154 : IVec S16 32) (k0_hw95 : k0_chk95 v5 v8 v11 v14 v15 v16 v3154), ∀ a x, ((![v15, v3154, v11] : Fin 3 → IVec S16 32) a x).toNat < S2x64x64.size a := fun v5 v8 v11 v14 v15 v16 v3154 k0_hw95 => k0_hw95.2.1
theorem k0_idx755_inb : ∀ (v5 : IVec S16 32) (v8 : IVec S16 32) (v11 : IVec S16 32) (v14 : IVec S16 32) (v15 : IVec S16 32) (v16 : IVec S16 32) (v3154 : IVec S16 32) (k0_hw95 : k0_chk95 v5 v8 v11 v14 v15 v16 v3154), ∀ a x, ((![v15, v3154, v8] : Fin 3 → IVec S16 32) a x).toNat < S2x64x64.size a := fun v5 v8 v11 v14 v15 v16 v3154 k0_hw95 => k0_hw95.2.2.1
theorem k0_idx756_inb : ∀ (v5 : IVec S16 32) (v8 : IVec S16 32) (v11 : IVec S16 32) (v14 : IVec S16 32) (v15 : IVec S16 32) (v16 : IVec S16 32) (v3154 : IVec S16 32) (k0_hw95 : k0_chk95 v5 v8 v11 v14 v15 v16 v3154), ∀ a x, ((![v15, v3154, v5] : Fin 3 → IVec S16 32) a x).toNat < S2x64x64.size a := fun v5 v8 v11 v14 v15 v16 v3154 k0_hw95 => k0_hw95.2.2.2.1
theorem k0_idx757_inb : ∀ (v5 : IVec S16 32) (v8 : IVec S16 32) (v11 : IVec S16 32) (v14 : IVec S16 32) (v15 : IVec S16 32) (v16 : IVec S16 32) (v3154 : IVec S16 32) (k0_hw95 : k0_chk95 v5 v8 v11 v14 v15 v16 v3154), ∀ a x, ((![v16, v3154, v14] : Fin 3 → IVec S16 32) a x).toNat < S2x64x64.size a := fun v5 v8 v11 v14 v15 v16 v3154 k0_hw95 => k0_hw95.2.2.2.2.1
theorem k0_idx758_inb : ∀ (v5 : IVec S16 32) (v8 : IVec S16 32) (v11 : IVec S16 32) (v14 : IVec S16 32) (v15 : IVec S16 32) (v16 : IVec S16 32) (v3154 : IVec S16 32) (k0_hw95 : k0_chk95 v5 v8 v11 v14 v15 v16 v3154), ∀ a x, ((![v16, v3154, v11] : Fin 3 → IVec S16 32) a x).toNat < S2x64x64.size a := fun v5 v8 v11 v14 v15 v16 v3154 k0_hw95 => k0_hw95.2.2.2.2.2.1
theorem k0_idx759_inb : ∀ (v5 : IVec S16 32) (v8 : IVec S16 32) (v11 : IVec S16 32) (v14 : IVec S16 32) (v15 : IVec S16 32) (v16 : IVec S16 32) (v3154 : IVec S16 32) (k0_hw95 : k0_chk95 v5 v8 v11 v14 v15 v16 v3154), ∀ a x, ((![v16, v3154, v8] : Fin 3 → IVec S16 32) a x).toNat < S2x64x64.size a := fun v5 v8 v11 v14 v15 v16 v3154 k0_hw95 => k0_hw95.2.2.2.2.2.2.1
theorem k0_idx760_inb : ∀ (v5 : IVec S16 32) (v8 : IVec S16 32) (v11 : IVec S16 32) (v14 : IVec S16 32) (v15 : IVec S16 32) (v16 : IVec S16 32) (v3154 : IVec S16 32) (k0_hw95 : k0_chk95 v5 v8 v11 v14 v15 v16 v3154), ∀ a x, ((![v16, v3154, v5] : Fin 3 → IVec S16 32) a x).toNat < S2x64x64.size a := fun v5 v8 v11 v14 v15 v16 v3154 k0_hw95 => k0_hw95.2.2.2.2.2.2.2
def k0_off817 (k0_t95 : Fin k0_t95_loop.trips) : Fin 4 → Nat :=
  let c1_i32_5358 : BitVec 32 := 1#32
  let v3203 : Index := Scalar.indexCast c1_i32_5358
  let c1_i32_5359 : BitVec 32 := 1#32
  let v3204 : Index := Scalar.indexCast c1_i32_5359
  let c0_i32_5325 : BitVec 32 := 0#32
  let c0_i32_5268 : BitVec 32 := 0#32
  let c1_i32_5270 : BitVec 32 := 1#32
  let arg17 : BitVec 32 := Scf.iv c0_i32_5268 c1_i32_5270 k0_t95
  let c1_i32_5324 : BitVec 32 := 1#32
  let v3152 : BitVec 32 := Scalar.muli arg17 c1_i32_5324
  let v3153 : BitVec 32 := Scalar.addi c0_i32_5325 v3152
  let v3205 : Index := Scalar.indexCast v3153
  let c0_5360 : Index := 0#32
  ![1, 1, v3205.toNat, 0]
def k0_off818 (k0_t95 : Fin k0_t95_loop.trips) : Fin 4 → Nat :=
  let c1_i32_5361 : BitVec 32 := 1#32
  let v3209 : Index := Scalar.indexCast c1_i32_5361
  let c1_i32_5362 : BitVec 32 := 1#32
  let v3210 : Index := Scalar.indexCast c1_i32_5362
  let c0_i32_5325 : BitVec 32 := 0#32
  let c0_i32_5268 : BitVec 32 := 0#32
  let c1_i32_5270 : BitVec 32 := 1#32
  let arg17 : BitVec 32 := Scf.iv c0_i32_5268 c1_i32_5270 k0_t95
  let c1_i32_5324 : BitVec 32 := 1#32
  let v3152 : BitVec 32 := Scalar.muli arg17 c1_i32_5324
  let v3153 : BitVec 32 := Scalar.addi c0_i32_5325 v3152
  let v3211 : Index := Scalar.indexCast v3153
  let c16_5363 : Index := 16#32
  ![1, 1, v3211.toNat, 16]
def k0_off819 (k0_t95 : Fin k0_t95_loop.trips) : Fin 4 → Nat :=
  let c1_i32_5364 : BitVec 32 := 1#32
  let v3215 : Index := Scalar.indexCast c1_i32_5364
  let c1_i32_5365 : BitVec 32 := 1#32
  let v3216 : Index := Scalar.indexCast c1_i32_5365
  let c0_i32_5325 : BitVec 32 := 0#32
  let c0_i32_5268 : BitVec 32 := 0#32
  let c1_i32_5270 : BitVec 32 := 1#32
  let arg17 : BitVec 32 := Scf.iv c0_i32_5268 c1_i32_5270 k0_t95
  let c1_i32_5324 : BitVec 32 := 1#32
  let v3152 : BitVec 32 := Scalar.muli arg17 c1_i32_5324
  let v3153 : BitVec 32 := Scalar.addi c0_i32_5325 v3152
  let v3217 : Index := Scalar.indexCast v3153
  let c32_5366 : Index := 32#32
  ![1, 1, v3217.toNat, 32]
def k0_off820 (k0_t95 : Fin k0_t95_loop.trips) : Fin 4 → Nat :=
  let c1_i32_5367 : BitVec 32 := 1#32
  let v3221 : Index := Scalar.indexCast c1_i32_5367
  let c1_i32_5368 : BitVec 32 := 1#32
  let v3222 : Index := Scalar.indexCast c1_i32_5368
  let c0_i32_5325 : BitVec 32 := 0#32
  let c0_i32_5268 : BitVec 32 := 0#32
  let c1_i32_5270 : BitVec 32 := 1#32
  let arg17 : BitVec 32 := Scf.iv c0_i32_5268 c1_i32_5270 k0_t95
  let c1_i32_5324 : BitVec 32 := 1#32
  let v3152 : BitVec 32 := Scalar.muli arg17 c1_i32_5324
  let v3153 : BitVec 32 := Scalar.addi c0_i32_5325 v3152
  let v3223 : Index := Scalar.indexCast v3153
  let c48_5369 : Index := 48#32
  ![1, 1, v3223.toNat, 48]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S64x19x64x64 : Shape := ⟨4, ![64, 19, 64, 64]⟩
abbrev S64x19x2x64x64 : Shape := ⟨5, ![64, 19, 2, 64, 64]⟩
abbrev S19 : Shape := ⟨1, ![19]⟩
abbrev S3 : Shape := ⟨1, ![3]⟩
abbrev S_ : Shape := ⟨0, ![]⟩
abbrev S19x1 : Shape := ⟨2, ![19, 1]⟩
abbrev S1 : Shape := ⟨1, ![1]⟩
abbrev S1x1 : Shape := ⟨2, ![1, 1]⟩
abbrev S64x19x1x64x64 : Shape := ⟨5, ![64, 19, 1, 64, 64]⟩
abbrev S3x1 : Shape := ⟨2, ![3, 1]⟩
abbrev S64x3x2x64x64 : Shape := ⟨5, ![64, 3, 2, 64, 64]⟩

abbrev nBuf : Space → Nat
  | .hbm => 157
  | .vmem => 0
  | .smem => 0
  | _ => 0

abbrev hbmTy0_0 (i : Nat) : BufTy := match i % 128 with
  | 0 => ⟨S64x19x64x64, .f32⟩
  | 1 => ⟨S64x19x2x64x64, .f32⟩
  | 2 => ⟨S64x19x2x64x64, .f32⟩
  | 3 => ⟨S19, .i32⟩
  | 4 => ⟨S3, .i32⟩
  | 5 => ⟨S_, .i32⟩
  | 6 => ⟨S19, .i32⟩
  | 7 => ⟨S19, .i1⟩
  | 8 => ⟨S_, .i32⟩
  | 9 => ⟨S19, .i32⟩
  | 10 => ⟨S19, .i32⟩
  | 11 => ⟨S19, .i32⟩
  | 12 => ⟨S19x1, .i32⟩
  | 13 => ⟨S1, .i32⟩
  | 14 => ⟨S_, .i32⟩
  | 15 => ⟨S19x1, .i32⟩
  | 16 => ⟨S19x1, .i1⟩
  | 17 => ⟨S1x1, .i32⟩
  | 18 => ⟨S19x1, .i32⟩
  | 19 => ⟨S19x1, .i1⟩
  | 20 => ⟨S19x1, .i1⟩
  | 21 => ⟨S_, .i1⟩
  | 22 => ⟨S19, .i1⟩
  | 23 => ⟨S64x19x64x64, .f32⟩
  | 24 => ⟨S64x19x64x64, .i1⟩
  | 25 => ⟨S_, .f32⟩
  | 26 => ⟨S64x19x64x64, .f32⟩
  | 27 => ⟨S64x19x64x64, .f32⟩
  | 28 => ⟨S64x19x64x64, .f32⟩
  | 29 => ⟨S_, .i32⟩
  | 30 => ⟨S19, .i32⟩
  | 31 => ⟨S19, .i1⟩
  | 32 => ⟨S_, .i32⟩
  | 33 => ⟨S19, .i32⟩
  | 34 => ⟨S19, .i32⟩
  | 35 => ⟨S19, .i32⟩
  | 36 => ⟨S19x1, .i32⟩
  | 37 => ⟨S1, .i32⟩
  | 38 => ⟨S_, .i32⟩
  | 39 => ⟨S19x1, .i32⟩
  | 40 => ⟨S19x1, .i1⟩
  | 41 => ⟨S1x1, .i32⟩
  | 42 => ⟨S19x1, .i32⟩
  | 43 => ⟨S19x1, .i1⟩
  | 44 => ⟨S19x1, .i1⟩
  | 45 => ⟨S_, .i1⟩
  | 46 => ⟨S19, .i1⟩
  | 47 => ⟨S64x19x2x64x64, .f32⟩
  | 48 => ⟨S64x19x2x64x64, .i1⟩
  | 49 => ⟨S_, .f32⟩
  | 50 => ⟨S64x19x2x64x64, .f32⟩
  | 51 => ⟨S64x19x2x64x64, .f32⟩
  | 52 => ⟨S64x19x2x64x64, .f32⟩
  | 53 => ⟨S_, .i32⟩
  | 54 => ⟨S19, .i32⟩
  | 55 => ⟨S19, .i1⟩
  | 56 => ⟨S_, .i32⟩
  | 57 => ⟨S19, .i32⟩
  | 58 => ⟨S19, .i32⟩
  | 59 => ⟨S19, .i32⟩
  | 60 => ⟨S19x1, .i32⟩
  | 61 => ⟨S1, .i32⟩
  | 62 => ⟨S_, .i32⟩
  | 63 => ⟨S19x1, .i32⟩
  | 64 => ⟨S19x1, .i1⟩
  | 65 => ⟨S1x1, .i32⟩
  | 66 => ⟨S19x1, .i32⟩
  | 67 => ⟨S19x1, .i1⟩
  | 68 => ⟨S19x1, .i1⟩
  | 69 => ⟨S_, .i1⟩
  | 70 => ⟨S19, .i1⟩
  | 71 => ⟨S64x19x2x64x64, .f32⟩
  | 72 => ⟨S64x19x2x64x64, .i1⟩
  | 73 => ⟨S_, .f32⟩
  | 74 => ⟨S64x19x2x64x64, .f32⟩
  | 75 => ⟨S64x19x2x64x64, .f32⟩
  | 76 => ⟨S64x19x2x64x64, .f32⟩
  | 77 => ⟨S64x19x1x64x64, .f32⟩
  | 78 => ⟨S64x19x64x64, .f32⟩
  | 79 => ⟨S_, .f32⟩
  | 80 => ⟨S64x19x64x64, .f32⟩
  | 81 => ⟨S64x19x64x64, .f32⟩
  | 82 => ⟨S_, .i32⟩
  | 83 => ⟨S1, .i32⟩
  | 84 => ⟨S64x19x2x64x64, .f32⟩
  | 85 => ⟨S64x19x1x64x64, .f32⟩
  | 86 => ⟨S64x19x64x64, .f32⟩
  | 87 => ⟨S_, .f32⟩
  | 88 => ⟨S64x19x64x64, .f32⟩
  | 89 => ⟨S64x19x64x64, .f32⟩
  | 90 => ⟨S_, .i32⟩
  | 91 => ⟨S1, .i32⟩
  | 92 => ⟨S64x19x2x64x64, .f32⟩
  | 93 => ⟨S_, .i32⟩
  | 94 => ⟨S3, .i32⟩
  | 95 => ⟨S3, .i1⟩
  | 96 => ⟨S_, .i32⟩
  | 97 => ⟨S3, .i32⟩
  | 98 => ⟨S3, .i32⟩
  | 99 => ⟨S3, .i32⟩
  | 100 => ⟨S3x1, .i32⟩
  | 101 => ⟨S1, .i32⟩
  | 102 => ⟨S_, .i32⟩
  | 103 => ⟨S3x1, .i32⟩
  | 104 => ⟨S3x1, .i1⟩
  | 105 => ⟨S1x1, .i32⟩
  | 106 => ⟨S3x1, .i32⟩
  | 107 => ⟨S3x1, .i1⟩
  | 108 => ⟨S3x1, .i1⟩
  | 109 => ⟨S_, .i1⟩
  | 110 => ⟨S3, .i1⟩
  | 111 => ⟨S64x3x2x64x64, .f32⟩
  | 112 => ⟨S64x3x2x64x64, .i1⟩
  | 113 => ⟨S_, .f32⟩
  | 114 => ⟨S64x3x2x64x64, .f32⟩
  | 115 => ⟨S64x3x2x64x64, .f32⟩
  | 116 => ⟨S_, .i32⟩
  | 117 => ⟨S3, .i32⟩
  | 118 => ⟨S3, .i1⟩
  | 119 => ⟨S_, .i32⟩
  | 120 => ⟨S3, .i32⟩
  | 121 => ⟨S3, .i32⟩
  | 122 => ⟨S3, .i32⟩
  | 123 => ⟨S3x1, .i32⟩
  | 124 => ⟨S1, .i32⟩
  | 125 => ⟨S_, .i32⟩
  | 126 => ⟨S3x1, .i32⟩
  | 127 => ⟨S3x1, .i1⟩
  | _ => ⟨S64x19x64x64, .f32⟩

abbrev hbmTy0_1 (i : Nat) : BufTy := match i % 128 with
  | 0 => ⟨S1x1, .i32⟩
  | 1 => ⟨S3x1, .i32⟩
  | 2 => ⟨S3x1, .i1⟩
  | 3 => ⟨S3x1, .i1⟩
  | 4 => ⟨S_, .i1⟩
  | 5 => ⟨S3, .i1⟩
  | 6 => ⟨S64x3x2x64x64, .f32⟩
  | 7 => ⟨S64x3x2x64x64, .i1⟩
  | 8 => ⟨S_, .f32⟩
  | 9 => ⟨S64x3x2x64x64, .f32⟩
  | 10 => ⟨S64x3x2x64x64, .f32⟩
  | 11 => ⟨S_, .i32⟩
  | 12 => ⟨S3, .i32⟩
  | 13 => ⟨S3, .i1⟩
  | 14 => ⟨S_, .i32⟩
  | 15 => ⟨S3, .i32⟩
  | 16 => ⟨S3, .i32⟩
  | 17 => ⟨S3, .i32⟩
  | 18 => ⟨S3x1, .i32⟩
  | 19 => ⟨S64x19x2x64x64, .f32⟩
  | 20 => ⟨S_, .i32⟩
  | 21 => ⟨S3, .i32⟩
  | 22 => ⟨S3, .i1⟩
  | 23 => ⟨S_, .i32⟩
  | 24 => ⟨S3, .i32⟩
  | 25 => ⟨S3, .i32⟩
  | 26 => ⟨S3, .i32⟩
  | 27 => ⟨S3x1, .i32⟩
  | 28 => ⟨S64x19x2x64x64, .f32⟩
  | _ => ⟨S64x19x64x64, .f32⟩

abbrev hbmTy (i : Nat) : BufTy := match i / 128 with
  | 0 => hbmTy0_0 i
  | 1 => hbmTy0_1 i
  | _ => ⟨S64x19x64x64, .f32⟩

abbrev bufTy : (tb : Table) → Fin (tcTables nBuf tb) → BufTy
  | .hbm, ⟨i, _⟩ => hbmTy i
  | _, _ => ⟨S64x19x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_v1 : Ref sig .tc := ⟨.hbm, 28, rfl⟩
abbrev main_call2_c : Ref sig .tc := ⟨.hbm, 29, rfl⟩
abbrev main_call2_v0 : Ref sig .tc := ⟨.hbm, 30, rfl⟩
abbrev main_call2_v1 : Ref sig .tc := ⟨.hbm, 31, rfl⟩
abbrev main_call2_c_0 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_c_1 : Ref sig .tc := ⟨.hbm, 37, rfl⟩
abbrev main_call2_c_2 : Ref sig .tc := ⟨.hbm, 38, rfl⟩
abbrev main_call2_v6 : Ref sig .tc := ⟨.hbm, 39, rfl⟩
abbrev main_call2_v7 : Ref sig .tc := ⟨.hbm, 40, rfl⟩
abbrev main_call2_v8 : Ref sig .tc := ⟨.hbm, 41, rfl⟩
abbrev main_call2_v9 : Ref sig .tc := ⟨.hbm, 42, rfl⟩
abbrev main_call2_v10 : Ref sig .tc := ⟨.hbm, 43, rfl⟩
abbrev main_call2_v11 : Ref sig .tc := ⟨.hbm, 44, rfl⟩
abbrev main_call2_c_3 : Ref sig .tc := ⟨.hbm, 45, rfl⟩
abbrev main_call2_v12 : Ref sig .tc := ⟨.hbm, 46, rfl⟩
abbrev main_call2_v13 : Ref sig .tc := ⟨.hbm, 47, rfl⟩
abbrev main_call2_v14 : Ref sig .tc := ⟨.hbm, 48, rfl⟩
abbrev main_call2_cst : Ref sig .tc := ⟨.hbm, 49, rfl⟩
abbrev main_call2_v15 : Ref sig .tc := ⟨.hbm, 50, rfl⟩
abbrev main_v2 : Ref sig .tc := ⟨.hbm, 51, rfl⟩
abbrev main_v3 : Ref sig .tc := ⟨.hbm, 52, rfl⟩
abbrev main_call4_c : Ref sig .tc := ⟨.hbm, 53, rfl⟩
abbrev main_call4_v0 : Ref sig .tc := ⟨.hbm, 54, rfl⟩
abbrev main_call4_v1 : Ref sig .tc := ⟨.hbm, 55, rfl⟩
abbrev main_call4_c_0 : Ref sig .tc := ⟨.hbm, 56, rfl⟩
abbrev main_call4_v2 : Ref sig .tc := ⟨.hbm, 57, rfl⟩
abbrev main_call4_v3 : Ref sig .tc := ⟨.hbm, 58, rfl⟩
abbrev main_call4_v4 : Ref sig .tc := ⟨.hbm, 59, rfl⟩
abbrev main_call4_v5 : Ref sig .tc := ⟨.hbm, 60, rfl⟩
abbrev main_call4_c_1 : Ref sig .tc := ⟨.hbm, 61, rfl⟩
abbrev main_call4_c_2 : Ref sig .tc := ⟨.hbm, 62, rfl⟩
abbrev main_call4_v6 : Ref sig .tc := ⟨.hbm, 63, rfl⟩
abbrev main_call4_v7 : Ref sig .tc := ⟨.hbm, 64, rfl⟩
abbrev main_call4_v8 : Ref sig .tc := ⟨.hbm, 65, rfl⟩
abbrev main_call4_v9 : Ref sig .tc := ⟨.hbm, 66, rfl⟩
abbrev main_call4_v10 : Ref sig .tc := ⟨.hbm, 67, rfl⟩
abbrev main_call4_v11 : Ref sig .tc := ⟨.hbm, 68, rfl⟩
abbrev main_call4_c_3 : Ref sig .tc := ⟨.hbm, 69, rfl⟩
abbrev main_call4_v12 : Ref sig .tc := ⟨.hbm, 70, rfl⟩
abbrev main_call4_v13 : Ref sig .tc := ⟨.hbm, 71, rfl⟩
abbrev main_call4_v14 : Ref sig .tc := ⟨.hbm, 72, rfl⟩
abbrev main_call4_cst : Ref sig .tc := ⟨.hbm, 73, rfl⟩
abbrev main_call4_v15 : Ref sig .tc := ⟨.hbm, 74, rfl⟩
abbrev main_v4 : Ref sig .tc := ⟨.hbm, 75, rfl⟩
abbrev main_v5 : Ref sig .tc := ⟨.hbm, 76, rfl⟩
abbrev main_v6 : Ref sig .tc := ⟨.hbm, 77, rfl⟩
abbrev main_v7 : Ref sig .tc := ⟨.hbm, 78, rfl⟩
abbrev main_cst : Ref sig .tc := ⟨.hbm, 79, rfl⟩
abbrev main_v8 : Ref sig .tc := ⟨.hbm, 80, rfl⟩
abbrev main_v9 : Ref sig .tc := ⟨.hbm, 81, rfl⟩
abbrev main_c_1 : Ref sig .tc := ⟨.hbm, 82, rfl⟩
abbrev main_v10 : Ref sig .tc := ⟨.hbm, 83, rfl⟩
abbrev main_v11 : Ref sig .tc := ⟨.hbm, 84, rfl⟩
abbrev main_v12 : Ref sig .tc := ⟨.hbm, 85, rfl⟩
abbrev main_v13 : Ref sig .tc := ⟨.hbm, 86, rfl⟩
abbrev main_cst_2 : Ref sig .tc := ⟨.hbm, 87, rfl⟩
abbrev main_v14 : Ref sig .tc := ⟨.hbm, 88, rfl⟩
abbrev main_v15 : Ref sig .tc := ⟨.hbm, 89, rfl⟩
abbrev main_c_3 : Ref sig .tc := ⟨.hbm, 90, rfl⟩
abbrev main_v16 : Ref sig .tc := ⟨.hbm, 91, rfl⟩
abbrev main_v17 : Ref sig .tc := ⟨.hbm, 92, rfl⟩
abbrev main_call6_c : Ref sig .tc := ⟨.hbm, 93, rfl⟩
abbrev main_call6_v0 : Ref sig .tc := ⟨.hbm, 94, rfl⟩
abbrev main_call6_v1 : Ref sig .tc := ⟨.hbm, 95, rfl⟩
abbrev main_call6_c_0 : Ref sig .tc := ⟨.hbm, 96, rfl⟩
abbrev main_call6_v2 : Ref sig .tc := ⟨.hbm, 97, rfl⟩
abbrev main_call6_v3 : Ref sig .tc := ⟨.hbm, 98, rfl⟩
abbrev main_call6_v4 : Ref sig .tc := ⟨.hbm, 99, rfl⟩
abbrev main_call6_v5 : Ref sig .tc := ⟨.hbm, 100, rfl⟩
abbrev main_call6_c_1 : Ref sig .tc := ⟨.hbm, 101, rfl⟩
abbrev main_call6_c_2 : Ref sig .tc := ⟨.hbm, 102, rfl⟩
abbrev main_call6_v6 : Ref sig .tc := ⟨.hbm, 103, rfl⟩
abbrev main_call6_v7 : Ref sig .tc := ⟨.hbm, 104, rfl⟩
abbrev main_call6_v8 : Ref sig .tc := ⟨.hbm, 105, rfl⟩
abbrev main_call6_v9 : Ref sig .tc := ⟨.hbm, 106, rfl⟩
abbrev main_call6_v10 : Ref sig .tc := ⟨.hbm, 107, rfl⟩
abbrev main_call6_v11 : Ref sig .tc := ⟨.hbm, 108, rfl⟩
abbrev main_call6_c_3 : Ref sig .tc := ⟨.hbm, 109, rfl⟩
abbrev main_call6_v12 : Ref sig .tc := ⟨.hbm, 110, rfl⟩
abbrev main_call6_v13 : Ref sig .tc := ⟨.hbm, 111, rfl⟩
abbrev main_call6_v14 : Ref sig .tc := ⟨.hbm, 112, rfl⟩
abbrev main_call6_cst : Ref sig .tc := ⟨.hbm, 113, rfl⟩
abbrev main_call6_v15 : Ref sig .tc := ⟨.hbm, 114, rfl⟩
abbrev main_v18 : Ref sig .tc := ⟨.hbm, 115, rfl⟩
abbrev main_call7_c : Ref sig .tc := ⟨.hbm, 116, rfl⟩
abbrev main_call7_v0 : Ref sig .tc := ⟨.hbm, 117, rfl⟩
abbrev main_call7_v1 : Ref sig .tc := ⟨.hbm, 118, rfl⟩
abbrev main_call7_c_0 : Ref sig .tc := ⟨.hbm, 119, rfl⟩
abbrev main_call7_v2 : Ref sig .tc := ⟨.hbm, 120, rfl⟩
abbrev main_call7_v3 : Ref sig .tc := ⟨.hbm, 121, rfl⟩
abbrev main_call7_v4 : Ref sig .tc := ⟨.hbm, 122, rfl⟩
abbrev main_call7_v5 : Ref sig .tc := ⟨.hbm, 123, rfl⟩
abbrev main_call7_c_1 : Ref sig .tc := ⟨.hbm, 124, rfl⟩
abbrev main_call7_c_2 : Ref sig .tc := ⟨.hbm, 125, rfl⟩
abbrev main_call7_v6 : Ref sig .tc := ⟨.hbm, 126, rfl⟩
abbrev main_call7_v7 : Ref sig .tc := ⟨.hbm, 127, rfl⟩
abbrev main_call7_v8 : Ref sig .tc := ⟨.hbm, 128, rfl⟩
abbrev main_call7_v9 : Ref sig .tc := ⟨.hbm, 129, rfl⟩
abbrev main_call7_v10 : Ref sig .tc := ⟨.hbm, 130, rfl⟩
abbrev main_call7_v11 : Ref sig .tc := ⟨.hbm, 131, rfl⟩
abbrev main_call7_c_3 : Ref sig .tc := ⟨.hbm, 132, rfl⟩
abbrev main_call7_v12 : Ref sig .tc := ⟨.hbm, 133, rfl⟩
abbrev main_call7_v13 : Ref sig .tc := ⟨.hbm, 134, rfl⟩
abbrev main_call7_v14 : Ref sig .tc := ⟨.hbm, 135, rfl⟩
abbrev main_call7_cst : Ref sig .tc := ⟨.hbm, 136, rfl⟩
abbrev main_call7_v15 : Ref sig .tc := ⟨.hbm, 137, rfl⟩
abbrev main_v19 : Ref sig .tc := ⟨.hbm, 138, rfl⟩
abbrev main_c_4 : Ref sig .tc := ⟨.hbm, 139, rfl⟩
abbrev main_v20 : Ref sig .tc := ⟨.hbm, 140, rfl⟩
abbrev main_v21 : Ref sig .tc := ⟨.hbm, 141, rfl⟩
abbrev main_c_5 : Ref sig .tc := ⟨.hbm, 142, rfl⟩
abbrev main_v22 : Ref sig .tc := ⟨.hbm, 143, rfl⟩
abbrev main_v23 : Ref sig .tc := ⟨.hbm, 144, rfl⟩
abbrev main_v24 : Ref sig .tc := ⟨.hbm, 145, rfl⟩
abbrev main_v25 : Ref sig .tc := ⟨.hbm, 146, rfl⟩
abbrev main_v26 : Ref sig .tc := ⟨.hbm, 147, rfl⟩
abbrev main_c_6 : Ref sig .tc := ⟨.hbm, 148, rfl⟩
abbrev main_v27 : Ref sig .tc := ⟨.hbm, 149, rfl⟩
abbrev main_v28 : Ref sig .tc := ⟨.hbm, 150, rfl⟩
abbrev main_c_7 : Ref sig .tc := ⟨.hbm, 151, rfl⟩
abbrev main_v29 : Ref sig .tc := ⟨.hbm, 152, rfl⟩
abbrev main_v30 : Ref sig .tc := ⟨.hbm, 153, rfl⟩
abbrev main_v31 : Ref sig .tc := ⟨.hbm, 154, rfl⟩
abbrev main_v32 : Ref sig .tc := ⟨.hbm, 155, rfl⟩
abbrev main_v33 : Ref sig .tc := ⟨.hbm, 156, rfl⟩

abbrev nD : Nat := 1
abbrev τ : Topo := Topo.v7x

variable {F : FTy → Type} [FloatOps F]
-- ==== Proof.Items.lean ====
/-
  The kernel's work, item by item: which block of which argument an item reads, which block of which result it
  writes, the two scratch slots it passes through, and the row loop between them. The printed body is these items in
  a row; the later modules step through it with the lemmas stated over the item's number.
-/
module

public import proofs.«01_k».proof.KernelIdeal

@[expose] public section

noncomputable section

namespace Cert.Flip

open Cert.KernelIdeal Cert.KernelIdeal.Facts₀ Cert.KernelIdeal.Facts
open Idealize.ShloMosaic Idealize.SL.Sem

variable {F : FTy → Type} [FloatOps F]

/-! ## The arrays and the scratch -/

abbrev a2 : Memref sig .scVector .hbm S64x19x64x64 .f32 := Memref.whole main_arg0_scv
abbrev a3 : Memref sig .scVector .hbm S64x19x2x64x64 .f32 := Memref.whole main_arg1_scv
abbrev a4 : Memref sig .scVector .hbm S64x19x2x64x64 .f32 := Memref.whole main_arg2_scv
abbrev a5 : Memref sig .scVector .hbm S64x19x64x64 .f32 := Memref.whole main_v0_0_scv
abbrev a6 : Memref sig .scVector .hbm S64x19x2x64x64 .f32 := Memref.whole main_v0_1_scv
abbrev a7 : Memref sig .scVector .hbm S64x19x2x64x64 .f32 := Memref.whole main_v0_2_scv
abbrev a8 : Memref sig .scVector .vmem S4x2x64x64 .f32 := Memref.whole cc0_scratch0
abbrev a9 : Memref sig .scVector .vmem S3x2x64x64 .f32 := Memref.whole cc0_scratch1

/-! ## The table -/

/-- The keypoint the flipped field reads keypoint `j` from. -/
def FI (j : ℕ) : ℕ := [2, 3, 0, 1, 4, 6, 5, 7, 9, 8, 11, 10, 12, 14, 13, 16, 15, 18, 17].getD j 0

/-- The keypoints at which the two vector fields change places. -/
def isRev (j : ℕ) : Bool := (j == 4) || (j == 7) || (j == 12)

theorem FI_lt (j : ℕ) : FI j < 19 := by
  by_cases h : j < 19
  · exact (by decide : ∀ j < 19, FI j < 19) j h
  · unfold FI; rw [List.getD_eq_getElem?_getD, List.getElem?_eq_none (by simp; omega)]; decide

/-- Item `n` writes keypoint `jOf n`. -/
def jOf (n : ℕ) : ℕ := n / 5 % 19
theorem jOf_lt (n : ℕ) : jOf n < 19 := Nat.mod_lt _ (by decide)

/-- Whether item `n` negates what it copies: the horizontal components of the two vector fields. -/
def negOf (n : ℕ) : Bool := (n % 5 == 1) || (n % 5 == 2)

/-- The component of a vector field item `n` copies. -/
def cOf (n : ℕ) : ℕ := if n % 5 ≤ 2 then 0 else 1
theorem cOf_lt (n : ℕ) : cOf n < 2 := by unfold cOf; split <;> decide

/-! ## The blocks of the arrays -/

variable (L : grid0.Coords)

/-- The first of the two images of the task at `L`. -/
def base : ℕ :=
  (Scalar.muli (Scalar.addi (Scalar.muli (BitVec.ofNat 32 (L 1).val) 2#32) (BitVec.ofNat 32 (L 0).val)) 2#32).toNat

theorem base_eq : base L = 4 * (L 1).val + 2 * (L 0).val := by
  have h0 : (L 0).val < 2 := (L 0).isLt
  have h1 : (L 1).val < 16 := (L 1).isLt
  simp only [base, Scalar.muli, Scalar.addi, IntOp.muli, IntOp.addi]
  bv_omega

theorem base_lt : base L + 2 ≤ 64 := by
  have h0 : (L 0).val < 2 := (L 0).isLt
  have h1 : (L 1).val < 16 := (L 1).isLt
  rw [base_eq]; omega

def off4 (j : ℕ) : Fin 4 → ℕ := ![base L, j, 0, 0]
def off5 (j c : ℕ) : Fin 5 → ℕ := ![base L, j, c, 0, 0]

theorem off4_inb {j : ℕ} (hj : j < 19) : ∀ a, off4 L j a + S2x1x64x64.size a ≤ S64x19x64x64.size a := by
  have := base_lt L
  intro a; fin_cases a <;> simp [off4] <;> omega
theorem off5_inb {j c : ℕ} (hj : j < 19) (hc : c < 2) : ∀ a, off5 L j c a + S2x1x1x64x64.size a ≤ S64x19x2x64x64.size a := by
  have := base_lt L
  intro a; fin_cases a <;> simp [off5] <;> omega

variable [Facts]

/-- Keypoint `j` of the task's two images, of a scalar field. -/
def blk4 (a : Memref sig .scVector .hbm S64x19x64x64 .f32) (j : ℕ) (hj : j < 19) : Memref sig .scVector .hbm S2x64x64 .f32 :=
  (a.slice (Rect.unit (s := S64x19x64x64) (off4 L j) S2x1x64x64.size (off4_inb L hj)) (fun _ => rfl)).squeeze S2x64x64 squeezes_S2x1x64x64_S2x64x64
/-- Component `c` of keypoint `j` of the task's two images, of a vector field. -/
def blk5 (a : Memref sig .scVector .hbm S64x19x2x64x64 .f32) (j c : ℕ) (hj : j < 19) (hc : c < 2) : Memref sig .scVector .hbm S2x64x64 .f32 :=
  (a.slice (Rect.unit (s := S64x19x2x64x64) (off5 L j c) S2x1x1x64x64.size (off5_inb L hj hc)) (fun _ => rfl)).squeeze S2x64x64 squeezes_S2x1x1x64x64_S2x64x64

/-- What item `n` reads. -/
def srcV (n : ℕ) : Memref sig .scVector .hbm S2x64x64 .f32 :=
  match n % 5 with
  | 0 => blk4 L a2 (FI (jOf n)) (FI_lt _)
  | 1 => blk5 L (bif isRev (jOf n) then a4 else a3) (FI (jOf n)) (cOf n) (FI_lt _) (cOf_lt n)
  | 2 => blk5 L (bif isRev (jOf n) then a3 else a4) (FI (jOf n)) (cOf n) (FI_lt _) (cOf_lt n)
  | 3 => blk5 L (bif isRev (jOf n) then a4 else a3) (FI (jOf n)) (cOf n) (FI_lt _) (cOf_lt n)
  | _ => blk5 L (bif isRev (jOf n) then a3 else a4) (FI (jOf n)) (cOf n) (FI_lt _) (cOf_lt n)

/-- What item `n` writes. -/
def dstV (n : ℕ) : Memref sig .scVector .hbm S2x64x64 .f32 :=
  match n % 5 with
  | 0 => blk4 L a5 (jOf n) (jOf_lt n)
  | 1 => blk5 L a6 (jOf n) (cOf n) (jOf_lt n) (cOf_lt n)
  | 2 => blk5 L a7 (jOf n) (cOf n) (jOf_lt n) (cOf_lt n)
  | 3 => blk5 L a6 (jOf n) (cOf n) (jOf_lt n) (cOf_lt n)
  | _ => blk5 L a7 (jOf n) (cOf n) (jOf_lt n) (cOf_lt n)

/-! ## The slots and their semaphores -/

theorem inSlot_inb (n : ℕ) : ∀ a, (![n % 4, 0, 0, 0] : Fin 4 → ℕ) a + S1x2x64x64.size a ≤ S4x2x64x64.size a := by
  have : n % 4 < 4 := Nat.mod_lt _ (by decide)
  intro a; fin_cases a <;> simp; omega
theorem outSlot_inb (n : ℕ) : ∀ a, (![n % 3, 0, 0, 0] : Fin 4 → ℕ) a + S1x2x64x64.size a ≤ S3x2x64x64.size a := by
  have : n % 3 < 3 := Nat.mod_lt _ (by decide)
  intro a; fin_cases a <;> simp; omega

/-- The slot of the input scratch item `n` is fetched into. -/
def inSlot (n : ℕ) : Memref sig .scVector .vmem S2x64x64 .f32 :=
  (a8.slice (Rect.unit (s := S4x2x64x64) ![n % 4, 0, 0, 0] S1x2x64x64.size (inSlot_inb n)) (fun _ => rfl)).squeeze S2x64x64 squeezes_S1x2x64x64_S2x64x64
/-- The slot of the output scratch item `n` is reversed into. -/
def outSlot (n : ℕ) : Memref sig .scVector .vmem S2x64x64 .f32 :=
  (a9.slice (Rect.unit (s := S3x2x64x64) ![n % 3, 0, 0, 0] S1x2x64x64.size (outSlot_inb n)) (fun _ => rfl)).squeeze S2x64x64 squeezes_S1x2x64x64_S2x64x64

def isem (n : ℕ) : DmaSem sig :=
  match n % 4 with
  | 0 => cc0_scratch2.sem
  | 1 => cc0_scratch3.sem
  | 2 => cc0_scratch4.sem
  | _ => cc0_scratch5.sem
def osem (n : ℕ) : DmaSem sig :=
  match n % 3 with
  | 0 => cc0_scratch6.sem
  | 1 => cc0_scratch7.sem
  | _ => cc0_scratch8.sem

/-! ## The row loop -/

/-- The columns `16k + 15, …, 16k`, the image's number, and the row's, as vectors. -/
def lane (k : BitVec 32) : IVec S16 32 := subi (broadcast S16 k) (iota .scVector S16 32 [0] iota_S16_d0_w32_scVector)
def img (k : BitVec 32) : IVec S16 32 := broadcast S16 k
def rowW (t : Fin k0_t1_loop.trips) : BitVec 32 := Scalar.addi 0#32 (Scalar.muli (Scf.iv 0#32 1#32 t) 1#32)
def rowV (t : Fin k0_t1_loop.trips) : IVec S16 32 := broadcast S16 (rowW t)

/-- The check the loop makes of row `t`. -/
def chk (t : Fin k0_t1_loop.trips) : Prop := k0_chk1 (lane 15#32) (lane 31#32) (lane 47#32) (lane 63#32) (img 0#32) (img 1#32) (rowV t)

def rowOff (o g q : ℕ) (t : Fin k0_t1_loop.trips) : Fin 4 → ℕ := ![o, g, (Scalar.indexCast (rowW t)).toNat, q]

/-- The sign an item puts on a row's piece. -/
def sgn (neg : Bool) (w : FVec F S16 .f32) : FVec F S16 .f32 :=
  bif neg then subf (broadcast S16 (Scalar.ofBits .f32 0x00000000#32)) w else w

theorem rowW_lt (t : Fin k0_t1_loop.trips) : (Scalar.indexCast (rowW t)).toNat = t.val ∧ t.val < 64 := by
  revert t; decide +kernel

theorem rowOff_inb {o g q : ℕ} (ho : o < 3) (hg : g < 2) (hq : q + 16 ≤ 64) (t : Fin k0_t1_loop.trips) :
    ∀ a, rowOff o g q t a + S1x1x1x16.size a ≤ S3x2x64x64.size a := by
  have := rowW_lt t
  intro a; fin_cases a <;> simp [rowOff] <;> omega

abbrev PT (L : grid0.Coords) : Type 1 := Prog (TpuEff nD τ sig (Elt F) Λ₀ (.scVector ((L 0).castLE hcore0) ((L 1).castLE hsub0))) PUnit

/-- One quarter of a row gathered and kept. -/
def gath (n : ℕ) (ix : Fin 3 → IVec S16 32) (h : ∀ a x, (ix a x).toNat < S2x64x64.size a)
    (k : Vec F S16 .f32 → PT (F := F) L) : PT (F := F) L :=
  .op (.load (inSlot n) (.whole S2x64x64) (View.loadsAt_whole (View.loads_vmem h_S2x64x64))) fun f => k (loadIdx f ix h)

/-- One quarter of a row put down, after the read of what stood there. -/
def putq (n g q : ℕ) (hg : g < 2) (hq : q + 16 ≤ 64) (t : Fin k0_t1_loop.trips) (w : FVec F S16 .f32) (k : PT (F := F) L) : PT (F := F) L :=
  .op (.load a9 (Rect.unit (s := S3x2x64x64) (rowOff (n % 3) g q t) S1x1x1x16.size (rowOff_inb (Nat.mod_lt _ (by decide)) hg hq t)).toLoadRect
      (View.loadsAt_vmem h_S1x1x1x16)) fun _ =>
    .op (.store a9 (Rect.unit (s := S3x2x64x64) (rowOff (n % 3) g q t) S1x1x1x16.size (rowOff_inb (Nat.mod_lt _ (by decide)) hg hq t))
      (shapeCast S1x1x1x16 w shapeCasts_S16_S1x1x1x16) Finset.univ (View.stores_vmem_bits_univ h_S1x1x1x16 rfl) (.inl rfl)) fun _ => k

/-- One row of one image: its four quarters gathered in reverse, then put down. -/
def rowImg (n g : ℕ) (hg : g < 2) (iv : IVec S16 32) (t : Fin k0_t1_loop.trips)
    (h3 : ∀ a x, ((![iv, rowV t, lane 63#32] : Fin 3 → IVec S16 32) a x).toNat < S2x64x64.size a)
    (h2 : ∀ a x, ((![iv, rowV t, lane 47#32] : Fin 3 → IVec S16 32) a x).toNat < S2x64x64.size a)
    (h1 : ∀ a x, ((![iv, rowV t, lane 31#32] : Fin 3 → IVec S16 32) a x).toNat < S2x64x64.size a)
    (h0 : ∀ a x, ((![iv, rowV t, lane 15#32] : Fin 3 → IVec S16 32) a x).toNat < S2x64x64.size a)
    (k : PT (F := F) L) : PT (F := F) L :=
  gath L n ![iv, rowV t, lane 63#32] h3 fun w3 =>
  gath L n ![iv, rowV t, lane 47#32] h2 fun w2 =>
  gath L n ![iv, rowV t, lane 31#32] h1 fun w1 =>
  gath L n ![iv, rowV t, lane 15#32] h0 fun w0 =>
  putq L n g 0 hg (by decide) t (sgn (negOf n) w3) <|
  putq L n g 16 hg (by decide) t (sgn (negOf n) w2) <|
  putq L n g 32 hg (by decide) t (sgn (negOf n) w1) <|
  putq L n g 48 hg (by decide) t (sgn (negOf n) w0) k

/-- Trip `t` of item `n`'s loop: row `t` of both images. -/
def rowBody (n : ℕ) (dec : ∀ t, Decidable (chk t)) (t : Fin k0_t1_loop.trips) : PT (F := F) L :=
  .op (.assume (chk t) (dec t)) fun h =>
    rowImg L n 0 (by decide) (img 0#32) t h.down.1 h.down.2.1 h.down.2.2.1 h.down.2.2.2.1 <|
    rowImg L n 1 (by decide) (img 1#32) t h.down.2.2.2.2.1 h.down.2.2.2.2.2.1 h.down.2.2.2.2.2.2.1 h.down.2.2.2.2.2.2.2 (.ret ⟨⟩)

end Cert.Flip

end
-- ==== Proof.Index.lean ====
/-
  Which elements the views of the items name, by coordinates, and the check the row loop makes: the arithmetic of the
  kernel, with no program in it.
-/
module

public import proofs.«01_k».proof.Proof.Items
public import Idealize.ShloMosaic.Lib.ValueIdxCoords

@[expose] public section

noncomputable section

namespace Cert.Flip

open Cert.KernelIdeal Cert.KernelIdeal.Facts₀ Cert.KernelIdeal.Facts
open Idealize.ShloMosaic Idealize.ShloMosaic.ValueIdx Idealize.SL.Sem

variable {F : FTy → Type} [FloatOps F]

/-! ## Multi-indices -/

/-- Element `x` of the input slot of item `n`, in the input scratch. -/
def ii (n : ℕ) (x : S2x64x64.Idx) : S4x2x64x64.Idx := ix4 (n0 := 4) ⟨n % 4, Nat.mod_lt _ (by decide)⟩ (x 0) (x 1) (x 2)
/-- Element `x` of the output slot of item `n`, in the output scratch. -/
def oi (n : ℕ) (x : S2x64x64.Idx) : S3x2x64x64.Idx := ix4 (n0 := 3) ⟨n % 3, Nat.mod_lt _ (by decide)⟩ (x 0) (x 1) (x 2)
/-- Element `x` of the block of images `b`, `b + 1` at keypoint `j` of a scalar field. -/
def i4 (b j : ℕ) (hb : b + 2 ≤ 64) (hj : j < 19) (x : S2x64x64.Idx) : S64x19x64x64.Idx :=
  ix4 (n0 := 64) (n1 := 19) ⟨b + (x 0).val, by have : (x 0).val < 2 := (x 0).isLt; omega⟩ ⟨j, hj⟩ (x 1) (x 2)
/-- Element `x` of the block of images `b`, `b + 1` at keypoint `j` and component `c` of a vector field. -/
def i5 (b j c : ℕ) (hb : b + 2 ≤ 64) (hj : j < 19) (hc : c < 2) (x : S2x64x64.Idx) : S64x19x2x64x64.Idx :=
  ix5 (n0 := 64) (n1 := 19) (n2 := 2) ⟨b + (x 0).val, by have : (x 0).val < 2 := (x 0).isLt; omega⟩ ⟨j, hj⟩ ⟨c, hc⟩ (x 1) (x 2)
/-- The multi-index with its last coordinate reversed. -/
def rv (x : S2x64x64.Idx) : S2x64x64.Idx := ix3 (n0 := 2) (n1 := 64) (n2 := 64) (x 0) (x 1) (Fin.rev (n := 64) (x 2))

theorem oi_inj (n : ℕ) {x y : S2x64x64.Idx} (h : oi n x = oi n y) : x = y := by
  funext a
  fin_cases a
  · exact congrFun h 1
  · exact congrFun h 2
  · exact congrFun h 3

variable [Facts] (L : grid0.Coords)

theorem squeeze_slot (h : S2x64x64.numel = S1x2x64x64.numel) (x : S2x64x64.Idx) :
    Shape.reshapeEquiv h x = (ix4 0 (x 0) (x 1) (x 2) : S1x2x64x64.Idx) := by
  refine Shape.reshapeEquiv_eq_of_rowMajor _ ((Shape.rowMajor_val_four _).trans (Eq.trans ?_ (Shape.rowMajor_val_three _).symm))
  show ((0 * 2 + (x 0).val) * 64 + (x 1).val) * 64 + (x 2).val = ((x 0).val * 64 + (x 1).val) * 64 + (x 2).val
  omega

theorem squeeze_blk4 (h : S2x64x64.numel = S2x1x64x64.numel) (x : S2x64x64.Idx) :
    Shape.reshapeEquiv h x = (ix4 (x 0) 0 (x 1) (x 2) : S2x1x64x64.Idx) := by
  refine Shape.reshapeEquiv_eq_of_rowMajor _ ((Shape.rowMajor_val_four _).trans (Eq.trans ?_ (Shape.rowMajor_val_three _).symm))
  show (((x 0).val * 1 + 0) * 64 + (x 1).val) * 64 + (x 2).val = ((x 0).val * 64 + (x 1).val) * 64 + (x 2).val
  omega

theorem squeeze_blk5 (h : S2x64x64.numel = S2x1x1x64x64.numel) (x : S2x64x64.Idx) :
    Shape.reshapeEquiv h x = (ix5 (x 0) 0 0 (x 1) (x 2) : S2x1x1x64x64.Idx) := by
  refine Shape.reshapeEquiv_eq_of_rowMajor _ ((Shape.rowMajor_val_five _).trans (Eq.trans ?_ (Shape.rowMajor_val_three _).symm))
  show ((((x 0).val * 1 + 0) * 1 + 0) * 64 + (x 1).val) * 64 + (x 2).val = ((x 0).val * 64 + (x 1).val) * 64 + (x 2).val
  omega

theorem emb_inSlot (n : ℕ) (x : S2x64x64.Idx) : ((inSlot n).view.emb x : S4x2x64x64.Idx) = ii n x := by
  refine Eq.trans (congrArg (Rect.unit (s := S4x2x64x64) ![n % 4, 0, 0, 0] S1x2x64x64.size (inSlot_inb n)).emb (squeeze_slot _ x)) ?_
  funext a; apply Fin.ext
  refine (Rect.emb_apply _ _ _).trans ?_
  fin_cases a
  · show n % 4 + 1 * 0 = n % 4; omega
  · show 0 + 1 * (x 0).val = (x 0).val; omega
  · show 0 + 1 * (x 1).val = (x 1).val; omega
  · show 0 + 1 * (x 2).val = (x 2).val; omega

theorem emb_outSlot (n : ℕ) (x : S2x64x64.Idx) : ((outSlot n).view.emb x : S3x2x64x64.Idx) = oi n x := by
  refine Eq.trans (congrArg (Rect.unit (s := S3x2x64x64) ![n % 3, 0, 0, 0] S1x2x64x64.size (outSlot_inb n)).emb (squeeze_slot _ x)) ?_
  funext a; apply Fin.ext
  refine (Rect.emb_apply _ _ _).trans ?_
  fin_cases a
  · show n % 3 + 1 * 0 = n % 3; omega
  · show 0 + 1 * (x 0).val = (x 0).val; omega
  · show 0 + 1 * (x 1).val = (x 1).val; omega
  · show 0 + 1 * (x 2).val = (x 2).val; omega

theorem emb_blk4 (a : Memref sig .scVector .hbm S64x19x64x64 .f32) (j : ℕ) (hj : j < 19) (x : S2x64x64.Idx) :
    (blk4 L a j hj).view.emb x = a.view.emb (i4 (base L) j (base_lt L) hj x) := by
  refine congrArg a.view.emb (Eq.trans (congrArg (Rect.unit (s := S64x19x64x64) (off4 L j) S2x1x64x64.size (off4_inb L hj)).emb (squeeze_blk4 _ x)) ?_)
  funext a; apply Fin.ext
  refine (Rect.emb_apply _ _ _).trans ?_
  fin_cases a
  · show base L + 1 * (x 0).val = base L + (x 0).val; omega
  · show j + 1 * 0 = j; omega
  · show 0 + 1 * (x 1).val = (x 1).val; omega
  · show 0 + 1 * (x 2).val = (x 2).val; omega

theorem emb_blk5 (a : Memref sig .scVector .hbm S64x19x2x64x64 .f32) (j c : ℕ) (hj : j < 19) (hc : c < 2) (x : S2x64x64.Idx) :
    (blk5 L a j c hj hc).view.emb x = a.view.emb (i5 (base L) j c (base_lt L) hj hc x) := by
  refine congrArg a.view.emb (Eq.trans (congrArg (Rect.unit (s := S64x19x2x64x64) (off5 L j c) S2x1x1x64x64.size (off5_inb L hj hc)).emb (squeeze_blk5 _ x)) ?_)
  funext a; apply Fin.ext
  refine (Rect.emb_apply _ _ _).trans ?_
  fin_cases a
  · show base L + 1 * (x 0).val = base L + (x 0).val; omega
  · show j + 1 * 0 = j; omega
  · show c + 1 * 0 = c; omega
  · show 0 + 1 * (x 1).val = (x 1).val; omega
  · show 0 + 1 * (x 2).val = (x 2).val; omega

/-! ## The row's quarters -/

/-- The place, in a slot, of lane `y` of the quarter at column `q` of row `t` of image `g`. -/
def qi (g q : ℕ) (hg : g < 2) (hq : q + 16 ≤ 64) (t : Fin k0_t1_loop.trips) (y : S16.Idx) : S2x64x64.Idx :=
  ix3 (n0 := 2) (n1 := 64) (n2 := 64) ⟨g, hg⟩ ⟨t.val, (rowW_lt t).2⟩ ⟨q + (y 0).val, by have : (y 0).val < 16 := (y 0).isLt; omega⟩

/-- The rectangle of the output scratch a quarter is put down in. -/
abbrev qRect (n g q : ℕ) (hg : g < 2) (hq : q + 16 ≤ 64) (t : Fin k0_t1_loop.trips) : Rect S3x2x64x64 :=
  Rect.unit (s := S3x2x64x64) (rowOff (n % 3) g q t) S1x1x1x16.size (rowOff_inb (Nat.mod_lt _ (by decide)) hg hq t)

theorem emb_qRect (n g q : ℕ) (hg : g < 2) (hq : q + 16 ≤ 64) (t : Fin k0_t1_loop.trips) (y : S1x1x1x16.Idx) :
    (qRect n g q hg hq t).emb y = oi n (qi g q hg hq t (ix1 (y 3))) := by
  have := rowW_lt t
  have h0 : (y 0).val < 1 := (y 0).isLt
  have h1 : (y 1).val < 1 := (y 1).isLt
  have h2 : (y 2).val < 1 := (y 2).isLt
  funext a; apply Fin.ext
  rw [Rect.emb_apply]
  fin_cases a <;> simp [oi, qi, rowOff, Rect.unit] <;> omega

theorem cast_S16 (w : FVec F S16 .f32) (h : S16.ShapeCasts S1x1x1x16) (y : S1x1x1x16.Idx) : shapeCast S1x1x1x16 w h y = w (ix1 (y 3)) := by
  have h0 : (y 0).val < 1 := (y 0).isLt
  have h1 : (y 1).val < 1 := (y 1).isLt
  have h2 : (y 2).val < 1 := (y 2).isLt
  show w (Shape.reshapeEquiv (s := S16) (s' := S1x1x1x16) _ y) = _
  congr 1
  exact Shape.reshapeEquiv_eq_of_rowMajor _ ((Shape.rowMajor_val_one _).trans (Eq.trans (by simp; omega) (Shape.rowMajor_val_four _).symm))

/-- Lane `y` of the columns that end at `k - 15`. -/
theorem lane_toNat (k : BitVec 32) (hk : 15 ≤ k.toNat) (y : S16.Idx) : (lane k y).toNat = k.toNat - (y 0).val := by
  have h0 : (y 0).val < 16 := (y 0).isLt
  simp only [lane, subi, broadcast, iota, List.foldl, IntOp.subi]
  bv_omega

theorem rowV_toNat (t : Fin k0_t1_loop.trips) (y : S16.Idx) : (rowV t y).toNat = t.val := (rowW_lt t).1

theorem img_toNat (k : BitVec 32) (y : S16.Idx) : (img k y).toNat = k.toNat := rfl

theorem quarter_lt {k : BitVec 32} (hk : 15 ≤ k.toNat) (hk' : k.toNat < 64) {g : BitVec 32} (hg : g.toNat < 2) (t : Fin k0_t1_loop.trips) :
    ∀ a x, ((![img g, rowV t, lane k] : Fin 3 → IVec S16 32) a x).toNat < S2x64x64.size a := by
  intro a x
  have ht := rowW_lt t
  fin_cases a
  · exact hg
  · show (rowV t x).toNat < 64
    rw [rowV_toNat]; exact ht.2
  · show (lane k x).toNat < 64
    rw [lane_toNat k hk]; omega

theorem chk_holds (t : Fin k0_t1_loop.trips) : chk t :=
  ⟨quarter_lt (by decide) (by decide) (by decide) t, quarter_lt (by decide) (by decide) (by decide) t,
    quarter_lt (by decide) (by decide) (by decide) t, quarter_lt (by decide) (by decide) (by decide) t,
    quarter_lt (by decide) (by decide) (by decide) t, quarter_lt (by decide) (by decide) (by decide) t,
    quarter_lt (by decide) (by decide) (by decide) t, quarter_lt (by decide) (by decide) (by decide) t⟩

/-- The columns gathered for the quarter at column `q` are that quarter's, reversed. -/
theorem idxAt_quarter (q : ℕ) (hq : q + 16 ≤ 64) {k g : BitVec 32} (hk : 15 ≤ k.toNat) (hkq : k.toNat = 63 - q) (hg : g.toNat < 2) (t : Fin k0_t1_loop.trips)
    (h : ∀ a x, ((![img g, rowV t, lane k] : Fin 3 → IVec S16 32) a x).toNat < S2x64x64.size a) (y : S16.Idx) :
    idxAt (s := S2x64x64) ![img g, rowV t, lane k] h y = rv (qi g.toNat q hg hq t y) := by
  funext a; apply Fin.ext
  fin_cases a
  · rfl
  · exact rowV_toNat t y
  · refine (lane_toNat k hk y).trans ?_
    show k.toNat - (y 0).val = 64 - ((q + (y 0).val) + 1)
    omega

/-! ## The values -/

/-- The sign an item puts on one element. -/
def sgnE (neg : Bool) (w : F .f32) : F .f32 := bif neg then FloatOps.subf (Scalar.ofBits .f32 0x00000000#32) w else w

theorem sgn_apply (neg : Bool) (w : FVec F S16 .f32) (y : S16.Idx) : sgn neg w y = sgnE neg (w y) := by
  cases neg <;> rfl

/-- The rows below `t` of both images, and the first `m` quarters of row `t`, stand in item `n`'s output slot as
    the input slot's reversed. -/
def RowsUpTo (n : ℕ) (f : S4x2x64x64.Idx → F .f32) (g : S3x2x64x64.Idx → F .f32) (t m : ℕ) : Prop :=
  ∀ x : S2x64x64.Idx, ((x 1).val < t ∨ ((x 1).val = t ∧ 4 * (x 0).val + (x 2).val / 16 < m)) → g (oi n x) = sgnE (negOf n) (f (ii n (rv x)))

theorem rowsUpTo_zero (n : ℕ) (f : S4x2x64x64.Idx → F .f32) (g : S3x2x64x64.Idx → F .f32) : RowsUpTo n f g 0 0 := by
  intro x hx; omega

theorem rowsUpTo_succ {n : ℕ} {f : S4x2x64x64.Idx → F .f32} {g : S3x2x64x64.Idx → F .f32} {t : ℕ} (h : RowsUpTo n f g t 8) : RowsUpTo n f g (t + 1) 0 := by
  intro x hx
  have h0 : (x 0).val < 2 := (x 0).isLt
  have h2 : (x 2).val < 64 := (x 2).isLt
  exact h x (by omega)

/-- One more quarter put down. -/
theorem rowsUpTo_quarter {n : ℕ} {f : S4x2x64x64.Idx → F .f32} {g g' : S3x2x64x64.Idx → F .f32} {t : Fin k0_t1_loop.trips} {gi q m : ℕ} {hg : gi < 2} {hq : q + 16 ≤ 64}
    (hm : 4 * gi + q / 16 = m) (hq16 : q % 16 = 0)
    (hin : ∀ y, g' (oi n (qi gi q hg hq t y)) = sgnE (negOf n) (f (ii n (rv (qi gi q hg hq t y)))))
    (hout : ∀ x, (∀ y, x ≠ qi gi q hg hq t y) → g' (oi n x) = g (oi n x))
    (h : RowsUpTo n f g t.val m) : RowsUpTo n f g' t.val (m + 1) := by
  intro x hx
  have h0 : (x 0).val < 2 := (x 0).isLt
  have h2 : (x 2).val < 64 := (x 2).isLt
  by_cases hc : (x 0).val = gi ∧ (x 1).val = t.val ∧ q ≤ (x 2).val ∧ (x 2).val < q + 16
  · obtain ⟨c0, c1, c2, c3⟩ := hc
    have e : x = qi gi q hg hq t (ix1 ⟨(x 2).val - q, by omega⟩) := by
      funext a; apply Fin.ext
      fin_cases a
      · exact c0
      · exact c1
      · show (x 2).val = q + ((x 2).val - q); omega
    rw [e]; exact hin _
  · rw [hout x (fun y e => hc (by
      have hy : (y 0).val < 16 := (y 0).isLt
      have e0 := congrArg (fun z : S2x64x64.Idx => (z 0).val) e
      have e1 := congrArg (fun z : S2x64x64.Idx => (z 1).val) e
      have e2 := congrArg (fun z : S2x64x64.Idx => (z 2).val) e
      simp only [qi, ix3_0, ix3_1, ix3_2] at e0 e1 e2
      omega))]
    exact h x (by omega)

end Cert.Flip

end
-- ==== Proof.Ctx.lean ====
/-
  The program as the launch theorem sees it, and the resource algebra its proof works in.
-/
module

public import proofs.«01_k».proof.Proof.Index
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Flip

open Cert.KernelIdeal Cert.KernelIdeal.Facts₀ Cert.KernelIdeal.Facts
open Idealize.ShloMosaic
open Idealize.ShloMosaic.SparseCore (S V T)
open Idealize.ShloMosaic.SparseCore.Cfg (HIx Pay)
open Idealize.SL Idealize.SL.RA Idealize.SL.BI
open Idealize.SL.Sem Idealize.ShloMosaic.Rounds

variable {F : FTy → Type} [FloatOps F] [Facts]

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' rounds, and the counters of the copies in flight. -/
abbrev UH : Type := URounds (GSem nD τ sig) ℕ
abbrev UU : Type := UH × Counters

/-- The SparseCore and the subcore of the task at `L`, and its thread on device `d`. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

end Cert.Flip

end
-- ==== Proof.Rows.lean ====
/-
  The row loop of one item: from a slot holding a fetched block, the output slot comes to hold it reversed along its
  last coordinate, with the item's sign.
-/
module

public import proofs.«01_k».proof.Proof.Ctx

@[expose] public section

noncomputable section

namespace Cert.Flip

open Cert.KernelIdeal Cert.KernelIdeal.Facts₀ Cert.KernelIdeal.Facts
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] [Facts]

local notation "𝕄" => MT nD τ sig (HIx 1) (Elt F) ℕ UU ℕ

variable (d : Dev nD) (L : grid0.Coords) (n : ℕ)

/-- The two scratch buffers of the task. -/
abbrev iLoc : Loc nD τ sig := (thr d L).loc cc0_scratch0
abbrev oLoc : Loc nD τ sig := (thr d L).loc cc0_scratch1
/-- The elements of an item's input slot and of its output slot. -/
abbrev iSet : Finset (Idx (iLoc d L)) := (inSlot n).view.set
abbrev oSet : Finset (Idx (oLoc d L)) := (outSlot n).view.set

theorem pts_inSlot (f : Buf (Elt F) (iLoc d L)) :
    ((inSlot n).view.loc (thr d L) ↦[(inSlot n).view.set]{fullShare} f : sProp 𝕄) = iLoc d L ↦[iSet d L n]{fullShare} f := rfl
theorem pts_outSlot (f : Buf (Elt F) (oLoc d L)) :
    ((outSlot n).view.loc (thr d L) ↦[(outSlot n).view.set]{fullShare} f : sProp 𝕄) = oLoc d L ↦[oSet d L n]{fullShare} f := rfl

/-- Gathering a quarter of a row reads the slot's elements that the column vector names. -/
theorem wp_gath {gi q : ℕ} {k g : BitVec 32} (hg : gi < 2) (hgi : g.toNat = gi) (hq : q + 16 ≤ 64) (hk : 15 ≤ k.toNat) (hkq : k.toNat = 63 - q)
    (t : Fin k0_t1_loop.trips) (h : ∀ a x, ((![img g, rowV t, lane k] : Fin 3 → IVec S16 32) a x).toNat < S2x64x64.size a)
    (f : Buf (Elt F) (iLoc d L)) (kk : Vec F S16 .f32 → PT (F := F) L) (Q : PUnit → sProp 𝕄) :
    (iLoc d L ↦[iSet d L n]{fullShare} f)
      ⊢ iprop((∀ w : FVec F S16 .f32, ⌜∀ y, w y = f (ii n (rv (qi gi q hg hq t y)))⌝ -∗ (iLoc d L ↦[iSet d L n]{fullShare} f)
            -∗ wp frame (wpE (defs₀ (F := F)) 𝒱₀ (thr d L) none) Set.univ (kk w) Q)
          -∗ wp frame (wpE (defs₀ (F := F)) 𝒱₀ (thr d L) none) Set.univ (gath L n ![img g, rowV t, lane k] h kk) Q) := by
  subst hgi
  iintro Hi Hk
  unfold gath
  ihave Hi := (Entails.of_eq (pts_inSlot d L n f).symm) $$ Hi
  iapply (wp_load 𝒱₀ (thr d L) none Set.univ (m := inSlot n) (S := (inSlot n).view.set) (q := fullShare) (f := f) (View.setOn_subset_set _ _)) $$ Hi
  iintro Hi
  iapply Hk $$ %_ [] [Hi]
  · ipureintro
    intro y
    show (inSlot n).view.readAt (Elt F) _ f (idxAt _ h y) = _
    rw [idxAt_quarter q hq hk hkq hg t h y]
    refine (View.read_apply (v := (inSlot n).view) f _).trans ((cast_eq _ _).trans (congrArg f ?_))
    refine Eq.trans (congrArg (inSlot n).view.emb ?_) (emb_inSlot n _)
    funext a; apply Fin.ext
    refine (LoadRect.idx_apply _ _ _).trans ?_
    show 0 + 1 * _ = _
    omega
  · iexact Hi

theorem emb_access {gi q : ℕ} (hg : gi < 2) (hq : q + 16 ≤ 64) (t : Fin k0_t1_loop.trips) (y : S1x1x1x16.Idx) :
    ((a9.access (qRect n gi q hg hq t)).emb y : S3x2x64x64.Idx) = oi n (qi gi q hg hq t (ix1 (y 3))) := emb_qRect n gi q hg hq t y

theorem access_subset {gi q : ℕ} (hg : gi < 2) (hq : q + 16 ≤ 64) (t : Fin k0_t1_loop.trips) :
    (a9.access (qRect n gi q hg hq t)).setOn Finset.univ ⊆ oSet d L n := by
  intro i hi
  obtain ⟨y, -, rfl⟩ := Finset.mem_map.mp hi
  exact Eq.subst (motive := fun z => z ∈ (outSlot n).view.set) ((emb_outSlot n _).trans (emb_access n hg hq t y).symm) (View.emb_mem_set _ _)

/-- Putting a quarter down extends what stands reversed by that quarter. -/
theorem wp_putq {gi q m : ℕ} (hg : gi < 2) (hq : q + 16 ≤ 64) (hm : 4 * gi + q / 16 = m) (hq16 : q % 16 = 0) (t : Fin k0_t1_loop.trips)
    (f : Buf (Elt F) (iLoc d L)) (g : Buf (Elt F) (oLoc d L)) (w : FVec F S16 .f32)
    (hw : ∀ y, w y = f (ii n (rv (qi gi q hg hq t y)))) (hR : RowsUpTo n f g t.val m) (kk : PT (F := F) L) (Q : PUnit → sProp 𝕄) :
    (oLoc d L ↦[oSet d L n]{fullShare} g)
      ⊢ iprop((∀ g' : Buf (Elt F) (oLoc d L), ⌜RowsUpTo n f g' t.val (m + 1)⌝ -∗ (oLoc d L ↦[oSet d L n]{fullShare} g')
            -∗ wp frame (wpE (defs₀ (F := F)) 𝒱₀ (thr d L) none) Set.univ kk Q)
          -∗ wp frame (wpE (defs₀ (F := F)) 𝒱₀ (thr d L) none) Set.univ (putq L n gi q hg hq t (sgn (negOf n) w) kk) Q) := by
  iintro Ho Hk
  unfold putq
  iapply (wp_load_rect 𝒱₀ (thr d L) none Set.univ (m := a9) (r := qRect n gi q hg hq t) (S := oSet d L n) (access_subset d L n hg hq t)) $$ Ho
  iintro Ho
  iapply (wp_store 𝒱₀ (thr d L) none Set.univ (m := a9) (r := qRect n gi q hg hq t) (S := oSet d L n) (access_subset d L n hg hq t)) $$ Ho
  iintro Ho
  iapply Hk $$ %_ [] [Ho]
  rotate_left
  · iexact Ho
  ipureintro
  refine rowsUpTo_quarter (hg := hg) (hq := hq) hm hq16 (fun y => ?_) (fun x hx => ?_) hR
  · have e : (a9.access (qRect n gi q hg hq t)).emb (ix4 (n0 := 1) (n1 := 1) (n2 := 1) (n3 := 16) 0 0 0 (y 0)) = oi n (qi gi q hg hq t y) :=
      (emb_access n hg hq t _).trans (congrArg (fun z => oi n (qi gi q hg hq t z)) (eq_ix1 y).symm)
    rw [← e]
    refine (View.write_emb_of_mem _ _ (Finset.mem_univ _)).trans ((cast_eq _ _).trans ?_)
    rw [cast_S16, sgn_apply, hw]
    exact congrArg (fun z => sgnE (negOf n) (f (ii n (rv (qi gi q hg hq t z))))) (eq_ix1 y).symm
  · refine View.write_of_not_mem _ _ _ (fun hc => ?_)
    obtain ⟨y, -, e⟩ := Finset.mem_map.mp hc
    exact hx _ (oi_inj n (e.symm.trans (emb_access n hg hq t y)))

/-- One row of one image. -/
theorem wp_rowImg {gi : ℕ} {g : BitVec 32} (hg : gi < 2) (hgi : g.toNat = gi) (t : Fin k0_t1_loop.trips) (h3 h2 h1 h0)
    (f : Buf (Elt F) (iLoc d L)) (b : Buf (Elt F) (oLoc d L)) (hR : RowsUpTo n f b t.val (4 * gi)) (kk : PT (F := F) L) (Q : PUnit → sProp 𝕄) :
    iprop((iLoc d L ↦[iSet d L n]{fullShare} f) ∗ (oLoc d L ↦[oSet d L n]{fullShare} b))
      ⊢ iprop((∀ b' : Buf (Elt F) (oLoc d L), ⌜RowsUpTo n f b' t.val (4 * gi + 4)⌝ -∗ (iLoc d L ↦[iSet d L n]{fullShare} f) -∗ (oLoc d L ↦[oSet d L n]{fullShare} b')
            -∗ wp frame (wpE (defs₀ (F := F)) 𝒱₀ (thr d L) none) Set.univ kk Q)
          -∗ wp frame (wpE (defs₀ (F := F)) 𝒱₀ (thr d L) none) Set.univ (rowImg L n gi hg (img g) t h3 h2 h1 h0 kk) Q) := by
  iintro ⟨Hi, Ho⟩ Hk
  unfold rowImg
  iapply (wp_gath d L n (q := 0) hg hgi (by decide) (by decide) (by decide) t h3 f) $$ Hi
  iintro %w3 %hw3 Hi
  iapply (wp_gath d L n (q := 16) hg hgi (by decide) (by decide) (by decide) t h2 f) $$ Hi
  iintro %w2 %hw2 Hi
  iapply (wp_gath d L n (q := 32) hg hgi (by decide) (by decide) (by decide) t h1 f) $$ Hi
  iintro %w1 %hw1 Hi
  iapply (wp_gath d L n (q := 48) hg hgi (by decide) (by decide) (by decide) t h0 f) $$ Hi
  iintro %w0 %hw0 Hi
  iapply (wp_putq d L n hg _ rfl (by decide) t f b w3 hw3 hR) $$ Ho
  iintro %b1 %hb1 Ho
  iapply (wp_putq d L n hg _ rfl (by decide) t f b1 w2 hw2 hb1) $$ Ho
  iintro %b2 %hb2 Ho
  iapply (wp_putq d L n hg _ rfl (by decide) t f b2 w1 hw1 hb2) $$ Ho
  iintro %b3 %hb3 Ho
  iapply (wp_putq d L n hg _ rfl (by decide) t f b3 w0 hw0 hb3) $$ Ho
  iintro %b4 %hb4 Ho
  iapply Hk $$ %b4 %hb4 Hi Ho

/-- One trip of the loop: a row of both images. -/
theorem wp_rowBody (dec : ∀ t, Decidable (chk t)) (t : Fin k0_t1_loop.trips) (f : Buf (Elt F) (iLoc d L)) (b : Buf (Elt F) (oLoc d L)) (hR : RowsUpTo n f b t.val 0) :
    iprop((iLoc d L ↦[iSet d L n]{fullShare} f) ∗ (oLoc d L ↦[oSet d L n]{fullShare} b))
      ⊢ wp frame (wpE (defs₀ (F := F)) 𝒱₀ (thr d L) none) Set.univ (rowBody L n dec t)
          fun _ => (iprop((iLoc d L ↦[iSet d L n]{fullShare} f) ∗ ∃ b', ⌜RowsUpTo n f b' (t.val + 1) 0⌝ ∗ (oLoc d L ↦[oSet d L n]{fullShare} b')) : sProp 𝕄) := by
  iintro ⟨Hi, Ho⟩
  unfold rowBody
  rw [wp_assume_of _ _ _ _ (chk_holds t)]
  iapply (wp_rowImg d L n (gi := 0) _ rfl t _ _ _ _ f b hR) $$ [Hi Ho]
  · isplitl [Hi] <;> iassumption
  iintro %b1 %hb1 Hi Ho
  iapply (wp_rowImg d L n (gi := 1) _ rfl t _ _ _ _ f b1 hb1) $$ [Hi Ho]
  · isplitl [Hi] <;> iassumption
  iintro %b2 %hb2 Hi Ho
  rw [wp_ret]; imodintro
  isplitl [Hi]; · iexact Hi
  iexists b2
  isplitr
  · ipureintro; exact rowsUpTo_succ hb2
  · iexact Ho

/-- The output slot of item `n` holds the input slot's block reversed, with the item's sign. -/
def Flipped (f : S4x2x64x64.Idx → F .f32) (b : S3x2x64x64.Idx → F .f32) : Prop :=
  ∀ x : S2x64x64.Idx, b (oi n x) = sgnE (negOf n) (f (ii n (rv x)))

/-- The row loop, at the head of what follows it. -/
theorem wp_rows (dec : ∀ t, Decidable (chk t)) {ok} {α : Type}
    {k1 : PUnit → Prog (TpuEff nD τ sig (Elt F) Λ₀ (.scVector ((L 0).castLE hcore0) ((L 1).castLE hsub0))) PUnit}
    {k2 : PUnit → Prog (TpuEff nD τ sig (Elt F) Λ₀ (.scVector ((L 0).castLE hcore0) ((L 1).castLE hsub0))) α} {k3 : α → PT (F := F) L}
    (f : Buf (Elt F) (iLoc d L)) (b : Buf (Elt F) (oLoc d L)) (Q : PUnit → sProp 𝕄) :
    iprop((iLoc d L ↦[iSet d L n]{fullShare} f) ∗ (oLoc d L ↦[oSet d L n]{fullShare} b))
      ⊢ iprop((∀ b' : Buf (Elt F) (oLoc d L), ⌜Flipped n f b'⌝ -∗ (iLoc d L ↦[iSet d L n]{fullShare} f) -∗ (oLoc d L ↦[oSet d L n]{fullShare} b')
            -∗ wp frame (wpE (defs₀ (F := F)) 𝒱₀ (thr d L) none) Set.univ ((k1 ⟨⟩ >>= k2) >>= k3) Q)
          -∗ wp frame (wpE (defs₀ (F := F)) 𝒱₀ (thr d L) none) Set.univ
              (((Scf.Loop.for k0_t1_loop ok ⟨⟩ (fun t _ => rowBody L n dec t) >>= k1) >>= k2) >>= k3) Q) := by
  iintro ⟨Hi, Ho⟩ Hk
  simp only [bind_assoc]
  unfold Scf.Loop.for
  iapply (Scf.wp_for_bind frame (wpE (defs₀ (F := F)) 𝒱₀ (thr d L) none) Set.univ _ _ _ _ ⟨⟩ (fun t _ => rowBody L n dec t)
    (fun k _ => (iprop((iLoc d L ↦[iSet d L n]{fullShare} f) ∗ ∃ b', ⌜RowsUpTo n f b' k 0⌝ ∗ (oLoc d L ↦[oSet d L n]{fullShare} b')) : sProp 𝕄)) ?hb) $$ [Hi Ho]
  case hb =>
    intro t _
    iintro ⟨Hi, %b', %hb, Ho⟩
    iapply (wp_rowBody d L n dec t f b' hb)
    isplitl [Hi]; · iexact Hi
    iexact Ho
  · isplitl [Hi]; · iexact Hi
    iexists b
    isplitr
    · ipureintro; exact rowsUpTo_zero n f b
    · iexact Ho
  iintro %_ ⟨Hi, %b', %hb, Ho⟩
  iapply Hk $$ %b' [] Hi Ho
  ipureintro
  intro x
  exact hb x (.inl (x 1).isLt)

end Cert.Flip

end
-- ==== Proof.Steps.lean ====
/-
  What a task holds between the steps of its items, and each kind of step as one lemma over the item's number: the
  wait for a fetched block, the wait for an output slot, the row loop, the write-out, the next fetch.
-/
module

public import proofs.«01_k».proof.Proof.Rows
public import Idealize.SL.BI.BigOpNat

@[expose] public section

noncomputable section

namespace Cert.Flip

open Cert.KernelIdeal Cert.KernelIdeal.Facts₀ Cert.KernelIdeal.Facts
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] [Facts]

local notation "𝕄" => MT nD τ sig (HIx 1) (Elt F) ℕ UU ℕ

variable (m : (ℓ : Loc nD τ sig) → Buf (Elt F) ℓ) (d : Dev nD) (L : grid0.Coords)
variable (O : CellTallies nD τ sig (HIx 1)) (W₀ : Waits sig (HIx 1))

/-! ## What an item's memory holds -/

/-- What item `n` reads, as the launch memory has it. -/
def srcVal (n : ℕ) : S2x64x64.Idx → F .f32 := (srcV L n).view.read (Elt F) (m ((srcV L n).view.loc (thr d L)))

/-- An input slot holding what item `n` reads. -/
def Got (n : ℕ) (f : S4x2x64x64.Idx → F .f32) : Prop := ∀ x, f (ii n x) = srcVal m d L n x
/-- An output slot holding what item `n` writes. -/
def Ready (n : ℕ) (g : S3x2x64x64.Idx → F .f32) : Prop := ∀ x, g (oi n x) = sgnE (negOf n) (srcVal m d L n (rv x))

/-- The block item `n` reads. -/
abbrev src (n : ℕ) : sProp 𝕄 := (srcV L n).view.loc (thr d L) ↦[(srcV L n).view.set]{fullShare} m ((srcV L n).view.loc (thr d L))
/-- The block item `n` writes, before. -/
abbrev dst0 (n : ℕ) : sProp 𝕄 := (dstV L n).view.loc (thr d L) ↦[(dstV L n).view.set]{fullShare} m ((dstV L n).view.loc (thr d L))
/-- The block item `n` writes, after. -/
def dst1 (n : ℕ) : sProp 𝕄 :=
  iprop(∃ g : Buf (Elt F) ((dstV L n).view.loc (thr d L)), ⌜∀ x, (dstV L n).view.read (Elt F) g x = sgnE (negOf n) (srcVal m d L n (rv x))⌝
    ∗ (dstV L n).view.loc (thr d L) ↦[(dstV L n).view.set]{fullShare} g)

/-- An input slot's memory, with contents `f`. -/
abbrev inPts (n : ℕ) (f : Buf (Elt F) (iLoc d L)) : sProp 𝕄 := iLoc d L ↦[iSet d L n]{fullShare} f
/-- An output slot's memory, with contents `g`. -/
abbrev outPts (n : ℕ) (g : Buf (Elt F) (oLoc d L)) : sProp 𝕄 := oLoc d L ↦[oSet d L n]{fullShare} g

/-! ## The slots' states -/

def inFree (n : ℕ) : sProp 𝕄 := iprop(semVal (thr d L, SemLoc.dma (isem n)) 0 ∗ ∃ f, inPts d L n f)
def inGot (n : ℕ) : sProp 𝕄 := iprop(semVal (thr d L, SemLoc.dma (isem n)) 0 ∗ ∃ f, ⌜Got m d L n f⌝ ∗ inPts d L n f)
def inFly (n : ℕ) : sProp 𝕄 :=
  Transfers.Flight countersEmb (thr d L) (SemLoc.dma (isem n)) none (inSlot n).view.dmaCredit iprop((∃ f, ⌜Got m d L n f⌝ ∗ inPts d L n f) ∗ src m d L n)
def outFree (n : ℕ) : sProp 𝕄 := iprop(semVal (thr d L, SemLoc.dma (osem n)) 0 ∗ ∃ g, outPts d L n g)
def outReady (n : ℕ) : sProp 𝕄 := iprop(semVal (thr d L, SemLoc.dma (osem n)) 0 ∗ ∃ g, ⌜Ready m d L n g⌝ ∗ outPts d L n g)
def outFly (n : ℕ) : sProp 𝕄 :=
  Transfers.Flight countersEmb (thr d L) (SemLoc.dma (osem n)) none (dstV L n).view.dmaCredit iprop(dst1 m d L n ∗ ∃ g, outPts d L n g)

/-- The input slot of item `n` before the item: being filled, if there is such an item. -/
def inSt (n : ℕ) : sProp 𝕄 := if n < 95 then inFly m d L n else inFree d L n
/-- The output slot of item `n` before the item: being emptied of the item three before it, if there is one. -/
def outSt (n : ℕ) : sProp 𝕄 := if n < 3 then outFree d L n else if n < 98 then outFly m d L (n - 3) else outFree d L n

/-- What the task owes, its waits so far recorded. -/
def OW : sProp 𝕄 := iprop(∃ W, ⌜∀ p ∈ W, p ∈ W₀ ∨ p.2 = none⌝ ∗ owes (thr d L) O W)

/-- The blocks of the arguments and the results, item `a` to be fetched, `b` items back, item `c` to be written out, `e` items written. -/
def HB (a b c e : ℕ) : sProp 𝕄 :=
  iprop(bigSep (Finset.Ico a 95) (src m d L) ∗ bigSep (Finset.range b) (src m d L)
    ∗ bigSep (Finset.Ico c 95) (dst0 m d L) ∗ bigSep (Finset.range e) (dst1 m d L))

/-- What the task holds: at the prologue (10), before item `n` (0), with its block in (1), with its output slot free (2), with the
    output slot filled (3), with it being emptied (4), and at the end (5). -/
def St : ℕ → ℕ → sProp 𝕄
  | 0, n => iprop((inSt m d L n ∗ inSt m d L (n + 1) ∗ inSt m d L (n + 2) ∗ inSt m d L (n + 3))
      ∗ (outSt m d L n ∗ outSt m d L (n + 1) ∗ outSt m d L (n + 2)) ∗ HB m d L (n + 4) n n (n - 3) ∗ OW d L O W₀)
  | 1, n => iprop((inGot m d L n ∗ inSt m d L (n + 1) ∗ inSt m d L (n + 2) ∗ inSt m d L (n + 3))
      ∗ (outSt m d L n ∗ outSt m d L (n + 1) ∗ outSt m d L (n + 2)) ∗ HB m d L (n + 4) (n + 1) n (n - 3) ∗ OW d L O W₀)
  | 2, n => iprop((inGot m d L n ∗ inSt m d L (n + 1) ∗ inSt m d L (n + 2) ∗ inSt m d L (n + 3))
      ∗ (outFree d L n ∗ outSt m d L (n + 1) ∗ outSt m d L (n + 2)) ∗ HB m d L (n + 4) (n + 1) n (n + 1 - 3) ∗ OW d L O W₀)
  | 3, n => iprop((inFree d L n ∗ inSt m d L (n + 1) ∗ inSt m d L (n + 2) ∗ inSt m d L (n + 3))
      ∗ (outReady m d L n ∗ outSt m d L (n + 1) ∗ outSt m d L (n + 2)) ∗ HB m d L (n + 4) (n + 1) n (n + 1 - 3) ∗ OW d L O W₀)
  | 4, n => iprop((inFree d L n ∗ inSt m d L (n + 1) ∗ inSt m d L (n + 2) ∗ inSt m d L (n + 3))
      ∗ (outSt m d L (n + 1) ∗ outSt m d L (n + 2) ∗ outSt m d L (n + 3)) ∗ HB m d L (n + 4) (n + 1) (n + 1) (n + 1 - 3) ∗ OW d L O W₀)
  | 5, n => iprop((inFree d L 0 ∗ inFree d L 1 ∗ inFree d L 2 ∗ inFree d L 3)
      ∗ (outSt m d L n ∗ outSt m d L (n + 1) ∗ outSt m d L (n + 2)) ∗ HB m d L 95 95 95 (n - 3) ∗ OW d L O W₀)
  | _, n => iprop((bigSep (Finset.Ico n 4) (inFree d L) ∗ bigSep (Finset.range n) (inFly m d L))
      ∗ (outFree d L 0 ∗ outFree d L 1 ∗ outFree d L 2) ∗ HB m d L n 0 0 0 ∗ OW d L O W₀)

/-- From what the task holds at step `ph` of item `n`, `p` runs and ends in `Q`. -/
def Runs (Q : PUnit.{1} → sProp 𝕄) (ph n : ℕ) (p : PT (F := F) L) : Prop :=
  iprop(Transfers.MayWaits (thr d L) none O ∗ St m d L O W₀ ph n) ⊢ wp frame (wpE (defs₀ (F := F)) 𝒱₀ (thr d L) none) Set.univ p Q

/-! ## Slots come round -/

theorem inSlot_congr {a b : ℕ} (h : a % 4 = b % 4) : inSlot a = inSlot b := by unfold inSlot; congr 3; funext i; rw [h]
theorem isem_congr {a b : ℕ} (h : a % 4 = b % 4) : isem a = isem b := by unfold isem; rw [h]
theorem outSlot_congr {a b : ℕ} (h : a % 3 = b % 3) : outSlot a = outSlot b := by unfold outSlot; congr 3; funext i; rw [h]
theorem osem_congr {a b : ℕ} (h : a % 3 = b % 3) : osem a = osem b := by unfold osem; rw [h]
theorem inPts_congr {a b : ℕ} (h : a % 4 = b % 4) (f : Buf (Elt F) (iLoc d L)) : (inPts d L a f : sProp 𝕄) = inPts d L b f := by
  have e : iSet d L a = iSet d L b := by
    ext i; constructor <;> intro hi
    · obtain ⟨x, -, rfl⟩ := Finset.mem_map.mp hi
      exact Eq.subst (motive := fun z => z ∈ (inSlot b).view.set)
        ((emb_inSlot b x).trans ((by unfold ii; simp only [h] : ii b x = ii a x).trans (emb_inSlot a x).symm)) (View.emb_mem_set _ _)
    · obtain ⟨x, -, rfl⟩ := Finset.mem_map.mp hi
      exact Eq.subst (motive := fun z => z ∈ (inSlot a).view.set)
        ((emb_inSlot a x).trans ((by unfold ii; simp only [h] : ii a x = ii b x).trans (emb_inSlot b x).symm)) (View.emb_mem_set _ _)
  unfold inPts; rw [e]
theorem outPts_congr {a b : ℕ} (h : a % 3 = b % 3) (f : Buf (Elt F) (oLoc d L)) : (outPts d L a f : sProp 𝕄) = outPts d L b f := by
  have e : oSet d L a = oSet d L b := by
    ext i; constructor <;> intro hi
    · obtain ⟨x, -, rfl⟩ := Finset.mem_map.mp hi
      exact Eq.subst (motive := fun z => z ∈ (outSlot b).view.set)
        ((emb_outSlot b x).trans ((by unfold oi; simp only [h] : oi b x = oi a x).trans (emb_outSlot a x).symm)) (View.emb_mem_set _ _)
    · obtain ⟨x, -, rfl⟩ := Finset.mem_map.mp hi
      exact Eq.subst (motive := fun z => z ∈ (outSlot a).view.set)
        ((emb_outSlot a x).trans ((by unfold oi; simp only [h] : oi a x = oi b x).trans (emb_outSlot b x).symm)) (View.emb_mem_set _ _)
  unfold outPts; rw [e]
theorem inFree_congr {a b : ℕ} (h : a % 4 = b % 4) : (inFree d L a : sProp 𝕄) = inFree d L b := by
  unfold inFree; rw [isem_congr h]; simp only [inPts_congr d L h]
theorem outFree_congr {a b : ℕ} (h : a % 3 = b % 3) : (outFree d L a : sProp 𝕄) = outFree d L b := by
  unfold outFree; rw [osem_congr h]; simp only [outPts_congr d L h]

/-! ## The steps -/

variable {m d L O W₀}

theorem Runs.of {Q : PUnit.{1} → sProp 𝕄} {ph n ph' n' : ℕ} {p : PT (F := F) L} (h : Runs m d L O W₀ Q ph' n' p)
    (e : iprop(Transfers.MayWaits (thr d L) none O ∗ St m d L O W₀ ph n) ⊢ iprop(Transfers.MayWaits (thr d L) none O ∗ St m d L O W₀ ph' n')) :
    Runs m d L O W₀ Q ph n p := e.trans h

theorem inSt_lt {n : ℕ} (h : n < 95) : inSt m d L n = inFly m d L n := if_pos h
theorem inSt_ge {n : ℕ} (h : 95 ≤ n) : inSt m d L n = inFree d L n := if_neg (by omega)
theorem outSt_first {n : ℕ} (h : n < 3) : outSt m d L n = outFree d L n := if_pos h
theorem outSt_mid {n : ℕ} (h : n < 95) : outSt m d L (n + 3) = outFly m d L n := (if_neg (by omega)).trans (if_pos (by omega))
theorem outSt_last {n : ℕ} (h : 98 ≤ n) : outSt m d L n = outFree d L n := (if_neg (by omega)).trans (if_neg (by omega))

/-- The wait for item `n`'s block. -/
theorem step_wait_in {Q : PUnit.{1} → sProp 𝕄} {n : ℕ} {k hs hd} (h : Runs m d L O W₀ Q 1 n (k ⟨⟩)) (hn : n < 95) :
    Runs m d L O W₀ Q 0 n (.op (.waitDma2 (isem n) (srcV L n) (inSlot n) hs hd) k) := by
  unfold Runs at h ⊢; simp only [St] at h ⊢; unfold HB OW at h ⊢; unfold inGot at h
  iintro ⟨#HM, ⟨Hi, Hi1⟩, Ho, ⟨Hs, Hr, Hd⟩, %W, %hW, HO⟩
  ihave Hi := (Entails.of_eq (inSt_lt hn)) $$ Hi
  unfold inFly
  iapply (Transfers.wp_waitLocalO countersEmb 𝒱₀ (thr d L) none none (rfl : (inSlot n).view.dmaCredit = _)) $$ [Hi HO]
  · isplitl [Hi]; · iexact Hi
    isplitl [HO]; · iexact HO
    iapply (Transfers.MayWaits.elim (SemLoc.dma (isem n))) $$ HM
  iintro ⟨⟨Hg, Hsrc⟩, Hsem, HO⟩
  iapply h
  isplitr; · iexact HM
  isplitl [Hg Hsem Hi1]
  · isplitl [Hg Hsem]
    · isplitl [Hsem] <;> iassumption
    · iexact Hi1
  isplitl [Ho]; · iexact Ho
  isplitl [Hs Hr Hd Hsrc]
  · isplitl [Hs]; · iexact Hs
    isplitl [Hr Hsrc]
    · rw [bigSep_range_succ]
      isplitl [Hsrc] <;> iassumption
    · iexact Hd
  iexists _; isplitr
  rotate_left
  · iexact HO
  ipureintro; intro p hp
  rcases Finset.mem_insert.mp hp with rfl | hp
  · exact .inr rfl
  · exact hW p hp

/-- The output slots are free for the first three items. -/
theorem step_no_wait {Q : PUnit.{1} → sProp 𝕄} {n : ℕ} {k : PT (F := F) L} (h : Runs m d L O W₀ Q 2 n k) (hn : n < 3) : Runs m d L O W₀ Q 1 n k := by
  refine h.of ?_
  show iprop(_ ∗ ((_ ∗ _ ∗ _ ∗ _) ∗ (outSt m d L n ∗ _ ∗ _) ∗ HB m d L (n + 4) (n + 1) n (n - 3) ∗ _)) ⊢ _
  rw [outSt_first hn, show n - 3 = n + 1 - 3 by omega]
  exact .rfl

/-- A wait for an output slot, with what it hands back. -/
theorem wait_out {Q : PUnit.{1} → sProp 𝕄} {n : ℕ} {k hs hd} (R : sProp 𝕄) {A B : sProp 𝕄} (h : B ⊢ wp frame (wpE (defs₀ (F := F)) 𝒱₀ (thr d L) none) Set.univ (k ⟨⟩) Q)
    (e : A ⊢ iprop(Transfers.MayWaits (thr d L) none O ∗ outFly m d L n ∗ OW d L O W₀ ∗ R))
    (e' : iprop(Transfers.MayWaits (thr d L) none O ∗ outFree d L n ∗ dst1 m d L n ∗ OW d L O W₀ ∗ R) ⊢ B) :
    A ⊢ wp frame (wpE (defs₀ (F := F)) 𝒱₀ (thr d L) none) Set.univ (.op (.waitDma2 (osem n) (outSlot n) (dstV L n) hs hd) k) Q := by
  refine e.trans ?_
  unfold OW at e' ⊢; unfold outFree at e'
  iintro ⟨#HM, Ho, ⟨%W, %hW, HO⟩, HR⟩
  unfold outFly
  iapply (Transfers.wp_waitLocalO countersEmb 𝒱₀ (thr d L) none none (rfl : (dstV L n).view.dmaCredit = _)) $$ [Ho HO]
  · isplitl [Ho]; · iexact Ho
    isplitl [HO]; · iexact HO
    iapply (Transfers.MayWaits.elim (SemLoc.dma (osem n))) $$ HM
  iintro ⟨⟨Hd, Hg⟩, Hsem, HO⟩
  iapply (e'.trans h)
  isplitr; · iexact HM
  isplitl [Hg Hsem]
  · isplitl [Hsem] <;> iassumption
  isplitl [Hd]; · iexact Hd
  isplitl [HO]
  · iexists _; isplitr
    rotate_left
    · iexact HO
    ipureintro; intro p hp
    rcases Finset.mem_insert.mp hp with rfl | hp
    · exact .inr rfl
    · exact hW p hp
  iexact HR

/-- The wait for the output slot of item `n + 3`, being emptied of item `n`. -/
theorem step_wait_out {Q : PUnit.{1} → sProp 𝕄} {n : ℕ} {k hs hd} (h : Runs m d L O W₀ Q 2 (n + 3) (k ⟨⟩)) (hn : n + 3 < 98) :
    Runs m d L O W₀ Q 1 (n + 3) (.op (.waitDma2 (osem n) (outSlot n) (dstV L n) hs hd) k) := by
  refine wait_out (m := m) (O := O) (W₀ := W₀) (iprop((inGot m d L (n + 3) ∗ inSt m d L (n + 3 + 1) ∗ inSt m d L (n + 3 + 2) ∗ inSt m d L (n + 3 + 3))
    ∗ (outSt m d L (n + 3 + 1) ∗ outSt m d L (n + 3 + 2)) ∗ HB m d L (n + 3 + 4) (n + 3 + 1) (n + 3) (n + 3 - 3))) h ?_ ?_
  · simp only [St]; unfold HB
    iintro ⟨#HM, Hi, ⟨Ho, Ho1⟩, Hb, HO⟩
    ihave Ho := (Entails.of_eq (outSt_mid (show n < 95 by omega))) $$ Ho
    isplitr; · iexact HM
    isplitl [Ho]; · iexact Ho
    isplitl [HO]; · iexact HO
    isplitl [Hi]; · iexact Hi
    isplitl [Ho1]; · iexact Ho1
    iexact Hb
  · simp only [St]; unfold HB
    iintro ⟨#HM, Ho, Hd1, HO, Hi, Ho1, ⟨Hs, Hr, Hd, Hdr⟩⟩
    isplitr; · iexact HM
    isplitl [Hi]; · iexact Hi
    isplitl [Ho Ho1]
    · isplitl [Ho]
      · rw [outFree_congr d L (show (n + 3) % 3 = n % 3 by omega)]; iexact Ho
      · iexact Ho1
    isplitl [Hs Hr Hd Hdr Hd1]
    · isplitl [Hs]; · iexact Hs
      isplitl [Hr]; · iexact Hr
      isplitl [Hd]; · iexact Hd
      ihave Hdr := (Entails.of_eq (congrArg (fun k => bigSep (Finset.range k) (dst1 m d L)) (show n + 3 - 3 = n by omega))) $$ Hdr
      rw [show n + 3 + 1 - 3 = n + 1 by omega, bigSep_range_succ]
      isplitl [Hd1] <;> iassumption
    iexact HO

/-- The row loop of item `n`. -/
theorem step_rows {Q : PUnit.{1} → sProp 𝕄} {n : ℕ} {dec ok} {α : Type}
    {k1 : PUnit → Prog (TpuEff nD τ sig (Elt F) Λ₀ (.scVector ((L 0).castLE hcore0) ((L 1).castLE hsub0))) PUnit}
    {k2 : PUnit → Prog (TpuEff nD τ sig (Elt F) Λ₀ (.scVector ((L 0).castLE hcore0) ((L 1).castLE hsub0))) α} {k3 : α → PT (F := F) L}
    (h : Runs m d L O W₀ Q 3 n ((k1 ⟨⟩ >>= k2) >>= k3)) :
    Runs m d L O W₀ Q 2 n (((Scf.Loop.for k0_t1_loop ok ⟨⟩ (fun t _ => rowBody L n dec t) >>= k1) >>= k2) >>= k3) := by
  unfold Runs at h ⊢; simp only [St] at h ⊢; unfold inGot outFree; unfold inFree outReady at h
  iintro ⟨#HM, ⟨⟨His, %f, %hf, Hi⟩, Hi1⟩, ⟨⟨Hos, %g, Ho⟩, Ho1⟩, Hb, HO⟩
  iapply (wp_rows d L n dec f g Q) $$ [Hi Ho]
  · isplitl [Hi] <;> iassumption
  iintro %g' %hg' Hi Ho
  iapply h
  isplitr; · iexact HM
  isplitl [His Hi Hi1]
  · isplitl [His Hi]
    · isplitl [His]; · iexact His
      iexists f; iexact Hi
    · iexact Hi1
  isplitl [Hos Ho Ho1]
  · isplitl [Hos Ho]
    · isplitl [Hos]; · iexact Hos
      iexists g'; isplitr
      · ipureintro; intro x; rw [hg' x, hf]
      · iexact Ho
    · iexact Ho1
  isplitl [Hb] <;> iassumption

/-- The write-out of item `n`. -/
theorem step_put {Q : PUnit.{1} → sProp 𝕄} {n : ℕ} {k hs hd he} (h : Runs m d L O W₀ Q 4 n (k ⟨⟩)) (hn : n < 95) :
    Runs m d L O W₀ Q 3 n (.op (.enqueueDma (outSlot n) (.here (dstV L n)) (.dma (osem n)) hs hd he) k) := by
  unfold Runs at h ⊢; simp only [St] at h ⊢; unfold HB at h ⊢; unfold outReady
  iintro ⟨#HM, Hi, ⟨⟨Hos, %g, %hg, Ho⟩, Ho1, Ho2⟩, ⟨Hs, Hr, Hd, Hdr⟩, HO⟩
  ihave Hd := (Entails.of_eq (bigSep_Ico_succ_bot hn (dst0 m d L))) $$ Hd
  icases Hd with ⟨Hd0, Hd⟩
  ihave Ho := (Entails.of_eq (pts_outSlot d L n g).symm) $$ Ho
  iapply (Transfers.wp_dmaLocal countersEmb 𝒱₀ (thr d L) none none (dstV L n).view.dmaCredit (via := .same) rfl (View.dmaCredit_pos _ (by decide)) (Finset.Subset.refl _)) $$ [Ho Hd0 Hos]
  · isplitl [Ho]; · iexact Ho
    isplitl [Hd0]; · iexact Hd0
    iexact Hos
  iintro Hfl
  iapply h
  isplitr; · iexact HM
  isplitl [Hi]; · iexact Hi
  isplitl [Hfl Ho1 Ho2]
  · isplitl [Ho1]; · iexact Ho1
    isplitl [Ho2]; · iexact Ho2
    rw [outSt_mid hn]
    unfold outFly
    iapply (Transfers.Flight_mono countersEmb (thr d L) ?_) $$ Hfl
    unfold dst1
    iintro ⟨Hd, Ho⟩
    isplitl [Hd]
    · iexists _; isplitr
      rotate_left
      · iexact Hd
      ipureintro; intro x
      rw [View.read_write_univ]
      refine Eq.trans ?_ (hg x)
      refine (View.read_apply (v := (outSlot n).view) (Val := Elt F) g x).trans ?_
      refine (cast_eq _ _).trans ?_
      exact congrArg g (emb_outSlot n x)
    · iexists g
      ihave Ho := (Entails.of_eq (pts_outSlot d L n g)) $$ Ho
      iexact Ho
  isplitl [Hs Hr Hd Hdr]
  · isplitl [Hs]; · iexact Hs
    isplitl [Hr]; · iexact Hr
    isplitl [Hd] <;> iassumption
  iexact HO

/-- A fetch of item `n`'s block into its free slot. -/
theorem fetch {Q : PUnit.{1} → sProp 𝕄} {n : ℕ} {k hs hd he} (R : sProp 𝕄) {A B : sProp 𝕄} (h : B ⊢ wp frame (wpE (defs₀ (F := F)) 𝒱₀ (thr d L) none) Set.univ (k ⟨⟩) Q)
    (e : A ⊢ iprop((inFree d L n ∗ src m d L n) ∗ R)) (e' : iprop(inFly m d L n ∗ R) ⊢ B) :
    A ⊢ wp frame (wpE (defs₀ (F := F)) 𝒱₀ (thr d L) none) Set.univ (.op (.enqueueDma (srcV L n) (.here (inSlot n)) (.dma (isem n)) hs hd he) k) Q := by
  refine e.trans ?_
  unfold inFree
  iintro ⟨⟨⟨His, %f, Hi⟩, Hs⟩, HR⟩
  ihave Hi := (Entails.of_eq (pts_inSlot d L n f).symm) $$ Hi
  iapply (Transfers.wp_dmaLocal countersEmb 𝒱₀ (thr d L) none none (inSlot n).view.dmaCredit (via := .same) rfl (View.dmaCredit_pos _ (by decide)) (Finset.Subset.refl _)) $$ [Hi Hs His]
  · isplitl [Hs]; · iexact Hs
    isplitl [Hi]; · iexact Hi
    iexact His
  iintro Hfl
  iapply (e'.trans h)
  isplitl [Hfl]
  · unfold inFly
    iapply (Transfers.Flight_mono countersEmb (thr d L) ?_) $$ Hfl
    iintro ⟨Hi, Hs⟩
    isplitl [Hi]
    · iexists (View.write (Elt F) (inSlot n).view f (ReadAs.same.apply (View.read (Elt F) (srcV L n).view (m (View.loc (thr d L) (srcV L n).view)))) Finset.univ); isplitr
      rotate_left
      · ihave Hi := (Entails.of_eq (pts_inSlot d L n (View.write (Elt F) (inSlot n).view f (ReadAs.same.apply (View.read (Elt F) (srcV L n).view (m (View.loc (thr d L) (srcV L n).view)))) Finset.univ))) $$ Hi
        iexact Hi
      ipureintro; intro x
      refine Eq.trans ?_ (congrFun (View.read_write_univ (v := (inSlot n).view) (Val := Elt F) f (srcVal m d L n)) x)
      exact ((View.read_apply (v := (inSlot n).view) _ x).trans ((cast_eq _ _).trans (congrArg _ (emb_inSlot n x)))).symm
    · iexact Hs
  iexact HR

/-- The fetch of item `n + 4`, into the slot item `n` read. -/
theorem step_fetch {Q : PUnit.{1} → sProp 𝕄} {n : ℕ} {k hs hd he} (h : Runs m d L O W₀ Q 0 (n + 1) (k ⟨⟩)) (hn : n + 4 < 95) :
    Runs m d L O W₀ Q 4 n (.op (.enqueueDma (srcV L (n + 4)) (.here (inSlot (n + 4))) (.dma (isem (n + 4))) hs hd he) k) := by
  refine fetch (m := m) (iprop(Transfers.MayWaits (thr d L) none O ∗ (inSt m d L (n + 1) ∗ inSt m d L (n + 2) ∗ inSt m d L (n + 3))
      ∗ (outSt m d L (n + 1) ∗ outSt m d L (n + 2) ∗ outSt m d L (n + 3)) ∗ HB m d L (n + 4 + 1) (n + 1) (n + 1) (n + 1 - 3) ∗ OW d L O W₀)) h ?_ ?_
  · simp only [St]; unfold HB
    iintro ⟨#HM, ⟨Hi, Hi1⟩, Ho, ⟨Hs, Hb⟩, HO⟩
    ihave Hs := (Entails.of_eq (bigSep_Ico_succ_bot hn (src m d L))) $$ Hs
    icases Hs with ⟨Hs0, Hs⟩
    ihave Hi := (Entails.of_eq (inFree_congr d L (show n % 4 = (n + 4) % 4 by omega))) $$ Hi
    isplitl [Hi Hs0]
    · isplitl [Hi] <;> iassumption
    isplitr; · iexact HM
    isplitl [Hi1]; · iexact Hi1
    isplitl [Ho]; · iexact Ho
    isplitl [Hs Hb]
    · isplitl [Hs] <;> iassumption
    iexact HO
  · simp only [St]; unfold HB
    iintro ⟨Hf, #HM, ⟨Hi1, Hi2, Hi3⟩, Ho, Hb, HO⟩
    isplitr; · iexact HM
    isplitl [Hf Hi1 Hi2 Hi3]
    · isplitl [Hi1]; · iexact Hi1
      isplitl [Hi2]; · iexact Hi2
      isplitl [Hi3]; · iexact Hi3
      rw [show n + 1 + 3 = n + 4 by omega, inSt_lt hn]
      iexact Hf
    isplitl [Ho]; · iexact Ho
    isplitl [Hb] <;> iassumption

/-- After the last fetch, nothing is fetched. -/
theorem step_no_fetch {Q : PUnit.{1} → sProp 𝕄} {n : ℕ} {k : PT (F := F) L} (h : Runs m d L O W₀ Q 0 (n + 1) k) (hn : 91 ≤ n) : Runs m d L O W₀ Q 4 n k := by
  refine h.of ?_
  simp only [St]; unfold HB
  iintro ⟨#HM, ⟨Hi, Hi1, Hi2, Hi3⟩, Ho, ⟨Hs, Hb⟩, HO⟩
  isplitr; · iexact HM
  isplitl [Hi Hi1 Hi2 Hi3]
  · isplitl [Hi1]; · iexact Hi1
    isplitl [Hi2]; · iexact Hi2
    isplitl [Hi3]; · iexact Hi3
    rw [show n + 1 + 3 = n + 4 by omega, inSt_ge (by omega), inFree_congr d L (show (n + 4) % 4 = n % 4 by omega)]
    iexact Hi
  isplitl [Ho]; · iexact Ho
  isplitl [Hs Hb]
  · isplitl [Hs]
    · rw [Finset.Ico_eq_empty_of_le (show 95 ≤ n + 1 + 4 by omega), Finset.Ico_eq_empty_of_le (show 95 ≤ n + 4 by omega)]
      iexact Hs
    · iexact Hb
  iexact HO

/-- A fetch of the prologue. -/
theorem step_first_fetch {Q : PUnit.{1} → sProp 𝕄} {n : ℕ} {k hs hd he} (h : Runs m d L O W₀ Q 10 (n + 1) (k ⟨⟩)) (hn : n < 4) :
    Runs m d L O W₀ Q 10 n (.op (.enqueueDma (srcV L n) (.here (inSlot n)) (.dma (isem n)) hs hd he) k) := by
  refine fetch (m := m) (iprop(Transfers.MayWaits (thr d L) none O ∗ (bigSep (Finset.Ico (n + 1) 4) (inFree d L) ∗ bigSep (Finset.range n) (inFly m d L))
      ∗ (outFree d L 0 ∗ outFree d L 1 ∗ outFree d L 2) ∗ HB m d L (n + 1) 0 0 0 ∗ OW d L O W₀)) h ?_ ?_
  · simp only [St]; unfold HB
    iintro ⟨#HM, ⟨Hi, Hi1⟩, Ho, ⟨Hs, Hb⟩, HO⟩
    ihave Hs := (Entails.of_eq (bigSep_Ico_succ_bot (show n < 95 by omega) (src m d L))) $$ Hs
    icases Hs with ⟨Hs0, Hs⟩
    ihave Hi := (Entails.of_eq (bigSep_Ico_succ_bot hn (inFree d L))) $$ Hi
    icases Hi with ⟨Hi0, Hi⟩
    isplitl [Hi0 Hs0]
    · isplitl [Hi0] <;> iassumption
    isplitr; · iexact HM
    isplitl [Hi Hi1]
    · isplitl [Hi] <;> iassumption
    isplitl [Ho]; · iexact Ho
    isplitl [Hs Hb]
    · isplitl [Hs] <;> iassumption
    iexact HO
  · simp only [St]; unfold HB
    iintro ⟨Hf, #HM, ⟨Hi, Hi1⟩, Ho, Hb, HO⟩
    isplitr; · iexact HM
    isplitl [Hf Hi Hi1]
    · isplitl [Hi]; · iexact Hi
      rw [bigSep_range_succ]
      isplitl [Hf] <;> iassumption
    isplitl [Ho]; · iexact Ho
    isplitl [Hb] <;> iassumption

/-- The prologue done, item 0 begins. -/
theorem step_start {Q : PUnit.{1} → sProp 𝕄} {k : PT (F := F) L} (h : Runs m d L O W₀ Q 0 0 k) : Runs m d L O W₀ Q 10 4 k := by
  refine h.of ?_
  simp only [St, Nat.zero_add, Nat.zero_sub]; unfold HB
  iintro ⟨#HM, ⟨-, Hi⟩, Ho, Hb, HO⟩
  simp only [bigSep_range_succ, Finset.range_zero, bigSep_empty]
  rw [inSt_lt (show 0 < 95 by decide), inSt_lt (show 1 < 95 by decide), inSt_lt (show 2 < 95 by decide), inSt_lt (show 3 < 95 by decide),
    outSt_first (show 0 < 3 by decide), outSt_first (show 1 < 3 by decide), outSt_first (show 2 < 3 by decide)]
  icases Hi with ⟨Hi3, Hi2, Hi1, Hi0, -⟩
  isplitr; · iexact HM
  isplitl [Hi3 Hi2 Hi1 Hi0]
  · isplitl [Hi0]; · iexact Hi0
    isplitl [Hi1]; · iexact Hi1
    isplitl [Hi2]; · iexact Hi2
    iexact Hi3
  isplitl [Ho]; · iexact Ho
  isplitl [Hb] <;> iassumption

/-- The last item done, the output slots are to be waited for. -/
theorem step_drain {Q : PUnit.{1} → sProp 𝕄} {k : PT (F := F) L} (h : Runs m d L O W₀ Q 5 95 k) : Runs m d L O W₀ Q 0 95 k := by
  refine h.of ?_
  simp only [St]; unfold HB
  iintro ⟨#HM, ⟨Hi3, Hi0, Hi1, Hi2⟩, Ho, ⟨Hs, Hb⟩, HO⟩
  isplitr; · iexact HM
  isplitl [Hi3 Hi2 Hi1 Hi0]
  · isplitl [Hi0]
    · ihave H := (Entails.of_eq ((inSt_ge (by decide)).trans (inFree_congr d L (by decide)) : inSt m d L (95 + 1) = inFree d L 0)) $$ Hi0
      iexact H
    isplitl [Hi1]
    · ihave H := (Entails.of_eq ((inSt_ge (by decide)).trans (inFree_congr d L (by decide)) : inSt m d L (95 + 2) = inFree d L 1)) $$ Hi1
      iexact H
    isplitl [Hi2]
    · ihave H := (Entails.of_eq ((inSt_ge (by decide)).trans (inFree_congr d L (by decide)) : inSt m d L (95 + 3) = inFree d L 2)) $$ Hi2
      iexact H
    · ihave H := (Entails.of_eq ((inSt_ge (by decide)).trans (inFree_congr d L (by decide)) : inSt m d L 95 = inFree d L 3)) $$ Hi3
      iexact H
  isplitl [Ho]; · iexact Ho
  isplitl [Hs Hb]
  · isplitl [Hs]
    · rw [Finset.Ico_eq_empty_of_le (show 95 ≤ 95 + 4 by omega), Finset.Ico_eq_empty_of_le (show 95 ≤ 95 by omega)]
      iexact Hs
    · iexact Hb
  iexact HO

/-- A wait of the end, for the write-out of item `n`. -/
theorem step_last_wait {Q : PUnit.{1} → sProp 𝕄} {n : ℕ} {k hs hd} (h : Runs m d L O W₀ Q 5 (n + 3 + 1) (k ⟨⟩)) (hn : 92 ≤ n ∧ n < 95) :
    Runs m d L O W₀ Q 5 (n + 3) (.op (.waitDma2 (osem n) (outSlot n) (dstV L n) hs hd) k) := by
  refine wait_out (m := m) (O := O) (W₀ := W₀) (iprop((inFree d L 0 ∗ inFree d L 1 ∗ inFree d L 2 ∗ inFree d L 3)
    ∗ (outSt m d L (n + 3 + 1) ∗ outSt m d L (n + 3 + 2)) ∗ HB m d L 95 95 95 (n + 3 - 3))) h ?_ ?_
  · simp only [St]; unfold HB
    iintro ⟨#HM, Hi, ⟨Ho, Ho1⟩, Hb, HO⟩
    ihave Ho := (Entails.of_eq (outSt_mid hn.2)) $$ Ho
    isplitr; · iexact HM
    isplitl [Ho]; · iexact Ho
    isplitl [HO]; · iexact HO
    isplitl [Hi]; · iexact Hi
    isplitl [Ho1]; · iexact Ho1
    iexact Hb
  · simp only [St]; unfold HB
    iintro ⟨#HM, Ho, Hd1, HO, Hi, ⟨Ho1, Ho2⟩, ⟨Hs, Hr, Hd, Hdr⟩⟩
    isplitr; · iexact HM
    isplitl [Hi]; · iexact Hi
    isplitl [Ho Ho1 Ho2]
    · isplitl [Ho1]; · iexact Ho1
      isplitl [Ho2]; · iexact Ho2
      rw [outSt_last (by omega),
        outFree_congr d L (show (n + 3 + 1 + 2) % 3 = n % 3 by omega)]
      iexact Ho
    isplitl [Hs Hr Hd Hdr Hd1]
    · isplitl [Hs]; · iexact Hs
      isplitl [Hr]; · iexact Hr
      isplitl [Hd]; · iexact Hd
      ihave Hdr := (Entails.of_eq (congrArg (fun k => bigSep (Finset.range k) (dst1 m d L)) (show n + 3 - 3 = n by omega))) $$ Hdr
      rw [show n + 3 + 1 - 3 = n + 1 by omega, bigSep_range_succ]
      isplitl [Hd1] <;> iassumption
    iexact HO

end Cert.Flip

end
-- ==== Proof.Body.lean ====
/-
  The task's whole body: the steps of its ninety-five items, in the order the kernel takes them.
-/
module

public import proofs.«01_k».proof.Proof.Steps

@[expose] public section

noncomputable section

namespace Cert.Flip

open Cert.KernelIdeal Cert.KernelIdeal.Facts₀ Cert.KernelIdeal.Facts
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] [Facts]

local notation "𝕄" => MT nD τ sig (HIx 1) (Elt F) ℕ UU ℕ

variable {m : (ℓ : Loc nD τ sig) → Buf (Elt F) ℓ} {d : Dev nD} {L : grid0.Coords}
variable {O : CellTallies nD τ sig (HIx 1)} {W₀ : Waits sig (HIx 1)}

set_option maxHeartbeats 40000000 in
/-- The task's body runs from the prologue's state, and ends in whatever the final state gives. -/
theorem body_runs {Q : PUnit.{1} → sProp 𝕄} (hfin : Runs m d L O W₀ Q 5 98 (.ret ⟨⟩)) :
    Runs m d L O W₀ Q 10 0 (cc0__sc_body L a2 (Memref.isWhole_whole _) a3 (Memref.isWhole_whole _) a4 (Memref.isWhole_whole _) a5 (Memref.isWhole_whole _)
      a6 (Memref.isWhole_whole _) a7 (Memref.isWhole_whole _) a8 (Memref.isWhole_whole _) a9 (Memref.isWhole_whole _)
      cc0_scratch2 cc0_scratch3 cc0_scratch4 cc0_scratch5 cc0_scratch6 cc0_scratch7 cc0_scratch8) := by
  iterate 4 refine step_first_fetch ?_ (by decide)
  refine step_start ?_
  iterate 3 refine step_wait_in ?_ (by decide); refine step_no_wait ?_ (by decide); refine step_rows ?_; refine step_put ?_ (by decide); refine step_fetch ?_ (by decide)
  iterate 88 refine step_wait_in ?_ (by decide); refine step_wait_out (n := _) ?_ (by decide); refine step_rows ?_; refine step_put ?_ (by decide); refine step_fetch ?_ (by decide)
  iterate 4 refine step_wait_in ?_ (by decide); refine step_wait_out (n := _) ?_ (by decide); refine step_rows ?_; refine step_put ?_ (by decide); refine step_no_fetch ?_ (by decide)
  refine step_drain ?_
  iterate 3 refine step_last_wait (n := _) ?_ (by decide)
  exact hfin

end Cert.Flip

end
-- ==== Proof.Arrays.lean ====
/-
  The arrays, cut into the blocks the tasks' items read and write: the three arguments whole are every task's
  ninety-five blocks read, the three results whole are every task's ninety-five blocks written; and what the results
  hold once every item has written its own.
-/
module

public import proofs.«01_k».proof.Proof.Body

@[expose] public section

noncomputable section

namespace Cert.Flip

open Cert.KernelIdeal Cert.KernelIdeal.Facts₀ Cert.KernelIdeal.Facts
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] [Facts]

local notation "𝕄" => MT nD τ sig (HIx 1) (Elt F) ℕ UU ℕ

/-! ## Cutting an array -/

/-- An element set is its parts. -/
theorem pts_nest {ℓ : Loc nD τ sig} {J : Type} (A : Finset (Idx ℓ)) (S : Finset J) (B : J → Finset (Idx ℓ))
    (h : ∀ i, i ∈ A ↔ ∃ p ∈ S, i ∈ B p) (hd : ∀ p ∈ S, ∀ p' ∈ S, ∀ i, i ∈ B p → i ∈ B p' → p = p') (f : Buf (Elt F) ℓ) :
    (ℓ ↦[A]{fullShare} f : sProp 𝕄) = bigSep S fun p => ℓ ↦[B p]{fullShare} f := by
  rw [← pointsTo_biUnion S B (fun p hp p' hp' hne => Finset.disjoint_left.mpr fun i h1 h2 => hne (hd p hp p' hp' i h1 h2)),
    show A = S.biUnion B from Finset.ext fun i => (h i).trans Finset.mem_biUnion.symm]

/-- The task on subcore `s` of SparseCore `c`. -/
def co (c : Fin 2) (s : Fin 16) : grid0.Coords :=
  fun | 0 => c | 1 => s | ⟨_ + 2, h⟩ => absurd h (Nat.not_lt.2 (Nat.le_add_left _ _))

theorem base_co (c : Fin 2) (s : Fin 16) : base (co c s) = 4 * s.val + 2 * c.val := base_eq (co c s)

/-- A scalar field whole is its blocks, task by task and keypoint by keypoint. -/
theorem whole4 {ℓ : Loc nD τ sig} (x : Idx ℓ → S64x19x64x64.Idx) (σ : ℕ → ℕ) (hσ : ∀ j < 19, σ j < 19 ∧ σ (σ j) = j)
    (B : Fin 2 → Fin 16 → ℕ → Finset (Idx ℓ))
    (hB : ∀ c s j, j < 19 → ∀ i, i ∈ B c s j ↔ (x i 0).val / 2 = 2 * s.val + c.val ∧ (x i 1).val = σ j) (f : Buf (Elt F) ℓ) :
    (ℓ ↦{fullShare} f : sProp 𝕄)
      = bigSep Finset.univ fun c : Fin 2 => bigSep Finset.univ fun s : Fin 16 => bigSep (Finset.range 19) fun j => ℓ ↦[B c s j]{fullShare} f := by
  classical
  refine (pts_nest Finset.univ Finset.univ (fun c : Fin 2 => Finset.univ.filter fun i => (x i 0).val / 2 % 2 = c.val) ?_ ?_ f).trans
    (bigSep_congr fun c _ => (pts_nest _ Finset.univ (fun s : Fin 16 => Finset.univ.filter fun i => (x i 0).val / 2 = 2 * s.val + c.val) ?_ ?_ f).trans
      (bigSep_congr fun s _ => pts_nest _ _ _ ?_ ?_ f))
  · intro i; simp only [Finset.mem_univ, _root_.true_and, true_iff, Finset.mem_filter]
    exact ⟨⟨(x i 0).val / 2 % 2, Nat.mod_lt _ (by decide)⟩, rfl⟩
  · intro p _ p' _ i h h'
    exact Fin.ext ((Finset.mem_filter.mp h).2.symm.trans (Finset.mem_filter.mp h').2)
  · intro i; simp only [Finset.mem_univ, _root_.true_and, Finset.mem_filter]
    have h0 : (x i 0).val < 64 := (x i 0).isLt
    have hc := c.isLt
    constructor
    · intro h; exact ⟨⟨(x i 0).val / 4, by omega⟩, show (x i 0).val / 2 = 2 * ((x i 0).val / 4) + c.val by omega⟩
    · rintro ⟨s, hs⟩; omega
  · intro p _ p' _ i h h'
    have := (Finset.mem_filter.mp h).2
    have := (Finset.mem_filter.mp h').2
    exact Fin.ext (by omega)
  · intro i; simp only [Finset.mem_univ, _root_.true_and, Finset.mem_filter, Finset.mem_range]
    have h1 : (x i 1).val < 19 := (x i 1).isLt
    constructor
    · intro h; exact ⟨σ (x i 1).val, (hσ _ h1).1, (hB c s _ (hσ _ h1).1 i).mpr ⟨h, (hσ _ h1).2.symm⟩⟩
    · rintro ⟨j, hj, h⟩; exact ((hB c s j hj i).mp h).1
  · intro p hp p' hp' i h h'
    have hp := Finset.mem_range.mp hp
    have hp' := Finset.mem_range.mp hp'
    have e := ((hB c s p hp i).mp h).2
    have e' := ((hB c s p' hp' i).mp h').2
    rw [← (hσ p hp).2, ← (hσ p' hp').2, ← e, ← e']

/-- A vector field whole is its blocks, task by task, keypoint by keypoint, and the two components. -/
theorem whole5 {ℓ : Loc nD τ sig} (x : Idx ℓ → S64x19x2x64x64.Idx) (σ : ℕ → ℕ) (hσ : ∀ j < 19, σ j < 19 ∧ σ (σ j) = j)
    (B : Fin 2 → Fin 2 → Fin 16 → ℕ → Finset (Idx ℓ))
    (hB : ∀ k c s j, j < 19 → ∀ i, i ∈ B k c s j ↔ ((x i 0).val / 2 = 2 * s.val + c.val ∧ (x i 1).val = σ j) ∧ (x i 2).val = k.val) (f : Buf (Elt F) ℓ) :
    (ℓ ↦{fullShare} f : sProp 𝕄)
      = bigSep Finset.univ fun c : Fin 2 => bigSep Finset.univ fun s : Fin 16 => bigSep (Finset.range 19) fun j =>
          iprop((ℓ ↦[B 0 c s j]{fullShare} f) ∗ ℓ ↦[B 1 c s j]{fullShare} f) := by
  classical
  refine (whole4 (fun i => ix4 (n0 := 64) (n1 := 19) (n2 := 64) (n3 := 64) (x i 0) (x i 1) (x i 3) (x i 4)) σ hσ
    (fun c s j => Finset.univ.filter fun i => (x i 0).val / 2 = 2 * s.val + c.val ∧ (x i 1).val = σ j) (fun c s j _ i => ?_) f).trans
    (bigSep_congr fun c _ => bigSep_congr fun s _ => bigSep_congr fun j hj => ?_)
  · simp only [Finset.mem_univ, _root_.true_and, Finset.mem_filter]
  · have hj := Finset.mem_range.mp hj
    refine (pts_nest _ Finset.univ (fun k : Fin 2 => B k c s j) ?_ ?_ f).trans (bigSep_univ_two _)
    · intro i; simp only [Finset.mem_univ, _root_.true_and, Finset.mem_filter]
      constructor
      · intro h; exact ⟨x i 2, (hB _ c s j hj i).mpr ⟨h, rfl⟩⟩
      · rintro ⟨k, h⟩; exact ((hB k c s j hj i).mp h).1
    · intro p _ p' _ i h h'
      exact Fin.ext (((hB p c s j hj i).mp h).2.symm.trans ((hB p' c s j hj i).mp h').2)

/-! ## The blocks as element sets -/

theorem exists4 (c : Fin 2) (s : Fin 16) {j : ℕ} (hj : j < 19) (i : S64x19x64x64.Idx) :
    (∃ x, i4 (base (co c s)) j (base_lt _) hj x = i) ↔ (i 0).val / 2 = 2 * s.val + c.val ∧ (i 1).val = j := by
  have hb := base_co c s
  constructor
  · rintro ⟨x, rfl⟩
    have h0 : (x 0).val < 2 := (x 0).isLt
    refine ⟨?_, rfl⟩
    show (base (co c s) + (x 0).val) / 2 = _
    omega
  · rintro ⟨h0, h1⟩
    refine ⟨ix3 (n0 := 2) (n1 := 64) (n2 := 64) ⟨(i 0).val - base (co c s), by omega⟩ (i 2) (i 3), ?_⟩
    funext a; apply Fin.ext
    fin_cases a
    · show base (co c s) + ((i 0).val - base (co c s)) = (i 0).val; omega
    · exact h1.symm
    · rfl
    · rfl

theorem exists5 (c : Fin 2) (s : Fin 16) {j k : ℕ} (hj : j < 19) (hk : k < 2) (i : S64x19x2x64x64.Idx) :
    (∃ x, i5 (base (co c s)) j k (base_lt _) hj hk x = i) ↔ ((i 0).val / 2 = 2 * s.val + c.val ∧ (i 1).val = j) ∧ (i 2).val = k := by
  have hb := base_co c s
  constructor
  · rintro ⟨x, rfl⟩
    have h0 : (x 0).val < 2 := (x 0).isLt
    refine ⟨⟨?_, rfl⟩, rfl⟩
    show (base (co c s) + (x 0).val) / 2 = _
    omega
  · rintro ⟨⟨h0, h1⟩, h2⟩
    refine ⟨ix3 (n0 := 2) (n1 := 64) (n2 := 64) ⟨(i 0).val - base (co c s), by omega⟩ (i 3) (i 4), ?_⟩
    funext a; apply Fin.ext
    fin_cases a
    · show base (co c s) + ((i 0).val - base (co c s)) = (i 0).val; omega
    · exact h1.symm
    · exact h2.symm
    · rfl
    · rfl

theorem mem_blk4 (L : grid0.Coords) (a : Memref sig .scVector .hbm S64x19x64x64 .f32) {j : ℕ} (hj : j < 19) (i : a.view.ty.Idx) :
    i ∈ (blk4 L a j hj).view.set ↔ ∃ x, a.view.emb (i4 (base L) j (base_lt L) hj x) = i := by
  constructor
  · intro h
    obtain ⟨x, -, hx⟩ := Finset.mem_map.mp h
    exact ⟨x, (emb_blk4 L a j hj x).symm.trans hx⟩
  · rintro ⟨x, hx⟩
    exact Eq.subst (motive := fun z => z ∈ (blk4 L a j hj).view.set) ((emb_blk4 L a j hj x).trans hx) (View.emb_mem_set _ _)

theorem mem_blk5 (L : grid0.Coords) (a : Memref sig .scVector .hbm S64x19x2x64x64 .f32) {j k : ℕ} (hj : j < 19) (hk : k < 2) (i : a.view.ty.Idx) :
    i ∈ (blk5 L a j k hj hk).view.set ↔ ∃ x, a.view.emb (i5 (base L) j k (base_lt L) hj hk x) = i := by
  constructor
  · intro h
    obtain ⟨x, -, hx⟩ := Finset.mem_map.mp h
    exact ⟨x, (emb_blk5 L a j k hj hk x).symm.trans hx⟩
  · rintro ⟨x, hx⟩
    exact Eq.subst (motive := fun z => z ∈ (blk5 L a j k hj hk).view.set) ((emb_blk5 L a j k hj hk x).trans hx) (View.emb_mem_set _ _)

theorem FI_FI : ∀ j < 19, FI j < 19 ∧ FI (FI j) = j := by decide
theorem id_id : ∀ j < 19, id j < 19 ∧ id (id j) = j := fun _ h => ⟨h, rfl⟩

/-! ## The items of a keypoint -/

section Items
variable (m : (ℓ : Loc nD τ sig) → Buf (Elt F) ℓ) (d : Dev nD)

/-- A block held whole, at its contents in `m`. -/
def ptsM (L : grid0.Coords) (v : Memref sig .scVector .hbm S2x64x64 .f32) : sProp 𝕄 :=
  v.view.loc (thr d L) ↦[v.view.set]{fullShare} m (v.view.loc (thr d L))

theorem blk4_congr (L : grid0.Coords) (a : Memref sig .scVector .hbm S64x19x64x64 .f32) {j j' : ℕ} (h : j = j') (hj : j < 19) (hj' : j' < 19) :
    blk4 L a j hj = blk4 L a j' hj' := by subst h; rfl
theorem blk5_congr (L : grid0.Coords) {a a' : Memref sig .scVector .hbm S64x19x2x64x64 .f32} (ha : a = a') {j j' c c' : ℕ} (h : j = j') (hc : c = c')
    (hj : j < 19) (hj' : j' < 19) (hc₁ : c < 2) (hc' : c' < 2) : blk5 L a j c hj hc₁ = blk5 L a' j' c' hj' hc' := by subst ha h hc; rfl

theorem srcV_0 (L : grid0.Coords) {n : ℕ} (h : n % 5 = 0) : srcV L n = blk4 L a2 (FI (jOf n)) (FI_lt _) := by unfold srcV; rw [h]; rfl
theorem srcV_A (L : grid0.Coords) {n : ℕ} (h : n % 5 = 1 ∨ n % 5 = 3) :
    srcV L n = blk5 L (bif isRev (jOf n) then a4 else a3) (FI (jOf n)) (cOf n) (FI_lt _) (cOf_lt n) := by
  unfold srcV; rcases h with h | h <;> rw [h] <;> rfl
theorem srcV_B (L : grid0.Coords) {n : ℕ} (h : n % 5 = 2 ∨ n % 5 = 4) :
    srcV L n = blk5 L (bif isRev (jOf n) then a3 else a4) (FI (jOf n)) (cOf n) (FI_lt _) (cOf_lt n) := by
  unfold srcV; rcases h with h | h <;> rw [h] <;> rfl
theorem dstV_0 (L : grid0.Coords) {n : ℕ} (h : n % 5 = 0) : dstV L n = blk4 L a5 (jOf n) (jOf_lt n) := by unfold dstV; rw [h]; rfl
theorem dstV_A (L : grid0.Coords) {n : ℕ} (h : n % 5 = 1 ∨ n % 5 = 3) : dstV L n = blk5 L a6 (jOf n) (cOf n) (jOf_lt n) (cOf_lt n) := by
  unfold dstV; rcases h with h | h <;> rw [h] <;> rfl
theorem dstV_B (L : grid0.Coords) {n : ℕ} (h : n % 5 = 2 ∨ n % 5 = 4) : dstV L n = blk5 L a7 (jOf n) (cOf n) (jOf_lt n) (cOf_lt n) := by
  unfold dstV; rcases h with h | h <;> rw [h] <;> rfl

theorem jOf_add (j r : ℕ) (hr : r < 5) : jOf (5 * j + r) = jOf (5 * j) := by unfold jOf; omega
theorem jOf_five {j : ℕ} (hj : j < 19) : jOf (5 * j) = j := by unfold jOf; omega
theorem cOf_lo (j r : ℕ) (hr : r < 3) : cOf (5 * j + r) = 0 := if_pos (by omega)
theorem cOf_hi (j r : ℕ) (hr : 3 ≤ r) (hr' : r < 5) : cOf (5 * j + r) = 1 := if_neg (by omega)

/-- The ninety-five items, five to a keypoint. -/
theorem by_keypoint (Φ : ℕ → sProp 𝕄) (k : ℕ) : bigSep (Finset.range (5 * k)) Φ
    = bigSep (Finset.range k) fun j => iprop(Φ (5 * j) ∗ Φ (5 * j + 1) ∗ Φ (5 * j + 2) ∗ Φ (5 * j + 3) ∗ Φ (5 * j + 4)) := by
  induction k with
  | zero => rfl
  | succ k ih =>
    rw [bigSep_range_succ, ← ih, show 5 * (k + 1) = 5 * k + 4 + 1 by omega, bigSep_range_succ, bigSep_range_succ, bigSep_range_succ, bigSep_range_succ,
      bigSep_range_succ]
    refine Entails.antisymm (show (_ : sProp 𝕄) ⊢ _ from ?_) (show (_ : sProp 𝕄) ⊢ _ from ?_)
    · iintro ⟨H4, H3, H2, H1, H0, H⟩
      isplitr [H]
      · isplitl [H0]; · iexact H0
        isplitl [H1]; · iexact H1
        isplitl [H2]; · iexact H2
        isplitl [H3] <;> iassumption
      · iexact H
    · iintro ⟨⟨H0, H1, H2, H3, H4⟩, H⟩
      isplitl [H4]; · iexact H4
      isplitl [H3]; · iexact H3
      isplitl [H2]; · iexact H2
      isplitl [H1]; · iexact H1
      isplitl [H0] <;> iassumption

theorem regroup (P A B C E : sProp 𝕄) : iprop(P ∗ A ∗ B ∗ C ∗ E) = iprop(P ∗ (A ∗ C) ∗ (B ∗ E)) := by
  refine Entails.antisymm (show (_ : sProp 𝕄) ⊢ _ from ?_) (show (_ : sProp 𝕄) ⊢ _ from ?_)
  · iintro ⟨HP, HA, HB, HC, HE⟩
    isplitl [HP]; · iexact HP
    isplitl [HA HC]
    · isplitl [HA] <;> iassumption
    · isplitl [HB] <;> iassumption
  · iintro ⟨HP, ⟨HA, HC⟩, HB, HE⟩
    isplitl [HP]; · iexact HP
    isplitl [HA]; · iexact HA
    isplitl [HB]; · iexact HB
    isplitl [HC] <;> iassumption
theorem regroup' (P A B C E : sProp 𝕄) : iprop(P ∗ B ∗ A ∗ E ∗ C) = iprop(P ∗ (A ∗ C) ∗ (B ∗ E)) := by
  refine Entails.antisymm (show (_ : sProp 𝕄) ⊢ _ from ?_) (show (_ : sProp 𝕄) ⊢ _ from ?_)
  · iintro ⟨HP, HB, HA, HE, HC⟩
    isplitl [HP]; · iexact HP
    isplitl [HA HC]
    · isplitl [HA] <;> iassumption
    · isplitl [HB] <;> iassumption
  · iintro ⟨HP, ⟨HA, HC⟩, HB, HE⟩
    isplitl [HP]; · iexact HP
    isplitl [HB]; · iexact HB
    isplitl [HA]; · iexact HA
    isplitl [HE] <;> iassumption

/-- What a keypoint's five items read: a block of the scalar field and two of each vector field. -/
theorem src_keypoint (L : grid0.Coords) (j : ℕ) :
    iprop(src m d L (5 * j) ∗ src m d L (5 * j + 1) ∗ src m d L (5 * j + 2) ∗ src m d L (5 * j + 3) ∗ src m d L (5 * j + 4))
      = iprop(ptsM m d L (blk4 L a2 (FI (jOf (5 * j))) (FI_lt _))
          ∗ (ptsM m d L (blk5 L a3 (FI (jOf (5 * j))) 0 (FI_lt _) (by decide)) ∗ ptsM m d L (blk5 L a3 (FI (jOf (5 * j))) 1 (FI_lt _) (by decide)))
          ∗ (ptsM m d L (blk5 L a4 (FI (jOf (5 * j))) 0 (FI_lt _) (by decide)) ∗ ptsM m d L (blk5 L a4 (FI (jOf (5 * j))) 1 (FI_lt _) (by decide)))) := by
  show iprop(ptsM m d L (srcV L (5 * j)) ∗ ptsM m d L (srcV L (5 * j + 1)) ∗ ptsM m d L (srcV L (5 * j + 2)) ∗ ptsM m d L (srcV L (5 * j + 3)) ∗ ptsM m d L (srcV L (5 * j + 4))) = _
  rw [srcV_0 L (show 5 * j % 5 = 0 by omega), srcV_A L (show (5 * j + 1) % 5 = 1 ∨ _ by omega), srcV_B L (show (5 * j + 2) % 5 = 2 ∨ _ by omega),
    srcV_A L (show _ ∨ (5 * j + 3) % 5 = 3 by omega), srcV_B L (show _ ∨ (5 * j + 4) % 5 = 4 by omega),
    blk5_congr L (congrArg (fun z => bif isRev z then a4 else a3) (jOf_add j 1 (by decide))) (congrArg FI (jOf_add j 1 (by decide))) (cOf_lo j 1 (by decide)) _ (FI_lt _) _ (by decide),
    blk5_congr L (congrArg (fun z => bif isRev z then a3 else a4) (jOf_add j 2 (by decide))) (congrArg FI (jOf_add j 2 (by decide))) (cOf_lo j 2 (by decide)) _ (FI_lt _) _ (by decide),
    blk5_congr L (congrArg (fun z => bif isRev z then a4 else a3) (jOf_add j 3 (by decide))) (congrArg FI (jOf_add j 3 (by decide))) (cOf_hi j 3 (by decide) (by decide)) _ (FI_lt _) _ (by decide),
    blk5_congr L (congrArg (fun z => bif isRev z then a3 else a4) (jOf_add j 4 (by decide))) (congrArg FI (jOf_add j 4 (by decide))) (cOf_hi j 4 (by decide) (by decide)) _ (FI_lt _) _ (by decide)]
  cases isRev (jOf (5 * j))
  · exact regroup _ _ _ _ _
  · exact regroup' _ _ _ _ _

/-- What a keypoint's five items write: a block of the scalar result and two of each vector result. -/
theorem dst_keypoint (L : grid0.Coords) (j : ℕ) :
    iprop(dst0 m d L (5 * j) ∗ dst0 m d L (5 * j + 1) ∗ dst0 m d L (5 * j + 2) ∗ dst0 m d L (5 * j + 3) ∗ dst0 m d L (5 * j + 4))
      = iprop(ptsM m d L (blk4 L a5 (jOf (5 * j)) (jOf_lt _))
          ∗ (ptsM m d L (blk5 L a6 (jOf (5 * j)) 0 (jOf_lt _) (by decide)) ∗ ptsM m d L (blk5 L a6 (jOf (5 * j)) 1 (jOf_lt _) (by decide)))
          ∗ (ptsM m d L (blk5 L a7 (jOf (5 * j)) 0 (jOf_lt _) (by decide)) ∗ ptsM m d L (blk5 L a7 (jOf (5 * j)) 1 (jOf_lt _) (by decide)))) := by
  show iprop(ptsM m d L (dstV L (5 * j)) ∗ ptsM m d L (dstV L (5 * j + 1)) ∗ ptsM m d L (dstV L (5 * j + 2)) ∗ ptsM m d L (dstV L (5 * j + 3)) ∗ ptsM m d L (dstV L (5 * j + 4))) = _
  rw [dstV_0 L (show 5 * j % 5 = 0 by omega), dstV_A L (show (5 * j + 1) % 5 = 1 ∨ _ by omega), dstV_B L (show (5 * j + 2) % 5 = 2 ∨ _ by omega),
    dstV_A L (show _ ∨ (5 * j + 3) % 5 = 3 by omega), dstV_B L (show _ ∨ (5 * j + 4) % 5 = 4 by omega),
    blk5_congr L rfl (jOf_add j 1 (by decide)) (cOf_lo j 1 (by decide)) _ (jOf_lt _) _ (by decide),
    blk5_congr L rfl (jOf_add j 2 (by decide)) (cOf_lo j 2 (by decide)) _ (jOf_lt _) _ (by decide),
    blk5_congr L rfl (jOf_add j 3 (by decide)) (cOf_hi j 3 (by decide) (by decide)) _ (jOf_lt _) _ (by decide),
    blk5_congr L rfl (jOf_add j 4 (by decide)) (cOf_hi j 4 (by decide) (by decide)) _ (jOf_lt _) _ (by decide)]
  exact regroup _ _ _ _ _

/-! ## The arrays whole -/

abbrev l0 : Loc nD τ sig := (SparseCore.T d).loc main_arg0
abbrev l1 : Loc nD τ sig := (SparseCore.T d).loc main_arg1
abbrev l2 : Loc nD τ sig := (SparseCore.T d).loc main_arg2
abbrev o0 : Loc nD τ sig := (SparseCore.T d).loc main_v0_0
abbrev o1 : Loc nD τ sig := (SparseCore.T d).loc main_v0_1
abbrev o2 : Loc nD τ sig := (SparseCore.T d).loc main_v0_2

/-! Each block of each array, as elements of the whole array, and which elements they are. -/

def sA (c : Fin 2) (s : Fin 16) (j : ℕ) (hj : j < 19) : Finset (Idx (l0 d)) := (blk4 (co c s) a2 j hj).view.set
theorem mem_sA (c : Fin 2) (s : Fin 16) (j : ℕ) (hj : j < 19) (i : Idx (l0 d)) :
    i ∈ sA d c s j hj ↔ ((i : S64x19x64x64.Idx) 0).val / 2 = 2 * s.val + c.val ∧ ((i : S64x19x64x64.Idx) 1).val = j :=
  (mem_blk4 (co c s) a2 hj i).trans (exists4 c s hj i)
theorem pts_sA (c : Fin 2) (s : Fin 16) (j : ℕ) (hj : j < 19) :
    ptsM m d (co c s) (blk4 (co c s) a2 j hj) = iprop(l0 d ↦[sA d c s j hj]{fullShare} m (l0 d)) := rfl
def sB (c : Fin 2) (s : Fin 16) (j k : ℕ) (hj : j < 19) (hk : k < 2) : Finset (Idx (l1 d)) := (blk5 (co c s) a3 j k hj hk).view.set
theorem mem_sB (c : Fin 2) (s : Fin 16) (j k : ℕ) (hj : j < 19) (hk : k < 2) (i : Idx (l1 d)) :
    i ∈ sB d c s j k hj hk ↔ (((i : S64x19x2x64x64.Idx) 0).val / 2 = 2 * s.val + c.val ∧ ((i : S64x19x2x64x64.Idx) 1).val = j) ∧ ((i : S64x19x2x64x64.Idx) 2).val = k :=
  (mem_blk5 (co c s) a3 hj hk i).trans (exists5 c s hj hk i)
theorem pts_sB (c : Fin 2) (s : Fin 16) (j k : ℕ) (hj : j < 19) (hk : k < 2) :
    ptsM m d (co c s) (blk5 (co c s) a3 j k hj hk) = iprop(l1 d ↦[sB d c s j k hj hk]{fullShare} m (l1 d)) := rfl
def sC (c : Fin 2) (s : Fin 16) (j k : ℕ) (hj : j < 19) (hk : k < 2) : Finset (Idx (l2 d)) := (blk5 (co c s) a4 j k hj hk).view.set
theorem mem_sC (c : Fin 2) (s : Fin 16) (j k : ℕ) (hj : j < 19) (hk : k < 2) (i : Idx (l2 d)) :
    i ∈ sC d c s j k hj hk ↔ (((i : S64x19x2x64x64.Idx) 0).val / 2 = 2 * s.val + c.val ∧ ((i : S64x19x2x64x64.Idx) 1).val = j) ∧ ((i : S64x19x2x64x64.Idx) 2).val = k :=
  (mem_blk5 (co c s) a4 hj hk i).trans (exists5 c s hj hk i)
theorem pts_sC (c : Fin 2) (s : Fin 16) (j k : ℕ) (hj : j < 19) (hk : k < 2) :
    ptsM m d (co c s) (blk5 (co c s) a4 j k hj hk) = iprop(l2 d ↦[sC d c s j k hj hk]{fullShare} m (l2 d)) := rfl
def tA (c : Fin 2) (s : Fin 16) (j : ℕ) (hj : j < 19) : Finset (Idx (o0 d)) := (blk4 (co c s) a5 j hj).view.set
theorem mem_tA (c : Fin 2) (s : Fin 16) (j : ℕ) (hj : j < 19) (i : Idx (o0 d)) :
    i ∈ tA d c s j hj ↔ ((i : S64x19x64x64.Idx) 0).val / 2 = 2 * s.val + c.val ∧ ((i : S64x19x64x64.Idx) 1).val = j :=
  (mem_blk4 (co c s) a5 hj i).trans (exists4 c s hj i)
theorem pts_tA (c : Fin 2) (s : Fin 16) (j : ℕ) (hj : j < 19) :
    ptsM m d (co c s) (blk4 (co c s) a5 j hj) = iprop(o0 d ↦[tA d c s j hj]{fullShare} m (o0 d)) := rfl
def tB (c : Fin 2) (s : Fin 16) (j k : ℕ) (hj : j < 19) (hk : k < 2) : Finset (Idx (o1 d)) := (blk5 (co c s) a6 j k hj hk).view.set
theorem mem_tB (c : Fin 2) (s : Fin 16) (j k : ℕ) (hj : j < 19) (hk : k < 2) (i : Idx (o1 d)) :
    i ∈ tB d c s j k hj hk ↔ (((i : S64x19x2x64x64.Idx) 0).val / 2 = 2 * s.val + c.val ∧ ((i : S64x19x2x64x64.Idx) 1).val = j) ∧ ((i : S64x19x2x64x64.Idx) 2).val = k :=
  (mem_blk5 (co c s) a6 hj hk i).trans (exists5 c s hj hk i)
theorem pts_tB (c : Fin 2) (s : Fin 16) (j k : ℕ) (hj : j < 19) (hk : k < 2) :
    ptsM m d (co c s) (blk5 (co c s) a6 j k hj hk) = iprop(o1 d ↦[tB d c s j k hj hk]{fullShare} m (o1 d)) := rfl
def tC (c : Fin 2) (s : Fin 16) (j k : ℕ) (hj : j < 19) (hk : k < 2) : Finset (Idx (o2 d)) := (blk5 (co c s) a7 j k hj hk).view.set
theorem mem_tC (c : Fin 2) (s : Fin 16) (j k : ℕ) (hj : j < 19) (hk : k < 2) (i : Idx (o2 d)) :
    i ∈ tC d c s j k hj hk ↔ (((i : S64x19x2x64x64.Idx) 0).val / 2 = 2 * s.val + c.val ∧ ((i : S64x19x2x64x64.Idx) 1).val = j) ∧ ((i : S64x19x2x64x64.Idx) 2).val = k :=
  (mem_blk5 (co c s) a7 hj hk i).trans (exists5 c s hj hk i)
theorem pts_tC (c : Fin 2) (s : Fin 16) (j k : ℕ) (hj : j < 19) (hk : k < 2) :
    ptsM m d (co c s) (blk5 (co c s) a7 j k hj hk) = iprop(o2 d ↦[tC d c s j k hj hk]{fullShare} m (o2 d)) := rfl

/-- The arguments whole are every task's blocks read. -/
theorem args_split : (iprop((l0 d ↦{fullShare} m (l0 d)) ∗ (l1 d ↦{fullShare} m (l1 d)) ∗ (l2 d ↦{fullShare} m (l2 d))) : sProp 𝕄)
    = bigSep Finset.univ fun c : Fin 2 => bigSep Finset.univ fun s : Fin 16 => bigSep (Finset.range 95) (src m d (co c s)) := by
  rw [whole4 (ℓ := l0 d) (fun i => i) FI FI_FI (fun c s j => sA d c s (FI (jOf (5 * j))) (FI_lt _))
      (fun c s j hj i => (mem_sA d c s _ _ i).trans (by rw [congrArg FI (jOf_five hj)])),
    whole5 (ℓ := l1 d) (fun i => i) FI FI_FI (fun k c s j => sB d c s (FI (jOf (5 * j))) k.val (FI_lt _) k.isLt)
      (fun k c s j hj i => (mem_sB d c s _ k.val _ k.isLt i).trans (by rw [congrArg FI (jOf_five hj)])),
    whole5 (ℓ := l2 d) (fun i => i) FI FI_FI (fun k c s j => sC d c s (FI (jOf (5 * j))) k.val (FI_lt _) k.isLt)
      (fun k c s j hj i => (mem_sC d c s _ k.val _ k.isLt i).trans (by rw [congrArg FI (jOf_five hj)]))]
  simp only [← bigSep_sep']
  refine bigSep_congr fun c _ => bigSep_congr fun s _ => Eq.trans ?_ (by_keypoint (src m d (co c s)) 19).symm
  refine bigSep_congr fun j _ => Eq.trans ?_ (src_keypoint m d (co c s) j).symm
  rw [pts_sA, pts_sB, pts_sB, pts_sC, pts_sC]
  rfl

/-- The results whole are every task's blocks written. -/
theorem results_split : (iprop((o0 d ↦{fullShare} m (o0 d)) ∗ (o1 d ↦{fullShare} m (o1 d)) ∗ (o2 d ↦{fullShare} m (o2 d))) : sProp 𝕄)
    = bigSep Finset.univ fun c : Fin 2 => bigSep Finset.univ fun s : Fin 16 => bigSep (Finset.range 95) (dst0 m d (co c s)) := by
  rw [whole4 (ℓ := o0 d) (fun i => i) id id_id (fun c s j => tA d c s (jOf (5 * j)) (jOf_lt _))
      (fun c s j hj i => (mem_tA d c s _ _ i).trans (by rw [jOf_five hj]; exact Iff.rfl)),
    whole5 (ℓ := o1 d) (fun i => i) id id_id (fun k c s j => tB d c s (jOf (5 * j)) k.val (jOf_lt _) k.isLt)
      (fun k c s j hj i => (mem_tB d c s _ k.val _ k.isLt i).trans (by rw [jOf_five hj]; exact Iff.rfl)),
    whole5 (ℓ := o2 d) (fun i => i) id id_id (fun k c s j => tC d c s (jOf (5 * j)) k.val (jOf_lt _) k.isLt)
      (fun k c s j hj i => (mem_tC d c s _ k.val _ k.isLt i).trans (by rw [jOf_five hj]; exact Iff.rfl))]
  simp only [← bigSep_sep']
  refine bigSep_congr fun c _ => bigSep_congr fun s _ => Eq.trans ?_ (by_keypoint (dst0 m d (co c s)) 19).symm
  refine bigSep_congr fun j _ => Eq.trans ?_ (dst_keypoint m d (co c s) j).symm
  rw [pts_tA, pts_tB, pts_tB, pts_tC, pts_tC]
  rfl

end Items

end Cert.Flip

end
-- ==== Proof.Values.lean ====
/-
  What the three results hold at the end: the scalar field flipped, and the two vector fields flipped with their
  horizontal components negated and changing places at three keypoints; and that a block an item wrote holds that.
-/
module

public import proofs.«01_k».proof.Proof.Arrays

@[expose] public section

noncomputable section

namespace Cert.Flip

open Cert.KernelIdeal Cert.KernelIdeal.Facts₀ Cert.KernelIdeal.Facts
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## The flips -/

/-- Where the flipped scalar field reads its element `i`. -/
def from4 (i : S64x19x64x64.Idx) : S64x19x64x64.Idx :=
  ix4 (n0 := 64) (n1 := 19) (n2 := 64) (n3 := 64) (i 0) ⟨FI (i 1).val, FI_lt _⟩ (i 2) (Fin.rev (n := 64) (i 3))
/-- Where a flipped vector field reads its element `i`. -/
def from5 (i : S64x19x2x64x64.Idx) : S64x19x2x64x64.Idx :=
  ix5 (n0 := 64) (n1 := 19) (n2 := 2) (n3 := 64) (n4 := 64) (i 0) ⟨FI (i 1).val, FI_lt _⟩ (i 2) (i 3) (Fin.rev (n := 64) (i 4))

/-- A scalar field flipped. -/
def flip4 (f : S64x19x64x64.Idx → F .f32) : S64x19x64x64.Idx → F .f32 := fun i => f (from4 i)
/-- A vector field flipped, taken from the other one, `g`, at the keypoints where the two change places. -/
def flip5 (f g : S64x19x2x64x64.Idx → F .f32) : S64x19x2x64x64.Idx → F .f32 :=
  fun i => sgnE (decide ((i 2).val = 0)) ((bif isRev (i 1).val then g else f) (from5 i))

variable [Facts] (m : (ℓ : Loc nD τ sig) → Buf (Elt F) ℓ) (d : Dev nD)

/-! ## The final memory -/

/-- The memory with the three results in place. -/
def fin : (ℓ : Loc nD τ sig) → Buf (Elt F) ℓ := by
  classical
  exact Function.update (Function.update (Function.update m (o0 d) (flip4 (F := F) (m (l0 d)))) (o1 d) (flip5 (F := F) (m (l1 d)) (m (l2 d))))
    (o2 d) (flip5 (F := F) (m (l2 d)) (m (l1 d)))

theorem o2_ne_o1 : o1 d ≠ o2 d :=
  fun h => absurd (Proc.devRef_injective _ (Prod.mk.inj h).2) (show (main_v0_1 : Ref sig .tc) ≠ main_v0_2 by decide)
theorem o2_ne_o0 : o0 d ≠ o2 d :=
  fun h => absurd (Proc.devRef_injective _ (Prod.mk.inj h).2) (show (main_v0_0 : Ref sig .tc) ≠ main_v0_2 by decide)
theorem o1_ne_o0 : o0 d ≠ o1 d :=
  fun h => absurd (Proc.devRef_injective _ (Prod.mk.inj h).2) (show (main_v0_0 : Ref sig .tc) ≠ main_v0_1 by decide)

theorem fin_o2 : fin m d (o2 d) = flip5 (F := F) (m (l2 d)) (m (l1 d)) := by unfold fin; exact Function.update_self _ _ _
theorem fin_o1 : fin m d (o1 d) = flip5 (F := F) (m (l1 d)) (m (l2 d)) := by
  unfold fin; rw [Function.update_of_ne (o2_ne_o1 d)]; exact Function.update_self _ _ _
theorem fin_o0 : fin m d (o0 d) = flip4 (F := F) (m (l0 d)) := by
  unfold fin; rw [Function.update_of_ne (o2_ne_o0 d), Function.update_of_ne (o1_ne_o0 d)]; exact Function.update_self _ _ _

/-! ## The blocks read -/

variable (L : grid0.Coords)

/-- Element `x` of block `v` in memory `M`. -/
def valM (M : (ℓ : Loc nD τ sig) → Buf (Elt F) ℓ) (v : Memref sig .scVector .hbm S2x64x64 .f32) (x : S2x64x64.Idx) : F .f32 :=
  v.view.read (Elt F) (M (v.view.loc (thr d L))) x

section Blocks
variable (M : (ℓ : Loc nD τ sig) → Buf (Elt F) ℓ) (x : S2x64x64.Idx)

theorem val_a2 {j : ℕ} (hj : j < 19) : valM d L M (blk4 L a2 j hj) x = (M (l0 d) : S64x19x64x64.Idx → F .f32) (i4 (base L) j (base_lt L) hj x) :=
  ((View.read_apply (v := (blk4 L a2 j hj).view) (Val := Elt F) _ x).trans (cast_eq _ _)).trans (congrArg (M (l0 d)) (emb_blk4 L a2 j hj x))
theorem val_a5 {j : ℕ} (hj : j < 19) : valM d L M (blk4 L a5 j hj) x = (M (o0 d) : S64x19x64x64.Idx → F .f32) (i4 (base L) j (base_lt L) hj x) :=
  ((View.read_apply (v := (blk4 L a5 j hj).view) (Val := Elt F) _ x).trans (cast_eq _ _)).trans (congrArg (M (o0 d)) (emb_blk4 L a5 j hj x))
theorem val_a3 {j c : ℕ} (hj : j < 19) (hc : c < 2) : valM d L M (blk5 L a3 j c hj hc) x = (M (l1 d) : S64x19x2x64x64.Idx → F .f32) (i5 (base L) j c (base_lt L) hj hc x) :=
  ((View.read_apply (v := (blk5 L a3 j c hj hc).view) (Val := Elt F) _ x).trans (cast_eq _ _)).trans (congrArg (M (l1 d)) (emb_blk5 L a3 j c hj hc x))
theorem val_a4 {j c : ℕ} (hj : j < 19) (hc : c < 2) : valM d L M (blk5 L a4 j c hj hc) x = (M (l2 d) : S64x19x2x64x64.Idx → F .f32) (i5 (base L) j c (base_lt L) hj hc x) :=
  ((View.read_apply (v := (blk5 L a4 j c hj hc).view) (Val := Elt F) _ x).trans (cast_eq _ _)).trans (congrArg (M (l2 d)) (emb_blk5 L a4 j c hj hc x))
theorem val_a6 {j c : ℕ} (hj : j < 19) (hc : c < 2) : valM d L M (blk5 L a6 j c hj hc) x = (M (o1 d) : S64x19x2x64x64.Idx → F .f32) (i5 (base L) j c (base_lt L) hj hc x) :=
  ((View.read_apply (v := (blk5 L a6 j c hj hc).view) (Val := Elt F) _ x).trans (cast_eq _ _)).trans (congrArg (M (o1 d)) (emb_blk5 L a6 j c hj hc x))
theorem val_a7 {j c : ℕ} (hj : j < 19) (hc : c < 2) : valM d L M (blk5 L a7 j c hj hc) x = (M (o2 d) : S64x19x2x64x64.Idx → F .f32) (i5 (base L) j c (base_lt L) hj hc x) :=
  ((View.read_apply (v := (blk5 L a7 j c hj hc).view) (Val := Elt F) _ x).trans (cast_eq _ _)).trans (congrArg (M (o2 d)) (emb_blk5 L a7 j c hj hc x))

theorem val_A {j c : ℕ} (b : Bool) (hj : j < 19) (hc : c < 2) : valM d L M (blk5 L (bif b then a4 else a3) j c hj hc) x
    = (bif b then (M (l2 d) : S64x19x2x64x64.Idx → F .f32) else M (l1 d)) (i5 (base L) j c (base_lt L) hj hc x) := by
  cases b
  · exact val_a3 d L M x hj hc
  · exact val_a4 d L M x hj hc
theorem val_B {j c : ℕ} (b : Bool) (hj : j < 19) (hc : c < 2) : valM d L M (blk5 L (bif b then a3 else a4) j c hj hc) x
    = (bif b then (M (l1 d) : S64x19x2x64x64.Idx → F .f32) else M (l2 d)) (i5 (base L) j c (base_lt L) hj hc x) := by
  cases b
  · exact val_a4 d L M x hj hc
  · exact val_a3 d L M x hj hc

end Blocks

theorem from4_i4 {b j : ℕ} (hb : b + 2 ≤ 64) (hj : j < 19) (x : S2x64x64.Idx) : from4 (i4 b j hb hj x) = i4 b (FI j) hb (FI_lt j) (rv x) := rfl
theorem from5_i5 {b j c : ℕ} (hb : b + 2 ≤ 64) (hj : j < 19) (hc : c < 2) (x : S2x64x64.Idx) :
    from5 (i5 b j c hb hj hc x) = i5 b (FI j) c hb (FI_lt j) hc (rv x) := rfl

theorem neg_of (n : ℕ) (h : n % 5 ≠ 0) : negOf n = decide (cOf n = 0) := by
  have h' : n % 5 = 1 ∨ n % 5 = 2 ∨ n % 5 = 3 ∨ n % 5 = 4 := by omega
  unfold negOf cOf
  rcases h' with h | h | h | h <;> rw [h] <;> rfl

/-- The block item `n` writes holds, in the final memory, the block item `n` reads, its rows reversed and its sign put on. -/
theorem val_dst (n : ℕ) (x : S2x64x64.Idx) : valM d L (fin m d) (dstV L n) x = sgnE (negOf n) (valM d L m (srcV L n) (rv x)) := by
  have h5 : n % 5 = 0 ∨ (n % 5 = 1 ∨ n % 5 = 3) ∨ (n % 5 = 2 ∨ n % 5 = 4) := by omega
  rcases h5 with h | h | h
  · rw [dstV_0 L h, srcV_0 L h, val_a5, val_a2, fin_o0, show negOf n = false by unfold negOf; rw [h]; rfl]
    exact congrArg _ (from4_i4 _ _ x)
  · rw [dstV_A L h, srcV_A L h, val_a6, val_A, fin_o1, neg_of n (by omega)]
    exact congrArg _ (congrArg _ (from5_i5 _ _ _ x))
  · rw [dstV_B L h, srcV_B L h, val_a7, val_B, fin_o2, neg_of n (by omega)]
    exact congrArg _ (congrArg _ (from5_i5 _ _ _ x))

/-- What an item wrote agrees with the final memory on its block. -/
theorem agrees (n : ℕ) (g : Buf (Elt F) ((dstV L n).view.loc (thr d L)))
    (hg : ∀ x, (dstV L n).view.read (Elt F) g x = sgnE (negOf n) (srcVal m d L n (rv x))) :
    ∀ i ∈ (dstV L n).view.set, g i = fin m d ((dstV L n).view.loc (thr d L)) i := by
  intro i hi
  obtain ⟨x, -, rfl⟩ := Finset.mem_map.mp hi
  have e := (hg x).trans (val_dst m d L n x).symm
  unfold valM at e
  rw [View.read_apply, View.read_apply] at e
  exact (cast_inj _).mp e

/-- A block an item wrote, as the final memory has it. -/
theorem dst1_fin (n : ℕ) : dst1 m d L n ⊢ (dst0 (fin m d) d L n : sProp 𝕄) := by
  unfold dst1
  iintro ⟨%g, %hg, H⟩
  ihave H := (Entails.of_eq (pointsTo_congr (f := g) (g := fin m d ((dstV L n).view.loc (thr d L))) (agrees m d L n g hg))) $$ H
  iexact H

theorem dst1s_fin (S : Finset ℕ) : bigSep S (dst1 m d L) ⊢ (bigSep S (dst0 (fin m d) d L) : sProp 𝕄) := bigSep_mono fun n _ => dst1_fin m d L n

end Cert.Flip

end
-- ==== Proof.Tile.lean ====
/-
  The task on one subcore: its scratch buffers cut into slots and put together again, its copies' cells taken from its
  own, and its body from the launch's blocks to the blocks as it leaves them.
-/
module

public import proofs.«01_k».proof.Proof.Values

@[expose] public section

noncomputable section

namespace Cert.Flip

open Cert.KernelIdeal Cert.KernelIdeal.Facts₀ Cert.KernelIdeal.Facts
open Idealize.ShloMosaic Idealize.ShloMosaic.ValueIdx
open Idealize.ShloMosaic.SparseCore (S V T)
open Idealize.ShloMosaic.SparseCore.Cfg (HIx Pay mem_ownCells ownBufs ownCells ownRefs ownSems0)
open Idealize.SL Idealize.SL.RA Idealize.SL.BI
open scoped Idealize.SL.BI
open Idealize.SL.BI.BIBase Idealize.SL.BI.Laws Idealize.SL.ProofMode Idealize.SL.Sem

variable {F : FTy → Type} [FloatOps F] [Facts]

local notation "𝕄" => MT nD τ sig (HIx 1) (Elt F) ℕ UU ℕ

variable (m : (ℓ : Loc nD τ sig) → Buf (Elt F) ℓ) (d : Dev nD) (L : grid0.Coords)

/-! ## The scratch buffers and their slots -/

/-- An element of the input scratch is in slot `n` when its first coordinate is the slot's number. -/
theorem mem_iSet (n : ℕ) (i : S4x2x64x64.Idx) : i ∈ (inSlot n).view.set ↔ (i 0).val = n % 4 := by
  constructor
  · intro hi
    obtain ⟨x, -, rfl⟩ := Finset.mem_map.mp hi
    exact congrArg (fun z : S4x2x64x64.Idx => (z 0).val) (emb_inSlot n x)
  · intro hi
    have e : ((inSlot n).view.emb (ix3 (i 1) (i 2) (i 3)) : S4x2x64x64.Idx) = i := by
      refine (emb_inSlot n _).trans ?_
      funext a; apply Fin.ext
      fin_cases a
      · exact hi.symm
      · rfl
      · rfl
      · rfl
    exact Eq.subst (motive := fun z => z ∈ (inSlot n).view.set) e (View.emb_mem_set _ _)
/-- An element of the output scratch is in slot `n` when its first coordinate is the slot's number. -/
theorem mem_oSet (n : ℕ) (i : S3x2x64x64.Idx) : i ∈ (outSlot n).view.set ↔ (i 0).val = n % 3 := by
  constructor
  · intro hi
    obtain ⟨x, -, rfl⟩ := Finset.mem_map.mp hi
    exact congrArg (fun z : S3x2x64x64.Idx => (z 0).val) (emb_outSlot n x)
  · intro hi
    have e : ((outSlot n).view.emb (ix3 (i 1) (i 2) (i 3)) : S3x2x64x64.Idx) = i := by
      refine (emb_outSlot n _).trans ?_
      funext a; apply Fin.ext
      fin_cases a
      · exact hi.symm
      · rfl
      · rfl
      · rfl
    exact Eq.subst (motive := fun z => z ∈ (outSlot n).view.set) e (View.emb_mem_set _ _)

/-- The slots cover their scratch and do not meet. -/
theorem in_cover (i : Idx (iLoc d L)) : i ∈ (Finset.univ : Finset (Idx (iLoc d L))) ↔ ∃ n ∈ Finset.range 4, i ∈ iSet d L n :=
  ⟨fun _ => ⟨((i : S4x2x64x64.Idx) 0).val, Finset.mem_range.mpr ((i : S4x2x64x64.Idx) 0).isLt, (mem_iSet _ i).mpr (Nat.mod_eq_of_lt ((i : S4x2x64x64.Idx) 0).isLt).symm⟩,
    fun _ => Finset.mem_univ _⟩
theorem out_cover (i : Idx (oLoc d L)) : i ∈ (Finset.univ : Finset (Idx (oLoc d L))) ↔ ∃ n ∈ Finset.range 3, i ∈ oSet d L n :=
  ⟨fun _ => ⟨((i : S3x2x64x64.Idx) 0).val, Finset.mem_range.mpr ((i : S3x2x64x64.Idx) 0).isLt, (mem_oSet _ i).mpr (Nat.mod_eq_of_lt ((i : S3x2x64x64.Idx) 0).isLt).symm⟩,
    fun _ => Finset.mem_univ _⟩
theorem in_apart (p : ℕ) (hp : p ∈ Finset.range 4) (p' : ℕ) (hp' : p' ∈ Finset.range 4) (i : Idx (iLoc d L)) (h : i ∈ iSet d L p) (h' : i ∈ iSet d L p') : p = p' := by
  have h1 := (mem_iSet p i).mp h
  have h2 := (mem_iSet p' i).mp h'
  rw [Nat.mod_eq_of_lt (Finset.mem_range.mp hp)] at h1
  rw [Nat.mod_eq_of_lt (Finset.mem_range.mp hp')] at h2
  exact h1.symm.trans h2
theorem out_apart (p : ℕ) (hp : p ∈ Finset.range 3) (p' : ℕ) (hp' : p' ∈ Finset.range 3) (i : Idx (oLoc d L)) (h : i ∈ oSet d L p) (h' : i ∈ oSet d L p') : p = p' := by
  have h1 := (mem_oSet p i).mp h
  have h2 := (mem_oSet p' i).mp h'
  rw [Nat.mod_eq_of_lt (Finset.mem_range.mp hp)] at h1
  rw [Nat.mod_eq_of_lt (Finset.mem_range.mp hp')] at h2
  exact h1.symm.trans h2

theorem in_some (f : Buf (Elt F) (iLoc d L)) : bigSep (Finset.range 4) (fun n => (inPts d L n f : sProp 𝕄)) ⊢ bigSep (Finset.range 4) fun n => iprop(∃ f, inPts d L n f) :=
  bigSep_mono fun n _ => (show (_ : sProp 𝕄) ⊢ _ from by iintro H; iexists f; iexact H)
/-- The input scratch whole, at some contents, is its four slots, each at some. -/
theorem in_slots : iprop(∃ f, iLoc d L ↦{fullShare} f) ⊢ (bigSep (Finset.range 4) fun n => iprop(∃ f, inPts d L n f) : sProp 𝕄) := by
  iintro ⟨%f, H⟩
  ihave H := (Entails.of_eq (pts_nest Finset.univ (Finset.range 4) (iSet d L) (in_cover d L) (in_apart d L) f)) $$ H
  ihave H := (in_some d L f) $$ H
  iexact H
theorem out_some (f : Buf (Elt F) (oLoc d L)) : bigSep (Finset.range 3) (fun n => (outPts d L n f : sProp 𝕄)) ⊢ bigSep (Finset.range 3) fun n => iprop(∃ f, outPts d L n f) :=
  bigSep_mono fun n _ => (show (_ : sProp 𝕄) ⊢ _ from by iintro H; iexists f; iexact H)
theorem out_slots : iprop(∃ f, oLoc d L ↦{fullShare} f) ⊢ (bigSep (Finset.range 3) fun n => iprop(∃ f, outPts d L n f) : sProp 𝕄) := by
  iintro ⟨%f, H⟩
  ihave H := (Entails.of_eq (pts_nest Finset.univ (Finset.range 3) (oSet d L) (out_cover d L) (out_apart d L) f)) $$ H
  ihave H := (out_some d L f) $$ H
  iexact H

variable [∀ e, Nonempty (Elt F e)]

theorem in_whole : (bigSep (Finset.range 4) fun n => iprop(∃ f, inPts d L n f) : sProp 𝕄) ⊢ iprop(∃ f, iLoc d L ↦{fullShare} f) := by
  iintro H
  ihave H := (bigSep_exists_pi (Finset.range 4) fun n (f : Buf (Elt F) (iLoc d L)) => (inPts d L n f : sProp 𝕄)) $$ H
  icases H with ⟨%fs, H⟩
  ihave H := (pointsTo_biUnion_join (Finset.range 4) (iSet d L) fs (fs 0) (fun p hp p' hp' hne => Finset.disjoint_left.mpr fun i h h' => hne (in_apart d L p hp p' hp' i h h'))) $$ H
  icases H with ⟨%g, -, H⟩
  iexists g
  ihave H := (Entails.of_eq (congrArg (fun A => (iLoc d L ↦[A]{fullShare} g : sProp 𝕄))
    (Finset.ext fun i => Finset.mem_biUnion.trans (in_cover d L i).symm : (Finset.range 4).biUnion (iSet d L) = Finset.univ))) $$ H
  iexact H
theorem out_whole : (bigSep (Finset.range 3) fun n => iprop(∃ f, outPts d L n f) : sProp 𝕄) ⊢ iprop(∃ f, oLoc d L ↦{fullShare} f) := by
  iintro H
  ihave H := (bigSep_exists_pi (Finset.range 3) fun n (f : Buf (Elt F) (oLoc d L)) => (outPts d L n f : sProp 𝕄)) $$ H
  icases H with ⟨%fs, H⟩
  ihave H := (pointsTo_biUnion_join (Finset.range 3) (oSet d L) fs (fs 0) (fun p hp p' hp' hne => Finset.disjoint_left.mpr fun i h h' => hne (out_apart d L p hp p' hp' i h h'))) $$ H
  icases H with ⟨%g, -, H⟩
  iexists g
  ihave H := (Entails.of_eq (congrArg (fun A => (oLoc d L ↦[A]{fullShare} g : sProp 𝕄))
    (Finset.ext fun i => Finset.mem_biUnion.trans (out_cover d L i).symm : (Finset.range 3).biUnion (oSet d L) = Finset.univ))) $$ H
  iexact H

/-! ## The task's own cells and buffers -/

/-- The cells its copies complete on. -/
def dmaCells : Finset (SemLoc sig) := (Finset.range 4).image (fun n => SemLoc.dma (isem n)) ∪ (Finset.range 3).image (fun n => SemLoc.dma (osem n))

theorem semLoc_injOn (S : Finset (SemLoc sig)) : Set.InjOn (fun sm : SemLoc sig => ((thr d L, sm) : GSem nD τ sig)) S := fun _ _ _ _ e => congrArg Prod.snd e

theorem isem_injOn : Set.InjOn (fun n => (SemLoc.dma (isem n) : SemLoc sig)) (Finset.range 4 : Finset ℕ) := by
  have h : ∀ a ∈ Finset.range 4, ∀ b ∈ Finset.range 4, (SemLoc.dma (isem a) : SemLoc sig) = SemLoc.dma (isem b) → a = b := of_decide_eq_true rfl
  exact fun a ha b hb e => h a (Finset.mem_coe.mp ha) b (Finset.mem_coe.mp hb) e
theorem osem_injOn : Set.InjOn (fun n => (SemLoc.dma (osem n) : SemLoc sig)) (Finset.range 3 : Finset ℕ) := by
  have h : ∀ a ∈ Finset.range 3, ∀ b ∈ Finset.range 3, (SemLoc.dma (osem a) : SemLoc sig) = SemLoc.dma (osem b) → a = b := of_decide_eq_true rfl
  exact fun a ha b hb e => h a (Finset.mem_coe.mp ha) b (Finset.mem_coe.mp hb) e
theorem sems_apart : Disjoint ((Finset.range 4).image (fun n => (SemLoc.dma (isem n) : SemLoc sig))) ((Finset.range 3).image fun n => SemLoc.dma (osem n)) := by
  have h : ∀ a ∈ Finset.range 4, ∀ b ∈ Finset.range 3, (SemLoc.dma (osem b) : SemLoc sig) ≠ SemLoc.dma (isem a) := of_decide_eq_true rfl
  refine Finset.disjoint_left.mpr fun x hx hx' => ?_
  obtain ⟨a, ha, rfl⟩ := Finset.mem_image.mp hx
  obtain ⟨b, hb, e⟩ := Finset.mem_image.mp hx'
  exact h a ha b hb e

/-- They are among its own. -/
theorem dmaCells_own : dmaCells.image (fun sm : SemLoc sig => ((thr d L, sm) : GSem nD τ sig)) ⊆ ownCells (thr d L) := by
  have hi : ∀ a ∈ Finset.range 4, (SemLoc.dma (isem a) : SemLoc sig).isScoped .scVector = true := of_decide_eq_true rfl
  have ho : ∀ a ∈ Finset.range 3, (SemLoc.dma (osem a) : SemLoc sig).isScoped .scVector = true := of_decide_eq_true rfl
  intro g hg
  obtain ⟨sm, hsm, rfl⟩ := Finset.mem_image.mp hg
  refine mem_ownCells.mpr ⟨rfl, ?_⟩
  rcases Finset.mem_union.mp hsm with h | h
  · obtain ⟨a, ha, rfl⟩ := Finset.mem_image.mp h; exact hi a ha
  · obtain ⟨a, ha, rfl⟩ := Finset.mem_image.mp h; exact ho a ha

/-- What the task does not touch of its own cells. -/
def restSems : sProp 𝕄 := bigSep (ownCells (thr d L) \ dmaCells.image fun sm : SemLoc sig => ((thr d L, sm) : GSem nD τ sig)) fun g => semVal g 0
/-- What it does not touch of its own buffers. -/
def restBufs : sProp 𝕄 :=
  bigSep (((ownRefs (τ := τ) (.scVector (cV L) (jV L))).erase ((Proc.scVector (cV L) (jV L)).devRef cc0_scratch0)).erase ((Proc.scVector (cV L) (jV L)).devRef cc0_scratch1))
    fun b => iprop(∃ f, ((d, b) : Loc nD τ sig) ↦{fullShare} f)

theorem own_sems : (ownSems0 (thr d L) : sProp 𝕄)
    = iprop((bigSep (Finset.range 4) (fun n => semVal (thr d L, SemLoc.dma (isem n)) 0) ∗ bigSep (Finset.range 3) fun n => semVal (thr d L, SemLoc.dma (osem n)) 0) ∗ restSems d L) := by
  unfold SparseCore.Cfg.ownSems0 restSems
  rw [SparseCore.bigSep_sdiff_split' (dmaCells_own d L), bigSep_image_of_injOn (semLoc_injOn d L _)]
  unfold dmaCells
  rw [SparseCore.bigSep_union' sems_apart, bigSep_image_of_injOn isem_injOn, bigSep_image_of_injOn osem_injOn]

theorem own_bufs : (ownBufs (thr d L) : sProp 𝕄)
    = iprop((∃ f, iLoc d L ↦{fullShare} f) ∗ (∃ f, oLoc d L ↦{fullShare} f) ∗ restBufs d L) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]
  rfl

theorem in_frees : (bigSep (Finset.range 4) (inFree d L) : sProp 𝕄)
    = iprop(bigSep (Finset.range 4) (fun n => semVal (thr d L, SemLoc.dma (isem n)) 0) ∗ bigSep (Finset.range 4) fun n => iprop(∃ f, inPts d L n f)) :=
  bigSep_sep' (s := Finset.range 4) (Φ := fun n => (semVal (thr d L, SemLoc.dma (isem n)) 0 : sProp 𝕄)) (Ψ := fun n => iprop(∃ f, inPts d L n f))
theorem out_frees : (bigSep (Finset.range 3) (outFree d L) : sProp 𝕄)
    = iprop(bigSep (Finset.range 3) (fun n => semVal (thr d L, SemLoc.dma (osem n)) 0) ∗ bigSep (Finset.range 3) fun n => iprop(∃ f, outPts d L n f)) :=
  bigSep_sep' (s := Finset.range 3) (Φ := fun n => (semVal (thr d L, SemLoc.dma (osem n)) 0 : sProp 𝕄)) (Ψ := fun n => iprop(∃ f, outPts d L n f))
/-- The cells at zero and the scratch buffers at anything are the slots free. -/
theorem frees : iprop((bigSep (Finset.range 4) (fun n => semVal (thr d L, SemLoc.dma (isem n)) 0) ∗ bigSep (Finset.range 3) fun n => semVal (thr d L, SemLoc.dma (osem n)) 0)
      ∗ (∃ f, iLoc d L ↦{fullShare} f) ∗ (∃ f, oLoc d L ↦{fullShare} f))
    ⊢ (iprop(bigSep (Finset.range 4) (inFree d L) ∗ bigSep (Finset.range 3) (outFree d L)) : sProp 𝕄) := by
  iintro ⟨⟨Hi, Ho⟩, Hf, Hg⟩
  ihave Hf := (in_slots d L) $$ Hf
  ihave Hg := (out_slots d L) $$ Hg
  isplitl [Hi Hf]
  · ihave H := (Entails.of_eq (in_frees d L).symm) $$ [Hi Hf]
    · isplitl [Hi] <;> iassumption
    iexact H
  · ihave H := (Entails.of_eq (out_frees d L).symm) $$ [Ho Hg]
    · isplitl [Ho] <;> iassumption
    iexact H
theorem frees_back : (iprop(bigSep (Finset.range 4) (inFree d L) ∗ bigSep (Finset.range 3) (outFree d L)) : sProp 𝕄)
    ⊢ iprop((bigSep (Finset.range 4) (fun n => semVal (thr d L, SemLoc.dma (isem n)) 0) ∗ bigSep (Finset.range 3) fun n => semVal (thr d L, SemLoc.dma (osem n)) 0)
      ∗ (∃ f, iLoc d L ↦{fullShare} f) ∗ (∃ f, oLoc d L ↦{fullShare} f)) := by
  iintro ⟨Hi, Ho⟩
  ihave Hi := (Entails.of_eq (in_frees d L)) $$ Hi
  ihave Ho := (Entails.of_eq (out_frees d L)) $$ Ho
  icases Hi with ⟨Hi, Hf⟩
  icases Ho with ⟨Ho, Hg⟩
  isplitl [Hi Ho]
  · isplitl [Hi] <;> iassumption
  isplitl [Hf]
  · iapply (in_whole d L); iexact Hf
  · iapply (out_whole d L); iexact Hg

/-! ## The body -/

/-- What a task is handed: the blocks its items read and the blocks they write. -/
def gets : sProp 𝕄 := iprop(bigSep (Finset.range 95) (src m d L) ∗ bigSep (Finset.range 95) (dst0 m d L))
/-- What it hands back: the same, the written blocks as the kernel leaves them. -/
def hands : sProp 𝕄 := iprop(bigSep (Finset.range 95) (src m d L) ∗ bigSep (Finset.range 95) (dst0 (fin m d) d L))

variable (O : CellTallies nD τ sig (HIx 1)) (W₀ : Waits sig (HIx 1))

/-- The slots listed. -/
theorem range4 (Φ : ℕ → sProp 𝕄) : bigSep (Finset.range 4) Φ = iprop(Φ 3 ∗ Φ 2 ∗ Φ 1 ∗ Φ 0 ∗ emp) := by
  rw [bigSep_range_succ, bigSep_range_succ, bigSep_range_succ, bigSep_range_succ, Finset.range_zero, bigSep_empty]
  rfl
theorem range3 (Φ : ℕ → sProp 𝕄) : bigSep (Finset.range 3) Φ = iprop(Φ 2 ∗ Φ 1 ∗ Φ 0 ∗ emp) := by
  rw [bigSep_range_succ, bigSep_range_succ, bigSep_range_succ, Finset.range_zero, bigSep_empty]
  rfl

/-- At the start, the task holds its slots free, its blocks as launched and what it owes. -/
theorem st_start : iprop((bigSep (Finset.range 4) (inFree d L) ∗ bigSep (Finset.range 3) (outFree d L)) ∗ gets m d L ∗ owes (thr d L) O W₀)
    ⊢ (St m d L O W₀ 10 0 : sProp 𝕄) := by
  simp only [St, gets]
  unfold HB OW
  rw [range3, Finset.range_zero, bigSep_empty, bigSep_empty, Finset.range_eq_Ico, Finset.range_eq_Ico]
  iintro ⟨⟨Hi, H2, H1, H0, -⟩, ⟨Hs, Hd⟩, HO⟩
  isplitl [Hi]
  · isplitl [Hi]; · iexact Hi
    iempintro
  isplitl [H0 H1 H2]
  · isplitl [H0]; · iexact H0
    isplitl [H1]; · iexact H1
    iexact H2
  isplitl [Hs Hd]
  · isplitl [Hs]; · iexact Hs
    isplitr; · iempintro
    isplitl [Hd]; · iexact Hd
    iempintro
  iexists W₀
  isplitr; · ipureintro; exact fun p hp => .inl hp
  iexact HO

/-- At the end, the task holds its slots free and its blocks as the kernel leaves them. -/
theorem st_end : (St m d L O W₀ 5 98 : sProp 𝕄)
    ⊢ iprop((bigSep (Finset.range 4) (inFree d L) ∗ bigSep (Finset.range 3) (outFree d L)) ∗ hands m d L ∗ OW d L O W₀) := by
  simp only [St, hands]
  unfold HB
  rw [outSt_last (n := 98) (by omega), outSt_last (n := 98 + 1) (by omega), outSt_last (n := 98 + 2) (by omega),
    outFree_congr d L (show 98 % 3 = 2 % 3 from rfl), outFree_congr d L (show (98 + 1) % 3 = 0 % 3 from rfl), outFree_congr d L (show (98 + 2) % 3 = 1 % 3 from rfl),
    range4, range3]
  iintro ⟨⟨Hi0, Hi1, Hi2, Hi3⟩, ⟨H2, H0, H1⟩, ⟨-, Hs, -, Hd⟩, HO⟩
  isplitl [Hi0 Hi1 Hi2 Hi3 H0 H1 H2]
  · isplitl [Hi0 Hi1 Hi2 Hi3]
    · isplitl [Hi3]; · iexact Hi3
      isplitl [Hi2]; · iexact Hi2
      isplitl [Hi1]; · iexact Hi1
      isplitl [Hi0]; · iexact Hi0
      iempintro
    · isplitl [H2]; · iexact H2
      isplitl [H1]; · iexact H1
      isplitl [H0]; · iexact H0
      iempintro
  isplitl [Hs Hd]
  · isplitl [Hs]; · iexact Hs
    iapply (dst1s_fin m d L (Finset.range 95)); iexact Hd
  iexact HO

/-- The program of one task. -/
abbrev body : PT (F := F) L :=
  cc0__sc_body L a2 (Memref.isWhole_whole _) a3 (Memref.isWhole_whole _) a4 (Memref.isWhole_whole _) a5 (Memref.isWhole_whole _)
    a6 (Memref.isWhole_whole _) a7 (Memref.isWhole_whole _) a8 (Memref.isWhole_whole _) a9 (Memref.isWhole_whole _)
    cc0_scratch2 cc0_scratch3 cc0_scratch4 cc0_scratch5 cc0_scratch6 cc0_scratch7 cc0_scratch8

/-- The task's body, from what it is handed and its own cells and buffers, runs to what it hands back and the same cells and buffers. -/
theorem tile_body (hF : (K (F := F)).Facts) (hO : ∀ g, O g none = 0) :
    iprop(levAts (K (F := F)).L (K (F := F)).lev ∗ emp ∗ gets m d L ∗ scopedBufs (thr d L) ∗ scopedSems0 (thr d L) ∗ owes (thr d L) O W₀)
      ⊢ (wp frame (wpE (defs₀ (F := F)) 𝒱₀ (thr d L) none) Set.univ (body L)
        fun _ => iprop(hands m d L ∗ scopedBufs (thr d L) ∗ scopedSems0 (thr d L) ∗ ∃ W', ⌜∀ p ∈ W', p ∈ W₀ ∨ p.2 = none⌝ ∗ owes (thr d L) O W') : sProp 𝕄) := by
  have hfin : Runs m d L O W₀ (fun _ => St m d L O W₀ 5 98) 5 98 (.ret ⟨⟩) := by
    unfold Runs
    rw [wp_ret]
    iintro ⟨-, H⟩
    imodintro
    iexact H
  have hb := body_runs hfin
  unfold Runs at hb
  rw [(K (F := F)).scopedBufs_V hF d (cV L) (jV L), SparseCore.Cfg.scopedSems0_V (Val := Elt F) d (cV L) (jV L), own_sems, own_bufs]
  iintro ⟨#Hlv, -, Hg, ⟨Hf, Hg', Hrb⟩, ⟨Hs, Hrs⟩, HO⟩
  ihave Hfr := (frees d L) $$ [Hs Hf Hg']
  · isplitl [Hs]; · iexact Hs
    isplitl [Hf] <;> iassumption
  ihave Hst := (st_start m d L O W₀) $$ [Hfr Hg HO]
  · isplitl [Hfr]; · iexact Hfr
    isplitl [Hg] <;> iassumption
  ihave Hw := hb $$ [Hst]
  · isplitr
    · iapply ((K (F := F)).mayWaits_none (thr := thr d L) hO); iexact Hlv
    · iexact Hst
  iapply (wp_wand_r frame (wpE (defs₀ (F := F)) 𝒱₀ (thr d L) none) Set.univ)
  isplitl [Hw]; · iexact Hw
  iintro %_ Hst
  ihave Hst := (st_end m d L O W₀) $$ Hst
  icases Hst with ⟨Hfr, Hh, HO⟩
  ihave Hfr := (frees_back d L) $$ Hfr
  icases Hfr with ⟨Hs, Hf, Hg⟩
  isplitl [Hh]; · iexact Hh
  isplitl [Hf Hg Hrb]
  · isplitl [Hf]; · iexact Hf
    isplitl [Hg] <;> iassumption
  isplitl [Hs Hrs]
  · isplitl [Hs] <;> iassumption
  unfold OW
  iexact HO

end Cert.Flip

end
-- ==== Proof.Launch.lean ====
/-
  The launch: the arrays dealt to the thirty-two tasks and taken back, `@main` around the one call, and the run of the
  whole program, with what it leaves in memory.
-/
module

public import proofs.«01_k».proof.Proof.Tile

@[expose] public section

noncomputable section

namespace Cert.Flip

open Cert.KernelIdeal Cert.KernelIdeal.Facts₀ Cert.KernelIdeal.Facts
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem Idealize.ShloMosaic.Rounds

variable {F : FTy → Type} [FloatOps F] [Facts]

local notation "𝕄" => MT nD τ sig (HIx 1) (Elt F) ℕ UU ℕ

theorem sc_facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds in the resource algebra. -/
abbrev EH : Emb UH (MT nD τ sig (HIx 1) (Elt F) ℕ UU ℕ) := embL

theorem nCore_zero : (K (F := F)).nCore 0 = 2 := rfl
theorem nSub_zero : (K (F := F)).nSub 0 = 16 := rfl

variable (m : (ℓ : Loc nD τ sig) → Buf (Elt F) ℓ) (ρ : Dev nD → PrngReg)

instance gets_storable (d : Dev nD) (L : grid0.Coords) : BI.Storable (upEmb : UEmb _ 𝕄) (gets m d L) := by unfold gets src dst0; infer_instance
instance hands_storable (d : Dev nD) (L : grid0.Coords) : BI.Storable (upEmb : UEmb _ 𝕄) (hands m d L) := by unfold hands src dst0; infer_instance

/-- A SparseCore's share of the arrays: its sixteen tasks' blocks, before and after. -/
def coreGets (d : Dev nD) (c : Fin 2) : sProp 𝕄 := bigSep Finset.univ fun s : Fin 16 => gets m d (co c s)
def coreHands (d : Dev nD) (c : Fin 2) : sProp 𝕄 := bigSep Finset.univ fun s : Fin 16 => hands m d (co c s)

instance coreGets_storable (d : Dev nD) (c : Fin 2) : BI.Storable (upEmb : UEmb _ 𝕄) (coreGets m d c) := by unfold coreGets; infer_instance
instance coreHands_storable (d : Dev nD) (c : Fin 2) : BI.Storable (upEmb : UEmb _ 𝕄) (coreHands m d c) := by unfold coreHands; infer_instance

attribute [local irreducible] gets hands coreGets coreHands

/-- What the call is handed and hands back: every task's blocks. -/
def P : (K (F := F)).Pay (nD := nD) (Val := Elt F) (Name := ℕ) (U := UU) where
  st := fun q d c => match q with | 0 => coreGets m d (Fin.cast nCore_zero c)
  dn := fun q d c => match q with | 0 => coreHands m d (Fin.cast nCore_zero c)
  go := fun q d c i => match q with | 0 => gets m d (co (Fin.cast nCore_zero c) (Fin.cast nSub_zero i))
  td := fun q d c i => match q with | 0 => hands m d (co (Fin.cast nCore_zero c) (Fin.cast nSub_zero i))
  x := fun _ _ => iprop(emp)

instance P_storable : (P (F := F) m).IsStorable where
  st q d c := match q with | 0 => coreGets_storable m d _
  dn q d c := match q with | 0 => coreHands_storable m d _
  go q d c i := match q with | 0 => gets_storable m d _
  td q d c i := match q with | 0 => hands_storable m d _

/-! ## The tasks' obligation -/

theorem defs₀_vector (c : Fin τ.nSC) (s : Fin τ.nSub) :
    defs₀ (F := F) (.scVector c s) 0 () = SparseCore.onTile hcore0 hsub0 (fun c s => body (co c s)) ⟨⟩ c s := rfl

/-- A task's record of its waits, in the launch's words. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every task of the call meets its obligation. -/
theorem tileObl [∀ e, Nonempty (Elt F e)] (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (co ⟨_, hc.1⟩ ⟨_, hc.2⟩) O W hF hO).trans (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's share is its tasks' shares. -/
theorem vecSplit : (K (F := F)).VecSplit' (P m) 0 := by
  intro d c
  show coreGets m d (Fin.cast nCore_zero c) ⊢ |={Set.univ}=> iprop(
      (bigSep Finset.univ fun i : Fin ((K (F := F)).nSub 0) => gets m d (co (Fin.cast nCore_zero c) (Fin.cast nSub_zero i)))
      ∗ ((bigSep Finset.univ fun i : Fin ((K (F := F)).nSub 0) => hands m d (co (Fin.cast nCore_zero c) (Fin.cast nSub_zero i)))
          -∗ coreHands m d (Fin.cast nCore_zero c)))
  rw [bigSep_tasks (F := F) (fun i => gets m d (co (Fin.cast nCore_zero c) i)), bigSep_tasks (F := F) (fun i => hands m d (co (Fin.cast nCore_zero c) i))]
  unfold coreGets coreHands
  iintro H; imodintro
  isplitl [H]; · iexact H
  iintro H; iexact H

/-! ## The launch's resources -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## `@main` -/

/-- The three arguments as launched; the three results with the contents `M` gives them. -/
def args (d : Dev nD) : sProp 𝕄 := iprop((l0 d ↦{fullShare} m (l0 d)) ∗ (l1 d ↦{fullShare} m (l1 d)) ∗ (l2 d ↦{fullShare} m (l2 d)))
def results (M : (ℓ : Loc nD τ sig) → Buf (Elt F) ℓ) (d : Dev nD) : sProp 𝕄 :=
  iprop((o0 d ↦{fullShare} M (o0 d)) ∗ (o1 d ↦{fullShare} M (o1 d)) ∗ (o2 d ↦{fullShare} M (o2 d)))

/-- The TensorCore's unscoped buffers are the arguments and the results. -/
theorem unscoped_eq (d : Dev nD) : (unscopedBufs d (fun b => m ((d.tc : Thread nD τ).loc b)) : sProp 𝕄) = iprop(args m d ∗ results m d) := by
  unfold unscopedBufs
  rw [show (Finset.univ.filter fun b : Ref sig .tc => ¬ b.isScoped) = {main_arg0, main_arg1, main_arg2, main_v0_0, main_v0_1, main_v0_2} by decide,
    SparseCore.bigSep_insert' (by decide), SparseCore.bigSep_insert' (by decide), SparseCore.bigSep_insert' (by decide), SparseCore.bigSep_insert' (by decide),
    SparseCore.bigSep_insert' (by decide), bigSep_singleton]
  unfold args results
  refine Entails.antisymm (show (_ : sProp 𝕄) ⊢ _ from ?_) (show (_ : sProp 𝕄) ⊢ _ from ?_)
  · iintro ⟨H0, H1, H2, H3, H4, H5⟩
    isplitl [H0 H1 H2]
    · isplitl [H0]; · iexact H0
      isplitl [H1]; · iexact H1
      iexact H2
    · isplitl [H3]; · iexact H3
      isplitl [H4]; · iexact H4
      iexact H5
  · iintro ⟨⟨H0, H1, H2⟩, H3, H4, H5⟩
    isplitl [H0]; · iexact H0
    isplitl [H1]; · iexact H1
    isplitl [H2]; · iexact H2
    isplitl [H3]; · iexact H3
    isplitl [H4]; · iexact H4
    iexact H5

theorem st_eq (d : Dev nD) : (bigSep Finset.univ fun c : Fin ((K (F := F)).nCore 0) => (P m).st 0 d c) = iprop(args m d ∗ results m d) := by
  refine (bigSep_cores (F := F) fun c => coreGets m d c).trans ?_
  unfold coreGets gets args results
  rw [args_split, results_split, ← bigSep_sep']
  exact bigSep_congr fun c _ => bigSep_sep' _ _ _
theorem dn_eq (d : Dev nD) : (bigSep Finset.univ fun c : Fin ((K (F := F)).nCore 0) => (P m).dn 0 d c) = iprop(args m d ∗ results (fin m d) d) := by
  refine (bigSep_cores (F := F) fun c => coreHands m d c).trans ?_
  unfold coreHands hands args results
  rw [args_split, results_split, ← bigSep_sep']
  exact bigSep_congr fun c _ => bigSep_sep' _ _ _

/-- What device `d` keeps at the end: its arguments as launched and its results as the kernel leaves them. -/
def FIN (d : Dev nD) : sProp 𝕄 := iprop(args m d ∗ results (fin m d) d)

/-- `@main` on a device's TensorCore: the one call, from the arrays as launched to the arrays as the tasks leave them. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_eq]
  simp only [main, wp_bind, wp_pure]
  iintro ⟨#Hctx, Hst, ⟨Hb, Ha, Hts, -⟩, -⟩
  iapply ((K (F := F)).wp_run (D (F := F)) 𝒱 (EH := EH) (P := P m) κ d 0) $$ [Hst Ha Hb Hts]
  isplitr; · iexact Hctx
  isplitl [Hst]; · iexact Hst
  isplitl [Ha]
  · rw [st_eq]; iexact Ha
  iintro ⟨Hst, Hdn⟩
  ihave Hdn := (Entails.of_eq (dn_eq m d)) $$ Hdn
  imodintro
  isplitl [Hst]; · iexact Hst
  isplitl [Hdn]; · unfold FIN; iexact Hdn
  isplitl [Hb] <;> iassumption

/-! ## The end -/

/-- What the end of a run holds on device `d`. -/
def fq (d : Dev nD) (M : (ℓ : Loc nD τ sig) → Buf (Elt F) ℓ) : Prop :=
  (M (l0 d) = m (l0 d) ∧ M (l1 d) = m (l1 d) ∧ M (l2 d) = m (l2 d))
    ∧ M (o0 d) = flip4 (F := F) (m (l0 d)) ∧ M (o1 d) = flip5 (F := F) (m (l1 d)) (m (l2 d)) ∧ M (o2 d) = flip5 (F := F) (m (l2 d)) (m (l1 d))

/-- An array held whole is what memory has. -/
theorem agrees_mem {ℓ : Loc nD τ sig} (f : Buf (Elt F) ℓ) (s' : Phys nD τ sig (Elt F)) :
    iprop((ℓ ↦{fullShare} f) ∗ SI s') ⊢ (iprop(SI s' ∗ ⌜s'.mem.mem ℓ = f⌝) : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h1, HSI, -⟩
  isplitl [HSI]; · iexact HSI
  ipureintro; exact funext fun i => h1 i (Finset.mem_univ i)

theorem hfin (d : Dev nD) (s' : Phys nD τ sig (Elt F)) : iprop(FIN m d ∗ SI s') ⊢ (⌜fq m d s'.mem.mem⌝ : sProp 𝕄) := by
  unfold FIN args results
  iintro ⟨⟨⟨H0, H1, H2⟩, H3, H4, H5⟩, HSI⟩
  ihave H := (agrees_mem _ s') $$ [H0 HSI]
  · isplitl [H0] <;> iassumption
  icases H with ⟨HSI, %e0⟩
  ihave H := (agrees_mem _ s') $$ [H1 HSI]
  · isplitl [H1] <;> iassumption
  icases H with ⟨HSI, %e1⟩
  ihave H := (agrees_mem _ s') $$ [H2 HSI]
  · isplitl [H2] <;> iassumption
  icases H with ⟨HSI, %e2⟩
  ihave H := (agrees_mem _ s') $$ [H3 HSI]
  · isplitl [H3] <;> iassumption
  icases H with ⟨HSI, %e3⟩
  ihave H := (agrees_mem _ s') $$ [H4 HSI]
  · isplitl [H4] <;> iassumption
  icases H with ⟨HSI, %e4⟩
  ihave H := (agrees_mem _ s') $$ [H5 HSI]
  · isplitl [H5] <;> iassumption
  icases H with ⟨HSI, %e5⟩
  ipureintro
  exact ⟨⟨e0, e1, e2⟩, e3.trans (fin_o0 m d), e4.trans (fin_o1 m d), e5.trans (fin_o2 m d)⟩

/-- The end of a run: every device's arguments as launched, its results the flips, and every counter at zero. -/
def End : PUnit × MemSt nD τ sig (Elt F) → Prop := fun r => (∀ d : Dev nD, fq m d r.2.mem) ∧ r.2.sem = fun _ => 0

/-- The program runs, from any memory, to its end. -/
theorem run_main [∀ e, Nonempty (Elt F e)] : θ_run (Cert.KernelIdeal.defs (F := F)) (Cert.KernelIdeal.threads (F := F)) ⟨m, fun _ => 0, ρ⟩ (End m) :=
  SparseCore.Cfg.θ_run_sc_quiescent (K := K (F := F)) (D := D (F := F)) (𝒱 := 𝒱) (EH := EH) (P := P m) (A := ∅) sc_facts v₀
    (fun q hq => match q with | 0 => nomatch hq)
    (fun q _ => match q with | 0 => tileObl m sc_facts)
    (fun q _ => match q with | 0 => SparseCore.Cfg.VecSplit.of_plain (vecSplit m))
    m ρ main (fun _ => iprop(emp)) (FIN m) (u₀ (F := F)) (sep_elim_left.trans (hu₀ m)) (hmain m ρ) (fun d s' => fq m d s'.mem.mem) (hfin m) (End m) (fun _ h hz => ⟨h, hz⟩)

end Cert.Flip

end
-- ==== Proof.Lookup.lean ====
/-
  What the reference's array operations read: a table of indices looked up along the keypoints, the reversal, and the
  two overwritten slices.  One lemma an operation, each giving the result at an index.
-/
module

public import proofs.«01_k».proof.ReferenceIdeal
public import Idealize.ShloMosaic.Lib.Pipeline.Value
public import Idealize.ShloMosaic.Lib.ValueIdxCoords

@[expose] public section

noncomputable section

namespace Cert.Flip.Ref

open Cert.ReferenceIdeal Cert.ReferenceIdeal.Facts₀ Cert.ReferenceIdeal.Facts
open Idealize.ShloMosaic Idealize.ShloMosaic.ValueIdx

/-! ## Overwriting by a scatter -/

section Set

variable {ι κ α : Type} [DecidableEq ι]

/-- Writing values at places one after another leaves a place that none of them names as it was. -/
theorem foldl_miss (g : κ → ι) (u : κ → α) (i : ι) : ∀ (l : List κ) (r : ι → α), (∀ n ∈ l, g n ≠ i) →
    l.foldl (fun r n => fun i' => if i' = g n then u n else r i') r i = r i
  | [], _, _ => rfl
  | a :: l, r, h => (foldl_miss g u i l _ fun n hn => h n (List.mem_cons_of_mem _ hn)).trans
      (if_neg fun e => h a List.mem_cons_self e.symm)

/-- Writing values at distinct places one after another leaves each value at its place. -/
theorem foldl_hit (g : κ → ι) (hg : Function.Injective g) (u : κ → α) (n : κ) : ∀ (l : List κ) (r : ι → α), l.Nodup → n ∈ l →
    l.foldl (fun r n => fun i' => if i' = g n then u n else r i') r (g n) = u n
  | [], _, _, h => absurd h List.not_mem_nil
  | a :: l, r, hl, h => by
    obtain ⟨ha, hl⟩ := List.nodup_cons.1 hl
    rcases List.mem_cons.1 h with rfl | h
    · exact (foldl_miss g u (g n) l _ fun k hk e => ha (hg e ▸ hk)).trans (if_pos rfl)
    · exact foldl_hit g hg u n l _ hl h

end Set

section Scatter

variable {s si u : Shape} {α : Type} {w : ℕ} (d : ScatterDims s si u) (x : s.Idx → α) (idx : IVec si w) (upd : u.Idx → α)
  (g : u.Idx → s.Idx) (hr : ∀ j, d.resultIdx? j idx = some (g j))

include hr in
/-- A scatter that replaces, all its places inside: the values written one after another. -/
theorem scatter_eq : Host.scatter d (fun _ b => b) x idx upd
    = (List.finRange u.numel).foldl (fun r n => fun i' => if i' = g (u.rowMajor.symm n) then upd (u.rowMajor.symm n) else r i') x := by
  unfold Host.scatter
  congr 1
  funext r n
  rw [hr]

include hr in
/-- A scatter that replaces leaves a place it does not name. -/
theorem scatter_miss (i : s.Idx) (h : ∀ j, g j ≠ i) : Host.scatter d (fun _ b => b) x idx upd i = x i := by
  rw [scatter_eq d x idx upd g hr]
  exact foldl_miss (fun n => g (u.rowMajor.symm n)) (fun n => upd (u.rowMajor.symm n)) i _ _ fun n _ => h _

include hr in
/-- A scatter that replaces at distinct places puts each value at its place. -/
theorem scatter_hit (hg : Function.Injective g) (j : u.Idx) : Host.scatter d (fun _ b => b) x idx upd (g j) = upd j := by
  rw [scatter_eq d x idx upd g hr]
  have h := foldl_hit (fun n => g (u.rowMajor.symm n)) (hg.comp u.rowMajor.symm.injective) (fun n => upd (u.rowMajor.symm n))
    (u.rowMajor j) (List.finRange u.numel) x (List.nodup_finRange _) (List.mem_finRange _)
  simpa only [Equiv.symm_apply_apply] using h

end Scatter

/-! ## A conjunction over ones -/

/-- The conjunction of ones is one. -/
theorem all_one {s t u : Shape} {axes : List (Fin s.rank)} (x : s.Idx → BitVec 1) (v : u.Idx → BitVec 1) (h : s.ReducesTo axes t)
    (hu : 0 < u.numel) (hx : ∀ i, x i = 1#1) (hv : ∀ i, v i = 1#1) (j : t.Idx) : Host.reduce IntOp.andi x v h hu j = 1#1 := by
  unfold Host.reduce
  generalize List.filter _ _ = l
  rw [hv]
  induction l with
  | nil => rfl
  | cons a l ih => rw [List.foldl_cons, hx]; exact ih

variable [Facts]

/-! ## The two tables -/

/-- The table of keypoints, as the reference holds it. -/
def tab : S19.Idx → BitVec 32 := fun i => lit0 (S19.rowMajor i)
/-- The table of the keypoints that change places. -/
def tabR : S3.Idx → BitVec 32 := fun i => lit1 (S3.rowMajor i)

/-- The table with 19 added to its negative entries, as a column. -/
def col : IVec S19x1 32 :=
  broadcastInDim S19x1 ![0] bcast_S19_S19x1_0 (select (cmpi .slt tab (broadcastInDim S19 ![] bcast_S_S19 (constantI S_ 32 0#32)))
    (addi tab (broadcastInDim S19 ![] bcast_S_S19 (constantI S_ 32 19#32))) tab)
/-- The same of the table of those that change places. -/
def colR : IVec S3x1 32 :=
  broadcastInDim S3x1 ![0] bcast_S3_S3x1_0 (select (cmpi .slt tabR (broadcastInDim S3 ![] bcast_S_S3 (constantI S_ 32 0#32)))
    (addi tabR (broadcastInDim S3 ![] bcast_S_S3 (constantI S_ 32 19#32))) tabR)

theorem row19 (i : S19.Idx) : S19.rowMajor i = i 0 := Fin.ext (Shape.rowMajor_val_one i)
theorem row3 (i : S3.Idx) : S3.rowMajor i = i 0 := Fin.ext (Shape.rowMajor_val_one i)

/-- The column's entry at a keypoint. -/
theorem col_apply (i : S19x1.Idx) : col i = lit0 (i 0) := by
  have e : ∀ k : Fin 19, Scalar.select (IntOp.cmpi .slt (lit0 k) 0#32) (IntOp.addi (lit0 k) 19#32) (lit0 k) = lit0 k := by decide
  refine (broadcastInDim_apply _ _ _ i (ix1 (n := 19) (i 0)) ?_).trans ?_
  · intro a; fin_cases a; rfl
  · rw [select_apply]
    show Scalar.select (IntOp.cmpi .slt (lit0 _) 0#32) (IntOp.addi (lit0 _) 19#32) (lit0 _) = _
    rw [row19]; exact e _

/-- The entry of the column of those that change places. -/
theorem colR_apply (i : S3x1.Idx) : colR i = lit1 (i 0) := by
  have e : ∀ k : Fin 3, Scalar.select (IntOp.cmpi .slt (lit1 k) 0#32) (IntOp.addi (lit1 k) 19#32) (lit1 k) = lit1 k := by decide
  refine (broadcastInDim_apply _ _ _ i (ix1 (n := 3) (i 0)) ?_).trans ?_
  · intro a; fin_cases a; rfl
  · rw [select_apply]
    show Scalar.select (IntOp.cmpi .slt (lit1 _) 0#32) (IntOp.addi (lit1 _) 19#32) (lit1 _) = _
    rw [row3]; exact e _

/-- The check that the entries lie in the keypoints' range. -/
def ok : S19.Idx → BitVec 1 :=
  Host.reduce IntOp.andi (andi (cmpi .sge col (broadcastInDim S19x1 ![] bcast_S_S19x1 (constantI S_ 32 0#32)))
    (cmpi .sle col (broadcastInDim S19x1 ![0, 1] bcast_S1x1_S19x1_0_1 (broadcastInDim S1x1 ![1] bcast_S1_S1x1_1 (constantI S1 32 18#32)))))
    (constantI S_ 1 1#1) reducesTo_S19x1_S19_d1 h_S_
/-- The same of those that change places. -/
def okR : S3.Idx → BitVec 1 :=
  Host.reduce IntOp.andi (andi (cmpi .sge colR (broadcastInDim S3x1 ![] bcast_S_S3x1 (constantI S_ 32 0#32)))
    (cmpi .sle colR (broadcastInDim S3x1 ![0, 1] bcast_S1x1_S3x1_0_1 (broadcastInDim S1x1 ![1] bcast_S1_S1x1_1 (constantI S1 32 18#32)))))
    (constantI S_ 1 1#1) reducesTo_S3x1_S3_d1 h_S_

theorem ok_apply (j : S19.Idx) : ok j = 1#1 := by
  have e : ∀ k : Fin 19, IntOp.andi (IntOp.cmpi .sge (lit0 k) 0#32) (IntOp.cmpi .sle (lit0 k) 18#32) = 1#1 := by decide
  refine all_one _ _ _ _ (fun i => ?_) (fun _ => rfl) j
  show IntOp.andi (IntOp.cmpi .sge (col i) 0#32) (IntOp.cmpi .sle (col i) 18#32) = 1#1
  rw [col_apply]; exact e _

theorem okR_apply (j : S3.Idx) : okR j = 1#1 := by
  have e : ∀ k : Fin 3, IntOp.andi (IntOp.cmpi .sge (lit1 k) 0#32) (IntOp.cmpi .sle (lit1 k) 18#32) = 1#1 := by decide
  refine all_one _ _ _ _ (fun i => ?_) (fun _ => rfl) j
  show IntOp.andi (IntOp.cmpi .sge (colR i) 0#32) (IntOp.cmpi .sle (colR i) 18#32) = 1#1
  rw [colR_apply]; exact e _

/-! ## The lookups -/

variable {F : FTy → Type} [FloatOps F]

/-- Keypoint `j`'s entry of the table. -/
def fi (j : Fin 19) : Fin 19 := ⟨(lit0 j).toNat, (by decide : ∀ j : Fin 19, (lit0 j).toNat < 19) j⟩
/-- The `j`-th keypoint at which the vector fields change places. -/
def rk (j : Fin 3) : Fin 19 := ⟨(lit1 j).toNat, (by decide : ∀ j : Fin 3, (lit1 j).toNat < 19) j⟩

/-- The scalar field's keypoints looked up. -/
def take4 (x : FVec F S64x19x64x64 .f32) : FVec F S64x19x64x64 .f32 :=
  select (broadcastInDim S64x19x64x64 ![1] bcast_S19_S64x19x64x64_1 ok) (Host.gather gather_S64x19x64x64_S19x1_S64x19x64x64_023_1_n_n_1_1_6416464 x col)
    (broadcastInDim S64x19x64x64 ![] bcast_S_S64x19x64x64 (constant S_ .f32 0x7FC00000#32))
/-- A vector field's keypoints looked up. -/
def take5 (x : FVec F S64x19x2x64x64 .f32) : FVec F S64x19x2x64x64 .f32 :=
  select (broadcastInDim S64x19x2x64x64 ![1] bcast_S19_S64x19x2x64x64_1 ok) (Host.gather gather_S64x19x2x64x64_S19x1_S64x19x2x64x64_0234_1_n_n_1_1_64126464 x col)
    (broadcastInDim S64x19x2x64x64 ![] bcast_S_S64x19x2x64x64 (constant S_ .f32 0x7FC00000#32))
/-- A vector field's three keypoints that change places looked up. -/
def takeR (x : FVec F S64x19x2x64x64 .f32) : FVec F S64x3x2x64x64 .f32 :=
  select (broadcastInDim S64x3x2x64x64 ![1] bcast_S3_S64x3x2x64x64_1 okR) (Host.gather gather_S64x19x2x64x64_S3x1_S64x3x2x64x64_0234_1_n_n_1_1_64126464 x colR)
    (broadcastInDim S64x3x2x64x64 ![] bcast_S_S64x3x2x64x64 (constant S_ .f32 0x7FC00000#32))

theorem col_at (i : S19x1.Idx) (k : Fin 19) (h : i 0 = k) : col i = lit0 k := (col_apply i).trans (congrArg lit0 h)
theorem colR_at (i : S3x1.Idx) (k : Fin 3) (h : i 0 = k) : colR i = lit1 k := (colR_apply i).trans (congrArg lit1 h)
theorem fi_min (j : Fin 19) : min (lit0 j).toInt.toNat 18 = (fi j).val := (by decide : ∀ j : Fin 19, min (lit0 j).toInt.toNat 18 = (fi j).val) j
theorem rk_min (j : Fin 3) : min (lit1 j).toInt.toNat 18 = (rk j).val := (by decide : ∀ j : Fin 3, min (lit1 j).toInt.toNat 18 = (rk j).val) j

/-- An axis looked up, with no part from the result's own coordinates. -/
theorem looked {s si t : Shape} {w : ℕ} (d : GatherDims s si t) (j : t.Idx) (idx : IVec si w) (a : Fin s.rank) (ha : a ∈ d.startIndexMap)
    (k : ℕ) (hb : d.batchCoord j a = 0) (ho : d.offCoord j a = 0)
    (h : min (idx (d.siIdx j ⟨d.startIndexMap.idxOf a, List.idxOf_lt_length_iff.2 ha⟩)).toInt.toNat (s.size a - d.sliceSizes a) = k) :
    (d.operandIdx j idx a).val = k := by
  show d.start j idx a + d.batchCoord j a + d.offCoord j a = k
  rw [hb, ho, ← h]
  unfold GatherDims.start
  rw [dif_pos ha]
  rfl

attribute [local irreducible] col colR ok okR

theorem take4_apply (x : FVec F S64x19x64x64 .f32) (i : S64x19x64x64.Idx) :
    take4 x i = x (ix4 (n0 := 64) (n1 := 19) (n2 := 64) (n3 := 64) (i 0) (fi (i 1)) (i 2) (i 3)) := by
  unfold take4
  rw [select_apply]
  rw [show broadcastInDim S64x19x64x64 ![1] bcast_S19_S64x19x64x64_1 ok i = 1#1 from ok_apply _]
  show Host.gather _ x col i = _
  unfold Host.gather
  congr 1
  funext a
  refine Fin.ext ?_
  match a with
  | ⟨0, _⟩ => exact Nat.zero_add _
  | ⟨1, _⟩ =>
    exact looked _ i col 1 (List.mem_singleton.2 rfl) (fi (i 1)) rfl rfl
      ((congrArg (fun w : BitVec 32 => min w.toInt.toNat 18) (col_at _ (i 1) rfl)).trans (fi_min _))
  | ⟨2, _⟩ => exact Nat.zero_add _
  | ⟨3, _⟩ => exact Nat.zero_add _

theorem take5_apply (x : FVec F S64x19x2x64x64 .f32) (i : S64x19x2x64x64.Idx) :
    take5 x i = x (ix5 (n0 := 64) (n1 := 19) (n2 := 2) (n3 := 64) (n4 := 64) (i 0) (fi (i 1)) (i 2) (i 3) (i 4)) := by
  unfold take5
  rw [select_apply]
  rw [show broadcastInDim S64x19x2x64x64 ![1] bcast_S19_S64x19x2x64x64_1 ok i = 1#1 from ok_apply _]
  show Host.gather _ x col i = _
  unfold Host.gather
  congr 1
  funext a
  refine Fin.ext ?_
  match a with
  | ⟨0, _⟩ => exact Nat.zero_add _
  | ⟨1, _⟩ =>
    exact looked _ i col 1 (List.mem_singleton.2 rfl) (fi (i 1)) rfl rfl
      ((congrArg (fun w : BitVec 32 => min w.toInt.toNat 18) (col_at _ (i 1) rfl)).trans (fi_min _))
  | ⟨2, _⟩ => exact Nat.zero_add _
  | ⟨3, _⟩ => exact Nat.zero_add _
  | ⟨4, _⟩ => exact Nat.zero_add _

/-- Where the `j`-th element of the three keypoints lies in the field. -/
def at3 (j : S64x3x2x64x64.Idx) : S64x19x2x64x64.Idx :=
  ix5 (n0 := 64) (n1 := 19) (n2 := 2) (n3 := 64) (n4 := 64) (j 0) (rk (j 1)) (j 2) (j 3) (j 4)

theorem takeR_apply (x : FVec F S64x19x2x64x64 .f32) (j : S64x3x2x64x64.Idx) : takeR x j = x (at3 j) := by
  unfold takeR
  rw [select_apply]
  rw [show broadcastInDim S64x3x2x64x64 ![1] bcast_S3_S64x3x2x64x64_1 okR j = 1#1 from okR_apply _]
  show Host.gather _ x colR j = _
  unfold Host.gather
  congr 1
  funext a
  refine Fin.ext ?_
  match a with
  | ⟨0, _⟩ => exact Nat.zero_add _
  | ⟨1, _⟩ =>
    exact looked _ j colR 1 (List.mem_singleton.2 rfl) (rk (j 1)) rfl rfl
      ((congrArg (fun w : BitVec 32 => min w.toInt.toNat 18) (colR_at _ (j 1) rfl)).trans (rk_min _))
  | ⟨2, _⟩ => exact Nat.zero_add _
  | ⟨3, _⟩ => exact Nat.zero_add _
  | ⟨4, _⟩ => exact Nat.zero_add _

/-! ## The two overwritten slices -/

/-- Where element `j` of the first components lies in the field. -/
def at0 (j : S64x19x64x64.Idx) : S64x19x2x64x64.Idx :=
  ix5 (n0 := 64) (n1 := 19) (n2 := 2) (n3 := 64) (n4 := 64) (j 0) (j 1) 0 (j 2) (j 3)

/-- A vector field's first components replaced. -/
def put0 (x : FVec F S64x19x2x64x64 .f32) (u : FVec F S64x19x64x64 .f32) : FVec F S64x19x2x64x64 .f32 :=
  Host.scatter scatter_S64x19x2x64x64_S1_S64x19x64x64_0123_2_2_0 (fun _ b => b) x (broadcastInDim S1 ![] bcast_S_S1 (constantI S_ 32 0#32)) u
/-- A vector field's three keypoints replaced. -/
def putR (x : FVec F S64x19x2x64x64 .f32) (u : FVec F S64x3x2x64x64 .f32) : FVec F S64x19x2x64x64 .f32 :=
  Host.scatter scatter_S64x19x2x64x64_S3x1_S64x3x2x64x64_0234_1_1_1 (fun _ b => b) x colR u

/-- A place given axis by axis in whole numbers is where the update lands. -/
theorem lands {s si u : Shape} {w : ℕ} (d : ScatterDims s si u) (j : u.Idx) (idx : IVec si w) (k : s.Idx)
    (h : ∀ a, d.start j idx a + d.window j a = ((k a).val : ℤ)) : d.resultIdx? j idx = some k := by
  unfold ScatterDims.resultIdx?
  have hk : ∀ a, 0 ≤ d.start j idx a + d.window j a ∧ d.start j idx a + d.window j a < s.size a := fun a => by
    rw [h a]; exact ⟨Int.natCast_nonneg _, Int.ofNat_lt.2 (k a).isLt⟩
  rw [dif_pos hk]
  refine congrArg some (funext fun a => Fin.ext ?_)
  show (d.start j idx a + d.window j a).toNat = _
  rw [h a]; rfl

theorem lands0 (j : S64x19x64x64.Idx) :
    scatter_S64x19x2x64x64_S1_S64x19x64x64_0123_2_2_0.resultIdx? j (broadcastInDim S1 ![] bcast_S_S1 (constantI S_ 32 0#32)) = some (at0 j) := by
  refine lands _ _ _ _ fun a => ?_
  match a with
  | ⟨0, _⟩ => exact Int.zero_add _
  | ⟨1, _⟩ => exact Int.zero_add _
  | ⟨2, _⟩ => rfl
  | ⟨3, _⟩ => exact Int.zero_add _
  | ⟨4, _⟩ => exact Int.zero_add _

theorem rk_int (j : Fin 3) : (lit1 j).toInt + ((0 : ℕ) : ℤ) = ((rk j).val : ℤ) :=
  (by decide : ∀ j : Fin 3, (lit1 j).toInt + ((0 : ℕ) : ℤ) = ((rk j).val : ℤ)) j

theorem landsR (j : S64x3x2x64x64.Idx) :
    scatter_S64x19x2x64x64_S3x1_S64x3x2x64x64_0234_1_1_1.resultIdx? j colR = some (at3 j) := by
  refine lands _ _ _ _ fun a => ?_
  match a with
  | ⟨0, _⟩ => exact Int.zero_add _
  | ⟨1, _⟩ =>
    show (colR _).toInt + ((0 : ℕ) : ℤ) = ((rk (j 1)).val : ℤ)
    rw [colR_apply]; exact rk_int _
  | ⟨2, _⟩ => exact Int.zero_add _
  | ⟨3, _⟩ => exact Int.zero_add _
  | ⟨4, _⟩ => exact Int.zero_add _

theorem at0_inj : Function.Injective at0 := fun i j h => by
  funext a
  match a with
  | ⟨0, _⟩ => exact congrFun h 0
  | ⟨1, _⟩ => exact congrFun h 1
  | ⟨2, _⟩ => exact congrFun h 3
  | ⟨3, _⟩ => exact congrFun h 4

theorem rk_inj : Function.Injective rk := by decide

theorem at3_inj : Function.Injective at3 := fun i j h => by
  funext a
  match a with
  | ⟨0, _⟩ => exact congrFun h 0
  | ⟨1, _⟩ => exact rk_inj (congrFun h 1)
  | ⟨2, _⟩ => exact congrFun h 2
  | ⟨3, _⟩ => exact congrFun h 3
  | ⟨4, _⟩ => exact congrFun h 4

/-- A first component of the overwritten field is the new value. -/
theorem put0_hit (x : FVec F S64x19x2x64x64 .f32) (u : FVec F S64x19x64x64 .f32) (j : S64x19x64x64.Idx) : put0 x u (at0 j) = u j :=
  scatter_hit _ x _ u at0 lands0 at0_inj j
/-- Another component is the old one. -/
theorem put0_miss (x : FVec F S64x19x2x64x64 .f32) (u : FVec F S64x19x64x64 .f32) (i : S64x19x2x64x64.Idx) (h : (i 2).val ≠ 0) : put0 x u i = x i :=
  scatter_miss _ x _ u at0 lands0 i fun _ e => h (congrArg (fun k : S64x19x2x64x64.Idx => (k 2).val) e).symm
/-- One of the three keypoints of the overwritten field holds the new value. -/
theorem putR_hit (x : FVec F S64x19x2x64x64 .f32) (u : FVec F S64x3x2x64x64 .f32) (j : S64x3x2x64x64.Idx) : putR x u (at3 j) = u j :=
  scatter_hit _ x _ u at3 landsR at3_inj j
/-- Another keypoint holds the old one. -/
theorem putR_miss (x : FVec F S64x19x2x64x64 .f32) (u : FVec F S64x3x2x64x64 .f32) (i : S64x19x2x64x64.Idx) (h : ∀ k, rk k ≠ i 1) : putR x u i = x i :=
  scatter_miss _ x _ u at3 landsR i fun j e => h (j 1) (congrArg (fun k : S64x19x2x64x64.Idx => k 1) e)

end Cert.Flip.Ref

end
-- ==== Proof.Reference.lean ====
/-
  What the reference's three results are: the scalar field flipped, and the two vector fields flipped, their horizontal
  components negated and three keypoints of theirs exchanged; the functions that the kernel's results are.
-/
module

public import proofs.«01_k».proof.Proof.Lookup
public import proofs.«01_k».proof.Proof.Values
public import proofs.«01_k».proof.Proof.Gen.ReferenceIdeal.Run
public import Idealize.ShloMosaic.PureOps.Ideal

@[expose] public section

noncomputable section

namespace Cert.Flip.Ref

open Cert.ReferenceIdeal Cert.ReferenceIdeal.Facts₀ Cert.ReferenceIdeal.Facts
open Idealize.ShloMosaic Idealize.ShloMosaic.ValueIdx Idealize.SL.Sem

variable [Facts]

/-! ## The negation -/

/-- The constant that the reference multiplies by is minus one. -/
theorem minus_one : Ideal.ofBits .f32 0xBF800000#32 = (-1 : EReal) := by
  have h : Ideal.ofBits .f32 0xBF800000#32 = ((-(1 : ℝ)) : EReal) := by
    simp [Ideal.ofBits, Ideal.ieee, -EReal.coe_mul]; norm_num
  rw [h]; simp

/-- A product with that constant is what the kernel's subtraction from zero gives. -/
theorem neg_eq (w : Ideal .f32) : FloatOps.mulf (F := Ideal) (FloatOps.ofBits .f32 0xBF800000#32) w = Cert.Flip.sgnE (F := Ideal) true w := by
  have h0 : Ideal.ofBits .f32 0x00000000#32 = (0 : EReal) := by simp [Ideal.ofBits, Ideal.ieee]
  show (Ideal.ofBits .f32 0xBF800000#32 : EReal) * (w : EReal) = (Ideal.ofBits .f32 0x00000000#32 : EReal) - (w : EReal)
  rw [minus_one, h0, EReal.neg_mul, one_mul, zero_sub]

/-! ## One vector field -/

/-- A vector field flipped. -/
def turn (x : FVec Ideal S64x19x2x64x64 .f32) : FVec Ideal S64x19x2x64x64 .f32 := Host.reverse [4] (take5 x)

/-- The first components of a vector field, negated. -/
def first (x : FVec Ideal S64x19x2x64x64 .f32) : FVec Ideal S64x19x64x64 .f32 :=
  mulf (broadcastInDim S64x19x64x64 ![] bcast_S_S64x19x64x64 (constant S_ .f32 0xBF800000#32))
    (shapeCast _ (extractStridedSlice S64x19x1x64x64 ![0, 0, 0, 0, 0] x slices_S64x19x2x64x64_S64x19x1x64x64_0_0_0_0_0) shapeCasts_S64x19x1x64x64_S64x19x64x64)

/-- A vector field flipped, its first components negated. -/
def half (x : FVec Ideal S64x19x2x64x64 .f32) : FVec Ideal S64x19x2x64x64 .f32 := put0 (turn x) (first (turn x))

theorem fi_eq (k : Fin 19) : fi k = ⟨Cert.Flip.FI k.val, Cert.Flip.FI_lt _⟩ :=
  (by decide : ∀ k : Fin 19, fi k = ⟨Cert.Flip.FI k.val, Cert.Flip.FI_lt _⟩) k

theorem turn_apply (x : FVec Ideal S64x19x2x64x64 .f32) (i : S64x19x2x64x64.Idx) : turn x i = x (Cert.Flip.from5 i) := by
  unfold turn Host.reverse
  rw [take5_apply]
  refine congrArg x (funext fun a => ?_)
  match a with
  | ⟨0, _⟩ => rfl
  | ⟨1, _⟩ => exact fi_eq (i 1)
  | ⟨2, _⟩ => rfl
  | ⟨3, _⟩ => rfl
  | ⟨4, _⟩ => rfl

/-- The index in the slice of the first components. -/
def at1 (j : S64x19x64x64.Idx) : S64x19x1x64x64.Idx :=
  ix5 (n0 := 64) (n1 := 19) (n2 := 1) (n3 := 64) (n4 := 64) (j 0) (j 1) 0 (j 2) (j 3)

theorem first_apply (x : FVec Ideal S64x19x2x64x64 .f32) (j : S64x19x64x64.Idx) :
    first x j = Cert.Flip.sgnE (F := Ideal) true (x (at0 j)) := by
  have e : shapeCast S64x19x64x64 (extractStridedSlice S64x19x1x64x64 ![0, 0, 0, 0, 0] x slices_S64x19x2x64x64_S64x19x1x64x64_0_0_0_0_0)
      shapeCasts_S64x19x1x64x64_S64x19x64x64 j = x (at0 j) := by
    refine (shapeCast_apply _ _ j (at1 j) ?_).trans (extractStridedSlice_apply _ _ _ _ (at0 j) fun a => ?_)
    · refine (Shape.rowMajor_val_five _).trans (Eq.trans ?_ (Shape.rowMajor_val_four _).symm)
      show ((((j 0).val * 19 + (j 1).val) * 1 + 0) * 64 + (j 2).val) * 64 + (j 3).val
        = (((j 0).val * 19 + (j 1).val) * 64 + (j 2).val) * 64 + (j 3).val
      omega
    · match a with
      | ⟨0, _⟩ => exact (Nat.zero_add _).symm
      | ⟨1, _⟩ => exact (Nat.zero_add _).symm
      | ⟨2, _⟩ => rfl
      | ⟨3, _⟩ => exact (Nat.zero_add _).symm
      | ⟨4, _⟩ => exact (Nat.zero_add _).symm
  refine Eq.trans ?_ (neg_eq _)
  exact congrArg (FloatOps.mulf (F := Ideal) (FloatOps.ofBits .f32 0xBF800000#32)) e

/-- Each element of a field so flipped. -/
theorem half_apply (x : FVec Ideal S64x19x2x64x64 .f32) (i : S64x19x2x64x64.Idx) :
    half x i = Cert.Flip.sgnE (F := Ideal) (decide ((i 2).val = 0)) (x (Cert.Flip.from5 i)) := by
  by_cases h : (i 2).val = 0
  · have ei : i = at0 (ix4 (n0 := 64) (n1 := 19) (n2 := 64) (n3 := 64) (i 0) (i 1) (i 3) (i 4)) := by
      funext a
      match a with
      | ⟨0, _⟩ => rfl
      | ⟨1, _⟩ => rfl
      | ⟨2, _⟩ => exact Fin.ext h
      | ⟨3, _⟩ => rfl
      | ⟨4, _⟩ => rfl
    rw [decide_eq_true h, ← turn_apply x i]
    unfold half
    rw [ei, put0_hit, first_apply]
  · rw [decide_eq_false h, ← turn_apply x i]
    exact put0_miss _ _ i h

/-! ## The exchange -/

/-- A field with three keypoints of another. -/
def join (x y : FVec Ideal S64x19x2x64x64 .f32) : FVec Ideal S64x19x2x64x64 .f32 := putR x (takeR y)

theorem join_apply (x y : FVec Ideal S64x19x2x64x64 .f32) (i : S64x19x2x64x64.Idx) :
    join x y i = (bif Cert.Flip.isRev (i 1).val then y else x) i := by
  have hk : ∀ p : Fin 19, Cert.Flip.isRev p.val = true → ∃ k, rk k = p := by decide
  have hn : ∀ p : Fin 19, Cert.Flip.isRev p.val = false → ∀ k, rk k ≠ p := by decide
  unfold join
  cases h : Cert.Flip.isRev (i 1).val with
  | true =>
    obtain ⟨k, hk⟩ := hk (i 1) h
    have ei : i = at3 (ix5 (n0 := 64) (n1 := 3) (n2 := 2) (n3 := 64) (n4 := 64) (i 0) k (i 2) (i 3) (i 4)) := by
      funext a
      match a with
      | ⟨0, _⟩ => rfl
      | ⟨1, _⟩ => exact hk.symm
      | ⟨2, _⟩ => rfl
      | ⟨3, _⟩ => rfl
      | ⟨4, _⟩ => rfl
    show putR x (takeR y) i = y i
    rw [ei, putR_hit, takeR_apply]
  | false => exact putR_miss _ _ i (hn (i 1) h)

/-- A vector field's result in the reference is the flipped field of the kernel's results. -/
theorem join_half (x y : FVec Ideal S64x19x2x64x64 .f32) : join (half x) (half y) = Cert.Flip.flip5 (F := Ideal) x y := by
  have h : ∀ (b : Bool) (i : S64x19x2x64x64.Idx), (bif b then half y else half x) i
      = Cert.Flip.sgnE (F := Ideal) (decide ((i 2).val = 0)) ((bif b then y else x) (Cert.Flip.from5 i)) := by
    intro b i
    cases b with
    | false => rw [cond_false, cond_false]; exact half_apply x i
    | true => rw [cond_true, cond_true]; exact half_apply y i
  funext i
  exact (join_apply _ _ i).trans (h _ i)

/-- The scalar field's result in the reference is the flipped field of the kernel's result. -/
theorem turn4 (x : FVec Ideal S64x19x64x64 .f32) : Host.reverse [3] (take4 x) = Cert.Flip.flip4 (F := Ideal) x := by
  funext i
  unfold Host.reverse
  rw [take4_apply]
  refine congrArg x (funext fun a => ?_)
  match a with
  | ⟨0, _⟩ => rfl
  | ⟨1, _⟩ => exact fi_eq (i 1)
  | ⟨2, _⟩ => rfl
  | ⟨3, _⟩ => rfl

/-! ## The run -/

variable (m : (ℓ : Loc nD τ sig) → Buf (Elt Ideal) ℓ) (c : Dev nD)

theorem out1 : Value.res_out1 (F := Ideal) m c
    = Cert.Flip.flip5 (F := Ideal) (m ((c.tc : Thread nD τ).loc main_arg1)) (m ((c.tc : Thread nD τ).loc main_arg2)) := by
  refine Eq.trans ?_ (join_half _ _)
  unfold Value.res_out1 Value.res_main_v26
  rfl

theorem out2 : Value.res_out2 (F := Ideal) m c
    = Cert.Flip.flip5 (F := Ideal) (m ((c.tc : Thread nD τ).loc main_arg2)) (m ((c.tc : Thread nD τ).loc main_arg1)) := by
  refine Eq.trans ?_ (join_half _ _)
  unfold Value.res_out2 Value.res_main_v33
  rfl

/-- The reference ends with the three flipped fields in its results, its arguments unchanged and no counter raised. -/
theorem run_ref (ρ : Dev nD → PrngReg) :
    θ_run (defs (F := Ideal)) (onTc (τ := τ) (main (F := Ideal))) ⟨m, fun _ => 0, ρ⟩ fun r => (∀ c : Dev nD,
      r.2.mem ((c.tc : Thread nD τ).loc main_v1) = Cert.Flip.flip4 (F := Ideal) (m ((c.tc : Thread nD τ).loc main_arg0))
      ∧ r.2.mem ((c.tc : Thread nD τ).loc main_v26) = Cert.Flip.flip5 (F := Ideal) (m ((c.tc : Thread nD τ).loc main_arg1)) (m ((c.tc : Thread nD τ).loc main_arg2))
      ∧ r.2.mem ((c.tc : Thread nD τ).loc main_v33) = Cert.Flip.flip5 (F := Ideal) (m ((c.tc : Thread nD τ).loc main_arg2)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run (defs (F := Ideal)) _ _).mono (fun r h =>
    ⟨fun c => ⟨(h c).1.trans (turn4 _), (h c).2.1.trans (out1 m c), (h c).2.2.1.trans (out2 m c), (h c).2.2.2⟩,
      funext fun q => nomatch q.2⟩)
    (Value.run (F := Ideal) m ρ)

end Cert.Flip.Ref

end
-- ==== Proof.Claims.lean ====
/-
  The claims, each from the run of the program it speaks of.
-/
module

public import proofs.«01_k».proof.Defs
public import proofs.«01_k».proof.Proof.Launch
public import proofs.«01_k».proof.Proof.Reference
public import Idealize.ShloMosaic.PureOps.BitExact

@[expose] public section

noncomputable section

namespace Cert.Flip

open Idealize.ShloMosaic Idealize.SL.Sem

/-- The idealized kernel runs to the end, its arguments unchanged and no counter raised. -/
theorem frame_ideal [Cert.KernelIdeal.Facts] : Cert.quiescent_KernelIdeal := fun m g _ =>
  (θ_run (Cert.KernelIdeal.defs (F := Ideal)) _ _).mono (fun _ h => ⟨fun c => (h.1 c).1, h.2⟩) (run_main (F := Ideal) m g)

/-- The idealized reference runs to the end, its arguments unchanged and no counter raised. -/
theorem frame_reference [Cert.ReferenceIdeal.Facts] : Cert.quiescent_ReferenceIdeal := fun m g _ =>
  (θ_run (Cert.ReferenceIdeal.defs (F := Ideal)) _ _).mono (fun _ h => ⟨fun c => (h.1 c).2.2.2, h.2⟩) (Ref.run_ref m g)

/-- The kernel's stated side conditions are the idealized kernel's. -/
theorem facts_ideal (h : Cert.Kernel.Facts) : Cert.KernelIdeal.Facts := { __ := h }

set_option maxRecDepth 100000 in
/-- The kernel as printed, over machine words, runs to the end, its arguments unchanged and no counter raised. -/
theorem frame_kernel [h : Cert.Kernel.Facts] : Cert.quiescent_Kernel := fun m g _ =>
  letI := facts_ideal h
  (θ_run (Cert.KernelIdeal.defs (F := Bits)) _ _).mono (fun _ h => ⟨fun c => (h.1 c).1, h.2⟩) (run_main (F := Bits) m g)

/-- The idealized kernel and the idealized reference, started on equal fields, end with equal results. -/
theorem same_results [Cert.KernelIdeal.Facts] [Cert.ReferenceIdeal.Facts] : Cert.algebraic_KernelIdeal_ReferenceIdeal :=
  fun m g m' g' _ hm =>
    ⟨fun c => flip4 (F := Ideal) (m (l0 c)), fun c => flip5 (F := Ideal) (m (l1 c)) (m (l2 c)), fun c => flip5 (F := Ideal) (m (l2 c)) (m (l1 c)),
      (θ_run (Cert.KernelIdeal.defs (F := Ideal)) _ _).mono (fun _ h c => ⟨(h.1 c).2.1, (h.1 c).2.2.1, (h.1 c).2.2.2, (h.1 c).1⟩) (run_main (F := Ideal) m g),
      (θ_run (Cert.ReferenceIdeal.defs (F := Ideal)) _ _).mono (fun _ h c =>
        ⟨(h.1 c).1.trans (congrArg (flip4 (F := Ideal)) (hm c).1),
          (h.1 c).2.1.trans (congrArg₂ (flip5 (F := Ideal)) (hm c).2.1 (hm c).2.2),
          (h.1 c).2.2.1.trans (congrArg₂ (flip5 (F := Ideal)) (hm c).2.2 (hm c).2.1), (h.1 c).2.2.2⟩) (Ref.run_ref m' g')⟩

end Cert.Flip

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Flip.frame_kernel (h := Cert.Kernel.Gen.facts),
  Cert.Flip.frame_ideal, Cert.Flip.frame_reference, trivial, Cert.Flip.same_results⟩

end Cert.Proof

end
